-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)) (v6 : (c : Dev Cert.Kernel3Ideal.nD) → Buf (Elt Ideal) ((c.tc : Thread Cert.Kernel3Ideal.nD Cert.Kernel3Ideal.τ).loc Cert.Kernel3Ideal.main_v4_6)) (v7 : (c : Dev Cert.Kernel3Ideal.nD) → Buf (Elt Ideal) ((c.tc : Thread Cert.Kernel3Ideal.nD Cert.Kernel3Ideal.τ).loc Cert.Kernel3Ideal.main_v4_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_v4_6) = v6 c
          ∧ r.2.mem ((c.tc : Thread Cert.Kernel3Ideal.nD Cert.Kernel3Ideal.τ).loc Cert.Kernel3Ideal.main_v4_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v36) = v6 c
          ∧ r.2.mem ((c.tc : Thread Cert.Reference3Ideal.nD Cert.Reference3Ideal.τ).loc Cert.Reference3Ideal.main_v39) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)) (v5 : (c : Dev Cert.Kernel5Ideal.nD) → Buf (Elt Ideal) ((c.tc : Thread Cert.Kernel5Ideal.nD Cert.Kernel5Ideal.τ).loc Cert.Kernel5Ideal.main_v4_5)) (v6 : (c : Dev Cert.Kernel5Ideal.nD) → Buf (Elt Ideal) ((c.tc : Thread Cert.Kernel5Ideal.nD Cert.Kernel5Ideal.τ).loc Cert.Kernel5Ideal.main_v4_6)) (v7 : (c : Dev Cert.Kernel5Ideal.nD) → Buf (Elt Ideal) ((c.tc : Thread Cert.Kernel5Ideal.nD Cert.Kernel5Ideal.τ).loc Cert.Kernel5Ideal.main_v4_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_v4_5) = v5 c
          ∧ r.2.mem ((c.tc : Thread Cert.Kernel5Ideal.nD Cert.Kernel5Ideal.τ).loc Cert.Kernel5Ideal.main_v4_6) = v6 c
          ∧ r.2.mem ((c.tc : Thread Cert.Kernel5Ideal.nD Cert.Kernel5Ideal.τ).loc Cert.Kernel5Ideal.main_v4_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_v32) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v35) = v6 c
          ∧ r.2.mem ((c.tc : Thread Cert.Reference5Ideal.nD Cert.Reference5Ideal.τ).loc Cert.Reference5Ideal.main_v38) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v128) = v0 c
          ∧ r.2.mem ((c.tc : Thread Cert.Reference6Ideal.nD Cert.Reference6Ideal.τ).loc Cert.Reference6Ideal.main_v129) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v61) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite.lean ====
abbrev S4x8192x512 : Shape := ⟨3, ![4, 8192, 512]⟩
abbrev S1x64 : Shape := ⟨2, ![1, 64]⟩
abbrev S1x128 : Shape := ⟨2, ![1, 128]⟩
abbrev S_ : Shape := ⟨0, ![]⟩

class Facts : Prop where
  bcast_S_S4x8192x512 : S_.BroadcastsInDim S4x8192x512 (![] : Fin 0 → Fin S4x8192x512.rank)
  bcast_S_S1x64 : S_.BroadcastsInDim S1x64 (![] : Fin 0 → Fin S1x64.rank)

variable [Facts]

def fn_part1 {F : FTy → Type} [FloatOps F] (main_arg6 : FVec F S1x64 .f32) (main_v2 : IVec S4x8192x512 1) (main_v5 : IVec S4x8192x512 1) (main_v8 : IVec S4x8192x512 1) (main_v11 : IVec S1x64 1) (main_v14 : IVec S1x64 1) (main_v17 : IVec S1x64 1) : IVec S4x8192x512 1 × IVec S4x8192x512 1 × IVec S4x8192x512 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S4x8192x512 .f32) (main_arg1 : FVec F S4x8192x512 .f32) (main_arg2 : FVec F S4x8192x512 .f32) (main_arg3 : FVec F S1x64 .f32) (main_arg4 : FVec F S1x64 .f32) (main_arg5 : FVec F S1x64 .f32) (main_arg6 : FVec F S1x64 .f32) (main_arg7 : FVec F S1x128 .f32) : IVec S4x8192x512 1 × IVec S4x8192x512 1 × IVec S4x8192x512 1 × IVec S1x64 1 × IVec S1x64 1 × IVec S1x64 1 × IVec S1x64 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x8192x512 .f32 := Host.absf main_arg1
  let main_cst_0 : FVec F S_ .f32 := constant S_ .f32 0x7F800000#32
  let main_v4 : FVec F S4x8192x512 .f32 := broadcastInDim S4x8192x512 ![] bcast_S_S4x8192x512 main_cst_0
  let main_v5 : IVec S4x8192x512 1 := cmpf .olt main_v3 main_v4
  let main_v6 : FVec F S4x8192x512 .f32 := Host.absf main_arg2
  let main_cst_1 : FVec F S_ .f32 := constant S_ .f32 0x7F800000#32
  let main_v7 : FVec F S4x8192x512 .f32 := broadcastInDim S4x8192x512 ![] bcast_S_S4x8192x512 main_cst_1
  let main_v8 : IVec S4x8192x512 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Pre_finite6.lean ====
abbrev S128x1024 : Shape := ⟨2, ![128, 1024]⟩
abbrev S128x512 : Shape := ⟨2, ![128, 512]⟩
abbrev S128x128 : Shape := ⟨2, ![128, 128]⟩
abbrev S1x128x8x64x128 : Shape := ⟨5, ![1, 128, 8, 64, 128]⟩
abbrev S1x128x3x1024 : Shape := ⟨4, ![1, 128, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S_ : Shape := ⟨0, ![]⟩

class Facts : Prop where
  bcast_S_S128x1024 : S_.BroadcastsInDim S128x1024 (![] : Fin 0 → Fin S128x1024.rank)
  bcast_S_S128x128 : S_.BroadcastsInDim S128x128 (![] : Fin 0 → Fin S128x128.rank)
  bcast_S_S1x128x3x1024 : S_.BroadcastsInDim S1x128x3x1024 (![] : Fin 0 → Fin S1x128x3x1024.rank)
  bcast_S_S1x4x1024 : S_.BroadcastsInDim S1x4x1024 (![] : Fin 0 → Fin S1x4x1024.rank)
  bcast_S_S1x1024 : S_.BroadcastsInDim S1x1024 (![] : Fin 0 → Fin S1x1024.rank)
  bcast_S_S1x8 : S_.BroadcastsInDim S1x8 (![] : Fin 0 → Fin S1x8.rank)

variable [Facts]

def fn_part1 {F : FTy → Type} [FloatOps F] (main_arg8 : FVec F S1x8 .f32) (main_v2 : IVec S128x1024 1) (main_v5 : IVec S128x128 1) (main_v8 : IVec S1x128x3x1024 1) (main_v11 : IVec S1x4x1024 1) (main_v14 : IVec S1x1024 1) (main_v17 : IVec S1x8 1) : IVec S128x1024 1 × IVec S128x128 1 × IVec S1x128x3x1024 1 × IVec S1x4x1024 1 × IVec S1x1024 1 × IVec S1x8 1 × IVec S1x8 1 :=
  let main_v18 : FVec F S1x8 .f32 := Host.absf main_arg8
  let main_cst_5 : FVec F S_ .f32 := constant S_ .f32 0x7F800000#32
  let main_v19 : FVec F S1x8 .f32 := broadcastInDim S1x8 ![] bcast_S_S1x8 main_cst_5
  let main_v20 : IVec S1x8 1 := cmpf .olt main_v18 main_v19
  (main_v2, main_v5, main_v8, main_v11, main_v14, main_v17, main_v20)

def fn {F : FTy → Type} [FloatOps F] (main_arg0 : FVec F S128x1024 .f32) (main_arg1 : FVec F S128x512 .bf16) (main_arg2 : FVec F S128x128 .f32) (main_arg3 : FVec F S1x128x8x64x128 .f32) (main_arg4 : FVec F S1x128x3x1024 .f32) (main_arg5 : FVec F S1x4x1024 .f32) (main_arg6 : FVec F S1x1024 .f32) (main_arg7 : FVec F S1x8 .f32) (main_arg8 : FVec F S1x8 .f32) (main_arg9 : FVec F S1x8 .f32) (main_arg10 : FVec F S1x512 .f32) : IVec S128x1024 1 × IVec S128x128 1 × IVec S1x128x3x1024 1 × IVec S1x4x1024 1 × IVec S1x1024 1 × IVec S1x8 1 × IVec S1x8 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_v3 : FVec F S128x128 .f32 := Host.absf main_arg2
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S1x128x3x1024 .f32 := Host.absf main_arg4
  let main_cst_1 : FVec F S_ .f32 := constant S_ .f32 0x7F800000#32
  let main_v7 : FVec F S1x128x3x1024 .f32 := broadcastInDim S1x128x3x1024 ![] bcast_S_S1x128x3x1024 main_cst_1
  let main_v8 : IVec S1x128x3x1024 1 := cmpf .olt main_v6 main_v7
  let main_v9 : FVec F S1x4x1024 .f32 := Host.absf main_arg5
  let main_cst_2 : FVec F S_ .f32 := constant S_ .f32 0x7F800000#32
  let main_v10 : FVec F S1x4x1024 .f32 := broadcastInDim S1x4x1024 ![] bcast_S_S1x4x1024 main_cst_2
  let main_v11 : IVec S1x4x1024 1 := cmpf .olt main_v9 main_v10
  let main_v12 : FVec F S1x1024 .f32 := Host.absf main_arg6
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x8 .f32 := Host.absf main_arg7
  let main_cst_4 : FVec F S_ .f32 := constant S_ .f32 0x7F800000#32
  let main_v16 : FVec F S1x8 .f32 := broadcastInDim S1x8 ![] bcast_S_S1x8 main_cst_4
  let main_v17 : IVec S1x8 1 := cmpf .olt main_v15 main_v16
  fn_part1 (F := F) main_arg8 main_v2 main_v5 main_v8 main_v11 main_v14 main_v17
-- ==== Kernel.lean ====
abbrev S4x8192x512 : Shape := ⟨3, ![4, 8192, 512]⟩
abbrev S1x64 : Shape := ⟨2, ![1, 64]⟩
abbrev S1x128 : Shape := ⟨2, ![1, 128]⟩
abbrev S4x64 : Shape := ⟨2, ![4, 64]⟩
abbrev S32768x512 : Shape := ⟨2, ![32768, 512]⟩
abbrev S64x512x512 : Shape := ⟨3, ![64, 512, 512]⟩
abbrev S4x16x4x128x512 : Shape := ⟨5, ![4, 16, 4, 128, 512]⟩
abbrev S128x1 : Shape := ⟨2, ![128, 1]⟩
abbrev S1024x128 : Shape := ⟨2, ![1024, 128]⟩
abbrev S8192x128 : Shape := ⟨2, ![8192, 128]⟩
abbrev S1x16x1x128x512 : Shape := ⟨5, ![1, 16, 1, 128, 512]⟩
abbrev S1x1024 : Shape := ⟨2, ![1, 1024]⟩
abbrev S128x1024 : Shape := ⟨2, ![128, 1024]⟩
abbrev S1024x1024 : Shape := ⟨2, ![1024, 1024]⟩
abbrev S1x1x1x128x512 : Shape := ⟨5, ![1, 1, 1, 128, 512]⟩
abbrev S128x512 : Shape := ⟨2, ![128, 512]⟩
abbrev S1024 : Shape := ⟨1, ![1024]⟩
abbrev S1 : Shape := ⟨1, ![1]⟩
abbrev S1x1 : Shape := ⟨2, ![1, 1]⟩

abbrev nBuf : Space → Nat
  | .hbm => 19
  | .vmem => 10
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4x64, .f32⟩
  | .hbm, ⟨9, _⟩ => ⟨S32768x512, .f32⟩
  | .hbm, ⟨10, _⟩ => ⟨S32768x512, .f32⟩
  | .hbm, ⟨11, _⟩ => ⟨S32768x512, .bf16⟩
  | .hbm, ⟨12, _⟩ => ⟨S64x512x512, .f32⟩
  | .hbm, ⟨13, _⟩ => ⟨S64x512x512, .f32⟩
  | .hbm, ⟨14, _⟩ => ⟨S32768x512, .f32⟩
  | .hbm, ⟨15, _⟩ => ⟨S32768x512, .bf16⟩
  | .hbm, ⟨16, _⟩ => ⟨S4x16x4x128x512, .bf16⟩
  | .hbm, ⟨17, _⟩ => ⟨S128x1, .f32⟩
  | .hbm, ⟨18, _⟩ => ⟨S32768x512, .bf16⟩
  | .local _ .vmem, ⟨0, _⟩ => ⟨S4x64, .f32⟩
  | .local _ .vmem, ⟨1, _⟩ => ⟨S128x1, .f32⟩
  | .local _ .vmem, ⟨2, _⟩ => ⟨S1024x128, .f32⟩
  | .local _ .vmem, ⟨3, _⟩ => ⟨S1024x128, .f32⟩
  | .local _ .vmem, ⟨4, _⟩ => ⟨S8192x128, .bf16⟩
  | .local _ .vmem, ⟨5, _⟩ => ⟨S8192x128, .bf16⟩
  | .local _ .vmem, ⟨6, _⟩ => ⟨S1x16x1x128x512, .bf16⟩
  | .local _ .vmem, ⟨7, _⟩ => ⟨S1x16x1x128x512, .bf16⟩
  | .local _ .vmem, ⟨8, _⟩ => ⟨S1024x128, .bf16⟩
  | .local _ .vmem, ⟨9, _⟩ => ⟨S1024x128, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_12 : BitVec 32 := 1#32
  ⟨c0_i32_10, v37, c1_i32_12⟩
def k0_mult1 (i : grid0.Coords) (k0_t1 : Fin (k0_t1_loop i).trips) : BitVec 32 :=
  let c2_i32_58 : BitVec 32 := 2#32
  let c0_i32_10 : BitVec 32 := 0#32
  let c1_i32_12 : BitVec 32 := 1#32
  let arg9 : BitVec 32 := Scf.iv c0_i32_10 c1_i32_12 k0_t1
  let v156 : BitVec 32 := Scalar.muli c2_i32_58 arg9
  let c1024_i32_61 : BitVec 32 := 1024#32
  let v159 : BitVec 32 := Scalar.muli v156 c1024_i32_61
  v159
def k0_off1 (i : grid0.Coords) (k0_t1 : Fin (k0_t1_loop i).trips) : Fin 2 → Nat :=
  let c2_i32_58 : BitVec 32 := 2#32
  let c0_i32_10 : BitVec 32 := 0#32
  let c1_i32_12 : BitVec 32 := 1#32
  let arg9 : BitVec 32 := Scf.iv c0_i32_10 c1_i32_12 k0_t1
  let v156 : BitVec 32 := Scalar.muli c2_i32_58 arg9
  let c1024_i32_61 : BitVec 32 := 1024#32
  let v159 : BitVec 32 := Scalar.muli v156 c1024_i32_61
  let v160 : BitVec 32 := v159
  let v161 : Index := Scalar.indexCast v160
  let c0_62 : Index := 0#32
  ![v161.toNat, 0]
def k0_off2 (i : grid0.Coords) (k0_t1 : Fin (k0_t1_loop i).trips) (c0_i32_66 : BitVec 32) : Fin 5 → Nat :=
  let c0_67 : Index := 0#32
  let c2_i32_58 : BitVec 32 := 2#32
  let c0_i32_10 : BitVec 32 := 0#32
  let c1_i32_12 : BitVec 32 := 1#32
  let arg9 : BitVec 32 := Scf.iv c0_i32_10 c1_i32_12 k0_t1
  let v156 : BitVec 32 := Scalar.muli c2_i32_58 arg9
  let c2_i32_65 : BitVec 32 := 2#32
  let v166 : BitVec 32 := Scalar.muli v156 c2_i32_65
  let v167 : BitVec 32 := Scalar.addi v166 c0_i32_66
  let v168 : Index := Scalar.indexCast v167
  let c0_68 : Index := 0#32
  let c0_69 : Index := 0#32
  let c0_70 : Index := 0#32
  ![0, v168.toNat, 0, 0, 0]
def k0_mult2 (i : grid0.Coords) (k0_t1 : Fin (k0_t1_loop i).trips) : BitVec 32 :=
  let c2_i32_59 : BitVec 32 := 2#32
  let c0_i32_10 : BitVec 32 := 0#32
  let c1_i32_12 : BitVec 32 := 1#32
  let arg9 : BitVec 32 := Scf.iv c0_i32_10 c1_i32_12 k0_t1
  let v157 : BitVec 32 := Scalar.muli c2_i32_59 arg9
  let c1_i32_60 : BitVec 32 := 1#32
  let v158 : BitVec 32 := Scalar.addi v157 c1_i32_60
  let c1024_i32_83 : BitVec 32 := 1024#32
  let v211 : BitVec 32 := Scalar.muli v158 c1024_i32_83
  v211
def k0_off3 (i : grid0.Coords) (k0_t1 : Fin (k0_t1_loop i).trips) : Fin 2 → Nat :=
  let c2_i32_59 : BitVec 32 := 2#32
  let c0_i32_10 : BitVec 32 := 0#32
  let c1_i32_12 : BitVec 32 := 1#32
  let arg9 : BitVec 32 := Scf.iv c0_i32_10 c1_i32_12 k0_t1
  let v157 : BitVec 32 := Scalar.muli c2_i32_59 arg9
  let c1_i32_60 : BitVec 32 := 1#32
  let v158 : BitVec 32 := Scalar.addi v157 c1_i32_60
  let c1024_i32_83 : BitVec 32 := 1024#32
  let v211 : BitVec 32 := Scalar.muli v158 c1024_i32_83
  let v212 : BitVec 32 := v211
  let v213 : Index := Scalar.indexCast v212
  let c0_84 : Index := 0#32
  ![v213.toNat, 0]
def k0_off4 (i : grid0.Coords) (k0_t1 : Fin (k0_t1_loop i).trips) (c0_i32_88 : BitVec 32) : Fin 5 → Nat :=
  let c0_89 : Index := 0#32
  let c2_i32_59 : BitVec 32 := 2#32
  let c0_i32_10 : BitVec 32 := 0#32
  let c1_i32_12 : BitVec 32 := 1#32
  let arg9 : BitVec 32 := Scf.iv c0_i32_10 c1_i32_12 k0_t1
  let v157 : BitVec 32 := Scalar.muli c2_i32_59 arg9
  let c1_i32_60 : BitVec 32 := 1#32
  let v158 : BitVec 32 := Scalar.addi v157 c1_i32_60
  let c2_i32_87 : BitVec 32 := 2#32
  let v218 : BitVec 32 := Scalar.muli v158 c2_i32_87
  let v219 : BitVec 32 := Scalar.addi v218 c0_i32_88
  let v220 : Index := Scalar.indexCast v219
  let c0_90 : Index := 0#32
  let c0_91 : Index := 0#32
  let c0_92 : Index := 0#32
  ![0, v220.toNat, 0, 0, 0]
@[reducible] def k0_t2_loop (i : grid0.Coords) : Scf.Loop 32 :=
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let v34 : BitVec 32 := Scalar.addi c0_i32_10 v33
  let c1_i32_13 : BitVec 32 := 1#32
  ⟨v37, v34, c1_i32_13⟩
def k0_mult3 (i : grid0.Coords) (k0_t2 : Fin (k0_t2_loop i).trips) : BitVec 32 :=
  let c2_i32_58 : BitVec 32 := 2#32
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg9 : BitVec 32 := Scf.iv v37 c1_i32_13 k0_t2
  let v156 : BitVec 32 := Scalar.muli c2_i32_58 arg9
  let c1024_i32_61 : BitVec 32 := 1024#32
  let v159 : BitVec 32 := Scalar.muli v156 c1024_i32_61
  v159
def k0_off5 (i : grid0.Coords) (k0_t2 : Fin (k0_t2_loop i).trips) : Fin 2 → Nat :=
  let c2_i32_58 : BitVec 32 := 2#32
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg9 : BitVec 32 := Scf.iv v37 c1_i32_13 k0_t2
  let v156 : BitVec 32 := Scalar.muli c2_i32_58 arg9
  let c1024_i32_61 : BitVec 32 := 1024#32
  let v159 : BitVec 32 := Scalar.muli v156 c1024_i32_61
  let v160 : BitVec 32 := v159
  let v161 : Index := Scalar.indexCast v160
  let c0_62 : Index := 0#32
  ![v161.toNat, 0]
def k0_off6 (i : grid0.Coords) (k0_t2 : Fin (k0_t2_loop i).trips) (c0_i32_66 : BitVec 32) : Fin 5 → Nat :=
  let c0_67 : Index := 0#32
  let c2_i32_58 : BitVec 32 := 2#32
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg9 : BitVec 32 := Scf.iv v37 c1_i32_13 k0_t2
  let v156 : BitVec 32 := Scalar.muli c2_i32_58 arg9
  let c2_i32_65 : BitVec 32 := 2#32
  let v166 : BitVec 32 := Scalar.muli v156 c2_i32_65
  let v167 : BitVec 32 := Scalar.addi v166 c0_i32_66
  let v168 : Index := Scalar.indexCast v167
  let c0_68 : Index := 0#32
  let c0_69 : Index := 0#32
  let c0_70 : Index := 0#32
  ![0, v168.toNat, 0, 0, 0]
def k0_mult4 (i : grid0.Coords) (k0_t2 : Fin (k0_t2_loop i).trips) : BitVec 32 :=
  let c2_i32_59 : BitVec 32 := 2#32
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg9 : BitVec 32 := Scf.iv v37 c1_i32_13 k0_t2
  let v157 : BitVec 32 := Scalar.muli c2_i32_59 arg9
  let c1_i32_60 : BitVec 32 := 1#32
  let v158 : BitVec 32 := Scalar.addi v157 c1_i32_60
  let c1024_i32_83 : BitVec 32 := 1024#32
  let v211 : BitVec 32 := Scalar.muli v158 c1024_i32_83
  v211
def k0_off7 (i : grid0.Coords) (k0_t2 : Fin (k0_t2_loop i).trips) : Fin 2 → Nat :=
  let c2_i32_59 : BitVec 32 := 2#32
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg9 : BitVec 32 := Scf.iv v37 c1_i32_13 k0_t2
  let v157 : BitVec 32 := Scalar.muli c2_i32_59 arg9
  let c1_i32_60 : BitVec 32 := 1#32
  let v158 : BitVec 32 := Scalar.addi v157 c1_i32_60
  let c1024_i32_83 : BitVec 32 := 1024#32
  let v211 : BitVec 32 := Scalar.muli v158 c1024_i32_83
  let v212 : BitVec 32 := v211
  let v213 : Index := Scalar.indexCast v212
  let c0_84 : Index := 0#32
  ![v213.toNat, 0]
def k0_off8 (i : grid0.Coords) (k0_t2 : Fin (k0_t2_loop i).trips) (c0_i32_88 : BitVec 32) : Fin 5 → Nat :=
  let c0_89 : Index := 0#32
  let c2_i32_59 : BitVec 32 := 2#32
  let c0_i32_10 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_6 : BitVec 32 := 0#32
  let v19 : BitVec 1 := Scalar.cmpi .slt arg2 c0_i32_6
  let v20 : BitVec 32 := Scalar.extui v19
  let v21 : BitVec 32 := Scalar.subi v18 v20
  let c2_i32 : BitVec 32 := 2#32
  let c0_i32_7 : BitVec 32 := 0#32
  let v22 : BitVec 1 := Scalar.cmpi .sgt c2_i32 c0_i32_7
  let v23 : BitVec 32 := Scalar.extui v22
  let c0_i32_8 : BitVec 32 := 0#32
  let v24 : BitVec 1 := Scalar.cmpi .slt c2_i32 c0_i32_8
  let v25 : BitVec 32 := Scalar.extui v24
  let v26 : BitVec 32 := Scalar.subi v23 v25
  let v27 : BitVec 1 := Scalar.cmpi .ne v21 v26
  let v28 : BitVec 32 := Scalar.remsi arg2 c2_i32
  let c0_i32_9 : BitVec 32 := 0#32
  let v29 : BitVec 1 := Scalar.cmpi .ne v28 c0_i32_9
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg9 : BitVec 32 := Scf.iv v37 c1_i32_13 k0_t2
  let v157 : BitVec 32 := Scalar.muli c2_i32_59 arg9
  let c1_i32_60 : BitVec 32 := 1#32
  let v158 : BitVec 32 := Scalar.addi v157 c1_i32_60
  let c2_i32_87 : BitVec 32 := 2#32
  let v218 : BitVec 32 := Scalar.muli v158 c2_i32_87
  let v219 : BitVec 32 := Scalar.addi v218 c0_i32_88
  let v220 : Index := Scalar.indexCast v219
  let c0_90 : Index := 0#32
  let c0_91 : Index := 0#32
  let c0_92 : Index := 0#32
  ![0, v220.toNat, 0, 0, 0]
def k0_cond1 (i : grid0.Coords) : BitVec 1 :=
  let arg2 : BitVec 32 := BitVec.ofNat 32 (i 2).val
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c1_i32_20 : BitVec 32 := 1#32
  let v50 : BitVec 1 := Scalar.cmpi .eq v49 c1_i32_20
  let v51 : BitVec 32 := Scalar.extui v50
  let c0_i32_21 : BitVec 32 := 0#32
  let v52 : BitVec 1 := Scalar.cmpi .ne v51 c0_i32_21
  v52

def k0_mult5 (i : grid0.Coords) : BitVec 32 :=
  let arg2 : BitVec 32 := BitVec.ofNat 32 (i 2).val
  let c1_i32_58 : BitVec 32 := 1#32
  let v156 : BitVec 32 := Scalar.subi arg2 c1_i32_58
  let c1024_i32_59 : BitVec 32 := 1024#32
  let v157 : BitVec 32 := Scalar.muli v156 c1024_i32_59
  v157
def k0_off9 (i : grid0.Coords) : Fin 2 → Nat :=
  let arg2 : BitVec 32 := BitVec.ofNat 32 (i 2).val
  let c1_i32_58 : BitVec 32 := 1#32
  let v156 : BitVec 32 := Scalar.subi arg2 c1_i32_58
  let c1024_i32_59 : BitVec 32 := 1024#32
  let v157 : BitVec 32 := Scalar.muli v156 c1024_i32_59
  let v158 : BitVec 32 := v157
  let v159 : Index := Scalar.indexCast v158
  let c0_60 : Index := 0#32
  ![v159.toNat, 0]
def k0_off10 (i : grid0.Coords) (c0_i32_64 : BitVec 32) : Fin 5 → Nat :=
  let c0_65 : Index := 0#32
  let arg2 : BitVec 32 := BitVec.ofNat 32 (i 2).val
  let c1_i32_58 : BitVec 32 := 1#32
  let v156 : BitVec 32 := Scalar.subi arg2 c1_i32_58
  let c2_i32_63 : BitVec 32 := 2#32
  let v164 : BitVec 32 := Scalar.muli v156 c2_i32_63
  let v165 : BitVec 32 := Scalar.addi v164 c0_i32_64
  let v166 : Index := Scalar.indexCast v165
  let c0_66 : Index := 0#32
  let c0_67 : Index := 0#32
  let c0_68 : Index := 0#32
  ![0, v166.toNat, 0, 0, 0]
def k0_mult6 (i : grid0.Coords) : BitVec 32 :=
  let arg2 : BitVec 32 := BitVec.ofNat 32 (i 2).val
  let c1024_i32 : BitVec 32 := 1024#32
  let v54 : BitVec 32 := Scalar.muli arg2 c1024_i32
  v54
def k0_off11 (i : grid0.Coords) : Fin 2 → Nat :=
  let arg2 : BitVec 32 := BitVec.ofNat 32 (i 2).val
  let c1024_i32 : BitVec 32 := 1024#32
  let v54 : BitVec 32 := Scalar.muli arg2 c1024_i32
  let v55 : BitVec 32 := v54
  let v56 : Index := Scalar.indexCast v55
  let c0_22 : Index := 0#32
  ![v56.toNat, 0]
def k0_off12 (i : grid0.Coords) (c0_i32_28 : BitVec 32) : Fin 5 → Nat :=
  let c0_29 : Index := 0#32
  let arg2 : BitVec 32 := BitVec.ofNat 32 (i 2).val
  let c2_i32_27 : BitVec 32 := 2#32
  let v68 : BitVec 32 := Scalar.muli arg2 c2_i32_27
  let v69 : BitVec 32 := Scalar.addi v68 c0_i32_28
  let v70 : Index := Scalar.indexCast v69
  let c0_30 : Index := 0#32
  let c0_31 : Index := 0#32
  let c0_32 : Index := 0#32
  ![0, v70.toNat, 0, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S4x8192x512 : Shape := ⟨3, ![4, 8192, 512]⟩
abbrev S1x64 : Shape := ⟨2, ![1, 64]⟩
abbrev S1x128 : Shape := ⟨2, ![1, 128]⟩
abbrev S4x8192x4x2x64 : Shape := ⟨5, ![4, 8192, 4, 2, 64]⟩
abbrev S4x8192x4x128 : Shape := ⟨4, ![4, 8192, 4, 128]⟩
abbrev S64 : Shape := ⟨1, ![64]⟩
abbrev S_ : Shape := ⟨0, ![]⟩
abbrev S4x4x2x8192x8192 : Shape := ⟨5, ![4, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S128 : Shape := ⟨1, ![128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4x8192x4x2x64, .f32⟩
  | .hbm, ⟨9, _⟩ => ⟨S4x8192x4x2x64, .f32⟩
  | .hbm, ⟨10, _⟩ => ⟨S4x8192x4x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x4x2x8192x8192, .f32⟩
  | .hbm, ⟨27, _⟩ => ⟨S_, .f32⟩
  | .hbm, ⟨28, _⟩ => ⟨S4x4x2x8192x8192, .f32⟩
  | .hbm, ⟨29, _⟩ => ⟨S4x4x2x8192x8192, .f32⟩
  | .hbm, ⟨30, _⟩ => ⟨S8192, .i32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S4x4x2x8192x8192, .i1⟩
  | .hbm, ⟨39, _⟩ => ⟨S4x4x2x8192x8192, .f32⟩
  | .hbm, ⟨40, _⟩ => ⟨S4x4x2x8192x8192, .f32⟩
  | .hbm, ⟨41, _⟩ => ⟨S_, .f32⟩
  | .hbm, ⟨42, _⟩ => ⟨S4x4x2x8192, .f32⟩
  | .hbm, ⟨43, _⟩ => ⟨S_, .f32⟩
  | .hbm, ⟨44, _⟩ => ⟨S4x4x2x8192, .f32⟩
  | .hbm, ⟨45, _⟩ => ⟨S4x4x2x8192, .f32⟩
  | .hbm, ⟨46, _⟩ => ⟨S4x4x2x8192x1, .f32⟩
  | .hbm, ⟨47, _⟩ => ⟨S4x4x2x8192x8192, .f32⟩
  | .hbm, ⟨48, _⟩ => ⟨S4x4x2x8192x8192, .f32⟩
  | .hbm, ⟨49, _⟩ => ⟨S4x4x2x8192x8192, .f32⟩
  | .hbm, ⟨50, _⟩ => ⟨S_, .f32⟩
  | .hbm, ⟨51, _⟩ => ⟨S4x4x2x8192, .f32⟩
  | .hbm, ⟨52, _⟩ => ⟨S4x4x2x8192x1, .f32⟩
  | .hbm, ⟨53, _⟩ => ⟨S4x4x2x8192x8192, .f32⟩
  | .hbm, ⟨54, _⟩ => ⟨S4x4x2x8192x8192, .f32⟩
  | .hbm, ⟨55, _⟩ => ⟨S4x4x1x8192x8192, .f32⟩
  | .hbm, ⟨56, _⟩ => ⟨S4x4x8192x8192, .f32⟩
  | .hbm, ⟨57, _⟩ => ⟨S4x4x1x8192x8192, .f32⟩
  | .hbm, ⟨58, _⟩ => ⟨S4x4x8192x8192, .f32⟩
  | .hbm, ⟨59, _⟩ => ⟨S4x4x8192x8192, .f32⟩
  | .hbm, ⟨60, _⟩ => ⟨S4x4x8192x8192, .f32⟩
  | .hbm, ⟨61, _⟩ => ⟨S4x4x8192x8192, .f32⟩
  | .hbm, ⟨62, _⟩ => ⟨S4x4x128x8192, .f32⟩
  | .hbm, ⟨63, _⟩ => ⟨S4x8192x4x128, .f32⟩
  | .hbm, ⟨64, _⟩ => ⟨S128, .f32⟩
  | .hbm, ⟨65, _⟩ => ⟨S4x8192x4x128, .f32⟩
  | .hbm, ⟨66, _⟩ => ⟨S_, .f32⟩
  | .hbm, ⟨67, _⟩ => ⟨S4x8192x4, .f32⟩
  | .hbm, ⟨68, _⟩ => ⟨S4x8192x4x1, .f32⟩
  | .hbm, ⟨69, _⟩ => ⟨S_, .f32⟩
  | .hbm, ⟨70, _⟩ => ⟨S4x8192x4x1, .f32⟩
  | .hbm, ⟨71, _⟩ => ⟨S4x8192x4x1, .f32⟩
  | .hbm, ⟨72, _⟩ => ⟨S_, .f32⟩
  | .hbm, ⟨73, _⟩ => ⟨S4x8192x4x1, .f32⟩
  | .hbm, ⟨74, _⟩ => ⟨S4x8192x4x1, .f32⟩
  | .hbm, ⟨75, _⟩ => ⟨S4x8192x4x1, .f32⟩
  | .hbm, ⟨76, _⟩ => ⟨S4x8192x4x128, .f32⟩
  | .hbm, ⟨77, _⟩ => ⟨S4x8192x4x128, .f32⟩
  | .hbm, ⟨78, _⟩ => ⟨S1x1x1x128, .f32⟩
  | .hbm, ⟨79, _⟩ => ⟨S4x8192x4x128, .f32⟩
  | .hbm, ⟨80, _⟩ => ⟨S4x8192x4x128, .f32⟩
  | .hbm, ⟨81, _⟩ => ⟨S_, .f32⟩
  | .hbm, ⟨82, _⟩ => ⟨S4x8192x4x128, .f32⟩
  | .hbm, ⟨83, _⟩ => ⟨S4x8192x4x128, .f32⟩
  | .hbm, ⟨84, _⟩ => ⟨S32768x512, .f32⟩
  | .hbm, ⟨85, _⟩ => ⟨S32768x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel2.lean ====
abbrev S4x8192x1024 : Shape := ⟨3, ![4, 8192, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S2816x1024 : Shape := ⟨2, ![2816, 1024]⟩
abbrev S32768x1024 : Shape := ⟨2, ![32768, 1024]⟩
abbrev S4x8x5632 : Shape := ⟨3, ![4, 8, 5632]⟩
abbrev S512x1024 : Shape := ⟨2, ![512, 1024]⟩
abbrev S512x512 : Shape := ⟨2, ![512, 512]⟩
abbrev S1x8x5632 : Shape := ⟨3, ![1, 8, 5632]⟩
abbrev S520x2816 : Shape := ⟨2, ![520, 2816]⟩
abbrev S8x5632 : Shape := ⟨2, ![8, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x8x2816 : Shape := ⟨3, ![1, 8, 2816]⟩
abbrev S8x2816 : Shape := ⟨2, ![8, 2816]⟩
abbrev S1x2816 : Shape := ⟨2, ![1, 2816]⟩

abbrev nBuf : Space → Nat
  | .hbm => 21
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x5632, .f32⟩
  | .hbm, ⟨8, _⟩ => ⟨S1x2816x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024x5632, .f32⟩
  | .hbm, ⟨13, _⟩ => ⟨S1024x5632, .bf16⟩
  | .hbm, ⟨14, _⟩ => ⟨S3x5632, .f32⟩
  | .hbm, ⟨15, _⟩ => ⟨S2816x1024, .f32⟩
  | .hbm, ⟨16, _⟩ => ⟨S2816x1024, .bf16⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S4x8x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x8x5632, .f32⟩
  | .local _ .vmem, ⟨16, _⟩ => ⟨S1x8x5632, .f32⟩
  | .local _ .vmem, ⟨17, _⟩ => ⟨S520x2816, .f32⟩
  | .local _ .vmem, ⟨18, _⟩ => ⟨S520x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S4x8192x1024 : Shape := ⟨3, ![4, 8192, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S4x8192x512 : Shape := ⟨3, ![4, 8192, 512]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S4x8192x5632 : Shape := ⟨3, ![4, 8192, 5632]⟩
abbrev S4x2x5632 : Shape := ⟨3, ![4, 2, 5632]⟩
abbrev S4x8194x5632 : Shape := ⟨3, ![4, 8194, 5632]⟩
abbrev S3x5632 : Shape := ⟨2, ![3, 5632]⟩
abbrev S5632 : Shape := ⟨1, ![5632]⟩
abbrev S1x1x5632 : Shape := ⟨3, ![1, 1, 5632]⟩
abbrev S4x8192x2816 : Shape := ⟨3, ![4, 8192, 2816]⟩
abbrev S2816x1024 : Shape := ⟨2, ![2816, 1024]⟩
abbrev S32768x1024 : Shape := ⟨2, ![32768, 1024]⟩
abbrev S4x8x5632 : Shape := ⟨3, ![4, 8, 5632]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x5632, .f32⟩
  | .hbm, ⟨8, _⟩ => ⟨S1x2816x1024, .f32⟩
  | .hbm, ⟨9, _⟩ => ⟨S1024, .f32⟩
  | .hbm, ⟨10, _⟩ => ⟨S32768x512, .f32⟩
  | .hbm, ⟨11, _⟩ => ⟨S4x8192x512, .f32⟩
  | .hbm, ⟨12, _⟩ => ⟨S32768x512, .f32⟩
  | .hbm, ⟨13, _⟩ => ⟨S4x8192x512, .f32⟩
  | .hbm, ⟨14, _⟩ => ⟨S4x8192x1024, .f32⟩
  | .hbm, ⟨15, _⟩ => ⟨S1024x1024, .f32⟩
  | .hbm, ⟨16, _⟩ => ⟨S4x8192x1024, .f32⟩
  | .hbm, ⟨17, _⟩ => ⟨S4x8192x1024, .f32⟩
  | .hbm, ⟨18, _⟩ => ⟨S1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S1024x5632, .f32⟩
  | .hbm, ⟨36, _⟩ => ⟨S4x8192x5632, .f32⟩
  | .hbm, ⟨37, _⟩ => ⟨S_, .f32⟩
  | .hbm, ⟨38, _⟩ => ⟨S4x2x5632, .f32⟩
  | .hbm, ⟨39, _⟩ => ⟨S4x8194x5632, .f32⟩
  | .hbm, ⟨40, _⟩ => ⟨S3x5632, .f32⟩
  | .hbm, ⟨41, _⟩ => ⟨S5632, .f32⟩
  | .hbm, ⟨42, _⟩ => ⟨S1x5632, .f32⟩
  | .hbm, ⟨43, _⟩ => ⟨S5632, .f32⟩
  | .hbm, ⟨44, _⟩ => ⟨S4x8192x5632, .f32⟩
  | .hbm, ⟨45, _⟩ => ⟨S1x1x5632, .f32⟩
  | .hbm, ⟨46, _⟩ => ⟨S4x8192x5632, .f32⟩
  | .hbm, ⟨47, _⟩ => ⟨S4x8192x5632, .f32⟩
  | .hbm, ⟨48, _⟩ => ⟨S1x1x5632, .f32⟩
  | .hbm, ⟨49, _⟩ => ⟨S4x8192x5632, .f32⟩
  | .hbm, ⟨50, _⟩ => ⟨S4x8192x5632, .f32⟩
  | .hbm, ⟨51, _⟩ => ⟨S1x5632, .f32⟩
  | .hbm, ⟨52, _⟩ => ⟨S5632, .f32⟩
  | .hbm, ⟨53, _⟩ => ⟨S4x8192x5632, .f32⟩
  | .hbm, ⟨54, _⟩ => ⟨S1x1x5632, .f32⟩
  | .hbm, ⟨55, _⟩ => ⟨S4x8192x5632, .f32⟩
  | .hbm, ⟨56, _⟩ => ⟨S4x8192x5632, .f32⟩
  | .hbm, ⟨57, _⟩ => ⟨S4x8192x5632, .f32⟩
  | .hbm, ⟨58, _⟩ => ⟨S1x5632, .f32⟩
  | .hbm, ⟨59, _⟩ => ⟨S5632, .f32⟩
  | .hbm, ⟨60, _⟩ => ⟨S4x8192x5632, .f32⟩
  | .hbm, ⟨61, _⟩ => ⟨S1x1x5632, .f32⟩
  | .hbm, ⟨62, _⟩ => ⟨S4x8192x5632, .f32⟩
  | .hbm, ⟨63, _⟩ => ⟨S4x8192x5632, .f32⟩
  | .hbm, ⟨64, _⟩ => ⟨S4x8192x5632, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S_, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S4x8192x2816, .f32⟩
  | .hbm, ⟨76, _⟩ => ⟨S4x8192x2816, .f32⟩
  | .hbm, ⟨77, _⟩ => ⟨S2816x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S_, .f32⟩
  | .hbm, ⟨82, _⟩ => ⟨S4x8192, .f32⟩
  | .hbm, ⟨83, _⟩ => ⟨S4x8192x1, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S4x8192x1, .f32⟩
  | .hbm, ⟨91, _⟩ => ⟨S4x8192x1024, .f32⟩
  | .hbm, ⟨92, _⟩ => ⟨S4x8192x1024, .f32⟩
  | .hbm, ⟨93, _⟩ => ⟨S1x1x1024, .f32⟩
  | .hbm, ⟨94, _⟩ => ⟨S4x8192x1024, .f32⟩
  | .hbm, ⟨95, _⟩ => ⟨S4x8192x1024, .f32⟩
  | .hbm, ⟨96, _⟩ => ⟨S32768x1024, .f32⟩
  | .hbm, ⟨97, _⟩ => ⟨S4x8x5632, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_3 : Ref sig .tc := ⟨.hbm, 81, rfl⟩
abbrev main_v59 : Ref sig .tc := ⟨.hbm, 82, rfl⟩
abbrev main_v60 : Ref sig .tc := ⟨.hbm, 83, rfl⟩
abbrev main_cst_4 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024 : Shape := ⟨2, ![1, 1024]⟩
abbrev S1x1024x3080 : Shape := ⟨3, ![1, 1024, 3080]⟩
abbrev S1024x3080 : Shape := ⟨2, ![1024, 3080]⟩
abbrev S_ : Shape := ⟨0, ![]⟩
abbrev S1024x3200 : Shape := ⟨2, ![1024, 3200]⟩
abbrev S32768x1024 : Shape := ⟨2, ![32768, 1024]⟩
abbrev S32768x512 : Shape := ⟨2, ![32768, 512]⟩
abbrev S131072x128 : Shape := ⟨2, ![131072, 128]⟩
abbrev S32768x128 : Shape := ⟨2, ![32768, 128]⟩
abbrev S512x1024 : Shape := ⟨2, ![512, 1024]⟩
abbrev S512x512 : Shape := ⟨2, ![512, 512]⟩
abbrev S2048x128 : Shape := ⟨2, ![2048, 128]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S128x512 : Shape := ⟨2, ![128, 512]⟩
abbrev S1024x1024 : Shape := ⟨2, ![1024, 1024]⟩
abbrev S1024x128 : Shape := ⟨2, ![1024, 128]⟩

abbrev nBuf : Space → Nat
  | .hbm => 17
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3080, .f32⟩
  | .hbm, ⟨3, _⟩ => ⟨S1024x3080, .f32⟩
  | .hbm, ⟨4, _⟩ => ⟨S_, .i32⟩
  | .hbm, ⟨5, _⟩ => ⟨S_, .f32⟩
  | .hbm, ⟨6, _⟩ => ⟨S1024x3200, .f32⟩
  | .hbm, ⟨7, _⟩ => ⟨S1024x3200, .bf16⟩
  | .hbm, ⟨8, _⟩ => ⟨S32768x1024, .f32⟩
  | .hbm, ⟨9, _⟩ => ⟨S32768x512, .bf16⟩
  | .hbm, ⟨10, _⟩ => ⟨S131072x128, .f32⟩
  | .hbm, ⟨11, _⟩ => ⟨S131072x128, .f32⟩
  | .hbm, ⟨12, _⟩ => ⟨S32768x512, .bf16⟩
  | .hbm, ⟨13, _⟩ => ⟨S32768x512, .bf16⟩
  | .hbm, ⟨14, _⟩ => ⟨S32768x512, .bf16⟩
  | .hbm, ⟨15, _⟩ => ⟨S32768x1024, .f32⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x512, .bf16⟩
  | .local _ .vmem, ⟨5, _⟩ => ⟨S512x512, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S512x128, .f32⟩
  | .local _ .vmem, ⟨19, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v4_6 : Ref sig .tc := ⟨.hbm, 15, rfl⟩
abbrev main_v4_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x8192x1024 : Shape := ⟨3, ![4, 8192, 1024]⟩
abbrev S1x1024 : Shape := ⟨2, ![1, 1024]⟩
abbrev S1x1024x3080 : Shape := ⟨3, ![1, 1024, 3080]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x3080 : Shape := ⟨2, ![1024, 3080]⟩
abbrev S4x8192x3080 : Shape := ⟨3, ![4, 8192, 3080]⟩
abbrev S4x8192x512 : Shape := ⟨3, ![4, 8192, 512]⟩
abbrev S4x8192x8 : Shape := ⟨3, ![4, 8192, 8]⟩
abbrev S64x512x512 : Shape := ⟨3, ![64, 512, 512]⟩
abbrev S32768x512 : Shape := ⟨2, ![32768, 512]⟩
abbrev S131072x128 : Shape := ⟨2, ![131072, 128]⟩
abbrev S32768x1024 : Shape := ⟨2, ![32768, 1024]⟩
abbrev S32768x8 : Shape := ⟨2, ![32768, 8]⟩
abbrev S32768x120 : Shape := ⟨2, ![32768, 120]⟩
abbrev S32768x128 : Shape := ⟨2, ![32768, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3080, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x3080, .f32⟩
  | .hbm, ⟨21, _⟩ => ⟨S4x8192x3080, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x1024, .f32⟩
  | .hbm, ⟨27, _⟩ => ⟨S4x8192x8, .f32⟩
  | .hbm, ⟨28, _⟩ => ⟨S64x512x512, .f32⟩
  | .hbm, ⟨29, _⟩ => ⟨S64x512x512, .f32⟩
  | .hbm, ⟨30, _⟩ => ⟨S_, .f32⟩
  | .hbm, ⟨31, _⟩ => ⟨S4x8192x512, .f32⟩
  | .hbm, ⟨32, _⟩ => ⟨S4x8192x512, .f32⟩
  | .hbm, ⟨33, _⟩ => ⟨S4x8192x512, .bf16⟩
  | .hbm, ⟨34, _⟩ => ⟨S32768x512, .bf16⟩
  | .hbm, ⟨35, _⟩ => ⟨S131072x128, .f32⟩
  | .hbm, ⟨36, _⟩ => ⟨S131072x128, .f32⟩
  | .hbm, ⟨37, _⟩ => ⟨S4x8192x512, .bf16⟩
  | .hbm, ⟨38, _⟩ => ⟨S32768x512, .bf16⟩
  | .hbm, ⟨39, _⟩ => ⟨S64x512x512, .bf16⟩
  | .hbm, ⟨40, _⟩ => ⟨S32768x512, .bf16⟩
  | .hbm, ⟨41, _⟩ => ⟨S4x8192x512, .bf16⟩
  | .hbm, ⟨42, _⟩ => ⟨S32768x512, .bf16⟩
  | .hbm, ⟨43, _⟩ => ⟨S32768x1024, .f32⟩
  | .hbm, ⟨44, _⟩ => ⟨S32768x8, .f32⟩
  | .hbm, ⟨45, _⟩ => ⟨S_, .f32⟩
  | .hbm, ⟨46, _⟩ => ⟨S32768x120, .f32⟩
  | .hbm, ⟨47, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel4.lean ====
abbrev S128x1x1024 : Shape := ⟨3, ![128, 1, 1024]⟩
abbrev S128x512 : Shape := ⟨2, ![128, 512]⟩
abbrev S1x128x2x5632 : Shape := ⟨4, ![1, 128, 2, 5632]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S2816x1024 : Shape := ⟨2, ![2816, 1024]⟩
abbrev S128x1024 : Shape := ⟨2, ![128, 1024]⟩
abbrev S1x128x1x5632 : Shape := ⟨4, ![1, 128, 1, 5632]⟩
abbrev S128x5632 : Shape := ⟨2, ![128, 5632]⟩
abbrev S512x1024 : Shape := ⟨2, ![512, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S1x2816 : Shape := ⟨2, ![1, 2816]⟩

abbrev nBuf : Space → Nat
  | .hbm => 26
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x512, .bf16⟩
  | .hbm, ⟨2, _⟩ => ⟨S128x512, .bf16⟩
  | .hbm, ⟨3, _⟩ => ⟨S1x128x2x5632, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x5632, .f32⟩
  | .hbm, ⟨14, _⟩ => ⟨S1024x5632, .bf16⟩
  | .hbm, ⟨15, _⟩ => ⟨S3x5632, .f32⟩
  | .hbm, ⟨16, _⟩ => ⟨S2816x1024, .f32⟩
  | .hbm, ⟨17, _⟩ => ⟨S2816x1024, .bf16⟩
  | .hbm, ⟨18, _⟩ => ⟨S1x1024, .f32⟩
  | .hbm, ⟨19, _⟩ => ⟨S128x1024, .f32⟩
  | .hbm, ⟨20, _⟩ => ⟨S1x128x1x5632, .f32⟩
  | .hbm, ⟨21, _⟩ => ⟨S128x5632, .f32⟩
  | .hbm, ⟨22, _⟩ => ⟨S1x128x1x5632, .f32⟩
  | .hbm, ⟨23, _⟩ => ⟨S128x5632, .f32⟩
  | .hbm, ⟨24, _⟩ => ⟨S128x1024, .f32⟩
  | .hbm, ⟨25, _⟩ => ⟨S128x5632, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1024x1024, .bf16⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S128x5632, .f32⟩
  | .local _ .vmem, ⟨11, _⟩ => ⟨S128x5632, .f32⟩
  | .local _ .vmem, ⟨12, _⟩ => ⟨S128x1024, .f32⟩
  | .local _ .vmem, ⟨13, _⟩ => ⟨S128x5632, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S128x1x1024 : Shape := ⟨3, ![128, 1, 1024]⟩
abbrev S128x512 : Shape := ⟨2, ![128, 512]⟩
abbrev S1x128x2x5632 : Shape := ⟨4, ![1, 128, 2, 5632]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S128x1x512 : Shape := ⟨3, ![128, 1, 512]⟩
abbrev S1024x1024 : Shape := ⟨2, ![1024, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x5632 : Shape := ⟨2, ![1024, 5632]⟩
abbrev S128x1x5632 : Shape := ⟨3, ![128, 1, 5632]⟩
abbrev S128x2x5632 : Shape := ⟨3, ![128, 2, 5632]⟩
abbrev S128x3x5632 : Shape := ⟨3, ![128, 3, 5632]⟩
abbrev S3x5632 : Shape := ⟨2, ![3, 5632]⟩
abbrev S5632 : Shape := ⟨1, ![5632]⟩
abbrev S1x1x5632 : Shape := ⟨3, ![1, 1, 5632]⟩
abbrev S128x1x2816 : Shape := ⟨3, ![128, 1, 2816]⟩
abbrev S2816x1024 : Shape := ⟨2, ![2816, 1024]⟩
abbrev S128x1024 : Shape := ⟨2, ![128, 1024]⟩
abbrev S128x5632 : Shape := ⟨2, ![128, 5632]⟩

abbrev nBuf : Space → Nat
  | .hbm => 99
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x512, .bf16⟩
  | .hbm, ⟨2, _⟩ => ⟨S128x512, .bf16⟩
  | .hbm, ⟨3, _⟩ => ⟨S1x128x2x5632, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1024, .f32⟩
  | .hbm, ⟨11, _⟩ => ⟨S128x512, .f32⟩
  | .hbm, ⟨12, _⟩ => ⟨S128x1x512, .f32⟩
  | .hbm, ⟨13, _⟩ => ⟨S128x512, .f32⟩
  | .hbm, ⟨14, _⟩ => ⟨S128x1x512, .f32⟩
  | .hbm, ⟨15, _⟩ => ⟨S128x1x1024, .f32⟩
  | .hbm, ⟨16, _⟩ => ⟨S1024x1024, .f32⟩
  | .hbm, ⟨17, _⟩ => ⟨S128x1x1024, .f32⟩
  | .hbm, ⟨18, _⟩ => ⟨S128x1x1024, .f32⟩
  | .hbm, ⟨19, _⟩ => ⟨S1024, .f32⟩
  | .hbm, ⟨20, _⟩ => ⟨S128x1x1024, .f32⟩
  | .hbm, ⟨21, _⟩ => ⟨S_, .f32⟩
  | .hbm, ⟨22, _⟩ => ⟨S128x1, .f32⟩
  | .hbm, ⟨23, _⟩ => ⟨S128x1x1, .f32⟩
  | .hbm, ⟨24, _⟩ => ⟨S_, .f32⟩
  | .hbm, ⟨25, _⟩ => ⟨S128x1x1, .f32⟩
  | .hbm, ⟨26, _⟩ => ⟨S128x1x1, .f32⟩
  | .hbm, ⟨27, _⟩ => ⟨S_, .f32⟩
  | .hbm, ⟨28, _⟩ => ⟨S128x1x1, .f32⟩
  | .hbm, ⟨29, _⟩ => ⟨S128x1x1, .f32⟩
  | .hbm, ⟨30, _⟩ => ⟨S128x1x1, .f32⟩
  | .hbm, ⟨31, _⟩ => ⟨S128x1x1024, .f32⟩
  | .hbm, ⟨32, _⟩ => ⟨S128x1x1024, .f32⟩
  | .hbm, ⟨33, _⟩ => ⟨S1x1x1024, .f32⟩
  | .hbm, ⟨34, _⟩ => ⟨S128x1x1024, .f32⟩
  | .hbm, ⟨35, _⟩ => ⟨S128x1x1024, .f32⟩
  | .hbm, ⟨36, _⟩ => ⟨S1024x5632, .f32⟩
  | .hbm, ⟨37, _⟩ => ⟨S128x1x5632, .f32⟩
  | .hbm, ⟨38, _⟩ => ⟨S128x2x5632, .f32⟩
  | .hbm, ⟨39, _⟩ => ⟨S128x3x5632, .f32⟩
  | .hbm, ⟨40, _⟩ => ⟨S3x5632, .f32⟩
  | .hbm, ⟨41, _⟩ => ⟨S5632, .f32⟩
  | .hbm, ⟨42, _⟩ => ⟨S1x5632, .f32⟩
  | .hbm, ⟨43, _⟩ => ⟨S5632, .f32⟩
  | .hbm, ⟨44, _⟩ => ⟨S128x1x5632, .f32⟩
  | .hbm, ⟨45, _⟩ => ⟨S1x1x5632, .f32⟩
  | .hbm, ⟨46, _⟩ => ⟨S128x1x5632, .f32⟩
  | .hbm, ⟨47, _⟩ => ⟨S128x1x5632, .f32⟩
  | .hbm, ⟨48, _⟩ => ⟨S1x1x5632, .f32⟩
  | .hbm, ⟨49, _⟩ => ⟨S128x1x5632, .f32⟩
  | .hbm, ⟨50, _⟩ => ⟨S128x1x5632, .f32⟩
  | .hbm, ⟨51, _⟩ => ⟨S1x5632, .f32⟩
  | .hbm, ⟨52, _⟩ => ⟨S5632, .f32⟩
  | .hbm, ⟨53, _⟩ => ⟨S128x1x5632, .f32⟩
  | .hbm, ⟨54, _⟩ => ⟨S1x1x5632, .f32⟩
  | .hbm, ⟨55, _⟩ => ⟨S128x1x5632, .f32⟩
  | .hbm, ⟨56, _⟩ => ⟨S128x1x5632, .f32⟩
  | .hbm, ⟨57, _⟩ => ⟨S128x1x5632, .f32⟩
  | .hbm, ⟨58, _⟩ => ⟨S1x5632, .f32⟩
  | .hbm, ⟨59, _⟩ => ⟨S5632, .f32⟩
  | .hbm, ⟨60, _⟩ => ⟨S128x1x5632, .f32⟩
  | .hbm, ⟨61, _⟩ => ⟨S1x1x5632, .f32⟩
  | .hbm, ⟨62, _⟩ => ⟨S128x1x5632, .f32⟩
  | .hbm, ⟨63, _⟩ => ⟨S128x1x5632, .f32⟩
  | .hbm, ⟨64, _⟩ => ⟨S128x1x5632, .f32⟩
  | .hbm, ⟨65, _⟩ => ⟨S128x1x2816, .f32⟩
  | .hbm, ⟨66, _⟩ => ⟨S128x1x2816, .f32⟩
  | .hbm, ⟨67, _⟩ => ⟨S128x1x2816, .f32⟩
  | .hbm, ⟨68, _⟩ => ⟨S128x1x2816, .f32⟩
  | .hbm, ⟨69, _⟩ => ⟨S_, .f32⟩
  | .hbm, ⟨70, _⟩ => ⟨S128x1x2816, .f32⟩
  | .hbm, ⟨71, _⟩ => ⟨S128x1x2816, .f32⟩
  | .hbm, ⟨72, _⟩ => ⟨S_, .f32⟩
  | .hbm, ⟨73, _⟩ => ⟨S128x1x2816, .f32⟩
  | .hbm, ⟨74, _⟩ => ⟨S128x1x2816, .f32⟩
  | .hbm, ⟨75, _⟩ => ⟨S128x1x2816, .f32⟩
  | .hbm, ⟨76, _⟩ => ⟨S128x1x2816, .f32⟩
  | .hbm, ⟨77, _⟩ => ⟨S2816x1024, .f32⟩
  | .hbm, ⟨78, _⟩ => ⟨S128x1x1024, .f32⟩
  | .hbm, ⟨79, _⟩ => ⟨S128x1x1024, .f32⟩
  | .hbm, ⟨80, _⟩ => ⟨S128x1x1024, .f32⟩
  | .hbm, ⟨81, _⟩ => ⟨S_, .f32⟩
  | .hbm, ⟨82, _⟩ => ⟨S128x1, .f32⟩
  | .hbm, ⟨83, _⟩ => ⟨S128x1x1, .f32⟩
  | .hbm, ⟨84, _⟩ => ⟨S_, .f32⟩
  | .hbm, ⟨85, _⟩ => ⟨S128x1x1, .f32⟩
  | .hbm, ⟨86, _⟩ => ⟨S128x1x1, .f32⟩
  | .hbm, ⟨87, _⟩ => ⟨S_, .f32⟩
  | .hbm, ⟨88, _⟩ => ⟨S128x1x1, .f32⟩
  | .hbm, ⟨89, _⟩ => ⟨S128x1x1, .f32⟩
  | .hbm, ⟨90, _⟩ => ⟨S128x1x1, .f32⟩
  | .hbm, ⟨91, _⟩ => ⟨S128x1x1024, .f32⟩
  | .hbm, ⟨92, _⟩ => ⟨S128x1x1024, .f32⟩
  | .hbm, ⟨93, _⟩ => ⟨S1x1x1024, .f32⟩
  | .hbm, ⟨94, _⟩ => ⟨S128x1x1024, .f32⟩
  | .hbm, ⟨95, _⟩ => ⟨S128x1x1024, .f32⟩
  | .hbm, ⟨96, _⟩ => ⟨S128x1024, .f32⟩
  | .hbm, ⟨97, _⟩ => ⟨S128x1x5632, .f32⟩
  | .hbm, ⟨98, _⟩ => ⟨S128x5632, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_2 : Ref sig .tc := ⟨.hbm, 81, rfl⟩
abbrev main_v59 : Ref sig .tc := ⟨.hbm, 82, rfl⟩
abbrev main_v60 : Ref sig .tc := ⟨.hbm, 83, rfl⟩
abbrev main_cst_3 : Ref sig .tc := ⟨.hbm, 84, rfl⟩
abbrev main_v61 : Ref sig .tc := ⟨.hbm, 85, rfl⟩
abbrev main_v62 : Ref sig .tc := ⟨.hbm, 86, rfl⟩
abbrev main_cst_4 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel5.lean ====
abbrev S128x1x1024 : Shape := ⟨3, ![128, 1, 1024]⟩
abbrev S1x1024 : Shape := ⟨2, ![1, 1024]⟩
abbrev S1x1024x3080 : Shape := ⟨3, ![1, 1024, 3080]⟩
abbrev S1024x3080 : Shape := ⟨2, ![1024, 3080]⟩
abbrev S_ : Shape := ⟨0, ![]⟩
abbrev S1024x3200 : Shape := ⟨2, ![1024, 3200]⟩
abbrev S128x1024 : Shape := ⟨2, ![128, 1024]⟩
abbrev S128x512 : Shape := ⟨2, ![128, 512]⟩
abbrev S512x128 : Shape := ⟨2, ![512, 128]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S1024x1024 : Shape := ⟨2, ![1024, 1024]⟩
abbrev S1024x128 : Shape := ⟨2, ![1024, 128]⟩

abbrev nBuf : Space → Nat
  | .hbm => 17
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x3080, .f32⟩
  | .hbm, ⟨3, _⟩ => ⟨S1024x3080, .f32⟩
  | .hbm, ⟨4, _⟩ => ⟨S_, .i32⟩
  | .hbm, ⟨5, _⟩ => ⟨S_, .f32⟩
  | .hbm, ⟨6, _⟩ => ⟨S1024x3200, .f32⟩
  | .hbm, ⟨7, _⟩ => ⟨S1024x3200, .bf16⟩
  | .hbm, ⟨8, _⟩ => ⟨S128x1024, .f32⟩
  | .hbm, ⟨9, _⟩ => ⟨S128x512, .bf16⟩
  | .hbm, ⟨10, _⟩ => ⟨S512x128, .f32⟩
  | .hbm, ⟨11, _⟩ => ⟨S512x128, .f32⟩
  | .hbm, ⟨12, _⟩ => ⟨S128x512, .bf16⟩
  | .hbm, ⟨13, _⟩ => ⟨S512x128, .bf16⟩
  | .hbm, ⟨14, _⟩ => ⟨S128x512, .bf16⟩
  | .hbm, ⟨15, _⟩ => ⟨S128x1024, .f32⟩
  | .hbm, ⟨16, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x3200, .bf16⟩
  | .local _ .vmem, ⟨3, _⟩ => ⟨S128x512, .bf16⟩
  | .local _ .vmem, ⟨4, _⟩ => ⟨S512x128, .f32⟩
  | .local _ .vmem, ⟨5, _⟩ => ⟨S512x128, .f32⟩
  | .local _ .vmem, ⟨6, _⟩ => ⟨S128x512, .bf16⟩
  | .local _ .vmem, ⟨7, _⟩ => ⟨S512x128, .bf16⟩
  | .local _ .vmem, ⟨8, _⟩ => ⟨S128x512, .bf16⟩
  | .local _ .vmem, ⟨9, _⟩ => ⟨S128x1024, .f32⟩
  | .local _ .vmem, ⟨10, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v4_6 : Ref sig .tc := ⟨.hbm, 15, rfl⟩
abbrev main_v4_7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference5Ideal.lean ====
abbrev S128x1x1024 : Shape := ⟨3, ![128, 1, 1024]⟩
abbrev S1x1024 : Shape := ⟨2, ![1, 1024]⟩
abbrev S1x1024x3080 : Shape := ⟨3, ![1, 1024, 3080]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x3080 : Shape := ⟨2, ![1024, 3080]⟩
abbrev S128x1x3080 : Shape := ⟨3, ![128, 1, 3080]⟩
abbrev S128x1x512 : Shape := ⟨3, ![128, 1, 512]⟩
abbrev S128x1x8 : Shape := ⟨3, ![128, 1, 8]⟩
abbrev S128x512 : Shape := ⟨2, ![128, 512]⟩
abbrev S512x128 : Shape := ⟨2, ![512, 128]⟩
abbrev S128x1024 : Shape := ⟨2, ![128, 1024]⟩
abbrev S128x8 : Shape := ⟨2, ![128, 8]⟩
abbrev S128x120 : Shape := ⟨2, ![128, 120]⟩
abbrev S128x128 : Shape := ⟨2, ![128, 128]⟩

abbrev nBuf : Space → Nat
  | .hbm => 47
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x3080, .f32⟩
  | .hbm, ⟨3, _⟩ => ⟨S1024, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S1024x3080, .f32⟩
  | .hbm, ⟨21, _⟩ => ⟨S128x1x3080, .f32⟩
  | .hbm, ⟨22, _⟩ => ⟨S128x1x512, .f32⟩
  | .hbm, ⟨23, _⟩ => ⟨S128x1x512, .f32⟩
  | .hbm, ⟨24, _⟩ => ⟨S128x1x512, .f32⟩
  | .hbm, ⟨25, _⟩ => ⟨S128x1x512, .f32⟩
  | .hbm, ⟨26, _⟩ => ⟨S128x1x1024, .f32⟩
  | .hbm, ⟨27, _⟩ => ⟨S128x1x8, .f32⟩
  | .hbm, ⟨28, _⟩ => ⟨S128x512, .f32⟩
  | .hbm, ⟨29, _⟩ => ⟨S512x128, .f32⟩
  | .hbm, ⟨30, _⟩ => ⟨S_, .f32⟩
  | .hbm, ⟨31, _⟩ => ⟨S128x1x512, .f32⟩
  | .hbm, ⟨32, _⟩ => ⟨S128x1x512, .f32⟩
  | .hbm, ⟨33, _⟩ => ⟨S128x1x512, .bf16⟩
  | .hbm, ⟨34, _⟩ => ⟨S128x512, .bf16⟩
  | .hbm, ⟨35, _⟩ => ⟨S512x128, .f32⟩
  | .hbm, ⟨36, _⟩ => ⟨S512x128, .f32⟩
  | .hbm, ⟨37, _⟩ => ⟨S128x1x512, .bf16⟩
  | .hbm, ⟨38, _⟩ => ⟨S128x512, .bf16⟩
  | .hbm, ⟨39, _⟩ => ⟨S512x128, .bf16⟩
  | .hbm, ⟨40, _⟩ => ⟨S128x1x512, .bf16⟩
  | .hbm, ⟨41, _⟩ => ⟨S128x512, .bf16⟩
  | .hbm, ⟨42, _⟩ => ⟨S128x1024, .f32⟩
  | .hbm, ⟨43, _⟩ => ⟨S128x8, .f32⟩
  | .hbm, ⟨44, _⟩ => ⟨S_, .f32⟩
  | .hbm, ⟨45, _⟩ => ⟨S128x120, .f32⟩
  | .hbm, ⟨46, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel6.lean ====
abbrev S128x1024 : Shape := ⟨2, ![128, 1024]⟩
abbrev S128x512 : Shape := ⟨2, ![128, 512]⟩
abbrev S128x128 : Shape := ⟨2, ![128, 128]⟩
abbrev S1x128x8x64x128 : Shape := ⟨5, ![1, 128, 8, 64, 128]⟩
abbrev S1x128x3x1024 : Shape := ⟨4, ![1, 128, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S4x1024 : Shape := ⟨2, ![4, 1024]⟩
abbrev S_ : Shape := ⟨0, ![]⟩
abbrev S1x128 : Shape := ⟨2, ![1, 128]⟩
abbrev S1x8x64 : Shape := ⟨3, ![1, 8, 64]⟩
abbrev S128x3x1024 : Shape := ⟨3, ![128, 3, 1024]⟩
abbrev S3x128x1024 : Shape := ⟨3, ![3, 128, 1024]⟩
abbrev S128x8x64x128 : Shape := ⟨4, ![128, 8, 64, 128]⟩
abbrev S128x512x128 : Shape := ⟨3, ![128, 512, 128]⟩
abbrev S8x1024 : Shape := ⟨2, ![8, 1024]⟩
abbrev S3x8x1024 : Shape := ⟨3, ![3, 8, 1024]⟩
abbrev S8x512 : Shape := ⟨2, ![8, 512]⟩
abbrev S8x128 : Shape := ⟨2, ![8, 128]⟩
abbrev S8x512x128 : Shape := ⟨3, ![8, 512, 128]⟩
abbrev S1x8x1024 : Shape := ⟨3, ![1, 8, 1024]⟩
abbrev S120x128 : Shape := ⟨2, ![120, 128]⟩
abbrev S64x1 : Shape := ⟨2, ![64, 1]⟩
abbrev S1x64x128 : Shape := ⟨3, ![1, 64, 128]⟩
abbrev S64x128 : Shape := ⟨2, ![64, 128]⟩
abbrev S1x1 : Shape := ⟨2, ![1, 1]⟩
abbrev S512x128 : Shape := ⟨2, ![512, 128]⟩
abbrev S8x256 : Shape := ⟨2, ![8, 256]⟩
abbrev S8 : Shape := ⟨1, ![8]⟩
abbrev S8x1 : Shape := ⟨2, ![8, 1]⟩
abbrev S1x256 : Shape := ⟨2, ![1, 256]⟩

abbrev nBuf : Space → Nat
  | .hbm => 26
  | .vmem => 21
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x128, .f32⟩
  | .hbm, ⟨3, _⟩ => ⟨S1x128x8x64x128, .f32⟩
  | .hbm, ⟨4, _⟩ => ⟨S1x128x3x1024, .f32⟩
  | .hbm, ⟨5, _⟩ => ⟨S1x4x1024, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x512, .f32⟩
  | .hbm, ⟨11, _⟩ => ⟨S4x1024, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x8x64, .f32⟩
  | .hbm, ⟨19, _⟩ => ⟨S1x512, .f32⟩
  | .hbm, ⟨20, _⟩ => ⟨S128x3x1024, .f32⟩
  | .hbm, ⟨21, _⟩ => ⟨S3x128x1024, .f32⟩
  | .hbm, ⟨22, _⟩ => ⟨S128x8x64x128, .f32⟩
  | .hbm, ⟨23, _⟩ => ⟨S128x512x128, .f32⟩
  | .hbm, ⟨24, _⟩ => ⟨S128x512, .bf16⟩
  | .hbm, ⟨25, _⟩ => ⟨S128x512x128, .f32⟩
  | .local _ .vmem, ⟨0, _⟩ => ⟨S8x1024, .f32⟩
  | .local _ .vmem, ⟨1, _⟩ => ⟨S8x1024, .f32⟩
  | .local _ .vmem, ⟨2, _⟩ => ⟨S3x8x1024, .f32⟩
  | .local _ .vmem, ⟨3, _⟩ => ⟨S3x8x1024, .f32⟩
  | .local _ .vmem, ⟨4, _⟩ => ⟨S8x512, .bf16⟩
  | .local _ .vmem, ⟨5, _⟩ => ⟨S8x512, .bf16⟩
  | .local _ .vmem, ⟨6, _⟩ => ⟨S8x128, .f32⟩
  | .local _ .vmem, ⟨7, _⟩ => ⟨S8x128, .f32⟩
  | .local _ .vmem, ⟨8, _⟩ => ⟨S8x512x128, .f32⟩
  | .local _ .vmem, ⟨9, _⟩ => ⟨S8x512x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S8x512, .bf16⟩
  | .local _ .vmem, ⟨17, _⟩ => ⟨S8x512, .bf16⟩
  | .local _ .vmem, ⟨18, _⟩ => ⟨S8x512x128, .f32⟩
  | .local _ .vmem, ⟨19, _⟩ => ⟨S8x512x128, .f32⟩
  | .local _ .vmem, ⟨20, _⟩ => ⟨S8x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S128x1024 : Shape := ⟨2, ![128, 1024]⟩
abbrev S128x512 : Shape := ⟨2, ![128, 512]⟩
abbrev S128x128 : Shape := ⟨2, ![128, 128]⟩
abbrev S1x128x8x64x128 : Shape := ⟨5, ![1, 128, 8, 64, 128]⟩
abbrev S1x128x3x1024 : Shape := ⟨4, ![1, 128, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S128x1x1024 : Shape := ⟨3, ![128, 1, 1024]⟩
abbrev S128x3x1024 : Shape := ⟨3, ![128, 3, 1024]⟩
abbrev S128x4x1024 : Shape := ⟨3, ![128, 4, 1024]⟩
abbrev S4x1024 : Shape := ⟨2, ![4, 1024]⟩
abbrev S1024 : Shape := ⟨1, ![1024]⟩
abbrev S1x1x1024 : Shape := ⟨3, ![1, 1, 1024]⟩
abbrev S_ : Shape := ⟨0, ![]⟩
abbrev S128x1x512 : Shape := ⟨3, ![128, 1, 512]⟩
abbrev S128x1x256 : Shape := ⟨3, ![128, 1, 256]⟩
abbrev S128x1x2x4x64 : Shape := ⟨5, ![128, 1, 2, 4, 64]⟩
abbrev S128x1x2x128 : Shape := ⟨4, ![128, 1, 2, 128]⟩
abbrev S128x8 : Shape := ⟨2, ![128, 8]⟩
abbrev S128x1x8 : Shape := ⟨3, ![128, 1, 8]⟩
abbrev S8 : Shape := ⟨1, ![8]⟩
abbrev S1x1x8 : Shape := ⟨3, ![1, 1, 8]⟩
abbrev S128x1x2x4 : Shape := ⟨4, ![128, 1, 2, 4]⟩
abbrev S2x4 : Shape := ⟨2, ![2, 4]⟩
abbrev S128x8x64x128 : Shape := ⟨4, ![128, 8, 64, 128]⟩
abbrev S128x2x4x64x128 : Shape := ⟨5, ![128, 2, 4, 64, 128]⟩
abbrev S1x1x2x4 : Shape := ⟨4, ![1, 1, 2, 4]⟩
abbrev S128x1x1x2x4 : Shape := ⟨5, ![128, 1, 1, 2, 4]⟩
abbrev S1x1 : Shape := ⟨2, ![1, 1]⟩
abbrev S1x1x1x1x1 : Shape := ⟨5, ![1, 1, 1, 1, 1]⟩
abbrev S128x2x1x1 : Shape := ⟨4, ![128, 2, 1, 1]⟩
abbrev S128x1x1x2 : Shape := ⟨4, ![128, 1, 1, 2]⟩
abbrev S128x1x1x2x1 : Shape := ⟨5, ![128, 1, 1, 2, 1]⟩
abbrev S128x2x4x64x1 : Shape := ⟨5, ![128, 2, 4, 64, 1]⟩
abbrev S128x1x2x4x1 : Shape := ⟨5, ![128, 1, 2, 4, 1]⟩
abbrev S128x2x4 : Shape := ⟨3, ![128, 2, 4]⟩
abbrev S128x2x4x1x1 : Shape := ⟨5, ![128, 2, 4, 1, 1]⟩
abbrev S8x1 : Shape := ⟨2, ![8, 1]⟩
abbrev S128x1x8x64 : Shape := ⟨4, ![128, 1, 8, 64]⟩
abbrev S1x1x8x1 : Shape := ⟨4, ![1, 1, 8, 1]⟩
abbrev S128x1x2x256 : Shape := ⟨4, ![128, 1, 2, 256]⟩
abbrev S512 : Shape := ⟨1, ![512]⟩
abbrev S2x256 : Shape := ⟨2, ![2, 256]⟩
abbrev S128x1x2 : Shape := ⟨3, ![128, 1, 2]⟩
abbrev S128x1x2x1 : Shape := ⟨4, ![128, 1, 2, 1]⟩
abbrev S1x1x2x256 : Shape := ⟨4, ![1, 1, 2, 256]⟩
abbrev S128x512x128 : Shape := ⟨3, ![128, 512, 128]⟩

abbrev nBuf : Space → Nat
  | .hbm => 188
  | .vmem => 0
  | .smem => 0
  | _ => 0

abbrev hbmTy0_0 (i : Nat) : BufTy := match i % 128 with
  | 0 => ⟨S128x1024, .f32⟩
  | 1 => ⟨S128x512, .bf16⟩
  | 2 => ⟨S128x128, .f32⟩
  | 3 => ⟨S1x128x8x64x128, .f32⟩
  | 4 => ⟨S1x128x3x1024, .f32⟩
  | 5 => ⟨S1x4x1024, .f32⟩
  | 6 => ⟨S1x1024, .f32⟩
  | 7 => ⟨S1x8, .f32⟩
  | 8 => ⟨S1x8, .f32⟩
  | 9 => ⟨S1x8, .f32⟩
  | 10 => ⟨S1x512, .f32⟩
  | 11 => ⟨S128x1x1024, .f32⟩
  | 12 => ⟨S128x3x1024, .f32⟩
  | 13 => ⟨S128x4x1024, .f32⟩
  | 14 => ⟨S4x1024, .f32⟩
  | 15 => ⟨S1024, .f32⟩
  | 16 => ⟨S1x1024, .f32⟩
  | 17 => ⟨S1024, .f32⟩
  | 18 => ⟨S128x1x1024, .f32⟩
  | 19 => ⟨S1x1x1024, .f32⟩
  | 20 => ⟨S128x1x1024, .f32⟩
  | 21 => ⟨S128x1x1024, .f32⟩
  | 22 => ⟨S1x1x1024, .f32⟩
  | 23 => ⟨S128x1x1024, .f32⟩
  | 24 => ⟨S128x1x1024, .f32⟩
  | 25 => ⟨S1x1024, .f32⟩
  | 26 => ⟨S1024, .f32⟩
  | 27 => ⟨S128x1x1024, .f32⟩
  | 28 => ⟨S1x1x1024, .f32⟩
  | 29 => ⟨S128x1x1024, .f32⟩
  | 30 => ⟨S128x1x1024, .f32⟩
  | 31 => ⟨S128x1x1024, .f32⟩
  | 32 => ⟨S1x1024, .f32⟩
  | 33 => ⟨S1024, .f32⟩
  | 34 => ⟨S128x1x1024, .f32⟩
  | 35 => ⟨S1x1x1024, .f32⟩
  | 36 => ⟨S128x1x1024, .f32⟩
  | 37 => ⟨S128x1x1024, .f32⟩
  | 38 => ⟨S128x1x1024, .f32⟩
  | 39 => ⟨S1x1024, .f32⟩
  | 40 => ⟨S1024, .f32⟩
  | 41 => ⟨S128x1x1024, .f32⟩
  | 42 => ⟨S1x1x1024, .f32⟩
  | 43 => ⟨S128x1x1024, .f32⟩
  | 44 => ⟨S128x1x1024, .f32⟩
  | 45 => ⟨S128x1x1024, .f32⟩
  | 46 => ⟨S128x1x1024, .f32⟩
  | 47 => ⟨S128x1x1024, .f32⟩
  | 48 => ⟨S_, .f32⟩
  | 49 => ⟨S128x1x1024, .f32⟩
  | 50 => ⟨S128x1x1024, .f32⟩
  | 51 => ⟨S_, .f32⟩
  | 52 => ⟨S128x1x1024, .f32⟩
  | 53 => ⟨S128x1x1024, .f32⟩
  | 54 => ⟨S128x1x1024, .f32⟩
  | 55 => ⟨S128x1x512, .f32⟩
  | 56 => ⟨S128x1x256, .f32⟩
  | 57 => ⟨S128x1x256, .f32⟩
  | 58 => ⟨S128x1x2x4x64, .f32⟩
  | 59 => ⟨S128x1x2x128, .f32⟩
  | 60 => ⟨S128x1x2x128, .f32⟩
  | 61 => ⟨S128x8, .f32⟩
  | 62 => ⟨S128x1x8, .f32⟩
  | 63 => ⟨S8, .f32⟩
  | 64 => ⟨S1x1x8, .f32⟩
  | 65 => ⟨S128x1x8, .f32⟩
  | 66 => ⟨S128x1x8, .f32⟩
  | 67 => ⟨S_, .f32⟩
  | 68 => ⟨S128x1x8, .f32⟩
  | 69 => ⟨S128x1x8, .f32⟩
  | 70 => ⟨S128x1x8, .f32⟩
  | 71 => ⟨S128x1x8, .f32⟩
  | 72 => ⟨S128x1x8, .i1⟩
  | 73 => ⟨S128x1x8, .f32⟩
  | 74 => ⟨S128x1x8, .f32⟩
  | 75 => ⟨S128x1x8, .f32⟩
  | 76 => ⟨S128x1x8, .f32⟩
  | 77 => ⟨S128x1x8, .f32⟩
  | 78 => ⟨S128x1x8, .f32⟩
  | 79 => ⟨S128x1x8, .f32⟩
  | 80 => ⟨S128x1x8, .f32⟩
  | 81 => ⟨S128x1x2x4, .f32⟩
  | 82 => ⟨S8, .f32⟩
  | 83 => ⟨S8, .f32⟩
  | 84 => ⟨S2x4, .f32⟩
  | 85 => ⟨S2x4, .f32⟩
  | 86 => ⟨S128x8x64x128, .f32⟩
  | 87 => ⟨S128x2x4x64x128, .f32⟩
  | 88 => ⟨S1x1x2x4, .f32⟩
  | 89 => ⟨S128x1x2x4, .f32⟩
  | 90 => ⟨S128x1x2x4, .f32⟩
  | 91 => ⟨S_, .f32⟩
  | 92 => ⟨S_, .f32⟩
  | 93 => ⟨S128x1x2x4, .f32⟩
  | 94 => ⟨S128x1x1x2x4, .f32⟩
  | 95 => ⟨S128x1x1x2x4, .f32⟩
  | 96 => ⟨S128x1x1x2x4, .f32⟩
  | 97 => ⟨S_, .i1⟩
  | 98 => ⟨S1x1, .i1⟩
  | 99 => ⟨S1x1, .i32⟩
  | 100 => ⟨S_, .i32⟩
  | 101 => ⟨S1x1, .i32⟩
  | 102 => ⟨S1x1, .i32⟩
  | 103 => ⟨S1x1, .i32⟩
  | 104 => ⟨S1x1, .i1⟩
  | 105 => ⟨S_, .i1⟩
  | 106 => ⟨S1x1, .i1⟩
  | 107 => ⟨S1x1, .i1⟩
  | 108 => ⟨S1x1x1x1x1, .i1⟩
  | 109 => ⟨S_, .f32⟩
  | 110 => ⟨S_, .f32⟩
  | 111 => ⟨S128x1x1x2x4, .i1⟩
  | 112 => ⟨S128x1x1x2x4, .f32⟩
  | 113 => ⟨S128x1x1x2x4, .f32⟩
  | 114 => ⟨S128x1x1x2x4, .f32⟩
  | 115 => ⟨S128x2x1x1, .f32⟩
  | 116 => ⟨S128x1x1x2, .f32⟩
  | 117 => ⟨S128x1x1x2x1, .f32⟩
  | 118 => ⟨S128x1x1x2x4, .f32⟩
  | 119 => ⟨S128x1x1x2x4, .f32⟩
  | 120 => ⟨S128x1x1x2x4, .f32⟩
  | 121 => ⟨S128x1x1x2x4, .f32⟩
  | 122 => ⟨S128x2x4x64x1, .f32⟩
  | 123 => ⟨S128x1x2x4x64, .f32⟩
  | 124 => ⟨S128x1x2x4, .f32⟩
  | 125 => ⟨S128x1x2x4x1, .f32⟩
  | 126 => ⟨S128x2x4x64x1, .f32⟩
  | 127 => ⟨S128x1x2x4x64, .f32⟩
  | _ => ⟨S128x1024, .f32⟩

abbrev hbmTy0_1 (i : Nat) : BufTy := match i % 128 with
  | 0 => ⟨S128x1x2x4x64, .f32⟩
  | 1 => ⟨S128x1x2x4x64, .f32⟩
  | 2 => ⟨S128x1x2x4x64, .f32⟩
  | 3 => ⟨S128x2x4, .f32⟩
  | 4 => ⟨S128x1x2x4, .f32⟩
  | 5 => ⟨S128x1x2x4, .f32⟩
  | 6 => ⟨S128x1x2x4, .f32⟩
  | 7 => ⟨S128x1x2x4, .f32⟩
  | 8 => ⟨S128x2x4, .f32⟩
  | 9 => ⟨S128x2x4x1x1, .f32⟩
  | 10 => ⟨S128x2x4x64x128, .f32⟩
  | 11 => ⟨S128x2x4x64x128, .f32⟩
  | 12 => ⟨S128x1x2x4x1, .f32⟩
  | 13 => ⟨S128x1x2x4x64, .f32⟩
  | 14 => ⟨S128x1x2x4x64, .f32⟩
  | 15 => ⟨S128x2x4x64x128, .f32⟩
  | 16 => ⟨S128x2x4x64x128, .f32⟩
  | 17 => ⟨S128x1x512, .f32⟩
  | 18 => ⟨S8, .f32⟩
  | 19 => ⟨S8x1, .f32⟩
  | 20 => ⟨S128x1x8x64, .f32⟩
  | 21 => ⟨S1x1x8x1, .f32⟩
  | 22 => ⟨S128x1x8x64, .f32⟩
  | 23 => ⟨S128x1x8x64, .f32⟩
  | 24 => ⟨S128x1x512, .f32⟩
  | 25 => ⟨S128x1x512, .f32⟩
  | 26 => ⟨S128x512, .f32⟩
  | 27 => ⟨S128x1x512, .f32⟩
  | 28 => ⟨S128x1x512, .f32⟩
  | 29 => ⟨S128x1x512, .f32⟩
  | 30 => ⟨S_, .f32⟩
  | 31 => ⟨S128x1x512, .f32⟩
  | 32 => ⟨S128x1x512, .f32⟩
  | 33 => ⟨S_, .f32⟩
  | 34 => ⟨S128x1x512, .f32⟩
  | 35 => ⟨S128x1x512, .f32⟩
  | 36 => ⟨S128x1x512, .f32⟩
  | 37 => ⟨S128x1x512, .f32⟩
  | 38 => ⟨S128x1x2x256, .f32⟩
  | 39 => ⟨S512, .f32⟩
  | 40 => ⟨S2x256, .f32⟩
  | 41 => ⟨S128x1x2x256, .f32⟩
  | 42 => ⟨S_, .f32⟩
  | 43 => ⟨S128x1x2, .f32⟩
  | 44 => ⟨S128x1x2x1, .f32⟩
  | 45 => ⟨S_, .f32⟩
  | 46 => ⟨S128x1x2x1, .f32⟩
  | 47 => ⟨S128x1x2x1, .f32⟩
  | 48 => ⟨S_, .f32⟩
  | 49 => ⟨S128x1x2x1, .f32⟩
  | 50 => ⟨S128x1x2x1, .f32⟩
  | 51 => ⟨S128x1x2x1, .f32⟩
  | 52 => ⟨S128x1x2x256, .f32⟩
  | 53 => ⟨S128x1x2x256, .f32⟩
  | 54 => ⟨S1x1x2x256, .f32⟩
  | 55 => ⟨S128x1x2x256, .f32⟩
  | 56 => ⟨S128x1x2x256, .f32⟩
  | 57 => ⟨S128x512, .f32⟩
  | 58 => ⟨S128x512, .bf16⟩
  | 59 => ⟨S128x512x128, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call2_call0_cst : Ref sig .tc := ⟨.hbm, 91, rfl⟩
abbrev main_call2_call0_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_c_0 : Ref sig .tc := ⟨.hbm, 105, rfl⟩
abbrev main_call3_v5 : Ref sig .tc := ⟨.hbm, 106, rfl⟩
abbrev main_v64 : Ref sig .tc := ⟨.hbm, 107, rfl⟩
abbrev main_v65 : Ref sig .tc := ⟨.hbm, 108, rfl⟩
abbrev main_cst : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_call5_v0 : Ref sig .tc := ⟨.hbm, 156, rfl⟩
abbrev main_call5_v1 : Ref sig .tc := ⟨.hbm, 157, rfl⟩
abbrev main_call5_cst : Ref sig .tc := ⟨.hbm, 158, rfl⟩
abbrev main_call5_v2 : Ref sig .tc := ⟨.hbm, 159, rfl⟩
abbrev main_call5_v3 : Ref sig .tc := ⟨.hbm, 160, rfl⟩
abbrev main_call5_cst_0 : Ref sig .tc := ⟨.hbm, 161, rfl⟩
abbrev main_call5_v4 : Ref sig .tc := ⟨.hbm, 162, rfl⟩
abbrev main_call5_v5 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_0 : Ref sig .tc := ⟨.hbm, 170, rfl⟩
abbrev main_v115 : Ref sig .tc := ⟨.hbm, 171, rfl⟩
abbrev main_v116 : Ref sig .tc := ⟨.hbm, 172, rfl⟩
abbrev main_cst_1 : Ref sig .tc := ⟨.hbm, 173, rfl⟩
abbrev main_v117 : Ref sig .tc := ⟨.hbm, 174, rfl⟩
abbrev main_v118 : Ref sig .tc := ⟨.hbm, 175, rfl⟩
abbrev main_cst_2 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩

abbrev nD : Nat := 1
abbrev τ : Topo := Topo.v7x

variable {F : FTy → Type} [FloatOps F]
-- ==== Kernel7.lean ====
abbrev S32768x1024 : Shape := ⟨2, ![32768, 1024]⟩
abbrev S32768x512 : Shape := ⟨2, ![32768, 512]⟩
abbrev S32768x128 : Shape := ⟨2, ![32768, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S4x1024 : Shape := ⟨2, ![4, 1024]⟩
abbrev S_ : Shape := ⟨0, ![]⟩
abbrev S1x128 : Shape := ⟨2, ![1, 128]⟩
abbrev S1x8x64 : Shape := ⟨3, ![1, 8, 64]⟩
abbrev S4x512x128 : Shape := ⟨3, ![4, 512, 128]⟩
abbrev S512x1024 : Shape := ⟨2, ![512, 1024]⟩
abbrev S512x512 : Shape := ⟨2, ![512, 512]⟩
abbrev S512x128 : Shape := ⟨2, ![512, 128]⟩
abbrev S1x512x128 : Shape := ⟨3, ![1, 512, 128]⟩
abbrev S520x1024 : Shape := ⟨2, ![520, 1024]⟩
abbrev S8x1024 : Shape := ⟨2, ![8, 1024]⟩
abbrev S128x128 : Shape := ⟨2, ![128, 128]⟩
abbrev S128x256 : Shape := ⟨2, ![128, 256]⟩
abbrev S128x1024 : Shape := ⟨2, ![128, 1024]⟩
abbrev S128x512 : Shape := ⟨2, ![128, 512]⟩
abbrev S128x1 : Shape := ⟨2, ![128, 1]⟩
abbrev S1x256x128 : Shape := ⟨3, ![1, 256, 128]⟩
abbrev S256x128 : Shape := ⟨2, ![256, 128]⟩
abbrev S1x1 : Shape := ⟨2, ![1, 1]⟩
abbrev S64x128 : Shape := ⟨2, ![64, 128]⟩
abbrev S128 : Shape := ⟨1, ![128]⟩
abbrev S1x256 : Shape := ⟨2, ![1, 256]⟩

abbrev nBuf : Space → Nat
  | .hbm => 20
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x128, .f32⟩
  | .hbm, ⟨3, _⟩ => ⟨S1x4x1024, .f32⟩
  | .hbm, ⟨4, _⟩ => ⟨S1x1024, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x512, .f32⟩
  | .hbm, ⟨9, _⟩ => ⟨S4x1024, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x8x64, .f32⟩
  | .hbm, ⟨17, _⟩ => ⟨S1x512, .f32⟩
  | .hbm, ⟨18, _⟩ => ⟨S32768x512, .bf16⟩
  | .hbm, ⟨19, _⟩ => ⟨S4x512x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S1x512x128, .f32⟩
  | .local _ .vmem, ⟨15, _⟩ => ⟨S1x512x128, .f32⟩
  | .local _ .vmem, ⟨16, _⟩ => ⟨S520x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S32768x1024 : Shape := ⟨2, ![32768, 1024]⟩
abbrev S32768x512 : Shape := ⟨2, ![32768, 512]⟩
abbrev S32768x128 : Shape := ⟨2, ![32768, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S4x8192x1024 : Shape := ⟨3, ![4, 8192, 1024]⟩
abbrev S_ : Shape := ⟨0, ![]⟩
abbrev S4x3x1024 : Shape := ⟨3, ![4, 3, 1024]⟩
abbrev S4x8195x1024 : Shape := ⟨3, ![4, 8195, 1024]⟩
abbrev S4x1024 : Shape := ⟨2, ![4, 1024]⟩
abbrev S1024 : Shape := ⟨1, ![1024]⟩
abbrev S1x1x1024 : Shape := ⟨3, ![1, 1, 1024]⟩
abbrev S4x8192x512 : Shape := ⟨3, ![4, 8192, 512]⟩
abbrev S4x8192x256 : Shape := ⟨3, ![4, 8192, 256]⟩
abbrev S4x8192x2x4x64 : Shape := ⟨5, ![4, 8192, 2, 4, 64]⟩
abbrev S4x8192x2x128 : Shape := ⟨4, ![4, 8192, 2, 128]⟩
abbrev S32768x8 : Shape := ⟨2, ![32768, 8]⟩
abbrev S4x8192x8 : Shape := ⟨3, ![4, 8192, 8]⟩
abbrev S8 : Shape := ⟨1, ![8]⟩
abbrev S1x1x8 : Shape := ⟨3, ![1, 1, 8]⟩
abbrev S4x8192x2x4 : Shape := ⟨4, ![4, 8192, 2, 4]⟩
abbrev S2x4 : Shape := ⟨2, ![2, 4]⟩
abbrev S4x2x4x64x128 : Shape := ⟨5, ![4, 2, 4, 64, 128]⟩
abbrev S4x64x128x2x4x64 : Shape := ⟨6, ![4, 64, 128, 2, 4, 64]⟩
abbrev S64x4x128x2x4x64 : Shape := ⟨6, ![64, 4, 128, 2, 4, 64]⟩
abbrev S4x64x128x2x4 : Shape := ⟨5, ![4, 64, 128, 2, 4]⟩
abbrev S64x4x128x2x4 : Shape := ⟨5, ![64, 4, 128, 2, 4]⟩
abbrev S4x64x128x2x128 : Shape := ⟨5, ![4, 64, 128, 2, 128]⟩
abbrev S64x4x128x2x128 : Shape := ⟨5, ![64, 4, 128, 2, 128]⟩
abbrev S1x4x128x2x4x64 : Shape := ⟨6, ![1, 4, 128, 2, 4, 64]⟩
abbrev S4x128x2x4x64 : Shape := ⟨5, ![4, 128, 2, 4, 64]⟩
abbrev S1x4x128x2x4 : Shape := ⟨5, ![1, 4, 128, 2, 4]⟩
abbrev S4x128x2x4 : Shape := ⟨4, ![4, 128, 2, 4]⟩
abbrev S1x4x128x2x128 : Shape := ⟨5, ![1, 4, 128, 2, 128]⟩
abbrev S4x128x2x128 : Shape := ⟨4, ![4, 128, 2, 128]⟩
abbrev S1x1x2x4 : Shape := ⟨4, ![1, 1, 2, 4]⟩
abbrev S4x1x2x4 : Shape := ⟨4, ![4, 1, 2, 4]⟩
abbrev S4x2x4 : Shape := ⟨3, ![4, 2, 4]⟩
abbrev S4x2x4x1x1 : Shape := ⟨5, ![4, 2, 4, 1, 1]⟩
abbrev S4x128x2x4x1 : Shape := ⟨5, ![4, 128, 2, 4, 1]⟩
abbrev S4x512x128 : Shape := ⟨3, ![4, 512, 128]⟩

abbrev nBuf : Space → Nat
  | .hbm => 145
  | .vmem => 0
  | .smem => 0
  | _ => 0

abbrev hbmTy0_0 (i : Nat) : BufTy := match i % 128 with
  | 0 => ⟨S32768x1024, .f32⟩
  | 1 => ⟨S32768x512, .bf16⟩
  | 2 => ⟨S32768x128, .f32⟩
  | 3 => ⟨S1x4x1024, .f32⟩
  | 4 => ⟨S1x1024, .f32⟩
  | 5 => ⟨S1x8, .f32⟩
  | 6 => ⟨S1x8, .f32⟩
  | 7 => ⟨S1x8, .f32⟩
  | 8 => ⟨S1x512, .f32⟩
  | 9 => ⟨S4x8192x1024, .f32⟩
  | 10 => ⟨S_, .f32⟩
  | 11 => ⟨S4x3x1024, .f32⟩
  | 12 => ⟨S4x8195x1024, .f32⟩
  | 13 => ⟨S4x1024, .f32⟩
  | 14 => ⟨S1024, .f32⟩
  | 15 => ⟨S1x1024, .f32⟩
  | 16 => ⟨S1024, .f32⟩
  | 17 => ⟨S4x8192x1024, .f32⟩
  | 18 => ⟨S1x1x1024, .f32⟩
  | 19 => ⟨S4x8192x1024, .f32⟩
  | 20 => ⟨S4x8192x1024, .f32⟩
  | 21 => ⟨S1x1x1024, .f32⟩
  | 22 => ⟨S4x8192x1024, .f32⟩
  | 23 => ⟨S4x8192x1024, .f32⟩
  | 24 => ⟨S1x1024, .f32⟩
  | 25 => ⟨S1024, .f32⟩
  | 26 => ⟨S4x8192x1024, .f32⟩
  | 27 => ⟨S1x1x1024, .f32⟩
  | 28 => ⟨S4x8192x1024, .f32⟩
  | 29 => ⟨S4x8192x1024, .f32⟩
  | 30 => ⟨S4x8192x1024, .f32⟩
  | 31 => ⟨S1x1024, .f32⟩
  | 32 => ⟨S1024, .f32⟩
  | 33 => ⟨S4x8192x1024, .f32⟩
  | 34 => ⟨S1x1x1024, .f32⟩
  | 35 => ⟨S4x8192x1024, .f32⟩
  | 36 => ⟨S4x8192x1024, .f32⟩
  | 37 => ⟨S4x8192x1024, .f32⟩
  | 38 => ⟨S1x1024, .f32⟩
  | 39 => ⟨S1024, .f32⟩
  | 40 => ⟨S4x8192x1024, .f32⟩
  | 41 => ⟨S1x1x1024, .f32⟩
  | 42 => ⟨S4x8192x1024, .f32⟩
  | 43 => ⟨S4x8192x1024, .f32⟩
  | 44 => ⟨S4x8192x1024, .f32⟩
  | 45 => ⟨S4x8192x1024, .f32⟩
  | 46 => ⟨S4x8192x1024, .f32⟩
  | 47 => ⟨S_, .f32⟩
  | 48 => ⟨S4x8192x1024, .f32⟩
  | 49 => ⟨S4x8192x1024, .f32⟩
  | 50 => ⟨S_, .f32⟩
  | 51 => ⟨S4x8192x1024, .f32⟩
  | 52 => ⟨S4x8192x1024, .f32⟩
  | 53 => ⟨S4x8192x1024, .f32⟩
  | 54 => ⟨S4x8192x512, .f32⟩
  | 55 => ⟨S4x8192x256, .f32⟩
  | 56 => ⟨S4x8192x256, .f32⟩
  | 57 => ⟨S4x8192x2x4x64, .f32⟩
  | 58 => ⟨S4x8192x2x128, .f32⟩
  | 59 => ⟨S32768x8, .f32⟩
  | 60 => ⟨S4x8192x8, .f32⟩
  | 61 => ⟨S8, .f32⟩
  | 62 => ⟨S1x1x8, .f32⟩
  | 63 => ⟨S4x8192x8, .f32⟩
  | 64 => ⟨S4x8192x8, .f32⟩
  | 65 => ⟨S_, .f32⟩
  | 66 => ⟨S4x8192x8, .f32⟩
  | 67 => ⟨S4x8192x8, .f32⟩
  | 68 => ⟨S4x8192x8, .f32⟩
  | 69 => ⟨S4x8192x8, .f32⟩
  | 70 => ⟨S4x8192x8, .i1⟩
  | 71 => ⟨S4x8192x8, .f32⟩
  | 72 => ⟨S4x8192x8, .f32⟩
  | 73 => ⟨S4x8192x8, .f32⟩
  | 74 => ⟨S4x8192x8, .f32⟩
  | 75 => ⟨S4x8192x8, .f32⟩
  | 76 => ⟨S4x8192x8, .f32⟩
  | 77 => ⟨S4x8192x8, .f32⟩
  | 78 => ⟨S4x8192x8, .f32⟩
  | 79 => ⟨S4x8192x2x4, .f32⟩
  | 80 => ⟨S8, .f32⟩
  | 81 => ⟨S8, .f32⟩
  | 82 => ⟨S2x4, .f32⟩
  | 83 => ⟨S2x4, .f32⟩
  | 84 => ⟨S_, .f32⟩
  | 85 => ⟨S4x2x4x64x128, .f32⟩
  | 86 => ⟨S4x64x128x2x4x64, .f32⟩
  | 87 => ⟨S64x4x128x2x4x64, .f32⟩
  | 88 => ⟨S4x64x128x2x4, .f32⟩
  | 89 => ⟨S64x4x128x2x4, .f32⟩
  | 90 => ⟨S4x64x128x2x128, .f32⟩
  | 91 => ⟨S64x4x128x2x128, .f32⟩
  | 92 => ⟨S_, .i32⟩
  | 93 => ⟨S64x4x128x2x4x64, .f32⟩
  | 94 => ⟨S64x4x128x2x4, .f32⟩
  | 95 => ⟨S64x4x128x2x128, .f32⟩
  | 96 => ⟨S2x4, .f32⟩
  | 97 => ⟨S_, .i32⟩
  | 98 => ⟨S4x2x4x64x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x4x128x2x4x64, .f32⟩
  | 107 => ⟨S4x128x2x4x64, .f32⟩
  | 108 => ⟨S_, .i32⟩
  | 109 => ⟨S_, .i32⟩
  | 110 => ⟨S_, .i32⟩
  | 111 => ⟨S_, .i32⟩
  | 112 => ⟨S1x4x128x2x4, .f32⟩
  | 113 => ⟨S4x128x2x4, .f32⟩
  | 114 => ⟨S_, .i32⟩
  | 115 => ⟨S_, .i32⟩
  | 116 => ⟨S_, .i32⟩
  | 117 => ⟨S_, .i32⟩
  | 118 => ⟨S1x4x128x2x128, .f32⟩
  | 119 => ⟨S4x128x2x128, .f32⟩
  | 120 => ⟨S1x1x2x4, .f32⟩
  | 121 => ⟨S4x128x2x4, .f32⟩
  | 122 => ⟨S4x128x2x4, .f32⟩
  | 123 => ⟨S_, .f32⟩
  | 124 => ⟨S_, .f32⟩
  | 125 => ⟨S4x128x2x4, .f32⟩
  | 126 => ⟨S4x1x2x4, .f32⟩
  | 127 => ⟨S4x2x4, .f32⟩
  | _ => ⟨S32768x1024, .f32⟩

abbrev hbmTy0_1 (i : Nat) : BufTy := match i % 128 with
  | 0 => ⟨S4x1x2x4, .f32⟩
  | 1 => ⟨S4x128x2x4, .f32⟩
  | 2 => ⟨S4x128x2x4, .f32⟩
  | 3 => ⟨S4x128x2x4, .f32⟩
  | 4 => ⟨S4x128x2x4, .f32⟩
  | 5 => ⟨S4x2x4, .f32⟩
  | 6 => ⟨S4x2x4x1x1, .f32⟩
  | 7 => ⟨S4x2x4x64x128, .f32⟩
  | 8 => ⟨S4x2x4x64x128, .f32⟩
  | 9 => ⟨S4x128x2x4x1, .f32⟩
  | 10 => ⟨S4x128x2x4x64, .f32⟩
  | 11 => ⟨S4x128x2x4x64, .f32⟩
  | 12 => ⟨S4x2x4x64x128, .f32⟩
  | 13 => ⟨S4x2x4x64x128, .f32⟩
  | 14 => ⟨S_, .i32⟩
  | 15 => ⟨S_, .i32⟩
  | 16 => ⟨S4x512x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c : Ref sig .tc := ⟨.hbm, 92, rfl⟩
abbrev main_v60_0 : Ref sig .tc := ⟨.hbm, 93, rfl⟩
abbrev main_v60_1 : Ref sig .tc := ⟨.hbm, 94, rfl⟩
abbrev main_v60_2 : Ref sig .tc := ⟨.hbm, 95, rfl⟩
abbrev main_v60_3 : Ref sig .tc := ⟨.hbm, 96, rfl⟩
abbrev main_v60_4 : Ref sig .tc := ⟨.hbm, 97, rfl⟩
abbrev main_v60_5 : Ref sig .tc := ⟨.hbm, 98, rfl⟩
abbrev main_while0c_c_6 : Ref sig .tc := ⟨.hbm, 99, rfl⟩
abbrev main_while0c_v62 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_c_1 : Ref sig .tc := ⟨.hbm, 103, rfl⟩
abbrev main_while0b_call2_c_2 : Ref sig .tc := ⟨.hbm, 104, rfl⟩
abbrev main_while0b_call2_c_3 : Ref sig .tc := ⟨.hbm, 105, rfl⟩
abbrev main_while0b_call2_v0 : Ref sig .tc := ⟨.hbm, 106, rfl⟩
abbrev main_while0b_v62 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_c_1 : Ref sig .tc := ⟨.hbm, 110, rfl⟩
abbrev main_while0b_call3_c_2 : Ref sig .tc := ⟨.hbm, 111, rfl⟩
abbrev main_while0b_call3_v0 : Ref sig .tc := ⟨.hbm, 112, rfl⟩
abbrev main_while0b_v63 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_c_2 : Ref sig .tc := ⟨.hbm, 117, rfl⟩
abbrev main_while0b_call4_v0 : Ref sig .tc := ⟨.hbm, 118, rfl⟩
abbrev main_while0b_v64 : Ref sig .tc := ⟨.hbm, 119, rfl⟩
abbrev main_while0b_v65 : Ref sig .tc := ⟨.hbm, 120, rfl⟩
abbrev main_while0b_v66 : Ref sig .tc := ⟨.hbm, 121, rfl⟩
abbrev main_while0b_v67 : Ref sig .tc := ⟨.hbm, 122, rfl⟩
abbrev main_while0b_call5_call0_cst : Ref sig .tc := ⟨.hbm, 123, rfl⟩
abbrev main_while0b_call5_call0_v0 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_v77 : Ref sig .tc := ⟨.hbm, 134, rfl⟩
abbrev main_while0b_v78 : Ref sig .tc := ⟨.hbm, 135, rfl⟩
abbrev main_while0b_v79 : Ref sig .tc := ⟨.hbm, 136, rfl⟩
abbrev main_while0b_v80 : Ref sig .tc := ⟨.hbm, 137, rfl⟩
abbrev main_while0b_v81 : Ref sig .tc := ⟨.hbm, 138, rfl⟩
abbrev main_while0b_v82 : Ref sig .tc := ⟨.hbm, 139, rfl⟩
abbrev main_while0b_v83 : Ref sig .tc := ⟨.hbm, 140, rfl⟩
abbrev main_while0b_v84 : Ref sig .tc := ⟨.hbm, 141, rfl⟩
abbrev main_while0b_c_6 : Ref sig .tc := ⟨.hbm, 142, rfl⟩
abbrev main_while0b_v85 : Ref sig .tc := ⟨.hbm, 143, rfl⟩
abbrev main_v61 : Ref sig .tc := ⟨.hbm, 144, rfl⟩

abbrev nD : Nat := 1
abbrev τ : Topo := Topo.v7x

variable {F : FTy → Type} [FloatOps F]

abbrev main_while0_count : Scf.Loop 32 := ⟨0#32, 64#32, 1#32⟩
-- ==== Proof.AttnFrame.lean ====
/-
  The launch of the attention call over the prompt, at any values. A query tile meets the key tiles before it in pairs
  (a counted loop), then one more if their number is odd, then its own tile under the causal mask. What a tile does
  to the running maximum, sum and weighted values is `full`; `out0_5` is the block the body leaves, as a function
  of the five input blocks.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What one key tile does -/

/-- Running maximum, sum and weighted values of the two maps, in the order the loop carries them. -/
abbrev Carry (F : FTy → Type) [FloatOps F] : Type :=
  FVec F S1x1024 .f32 × FVec F S1x1024 .f32 × FVec F S128x1024 .f32 × FVec F S1x1024 .f32 × FVec F S1x1024 .f32 × FVec F S128x1024 .f32

/-- The update by one whole key tile: scores of both maps against the tile, each folded into its three running values. -/
def full (q1 q2 : FVec F S1024x128 .bf16) (kt : Vec F S1024x128 .bf16) (u w : Vec F S1x1x1x128x512 .bf16) (a : Carry F) : Carry F :=
  (k0_pay13 a.1 (k0_pay4 q1 kt), k0_pay16 a.1 a.2.1 (k0_pay4 q1 kt),
    k0_pay17 a.1 a.2.2.1 (k0_pay4 q1 kt) (k0_pay5 u w),
    k0_pay13 a.2.2.2.1 (k0_pay4 q2 kt), k0_pay16 a.2.2.2.1 a.2.2.2.2.1 (k0_pay4 q2 kt),
    k0_pay17 a.2.2.2.1 a.2.2.2.2.2 (k0_pay4 q2 kt) (k0_pay5 u w))

/-- The first values: maximum minus infinity, sum and weighted values zero. -/
def carry0 : Carry F := (k0_pay60, k0_pay61, k0_pay62, k0_pay60, k0_pay61, k0_pay62)

/-- Trip `k` of the loop: the key tiles `2k` and `2k + 1`. -/
def trip (i : grid0.Coords) (q1 q2 : FVec F S1024x128 .bf16) (x3 : Vec F S8192x128 .bf16) (x4 : Vec F S1x16x1x128x512 .bf16)
    (k : Fin (k0_t1_loop i).trips) (a : Carry F) : Carry F :=
  full q1 q2 (View.ld x3 (Rect.unit (s := S8192x128) (k0_off3 i k) S1024x128.size (k0_off3_inb i k)))
    (View.ld x4 (Rect.unit (s := S1x16x1x128x512) (k0_off4 i k 0#32) S1x1x1x128x512.size (k0_off4_inb i k 0)))
    (View.ld x4 (Rect.unit (s := S1x16x1x128x512) (k0_off4 i k 1#32) S1x1x1x128x512.size (k0_off4_inb i k 1)))
    (full q1 q2 (View.ld x3 (Rect.unit (s := S8192x128) (k0_off1 i k) S1024x128.size (k0_off1_inb i k)))
      (View.ld x4 (Rect.unit (s := S1x16x1x128x512) (k0_off2 i k 0#32) S1x1x1x128x512.size (k0_off2_inb i k 0)))
      (View.ld x4 (Rect.unit (s := S1x16x1x128x512) (k0_off2 i k 1#32) S1x1x1x128x512.size (k0_off2_inb i k 1))) a)

/-- The carried values before trip `k`. -/
def carry (i : grid0.Coords) (q1 q2 : FVec F S1024x128 .bf16) (x3 : Vec F S8192x128 .bf16) (x4 : Vec F S1x16x1x128x512 .bf16)
    (a0 : Carry F) : ℕ → Carry F
  | 0 => a0
  | k + 1 => if h : k < (k0_t1_loop i).trips then trip i q1 q2 x3 x4 ⟨k, h⟩ (carry i q1 q2 x3 x4 a0 k) else carry i q1 q2 x3 x4 a0 k

theorem carry_succ (i : grid0.Coords) (q1 q2 : FVec F S1024x128 .bf16) (x3 : Vec F S8192x128 .bf16) (x4 : Vec F S1x16x1x128x512 .bf16)
    (a0 : Carry F) (k : Fin (k0_t1_loop i).trips) :
    carry i q1 q2 x3 x4 a0 (k.val + 1) = trip i q1 q2 x3 x4 k (carry i q1 q2 x3 x4 a0 k.val) := by
  rw [carry, dif_pos k.isLt]

/-- The odd tile, where there is one. -/
def odd (i : grid0.Coords) (q1 q2 : FVec F S1024x128 .bf16) (x3 : Vec F S8192x128 .bf16) (x4 : Vec F S1x16x1x128x512 .bf16)
    (a : Carry F) : Carry F :=
  if h : k0_cond1 i = 1#1 then
    full q1 q2 (View.ld x3 (Rect.unit (s := S8192x128) (k0_off9 i) S1024x128.size (k0_off9_inb i h)))
      (View.ld x4 (Rect.unit (s := S1x16x1x128x512) (k0_off10 i 0#32) S1x1x1x128x512.size (k0_off10_inb i h 0)))
      (View.ld x4 (Rect.unit (s := S1x16x1x128x512) (k0_off10 i 1#32) S1x1x1x128x512.size (k0_off10_inb i h 1))) a
  else a

/-- The query tile's own key tile, masked, then the difference of the two maps, its root-mean-square norm and gain. -/
def last (i : grid0.Coords) (x0 : Vec F S4x64 .f32) (x1 : Vec F S128x1 .f32) (q1 q2 : FVec F S1024x128 .bf16)
    (kt : Vec F S1024x128 .bf16) (u w : Vec F S1x1x1x128x512 .bf16) (a : Carry F) : FVec F S1024x128 .bf16 :=
  k0_pay1 (k0_pay94 a.1 a.2.1 (k0_pay87 q1 kt)) (k0_pay95 a.1 a.2.2.1 (k0_pay87 q1 kt) (k0_pay89 u) w)
    (k0_pay99 a.2.2.2.1 a.2.2.2.2.1 (k0_pay88 q2 kt)) (k0_pay100 a.2.2.2.1 a.2.2.2.2.2 (k0_pay88 q2 kt) (k0_pay89 u) w)
    (k0_pay102 x0) (k0_pay103 x0) (k0_pay104 x0) x1

abbrev rQ : Rect S1024x128 := Rect.unit (s := S1024x128) ![0, 0] S1024x128.size inb_S1024x128_S1024x128_0_0
abbrev rL : Rect S4x64 := Rect.unit (s := S4x64) ![0, 0] S4x64.size inb_S4x64_S4x64_0_0
abbrev rG : Rect S128x1 := Rect.unit (s := S128x1) ![0, 0] S128x1.size inb_S128x1_S128x1_0_0

/-- The value the body stores, from the blocks of its five inputs. -/
def res (i : grid0.Coords) (x0 : Vec F S4x64 .f32) (x1 : Vec F S128x1 .f32) (x2 : Vec F S1024x128 .f32)
    (x3 : Vec F S8192x128 .bf16) (x4 : Vec F S1x16x1x128x512 .bf16) : FVec F S1024x128 .bf16 :=
  last i (View.ld x0 rL) (View.ld x1 rG) (k0_pay58 (View.ld x2 rQ)) (k0_pay59 (View.ld x2 rQ))
    (View.ld x3 (Rect.unit (s := S8192x128) (k0_off11 i) S1024x128.size (k0_off11_inb i)))
    (View.ld x4 (Rect.unit (s := S1x16x1x128x512) (k0_off12 i 0#32) S1x1x1x128x512.size (k0_off12_inb i 0)))
    (View.ld x4 (Rect.unit (s := S1x16x1x128x512) (k0_off12 i 1#32) S1x1x1x128x512.size (k0_off12_inb i 1)))
    (odd i (k0_pay58 (View.ld x2 rQ)) (k0_pay59 (View.ld x2 rQ)) x3 x4 (carry i (k0_pay58 (View.ld x2 rQ)) (k0_pay59 (View.ld x2 rQ)) x3 x4 carry0 (k0_t1_loop i).trips))

/-- The result's staging buffer after the body. -/
def out0_5 (i : grid0.Coords) (x0 : Vec F S4x64 .f32) (x1 : Vec F S128x1 .f32) (x2 : Vec F S1024x128 .f32)
    (x3 : Vec F S8192x128 .bf16) (x4 : Vec F S1x16x1x128x512 .bf16) : Vec F S1024x128 .bf16 :=
  View.canon [⟨rQ, res i x0 x1 x2 x3 x4⟩]

theorem cover0_5 (p0 : Vec F S1024x128 .bf16) (y : S1024x128.Idx) :
    ∃ pc ∈ ([⟨rQ, p0⟩] : List (View.Piece (Elt F) S1024x128 .bf16)), y ∈ pc.1.set :=
  View.cover_of_tiled [⟨rQ, p0⟩] S1024x128.size (by rfl) y

/-! ## The two loops -/

/-- The second loop, the rest of the pairs, never runs. -/
theorem t2_trips (i : grid0.Coords) : (k0_t2_loop i).trips = 0 := by
  revert i; decide +kernel

set_option warn.classDefReducibility false in
/-- The loop over pairs of key tiles: before trip `k` the carried values are `carry … k`. -/
@[sl_loop] def pairs (𝒱 : Variants) (c : Dev nD) (bd : Option 𝒱.V) (E : Set ℕ) (i : grid0.Coords) (arg3 : Memref sig .tc .vmem S4x64 .f32) (harg3 : arg3.IsWhole) (arg4 : Memref sig .tc .vmem S128x1 .f32) (harg4 : arg4.IsWhole) (arg5 : Memref sig .tc .vmem S1024x128 .f32) (harg5 : arg5.IsWhole) (arg6 : Memref sig .tc .vmem S8192x128 .bf16) (harg6 : arg6.IsWhole) (arg7 : Memref sig .tc .vmem S1x16x1x128x512 .bf16) (harg7 : arg7.IsWhole) (arg8 : Memref sig .tc .vmem S1024x128 .bf16) (harg8 : arg8.IsWhole) (arg2 : BitVec 32) (q1 q2 : FVec F S1024x128 .bf16) (v13 : FVec F S1x1024 .f32) (v14 : FVec F S1x1024 .f32) (v15 : FVec F S128x1024 .f32) (c0 v37 c1 : BitVec 32) (X6 : BufTy.Contents (Elt F) arg6.view.ty) (X7 : BufTy.Contents (Elt F) arg7.view.ty) (a0 : Carry F) :
    LoopInvTy_k0_t1 (F := F) Unit ℕ (UR sig nD τ) ℕ 𝒱 c bd E i arg3 harg3 arg4 harg4 arg5 harg5 arg6 harg6 arg7 harg7 arg8 harg8 arg2 q1 q2 v13 v14 v15 c0 v37 c1 a0 where
  inv k acc := iprop((arg6.view.loc (c : Thread nD τ) ↦[arg6.view.set]{fullShare} X6) ∗ (arg7.view.loc (c : Thread nD τ) ↦[arg7.view.set]{fullShare} X7) ∗ ⌜acc = carry i q1 q2 (arg6.view.read (Elt F) X6) (arg7.view.read (Elt F) X7) a0 k⌝)
  step k acc := by
    iintro ⟨H6, H7, %h_acc⟩
    rw [carry_succ, ← h_acc]; clear h_acc
    unfold k0_t1_body
    sl_exec
    sl_step
    isplitl [H6]; · iexact H6
    isplitl [H7]; · iexact H7
    ipureintro
    rfl

set_option warn.classDefReducibility false in
/-- The second loop changes nothing. -/
@[sl_loop] def rest (𝒱 : Variants) (c : Dev nD) (bd : Option 𝒱.V) (E : Set ℕ) (i : grid0.Coords) (arg3 : Memref sig .tc .vmem S4x64 .f32) (harg3 : arg3.IsWhole) (arg4 : Memref sig .tc .vmem S128x1 .f32) (harg4 : arg4.IsWhole) (arg5 : Memref sig .tc .vmem S1024x128 .f32) (harg5 : arg5.IsWhole) (arg6 : Memref sig .tc .vmem S8192x128 .bf16) (harg6 : arg6.IsWhole) (arg7 : Memref sig .tc .vmem S1x16x1x128x512 .bf16) (harg7 : arg7.IsWhole) (arg8 : Memref sig .tc .vmem S1024x128 .bf16) (harg8 : arg8.IsWhole) (arg2 : BitVec 32) (q1 q2 : FVec F S1024x128 .bf16) (v13 : FVec F S1x1024 .f32) (v14 : FVec F S1x1024 .f32) (v15 : FVec F S128x1024 .f32) (c0 v37 c1 : BitVec 32) (a0 : Carry F) :
    LoopInvTy_k0_t2 (F := F) Unit ℕ (UR sig nD τ) ℕ 𝒱 c bd E i arg3 harg3 arg4 harg4 arg5 harg5 arg6 harg6 arg7 harg7 arg8 harg8 arg2 q1 q2 v13 v14 v15 c0 v37 c1 a0 where
  inv k acc := iprop(⌜acc = a0⌝)
  step k acc := by
    exact absurd k.isLt (by have := t2_trips i; unfold Scf.Loop.trips at this; omega)

/-! ## The body's triple -/

set_option maxHeartbeats 2000000 in
theorem sound_kernel (c : Dev nD) (E : Set ℕ) (i : grid0.Coords) (arg3 : Memref sig .tc .vmem S4x64 .f32) (harg3 : arg3.IsWhole) (arg4 : Memref sig .tc .vmem S128x1 .f32) (harg4 : arg4.IsWhole) (arg5 : Memref sig .tc .vmem S1024x128 .f32) (harg5 : arg5.IsWhole) (arg6 : Memref sig .tc .vmem S8192x128 .bf16) (harg6 : arg6.IsWhole) (arg7 : Memref sig .tc .vmem S1x16x1x128x512 .bf16) (harg7 : arg7.IsWhole) (arg8 : Memref sig .tc .vmem S1024x128 .bf16) (harg8 : arg8.IsWhole)
    (x0 : Vec F S4x64 .f32) (x1 : Vec F S128x1 .f32) (x2 : Vec F S1024x128 .f32) (x3 : Vec F S8192x128 .bf16) (x4 : Vec F S1x16x1x128x512 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out0_5 i x0 x1 x2 x3 x4)) -∗ K ⟨⟩))
      ⊢ wp frame (wpE (defs₀ (F := F)) Variants.none c none) E (cc0_attn_prompt i arg3 harg3 arg4 harg4 arg5 harg5 arg6 harg6 arg7 harg7 arg8 harg8) K := by
  by_cases c1 : k0_cond1 i = 1#1
  all_goals
    simp only [cc0_attn_prompt_eq_skeleton]; unfold cc0_attn_prompt_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    subst hf0 hf1 hf2 hf3 hf4
    sl_exec (disch := sl_exact c1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (cover0_5 _)).trans ?_
    unfold out0_5 res odd
  · rw [dif_pos c1]; rfl
  · rw [dif_neg c1]; rfl

/-! ## The pipeline's proof data, the body obligation, the launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Softmax.lean ====
/-
  The softmax of a causal row, taken tile by tile: running maximum, running sum of weights and running sum of weighted
  values, over the extended reals. `St` says what the three hold after the first `N` keys; `St.step` adds a tile of keys,
  some of them masked; `St.quot` is the quotient at the end, in which the maximum no longer occurs.
-/
module

public import Idealize.ShloMosaic.PureOps.Ideal
public import Idealize.ShloMosaic.PureOps.Ideal.Laws

@[expose] public section

noncomputable section

namespace Cert.Softmax

open Idealize.ShloMosaic
open Finset

/-- Two to the power. -/
def p2 (x : ℝ) : ℝ := Real.rpow 2 x

theorem p2_pos (x : ℝ) : 0 < p2 x := Real.rpow_pos_of_pos (by norm_num) x

theorem p2_add (x y : ℝ) : p2 (x + y) = p2 x * p2 y := Real.rpow_add (by norm_num) x y

/-- Two to the power `κ x` with `κ = (1/8) / log 2` is `e` to the power `x / 8`. -/
theorem p2_scale (x : ℝ) : p2 ((1 / 8 * (Real.log 2)⁻¹) * x) = Real.exp (x / 8) := by
  have h2 : Real.log 2 ≠ 0 := (Real.log_pos (by norm_num)).ne'
  show (2 : ℝ) ^ ((1 / 8 * (Real.log 2)⁻¹) * x) = _
  rw [Real.rpow_def_of_pos (by norm_num)]
  congr 1
  field_simp

/-- The weights of the first `N` keys, relative to `μ`, summed. -/
def den (s : ℕ → ℝ) (N : ℕ) (μ : ℝ) : ℝ := ∑ n ∈ range N, p2 (s n - μ)
/-- The weighted values of the first `N` keys, relative to `μ`, summed. -/
def num (s v : ℕ → ℝ) (N : ℕ) (μ : ℝ) : ℝ := ∑ n ∈ range N, v n * p2 (s n - μ)

/-- A finite sum of reals, taken in the extended reals. -/
theorem coe_sum {ι : Type} (t : Finset ι) (f : ι → ℝ) : ∑ k ∈ t, (f k : EReal) = ((∑ k ∈ t, f k : ℝ) : EReal) := by
  classical
  induction t using Finset.induction_on with
  | empty => simp
  | insert a t ha ih => rw [sum_insert ha, sum_insert ha, ih, EReal.coe_add]

/-- A sum over a tile of `K` keys of which the first `c` count. -/
theorem sum_tile {K c : ℕ} (hc : c ≤ K) (f : ℕ → ℝ) :
    ∑ k : Fin K, (if k.val < c then f k.val else 0) = ∑ k ∈ range c, f k := by
  rw [Fin.sum_univ_eq_sum_range (fun k => if k < c then f k else 0) K]
  rw [← sum_filter]
  congr 1
  ext k
  simp only [mem_filter, mem_range]
  omega

/-- What the three running values hold after the first `N` keys. -/
def St (s v : ℕ → ℝ) (N : ℕ) (m l A : EReal) : Prop :=
  (N = 0 ∧ m = ⊥ ∧ l = 0 ∧ A = 0) ∨ (0 < N ∧ ∃ μ : ℝ, m = μ ∧ l = (den s N μ : EReal) ∧ A = (num s v N μ : EReal))

theorem St.zero (s v : ℕ → ℝ) : St s v 0 ⊥ 0 0 := Or.inl ⟨rfl, rfl, rfl, rfl⟩

/-- The largest of a tile's scores, of which the first is a real and none is plus infinity, is a real. -/
theorem fold_max_real {K : ℕ} (t : Fin K → EReal) (ht : ∀ k, t k < ⊤) (k0 : Fin K) (h0 : ⊥ < t k0) :
    ∃ τ : ℝ, (univ : Finset (Fin K)).fold max ⊥ t = τ := by
  have hlt : (univ : Finset (Fin K)).fold max ⊥ t < ⊤ := (Finset.fold_max_lt _).2 ⟨bot_lt_top, fun k _ => ht k⟩
  have hgt : ⊥ < (univ : Finset (Fin K)).fold max ⊥ t := (Finset.lt_fold_max _).2 (Or.inr ⟨k0, mem_univ _, h0⟩)
  exact ⟨_, (EReal.coe_toReal hlt.ne hgt.ne').symm⟩

theorem den_add (s : ℕ → ℝ) (N c : ℕ) (μ μ' : ℝ) :
    den s (N + c) μ' = p2 (μ - μ') * den s N μ + ∑ k ∈ range c, p2 (s (N + k) - μ') := by
  unfold den
  rw [sum_range_add, mul_sum]
  congr 1
  refine sum_congr rfl fun n _ => ?_
  rw [← p2_add]; congr 1; ring

theorem num_add (s v : ℕ → ℝ) (N c : ℕ) (μ μ' : ℝ) :
    num s v (N + c) μ' = p2 (μ - μ') * num s v N μ + ∑ k ∈ range c, v (N + k) * p2 (s (N + k) - μ') := by
  unfold num
  rw [sum_range_add, mul_sum]
  congr 1
  refine sum_congr rfl fun n _ => ?_
  rw [mul_left_comm, ← p2_add]; congr 2; ring

/-- A tile: its scores are those of the next `c` keys, then minus infinity. -/
theorem St.step {s v : ℕ → ℝ} {N : ℕ} {m l A : EReal} (h : St s v N m l A) {K c : ℕ} (hc : c ≤ K) (hc0 : 0 < c)
    (t w : Fin K → EReal) (ht : ∀ k : Fin K, t k = if k.val < c then ((s (N + k.val) : ℝ) : EReal) else ⊥)
    (hw : ∀ k : Fin K, w k = ((v (N + k.val) : ℝ) : EReal)) (m' : EReal)
    (hm' : m' = max m ((univ : Finset (Fin K)).fold max ⊥ t)) :
    St s v (N + c) m' (Ideal.exp2 (m - m') * l + ∑ k, Ideal.exp2 (t k - m'))
      (Ideal.exp2 (m - m') * A + ∑ k, w k * Ideal.exp2 (t k - m')) := by
  obtain ⟨τ, hτ⟩ := fold_max_real t (fun k => by rw [ht]; split; exacts [EReal.coe_lt_top _, bot_lt_top]) ⟨0, by omega⟩
    (by rw [ht, if_pos hc0]; exact EReal.bot_lt_coe _)
  rw [hτ] at hm'
  obtain ⟨μ', hμ'⟩ : ∃ μ' : ℝ, m' = μ' := by
    rcases h with ⟨-, h, -, -⟩ | ⟨-, μ, h, -, -⟩
    · exact ⟨τ, by rw [hm', h]; exact max_eq_right bot_le⟩
    · exact ⟨max μ τ, by rw [hm', h]; exact (EReal.coe_strictMono.monotone.map_max).symm⟩
  clear hm'
  subst hμ'
  have et : ∀ k : Fin K, Ideal.exp2 (t k - (μ' : EReal)) = ((if k.val < c then p2 (s (N + k.val) - μ') else 0 : ℝ) : EReal) := fun k => by
    rw [ht]
    split
    · rw [← EReal.coe_sub]; rfl
    · rw [EReal.bot_sub, Ideal.exp2_bot]; rfl
  have e1 : ∑ k, Ideal.exp2 (t k - (μ' : EReal)) = ((∑ k ∈ range c, p2 (s (N + k) - μ') : ℝ) : EReal) := by
    simp only [et]
    rw [coe_sum, sum_tile hc fun k => p2 (s (N + k) - μ')]
  have e2 : ∑ k, w k * Ideal.exp2 (t k - (μ' : EReal)) = ((∑ k ∈ range c, v (N + k) * p2 (s (N + k) - μ') : ℝ) : EReal) := by
    have : ∀ k : Fin K, w k * Ideal.exp2 (t k - (μ' : EReal))
        = ((if k.val < c then v (N + k.val) * p2 (s (N + k.val) - μ') else 0 : ℝ) : EReal) := fun k => by
      rw [et, hw, ← EReal.coe_mul]
      split
      · rfl
      · rw [mul_zero]
    simp only [this]
    rw [coe_sum, sum_tile hc fun k => v (N + k) * p2 (s (N + k) - μ')]
  rw [e1, e2]
  refine Or.inr ⟨by omega, μ', rfl, ?_, ?_⟩
  · rcases h with ⟨rfl, -, rfl, -⟩ | ⟨-, μ, rfl, rfl, -⟩
    · rw [mul_zero, zero_add]; unfold den; simp only [Nat.zero_add]
    · rw [den_add s N c μ μ', EReal.coe_add, EReal.coe_mul, ← EReal.coe_sub]; rfl
  · rcases h with ⟨rfl, -, -, rfl⟩ | ⟨-, μ, rfl, -, rfl⟩
    · rw [mul_zero, zero_add]; unfold num; simp only [Nat.zero_add]
    · rw [num_add s v N c μ μ', EReal.coe_add, EReal.coe_mul, ← EReal.coe_sub]; rfl

theorem p2_sub_num (s v : ℕ → ℝ) (N : ℕ) (μ : ℝ) : num s v N μ = p2 (-μ) * num s v N 0 := by
  unfold num
  rw [mul_sum]
  refine sum_congr rfl fun n _ => ?_
  rw [mul_left_comm, ← p2_add]; congr 2; ring

theorem p2_sub_den (s : ℕ → ℝ) (N : ℕ) (μ : ℝ) : den s N μ = p2 (-μ) * den s N 0 := by
  unfold den
  rw [mul_sum]
  refine sum_congr rfl fun n _ => ?_
  rw [← p2_add]; congr 1; ring

theorem den_pos (s : ℕ → ℝ) {N : ℕ} (hN : 0 < N) (μ : ℝ) : 0 < den s N μ :=
  sum_pos (fun n _ => p2_pos _) ⟨0, mem_range.2 hN⟩

/-- The quotient at the end. -/
theorem St.quot {s v : ℕ → ℝ} {N : ℕ} {m l A : EReal} (h : St s v N m l A) (hN : 0 < N) :
    Ideal.div A l = ((num s v N 0 / den s N 0 : ℝ) : EReal) := by
  rcases h with ⟨rfl, -⟩ | ⟨-, μ, -, rfl, rfl⟩
  · omega
  · rw [Ideal.div_coe (den_pos s hN μ).ne', ← EReal.coe_mul]
    congr 1
    rw [p2_sub_num, p2_sub_den, one_div, ← div_eq_mul_inv]
    exact mul_div_mul_left _ _ (p2_pos _).ne'

/-! ## The same weights from the whole row at once -/

/-- The weight of key `n` among the first `N`. -/
def wt (x : ℕ → ℝ) (N n : ℕ) : ℝ := if n < N then Real.exp (x n / 8) / ∑ k ∈ range N, Real.exp (x k / 8) else 0

/-- A row's softmax at key `k`, from its scores with the later keys masked. -/
theorem row_softmax {K N : ℕ} (hN : N ≤ K) (hN0 : 0 < N) (x : ℕ → ℝ) (t : Fin K → EReal)
    (ht : ∀ k : Fin K, t k = if k.val < N then ((x k.val / 8 : ℝ) : EReal) else ⊥) (k : Fin K) (M Z : EReal)
    (hM : M = max ⊥ ((univ : Finset (Fin K)).fold max ⊥ t)) (hZ : Z = ∑ k, Ideal.exp (t k - M)) :
    Ideal.div (Ideal.exp (t k - M)) Z = ((wt x N k.val : ℝ) : EReal) := by
  obtain ⟨μ, hμ⟩ := fold_max_real t (fun k => by rw [ht]; split; exacts [EReal.coe_lt_top _, bot_lt_top]) ⟨0, by omega⟩
    (by rw [ht, if_pos hN0]; exact EReal.bot_lt_coe _)
  rw [hμ, max_eq_right bot_le] at hM
  subst hM
  have et : ∀ k : Fin K, Ideal.exp (t k - (μ : EReal))
      = ((if k.val < N then Real.exp (x k.val / 8 - μ) else 0 : ℝ) : EReal) := fun k => by
    rw [ht]
    split
    · rw [← EReal.coe_sub]; rfl
    · rw [EReal.bot_sub, Ideal.exp_bot]; rfl
  have hZ' : Z = ((∑ k ∈ range N, Real.exp (x k / 8 - μ) : ℝ) : EReal) := by
    rw [hZ]; simp only [et]
    rw [coe_sum, sum_tile hN fun k => Real.exp (x k / 8 - μ)]
  have hpos : 0 < ∑ k ∈ range N, Real.exp (x k / 8 - μ) := sum_pos (fun n _ => Real.exp_pos _) ⟨0, mem_range.2 hN0⟩
  rw [hZ', et, Ideal.div_coe hpos.ne', ← EReal.coe_mul]
  congr 1
  unfold wt
  split
  · have : ∑ k ∈ range N, Real.exp (x k / 8 - μ) = Real.exp (-μ) * ∑ k ∈ range N, Real.exp (x k / 8) := by
      rw [mul_sum]; refine sum_congr rfl fun n _ => ?_
      rw [← Real.exp_add]; congr 1; ring
    rw [this, sub_eq_neg_add, Real.exp_add, one_div, ← div_eq_mul_inv]
    exact mul_div_mul_left _ _ (Real.exp_pos _).ne'
  · rw [zero_mul]

/-- The tiled quotient is the weighted sum. -/
theorem quot_eq {K N : ℕ} (hN : N ≤ K) (x v : ℕ → ℝ) :
    num (fun n => (1 / 8 * (Real.log 2)⁻¹) * x n) v N 0 / den (fun n => (1 / 8 * (Real.log 2)⁻¹) * x n) N 0
      = ∑ k : Fin K, v k.val * wt x N k.val := by
  have e : ∀ k : Fin K, v k.val * wt x N k.val
      = if k.val < N then v k.val * (Real.exp (x k.val / 8) / ∑ j ∈ range N, Real.exp (x j / 8)) else 0 := fun k => by
    unfold wt
    split
    · rfl
    · rw [mul_zero]
  simp only [e]
  rw [sum_tile hN fun k => v k * (Real.exp (x k / 8) / ∑ j ∈ range N, Real.exp (x j / 8))]
  unfold num den
  simp only [sub_zero, p2_scale]
  rw [sum_div]
  refine sum_congr rfl fun n _ => ?_
  rw [mul_div_assoc]

end Cert.Softmax
-- ==== Proof.AttnTile.lean ====
/-
  What the attention kernel's blocks compute, element by element over the extended reals: scores, running maximum, running
  sum, running weighted values; and that one key tile takes the state of one query column to the next.
-/
module

public import proofs.«01_k».proof.Proof.AttnFrame
public import proofs.«01_k».proof.Proof.Softmax
public import Idealize.ShloMosaic.Lib.MatmulPlain
public import Idealize.ShloMosaic.Lib.ValueIdx
public import Idealize.ShloMosaic.Lib.ValueLayout
public import Idealize.ShloMosaic.Lib.IdealHost

@[expose] public section

set_option maxRecDepth 16384

noncomputable section

namespace Cert.KernelIdeal.Attn

open Cert.KernelIdeal Cert.KernelIdeal.Gen Cert.Softmax
open Idealize.ShloMosaic Idealize.ShloMosaic.TcCoe Idealize.ShloMosaic.ValueIdx

theorem bot_f32 : Ideal.ofBits .f32 0xFF800000#32 = ⊥ := by simp [Ideal.ofBits, Ideal.ieee]

theorem lift_1024 (c k : Fin 1024) : reduces_S1024x1024_S1024.lift (ix1 c) k = ix2 k c := by
  funext a
  apply Fin.ext
  refine (Shape.Reduces.lift_val _ _ _ _).trans ?_
  match a with
  | ⟨0, _⟩ => rfl
  | ⟨1, _⟩ => rfl

theorem lift_128 (c : Fin 1024) (k : Fin 128) : reduces_S128x1024_S1024.lift (ix1 c) k = ix2 k c := by
  funext a
  apply Fin.ext
  refine (Shape.Reduces.lift_val _ _ _ _).trans ?_
  match a with
  | ⟨0, _⟩ => rfl
  | ⟨1, _⟩ => rfl

theorem row_1024 (x : FVec Ideal S1024 .f32) (r : Fin 1) (c : Fin 1024) :
    shapeCast S1x1024 x shapeCasts_S1024_S1x1024 (ix2 r c) = x (ix1 c) :=
  shapeCast_apply x _ _ _ (by
    rw [Shape.rowMajor_val_one, Shape.rowMajor_val_two]
    show c.val = r.val * 1024 + c.val
    omega)

theorem bc_1024 (x : FVec Ideal S1x1024 .f32) (r c : Fin 1024) :
    broadcastTo S1024x1024 x broadcasts_S1x1024_S1024x1024 (ix2 r c) = x (ix2 0 c) :=
  broadcastTo_apply x _ _ _ (fun a => by match a with | ⟨0, _⟩ => rfl | ⟨1, _⟩ => rfl)

theorem bc_128 (x : FVec Ideal S1x1024 .f32) (r : Fin 128) (c : Fin 1024) :
    broadcastTo S128x1024 x broadcasts_S1x1024_S128x1024 (ix2 r c) = x (ix2 0 c) :=
  broadcastTo_apply x _ _ _ (fun a => by match a with | ⟨0, _⟩ => rfl | ⟨1, _⟩ => rfl)

/-- The new running maximum. -/
theorem pay13_at (m : FVec Ideal S1x1024 .f32) (s : FVec Ideal S1024x1024 .f32) (c : Fin 1024) :
    k0_pay13 m s (ix2 0 c) = max (m (ix2 0 c)) ((Finset.univ : Finset (Fin 1024)).fold max ⊥ fun k => s (ix2 k c)) := by
  unfold k0_pay13
  dsimp only
  rw [maximumf_apply, row_1024]
  refine congrArg _ ((Ideal.multiReduction_maximumf_single s _ reduces_S1024x1024_S1024 _ _ (ix1 c)).trans ?_)
  rw [Ideal.ofBits_def, bot_f32]
  exact congrArg (fun f => (Finset.univ : Finset (Fin 1024)).fold max ⊥ f) (funext fun k => congrArg s (lift_1024 c k))

theorem pay14_at (m : FVec Ideal S1x1024 .f32) (s : FVec Ideal S1024x1024 .f32) (c : Fin 1024) :
    k0_pay14 m s (ix2 0 c) = Ideal.exp2 (m (ix2 0 c) - k0_pay13 m s (ix2 0 c)) := rfl

theorem pay15_at (m : FVec Ideal S1x1024 .f32) (s : FVec Ideal S1024x1024 .f32) (k c : Fin 1024) :
    k0_pay15 m s (ix2 k c) = Ideal.exp2 (s (ix2 k c) - k0_pay13 m s (ix2 0 c)) := by
  unfold k0_pay15
  show Ideal.exp2 (s (ix2 k c) - broadcastTo S1024x1024 (k0_pay13 m s) broadcasts_S1x1024_S1024x1024 (ix2 k c)) = _
  rw [bc_1024]

/-- The new running sum. -/
theorem pay16_at (m l : FVec Ideal S1x1024 .f32) (s : FVec Ideal S1024x1024 .f32) (c : Fin 1024) :
    k0_pay16 m l s (ix2 0 c) = Ideal.exp2 (m (ix2 0 c) - k0_pay13 m s (ix2 0 c)) * l (ix2 0 c)
      + ∑ k : Fin 1024, Ideal.exp2 (s (ix2 k c) - k0_pay13 m s (ix2 0 c)) := by
  unfold k0_pay16
  dsimp only
  rw [addf_apply, mulf_apply, pay14_at, row_1024]
  refine congrArg _ ((Ideal.multiReduction_add_single (k0_pay15 m s) _ reduces_S1024x1024_S1024 _ _ (ix1 c)).trans ?_)
  refine Finset.sum_congr rfl fun k _ => ?_
  exact (congrArg (k0_pay15 m s) (lift_1024 c k)).trans (pay15_at m s k c)

/-- The new running weighted values. -/
theorem pay17_at (m : FVec Ideal S1x1024 .f32) (a : FVec Ideal S128x1024 .f32) (s : FVec Ideal S1024x1024 .f32)
    (w : FVec Ideal S128x1024 .bf16) (e : Fin 128) (c : Fin 1024) :
    k0_pay17 m a s w (ix2 e c) = Ideal.exp2 (m (ix2 0 c) - k0_pay13 m s (ix2 0 c)) * a (ix2 e c)
      + ∑ k : Fin 1024, w (ix2 e k) * Ideal.exp2 (s (ix2 k c) - k0_pay13 m s (ix2 0 c)) := by
  unfold k0_pay17
  rw [addf_apply, mulf_apply, bc_128, pay14_at]
  refine congrArg _ ((Ideal.matmul_plain_apply (M := 128) (K := 1024) (N := 1024) none w
    (truncf .bf16 (k0_pay15 m s) bitsLt_bf16_f32) _ e c).trans ?_)
  rw [constant_apply, Ideal.ofBits_zero_f32, zero_add]
  refine Finset.sum_congr rfl fun k _ => ?_
  rw [truncf_apply, pay15_at]

/-- A score: key row times query row. -/
theorem pay4_at (q : FVec Ideal S1024x128 .bf16) (kt : Vec Ideal S1024x128 .bf16) (k c : Fin 1024) :
    k0_pay4 q kt (ix2 k c) = ∑ d : Fin 128, (kt (ix2 k d) : EReal) * q (ix2 c d) := by
  unfold k0_pay4 k0_pay2
  dsimp only
  rw [shapeCast_self]
  refine (Ideal.matmul_transposedRhs_apply (M := 1024) (K := 128) (N := 1024) none kt q _ k c).trans ?_
  rw [constant_apply, Ideal.ofBits_zero_f32, zero_add]

theorem pay86_at (k c : Fin 1024) : k0_pay86 (ix2 k c) = if k.val ≤ c.val then 1#1 else 0#1 := by
  show IntOp.cmpi .sle (BitVec.ofNat 32 (0 * 1024 + k.val)) (BitVec.ofNat 32 (0 * 1024 + c.val)) = _
  rw [zero_mul, zero_add, zero_add]
  have hk := k.isLt
  have hc := c.isLt
  have ek : (BitVec.ofNat 32 k.val).toInt = k.val := by
    rw [BitVec.toInt_eq_toNat_of_lt (by rw [BitVec.toNat_ofNat]; omega), BitVec.toNat_ofNat, Nat.mod_eq_of_lt (by omega)]
  have ec : (BitVec.ofNat 32 c.val).toInt = c.val := by
    rw [BitVec.toInt_eq_toNat_of_lt (by rw [BitVec.toNat_ofNat]; omega), BitVec.toNat_ofNat, Nat.mod_eq_of_lt (by omega)]
  simp only [IntOp.cmpi, BitVec.sle, ek, ec]
  by_cases h : k.val ≤ c.val
  · simp [h]
  · simp [h]

/-- A masked score. -/
theorem pay87_at (q : FVec Ideal S1024x128 .bf16) (kt : Vec Ideal S1024x128 .bf16) (k c : Fin 1024) :
    k0_pay87 q kt (ix2 k c) = if k.val < c.val + 1 then k0_pay4 q kt (ix2 k c) else ⊥ := by
  show (if k0_pay86 (ix2 k c) = 1#1 then k0_pay4 q kt (ix2 k c) else Ideal.ofBits .f32 0xFF800000#32) = _
  rw [pay86_at, bot_f32]
  by_cases h : k.val ≤ c.val
  · rw [if_pos h, if_pos rfl, if_pos (by omega)]
  · rw [if_neg h, if_neg (by decide), if_neg (by omega)]

theorem vcast_at (u : Vec Ideal S1x1x1x128x512 .bf16) (e : Fin 128) (j : Fin 512) :
    shapeCast S128x512 u shapeCasts_S1x1x1x128x512_S128x512 (ix2 e j) = u (ix5 0 0 0 e j) :=
  shapeCast_apply u _ _ _ (by
    rw [Shape.rowMajor_val_five, Shape.rowMajor_val_two]
    show (((0 * 1 + 0) * 1 + 0) * 128 + e.val) * 512 + j.val = e.val * 512 + j.val
    omega)

/-- The two halves of a value tile. -/
theorem pay5_at (u w : Vec Ideal S1x1x1x128x512 .bf16) (e : Fin 128) (j : Fin 1024) :
    k0_pay5 u w (ix2 e j) = if h : j.val < 512 then u (ix5 0 0 0 e ⟨j.val, h⟩) else w (ix5 0 0 0 e ⟨j.val - 512, by omega⟩) := by
  unfold k0_pay5
  split
  · rename_i h
    rw [concatenate_pair_apply_left (t := S128x1024) (s₁ := S128x512) (s₂ := S128x512) 1 _ _ _ _ rfl (ix2 e ⟨j.val, h⟩) (fun b => by
      match b with | ⟨0, _⟩ => rfl | ⟨1, _⟩ => rfl)]
    exact vcast_at u e _
  · rename_i h
    rw [concatenate_pair_apply_right (t := S128x1024) (s₁ := S128x512) (s₂ := S128x512) 1 _ _ _ _ rfl rfl (ix2 e ⟨j.val - 512, by omega⟩) (fun b hb => by
      match b with | ⟨0, _⟩ => rfl | ⟨1, _⟩ => exact absurd rfl hb) (by show j.val - 512 + 512 = j.val; omega)]
    exact vcast_at w e _

/-! ## One column's state -/

/-- The state of query column `c` and value row `e`: for both maps, what the running values hold after `N` keys. -/
def Col (s1 s2 v : ℕ → ℝ) (N : ℕ) (c : Fin 1024) (e : Fin 128) (a : Carry Ideal) : Prop :=
  St s1 v N (a.1 (ix2 0 c)) (a.2.1 (ix2 0 c)) (a.2.2.1 (ix2 e c))
    ∧ St s2 v N (a.2.2.2.1 (ix2 0 c)) (a.2.2.2.2.1 (ix2 0 c)) (a.2.2.2.2.2 (ix2 e c))

theorem Col.zero (s1 s2 v : ℕ → ℝ) (c : Fin 1024) (e : Fin 128) : Col s1 s2 v 0 c e carry0 := by
  have h : St s1 v 0 (k0_pay60 (F := Ideal) (ix2 0 c)) (k0_pay61 (F := Ideal) (ix2 0 c)) (k0_pay62 (F := Ideal) (ix2 e c)) :=
    Or.inl ⟨rfl, bot_f32, Ideal.ofBits_zero_f32, Ideal.ofBits_zero_f32⟩
  have h' : St s2 v 0 (k0_pay60 (F := Ideal) (ix2 0 c)) (k0_pay61 (F := Ideal) (ix2 0 c)) (k0_pay62 (F := Ideal) (ix2 e c)) :=
    Or.inl ⟨rfl, bot_f32, Ideal.ofBits_zero_f32, Ideal.ofBits_zero_f32⟩
  exact ⟨h, h'⟩

/-- One map, one tile. -/
theorem St.tile {s v : ℕ → ℝ} {N : ℕ} {c : Fin 1024} {e : Fin 128} {m l : FVec Ideal S1x1024 .f32} {A : FVec Ideal S128x1024 .f32}
    (h : St s v N (m (ix2 0 c)) (l (ix2 0 c)) (A (ix2 e c))) (t : FVec Ideal S1024x1024 .f32) (w : FVec Ideal S128x1024 .bf16)
    (n : ℕ) (hn : n ≤ 1024) (hn0 : 0 < n)
    (ht : ∀ k : Fin 1024, t (ix2 k c) = if k.val < n then ((s (N + k.val) : ℝ) : EReal) else ⊥)
    (hw : ∀ k : Fin 1024, w (ix2 e k) = ((v (N + k.val) : ℝ) : EReal)) :
    St s v (N + n) (k0_pay13 m t (ix2 0 c)) (k0_pay16 m l t (ix2 0 c)) (k0_pay17 m A t w (ix2 e c)) := by
  rw [pay16_at, pay17_at]
  exact h.step hn hn0 (fun k => t (ix2 k c)) (fun k => w (ix2 e k)) ht hw _ (pay13_at m t c)

theorem Col.full {s1 s2 v : ℕ → ℝ} {N : ℕ} {c : Fin 1024} {e : Fin 128} {a : Carry Ideal} (h : Col s1 s2 v N c e a)
    (q1 q2 : FVec Ideal S1024x128 .bf16) (kt : Vec Ideal S1024x128 .bf16) (u w : Vec Ideal S1x1x1x128x512 .bf16)
    (h1 : ∀ k : Fin 1024, k0_pay4 q1 kt (ix2 k c) = ((s1 (N + k.val) : ℝ) : EReal))
    (h2 : ∀ k : Fin 1024, k0_pay4 q2 kt (ix2 k c) = ((s2 (N + k.val) : ℝ) : EReal))
    (hv : ∀ k : Fin 1024, k0_pay5 u w (ix2 e k) = ((v (N + k.val) : ℝ) : EReal)) :
    Col s1 s2 v (N + 1024) c e (full q1 q2 kt u w a) :=
  ⟨St.tile h.1 _ _ 1024 le_rfl (by norm_num) (fun k => by rw [h1, if_pos k.isLt]) hv,
    St.tile h.2 _ _ 1024 le_rfl (by norm_num) (fun k => by rw [h2, if_pos k.isLt]) hv⟩

/-- The last, masked tile: both quotients. -/
theorem Col.last {s1 s2 v : ℕ → ℝ} {N : ℕ} {c : Fin 1024} {e : Fin 128} {a : Carry Ideal} (h : Col s1 s2 v N c e a)
    (q1 q2 : FVec Ideal S1024x128 .bf16) (kt : Vec Ideal S1024x128 .bf16) (u w : Vec Ideal S1x1x1x128x512 .bf16)
    (h1 : ∀ k : Fin 1024, k0_pay4 q1 kt (ix2 k c) = ((s1 (N + k.val) : ℝ) : EReal))
    (h2 : ∀ k : Fin 1024, k0_pay4 q2 kt (ix2 k c) = ((s2 (N + k.val) : ℝ) : EReal))
    (hv : ∀ k : Fin 1024, k0_pay5 u w (ix2 e k) = ((v (N + k.val) : ℝ) : EReal)) :
    Ideal.div (k0_pay95 a.1 a.2.2.1 (k0_pay87 q1 kt) (k0_pay89 u) w (ix2 e c)) (k0_pay94 a.1 a.2.1 (k0_pay87 q1 kt) (ix2 0 c))
        = ((num s1 v (N + (c.val + 1)) 0 / den s1 (N + (c.val + 1)) 0 : ℝ) : EReal)
      ∧ Ideal.div (k0_pay100 a.2.2.2.1 a.2.2.2.2.2 (k0_pay88 q2 kt) (k0_pay89 u) w (ix2 e c))
          (k0_pay99 a.2.2.2.1 a.2.2.2.2.1 (k0_pay88 q2 kt) (ix2 0 c))
        = ((num s2 v (N + (c.val + 1)) 0 / den s2 (N + (c.val + 1)) 0 : ℝ) : EReal) :=
  ⟨(St.tile h.1 (k0_pay87 q1 kt) (k0_pay5 u w) (c.val + 1) (by omega) (by omega)
      (fun k => by rw [pay87_at, h1]) hv).quot (by omega),
    (St.tile h.2 (k0_pay87 q2 kt) (k0_pay5 u w) (c.val + 1) (by omega) (by omega)
      (fun k => by rw [pay87_at, h2]) hv).quot (by omega)⟩

end Cert.KernelIdeal.Attn
-- ==== Proof.AttnVal.lean ====
/-
  The block the attention kernel leaves, element by element: where its tiles start, its scores in terms of the query and key
  numbers, and the quotient of each map as the softmax-weighted sum over the keys up to the query.
-/
module

public import proofs.«01_k».proof.Proof.AttnTile

@[expose] public section

set_option maxRecDepth 16384

noncomputable section

namespace Cert.KernelIdeal.Attn

open Cert.KernelIdeal Cert.KernelIdeal.Gen Cert.Softmax
open Idealize.ShloMosaic Idealize.ShloMosaic.TcCoe Idealize.ShloMosaic.ValueIdx

/-! ## Where the tiles start -/

theorem trips_eq : ∀ i : grid0.Coords, (k0_t1_loop i).trips = (i 2).val / 2 := by decide +kernel
theorem cond1_eq : ∀ i : grid0.Coords, k0_cond1 i = 1#1 ↔ (i 2).val % 2 = 1 := by decide +kernel
theorem off1_eq : ∀ (i : grid0.Coords) (k : Fin (k0_t1_loop i).trips), k0_off1 i k = ![2 * k.val * 1024, 0] := by decide +kernel
theorem off3_eq : ∀ (i : grid0.Coords) (k : Fin (k0_t1_loop i).trips), k0_off3 i k = ![(2 * k.val + 1) * 1024, 0] := by decide +kernel
theorem off2_eq : ∀ (i : grid0.Coords) (k : Fin (k0_t1_loop i).trips), k0_off2 i k 0#32 = ![0, 4 * k.val, 0, 0, 0] ∧ k0_off2 i k 1#32 = ![0, 4 * k.val + 1, 0, 0, 0] := by decide +kernel
theorem off4_eq : ∀ (i : grid0.Coords) (k : Fin (k0_t1_loop i).trips), k0_off4 i k 0#32 = ![0, 4 * k.val + 2, 0, 0, 0] ∧ k0_off4 i k 1#32 = ![0, 4 * k.val + 3, 0, 0, 0] := by decide +kernel
theorem off9_eq : ∀ i : grid0.Coords, k0_cond1 i = 1#1 → k0_off9 i = ![((i 2).val - 1) * 1024, 0] := by decide +kernel
theorem off10_eq : ∀ i : grid0.Coords, k0_cond1 i = 1#1 → k0_off10 i 0#32 = ![0, 2 * ((i 2).val - 1), 0, 0, 0] ∧ k0_off10 i 1#32 = ![0, 2 * ((i 2).val - 1) + 1, 0, 0, 0] := by decide +kernel
theorem off11_eq : ∀ i : grid0.Coords, k0_off11 i = ![(i 2).val * 1024, 0] := by decide +kernel
theorem off12_eq : ∀ i : grid0.Coords, k0_off12 i 0#32 = ![0, 2 * (i 2).val, 0, 0, 0] ∧ k0_off12 i 1#32 = ![0, 2 * (i 2).val + 1, 0, 0, 0] := by decide +kernel

/-! ## Reading a tile -/

/-- A key tile starting at row `o`. -/
theorem ktile (x3 : Vec Ideal S8192x128 .bf16) (off : Fin 2 → ℕ) (o : ℕ) (h) (ho : off = ![o, 0]) (k : Fin 1024) (d : Fin 128)
    (hk : o + k.val < 8192) :
    View.ld x3 (Rect.unit (s := S8192x128) off S1024x128.size h) (ix2 k d) = x3 (ix2 ⟨o + k.val, hk⟩ d) := by
  subst ho
  refine congrArg x3 (funext fun a => Fin.ext ?_)
  match a with
  | ⟨0, _⟩ => show o + 1 * k.val = o + k.val; omega
  | ⟨1, _⟩ => show 0 + 1 * d.val = d.val; omega

/-- A half value tile, number `b`. -/
theorem vtile (x4 : Vec Ideal S1x16x1x128x512 .bf16) (off : Fin 5 → ℕ) (b : ℕ) (h) (ho : off = ![0, b, 0, 0, 0]) (e : Fin 128) (j : Fin 512)
    (hb : b < 16) :
    View.ld x4 (Rect.unit (s := S1x16x1x128x512) off S1x1x1x128x512.size h) (ix5 0 0 0 e j) = x4 (ix5 0 ⟨b, hb⟩ 0 e j) := by
  subst ho
  refine congrArg x4 (funext fun a => Fin.ext ?_)
  match a with
  | ⟨0, _⟩ => rfl
  | ⟨1, _⟩ => show b + 1 * 0 = b; omega
  | ⟨2, _⟩ => rfl
  | ⟨3, _⟩ => show 0 + 1 * e.val = e.val; omega
  | ⟨4, _⟩ => show 0 + 1 * j.val = j.val; omega

theorem toInt_small (n : ℕ) (h : n < 1024) : (BitVec.ofNat 32 n).toInt = n := by
  rw [BitVec.toInt_eq_toNat_of_lt (by rw [BitVec.toNat_ofNat]; omega), BitVec.toNat_ofNat, Nat.mod_eq_of_lt (by omega)]

/-- The scale of the scores. -/
abbrev kap : ℝ := 1 / 8 * (Real.log 2)⁻¹

theorem pay56_at (x : Vec Ideal S1024x128 .f32) (c : Fin 1024) (d : Fin 128) :
    k0_pay56 x (ix2 c d) = x (ix2 c d) * ((kap : ℝ) : EReal) := by
  unfold k0_pay56
  rw [shapeCast_self]
  rfl

/-- The queries of the first map: the first 64 lanes, scaled. -/
theorem pay58_at (x : Vec Ideal S1024x128 .f32) (c : Fin 1024) (d : Fin 128) :
    k0_pay58 x (ix2 c d) = if d.val < 64 then x (ix2 c d) * ((kap : ℝ) : EReal) else 0 := by
  have e : k0_pay58 x (ix2 c d) = if IntOp.cmpi .slt (BitVec.ofNat 32 (0 * 128 + d.val)) 64#32 = 1#1 then k0_pay56 x (ix2 c d)
      else Ideal.ofBits .bf16 0x0000#16 := rfl
  have h64 : (64#32 : BitVec 32).toInt = 64 := by decide
  rw [e, pay56_at, Ideal.ofBits_zero_bf16, zero_mul, zero_add]
  simp only [IntOp.cmpi, BitVec.slt, toInt_small d.val (by omega), h64]
  by_cases h : d.val < 64
  · rw [if_pos h, if_pos (by rw [decide_eq_true (by exact_mod_cast h)]; rfl)]
  · rw [if_neg h, if_neg (by rw [decide_eq_false (by exact_mod_cast h)]; decide)]

/-- The queries of the second map: the last 64 lanes, scaled. -/
theorem pay59_at (x : Vec Ideal S1024x128 .f32) (c : Fin 1024) (d : Fin 128) :
    k0_pay59 x (ix2 c d) = if d.val < 64 then 0 else x (ix2 c d) * ((kap : ℝ) : EReal) := by
  have e : k0_pay59 x (ix2 c d) = if IntOp.cmpi .sge (BitVec.ofNat 32 (0 * 128 + d.val)) 64#32 = 1#1 then k0_pay56 x (ix2 c d)
      else Ideal.ofBits .bf16 0x0000#16 := rfl
  have h64 : (64#32 : BitVec 32).toInt = 64 := by decide
  rw [e, pay56_at, Ideal.ofBits_zero_bf16, zero_mul, zero_add]
  simp only [IntOp.cmpi, BitVec.sle, toInt_small d.val (by omega), h64]
  by_cases h : d.val < 64
  · rw [if_pos h, if_neg (by rw [decide_eq_false (by have : (d.val : ℤ) < 64 := by exact_mod_cast h
                                                     omega)]; decide)]
  · rw [if_neg h, if_pos (by rw [decide_eq_true (by have : ¬ (d.val : ℤ) < 64 := by exact_mod_cast h
                                                    omega)]; rfl)]

def lo (d : Fin 64) : Fin 128 := ⟨d.val, by omega⟩
def hi (d : Fin 64) : Fin 128 := ⟨64 + d.val, by omega⟩

theorem sum_halves (f : Fin 128 → EReal) : ∑ d, f d = ∑ d, f (lo d) + ∑ d, f (hi d) := by
  exact Fin.sum_univ_add (a := 64) (b := 64) f

/-- The score of two rows, before scaling: their product over 64 lanes. -/
def dot (h : Fin 64 → Fin 128) (q k : Fin 128 → ℝ) : ℝ := ∑ d : Fin 64, q (h d) * k (h d)

theorem score1 (x : Vec Ideal S1024x128 .f32) (kt : Vec Ideal S1024x128 .bf16) (q k : Fin 128 → ℝ) (r c : Fin 1024)
    (hq : ∀ d, x (ix2 c d) = ((q d : ℝ) : EReal)) (hk : ∀ d, kt (ix2 r d) = ((k d : ℝ) : EReal)) :
    k0_pay4 (k0_pay58 x) kt (ix2 r c) = ((kap * dot lo q k : ℝ) : EReal) := by
  rw [pay4_at, sum_halves]
  have e1 : ∀ d : Fin 64, (kt (ix2 r (lo d)) : EReal) * k0_pay58 x (ix2 c (lo d)) = ((kap * (q (lo d) * k (lo d)) : ℝ) : EReal) := fun d => by
    rw [pay58_at, if_pos (show (lo d).val < 64 from d.isLt), hq, hk, ← EReal.coe_mul, ← EReal.coe_mul]; congr 1; ring
  have e2 : ∀ d : Fin 64, (kt (ix2 r (hi d)) : EReal) * k0_pay58 x (ix2 c (hi d)) = 0 := fun d => by
    rw [pay58_at, if_neg (show ¬ (hi d).val < 64 by show ¬ 64 + d.val < 64; omega), mul_zero]
  simp only [e1, e2]
  rw [Finset.sum_const_zero, add_zero, coe_sum]
  unfold dot
  rw [Finset.mul_sum]

theorem score2 (x : Vec Ideal S1024x128 .f32) (kt : Vec Ideal S1024x128 .bf16) (q k : Fin 128 → ℝ) (r c : Fin 1024)
    (hq : ∀ d, x (ix2 c d) = ((q d : ℝ) : EReal)) (hk : ∀ d, kt (ix2 r d) = ((k d : ℝ) : EReal)) :
    k0_pay4 (k0_pay59 x) kt (ix2 r c) = ((kap * dot hi q k : ℝ) : EReal) := by
  rw [pay4_at, sum_halves]
  have e1 : ∀ d : Fin 64, (kt (ix2 r (hi d)) : EReal) * k0_pay59 x (ix2 c (hi d)) = ((kap * (q (hi d) * k (hi d)) : ℝ) : EReal) := fun d => by
    rw [pay59_at, if_neg (show ¬ (hi d).val < 64 by show ¬ 64 + d.val < 64; omega), hq, hk, ← EReal.coe_mul, ← EReal.coe_mul]; congr 1; ring
  have e2 : ∀ d : Fin 64, (kt (ix2 r (lo d)) : EReal) * k0_pay59 x (ix2 c (lo d)) = 0 := fun d => by
    rw [pay59_at, if_pos (show (lo d).val < 64 from d.isLt), mul_zero]
  simp only [e1, e2]
  rw [Finset.sum_const_zero, zero_add, coe_sum]
  unfold dot
  rw [Finset.mul_sum]

/-! ## The running state up to the query's own tile -/

section Block

variable (i : grid0.Coords) (x2 : Vec Ideal S1024x128 .f32) (x3 : Vec Ideal S8192x128 .bf16) (x4 : Vec Ideal S1x16x1x128x512 .bf16)
  (q : Fin 128 → ℝ) (K : ℕ → Fin 128 → ℝ) (v : ℕ → ℝ) (c : Fin 1024) (e : Fin 128)
  (hq : ∀ d, x2 (ix2 c d) = ((q d : ℝ) : EReal))
  (hK : ∀ (n : Fin 8192) (d : Fin 128), x3 (ix2 n d) = ((K n.val d : ℝ) : EReal))
  (hV : ∀ (b : Fin 16) (j : Fin 512), x4 (ix5 0 b 0 e j) = ((v (512 * b.val + j.val) : ℝ) : EReal))

/-- The two maps' scaled scores against key `n`. -/
def sc (h : Fin 64 → Fin 128) (q : Fin 128 → ℝ) (K : ℕ → Fin 128 → ℝ) (n : ℕ) : ℝ := kap * dot h q (K n)

include hV in
theorem vals (N b : ℕ) (hN : N = 512 * b) (hb : b + 1 < 16) (o0 o1 : Fin 5 → ℕ) (h0 h1)
    (e0 : o0 = ![0, b, 0, 0, 0]) (e1 : o1 = ![0, b + 1, 0, 0, 0]) (k : Fin 1024) :
    k0_pay5 (View.ld x4 (Rect.unit (s := S1x16x1x128x512) o0 S1x1x1x128x512.size h0))
      (View.ld x4 (Rect.unit (s := S1x16x1x128x512) o1 S1x1x1x128x512.size h1)) (ix2 e k) = ((v (N + k.val) : ℝ) : EReal) := by
  rw [pay5_at]
  split
  · rw [vtile x4 o0 b h0 e0 e _ (by omega), hV]
    congr 2; dsimp only; omega
  · rw [vtile x4 o1 (b + 1) h1 e1 e _ (by omega), hV]
    congr 2; dsimp only; omega

include hq hK hV in
theorem step_full (N b : ℕ) (hN : N = 512 * b) (hb : b + 1 < 16) (a : Carry Ideal) (ha : Col (sc lo q K) (sc hi q K) v N c e a)
    (o : Fin 2 → ℕ) (h) (eo : o = ![N, 0]) (o0 o1 : Fin 5 → ℕ) (h0 h1)
    (e0 : o0 = ![0, b, 0, 0, 0]) (e1 : o1 = ![0, b + 1, 0, 0, 0]) :
    Col (sc lo q K) (sc hi q K) v (N + 1024) c e
      (full (k0_pay58 x2) (k0_pay59 x2) (View.ld x3 (Rect.unit (s := S8192x128) o S1024x128.size h))
        (View.ld x4 (Rect.unit (s := S1x16x1x128x512) o0 S1x1x1x128x512.size h0))
        (View.ld x4 (Rect.unit (s := S1x16x1x128x512) o1 S1x1x1x128x512.size h1)) a) := by
  refine ha.full _ _ _ _ _ (fun k => ?_) (fun k => ?_) (vals x4 v e hV N b hN hb o0 o1 h0 h1 e0 e1)
  · exact score1 x2 _ q (K (N + k.val)) k c hq (fun d => by rw [ktile x3 o N h eo k d (by omega), hK])
  · exact score2 x2 _ q (K (N + k.val)) k c hq (fun d => by rw [ktile x3 o N h eo k d (by omega), hK])

include hq hK hV in
theorem col_carry (k : ℕ) (hk : k ≤ (k0_t1_loop i).trips) :
    Col (sc lo q K) (sc hi q K) v (2048 * k) c e (carry i (k0_pay58 x2) (k0_pay59 x2) x3 x4 carry0 k) := by
  induction k with
  | zero => exact Col.zero _ _ _ c e
  | succ k ih =>
    have hlt : k < (k0_t1_loop i).trips := hk
    have h8 : (i 2).val < 8 := (i 2).isLt
    have ht := trips_eq i
    have hs := carry_succ i (k0_pay58 x2) (k0_pay59 x2) x3 x4 carry0 ⟨k, hlt⟩
    dsimp only at hs
    rw [hs]
    unfold trip
    have h1 := step_full x2 x3 x4 q K v c e hq hK hV (2048 * k) (4 * k) (by omega) (by omega) _ (ih hlt.le)
      _ (k0_off1_inb i ⟨k, hlt⟩) ((off1_eq i ⟨k, hlt⟩).trans (by show ![2 * k * 1024, 0] = ![2048 * k, 0]; congr 1; omega))
      _ _ (k0_off2_inb i ⟨k, hlt⟩ 0) (k0_off2_inb i ⟨k, hlt⟩ 1) (off2_eq i ⟨k, hlt⟩).1 (off2_eq i ⟨k, hlt⟩).2
    have h2 := step_full x2 x3 x4 q K v c e hq hK hV (2048 * k + 1024) (4 * k + 2) (by omega) (by omega) _ h1
      _ (k0_off3_inb i ⟨k, hlt⟩) ((off3_eq i ⟨k, hlt⟩).trans (by show ![(2 * k + 1) * 1024, 0] = ![2048 * k + 1024, 0]; congr 1; omega))
      _ _ (k0_off4_inb i ⟨k, hlt⟩ 0) (k0_off4_inb i ⟨k, hlt⟩ 1) (off4_eq i ⟨k, hlt⟩).1 (off4_eq i ⟨k, hlt⟩).2
    rw [show 2048 * (k + 1) = 2048 * k + 1024 + 1024 by omega]
    exact h2

include hq hK hV in
theorem col_odd :
    Col (sc lo q K) (sc hi q K) v (1024 * (i 2).val) c e
      (odd i (k0_pay58 x2) (k0_pay59 x2) x3 x4 (carry i (k0_pay58 x2) (k0_pay59 x2) x3 x4 carry0 (k0_t1_loop i).trips)) := by
  have h8 : (i 2).val < 8 := (i 2).isLt
  have ht := trips_eq i
  have hc := col_carry i x2 x3 x4 q K v c e hq hK hV _ (le_refl (k0_t1_loop i).trips)
  unfold odd
  split
  · rename_i h1
    have hm := (cond1_eq i).1 h1
    rw [show 2048 * (k0_t1_loop i).trips = 1024 * ((i 2).val - 1) by omega] at hc
    have := step_full x2 x3 x4 q K v c e hq hK hV (1024 * ((i 2).val - 1)) (2 * ((i 2).val - 1)) (by omega) (by omega) _ hc
      _ (k0_off9_inb i h1) ((off9_eq i h1).trans (by rw [Nat.mul_comm]))
      _ _ (k0_off10_inb i h1 0) (k0_off10_inb i h1 1) (off10_eq i h1).1 (off10_eq i h1).2
    rw [show 1024 * (i 2).val = 1024 * ((i 2).val - 1) + 1024 by omega]
    exact this
  · rename_i h1
    have hm := mt (cond1_eq i).2 h1
    rw [show 1024 * (i 2).val = 2048 * (k0_t1_loop i).trips by omega]
    exact hc

/-- One map of the block: the sum over all keys of the value by its weight among the keys up to the query. -/
def att (h : Fin 64 → Fin 128) (q : Fin 128 → ℝ) (K : ℕ → Fin 128 → ℝ) (v : ℕ → ℝ) (N : ℕ) : ℝ :=
  ∑ k : Fin 8192, v k.val * wt (fun n => dot h q (K n)) N k.val

end Block

/-! ## The end of the body -/

/-- The factor of the second map. -/
def lam (a b d f : Fin 64 → EReal) : EReal :=
  Ideal.exp (∑ j, a j * b j) - Ideal.exp (∑ j, d j * f j) + Ideal.ofBits .f32 0x3E4CCCCD#32

/-- Root-mean-square norm over 128 values, gain, and the factor 0.8. -/
def rms (g : EReal) (o : Fin 128 → EReal) (e : Fin 128) : EReal :=
  o e * Ideal.rsqrt (Ideal.div (∑ e', o e' * o e') (Ideal.ofBits .f32 0x43000000#32) + Ideal.ofBits .f32 0x3727C5AC#32) * g
    * Ideal.ofBits .f32 0x3F4CCCCD#32

theorem lift_64 (k : Fin 64) : reduces_S1x64_S1.lift (ix1 (0 : Fin 1)) k = ix2 0 k := by
  funext a
  apply Fin.ext
  refine (Shape.Reduces.lift_val _ _ _ _).trans ?_
  match a with
  | ⟨0, _⟩ => rfl
  | ⟨1, _⟩ => rfl

theorem one_1 (x : FVec Ideal S1 .f32) : shapeCast S1x1 x shapeCasts_S1_S1x1 (ix2 0 0) = x (ix1 0) :=
  shapeCast_apply x _ _ _ (by rw [Shape.rowMajor_val_one, Shape.rowMajor_val_two]; rfl)

theorem row_sum (x : FVec Ideal S1x64 .f32) :
    shapeCast S1x1 (multiReduction .add [1] S1 x 0x00000000#32 reduces_S1x64_S1 (.inl rfl) rfl) shapeCasts_S1_S1x1 (ix2 0 0)
      = ∑ j : Fin 64, x (ix2 0 j) := by
  rw [one_1]
  refine (Ideal.multiReduction_add_single x _ reduces_S1x64_S1 _ _ (ix1 0)).trans ?_
  exact Finset.sum_congr rfl fun k _ => congrArg x (lift_64 k)

theorem lam_row (x0 : Vec Ideal S4x64 .f32) (r : ℕ) (h : S4x64.Slices ![r, 0] S1x64) (hr : r < 4) (j : Fin 64) :
    extractStridedSlice S1x64 ![r, 0] (k0_pay101 x0) h (ix2 0 j) = x0 (ix2 ⟨r, hr⟩ j) := by
  unfold k0_pay101
  dsimp only
  rw [shapeCast_self]
  refine extractStridedSlice_apply _ x0 h (ix2 0 j) (ix2 ⟨r, hr⟩ j) (fun a => ?_)
  match a with
  | ⟨0, _⟩ => rfl
  | ⟨1, _⟩ => show j.val = 0 + j.val; omega

theorem pay102_at (x0 : Vec Ideal S4x64 .f32) : k0_pay102 x0 (ix2 0 0) = ∑ j : Fin 64, (x0 (ix2 0 j) : EReal) * x0 (ix2 1 j) := by
  unfold k0_pay102
  dsimp only
  rw [row_sum]
  refine Finset.sum_congr rfl fun j _ => ?_
  rw [mulf_apply, lam_row x0 0 _ (by omega) j, lam_row x0 1 _ (by omega) j]
  rfl

theorem bc_11 (x : FVec Ideal S1x1 .f32) (r : Fin 128) (c : Fin 1024) :
    broadcastTo S128x1024 x broadcasts_S1x1_S128x1024 (ix2 r c) = x (ix2 0 0) :=
  broadcastTo_apply x _ _ _ (fun a => by match a with | ⟨0, _⟩ => rfl | ⟨1, _⟩ => rfl)

theorem bc_g (x : FVec Ideal S128x1 .f32) (r : Fin 128) (c : Fin 1024) :
    broadcastTo S128x1024 x broadcasts_S128x1_S128x1024 (ix2 r c) = x (ix2 r 0) :=
  broadcastTo_apply x _ _ _ (fun a => by match a with | ⟨0, _⟩ => rfl | ⟨1, _⟩ => rfl)

/-- The tail of the body at query column `c` and value row `e`. -/
theorem pay1_at (l1 l2 : FVec Ideal S1x1024 .f32) (A1 A2 : FVec Ideal S128x1024 .f32) (x0 : Vec Ideal S4x64 .f32) (g : Vec Ideal S128x1 .f32)
    (c : Fin 1024) (e : Fin 128) :
    k0_pay1 l1 A1 l2 A2 (k0_pay102 x0) (k0_pay103 x0) (k0_pay104 x0) g (ix2 c e)
      = rms (g (ix2 e 0)) (fun e' => Ideal.div (A1 (ix2 e' c)) (l1 (ix2 0 c))
          - lam (fun j => x0 (ix2 0 j)) (fun j => x0 (ix2 1 j)) (fun j => x0 (ix2 2 j)) (fun j => x0 (ix2 3 j))
            * Ideal.div (A2 (ix2 e' c)) (l2 (ix2 0 c))) e := by
  unfold k0_pay1
  dsimp only
  have ho : ∀ e' : Fin 128, subf (divf A1 (broadcastTo S128x1024 l1 broadcasts_S1x1024_S128x1024))
      (mulf (broadcastTo S128x1024 (addf (subf (exp (k0_pay102 x0)) (exp (shapeCast S1x1 (multiReduction .add [1] S1 (mulf (k0_pay103 x0) (k0_pay104 x0)) 0x00000000#32 reduces_S1x64_S1 (.inl rfl) rfl) shapeCasts_S1_S1x1))) (broadcast S1x1 (Scalar.ofBits .f32 0x3E4CCCCD#32))) broadcasts_S1x1_S128x1024)
        (divf A2 (broadcastTo S128x1024 l2 broadcasts_S1x1024_S128x1024))) (ix2 e' c)
      = Ideal.div (A1 (ix2 e' c)) (l1 (ix2 0 c))
          - lam (fun j => x0 (ix2 0 j)) (fun j => x0 (ix2 1 j)) (fun j => x0 (ix2 2 j)) (fun j => x0 (ix2 3 j))
            * Ideal.div (A2 (ix2 e' c)) (l2 (ix2 0 c)) := fun e' => by
    rw [subf_apply, divf_apply, mulf_apply, divf_apply, bc_128, bc_128, bc_11, addf_apply, subf_apply]
    refine congrArg (fun z : EReal => Ideal.div (A1 (ix2 e' c)) (l1 (ix2 0 c)) - z * Ideal.div (A2 (ix2 e' c)) (l2 (ix2 0 c))) ?_
    show Ideal.exp (k0_pay102 x0 (ix2 0 0)) - Ideal.exp (shapeCast S1x1 (multiReduction .add [1] S1 (mulf (k0_pay103 x0) (k0_pay104 x0)) 0x00000000#32 reduces_S1x64_S1 (.inl rfl) rfl) shapeCasts_S1_S1x1 (ix2 0 0)) + _ = _
    rw [pay102_at, row_sum]
    unfold lam
    refine congrArg (fun z : EReal => Ideal.exp (∑ j : Fin 64, (x0 (ix2 0 j) : EReal) * x0 (ix2 1 j)) - Ideal.exp z + Ideal.ofBits .f32 0x3E4CCCCD#32) (Finset.sum_congr rfl fun j _ => ?_)
    rw [mulf_apply]
    exact congrArg₂ (· * ·) (lam_row x0 2 slices_S4x64_o2_0_S1x64 (by omega) j) (lam_row x0 3 slices_S4x64_o3_0_S1x64 (by omega) j)
  generalize subf (divf A1 (broadcastTo S128x1024 l1 broadcasts_S1x1024_S128x1024))
      (mulf (broadcastTo S128x1024 (addf (subf (exp (k0_pay102 x0)) (exp (shapeCast S1x1 (multiReduction .add [1] S1 (mulf (k0_pay103 x0) (k0_pay104 x0)) 0x00000000#32 reduces_S1x64_S1 (.inl rfl) rfl) shapeCasts_S1_S1x1))) (broadcast S1x1 (Scalar.ofBits .f32 0x3E4CCCCD#32))) broadcasts_S1x1_S128x1024)
        (divf A2 (broadcastTo S128x1024 l2 broadcasts_S1x1024_S128x1024))) = o at ho ⊢
  rw [truncf_apply, transpose_ix2_apply, mulf_apply, mulf_apply, mulf_apply, bc_g, bc_128, shapeCast_self]
  have hs : shapeCast S1x1024 (multiReduction .add [0] S1024 (mulf o o) 0x00000000#32 reduces_S128x1024_S1024 (.inl rfl) rfl) shapeCasts_S1024_S1x1024 (ix2 0 c)
      = ∑ e' : Fin 128, o (ix2 e' c) * o (ix2 e' c) := by
    rw [row_1024]
    refine (Ideal.multiReduction_add_single (mulf o o) _ reduces_S128x1024_S1024 _ _ (ix1 c)).trans ?_
    exact Finset.sum_congr rfl fun k _ => (congrArg (mulf o o) (lift_128 c k))
  show o (ix2 e c) * Ideal.rsqrt (Ideal.div (shapeCast S1x1024 (multiReduction .add [0] S1024 (mulf o o) 0x00000000#32 reduces_S128x1024_S1024 (.inl rfl) rfl) shapeCasts_S1024_S1x1024 (ix2 0 c)) (Ideal.ofBits .f32 0x43000000#32) + Ideal.ofBits .f32 0x3727C5AC#32) * g (ix2 e 0) * Ideal.ofBits .f32 0x3F4CCCCD#32 = _
  rw [hs]
  simp only [ho]
  rfl

/-- The block the body leaves, at query row `c` and value column `e`. -/
theorem res_at (i : grid0.Coords) (x0 : Vec Ideal S4x64 .f32) (x1 : Vec Ideal S128x1 .f32) (x2 : Vec Ideal S1024x128 .f32)
    (x3 : Vec Ideal S8192x128 .bf16) (x4 : Vec Ideal S1x16x1x128x512 .bf16)
    (q : Fin 128 → ℝ) (K : ℕ → Fin 128 → ℝ) (v : Fin 128 → ℕ → ℝ) (c : Fin 1024) (e : Fin 128)
    (hq : ∀ d, x2 (ix2 c d) = ((q d : ℝ) : EReal))
    (hK : ∀ (n : Fin 8192) (d : Fin 128), x3 (ix2 n d) = ((K n.val d : ℝ) : EReal))
    (hV : ∀ (e : Fin 128) (b : Fin 16) (j : Fin 512), x4 (ix5 0 b 0 e j) = ((v e (512 * b.val + j.val) : ℝ) : EReal)) :
    out0_5 i x0 x1 x2 x3 x4 (ix2 c e)
      = rms (x1 (ix2 e 0)) (fun e' => ((att lo q K (v e') (1024 * (i 2).val + (c.val + 1)) : ℝ) : EReal)
          - lam (fun j => x0 (ix2 0 j)) (fun j => x0 (ix2 1 j)) (fun j => x0 (ix2 2 j)) (fun j => x0 (ix2 3 j))
            * ((att hi q K (v e') (1024 * (i 2).val + (c.val + 1)) : ℝ) : EReal)) e := by
  have hz : (![0, 0] : Fin 2 → ℕ) = fun _ => 0 := by funext a; match a with | ⟨0, _⟩ => rfl | ⟨1, _⟩ => rfl
  have h8 : (i 2).val < 8 := (i 2).isLt
  unfold out0_5 res last
  rw [View.canon_unit_zero hz, View.ld_unit_zero hz, View.ld_unit_zero hz, View.ld_unit_zero hz, pay1_at]
  refine congrArg (fun f => rms (x1 (ix2 e 0)) f e) (funext fun e' => ?_)
  have hc := col_odd i x2 x3 x4 q K (v e') c e' hq hK (hV e')
  have hl := hc.last (k0_pay58 x2) (k0_pay59 x2) (View.ld x3 (Rect.unit (s := S8192x128) (k0_off11 i) S1024x128.size (k0_off11_inb i)))
    (View.ld x4 (Rect.unit (s := S1x16x1x128x512) (k0_off12 i 0#32) S1x1x1x128x512.size (k0_off12_inb i 0)))
    (View.ld x4 (Rect.unit (s := S1x16x1x128x512) (k0_off12 i 1#32) S1x1x1x128x512.size (k0_off12_inb i 1)))
    (fun k => score1 x2 _ q (K (1024 * (i 2).val + k.val)) k c hq (fun d => by
      rw [ktile x3 _ (1024 * (i 2).val) _ ((off11_eq i).trans (by rw [Nat.mul_comm])) k d (by omega), hK]))
    (fun k => score2 x2 _ q (K (1024 * (i 2).val + k.val)) k c hq (fun d => by
      rw [ktile x3 _ (1024 * (i 2).val) _ ((off11_eq i).trans (by rw [Nat.mul_comm])) k d (by omega), hK]))
    (vals x4 (v e') e' (hV e') _ (2 * (i 2).val) (by omega) (by omega) _ _ _ _ (off12_eq i).1 (off12_eq i).2)
  rw [hl.1, hl.2]
  have hN : 1024 * (i 2).val + (c.val + 1) ≤ 8192 := by omega
  have q1 := quot_eq (K := 8192) hN (fun n => dot lo q (K n)) (v e')
  have q2 := quot_eq (K := 8192) hN (fun n => dot hi q (K n)) (v e')
  unfold sc att
  rw [← q1, ← q2]

end Cert.KernelIdeal.Attn
-- ==== Proof.RefVal.lean ====
/-
  The reference's attention, element by element over the extended reals, for finite arguments: scores, softmax over the keys
  up to the query, difference of the two maps' weights, sum over the keys, norm.
-/
module

public import proofs.«01_k».proof.Proof.AttnVal
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Cert.Softmax
open Cert.KernelIdeal.Attn (lam rms att dot lo hi bot_f32)
open Idealize.ShloMosaic Idealize.ShloMosaic.TcCoe Idealize.ShloMosaic.ValueIdx

/-- Column `d` of head `h`. -/
def col (h : Fin 4) (d : Fin 128) : Fin 512 := ⟨h.val * 128 + d.val, by omega⟩

/-- One head's rows of a batch, indexed by position. -/
def rows (r : Fin 4 → Fin 8192 → Fin 512 → ℝ) (b : Fin 4) (h : Fin 4) (n : ℕ) (d : Fin 128) : ℝ :=
  if hn : n < 8192 then r b ⟨n, hn⟩ (col h d) else 0

theorem rows_fin (r : Fin 4 → Fin 8192 → Fin 512 → ℝ) (b h : Fin 4) (n : Fin 8192) (d : Fin 128) : rows r b h n.val d = r b n (col h d) := by
  unfold rows; rw [dif_pos n.isLt]

/-- The lanes of map `c`. -/
def half (c : Fin 2) : Fin 64 → Fin 128 := if c.val = 0 then lo else hi

theorem half_val (c : Fin 2) (d : Fin 64) : (half c d).val = c.val * 64 + d.val := by
  unfold half
  split
  · rename_i h; rw [h, zero_mul, zero_add]; rfl
  · rename_i h; have : c.val = 1 := by omega
    rw [this, one_mul]; rfl

theorem eighth : Ideal.ofBits .f32 0x3E000000#32 = ((1 / 8 : ℝ) : EReal) := by
  simp [Ideal.ofBits, Ideal.ieee]
  rw [← EReal.coe_mul]
  norm_num

variable (x0 x1 x2 : (⟨S4x8192x512, .f32⟩ : BufTy).Contents (Elt Ideal)) (x3 x4 x5 x6 : (⟨S1x64, .f32⟩ : BufTy).Contents (Elt Ideal))
  (x7 : (⟨S1x128, .f32⟩ : BufTy).Contents (Elt Ideal))
  (q k v : Fin 4 → Fin 8192 → Fin 512 → ℝ)
  (hq : ∀ b n j, x0 (ix3 b n j) = ((q b n j : ℝ) : EReal))
  (hk : ∀ b n j, x1 (ix3 b n j) = ((k b n j : ℝ) : EReal))
  (hv : ∀ b n j, x2 (ix3 b n j) = ((v b n j : ℝ) : EReal))

theorem v0_at (b : Fin 4) (n : Fin 8192) (h : Fin 4) (c : Fin 2) (d : Fin 64) :
    val_main_v0 (F := Ideal) x0 (ix5 b n h c d) = x0 (ix3 b n (col h (half c d))) := by
  rw [val_main_v0_apply]
  have hd := half_val c d
  refine congrArg x0 (funext fun a => Fin.ext ?_)
  match a with
  | ⟨0, _⟩ => show ((((b.val * 8192 + n.val) * 4 + h.val) * 2 + c.val) * 64 + d.val) / 4194304 = b.val; omega
  | ⟨1, _⟩ => show ((((b.val * 8192 + n.val) * 4 + h.val) * 2 + c.val) * 64 + d.val) / 512 % 8192 = n.val; omega
  | ⟨2, _⟩ => show ((((b.val * 8192 + n.val) * 4 + h.val) * 2 + c.val) * 64 + d.val) % 512 = h.val * 128 + (half c d).val; omega

theorem v1_at (b : Fin 4) (n : Fin 8192) (h : Fin 4) (c : Fin 2) (d : Fin 64) :
    val_main_v1 (F := Ideal) x1 (ix5 b n h c d) = x1 (ix3 b n (col h (half c d))) := v0_at x1 b n h c d

theorem v2_at (b : Fin 4) (n : Fin 8192) (h : Fin 4) (e : Fin 128) :
    val_main_v2 (F := Ideal) x2 (ix4 b n h e) = x2 (ix3 b n (col h e)) := by
  rw [val_main_v2_apply]
  refine congrArg x2 (funext fun a => Fin.ext ?_)
  match a with
  | ⟨0, _⟩ => show (((b.val * 8192 + n.val) * 4 + h.val) * 128 + e.val) / 4194304 = b.val; omega
  | ⟨1, _⟩ => show (((b.val * 8192 + n.val) * 4 + h.val) * 128 + e.val) / 512 % 8192 = n.val; omega
  | ⟨2, _⟩ => show (((b.val * 8192 + n.val) * 4 + h.val) * 128 + e.val) % 512 = h.val * 128 + e.val; omega

include hq hk in
/-- A score before masking. -/
theorem v17_at (b h : Fin 4) (c : Fin 2) (n j : Fin 8192) :
    val_main_v17 (F := Ideal) x0 x1 (ix5 b h c n j)
      = ((dot (half c) (rows q b h n.val) (rows k b h j.val) / 8 : ℝ) : EReal) := by
  rw [val_main_v17_apply, val_main_v15_apply, val_main_v16_apply]
  have e1 : ∀ d : Fin 64, (val_main_v0 (F := Ideal) x0) (lidx_main_v15 (ix5 b h c n j) d) * (val_main_v1 (F := Ideal) x1) (ridx_main_v15 (ix5 b h c n j) d)
      = ((rows q b h n.val (half c d) * rows k b h j.val (half c d) : ℝ) : EReal) := fun d => by
    have el : lidx_main_v15 (ix5 b h c n j) d = ix5 b n h c d := by
      funext a; match a with | ⟨0, _⟩ => rfl | ⟨1, _⟩ => rfl | ⟨2, _⟩ => rfl | ⟨3, _⟩ => rfl | ⟨4, _⟩ => rfl
    have er : ridx_main_v15 (ix5 b h c n j) d = ix5 b j h c d := by
      funext a; match a with | ⟨0, _⟩ => rfl | ⟨1, _⟩ => rfl | ⟨2, _⟩ => rfl | ⟨3, _⟩ => rfl | ⟨4, _⟩ => rfl
    rw [el, er, v0_at, v1_at, hq, hk, rows_fin, rows_fin, ← EReal.coe_mul]
  simp only [e1]
  rw [coe_sum]
  have e2 : val_main_cst_2 (F := Ideal) (idx_main_v16 (ix5 b h c n j)) = ((1 / 8 : ℝ) : EReal) := eighth
  rw [e2]
  show ((_ : ℝ) : EReal) * ((_ : ℝ) : EReal) = _
  rw [← EReal.coe_mul]
  congr 1
  unfold dot
  ring

theorem toInt_small (n : ℕ) (h : n < 8192) : (BitVec.ofNat 32 n).toInt = n := by
  rw [BitVec.toInt_eq_toNat_of_lt (by rw [BitVec.toNat_ofNat]; omega), BitVec.toNat_ofNat, Nat.mod_eq_of_lt (by omega)]

theorem mask_at (b h : Fin 4) (c : Fin 2) (n j : Fin 8192) :
    val_main_call0_v1 (F := Ideal) (ix5 b h c n j) = if j.val < n.val + 1 then 1#1 else 0#1 := by
  rw [val_main_call0_v1_apply, val_main_v23_apply, val_main_v21_apply, val_main_v22_apply, val_main_v19_apply, val_main_v20_apply,
    val_main_v18_apply, val_main_v18_apply]
  show IntOp.cmpi .sle (BitVec.ofNat 32 j.val) (BitVec.ofNat 32 n.val) = _
  simp only [IntOp.cmpi, BitVec.sle, toInt_small j.val j.isLt, toInt_small n.val n.isLt]
  by_cases hj : j.val < n.val + 1
  · rw [if_pos hj, decide_eq_true (by omega)]; rfl
  · rw [if_neg hj, decide_eq_false (by omega)]; rfl

include hq hk in
/-- A masked score. -/
theorem v24_at (b h : Fin 4) (c : Fin 2) (n j : Fin 8192) :
    val_main_v24 (F := Ideal) x0 x1 (ix5 b h c n j)
      = if j.val < n.val + 1 then ((dot (half c) (rows q b h n.val) (rows k b h j.val) / 8 : ℝ) : EReal) else ⊥ := by
  rw [val_main_v24_apply, mask_at, v17_at x0 x1 q k hq hk, val_main_call0_v2_apply]
  have e : val_main_call0_v0 (F := Ideal) (idx_main_call0_v2 (ix5 b h c n j)) = ⊥ := bot_f32
  rw [e]
  by_cases hj : j.val < n.val + 1
  · rw [if_pos hj, if_pos hj]; rfl
  · rw [if_neg hj, if_neg hj]; rfl

theorem red : S4x4x2x8192x8192.Reduces [4] S4x4x2x8192 := by decide

theorem lift_red (b h : Fin 4) (c : Fin 2) (n j : Fin 8192) : red.lift (ix4 b h c n) j = ix5 b h c n j := by
  funext a
  apply Fin.ext
  refine (Shape.Reduces.lift_val _ _ _ _).trans ?_
  match a with
  | ⟨0, _⟩ => rfl
  | ⟨1, _⟩ => rfl
  | ⟨2, _⟩ => rfl
  | ⟨3, _⟩ => rfl
  | ⟨4, _⟩ => rfl

/-- A row's maximum. -/
theorem v25_at (b h : Fin 4) (c : Fin 2) (n : Fin 8192) :
    val_main_v25 (F := Ideal) x0 x1 (ix4 b h c n)
      = (Finset.univ : Finset (Fin 8192)).fold max ⊥ fun j => val_main_v24 (F := Ideal) x0 x1 (ix5 b h c n j) := by
  unfold val_main_v25
  generalize val_main_v24 (F := Ideal) x0 x1 = y
  have e' : val_main_cst_4 (F := Ideal) (Shape.Idx.first h_S_) = ⊥ := bot_f32
  generalize val_main_cst_4 (F := Ideal) = z at e' ⊢
  have e1 := Host.reduce_eq_fold_single (α := Ideal .f32) FloatOps.maximumf y z reducesTo_S4x4x2x8192x8192_S4x4x2x8192_d4 red h_S_ (ix4 b h c n)
  rw [e1, e']
  exact congrArg (fun f => (Finset.univ : Finset (Fin 8192)).fold max ⊥ f) (funext fun j => congrArg y (lift_red b h c n j))

theorem v27_at (b h : Fin 4) (c : Fin 2) (n : Fin 8192) :
    val_main_v27 (F := Ideal) x0 x1 (ix4 b h c n)
      = max ⊥ ((Finset.univ : Finset (Fin 8192)).fold max ⊥ fun j => val_main_v24 (F := Ideal) x0 x1 (ix5 b h c n j)) := by
  rw [val_main_v27_apply, val_main_v26_apply]
  have e : val_main_cst_5 (F := Ideal) (idx_main_v26 (ix4 b h c n)) = ⊥ := bot_f32
  rw [e]
  exact congrArg (max ⊥) (v25_at x0 x1 b h c n)

theorem v31_at (b h : Fin 4) (c : Fin 2) (n j : Fin 8192) :
    val_main_v31 (F := Ideal) x0 x1 (ix5 b h c n j)
      = Ideal.exp (val_main_v24 (F := Ideal) x0 x1 (ix5 b h c n j) - val_main_v27 (F := Ideal) x0 x1 (ix4 b h c n)) := by
  rw [val_main_v31_apply, val_main_v30_apply, val_main_v29_apply, val_main_v28_apply]
  have e : idx_main_v28 (idx_main_v29 (ix5 b h c n j)) = ix4 b h c n := by
    funext a; match a with | ⟨0, _⟩ => rfl | ⟨1, _⟩ => rfl | ⟨2, _⟩ => rfl | ⟨3, _⟩ => rfl
  rw [e]
  rfl

theorem v32_at (b h : Fin 4) (c : Fin 2) (n : Fin 8192) :
    val_main_v32 (F := Ideal) x0 x1 (ix4 b h c n) = ∑ j : Fin 8192, val_main_v31 (F := Ideal) x0 x1 (ix5 b h c n j) := by
  rw [val_main_v32_apply]
  have e' : val_main_cst_6 (F := Ideal) (Shape.Idx.first h_S_) = 0 := Ideal.ofBits_zero_f32
  rw [e', zero_add]
  refine Finset.sum_congr rfl fun j _ => congrArg _ ?_
  funext a; match a with | ⟨0, _⟩ => rfl | ⟨1, _⟩ => rfl | ⟨2, _⟩ => rfl | ⟨3, _⟩ => rfl | ⟨4, _⟩ => rfl

include hq hk in
/-- A weight. -/
theorem v35_at (b h : Fin 4) (c : Fin 2) (n j : Fin 8192) :
    val_main_v35 (F := Ideal) x0 x1 (ix5 b h c n j)
      = ((wt (fun m => dot (half c) (rows q b h n.val) (rows k b h m)) (n.val + 1) j.val : ℝ) : EReal) := by
  rw [val_main_v35_apply, val_main_v34_apply, val_main_v33_apply]
  have e : idx_main_v33 (idx_main_v34 (ix5 b h c n j)) = ix4 b h c n := by
    funext a; match a with | ⟨0, _⟩ => rfl | ⟨1, _⟩ => rfl | ⟨2, _⟩ => rfl | ⟨3, _⟩ => rfl
  rw [e, v31_at]
  show Ideal.div _ _ = _
  refine row_softmax (K := 8192) (N := n.val + 1) n.isLt (by omega) (fun m => dot (half c) (rows q b h n.val) (rows k b h m))
    (fun j => val_main_v24 (F := Ideal) x0 x1 (ix5 b h c n j)) (fun j => v24_at x0 x1 q k hq hk b h c n j) j _ _ (v27_at x0 x1 b h c n) ?_
  rw [v32_at]
  exact Finset.sum_congr rfl fun j _ => v31_at x0 x1 b h c n j

theorem v37_at (b h : Fin 4) (n j : Fin 8192) : val_main_v37 (F := Ideal) x0 x1 (ix4 b h n j) = val_main_v35 (F := Ideal) x0 x1 (ix5 b h 0 n j) := by
  rw [val_main_v37_apply, val_main_v36_apply]
  refine congrArg _ (funext fun a => Fin.ext ?_)
  match a with
  | ⟨0, _⟩ => show (((b.val * 4 + h.val) * 8192 + n.val) * 8192 + j.val) / 268435456 = b.val; omega
  | ⟨1, _⟩ => show (((b.val * 4 + h.val) * 8192 + n.val) * 8192 + j.val) / 67108864 % 4 = h.val; omega
  | ⟨2, _⟩ => rfl
  | ⟨3, _⟩ => show (((b.val * 4 + h.val) * 8192 + n.val) * 8192 + j.val) / 8192 % 8192 = n.val; omega
  | ⟨4, _⟩ => show (((b.val * 4 + h.val) * 8192 + n.val) * 8192 + j.val) % 8192 = j.val; omega

theorem v39_at (b h : Fin 4) (n j : Fin 8192) : val_main_v39 (F := Ideal) x0 x1 (ix4 b h n j) = val_main_v35 (F := Ideal) x0 x1 (ix5 b h 1 n j) := by
  rw [val_main_v39_apply, val_main_v38_apply]
  refine congrArg _ (funext fun a => Fin.ext ?_)
  match a with
  | ⟨0, _⟩ => show (((b.val * 4 + h.val) * 8192 + n.val) * 8192 + j.val) / 268435456 = b.val; omega
  | ⟨1, _⟩ => show (((b.val * 4 + h.val) * 8192 + n.val) * 8192 + j.val) / 67108864 % 4 = h.val; omega
  | ⟨2, _⟩ => rfl
  | ⟨3, _⟩ => show (((b.val * 4 + h.val) * 8192 + n.val) * 8192 + j.val) / 8192 % 8192 = n.val; omega
  | ⟨4, _⟩ => show (((b.val * 4 + h.val) * 8192 + n.val) * 8192 + j.val) % 8192 = j.val; omega

/-! ## The factor of the second map -/

def idx64 : Fin 64 ≃ S64.Idx where
  toFun j := ix1 j
  invFun i := i 0
  left_inv _ := rfl
  right_inv i := by funext a; match a with | ⟨0, _⟩ => rfl

theorem sum64 (f : S64.Idx → EReal) : ∑ i, f i = ∑ j : Fin 64, f (ix1 j) := (Equiv.sum_comp idx64 f).symm

theorem row64 (x : (⟨S1x64, .f32⟩ : BufTy).Contents (Elt Ideal)) (j : Fin 64) : val_main_v3 (F := Ideal) x (ix1 j) = x (ix2 0 j) := by
  rw [val_main_v3_apply]
  refine congrArg x (funext fun a => Fin.ext ?_)
  match a with
  | ⟨0, _⟩ => rfl
  | ⟨1, _⟩ => show j.val % 64 = j.val; omega

theorem v6_at (a b : (⟨S1x64, .f32⟩ : BufTy).Contents (Elt Ideal)) (i : S_.Idx) :
    val_main_v6 (F := Ideal) a b i = ∑ j : Fin 64, (a (ix2 0 j) : EReal) * b (ix2 0 j) := by
  rw [val_main_v6_apply]
  have e' : val_main_cst (F := Ideal) (Shape.Idx.first h_S_) = 0 := Ideal.ofBits_zero_f32
  rw [e', zero_add, sum64]
  refine Finset.sum_congr rfl fun j _ => ?_
  exact congrArg₂ (fun y z : EReal => y * z) (row64 a j) (row64 b j)

theorem v14_at (i : S_.Idx) :
    val_main_v14 (F := Ideal) x3 x4 x5 x6 i
      = lam (fun j => x3 (ix2 0 j)) (fun j => x4 (ix2 0 j)) (fun j => x5 (ix2 0 j)) (fun j => x6 (ix2 0 j)) := by
  show Ideal.exp (val_main_v6 (F := Ideal) x3 x4 i) - Ideal.exp (val_main_v6 (F := Ideal) x5 x6 i) + Ideal.ofBits .f32 0x3E4CCCCD#32 = _
  rw [v6_at, v6_at]
  rfl

/-! ## The sum over the keys, and the norm -/

include hq hk hv in
theorem v44_at (l : ℝ) (hl : lam (fun j => x3 (ix2 0 j)) (fun j => x4 (ix2 0 j)) (fun j => x5 (ix2 0 j)) (fun j => x6 (ix2 0 j)) = (l : EReal))
    (b : Fin 4) (n : Fin 8192) (h : Fin 4) (e : Fin 128) :
    val_main_v44 (F := Ideal) x0 x1 x2 x3 x4 x5 x6 (ix4 b n h e)
      = ((att lo (rows q b h n.val) (rows k b h) (fun m => rows v b h m e) (n.val + 1) : ℝ) : EReal)
          - lam (fun j => x3 (ix2 0 j)) (fun j => x4 (ix2 0 j)) (fun j => x5 (ix2 0 j)) (fun j => x6 (ix2 0 j))
            * ((att hi (rows q b h n.val) (rows k b h) (fun m => rows v b h m e) (n.val + 1) : ℝ) : EReal) := by
  rw [val_main_v44_apply]
  have e0 : idx_main_v44 (ix4 b n h e) = ix4 b h e n := by
    funext a; match a with | ⟨0, _⟩ => rfl | ⟨1, _⟩ => rfl | ⟨2, _⟩ => rfl | ⟨3, _⟩ => rfl
  rw [e0, val_main_v43_apply]
  have e1 : ∀ j : Fin 8192, (val_main_v2 (F := Ideal) x2) (lidx_main_v43 (ix4 b h e n) j) * (val_main_v42 (F := Ideal) x0 x1 x3 x4 x5 x6) (ridx_main_v43 (ix4 b h e n) j)
      = ((rows v b h j.val e * wt (fun m => dot lo (rows q b h n.val) (rows k b h m)) (n.val + 1) j.val
          - l * (rows v b h j.val e * wt (fun m => dot hi (rows q b h n.val) (rows k b h m)) (n.val + 1) j.val) : ℝ) : EReal) := fun j => by
    have el : lidx_main_v43 (ix4 b h e n) j = ix4 b j h e := by
      funext a; match a with | ⟨0, _⟩ => rfl | ⟨1, _⟩ => rfl | ⟨2, _⟩ => rfl | ⟨3, _⟩ => rfl
    have er : ridx_main_v43 (ix4 b h e n) j = ix4 b h n j := by
      funext a; match a with | ⟨0, _⟩ => rfl | ⟨1, _⟩ => rfl | ⟨2, _⟩ => rfl | ⟨3, _⟩ => rfl
    rw [el, er, v2_at, hv, val_main_v42_apply, val_main_v41_apply, val_main_v40_apply, v14_at, hl, v37_at, v39_at,
      v35_at x0 x1 q k hq hk, v35_at x0 x1 q k hq hk, rows_fin]
    show ((_ : ℝ) : EReal) * (((_ : ℝ) : EReal) - ((_ : ℝ) : EReal) * ((_ : ℝ) : EReal)) = _
    rw [← EReal.coe_mul, ← EReal.coe_sub, ← EReal.coe_mul]
    congr 1
    show _ * (wt (fun m => dot lo (rows q b h n.val) (rows k b h m)) _ _ - l * wt (fun m => dot hi (rows q b h n.val) (rows k b h m)) _ _) = _
    ring
  simp only [e1]
  rw [coe_sum, hl, ← EReal.coe_mul, ← EReal.coe_sub]
  congr 1
  unfold att
  rw [Finset.sum_sub_distrib, Finset.mul_sum]

theorem gain (e : Fin 128) (i : S4x8192x4x128.Idx) (hi : (i 3).val = e.val) : val_main_v57 (F := Ideal) x7 i = x7 (ix2 0 e) := by
  rw [val_main_v57_apply, val_main_v56_apply, val_main_v45_apply]
  refine congrArg x7 (funext fun a => Fin.ext ?_)
  match a with
  | ⟨0, _⟩ => rfl
  | ⟨1, _⟩ => show (i 3).val % 128 = e.val; omega

theorem v60_at (b : Fin 4) (n : Fin 8192) (h : Fin 4) (e : Fin 128) :
    val_main_v60 (F := Ideal) x0 x1 x2 x3 x4 x5 x6 x7 (ix4 b n h e)
      = rms (x7 (ix2 0 e)) (fun e' => val_main_v44 (F := Ideal) x0 x1 x2 x3 x4 x5 x6 (ix4 b n h e')) e := by
  rw [val_main_v60_apply, val_main_v58_apply, val_main_v55_apply, val_main_v54_apply, val_main_v53_apply, val_main_v52_apply,
    val_main_v50_apply, val_main_v48_apply, val_main_v47_apply, gain x7 e _ rfl]
  have e' : val_main_cst_7 (F := Ideal) (Shape.Idx.first h_S_) = 0 := Ideal.ofBits_zero_f32
  rw [e', zero_add]
  have es : ∀ j : Fin 128, val_main_v46 (F := Ideal) x0 x1 x2 x3 x4 x5 x6 (idx_main_v47 (idx_main_v48 (idx_main_v54 (ix4 b n h e))) j)
      = val_main_v44 (F := Ideal) x0 x1 x2 x3 x4 x5 x6 (ix4 b n h j) * val_main_v44 (F := Ideal) x0 x1 x2 x3 x4 x5 x6 (ix4 b n h j) := fun j => by
    rw [val_main_v46_apply]
    have : idx_main_v47 (idx_main_v48 (idx_main_v54 (ix4 b n h e))) j = ix4 b n h j := by
      funext a; match a with | ⟨0, _⟩ => rfl | ⟨1, _⟩ => rfl | ⟨2, _⟩ => rfl | ⟨3, _⟩ => rfl
    rw [this]; rfl
  simp only [es]
  rfl

include hq hk hv in
/-- The reference's result. -/
theorem v62_at (l : ℝ) (hl : lam (fun j => x3 (ix2 0 j)) (fun j => x4 (ix2 0 j)) (fun j => x5 (ix2 0 j)) (fun j => x6 (ix2 0 j)) = (l : EReal))
    (b : Fin 4) (n : Fin 8192) (h : Fin 4) (e : Fin 128) (r : Fin 32768) (hr : r.val = b.val * 8192 + n.val) :
    val_main_v62 (F := Ideal) x0 x1 x2 x3 x4 x5 x6 x7 (ix2 r (col h e))
      = rms (x7 (ix2 0 e)) (fun e' => ((att lo (rows q b h n.val) (rows k b h) (fun m => rows v b h m e') (n.val + 1) : ℝ) : EReal)
          - lam (fun j => x3 (ix2 0 j)) (fun j => x4 (ix2 0 j)) (fun j => x5 (ix2 0 j)) (fun j => x6 (ix2 0 j))
            * ((att hi (rows q b h n.val) (rows k b h) (fun m => rows v b h m e') (n.val + 1) : ℝ) : EReal)) e := by
  rw [val_main_v62_apply, val_main_v61_apply]
  have e0 : idx_main_v61 (ix2 r (col h e)) = ix4 b n h e := by
    funext a
    apply Fin.ext
    match a with
    | ⟨0, _⟩ => show (r.val * 512 + (h.val * 128 + e.val)) / 4194304 = b.val; omega
    | ⟨1, _⟩ => show (r.val * 512 + (h.val * 128 + e.val)) / 512 % 8192 = n.val; omega
    | ⟨2, _⟩ => show (r.val * 512 + (h.val * 128 + e.val)) / 128 % 4 = h.val; omega
    | ⟨3, _⟩ => show (r.val * 512 + (h.val * 128 + e.val)) % 128 = e.val; omega
  rw [e0]
  show val_main_v60 (F := Ideal) x0 x1 x2 x3 x4 x5 x6 x7 (ix4 b n h e) = _
  rw [v60_at]
  exact congrArg (fun f => rms (x7 (ix2 0 e)) f e) (funext fun e' => v44_at x0 x1 x2 x3 x4 x5 x6 q k v hq hk hv l hl b n h e')

end Cert.ReferenceIdeal.Attn
-- ==== Proof.AttnWhole.lean ====
/-
  The attention call's result array: the host's re-laid arguments read at an index, each window's block at a grid point as
  elements of the arguments, and the array after the run as the reference's function of the arguments, where these are finite.
-/
module

public import proofs.«01_k».proof.Proof.AttnVal
public import proofs.«01_k».proof.Proof.RefVal
public import Idealize.ShloMosaic.Lib.Pipeline.Value
public import Idealize.ShloMosaic.Lib.Quiescent

@[expose] public section

set_option maxRecDepth 16384

noncomputable section

namespace Cert.KernelIdeal.Attn

open Cert.KernelIdeal Cert.KernelIdeal.Gen Cert.Softmax
open Cert.ReferenceIdeal.Attn (col rows rows_fin v62_at)
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## What the host hands the call -/

/-- The batch of a row of the flattened arrays. -/
def bat (r : Fin 32768) : Fin 4 := ⟨r.val / 8192, by omega⟩
/-- The position of a row of the flattened arrays. -/
def pos (r : Fin 32768) : Fin 8192 := ⟨r.val % 8192, by omega⟩

theorem flat_at (x : (⟨S4x8192x512, .f32⟩ : BufTy).Contents (Elt Ideal)) (r : Fin 32768) (j : Fin 512) :
    shapeCast S32768x512 x shapeCasts_S4x8192x512_S32768x512 (ix2 r j) = x (ix3 (bat r) (pos r) j) :=
  shapeCast_apply x _ _ _ (by
    rw [Shape.rowMajor_val_two, Shape.rowMajor_val_three]
    show (r.val / 8192 * 8192 + r.val % 8192) * 512 + j.val = r.val * 512 + j.val
    omega)

theorem V1 : V m c main_v1 = shapeCast S32768x512 (m ((c : Thread nD τ).loc main_arg0)) shapeCasts_S4x8192x512_S32768x512 := by
  show StableHlo.after hostOps0 _ _ = _
  after_results
  rfl

theorem V3 : V m c main_v3 = shapeCast S32768x512 (m ((c : Thread nD τ).loc main_arg1)) shapeCasts_S4x8192x512_S32768x512 := by
  show StableHlo.after hostOps0 _ _ = _
  after_results
  rfl

theorem V8 : V m c main_v8 = shapeCast S4x16x4x128x512 (shapeCast S32768x512 (transpose S64x512x512 [0, 2, 1]
    (shapeCast S64x512x512 (m ((c : Thread nD τ).loc main_arg2)) shapeCasts_S4x8192x512_S64x512x512) transposes_S64x512x512_S64x512x512_0_2_1)
      shapeCasts_S64x512x512_S32768x512) shapeCasts_S32768x512_S4x16x4x128x512 := by
  show StableHlo.after hostOps0 _ _ = _
  after_results
  rfl

theorem V9 : V m c main_v9 = shapeCast S128x1 (m ((c : Thread nD τ).loc main_arg7)) shapeCasts_S1x128_S128x1 := by
  show StableHlo.after hostOps0 _ _ = _
  after_results
  rfl

theorem V0 : V m c main_v0 = concatenate S4x64 0 [⟨S1x64, m ((c : Thread nD τ).loc main_arg3)⟩, ⟨S1x64, m ((c : Thread nD τ).loc main_arg4)⟩,
    ⟨S1x64, m ((c : Thread nD τ).loc main_arg5)⟩, ⟨S1x64, m ((c : Thread nD τ).loc main_arg6)⟩] concatenates_S1x64_S1x64_S1x64_S1x64_S4x64_d0 := by
  show StableHlo.after hostOps0 _ _ = _
  after_results
  rfl

theorem v8_at (b h : Fin 4) (n : Fin 16) (e : Fin 128) (j : Fin 512) (k : Fin 8192) (hk : k.val = 512 * n.val + j.val) :
    (V m c main_v8 : (⟨S4x16x4x128x512, .bf16⟩ : BufTy).Contents (Elt Ideal)) (ix5 b n h e j)
      = (m ((c : Thread nD τ).loc main_arg2) : (⟨S4x8192x512, .f32⟩ : BufTy).Contents (Elt Ideal)) (ix3 b k (col h e)) := by
  rw [V8]
  generalize m ((c : Thread nD τ).loc main_arg2) = x
  change (⟨S4x8192x512, .f32⟩ : BufTy).Contents (Elt Ideal) at x
  have hr : ((b.val * 16 + n.val) * 4 + h.val) * 128 + e.val < 32768 := by omega
  refine (shapeCast_apply _ _ (ix5 b n h e j) (ix2 ⟨((b.val * 16 + n.val) * 4 + h.val) * 128 + e.val, hr⟩ j) ?_).trans ?_
  · rw [Shape.rowMajor_val_two, Shape.rowMajor_val_five]; rfl
  refine (shapeCast_apply _ _ _ (ix3 (⟨b.val * 16 + n.val, by omega⟩ : Fin 64) (⟨h.val * 128 + e.val, by omega⟩ : Fin 512) j) ?_).trans ?_
  · rw [Shape.rowMajor_val_two, Shape.rowMajor_val_three]
    show ((b.val * 16 + n.val) * 512 + (h.val * 128 + e.val)) * 512 + j.val = (((b.val * 16 + n.val) * 4 + h.val) * 128 + e.val) * 512 + j.val
    omega
  refine (transpose_ix3_021_apply _ _ _ _ _).trans ?_
  refine shapeCast_apply (s := S4x8192x512) x _ _ _ ?_
  rw [Shape.rowMajor_val_three, Shape.rowMajor_val_three]
  show (b.val * 8192 + k.val) * 512 + (h.val * 128 + e.val) = ((b.val * 16 + n.val) * 512 + j.val) * 512 + (h.val * 128 + e.val)
  omega

theorem v9_at (e : Fin 128) : (V m c main_v9 : (⟨S128x1, .f32⟩ : BufTy).Contents (Elt Ideal)) (ix2 e 0)
    = (m ((c : Thread nD τ).loc main_arg7) : (⟨S1x128, .f32⟩ : BufTy).Contents (Elt Ideal)) (ix2 0 e) := by
  rw [V9]
  generalize m ((c : Thread nD τ).loc main_arg7) = x
  change (⟨S1x128, .f32⟩ : BufTy).Contents (Elt Ideal) at x
  refine shapeCast_apply (s := S1x128) x _ _ _ ?_
  rw [Shape.rowMajor_val_two, Shape.rowMajor_val_two]
  show 0 * 128 + e.val = e.val * 1 + 0
  omega

theorem v0_row (x : Fin 4 → (⟨S1x64, .f32⟩ : BufTy).Contents (Elt Ideal)) (k : Fin 4) (j : Fin 64) :
    concatenate S4x64 0 [⟨S1x64, x 0⟩, ⟨S1x64, x 1⟩, ⟨S1x64, x 2⟩, ⟨S1x64, x 3⟩] concatenates_S1x64_S1x64_S1x64_S1x64_S4x64_d0 (ix2 k j) = x k (ix2 0 j) := by
  have hi : ∀ k : Fin 4, ∀ b : Fin 2, (b.cast (rfl : S1x64.rank = S4x64.rank)) ≠ (0 : Fin 2) →
      ((ix2 (0 : Fin 1) j : S1x64.Idx) b).val = ((ix2 k j : S4x64.Idx) (b.cast (rfl : S1x64.rank = S4x64.rank))).val := fun k b hb => by
    match b, hb with
    | ⟨0, _⟩, hb => exact absurd rfl hb
    | ⟨1, _⟩, _ => rfl
  match k with
  | ⟨0, _⟩ => exact concatenate_apply_piece (t := S4x64) 0 [⟨S1x64, x 0⟩, ⟨S1x64, x 1⟩, ⟨S1x64, x 2⟩, ⟨S1x64, x 3⟩] _ (ix2 (⟨0, by decide⟩ : Fin 4) j) 0 (show 0 < 4 by decide) S1x64 (x 0) rfl rfl 0 rfl (ix2 0 j) (hi 0) rfl
  | ⟨1, _⟩ => exact concatenate_apply_piece (t := S4x64) 0 [⟨S1x64, x 0⟩, ⟨S1x64, x 1⟩, ⟨S1x64, x 2⟩, ⟨S1x64, x 3⟩] _ (ix2 (⟨1, by decide⟩ : Fin 4) j) 1 (show 1 < 4 by decide) S1x64 (x 1) rfl rfl 1 rfl (ix2 0 j) (hi 1) rfl
  | ⟨2, _⟩ => exact concatenate_apply_piece (t := S4x64) 0 [⟨S1x64, x 0⟩, ⟨S1x64, x 1⟩, ⟨S1x64, x 2⟩, ⟨S1x64, x 3⟩] _ (ix2 (⟨2, by decide⟩ : Fin 4) j) 2 (show 2 < 4 by decide) S1x64 (x 2) rfl rfl 2 rfl (ix2 0 j) (hi 2) rfl
  | ⟨3, _⟩ => exact concatenate_apply_piece (t := S4x64) 0 [⟨S1x64, x 0⟩, ⟨S1x64, x 1⟩, ⟨S1x64, x 2⟩, ⟨S1x64, x 3⟩] _ (ix2 (⟨3, by decide⟩ : Fin 4) j) 3 (show 3 < 4 by decide) S1x64 (x 3) rfl rfl 3 rfl (ix2 0 j) (hi 3) rfl

/-! ## Where the blocks lie -/

theorem coords_eq : ∀ t : Fin cfg0.N, (grid0.coords t 0).val = t.val / 32 ∧ (grid0.coords t 1).val = t.val / 8 % 4 ∧ (grid0.coords t 2).val = t.val % 8 := by decide +kernel
theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val / 32 * 8 + t.val % 8 ∧ win0_2.index t 1 = t.val / 8 % 4 := by decide +kernel
theorem idx3 : ∀ t : Fin cfg0.N, win0_3.index t 0 = t.val / 32 ∧ win0_3.index t 1 = t.val / 8 % 4 := by decide +kernel
theorem idx4 : ∀ t : Fin cfg0.N, win0_4.index t 0 = t.val / 32 ∧ win0_4.index t 1 = 0 ∧ win0_4.index t 2 = t.val / 8 % 4 ∧ win0_4.index t 3 = 0 ∧ win0_4.index t 4 = 0 := by decide +kernel
theorem idx5 : ∀ t : Fin cfg0.N, win0_5.index t 0 = t.val / 32 * 8 + t.val % 8 ∧ win0_5.index t 1 = t.val / 8 % 4 := by decide +kernel
theorem xsz5 : ∀ t : Fin cfg0.N, win0_5.xsize (grid0.coords t) 0 = 1024 ∧ win0_5.xsize (grid0.coords t) 1 = 128 := by decide +kernel

theorem tlt (t : Fin cfg0.N) : t.val < 128 := t.isLt.trans_eq (by decide)

/-- The batch, the head and the query tile of a point. -/
def tb (t : Fin cfg0.N) : Fin 4 := ⟨t.val / 32, by have := tlt t; omega⟩
def th (t : Fin cfg0.N) : Fin 4 := ⟨t.val / 8 % 4, by omega⟩
def row (t : Fin cfg0.N) (a : Fin 1024) : Fin 32768 := ⟨(t.val / 32 * 8 + t.val % 8) * 1024 + a.val, by have := tlt t; omega⟩

theorem emb2 (t : Fin cfg0.N) (a : Fin 1024) (d : Fin 128) : (win0_2.rect t).emb (ix2 a d) = ix2 (row t a) (col (th t) d) := by
  funext x
  apply Fin.ext
  refine (Pipeline.Window.rect_emb_val win0_2 t _ x).trans ?_
  match x with
  | ⟨0, _⟩ => show win0_2.index t 0 * 1024 + a.val = _; rw [(idx2 t).1]; rfl
  | ⟨1, _⟩ => show win0_2.index t 1 * 128 + d.val = _; rw [(idx2 t).2]; rfl

theorem emb5 (t : Fin cfg0.N) (a : Fin 1024) (d : Fin 128) : (win0_5.rect t).emb (ix2 a d) = ix2 (row t a) (col (th t) d) := by
  funext x
  apply Fin.ext
  refine (Pipeline.Window.rect_emb_val win0_5 t _ x).trans ?_
  match x with
  | ⟨0, _⟩ => show win0_5.index t 0 * 1024 + a.val = _; rw [(idx5 t).1]; rfl
  | ⟨1, _⟩ => show win0_5.index t 1 * 128 + d.val = _; rw [(idx5 t).2]; rfl

theorem emb3 (t : Fin cfg0.N) (n : Fin 8192) (d : Fin 128) :
    (win0_3.rect t).emb (ix2 n d) = ix2 (⟨(tb t).val * 8192 + n.val, by have := (tb t).isLt; omega⟩ : Fin 32768) (col (th t) d) := by
  funext x
  apply Fin.ext
  refine (Pipeline.Window.rect_emb_val win0_3 t _ x).trans ?_
  match x with
  | ⟨0, _⟩ => show win0_3.index t 0 * 8192 + n.val = _; rw [(idx3 t).1]; rfl
  | ⟨1, _⟩ => show win0_3.index t 1 * 128 + d.val = _; rw [(idx3 t).2]; rfl

theorem emb4 (t : Fin cfg0.N) (n : Fin 16) (e : Fin 128) (j : Fin 512) :
    (win0_4.rect t).emb (ix5 0 n 0 e j) = ix5 (tb t) n (th t) e j := by
  obtain ⟨e0, e1, e2, e3, e4⟩ := idx4 t
  funext x
  apply Fin.ext
  refine (Pipeline.Window.rect_emb_val win0_4 t _ x).trans ?_
  match x with
  | ⟨0, _⟩ => show win0_4.index t 0 * 1 + 0 = t.val / 32; rw [e0]; omega
  | ⟨1, _⟩ => show win0_4.index t 1 * 16 + n.val = n.val; rw [e1]; omega
  | ⟨2, _⟩ => show win0_4.index t 2 * 1 + 0 = t.val / 8 % 4; rw [e2]; omega
  | ⟨3, _⟩ => show win0_4.index t 3 * 128 + e.val = e.val; rw [e3]; omega
  | ⟨4, _⟩ => show win0_4.index t 4 * 512 + j.val = j.val; rw [e4]; omega

theorem emb0 (t : Fin cfg0.N) (k : Fin 4) (j : Fin 64) : (win0_0.rect t).emb (ix2 k j) = ix2 k j := by
  funext x
  apply Fin.ext
  refine (Pipeline.Window.rect_emb_val win0_0 t _ x).trans ?_
  match x with
  | ⟨0, _⟩ => show win0_0.index t 0 * 4 + k.val = k.val; rw [(idx0 t).1]; omega
  | ⟨1, _⟩ => show win0_0.index t 1 * 64 + j.val = j.val; rw [(idx0 t).2]; omega

theorem emb1 (t : Fin cfg0.N) (e : Fin 128) : (win0_1.rect t).emb (ix2 e 0) = ix2 e 0 := by
  funext x
  apply Fin.ext
  refine (Pipeline.Window.rect_emb_val win0_1 t _ x).trans ?_
  match x with
  | ⟨0, _⟩ => show win0_1.index t 0 * 128 + e.val = e.val; rw [(idx1 t).1]; omega
  | ⟨1, _⟩ => show win0_1.index t 1 * 1 + 0 = 0; rw [(idx1 t).2]

/-! ## The blocks -/

theorem blk0 (t : Fin cfg0.N) (k : Fin 4) (j : Fin 64) : (iblk m c 0 t : Vec Ideal S4x64 .f32) (ix2 k j)
    = (![m ((c : Thread nD τ).loc main_arg3), m ((c : Thread nD τ).loc main_arg4), m ((c : Thread nD τ).loc main_arg5), m ((c : Thread nD τ).loc main_arg6)] k : (⟨S1x64, .f32⟩ : BufTy).Contents (Elt Ideal)) (ix2 0 j) := by
  show (V m c main_v0 : (⟨S4x64, .f32⟩ : BufTy).Contents (Elt Ideal)) ((win0_0.rect t).emb (ix2 k j)) = _
  rw [emb0, V0]
  exact v0_row ![m ((c : Thread nD τ).loc main_arg3), m ((c : Thread nD τ).loc main_arg4), m ((c : Thread nD τ).loc main_arg5), m ((c : Thread nD τ).loc main_arg6)] k j

theorem blk1 (t : Fin cfg0.N) (e : Fin 128) : (iblk m c 1 t : Vec Ideal S128x1 .f32) (ix2 e 0)
    = (m ((c : Thread nD τ).loc main_arg7) : (⟨S1x128, .f32⟩ : BufTy).Contents (Elt Ideal)) (ix2 0 e) := by
  show (V m c main_v9 : (⟨S128x1, .f32⟩ : BufTy).Contents (Elt Ideal)) ((win0_1.rect t).emb (ix2 e 0)) = _
  rw [emb1, v9_at]

theorem blk2 (t : Fin cfg0.N) (a : Fin 1024) (d : Fin 128) : (iblk m c 2 t : Vec Ideal S1024x128 .f32) (ix2 a d)
    = (m ((c : Thread nD τ).loc main_arg0) : (⟨S4x8192x512, .f32⟩ : BufTy).Contents (Elt Ideal)) (ix3 (tb t) (pos (row t a)) (col (th t) d)) := by
  show (V m c main_v1 : (⟨S32768x512, .f32⟩ : BufTy).Contents (Elt Ideal)) ((win0_2.rect t).emb (ix2 a d)) = _
  rw [emb2, V1, flat_at]
  have : bat (row t a) = tb t := Fin.ext (by show ((t.val / 32 * 8 + t.val % 8) * 1024 + a.val) / 8192 = t.val / 32; omega)
  rw [this]

theorem blk3 (t : Fin cfg0.N) (n : Fin 8192) (d : Fin 128) : (iblk m c 3 t : Vec Ideal S8192x128 .bf16) (ix2 n d)
    = (m ((c : Thread nD τ).loc main_arg1) : (⟨S4x8192x512, .f32⟩ : BufTy).Contents (Elt Ideal)) (ix3 (tb t) n (col (th t) d)) := by
  show (V m c main_v3 : (⟨S32768x512, .bf16⟩ : BufTy).Contents (Elt Ideal)) ((win0_3.rect t).emb (ix2 n d)) = _
  rw [emb3, V3]
  refine (flat_at _ _ _).trans ?_
  have e1 : bat (⟨(tb t).val * 8192 + n.val, by have := (tb t).isLt; omega⟩ : Fin 32768) = tb t := Fin.ext (by show ((tb t).val * 8192 + n.val) / 8192 = (tb t).val; omega)
  have e2 : pos (⟨(tb t).val * 8192 + n.val, by have := (tb t).isLt; omega⟩ : Fin 32768) = n := Fin.ext (by show ((tb t).val * 8192 + n.val) % 8192 = n.val; omega)
  rw [e1, e2]

theorem blk4 (t : Fin cfg0.N) (n : Fin 16) (e : Fin 128) (j : Fin 512) : (iblk m c 4 t : Vec Ideal S1x16x1x128x512 .bf16) (ix5 0 n 0 e j)
    = (m ((c : Thread nD τ).loc main_arg2) : (⟨S4x8192x512, .f32⟩ : BufTy).Contents (Elt Ideal)) (ix3 (tb t) (⟨512 * n.val + j.val, by omega⟩ : Fin 8192) (col (th t) e)) := by
  show (V m c main_v8 : (⟨S4x16x4x128x512, .bf16⟩ : BufTy).Contents (Elt Ideal)) ((win0_4.rect t).emb (ix5 0 n 0 e j)) = _
  rw [emb4]
  exact v8_at m c (tb t) (th t) n e j _ rfl

/-! ## The array after the run -/

/-- Every element of an argument is a real number. -/
structure Fin7 (x0 x1 x2 : (⟨S4x8192x512, .f32⟩ : BufTy).Contents (Elt Ideal)) (x3 x4 x5 x6 : (⟨S1x64, .f32⟩ : BufTy).Contents (Elt Ideal)) : Prop where
  q : ∃ q : Fin 4 → Fin 8192 → Fin 512 → ℝ, ∀ b n j, x0 (ix3 b n j) = ((q b n j : ℝ) : EReal)
  k : ∃ q : Fin 4 → Fin 8192 → Fin 512 → ℝ, ∀ b n j, x1 (ix3 b n j) = ((q b n j : ℝ) : EReal)
  v : ∃ q : Fin 4 → Fin 8192 → Fin 512 → ℝ, ∀ b n j, x2 (ix3 b n j) = ((q b n j : ℝ) : EReal)
  l : ∃ l : ℝ, lam (fun j => x3 (ix2 0 j)) (fun j => x4 (ix2 0 j)) (fun j => x5 (ix2 0 j)) (fun j => x6 (ix2 0 j)) = (l : EReal)

/-- The reference's function of the arguments. -/
abbrev whole : (⟨S32768x512, .bf16⟩ : BufTy).Contents (Elt Ideal) :=
  Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

variable (hfin : Fin7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))

include hfin in
theorem block_at (t : Fin cfg0.N) (a : Fin 1024) (e : Fin 128) :
    out0_5 (grid0.coords t) (iblk m c 0 t) (iblk m c 1 t) (iblk m c 2 t) (iblk m c 3 t) (iblk m c 4 t) (ix2 a e)
      = whole m c (ix2 (row t a) (col (th t) e)) := by
  obtain ⟨⟨q, hq⟩, ⟨k, hk⟩, ⟨v, hv⟩, ⟨l, hl⟩⟩ := hfin
  have hpos : (pos (row t a)).val = 1024 * (t.val % 8) + a.val := by
    show ((t.val / 32 * 8 + t.val % 8) * 1024 + a.val) % 8192 = _; omega
  rw [res_at (grid0.coords t) (iblk m c 0 t) (iblk m c 1 t) (iblk m c 2 t) (iblk m c 3 t) (iblk m c 4 t)
    (rows q (tb t) (th t) (pos (row t a)).val) (rows k (tb t) (th t)) (fun e n => rows v (tb t) (th t) n e) a e
    (fun d => by rw [blk2, hq, rows_fin]) (fun n d => by rw [blk3, hk, rows_fin])
    (fun e n j => by
      rw [blk4, hv]
      exact congrArg _ (rows_fin v (tb t) (th t) (⟨512 * n.val + j.val, by omega⟩ : Fin 8192) e).symm)]
  rw [whole, v62_at _ _ _ _ _ _ _ _ q k v hq hk hv l hl (tb t) (pos (row t a)) (th t) e (row t a) (by
    show (t.val / 32 * 8 + t.val % 8) * 1024 + a.val = t.val / 32 * 8192 + ((t.val / 32 * 8 + t.val % 8) * 1024 + a.val) % 8192
    omega)]
  have e2 : 1024 * (grid0.coords t 2).val + (a.val + 1) = (pos (row t a)).val + 1 := by rw [(coords_eq t).2.2, hpos]; omega
  rw [e2]
  simp only [blk0, blk1]
  rfl

include hfin in
theorem flushed_eq (t : Fin cfg0.N) : (dats m 0 c).flushed 5 t = (win0_5.blk t).view.read (Elt Ideal) (whole m c) := by
  show (cfg0.win 5).cut (grid0.coords t) ((dats m 0 c).after 5 t) = _
  rw [after0_5]
  refine funext fun (y : S1024x128.Idx) => ?_
  show out0_5 (grid0.coords t) (iblk m c 0 t) (iblk m c 1 t) (iblk m c 2 t) (iblk m c 3 t) (iblk m c 4 t) y = whole m c ((win0_5.rect t).emb y)
  obtain ⟨a, e, rfl⟩ : ∃ (a : Fin 1024) (e : Fin 128), y = ix2 a e := ⟨y 0, y 1, eq_ix2 y⟩
  rw [block_at m c hfin, emb5]

theorem mem_blk (t : Fin cfg0.N) (i : S32768x512.Idx) :
    i ∈ ((cfg0.win 5).blk t).view.set ↔ ((t.val / 32 * 8 + t.val % 8) * 1024 ≤ (i 0 : Nat) ∧ (i 0 : Nat) < (t.val / 32 * 8 + t.val % 8) * 1024 + 1024)
      ∧ (t.val / 8 % 4) * 128 ≤ (i 1 : Nat) ∧ (i 1 : Nat) < (t.val / 8 % 4) * 128 + 128 := by
  show i ∈ ((View.whole main_v10).slice (win0_5.rect t)).set ↔ _
  rw [View.set_slice_whole, Rect.mem_set_unit]
  have b0 : win0_5.index t 0 * win0_5.size 0 = (t.val / 32 * 8 + t.val % 8) * 1024 := by rw [(idx5 t).1]; rfl
  have b1 : win0_5.index t 1 * win0_5.size 1 = (t.val / 8 % 4) * 128 := by rw [(idx5 t).2]; rfl
  refine ⟨fun h => ?_, fun h a => ?_⟩
  · have h0 : win0_5.index t 0 * win0_5.size 0 ≤ (i 0 : Nat) ∧ (i 0 : Nat) < win0_5.index t 0 * win0_5.size 0 + win0_5.xsize (grid0.coords t) 0 := h 0
    have h1 : win0_5.index t 1 * win0_5.size 1 ≤ (i 1 : Nat) ∧ (i 1 : Nat) < win0_5.index t 1 * win0_5.size 1 + win0_5.xsize (grid0.coords t) 1 := h 1
    rw [b0, (xsz5 t).1] at h0
    rw [b1, (xsz5 t).2] at h1
    exact ⟨h0, h1⟩
  · match a with
    | ⟨0, _⟩ => show win0_5.index t 0 * win0_5.size 0 ≤ (i 0 : Nat) ∧ (i 0 : Nat) < win0_5.index t 0 * win0_5.size 0 + win0_5.xsize (grid0.coords t) 0
                rw [b0, (xsz5 t).1]; exact h.1
    | ⟨1, _⟩ => show win0_5.index t 1 * win0_5.size 1 ≤ (i 1 : Nat) ∧ (i 1 : Nat) < win0_5.index t 1 * win0_5.size 1 + win0_5.xsize (grid0.coords t) 1
                rw [b1, (xsz5 t).2]; exact h.2

/-- The result's blocks tile its array. -/
theorem cover (i : S32768x512.Idx) : ∃ t : Fin cfg0.N, (cfg0.win 5).flush t = true ∧ i ∈ ((cfg0.win 5).blk t).view.set := by
  have h0 : (i 0 : Nat) < 32768 := (i 0).isLt
  have h1 : (i 1 : Nat) < 512 := (i 1).isLt
  have hN : cfg0.N = 128 := by decide
  have ht : ((i 0 : Nat) / 8192 * 4 + (i 1 : Nat) / 128) * 8 + (i 0 : Nat) / 1024 % 8 < cfg0.N := by omega
  refine ⟨⟨_, ht⟩, flush0_5 _, ?_⟩
  rw [mem_blk]
  dsimp only
  omega

include hfin in
theorem final : (dats m 0 c).arrAt 5 cfg0.N = whole m c :=
  (dats m 0 c).arrAt_eq_of_cover 5 (whole m c) (fun t _ => flushed_eq m c hfin t) cover

end Cert.KernelIdeal.Attn

end
-- ==== Proof.AttnClaims.lean ====
/-
  The claims about the attention call: the two kernels' frames, the reference's frame, the named constant, and the equation of
  the kernel's result with the reference's over the extended reals where queries, keys, values and the λ vectors are finite.
-/
module

public import proofs.«01_k».proof.Defs
public import proofs.«01_k».proof.Proof.AttnFrameBits
public import proofs.«01_k».proof.Proof.AttnWhole
public import proofs.«01_k».proof.Proof.Gen.Pre_finite

@[expose] public section

set_option maxRecDepth 16384

noncomputable section

namespace Cert.AttnClaims

open Idealize.ShloMosaic Idealize.ShloMosaic.TcCoe Idealize.ShloMosaic.ValueIdx Idealize.SL.Sem
open Cert.KernelIdeal.Attn (Fin7 whole lam)

theorem frame_kernel : Cert.quiescent_Kernel := fun m ρ _ => Cert.Kernel.Attn.frame m ρ
theorem frame_ideal : Cert.quiescent_KernelIdeal := fun m ρ _ => Cert.KernelIdeal.Attn.frame m ρ
theorem frame_ideal_pre : Cert.quiescent_KernelIdeal_pre_finite := fun m ρ _ => Cert.KernelIdeal.Attn.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : Cert.quiescent_ReferenceIdeal_pre_finite := fun m ρ _ => frame_reference m ρ trivial

theorem preserves : Cert.preserves_Kernel_KernelIdeal :=
  IdealRules.named_const.statement Cert.KernelIdeal.κ "qk_scale" .f32 0x3E38AA3B#32 (((1 / 8) * (Real.log 2)⁻¹ : ℝ) : EReal) rfl

/-! ## The precondition read -/

theorem top_f32 : Ideal.ofBits .f32 0x7F800000#32 = ⊤ := by simp [Ideal.ofBits, Ideal.ieee]

/-- A value whose absolute value compares below infinity is a real number. -/
theorem real_of_lt (x : EReal) (h : Ideal.cmp .olt (max x (-x)) (Ideal.ofBits .f32 0x7F800000#32) = 1#1) : ∃ r : ℝ, x = (r : EReal) := by
  rw [top_f32] at h
  have h' : max x (-x) < ⊤ := by
    by_contra hn
    simp [Ideal.cmp, hn] at h
  have h1 : x ≠ ⊤ := fun e => by rw [e] at h'; simp at h'
  have h2 : x ≠ ⊥ := fun e => by rw [e] at h'; simp at h'
  exact ⟨x.toReal, (EReal.coe_toReal h1 h2).symm⟩

theorem real_cube (x : FVec Ideal Cert.Pre_finite.S4x8192x512 .f32)
    (h : ∀ i, Ideal.cmp .olt (max (x i) (-(x i))) (Ideal.ofBits .f32 0x7F800000#32) = 1#1) :
    ∃ q : Fin 4 → Fin 8192 → Fin 512 → ℝ, ∀ b n j, x (ix3 b n j) = ((q b n j : ℝ) : EReal) :=
  ⟨fun b n j => (real_of_lt _ (h (ix3 b n j))).choose, fun b n j => (real_of_lt _ (h (ix3 b n j))).choose_spec⟩

theorem real_row (x : FVec Ideal Cert.Pre_finite.S1x64 .f32)
    (h : ∀ i, Ideal.cmp .olt (max (x i) (-(x i))) (Ideal.ofBits .f32 0x7F800000#32) = 1#1) :
    ∃ q : Fin 64 → ℝ, ∀ j, x (ix2 0 j) = ((q j : ℝ) : EReal) :=
  ⟨fun j => (real_of_lt _ (h (ix2 0 j))).choose, fun j => (real_of_lt _ (h (ix2 0 j))).choose_spec⟩

theorem fifth : ∃ r : ℝ, Ideal.ofBits .f32 0x3E4CCCCD#32 = (r : EReal) := by
  refine ⟨13421773 * (1 / 67108864), ?_⟩
  simp [Ideal.ofBits, Ideal.ieee]
  norm_num

/-- The factor of the second map is a real number where the four vectors are finite. -/
theorem lam_real (a b d f : Fin 64 → EReal) (ha : ∃ q : Fin 64 → ℝ, ∀ j, a j = ((q j : ℝ) : EReal)) (hb : ∃ q : Fin 64 → ℝ, ∀ j, b j = ((q j : ℝ) : EReal))
    (hd : ∃ q : Fin 64 → ℝ, ∀ j, d j = ((q j : ℝ) : EReal)) (hf : ∃ q : Fin 64 → ℝ, ∀ j, f j = ((q j : ℝ) : EReal)) : ∃ l : ℝ, lam a b d f = (l : EReal) := by
  obtain ⟨a', ha⟩ := ha
  obtain ⟨b', hb⟩ := hb
  obtain ⟨d', hd⟩ := hd
  obtain ⟨f', hf⟩ := hf
  obtain ⟨r, hr⟩ := fifth
  unfold lam
  simp only [ha, hb, hd, hf, ← EReal.coe_mul, Cert.Softmax.coe_sum, Ideal.exp_coe, hr, ← EReal.coe_sub, ← EReal.coe_add]
  exact ⟨_, rfl⟩

theorem fin7 (m : (ℓ : Loc Cert.KernelIdeal.nD Cert.KernelIdeal.τ Cert.KernelIdeal.sig) → Buf (Elt Ideal) ℓ) (h : Cert.Pre_KernelIdeal_finite m) (c : Dev Cert.KernelIdeal.nD) :
    Fin7 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  obtain ⟨h0, h1, h2, h3, h4, h5, h6⟩ := h c
  exact ⟨real_cube _ fun i => congrFun h0 i, real_cube _ fun i => congrFun h1 i, real_cube _ fun i => congrFun h2 i,
    lam_real _ _ _ _ (real_row _ fun i => congrFun h3 i) (real_row _ fun i => congrFun h4 i) (real_row _ fun i => congrFun h5 i)
      (real_row _ fun i => congrFun h6 i)⟩

/-- The kernel's result array and the reference's are one function of the arguments. -/
theorem algebraic : Cert.algebraic_KernelIdeal_ReferenceIdeal_pre_finite := by
  intro m ρ m' ρ' hpre hag
  refine ⟨fun c => whole m c, ?_, ?_⟩
  · exact (θ_run Cert.KernelIdeal.defs _ _).mono
      (fun r h c => ⟨((h.1 c).1 5).trans (Cert.KernelIdeal.Attn.final m c (fin7 m hpre c)), h.2.1 c⟩)
      (θ_run_and (Cert.KernelIdeal.Attn.run_main m ρ) (Cert.KernelIdeal.Attn.frame m ρ))
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7⟩ := hag c
    rw [Cert.ReferenceIdeal.Read.val_main_v62_eq]
    show Cert.ReferenceIdeal.Read.val_main_v62 _ _ _ _ _ _ _ _ = Cert.ReferenceIdeal.Read.val_main_v62 _ _ _ _ _ _ _ _
    rw [e0, e1, e2, e3, e4, e5, e6, e7]

end Cert.AttnClaims

end
-- ==== Proof.FfnMath.lean ====
/-
  The output projection, the convolutional gated MLP and the last norm, row by row over the extended reals.
-/
module

public import Idealize.ShloMosaic.PureOps.Ideal
public import Mathlib.Algebra.BigOperators.Fin

@[expose] public section

noncomputable section

namespace Cert.Ffn

open Idealize.ShloMosaic

def dim : EReal := Ideal.ofBits .f32 0x44800000#32
def eps : EReal := Ideal.ofBits .f32 0x3727C5AC#32
def one : EReal := Ideal.ofBits .f32 0x3F800000#32

/-- A row over the root of its mean square, times the gain. -/
def rms (x g : Fin 1024 → EReal) (j : Fin 1024) : EReal :=
  x j * Ideal.rsqrt (Ideal.div (∑ k, x k * x k) dim + eps) * g j

def lo (k : Fin 512) : Fin 1024 := ⟨k.val, by omega⟩
def hi (k : Fin 512) : Fin 1024 := ⟨512 + k.val, by omega⟩

/-- The residual row plus both mixers' outputs projected. -/
def mix (x : Fin 1024 → EReal) (oa os : Fin 512 → EReal) (wo : Fin 1024 → Fin 1024 → EReal) (j : Fin 1024) : EReal :=
  x j + ((∑ k, oa k * wo (lo k) j) + ∑ k, os k * wo (hi k) j)

/-- The up-projection of a row. -/
def up (h : Fin 1024 → EReal) (w : Fin 1024 → Fin 5632 → EReal) (c : Fin 5632) : EReal := ∑ k, h k * w k c

/-- The convolution over the last three up-projected rows. -/
def conv (b : Fin 5632 → EReal) (w : Fin 3 → Fin 5632 → EReal) (u2 u1 u0 : Fin 5632 → EReal) (c : Fin 5632) : EReal :=
  b c + w 0 c * u2 c + w 1 c * u1 c + w 2 c * u0 c

def gate (j : Fin 2816) : Fin 5632 := ⟨j.val, by omega⟩
def val (j : Fin 2816) : Fin 5632 := ⟨2816 + j.val, by omega⟩

/-- The gated activation. -/
def act (y : Fin 5632 → EReal) (j : Fin 2816) : EReal :=
  y (gate j) * Ideal.div one (one + Ideal.exp (-(y (gate j)))) * y (val j)

/-- The row after the down-projection and the last norm. -/
def out (x1 : Fin 1024 → EReal) (y : Fin 5632 → EReal) (wd : Fin 2816 → Fin 1024 → EReal) (gf : Fin 1024 → EReal) : Fin 1024 → EReal :=
  rms (fun j => x1 j + ∑ k, act y k * wd k j) gf

/-- The rows of a sequence with eight rows of zeros before them. -/
def pad (u : Fin 8192 → Fin 5632 → EReal) (n : ℕ) (c : Fin 5632) : EReal :=
  if h : 8 ≤ n ∧ n < 8200 then u ⟨n - 8, by omega⟩ c else 0

theorem pad_lt (u : Fin 8192 → Fin 5632 → EReal) (n : ℕ) (c : Fin 5632) (h : n < 8) : pad u n c = 0 := by
  unfold pad; rw [dif_neg (by omega)]

theorem pad_add (u : Fin 8192 → Fin 5632 → EReal) (n : ℕ) (c : Fin 5632) (s : Fin 8192) (h : n = s.val + 8) : pad u n c = u s c := by
  unfold pad
  rw [dif_pos (by omega)]
  congr 1
  apply Fin.ext
  show n - 8 = s.val
  omega

/-- A sequence's rows: the residual stream after the mixers, the up-projected rows, the result. -/
def res (x : Fin 8192 → Fin 1024 → EReal) (oa os : Fin 8192 → Fin 512 → EReal) (wo : Fin 1024 → Fin 1024 → EReal) (s : Fin 8192) : Fin 1024 → EReal :=
  mix (x s) (oa s) (os s) wo

def ups (r : Fin 8192 → Fin 1024 → EReal) (g : Fin 1024 → EReal) (wu : Fin 1024 → Fin 5632 → EReal) (s : Fin 8192) : Fin 5632 → EReal :=
  up (rms (r s) g) wu

def result (r : Fin 8192 → Fin 1024 → EReal) (u : Fin 8192 → Fin 5632 → EReal) (b : Fin 5632 → EReal) (w : Fin 3 → Fin 5632 → EReal)
    (wd : Fin 2816 → Fin 1024 → EReal) (gf : Fin 1024 → EReal) (s : Fin 8192) : Fin 1024 → EReal :=
  out (r s) (conv b w (pad u (s.val + 6)) (pad u (s.val + 7)) (pad u (s.val + 8))) wd gf

/-- A sum over both halves of the mixed row. -/
theorem sum_halves (f : Fin 1024 → EReal) : ∑ k, f k = (∑ k : Fin 512, f (lo k)) + ∑ k : Fin 512, f (hi k) :=
  Fin.sum_univ_add (a := 512) (b := 512) f

end Cert.Ffn
-- ==== Proof.FfnTile.lean ====
/-
  What the stages of the gated MLP's body compute, element by element over the extended reals.
-/
module

public import proofs.«01_k».proof.Proof.FfnMath
public import proofs.«01_k».proof.Proof.Gen.Kernel2Ideal.Skeleton
public import Idealize.ShloMosaic.Lib.MatmulPlain
public import Idealize.ShloMosaic.Lib.WritesUnit
public import Idealize.ShloMosaic.Lib.Pipeline.ValueKit.Tiles
public import Idealize.ShloMosaic.Lib.ValueIdx
public import Idealize.ShloMosaic.Lib.ValueLayout
public import Idealize.ShloMosaic.Lib.IdealHost

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.ValueIdx

theorem lift_row (r : Fin 512) (k : Fin 1024) : reduces_S512x1024_S512.lift (ix1 r) k = ix2 r k := by
  funext a
  apply Fin.ext
  refine (Shape.Reduces.lift_val _ _ _ _).trans ?_
  match a with
  | ⟨0, _⟩ => rfl
  | ⟨1, _⟩ => rfl

theorem column (x : FVec Ideal S512 .f32) (r : Fin 512) (c : Fin 1) :
    shapeCast S512x1 x shapeCasts_S512_S512x1 (ix2 r c) = x (ix1 r) :=
  shapeCast_apply x _ _ _ (by
    rw [Shape.rowMajor_val_one, Shape.rowMajor_val_two]
    show r.val = r.val * 1 + c.val
    omega)

theorem over_columns (x : FVec Ideal S512x1 .f32) (r : Fin 512) (c : Fin 1024) :
    broadcastTo S512x1024 x broadcasts_S512x1_S512x1024 (ix2 r c) = x (ix2 r 0) :=
  broadcastTo_apply x _ _ _ (fun a => by match a with | ⟨0, _⟩ => rfl | ⟨1, _⟩ => rfl)

theorem over_rows (x : FVec Ideal S1x1024 .f32) (r : Fin 512) (c : Fin 1024) :
    broadcastTo S512x1024 x broadcasts_S1x1024_S512x1024 (ix2 r c) = x (ix2 0 c) :=
  broadcastTo_apply x _ _ _ (fun a => by match a with | ⟨0, _⟩ => rfl | ⟨1, _⟩ => rfl)

theorem over_rows' (x : FVec Ideal S1x2816 .f32) (r : Fin 512) (c : Fin 2816) :
    broadcastTo S512x2816 x broadcasts_S1x2816_S512x2816 (ix2 r c) = x (ix2 0 c) :=
  broadcastTo_apply x _ _ _ (fun a => by match a with | ⟨0, _⟩ => rfl | ⟨1, _⟩ => rfl)

/-- The mean square of a block's row, and the root over it. -/
theorem scale_at (x : FVec Ideal S512x1024 .f32) (r : Fin 512) (j : Fin 1024) :
    broadcastTo S512x1024 (rsqrt (addf (divf (shapeCast S512x1 (multiReduction .add [1] S512 (mulf x x) 0x00000000#32 reduces_S512x1024_S512 (.inl rfl) rfl)
        shapeCasts_S512_S512x1) (broadcast S512x1 (Scalar.ofBits (F := Ideal) .f32 0x44800000#32))) (broadcast S512x1 (Scalar.ofBits (F := Ideal) .f32 0x3727C5AC#32))))
        broadcasts_S512x1_S512x1024 (ix2 r j)
      = Ideal.rsqrt (Ideal.div (∑ k, (x (ix2 r k) : EReal) * x (ix2 r k)) dim + eps) := by
  rw [over_columns]
  show Ideal.rsqrt (Ideal.div (shapeCast S512x1 _ shapeCasts_S512_S512x1 (ix2 r 0)) dim + eps) = _
  rw [column]
  refine congrArg (fun z => Ideal.rsqrt (Ideal.div z dim + eps)) ((Ideal.multiReduction_add_single (mulf x x) _ reduces_S512x1024_S512 _ _ (ix1 r)).trans ?_)
  refine Finset.sum_congr rfl fun k _ => ?_
  exact congrArg (mulf x x) (lift_row r k)

/-- The residual stream after the mixers. -/
theorem pay3_at (x : Vec Ideal S512x1024 .f32) (oa os : Vec Ideal S512x512 .bf16) (wa ws : Vec Ideal S512x1024 .bf16)
    (wo : Fin 1024 → Fin 1024 → EReal) (ha : ∀ k j, wa (ix2 k j) = wo (lo k) j) (hs : ∀ k j, ws (ix2 k j) = wo (hi k) j)
    (r : Fin 512) (j : Fin 1024) :
    k0_pay3 x oa wa os ws (ix2 r j) = mix (fun j => x (ix2 r j)) (fun k => oa (ix2 r k)) (fun k => os (ix2 r k)) wo j := by
  unfold k0_pay3
  simp only [shapeCast_self]
  rw [addf_apply, addf_apply]
  have e1 := Ideal.matmul_plain_apply (M := 512) (K := 512) (N := 1024) (φ₁ := .bf16) (φ₂ := .bf16) none oa wa (constant S512x1024 .f32 0x00000000#32) r j
  have e2 := Ideal.matmul_plain_apply (M := 512) (K := 512) (N := 1024) (φ₁ := .bf16) (φ₂ := .bf16) none os ws (constant S512x1024 .f32 0x00000000#32) r j
  rw [constant_apply, Ideal.ofBits_zero_f32, zero_add] at e1 e2
  refine (congrArg₂ (fun a b : EReal => (x (ix2 r j) : EReal) + a + b) e1 e2).trans ?_
  unfold mix
  rw [add_assoc]
  simp only [ha, hs]

/-- The normed row that the up-projection takes. -/
theorem pay4_at (x : Vec Ideal S512x1024 .f32) (oa os : Vec Ideal S512x512 .bf16) (wa ws : Vec Ideal S512x1024 .bf16)
    (g : Vec Ideal S1x1024 .f32) (r : Fin 512) (j : Fin 1024) :
    k0_pay4 x oa wa os ws g (ix2 r j) = rms (fun j => k0_pay3 x oa wa os ws (ix2 r j)) (fun j => g (ix2 0 j)) j := by
  unfold k0_pay4
  dsimp only
  rw [truncf_apply, mulf_apply, mulf_apply, scale_at, over_rows]
  rfl

theorem pay7_at (h : FVec Ideal S512x1024 .bf16) (w : Vec Ideal S1024x2816 .bf16) (r : Fin 512) (c : Fin 2816) :
    k0_pay7 h w (ix2 r c) = ∑ k : Fin 1024, (h (ix2 r k) : EReal) * w (ix2 k c) := by
  unfold k0_pay7
  rw [shapeCast_self]
  refine (Ideal.matmul_plain_apply (M := 512) (K := 1024) (N := 2816) none h w _ r c).trans ?_
  rw [constant_apply, Ideal.ofBits_zero_f32, zero_add]

theorem pay8_at (h : FVec Ideal S512x1024 .bf16) (w : Vec Ideal S1024x2816 .bf16) (r : Fin 512) (c : Fin 2816) :
    k0_pay8 h w (ix2 r c) = ∑ k : Fin 1024, (h (ix2 r k) : EReal) * w (ix2 k c) := pay7_at h w r c

/-- A row of a packed table, columns from `o` on. -/
theorem piece_at (n : ℕ) (x : FVec Ideal (⟨2, ![n, 5632]⟩ : Shape) .f32) (i o : ℕ) (hs : (⟨2, ![n, 5632]⟩ : Shape).Slices ![i, o] S1x2816)
    (r : Fin n) (hr : r.val = i) (c : Fin 2816) (c' : Fin 5632) (hc : c'.val = o + c.val) :
    extractStridedSlice S1x2816 ![i, o] x hs (ix2 0 c) = x (ix2 r c') :=
  extractStridedSlice_apply ![i, o] x hs (ix2 0 c) (ix2 r c') (fun a => by
    match a with
    | ⟨0, _⟩ => show r.val = i + 0; omega
    | ⟨1, _⟩ => exact hc)

/-- The convolution, gate half. -/
theorem pay12_at (h : FVec Ideal S512x1024 .bf16) (cw : FVec Ideal S3x5632 .f32) (cb : Vec Ideal S1x5632 .f32) (w : Vec Ideal S1024x2816 .bf16)
    (u1 u2 : Vec Ideal S512x2816 .f32) (r : Fin 512) (c : Fin 2816) :
    k0_pay12 h cw cb w u1 u2 (ix2 r c) = (cb (ix2 0 (gate c)) : EReal) + cw (ix2 0 (gate c)) * u2 (ix2 r c) + cw (ix2 1 (gate c)) * u1 (ix2 r c)
      + cw (ix2 2 (gate c)) * k0_pay7 h w (ix2 r c) := by
  unfold k0_pay12
  rw [addf_apply, addf_apply, addf_apply, mulf_apply, mulf_apply, mulf_apply, over_rows', over_rows', over_rows', over_rows',
    piece_at 1 cb 0 0 _ 0 rfl c (gate c) (Nat.zero_add _).symm, piece_at 3 cw 0 0 _ 0 rfl c (gate c) (Nat.zero_add _).symm,
    piece_at 3 cw 1 0 _ 1 rfl c (gate c) (Nat.zero_add _).symm, piece_at 3 cw 2 0 _ 2 rfl c (gate c) (Nat.zero_add _).symm]

/-- The gated activation. -/
theorem pay16_at (cw : FVec Ideal S3x5632 .f32) (cb : Vec Ideal S1x5632 .f32) (u0 g : FVec Ideal S512x2816 .f32)
    (u1 u2 : Vec Ideal S512x2816 .f32) (r : Fin 512) (c : Fin 2816) :
    k0_pay16 cw cb u0 g u1 u2 (ix2 r c)
      = (g (ix2 r c) : EReal) * Ideal.div one (one + Ideal.exp (-(g (ix2 r c) : EReal)))
        * ((cb (ix2 0 (val c)) : EReal) + cw (ix2 0 (val c)) * u2 (ix2 r c) + cw (ix2 1 (val c)) * u1 (ix2 r c) + cw (ix2 2 (val c)) * u0 (ix2 r c)) := by
  unfold k0_pay16
  rw [truncf_apply, mulf_apply, addf_apply, addf_apply, addf_apply, mulf_apply, mulf_apply, mulf_apply, mulf_apply, over_rows', over_rows', over_rows', over_rows',
    piece_at 1 cb 0 2816 _ 0 rfl c (val c) rfl, piece_at 3 cw 0 2816 _ 0 rfl c (val c) rfl,
    piece_at 3 cw 1 2816 _ 1 rfl c (val c) rfl, piece_at 3 cw 2 2816 _ 2 rfl c (val c) rfl]
  refine congrArg (fun z : EReal => (g (ix2 r c) : EReal) * Ideal.div one (one + Ideal.exp z) * _) ?_
  show Ideal.ofBits .f32 0x00000000#32 - (g (ix2 r c) : EReal) = _
  rw [Ideal.ofBits_zero_f32, zero_sub]

/-- The result's row. -/
theorem pay1_at (x : FVec Ideal S512x1024 .f32) (a : FVec Ideal S512x2816 .bf16) (wd : Vec Ideal S2816x1024 .bf16) (g : Vec Ideal S1x1024 .f32)
    (r : Fin 512) (j : Fin 1024) :
    k0_pay1 x k0_pay6 a wd g (ix2 r j)
      = rms (fun j => (x (ix2 r j) : EReal) + ∑ k : Fin 2816, (a (ix2 r k) : EReal) * wd (ix2 k j)) (fun j => g (ix2 0 j)) j := by
  have e : ∀ j, addf x (addf k0_pay6 (matmul dot_S512x2816_S2816x1024_S512x1024_1_0_0_1_n_n none a wd (constant S512x1024 .f32 0x00000000#32))) (ix2 r j)
      = (x (ix2 r j) : EReal) + ∑ k : Fin 2816, (a (ix2 r k) : EReal) * wd (ix2 k j) := fun j => by
    rw [addf_apply, addf_apply]
    have e1 := Ideal.matmul_plain_apply (M := 512) (K := 2816) (N := 1024) (φ₁ := .bf16) (φ₂ := .bf16) none a wd (constant S512x1024 .f32 0x00000000#32) r j
    rw [constant_apply, Ideal.ofBits_zero_f32, zero_add] at e1
    refine congrArg (fun z : EReal => (x (ix2 r j) : EReal) + z) ?_
    refine (congrArg (fun z : EReal => (k0_pay6 (F := Ideal) (ix2 r j) : EReal) + z) e1).trans ?_
    show Ideal.ofBits .f32 0x00000000#32 + _ = _
    rw [Ideal.ofBits_zero_f32, zero_add]
  unfold k0_pay1
  dsimp only
  simp only [shapeCast_self]
  rw [mulf_apply, mulf_apply, scale_at, over_rows]
  simp only [e]
  rfl

/-- The result's row from the values the body reads: `P` holds the rows the convolution reaches. -/
theorem tile_out (x1 : FVec Ideal S512x1024 .f32) (h2 : FVec Ideal S512x1024 .bf16) (cw : FVec Ideal S3x5632 .f32) (cb : Vec Ideal S1x5632 .f32)
    (wg wv : Vec Ideal S1024x2816 .bf16) (g1 g2 v1 v2 : Vec Ideal S512x2816 .f32) (wd : Vec Ideal S2816x1024 .bf16) (gf : Vec Ideal S1x1024 .f32)
    (P : ℕ → Fin 5632 → EReal)
    (hg1 : ∀ (r : Fin 512) c, g1 (ix2 r c) = P (7 + r.val) (gate c)) (hg2 : ∀ (r : Fin 512) c, g2 (ix2 r c) = P (6 + r.val) (gate c))
    (hv1 : ∀ (r : Fin 512) c, v1 (ix2 r c) = P (7 + r.val) (val c)) (hv2 : ∀ (r : Fin 512) c, v2 (ix2 r c) = P (6 + r.val) (val c))
    (hg : ∀ (r : Fin 512) c, k0_pay7 h2 wg (ix2 r c) = P (8 + r.val) (gate c)) (hv : ∀ (r : Fin 512) c, k0_pay8 h2 wv (ix2 r c) = P (8 + r.val) (val c))
    (r : Fin 512) (j : Fin 1024) :
    k0_pay1 x1 k0_pay6 (k0_pay16 cw cb (k0_pay8 h2 wv) (k0_pay12 h2 cw cb wg g1 g2) v1 v2) wd gf (ix2 r j)
      = out (fun j => x1 (ix2 r j)) (conv (fun c => cb (ix2 0 c)) (fun a c => cw (ix2 a c)) (P (6 + r.val)) (P (7 + r.val)) (P (8 + r.val)))
          (fun k j => wd (ix2 k j)) (fun j => gf (ix2 0 j)) j := by
  rw [pay1_at]
  unfold out
  have e : ∀ c, k0_pay16 cw cb (k0_pay8 h2 wv) (k0_pay12 h2 cw cb wg g1 g2) v1 v2 (ix2 r c)
      = act (conv (fun c => cb (ix2 0 c)) (fun a c => cw (ix2 a c)) (P (6 + r.val)) (P (7 + r.val)) (P (8 + r.val))) c := fun c => by
    rw [pay16_at, pay12_at, hg1, hg2, hv1, hv2, hg, hv]
    rfl
  simp only [e]

/-- The scratch, eight carried rows before a tile's rows, read from row `o`. -/
theorem scratch_at {n : ℕ} (M : Memref sig .tc .vmem S520x2816 .f32) (U : Vec Ideal S512x2816 .f32) (C : Vec Ideal S8x2816 .f32)
    (P : ℕ → Fin 2816 → EReal) (hU : ∀ (r : Fin 512) c, U (ix2 r c) = P (8 + r.val) c) (hC : ∀ (r : Fin 8) c, C (ix2 r c) = P r.val c)
    (o : ℕ) (inb1 : ∀ a, (![8, 0] : Fin 2 → ℕ) a + S512x2816.size a ≤ S520x2816.size a) (inb2 : ∀ a, (![0, 0] : Fin 2 → ℕ) a + S8x2816.size a ≤ S520x2816.size a)
    (inb : ∀ a, (![o, 0] : Fin 2 → ℕ) a + (⟨2, ![n, 2816]⟩ : Shape).size a ≤ S520x2816.size a) (r : Fin n) (c : Fin 2816) :
    M.view.readCov (Val := Elt Ideal) [⟨Rect.unit ![8, 0] S512x2816.size inb1, U⟩, ⟨Rect.unit ![0, 0] S8x2816.size inb2, C⟩]
      (Rect.unit (s := S520x2816) ![o, 0] (⟨2, ![n, 2816]⟩ : Shape).size inb).toLoadRect (ix2 r c) = P (o + r.val) c := by
  have hb : o + n ≤ 520 := inb 0
  have hy : (Rect.unit (s := S520x2816) ![o, 0] (⟨2, ![n, 2816]⟩ : Shape).size inb).toLoadRect.idx (ix2 r c) = (ix2 (⟨o + r.val, by omega⟩ : Fin 520) c : S520x2816.Idx) := by
    funext a
    apply Fin.ext
    refine (Rect.idx_unit_val (s := S520x2816) ![o, 0] (⟨2, ![n, 2816]⟩ : Shape).size inb (ix2 r c) a).trans ?_
    match a with
    | ⟨0, _⟩ => rfl
    | ⟨1, _⟩ => exact Nat.zero_add _
  show M.view.read (Elt Ideal) (M.view.writes (Elt Ideal) M.view.junk _) ((Rect.unit (s := S520x2816) ![o, 0] (⟨2, ![n, 2816]⟩ : Shape).size inb).toLoadRect.idx (ix2 r c)) = _
  rw [hy]
  by_cases h : o + r.val < 8
  · refine (View.read_writes_cons_unit_of_not_mem M.view _ inb1 U _ _ rfl 0 (.inl h)).trans ?_
    refine (View.read_writes_cons_unit_of_mem M.view _ inb2 C [] _ (ix2 (⟨o + r.val, h⟩ : Fin 8) c) rfl (fun a => ?_)).trans (hC _ c)
    match a with
    | ⟨0, _⟩ => exact (Nat.zero_add _).symm
    | ⟨1, _⟩ => exact (Nat.zero_add _).symm
  · refine (View.read_writes_cons_unit_of_mem M.view _ inb1 U _ _ (ix2 (⟨o + r.val - 8, by omega⟩ : Fin 512) c) rfl (fun a => ?_)).trans ?_
    · match a with
      | ⟨0, _⟩ => show o + r.val = 8 + (o + r.val - 8); omega
      | ⟨1, _⟩ => exact (Nat.zero_add _).symm
    · rw [hU]
      show P (8 + (o + r.val - 8)) c = _
      rw [show 8 + (o + r.val - 8) = o + r.val by omega]

/-- A load from a block held whole. -/
theorem load_at {S : Shape} {e : EltTy} (M : Memref sig .tc .vmem S e) (hM : M.IsWhole) (x : Vec Ideal S e) (off size : Fin S.rank → ℕ)
    (inb : ∀ a, off a + size a ≤ S.size a) (k : (Rect.unit off size inb).shape.Idx) (i : S.Idx) (hi : ∀ a, (i a : ℕ) = off a + k a) :
    View.readAt (Elt Ideal) M.view (Rect.unit off size inb).toLoadRect (hM.unread x) k = x i := by
  rw [View.readAt_eq_ld, hM.read_unread]
  exact View.ld_unit_apply_of x off size inb k i hi

theorem load_whole {S : Shape} {e : EltTy} (M : Memref sig .tc .vmem S e) (hM : M.IsWhole) (x : Vec Ideal S e) (off : Fin S.rank → ℕ)
    (inb : ∀ a, off a + S.size a ≤ S.size a) (h : ∀ a, off a = 0) :
    View.readAt (Elt Ideal) M.view (Rect.unit off S.size inb).toLoadRect (hM.unread x) = x := by
  rw [View.readAt_eq_ld, hM.read_unread]
  exact View.ld_unit_lit inb x h

/-- The up-projected row of a tile, half `q` of the columns. -/
theorem ups_at (x : Vec Ideal S512x1024 .f32) (oa os : Vec Ideal S512x512 .bf16) (wa ws : Vec Ideal S512x1024 .bf16) (g : Vec Ideal S1x1024 .f32)
    (wo : Fin 1024 → Fin 1024 → EReal) (ha : ∀ k j, wa (ix2 k j) = wo (lo k) j) (hs : ∀ k j, ws (ix2 k j) = wo (hi k) j)
    (w : Vec Ideal S1024x2816 .bf16) (wu : Fin 1024 → Fin 5632 → EReal) (q : Fin 2816 → Fin 5632) (hw : ∀ k c, w (ix2 k c) = wu k (q c))
    (r : Fin 512) (c : Fin 2816) :
    k0_pay7 (k0_pay4 x oa wa os ws g) w (ix2 r c)
      = up (rms (mix (fun j => x (ix2 r j)) (fun k => oa (ix2 r k)) (fun k => os (ix2 r k)) wo) (fun j => g (ix2 0 j))) wu (q c) := by
  rw [pay7_at]
  unfold up
  refine Finset.sum_congr rfl fun k _ => ?_
  rw [hw, pay4_at]
  simp only [pay3_at x oa os wa ws wo ha hs]

theorem pay9_at (v : Vec Ideal S1x8x2816 .f32) (r : Fin 8) (c : Fin 2816) : k0_pay9 v (ix2 r c) = v (ix3 0 r c) := by
  unfold k0_pay9
  rw [shapeCast_self]
  exact shapeCast_apply v _ _ _ (by
    rw [Shape.rowMajor_val_two, Shape.rowMajor_val_three]
    show (0 * 8 + r.val) * 2816 + c.val = r.val * 2816 + c.val
    omega)

theorem pay11_at (v : Vec Ideal S8x2816 .f32) (r : Fin 8) (c : Fin 2816) : k0_pay11 v (ix3 0 r c) = v (ix2 r c) := by
  unfold k0_pay11
  exact shapeCast_apply v _ _ _ (by
    rw [Shape.rowMajor_val_two, Shape.rowMajor_val_three]
    show r.val * 2816 + c.val = (0 * 8 + r.val) * 2816 + c.val
    omega)

theorem pay2_at (r : Fin 8) (c : Fin 5632) : k0_pay2 (F := Ideal) (ix3 0 r c) = 0 := by
  unfold k0_pay2
  refine (shapeCast_apply (t := S1x8x5632) _ _ _ (ix2 r c) (by
    rw [Shape.rowMajor_val_two, Shape.rowMajor_val_three]
    show r.val * 5632 + c.val = (0 * 8 + r.val) * 5632 + c.val
    omega)).trans ?_
  exact Ideal.ofBits_zero_f32

theorem pay10_eq (h : FVec Ideal S512x1024 .bf16) (w : Vec Ideal S1024x2816 .bf16) : k0_pay10 h w = k0_pay7 h w := shapeCast_self _ _

theorem pay14_eq (u : FVec Ideal S512x2816 .f32) : k0_pay14 u = u := shapeCast_self _ _

theorem pay5_eq (w : Vec Ideal S3x5632 .f32) : k0_pay5 w = w := shapeCast_self _ _

/-- Two stores of halves of the columns, read at a column of either. -/
theorem halves_at (M : View sig .tc .vmem S1x8x5632 .f32) (g v : Vec Ideal S1x8x2816 .f32) (L : List (View.Piece (Elt Ideal) S1x8x5632 .f32))
    (P : Fin 8 → Fin 5632 → EReal) (hg : ∀ r c, g (ix3 0 r c) = P r (gate c)) (hv : ∀ r c, v (ix3 0 r c) = P r (val c))
    (inb1 : ∀ a, (![0, 0, 2816] : Fin 3 → ℕ) a + S1x8x2816.size a ≤ S1x8x5632.size a) (inb2 : ∀ a, (![0, 0, 0] : Fin 3 → ℕ) a + S1x8x2816.size a ≤ S1x8x5632.size a)
    (r : Fin 8) (c : Fin 5632) :
    M.read (Elt Ideal) (M.writes (Elt Ideal) M.junk
      (⟨Rect.unit ![0, 0, 2816] S1x8x2816.size inb1, v⟩ :: ⟨Rect.unit ![0, 0, 0] S1x8x2816.size inb2, g⟩ :: L)) (ix3 0 r c) = P r c := by
  by_cases h : c.val < 2816
  · refine (View.read_writes_cons_unit_of_not_mem M _ inb1 v _ _ rfl 2 (.inl h)).trans ?_
    refine (View.read_writes_cons_unit_of_mem M _ inb2 g L _ (ix3 0 r (⟨c.val, h⟩ : Fin 2816)) rfl (fun a => ?_)).trans (hg _ _)
    match a with
    | ⟨0, _⟩ => rfl
    | ⟨1, _⟩ => exact (Nat.zero_add _).symm
    | ⟨2, _⟩ => exact (Nat.zero_add _).symm
  · refine (View.read_writes_cons_unit_of_mem M _ inb1 v _ _ (ix3 0 r (⟨c.val - 2816, by omega⟩ : Fin 2816)) rfl (fun a => ?_)).trans ((hv _ _).trans ?_)
    · match a with
      | ⟨0, _⟩ => rfl
      | ⟨1, _⟩ => exact (Nat.zero_add _).symm
      | ⟨2, _⟩ => show c.val = 2816 + (c.val - 2816); omega
    · refine congrArg (P r) (Fin.ext ?_)
      show 2816 + (c.val - 2816) = c.val
      omega

end Cert.Kernel2Ideal.Ffn
-- ==== Proof.FfnBlock.lean ====
/-
  What the gated MLP's body leaves in its two output blocks, from the blocks it is given and the rows carried to it.
-/
module

public import proofs.«01_k».proof.Proof.FfnTile
public import proofs.«01_k».proof.Proof.Gen.Kernel2Ideal.Frame
public import Idealize.ShloMosaic.Lib.Tactic

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.ValueIdx Idealize.ShloMosaic.Tactic

theorem zero2 : ∀ a : Fin 2, (![0, 0] : Fin 2 → ℕ) a = 0 := by decide

theorem lo_at (M : Memref sig .tc .vmem S1024x1024 .bf16) (hM : M.IsWhole) (x : Vec Ideal S1024x1024 .bf16)
    (inb : ∀ a, (![0, 0] : Fin _ → ℕ) a + S512x1024.size a ≤ S1024x1024.size a) (k : Fin 512) (j : Fin 1024) :
    View.readAt (Elt Ideal) M.view (Rect.unit (s := S1024x1024) ![0, 0] S512x1024.size inb).toLoadRect (hM.unread x) (ix2 k j) = x (ix2 (lo k) j) :=
  load_at M hM x ![0, 0] S512x1024.size inb (ix2 k j) (ix2 (lo k) j) (fun a => by
    match a with
    | ⟨0, _⟩ => exact (Nat.zero_add _).symm
    | ⟨1, _⟩ => exact (Nat.zero_add _).symm)

theorem hi_at (M : Memref sig .tc .vmem S1024x1024 .bf16) (hM : M.IsWhole) (x : Vec Ideal S1024x1024 .bf16)
    (inb : ∀ a, (![512, 0] : Fin _ → ℕ) a + S512x1024.size a ≤ S1024x1024.size a) (k : Fin 512) (j : Fin 1024) :
    View.readAt (Elt Ideal) M.view (Rect.unit (s := S1024x1024) ![512, 0] S512x1024.size inb).toLoadRect (hM.unread x) (ix2 k j) = x (ix2 (hi k) j) :=
  load_at M hM x ![512, 0] S512x1024.size inb (ix2 k j) (ix2 (hi k) j) (fun a => by
    match a with
    | ⟨0, _⟩ => exact rfl
    | ⟨1, _⟩ => exact (Nat.zero_add _).symm)

theorem gate_at (M : Memref sig .tc .vmem S1024x5632 .bf16) (hM : M.IsWhole) (x : Vec Ideal S1024x5632 .bf16)
    (inb : ∀ a, (![0, 0] : Fin _ → ℕ) a + S1024x2816.size a ≤ S1024x5632.size a) (k : Fin 1024) (c : Fin 2816) :
    View.readAt (Elt Ideal) M.view (Rect.unit (s := S1024x5632) ![0, 0] S1024x2816.size inb).toLoadRect (hM.unread x) (ix2 k c) = x (ix2 k (gate c)) :=
  load_at M hM x ![0, 0] S1024x2816.size inb (ix2 k c) (ix2 k (gate c)) (fun a => by
    match a with
    | ⟨0, _⟩ => exact (Nat.zero_add _).symm
    | ⟨1, _⟩ => exact (Nat.zero_add _).symm)

theorem val_at (M : Memref sig .tc .vmem S1024x5632 .bf16) (hM : M.IsWhole) (x : Vec Ideal S1024x5632 .bf16)
    (inb : ∀ a, (![0, 2816] : Fin _ → ℕ) a + S1024x2816.size a ≤ S1024x5632.size a) (k : Fin 1024) (c : Fin 2816) :
    View.readAt (Elt Ideal) M.view (Rect.unit (s := S1024x5632) ![0, 2816] S1024x2816.size inb).toLoadRect (hM.unread x) (ix2 k c) = x (ix2 k (val c)) :=
  load_at M hM x ![0, 2816] S1024x2816.size inb (ix2 k c) (ix2 k (val c)) (fun a => by
    match a with
    | ⟨0, _⟩ => exact (Nat.zero_add _).symm
    | ⟨1, _⟩ => exact rfl)

theorem carry_gate (M : Memref sig .tc .vmem S1x8x5632 .f32) (hM : M.IsWhole) (x : Vec Ideal S1x8x5632 .f32)
    (inb : ∀ a, (![0, 0, 0] : Fin _ → ℕ) a + S1x8x2816.size a ≤ S1x8x5632.size a) (r : Fin 8) (c : Fin 2816) :
    View.readAt (Elt Ideal) M.view (Rect.unit (s := S1x8x5632) ![0, 0, 0] S1x8x2816.size inb).toLoadRect (hM.unread x) (ix3 0 r c) = x (ix3 0 r (gate c)) :=
  load_at M hM x ![0, 0, 0] S1x8x2816.size inb (ix3 0 r c) (ix3 0 r (gate c)) (fun a => by
    match a with
    | ⟨0, _⟩ => exact rfl
    | ⟨1, _⟩ => exact (Nat.zero_add _).symm
    | ⟨2, _⟩ => exact (Nat.zero_add _).symm)

theorem carry_val (M : Memref sig .tc .vmem S1x8x5632 .f32) (hM : M.IsWhole) (x : Vec Ideal S1x8x5632 .f32)
    (inb : ∀ a, (![0, 0, 2816] : Fin _ → ℕ) a + S1x8x2816.size a ≤ S1x8x5632.size a) (r : Fin 8) (c : Fin 2816) :
    View.readAt (Elt Ideal) M.view (Rect.unit (s := S1x8x5632) ![0, 0, 2816] S1x8x2816.size inb).toLoadRect (hM.unread x) (ix3 0 r c) = x (ix3 0 r (val c)) :=
  load_at M hM x ![0, 0, 2816] S1x8x2816.size inb (ix3 0 r c) (ix3 0 r (val c)) (fun a => by
    match a with
    | ⟨0, _⟩ => exact rfl
    | ⟨1, _⟩ => exact (Nat.zero_add _).symm
    | ⟨2, _⟩ => exact rfl)

/-- The carry zeroed at a sequence's first tile, read at the gate's columns. -/
theorem first_gate (M : Memref sig .tc .vmem S1x8x5632 .f32) (inb0 : ∀ a, (![0, 0, 0] : Fin 3 → ℕ) a + S1x8x5632.size a ≤ S1x8x5632.size a)
    (inb : ∀ a, (![0, 0, 0] : Fin 3 → ℕ) a + S1x8x2816.size a ≤ S1x8x5632.size a) (r : Fin 8) (c : Fin 2816) :
    M.view.readCov (Val := Elt Ideal) [⟨Rect.unit ![0, 0, 0] S1x8x5632.size inb0, k0_pay2 (F := Ideal)⟩]
      (Rect.unit (s := S1x8x5632) ![0, 0, 0] S1x8x2816.size inb).toLoadRect (ix3 0 r c) = 0 := by
  show M.view.read (Elt Ideal) (M.view.writes (Elt Ideal) M.view.junk _) ((Rect.unit (s := S1x8x5632) ![0, 0, 0] S1x8x2816.size inb).toLoadRect.idx (ix3 0 r c)) = _
  refine (View.read_writes_cons_unit_of_mem M.view _ inb0 _ [] _ (ix3 0 r (gate c)) rfl (fun a => ?_)).trans (pay2_at r (gate c))
  refine (Rect.idx_unit_val (s := S1x8x5632) ![0, 0, 0] S1x8x2816.size inb (ix3 0 r c) a).trans ?_
  match a with
  | ⟨0, _⟩ => rfl
  | ⟨1, _⟩ => rfl
  | ⟨2, _⟩ => rfl

/-- and at the value's columns, after the gate's columns are stored. -/
theorem first_val (M : Memref sig .tc .vmem S1x8x5632 .f32) (g : Vec Ideal S1x8x2816 .f32)
    (inb0 : ∀ a, (![0, 0, 0] : Fin 3 → ℕ) a + S1x8x5632.size a ≤ S1x8x5632.size a)
    (inb1 : ∀ a, (![0, 0, 0] : Fin 3 → ℕ) a + S1x8x2816.size a ≤ S1x8x5632.size a)
    (inb : ∀ a, (![0, 0, 2816] : Fin 3 → ℕ) a + S1x8x2816.size a ≤ S1x8x5632.size a) (r : Fin 8) (c : Fin 2816) :
    M.view.readCov (Val := Elt Ideal) [⟨Rect.unit ![0, 0, 0] S1x8x2816.size inb1, g⟩, ⟨Rect.unit ![0, 0, 0] S1x8x5632.size inb0, k0_pay2 (F := Ideal)⟩]
      (Rect.unit (s := S1x8x5632) ![0, 0, 2816] S1x8x2816.size inb).toLoadRect (ix3 0 r c) = 0 := by
  have e : ∀ a, ((Rect.unit (s := S1x8x5632) ![0, 0, 2816] S1x8x2816.size inb).toLoadRect.idx (ix3 0 r c) a).val
      = (![0, 0, 2816] : Fin 3 → ℕ) a + (ix3 0 r c : S1x8x2816.Idx) a := Rect.idx_unit_val (s := S1x8x5632) ![0, 0, 2816] S1x8x2816.size inb (ix3 0 r c)
  show M.view.read (Elt Ideal) (M.view.writes (Elt Ideal) M.view.junk _) ((Rect.unit (s := S1x8x5632) ![0, 0, 2816] S1x8x2816.size inb).toLoadRect.idx (ix3 0 r c)) = _
  refine (View.read_writes_cons_unit_of_not_mem M.view _ inb1 g _ _ rfl 2 (.inr ?_)).trans ?_
  · rw [e 2]
    show 0 + 2816 ≤ 2816 + c.val
    omega
  refine (View.read_writes_cons_unit_of_mem M.view _ inb0 _ [] _ (ix3 0 r (val c)) rfl (fun a => ?_)).trans (pay2_at r (val c))
  refine (e a).trans ?_
  match a with
  | ⟨0, _⟩ => rfl
  | ⟨1, _⟩ => exact (Nat.zero_add _).trans (Nat.zero_add _).symm
  | ⟨2, _⟩ => exact (Nat.zero_add _).symm

section
variable (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x8x5632 .f32) (harg13 : arg13.IsWhole) (arg14 : Memref sig .tc .vmem S520x2816 .f32) (harg14 : arg14.IsWhole) (arg15 : Memref sig .tc .vmem S520x2816 .f32) (harg15 : arg15.IsWhole)
variable (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)

/-- The rows a block's convolution reaches: `P` holds the carried rows, then the tile's. -/
def Rows (P : ℕ → Fin 5632 → EReal) : Prop :=
  ∀ (r : Fin 512) (c : Fin 5632), up (rms (mix (fun j => x0 (ix2 r j)) (fun k => x1 (ix2 r k)) (fun k => x2 (ix2 r k)) (fun k j => x3 (ix2 k j)))
    (fun j => x4 (ix2 0 j))) (fun k c => x5 (ix2 k c)) c = P (8 + r.val) c

/-- A block's result row. -/
def outRow (P : ℕ → Fin 5632 → EReal) (r : Fin 512) (j : Fin 1024) : EReal :=
  out (mix (fun j => x0 (ix2 r j)) (fun k => x1 (ix2 r k)) (fun k => x2 (ix2 r k)) (fun k j => x3 (ix2 k j)))
    (conv (fun c => x7 (ix2 0 c)) (fun a c => x6 (ix2 a c)) (P (6 + r.val)) (P (7 + r.val)) (P (8 + r.val)))
    (fun k j => x8 (ix2 k j)) (fun j => x9 (ix2 0 j)) j

theorem outA10 (hc0 : cond0_0 i) (P : ℕ → Fin 5632 → EReal) (hP : Rows x0 x1 x2 x3 x4 x5 P) (hC : ∀ (n : ℕ) c, n < 8 → P n c = 0)
    (r : Fin 512) (j : Fin 1024) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 r j) = outRow x0 x1 x2 x3 x6 x7 x8 x9 P r j := by
  unfold out0_A_10
  unfold kernelRun0_A
  dsimp only
  sl_unfold_words
  simp only [load_whole arg2 harg2 x0 ![0, 0] _ zero2, load_whole arg3 harg3 x1 ![0, 0] _ zero2, load_whole arg4 harg4 x2 ![0, 0] _ zero2, load_whole arg6 harg6 x4 ![0, 0] _ zero2, load_whole arg8 harg8 x6 ![0, 0] _ zero2, load_whole arg9 harg9 x7 ![0, 0] _ zero2, load_whole arg10 harg10 x8 ![0, 0] _ zero2, load_whole arg11 harg11 x9 ![0, 0] _ zero2, pay5_eq, pay10_eq, pay14_eq]
  have hg : ∀ (r : Fin 512) (c : Fin 2816), k0_pay7 (k0_pay4 x0 x1 _ x2 _ x4) _ (ix2 r c) = P (8 + r.val) (gate c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) gate (gate_at arg7 harg7 x5 inb_S1024x5632_S1024x2816_0_0) r c).trans (hP r _)
  have hv : ∀ (r : Fin 512) (c : Fin 2816), k0_pay8 (k0_pay4 x0 x1 _ x2 _ x4) _ (ix2 r c) = P (8 + r.val) (val c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) val (val_at arg7 harg7 x5 inb_S1024x5632_S1024x2816_0_2816) r c).trans (hP r _)
  refine (View.read_writes_cons_unit_of_mem _ _ _ _ [] _ (ix2 r j) rfl (fun a => by
    match a with
    | ⟨0, _⟩ => exact (Nat.zero_add _).symm
    | ⟨1, _⟩ => exact (Nat.zero_add _).symm)).trans ?_
  refine (tile_out _ _ _ _ _ _ _ _ _ _ _ _ P
    (fun r c => scratch_at arg14 _ _ (fun n c => P n (gate c)) hg (fun r c => (pay9_at _ r c).trans ((first_gate arg13 _ _ r c).trans (hC r.val (gate c) r.isLt).symm)) 7 _ _ _ r c)
    (fun r c => scratch_at arg14 _ _ (fun n c => P n (gate c)) hg (fun r c => (pay9_at _ r c).trans ((first_gate arg13 _ _ r c).trans (hC r.val (gate c) r.isLt).symm)) 6 _ _ _ r c)
    (fun r c => scratch_at arg15 _ _ (fun n c => P n (val c)) hv (fun r c => (pay9_at _ r c).trans ((first_val arg13 _ _ _ _ r c).trans (hC r.val (val c) r.isLt).symm)) 7 _ _ _ r c)
    (fun r c => scratch_at arg15 _ _ (fun n c => P n (val c)) hv (fun r c => (pay9_at _ r c).trans ((first_val arg13 _ _ _ _ r c).trans (hC r.val (val c) r.isLt).symm)) 6 _ _ _ r c) hg hv r j).trans ?_
  unfold outRow
  simp only [pay3_at x0 x1 x2 _ _ (fun k j => x3 (ix2 k j)) (lo_at arg5 harg5 x3 inb_S1024x1024_S512x1024_0_0) (hi_at arg5 harg5 x3 inb_S1024x1024_S512x1024_512_0)]

theorem outA11 (hc0 : cond0_0 i) (P : ℕ → Fin 5632 → EReal) (hP : Rows x0 x1 x2 x3 x4 x5 P) (hC : ∀ (n : ℕ) c, n < 8 → P n c = 0)
    (r : Fin 8) (d : Fin 5632) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix3 0 r d) = P (512 + r.val) d := by
  unfold out0_A_11
  unfold kernelRun0_A
  dsimp only
  sl_unfold_words
  simp only [load_whole arg2 harg2 x0 ![0, 0] _ zero2, load_whole arg3 harg3 x1 ![0, 0] _ zero2, load_whole arg4 harg4 x2 ![0, 0] _ zero2, load_whole arg6 harg6 x4 ![0, 0] _ zero2, load_whole arg8 harg8 x6 ![0, 0] _ zero2, load_whole arg9 harg9 x7 ![0, 0] _ zero2, load_whole arg10 harg10 x8 ![0, 0] _ zero2, load_whole arg11 harg11 x9 ![0, 0] _ zero2, pay5_eq, pay10_eq, pay14_eq]
  have hg : ∀ (r : Fin 512) (c : Fin 2816), k0_pay7 (k0_pay4 x0 x1 _ x2 _ x4) _ (ix2 r c) = P (8 + r.val) (gate c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) gate (gate_at arg7 harg7 x5 inb_S1024x5632_S1024x2816_0_0) r c).trans (hP r _)
  have hv : ∀ (r : Fin 512) (c : Fin 2816), k0_pay8 (k0_pay4 x0 x1 _ x2 _ x4) _ (ix2 r c) = P (8 + r.val) (val c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) val (val_at arg7 harg7 x5 inb_S1024x5632_S1024x2816_0_2816) r c).trans (hP r _)
  exact halves_at VO0_11 _ _ _ (fun r d => P (512 + r.val) d) (fun r c => (pay11_at _ r c).trans
    (scratch_at arg14 _ _ (fun n c => P n (gate c)) hg (fun r c => (pay9_at _ r c).trans ((first_gate arg13 _ _ r c).trans (hC r.val (gate c) r.isLt).symm)) 512 _ _ _ r c))
    (fun r c => (pay11_at _ r c).trans
    (scratch_at arg15 _ _ (fun n c => P n (val c)) hv (fun r c => (pay9_at _ r c).trans ((first_val arg13 _ _ _ _ r c).trans (hC r.val (val c) r.isLt).symm)) 512 _ _ _ r c)) _ _ r d

theorem outB10 (hc0 : ¬cond0_0 i) (xo : Vec Ideal S1x8x5632 .f32) (P : ℕ → Fin 5632 → EReal) (hP : Rows x0 x1 x2 x3 x4 x5 P) (hC : ∀ (r : Fin 8) c, xo (ix3 0 r c) = P r.val c)
    (r : Fin 512) (j : Fin 1024) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo (ix2 r j) = outRow x0 x1 x2 x3 x6 x7 x8 x9 P r j := by
  unfold out0_B_10
  unfold kernelRun0_B
  dsimp only
  sl_unfold_words
  simp only [load_whole arg2 harg2 x0 ![0, 0] _ zero2, load_whole arg3 harg3 x1 ![0, 0] _ zero2, load_whole arg4 harg4 x2 ![0, 0] _ zero2, load_whole arg6 harg6 x4 ![0, 0] _ zero2, load_whole arg8 harg8 x6 ![0, 0] _ zero2, load_whole arg9 harg9 x7 ![0, 0] _ zero2, load_whole arg10 harg10 x8 ![0, 0] _ zero2, load_whole arg11 harg11 x9 ![0, 0] _ zero2, pay5_eq, pay10_eq, pay14_eq]
  have hg : ∀ (r : Fin 512) (c : Fin 2816), k0_pay7 (k0_pay4 x0 x1 _ x2 _ x4) _ (ix2 r c) = P (8 + r.val) (gate c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) gate (gate_at arg7 harg7 x5 inb_S1024x5632_S1024x2816_0_0) r c).trans (hP r _)
  have hv : ∀ (r : Fin 512) (c : Fin 2816), k0_pay8 (k0_pay4 x0 x1 _ x2 _ x4) _ (ix2 r c) = P (8 + r.val) (val c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) val (val_at arg7 harg7 x5 inb_S1024x5632_S1024x2816_0_2816) r c).trans (hP r _)
  refine (View.read_writes_cons_unit_of_mem _ _ _ _ [] _ (ix2 r j) rfl (fun a => by
    match a with
    | ⟨0, _⟩ => exact (Nat.zero_add _).symm
    | ⟨1, _⟩ => exact (Nat.zero_add _).symm)).trans ?_
  refine (tile_out _ _ _ _ _ _ _ _ _ _ _ _ P
    (fun r c => scratch_at arg14 _ _ (fun n c => P n (gate c)) hg (fun r c => (pay9_at _ r c).trans ((carry_gate arg13 harg13 xo _ r c).trans (hC r (gate c)))) 7 _ _ _ r c)
    (fun r c => scratch_at arg14 _ _ (fun n c => P n (gate c)) hg (fun r c => (pay9_at _ r c).trans ((carry_gate arg13 harg13 xo _ r c).trans (hC r (gate c)))) 6 _ _ _ r c)
    (fun r c => scratch_at arg15 _ _ (fun n c => P n (val c)) hv (fun r c => (pay9_at _ r c).trans ((carry_val arg13 harg13 xo _ r c).trans (hC r (val c)))) 7 _ _ _ r c)
    (fun r c => scratch_at arg15 _ _ (fun n c => P n (val c)) hv (fun r c => (pay9_at _ r c).trans ((carry_val arg13 harg13 xo _ r c).trans (hC r (val c)))) 6 _ _ _ r c) hg hv r j).trans ?_
  unfold outRow
  simp only [pay3_at x0 x1 x2 _ _ (fun k j => x3 (ix2 k j)) (lo_at arg5 harg5 x3 inb_S1024x1024_S512x1024_0_0) (hi_at arg5 harg5 x3 inb_S1024x1024_S512x1024_512_0)]

theorem outB11 (hc0 : ¬cond0_0 i) (xo : Vec Ideal S1x8x5632 .f32) (P : ℕ → Fin 5632 → EReal) (hP : Rows x0 x1 x2 x3 x4 x5 P) (hC : ∀ (r : Fin 8) c, xo (ix3 0 r c) = P r.val c)
    (r : Fin 8) (d : Fin 5632) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo (ix3 0 r d) = P (512 + r.val) d := by
  unfold out0_B_11
  unfold kernelRun0_B
  dsimp only
  sl_unfold_words
  simp only [load_whole arg2 harg2 x0 ![0, 0] _ zero2, load_whole arg3 harg3 x1 ![0, 0] _ zero2, load_whole arg4 harg4 x2 ![0, 0] _ zero2, load_whole arg6 harg6 x4 ![0, 0] _ zero2, load_whole arg8 harg8 x6 ![0, 0] _ zero2, load_whole arg9 harg9 x7 ![0, 0] _ zero2, load_whole arg10 harg10 x8 ![0, 0] _ zero2, load_whole arg11 harg11 x9 ![0, 0] _ zero2, pay5_eq, pay10_eq, pay14_eq]
  have hg : ∀ (r : Fin 512) (c : Fin 2816), k0_pay7 (k0_pay4 x0 x1 _ x2 _ x4) _ (ix2 r c) = P (8 + r.val) (gate c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) gate (gate_at arg7 harg7 x5 inb_S1024x5632_S1024x2816_0_0) r c).trans (hP r _)
  have hv : ∀ (r : Fin 512) (c : Fin 2816), k0_pay8 (k0_pay4 x0 x1 _ x2 _ x4) _ (ix2 r c) = P (8 + r.val) (val c) := fun r c =>
    (ups_at x0 x1 x2 _ _ x4 (fun k j => x3 (ix2 k j)) (lo_at arg5 harg5 x3 inb_S1024x1024_S512x1024_0_0) (hi_at arg5 harg5 x3 inb_S1024x1024_S512x1024_512_0)
      _ (fun k c => x5 (ix2 k c)) val (val_at arg7 harg7 x5 inb_S1024x5632_S1024x2816_0_2816) r c).trans (hP r _)
  exact halves_at VO0_11 _ _ _ (fun r d => P (512 + r.val) d) (fun r c => (pay11_at _ r c).trans
    (scratch_at arg14 _ _ (fun n c => P n (gate c)) hg (fun r c => (pay9_at _ r c).trans ((carry_gate arg13 harg13 xo _ r c).trans (hC r (gate c)))) 512 _ _ _ r c))
    (fun r c => (pay11_at _ r c).trans
    (scratch_at arg15 _ _ (fun n c => P n (val c)) hv (fun r c => (pay9_at _ r c).trans ((carry_val arg13 harg13 xo _ r c).trans (hC r (val c)))) 512 _ _ _ r c)) _ _ r d

end

end Cert.Kernel2Ideal.Ffn
-- ==== Proof.FfnSpec.lean ====
/-
  The output projection, the gated MLP and the last norm as functions of the arrays both programs are given.
-/
module

public import proofs.«01_k».proof.Proof.FfnMath
public import Idealize.ShloMosaic.Lib.ValueIdx

@[expose] public section

noncomputable section

namespace Cert.Ffn

open Idealize.ShloMosaic Idealize.ShloMosaic.ValueIdx

/-- A position of a sequence among the rows of the flattened arrays, and back. -/
def flat (b : Fin 4) (s : Fin 8192) : Fin 32768 := ⟨b.val * 8192 + s.val, by omega⟩
def bat (r : Fin 32768) : Fin 4 := ⟨r.val / 8192, by omega⟩
def pos (r : Fin 32768) : Fin 8192 := ⟨r.val % 8192, by omega⟩

variable (x0 : Vec Ideal (⟨3, ![4, 8192, 1024]⟩ : Shape) .f32) (x1 x2 : Vec Ideal (⟨2, ![32768, 512]⟩ : Shape) .bf16)
  (x3 : Vec Ideal (⟨3, ![1, 1024, 1024]⟩ : Shape) .f32) (x4 : Vec Ideal (⟨2, ![1, 1024]⟩ : Shape) .f32)
  (x5 : Vec Ideal (⟨3, ![1, 1024, 5632]⟩ : Shape) .f32) (x6 : Vec Ideal (⟨3, ![1, 3, 5632]⟩ : Shape) .f32)
  (x7 : Vec Ideal (⟨2, ![1, 5632]⟩ : Shape) .f32) (x8 : Vec Ideal (⟨3, ![1, 2816, 1024]⟩ : Shape) .f32)
  (x9 : Vec Ideal (⟨1, ![1024]⟩ : Shape) .f32)

/-- The residual stream after the mixers. -/
def resid (b : Fin 4) : Fin 8192 → Fin 1024 → EReal :=
  res (fun s j => x0 (ix3 b s j)) (fun s k => x1 (ix2 (flat b s) k)) (fun s k => x2 (ix2 (flat b s) k)) (fun k j => x3 (ix3 0 k j))

/-- The up-projected rows. -/
def upped (b : Fin 4) : Fin 8192 → Fin 5632 → EReal :=
  ups (resid x0 x1 x2 x3 b) (fun j => x4 (ix2 0 j)) (fun k c => x5 (ix3 0 k c))

/-- The result at a position. -/
def final (b : Fin 4) (s : Fin 8192) : Fin 1024 → EReal :=
  result (resid x0 x1 x2 x3 b) (upped x0 x1 x2 x3 x4 x5 b) (fun c => x7 (ix2 0 c)) (fun a c => x6 (ix3 0 a c)) (fun k j => x8 (ix3 0 k j))
    (fun j => x9 (ix1 j)) s

/-- The first result array: the last norm's rows, flattened. -/
def resY : Vec Ideal (⟨2, ![32768, 1024]⟩ : Shape) .f32 := fun i => final x0 x1 x2 x3 x4 x5 x6 x7 x8 x9 (bat (i 0)) (pos (i 0)) (i 1)

/-- The second: each sequence's last eight up-projected rows. -/
def resK : Vec Ideal (⟨3, ![4, 8, 5632]⟩ : Shape) .f32 := fun i => pad (upped x0 x1 x2 x3 x4 x5 (i 0)) (8192 + (i 1).val) (i 2)

end Cert.Ffn

end
-- ==== Proof.FfnWhole.lean ====
/-
  The gated MLP call's result arrays: the host's re-laid weights read at an index, each window's block at a grid point as elements
  of the arguments, the rows carried from tile to tile, and both arrays after the run as functions of the arguments.
-/
module

public import proofs.«01_k».proof.Proof.FfnBlock
public import proofs.«01_k».proof.Proof.FfnSpec
public import proofs.«01_k».proof.Proof.Gen.Kernel2Ideal.Value
public import Idealize.ShloMosaic.Lib.Pipeline.Value
public import Idealize.ShloMosaic.Lib.Quiescent

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## What the host hands the call -/

theorem V8 : V m c main_v8 = shapeCast S32768x1024 (m ((c : Thread nD τ).loc main_arg0)) shapeCasts_S4x8192x1024_S32768x1024 := by
  show StableHlo.after hostOps0 _ _ = _
  after_results
  rfl

theorem V1 : V m c main_v1 = shapeCast S1024x1024 (m ((c : Thread nD τ).loc main_arg3)) shapeCasts_S1x1024x1024_S1024x1024 := by
  show StableHlo.after hostOps0 _ _ = _
  after_results
  rfl

theorem V3 : V m c main_v3 = shapeCast S1024x5632 (m ((c : Thread nD τ).loc main_arg5)) shapeCasts_S1x1024x5632_S1024x5632 := by
  show StableHlo.after hostOps0 _ _ = _
  after_results
  rfl

theorem V4 : V m c main_v4 = shapeCast S3x5632 (m ((c : Thread nD τ).loc main_arg6)) shapeCasts_S1x3x5632_S3x5632 := by
  show StableHlo.after hostOps0 _ _ = _
  after_results
  rfl

theorem V6 : V m c main_v6 = shapeCast S2816x1024 (m ((c : Thread nD τ).loc main_arg8)) shapeCasts_S1x2816x1024_S2816x1024 := by
  show StableHlo.after hostOps0 _ _ = _
  after_results
  rfl

theorem V7 : V m c main_v7 = shapeCast S1x1024 (m ((c : Thread nD τ).loc main_arg9)) shapeCasts_S1024_S1x1024 := by
  show StableHlo.after hostOps0 _ _ = _
  after_results
  rfl

theorem flat_at (x : (⟨S4x8192x1024, .f32⟩ : BufTy).Contents (Elt Ideal)) (b : Fin 4) (s : Fin 8192) (j : Fin 1024) :
    shapeCast S32768x1024 x shapeCasts_S4x8192x1024_S32768x1024 (ix2 (flat b s) j) = x (ix3 b s j) :=
  shapeCast_apply x _ _ _ (by
    rw [Shape.rowMajor_val_two, Shape.rowMajor_val_three]
    rfl)

/-- A weight without its leading axis of size one. -/
theorem lead_at {n k : ℕ} (x : (⟨(⟨3, ![1, n, k]⟩ : Shape), .f32⟩ : BufTy).Contents (Elt Ideal)) (h : (⟨3, ![1, n, k]⟩ : Shape).ShapeCasts (⟨2, ![n, k]⟩ : Shape)) (a : Fin n) (d : Fin k) :
    shapeCast (⟨2, ![n, k]⟩ : Shape) x h (ix2 a d) = x (ix3 0 a d) :=
  shapeCast_apply x _ _ _ (by
    rw [Shape.rowMajor_val_two, Shape.rowMajor_val_three]
    show (0 * n + a.val) * k + d.val = a.val * k + d.val
    rw [Nat.zero_mul, Nat.zero_add])

theorem row_at (x : (⟨S1024, .f32⟩ : BufTy).Contents (Elt Ideal)) (d : Fin 1024) :
    shapeCast S1x1024 x shapeCasts_S1024_S1x1024 (ix2 0 d) = x (ix1 d) :=
  shapeCast_apply x _ _ _ (by
    rw [Shape.rowMajor_val_two, Shape.rowMajor_val_one]
    show d.val = 0 * 1024 + d.val
    omega)

/-! ## Where the blocks lie -/

theorem tlt (t : Fin cfg0.N) : t.val < 64 := t.isLt.trans_eq (by decide)

/-- A point's sequence, and the position of a row of its tile. -/
def tb (t : Fin cfg0.N) : Fin 4 := ⟨t.val / 16, by have := tlt t; omega⟩
def tp (t : Fin cfg0.N) (r : Fin 512) : Fin 8192 := ⟨512 * (t.val % 16) + r.val, by omega⟩

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx10 : ∀ t : Fin cfg0.N, win0_10.index t 0 = t.val ∧ win0_10.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx11 : ∀ t : Fin cfg0.N, win0_11.index t 0 = t.val / 16 ∧ win0_11.index t 1 = 0 ∧ win0_11.index t 2 = 0 := by decide +kernel
theorem xsz10 : ∀ t : Fin cfg0.N, win0_10.xsize (grid0.coords t) 0 = 512 ∧ win0_10.xsize (grid0.coords t) 1 = 1024 := by decide +kernel
theorem xsz11 : ∀ t : Fin cfg0.N, win0_11.xsize (grid0.coords t) 0 = 1 ∧ win0_11.xsize (grid0.coords t) 1 = 8 ∧ win0_11.xsize (grid0.coords t) 2 = 5632 := by decide +kernel

theorem emb0 (t : Fin cfg0.N) (a : Fin 512) (d : Fin 1024) : (win0_0.rect t).emb (ix2 a d) = ix2 (flat (tb t) (tp t a)) d := by
  funext x
  apply Fin.ext
  refine (Pipeline.Window.rect_emb_val win0_0 t _ x).trans ?_
  match x with
  | ⟨0, _⟩ => show win0_0.index t 0 * 512 + a.val = t.val / 16 * 8192 + (512 * (t.val % 16) + a.val); rw [(idx0 t).1]; omega
  | ⟨1, _⟩ => show win0_0.index t 1 * 1024 + d.val = d.val; rw [(idx0 t).2]; omega

theorem emb1 (t : Fin cfg0.N) (a : Fin 512) (d : Fin 512) : (win0_1.rect t).emb (ix2 a d) = ix2 (flat (tb t) (tp t a)) d := by
  funext x
  apply Fin.ext
  refine (Pipeline.Window.rect_emb_val win0_1 t _ x).trans ?_
  match x with
  | ⟨0, _⟩ => show win0_1.index t 0 * 512 + a.val = t.val / 16 * 8192 + (512 * (t.val % 16) + a.val); rw [(idx1 t).1]; omega
  | ⟨1, _⟩ => show win0_1.index t 1 * 512 + d.val = d.val; rw [(idx1 t).2]; omega

theorem emb2 (t : Fin cfg0.N) (a : Fin 512) (d : Fin 512) : (win0_2.rect t).emb (ix2 a d) = ix2 (flat (tb t) (tp t a)) d := by
  funext x
  apply Fin.ext
  refine (Pipeline.Window.rect_emb_val win0_2 t _ x).trans ?_
  match x with
  | ⟨0, _⟩ => show win0_2.index t 0 * 512 + a.val = t.val / 16 * 8192 + (512 * (t.val % 16) + a.val); rw [(idx2 t).1]; omega
  | ⟨1, _⟩ => show win0_2.index t 1 * 512 + d.val = d.val; rw [(idx2 t).2]; omega

theorem emb10 (t : Fin cfg0.N) (a : Fin 512) (d : Fin 1024) : (win0_10.rect t).emb (ix2 a d) = ix2 (flat (tb t) (tp t a)) d := by
  funext x
  apply Fin.ext
  refine (Pipeline.Window.rect_emb_val win0_10 t _ x).trans ?_
  match x with
  | ⟨0, _⟩ => show win0_10.index t 0 * 512 + a.val = t.val / 16 * 8192 + (512 * (t.val % 16) + a.val); rw [(idx10 t).1]; omega
  | ⟨1, _⟩ => show win0_10.index t 1 * 1024 + d.val = d.val; rw [(idx10 t).2]; omega

theorem emb3 (t : Fin cfg0.N) (a : Fin 1024) (d : Fin 1024) : (win0_3.rect t).emb (ix2 a d) = ix2 a d := by
  funext x
  apply Fin.ext
  refine (Pipeline.Window.rect_emb_val win0_3 t _ x).trans ?_
  match x with
  | ⟨0, _⟩ => show win0_3.index t 0 * 1024 + a.val = a.val; rw [(idx3 t).1]; omega
  | ⟨1, _⟩ => show win0_3.index t 1 * 1024 + d.val = d.val; rw [(idx3 t).2]; omega

theorem emb4 (t : Fin cfg0.N) (a : Fin 1) (d : Fin 1024) : (win0_4.rect t).emb (ix2 a d) = ix2 a d := by
  funext x
  apply Fin.ext
  refine (Pipeline.Window.rect_emb_val win0_4 t _ x).trans ?_
  match x with
  | ⟨0, _⟩ => show win0_4.index t 0 * 1 + a.val = a.val; rw [(idx4 t).1]; omega
  | ⟨1, _⟩ => show win0_4.index t 1 * 1024 + d.val = d.val; rw [(idx4 t).2]; omega

theorem emb5 (t : Fin cfg0.N) (a : Fin 1024) (d : Fin 5632) : (win0_5.rect t).emb (ix2 a d) = ix2 a d := by
  funext x
  apply Fin.ext
  refine (Pipeline.Window.rect_emb_val win0_5 t _ x).trans ?_
  match x with
  | ⟨0, _⟩ => show win0_5.index t 0 * 1024 + a.val = a.val; rw [(idx5 t).1]; omega
  | ⟨1, _⟩ => show win0_5.index t 1 * 5632 + d.val = d.val; rw [(idx5 t).2]; omega

theorem emb6 (t : Fin cfg0.N) (a : Fin 3) (d : Fin 5632) : (win0_6.rect t).emb (ix2 a d) = ix2 a d := by
  funext x
  apply Fin.ext
  refine (Pipeline.Window.rect_emb_val win0_6 t _ x).trans ?_
  match x with
  | ⟨0, _⟩ => show win0_6.index t 0 * 3 + a.val = a.val; rw [(idx6 t).1]; omega
  | ⟨1, _⟩ => show win0_6.index t 1 * 5632 + d.val = d.val; rw [(idx6 t).2]; omega

theorem emb7 (t : Fin cfg0.N) (a : Fin 1) (d : Fin 5632) : (win0_7.rect t).emb (ix2 a d) = ix2 a d := by
  funext x
  apply Fin.ext
  refine (Pipeline.Window.rect_emb_val win0_7 t _ x).trans ?_
  match x with
  | ⟨0, _⟩ => show win0_7.index t 0 * 1 + a.val = a.val; rw [(idx7 t).1]; omega
  | ⟨1, _⟩ => show win0_7.index t 1 * 5632 + d.val = d.val; rw [(idx7 t).2]; omega

theorem emb8 (t : Fin cfg0.N) (a : Fin 2816) (d : Fin 1024) : (win0_8.rect t).emb (ix2 a d) = ix2 a d := by
  funext x
  apply Fin.ext
  refine (Pipeline.Window.rect_emb_val win0_8 t _ x).trans ?_
  match x with
  | ⟨0, _⟩ => show win0_8.index t 0 * 2816 + a.val = a.val; rw [(idx8 t).1]; omega
  | ⟨1, _⟩ => show win0_8.index t 1 * 1024 + d.val = d.val; rw [(idx8 t).2]; omega

theorem emb9 (t : Fin cfg0.N) (a : Fin 1) (d : Fin 1024) : (win0_9.rect t).emb (ix2 a d) = ix2 a d := by
  funext x
  apply Fin.ext
  refine (Pipeline.Window.rect_emb_val win0_9 t _ x).trans ?_
  match x with
  | ⟨0, _⟩ => show win0_9.index t 0 * 1 + a.val = a.val; rw [(idx9 t).1]; omega
  | ⟨1, _⟩ => show win0_9.index t 1 * 1024 + d.val = d.val; rw [(idx9 t).2]; omega

theorem emb11 (t : Fin cfg0.N) (r : Fin 8) (d : Fin 5632) : (win0_11.rect t).emb (ix3 0 r d) = ix3 (tb t) r d := by
  obtain ⟨e0, e1, e2⟩ := idx11 t
  funext x
  apply Fin.ext
  refine (Pipeline.Window.rect_emb_val win0_11 t _ x).trans ?_
  match x with
  | ⟨0, _⟩ => show win0_11.index t 0 * 1 + 0 = t.val / 16; rw [e0]; omega
  | ⟨1, _⟩ => show win0_11.index t 1 * 8 + r.val = r.val; rw [e1]; omega
  | ⟨2, _⟩ => show win0_11.index t 2 * 5632 + d.val = d.val; rw [e2]; omega

/-! ## The blocks -/

theorem blk0 (t : Fin cfg0.N) (a : Fin 512) (d : Fin 1024) : (iblk m c 0 t : Vec Ideal S512x1024 .f32) (ix2 a d)
    = (m ((c : Thread nD τ).loc main_arg0) : (⟨S4x8192x1024, .f32⟩ : BufTy).Contents (Elt Ideal)) (ix3 (tb t) (tp t a) d) := by
  show (V m c main_v8 : (⟨S32768x1024, .f32⟩ : BufTy).Contents (Elt Ideal)) ((win0_0.rect t).emb (ix2 a d)) = _
  rw [emb0, V8]
  exact flat_at _ _ _ _

theorem V1' : V m c main_arg1 = m ((c : Thread nD τ).loc main_arg1) := by
  show StableHlo.after hostOps0 _ _ = _
  after_results

theorem blk1 (t : Fin cfg0.N) (a : Fin 512) (d : Fin 512) : (iblk m c 1 t : Vec Ideal S512x512 .bf16) (ix2 a d)
    = (m ((c : Thread nD τ).loc main_arg1) : (⟨S32768x512, .bf16⟩ : BufTy).Contents (Elt Ideal)) (ix2 (flat (tb t) (tp t a)) d) := by
  show (V m c main_arg1 : (⟨S32768x512, .bf16⟩ : BufTy).Contents (Elt Ideal)) ((win0_1.rect t).emb (ix2 a d)) = _
  rw [emb1]
  exact congrFun (V1' m c) _

theorem V2' : V m c main_arg2 = m ((c : Thread nD τ).loc main_arg2) := by
  show StableHlo.after hostOps0 _ _ = _
  after_results

theorem blk2 (t : Fin cfg0.N) (a : Fin 512) (d : Fin 512) : (iblk m c 2 t : Vec Ideal S512x512 .bf16) (ix2 a d)
    = (m ((c : Thread nD τ).loc main_arg2) : (⟨S32768x512, .bf16⟩ : BufTy).Contents (Elt Ideal)) (ix2 (flat (tb t) (tp t a)) d) := by
  show (V m c main_arg2 : (⟨S32768x512, .bf16⟩ : BufTy).Contents (Elt Ideal)) ((win0_2.rect t).emb (ix2 a d)) = _
  rw [emb2]
  exact congrFun (V2' m c) _

theorem blk3 (t : Fin cfg0.N) (a : Fin 1024) (d : Fin 1024) : (iblk m c 3 t : Vec Ideal S1024x1024 .bf16) (ix2 a d)
    = (m ((c : Thread nD τ).loc main_arg3) : (⟨S1x1024x1024, .f32⟩ : BufTy).Contents (Elt Ideal)) (ix3 0 a d) := by
  show (V m c main_v1 : (⟨S1024x1024, .bf16⟩ : BufTy).Contents (Elt Ideal)) ((win0_3.rect t).emb (ix2 a d)) = _
  rw [emb3, V1]
  exact lead_at _ _ _ _

theorem V4' : V m c main_arg4 = m ((c : Thread nD τ).loc main_arg4) := by
  show StableHlo.after hostOps0 _ _ = _
  after_results

theorem blk4 (t : Fin cfg0.N) (a : Fin 1) (d : Fin 1024) : (iblk m c 4 t : Vec Ideal S1x1024 .f32) (ix2 a d)
    = (m ((c : Thread nD τ).loc main_arg4) : (⟨S1x1024, .f32⟩ : BufTy).Contents (Elt Ideal)) (ix2 a d) := by
  show (V m c main_arg4 : (⟨S1x1024, .f32⟩ : BufTy).Contents (Elt Ideal)) ((win0_4.rect t).emb (ix2 a d)) = _
  rw [emb4]
  exact congrFun (V4' m c) _

theorem blk5 (t : Fin cfg0.N) (a : Fin 1024) (d : Fin 5632) : (iblk m c 5 t : Vec Ideal S1024x5632 .bf16) (ix2 a d)
    = (m ((c : Thread nD τ).loc main_arg5) : (⟨S1x1024x5632, .f32⟩ : BufTy).Contents (Elt Ideal)) (ix3 0 a d) := by
  show (V m c main_v3 : (⟨S1024x5632, .bf16⟩ : BufTy).Contents (Elt Ideal)) ((win0_5.rect t).emb (ix2 a d)) = _
  rw [emb5, V3]
  exact lead_at _ _ _ _

theorem blk6 (t : Fin cfg0.N) (a : Fin 3) (d : Fin 5632) : (iblk m c 6 t : Vec Ideal S3x5632 .f32) (ix2 a d)
    = (m ((c : Thread nD τ).loc main_arg6) : (⟨S1x3x5632, .f32⟩ : BufTy).Contents (Elt Ideal)) (ix3 0 a d) := by
  show (V m c main_v4 : (⟨S3x5632, .f32⟩ : BufTy).Contents (Elt Ideal)) ((win0_6.rect t).emb (ix2 a d)) = _
  rw [emb6, V4]
  exact lead_at _ _ _ _

theorem V7' : V m c main_arg7 = m ((c : Thread nD τ).loc main_arg7) := by
  show StableHlo.after hostOps0 _ _ = _
  after_results

theorem blk7 (t : Fin cfg0.N) (a : Fin 1) (d : Fin 5632) : (iblk m c 7 t : Vec Ideal S1x5632 .f32) (ix2 a d)
    = (m ((c : Thread nD τ).loc main_arg7) : (⟨S1x5632, .f32⟩ : BufTy).Contents (Elt Ideal)) (ix2 a d) := by
  show (V m c main_arg7 : (⟨S1x5632, .f32⟩ : BufTy).Contents (Elt Ideal)) ((win0_7.rect t).emb (ix2 a d)) = _
  rw [emb7]
  exact congrFun (V7' m c) _

theorem blk8 (t : Fin cfg0.N) (a : Fin 2816) (d : Fin 1024) : (iblk m c 8 t : Vec Ideal S2816x1024 .bf16) (ix2 a d)
    = (m ((c : Thread nD τ).loc main_arg8) : (⟨S1x2816x1024, .f32⟩ : BufTy).Contents (Elt Ideal)) (ix3 0 a d) := by
  show (V m c main_v6 : (⟨S2816x1024, .bf16⟩ : BufTy).Contents (Elt Ideal)) ((win0_8.rect t).emb (ix2 a d)) = _
  rw [emb8, V6]
  exact lead_at _ _ _ _

theorem blk9 (t : Fin cfg0.N)  (d : Fin 1024) : (iblk m c 9 t : Vec Ideal S1x1024 .f32) (ix2 0 d)
    = (m ((c : Thread nD τ).loc main_arg9) : (⟨S1024, .f32⟩ : BufTy).Contents (Elt Ideal)) (ix1 d) := by
  show (V m c main_v7 : (⟨S1x1024, .f32⟩ : BufTy).Contents (Elt Ideal)) ((win0_9.rect t).emb (ix2 0 d)) = _
  rw [emb9, V7]
  exact row_at _ _

/-! ## The arrays after the run -/

/-- The up-projected rows of a sequence with zeros before them. -/
abbrev rowsOf (b : Fin 4) (n : ℕ) (d : Fin 5632) : EReal := pad (upped (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b) n d

theorem mix_at (t : Fin cfg0.N) (r : Fin 512) :
    mix (fun j => (iblk m c 0 t : Vec Ideal S512x1024 .f32) (ix2 r j)) (fun k => (iblk m c 1 t : Vec Ideal S512x512 .bf16) (ix2 r k))
      (fun k => (iblk m c 2 t : Vec Ideal S512x512 .bf16) (ix2 r k)) (fun k j => (iblk m c 3 t : Vec Ideal S1024x1024 .bf16) (ix2 k j))
      = resid (m ((c : Thread nD τ).loc main_arg0)) (m ((c : Thread nD τ).loc main_arg1)) (m ((c : Thread nD τ).loc main_arg2)) (m ((c : Thread nD τ).loc main_arg3)) (tb t) (tp t r) := by
  simp only [blk0, blk1, blk2, blk3]
  rfl

theorem rows (t : Fin cfg0.N) : Rows (iblk m c 0 t) (iblk m c 1 t) (iblk m c 2 t) (iblk m c 3 t) (iblk m c 4 t) (iblk m c 5 t) (fun n d => rowsOf m c (tb t) (512 * (t.val % 16) + n) d) := by
  intro r d
  rw [mix_at]
  simp only [blk4, blk5]
  exact (pad_add (upped (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tb t)) (512 * (t.val % 16) + (8 + r.val)) d (tp t r) (by show 512 * (t.val % 16) + (8 + r.val) = 512 * (t.val % 16) + r.val + 8; omega)).symm

theorem outRow_at (t : Fin cfg0.N) (r : Fin 512) (j : Fin 1024) :
    outRow (iblk m c 0 t) (iblk m c 1 t) (iblk m c 2 t) (iblk m c 3 t) (iblk m c 6 t) (iblk m c 7 t) (iblk m c 8 t) (iblk m c 9 t)
      (fun n d => rowsOf m c (tb t) (512 * (t.val % 16) + n) d) r j
      = final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tb t) (tp t r) j := by
  unfold outRow
  rw [mix_at]
  simp only [blk6, blk7, blk8, blk9]
  have e : ∀ k, 512 * (t.val % 16) + (k + r.val) = (tp t r).val + k := fun k => by
    show 512 * (t.val % 16) + (k + r.val) = 512 * (t.val % 16) + r.val + k
    omega
  simp only [e]
  rfl

theorem first (t : Fin cfg0.N) (h0 : t.val % 16 = 0) (n : ℕ) (d : Fin 5632) (h : n < 8) : rowsOf m c (tb t) (512 * (t.val % 16) + n) d = 0 :=
  pad_lt _ _ _ (by omega)

theorem carried_first (t : Fin cfg0.N) (h0 : t.val % 16 = 0) (r : Fin 8) (d : Fin 5632) :
    (outsAt0 m c t.val t.isLt).2 (ix3 0 r d) = rowsOf m c (tb t) (512 * (t.val % 16) + (512 + r.val)) d := by
  rw [outsAt0_A m c t h0]
  dsimp only
  refine outA11 (P := fun n d => rowsOf m c (tb t) (512 * (t.val % 16) + n) d) (r := r) (d := d) (hP := ?_) (hC := ?_) ..
  · exact rows m c t
  · exact first m c t h0

theorem carry_in (t : Fin cfg0.N) (h0 : ¬t.val % 16 = 0) (X : Vec Ideal S1x8x5632 .f32) (t' : Fin cfg0.N) (ht : t'.val + 1 = t.val)
    (hX : ∀ (r : Fin 8) (d : Fin 5632), X (ix3 0 r d) = rowsOf m c (tb t') (512 * (t'.val % 16) + (512 + r.val)) d) (r : Fin 8) (d : Fin 5632) :
    X (ix3 0 r d) = rowsOf m c (tb t) (512 * (t.val % 16) + r.val) d := by
  rw [hX]
  have e1 : tb t' = tb t := Fin.ext (by show t'.val / 16 = t.val / 16; omega)
  have e2 : 512 * (t'.val % 16) + (512 + r.val) = 512 * (t.val % 16) + r.val := by omega
  rw [e1, e2]

theorem carried_next (t : Fin cfg0.N) (h0 : ¬t.val % 16 = 0)
    (hX : ∀ (r : Fin 8) (d : Fin 5632), (outsAt0 m c (t.val - 1) (Nat.lt_of_le_of_lt (Nat.sub_le _ _) t.isLt)).2 (ix3 0 r d) = rowsOf m c (tb t) (512 * (t.val % 16) + r.val) d)
    (r : Fin 8) (d : Fin 5632) :
    (outsAt0 m c t.val t.isLt).2 (ix3 0 r d) = rowsOf m c (tb t) (512 * (t.val % 16) + (512 + r.val)) d := by
  rw [outsAt0_B m c t h0]
  dsimp only
  refine outB11 (P := fun n d => rowsOf m c (tb t) (512 * (t.val % 16) + n) d) (r := r) (d := d) (hP := ?_) (hC := ?_) ..
  · exact rows m c t
  · exact hX

/-- The rows carried after a point are the last eight of its tile. -/
theorem carried (n : ℕ) : ∀ (t : Fin cfg0.N), t.val = n → ∀ (r : Fin 8) (d : Fin 5632),
    (outsAt0 m c t.val t.isLt).2 (ix3 0 r d) = rowsOf m c (tb t) (512 * (t.val % 16) + (512 + r.val)) d := by
  induction n with
  | zero => exact fun t ht => carried_first m c t (by omega)
  | succ n ih =>
    intro t ht
    by_cases h0 : t.val % 16 = 0
    · exact carried_first m c t h0
    · exact carried_next m c t h0 (carry_in m c t h0 _ ⟨t.val - 1, Nat.lt_of_le_of_lt (Nat.sub_le _ _) t.isLt⟩ (by show t.val - 1 + 1 = t.val; omega)
        (ih ⟨t.val - 1, Nat.lt_of_le_of_lt (Nat.sub_le _ _) t.isLt⟩ (by show t.val - 1 = n; omega)))

/-- The result's block at a point. -/
theorem block_at (t : Fin cfg0.N) (r : Fin 512) (j : Fin 1024) :
    (outsAt0 m c t.val t.isLt).1 (ix2 r j) = final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tb t) (tp t r) j := by
  rw [← outRow_at]
  by_cases h0 : t.val % 16 = 0
  · rw [outsAt0_A m c t h0]
    dsimp only
    refine outA10 (P := fun n d => rowsOf m c (tb t) (512 * (t.val % 16) + n) d) (r := r) (j := j) (hP := ?_) (hC := ?_) ..
    · exact rows m c t
    · exact first m c t h0
  · have hX := carry_in m c t h0 _ ⟨t.val - 1, Nat.lt_of_le_of_lt (Nat.sub_le _ _) t.isLt⟩ (by show t.val - 1 + 1 = t.val; omega)
        (carried m c _ ⟨t.val - 1, Nat.lt_of_le_of_lt (Nat.sub_le _ _) t.isLt⟩ rfl)
    rw [outsAt0_B m c t h0]
    dsimp only
    refine outB10 (P := fun n d => rowsOf m c (tb t) (512 * (t.val % 16) + n) d) (r := r) (j := j) (hP := ?_) (hC := ?_) ..
    · exact rows m c t
    · exact hX

abbrev wholeY : (⟨S32768x1024, .f32⟩ : BufTy).Contents (Elt Ideal) := resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev wholeK : (⟨S4x8x5632, .f32⟩ : BufTy).Contents (Elt Ideal) := resK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem bat_flat (b : Fin 4) (s : Fin 8192) : bat (flat b s) = b := Fin.ext (by show (b.val * 8192 + s.val) / 8192 = b.val; omega)
theorem pos_flat (b : Fin 4) (s : Fin 8192) : pos (flat b s) = s := Fin.ext (by show (b.val * 8192 + s.val) % 8192 = s.val; omega)

theorem flushed_y (t : Fin cfg0.N) : (dats m 0 c).flushed 10 t = (win0_10.blk t).view.read (Elt Ideal) (wholeY m c) := by
  rw [Value.flushed10]
  refine funext fun (y : S512x1024.Idx) => ?_
  show (outsAt0 m c t.val t.isLt).1 y = wholeY m c ((win0_10.rect t).emb y)
  obtain ⟨a, e, rfl⟩ : ∃ (a : Fin 512) (e : Fin 1024), y = ix2 a e := ⟨y 0, y 1, eq_ix2 y⟩
  rw [block_at, emb10]
  show _ = final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (bat (flat (tb t) (tp t a))) (pos (flat (tb t) (tp t a))) e
  rw [bat_flat, pos_flat]

theorem flushed_k (t : Fin cfg0.N) (ht : t.val % 16 = 15) : (dats m 0 c).flushed 11 t = (win0_11.blk t).view.read (Elt Ideal) (wholeK m c) := by
  rw [Value.flushed11]
  refine funext fun (y : S1x8x5632.Idx) => ?_
  show (outsAt0 m c t.val t.isLt).2 y = wholeK m c ((win0_11.rect t).emb y)
  obtain ⟨a, r, e, rfl⟩ : ∃ (a : Fin 1) (r : Fin 8) (e : Fin 5632), y = ix3 a r e := ⟨y 0, y 1, y 2, eq_ix3 y⟩
  obtain rfl : a = 0 := Subsingleton.elim _ _
  rw [emb11, carried m c _ t rfl]
  show _ = rowsOf m c (tb t) (8192 + r.val) e
  rw [show 512 * (t.val % 16) + (512 + r.val) = 8192 + r.val by omega]

theorem mem_y (t : Fin cfg0.N) (i : S32768x1024.Idx) (h : t.val * 512 ≤ (i 0 : Nat) ∧ (i 0 : Nat) < t.val * 512 + 512) :
    i ∈ ((cfg0.win 10).blk t).view.set := by
  show i ∈ ((View.whole main_v9_0).slice (win0_10.rect t)).set
  rw [View.set_slice_whole, Rect.mem_set_unit]
  have b0 : win0_10.index t 0 * win0_10.size 0 = t.val * 512 := by rw [(idx10 t).1]; rfl
  have b1 : win0_10.index t 1 * win0_10.size 1 = 0 := by rw [(idx10 t).2]; rfl
  have h1 : (i 1 : Nat) < 1024 := (i 1).isLt
  intro a
  match a with
  | ⟨0, _⟩ => show win0_10.index t 0 * win0_10.size 0 ≤ (i 0 : Nat) ∧ (i 0 : Nat) < win0_10.index t 0 * win0_10.size 0 + win0_10.xsize (grid0.coords t) 0
              rw [b0, (xsz10 t).1]; exact h
  | ⟨1, _⟩ => show win0_10.index t 1 * win0_10.size 1 ≤ (i 1 : Nat) ∧ (i 1 : Nat) < win0_10.index t 1 * win0_10.size 1 + win0_10.xsize (grid0.coords t) 1
              rw [b1, (xsz10 t).2]; omega

theorem mem_k (t : Fin cfg0.N) (i : S4x8x5632.Idx) (h : (i 0 : Nat) = t.val / 16) : i ∈ ((cfg0.win 11).blk t).view.set := by
  show i ∈ ((View.whole main_v9_1).slice (win0_11.rect t)).set
  rw [View.set_slice_whole, Rect.mem_set_unit]
  obtain ⟨e0, e1, e2⟩ := idx11 t
  obtain ⟨s0, s1, s2⟩ := xsz11 t
  have b0 : win0_11.index t 0 * win0_11.size 0 = t.val / 16 := by rw [e0]; exact Nat.mul_one _
  have b1 : win0_11.index t 1 * win0_11.size 1 = 0 := by rw [e1]; rfl
  have b2 : win0_11.index t 2 * win0_11.size 2 = 0 := by rw [e2]; rfl
  have h1 : (i 1 : Nat) < 8 := (i 1).isLt
  have h2 : (i 2 : Nat) < 5632 := (i 2).isLt
  intro a
  match a with
  | ⟨0, _⟩ => show win0_11.index t 0 * win0_11.size 0 ≤ (i 0 : Nat) ∧ (i 0 : Nat) < win0_11.index t 0 * win0_11.size 0 + win0_11.xsize (grid0.coords t) 0
              rw [b0, s0]; omega
  | ⟨1, _⟩ => show win0_11.index t 1 * win0_11.size 1 ≤ (i 1 : Nat) ∧ (i 1 : Nat) < win0_11.index t 1 * win0_11.size 1 + win0_11.xsize (grid0.coords t) 1
              rw [b1, s1]; omega
  | ⟨2, _⟩ => show win0_11.index t 2 * win0_11.size 2 ≤ (i 2 : Nat) ∧ (i 2 : Nat) < win0_11.index t 2 * win0_11.size 2 + win0_11.xsize (grid0.coords t) 2
              rw [b2, s2]; omega

/-- Each result's blocks tile its array. -/
theorem cover_y (i : S32768x1024.Idx) : ∃ t : Fin cfg0.N, (cfg0.win 10).flush t = true ∧ i ∈ ((cfg0.win 10).blk t).view.set := by
  have h0 : (i 0 : Nat) < 32768 := (i 0).isLt
  have hN : cfg0.N = 64 := by decide
  have ht : (i 0 : Nat) / 512 < cfg0.N := by omega
  refine ⟨⟨_, ht⟩, flush0_10 _, mem_y _ i ?_⟩
  dsimp only
  omega

theorem cover_k (i : S4x8x5632.Idx) : ∃ t : Fin cfg0.N, (cfg0.win 11).flush t = true ∧ i ∈ ((cfg0.win 11).blk t).view.set := by
  have h0 : (i 0 : Nat) < 4 := (i 0).isLt
  have hN : cfg0.N = 64 := by decide
  have ht : (i 0 : Nat) * 16 + 15 < cfg0.N := by omega
  refine ⟨⟨_, ht⟩, (flush0_11 _).mpr ?_, mem_k _ i ?_⟩
  · dsimp only
    omega
  · dsimp only
    omega

theorem final_y : (dats m 0 c).arrAt 10 cfg0.N = wholeY m c :=
  (dats m 0 c).arrAt_eq_of_cover 10 (wholeY m c) (fun t _ => flushed_y m c t) cover_y

theorem final_k : (dats m 0 c).arrAt 11 cfg0.N = wholeK m c :=
  (dats m 0 c).arrAt_eq_of_cover 11 (wholeK m c) (fun t h => flushed_k m c t ((flush0_11 t).mp h)) cover_k

end Cert.Kernel2Ideal.Ffn

end
-- ==== Proof.FfnRef.lean ====
/-
  The reference's output projection, gated MLP and last norm, element by element over the extended reals.
-/
module

public import proofs.«01_k».proof.Proof.FfnSpec
public import proofs.«01_k».proof.Proof.Gen.Reference2Ideal.Read
public import Idealize.ShloMosaic.Lib.ValueLayout
public import Idealize.ShloMosaic.Lib.IdealHost

@[expose] public section

set_option maxRecDepth 16384

noncomputable section

namespace Cert.Reference2Ideal.Ffn

open Cert.Reference2Ideal Cert.Reference2Ideal.Gen Cert.Reference2Ideal.Read Cert.Ffn
open Idealize.ShloMosaic Idealize.ShloMosaic.TcCoe Idealize.ShloMosaic.ValueIdx

variable (x0 : (⟨S4x8192x1024, .f32⟩ : BufTy).Contents (Elt Ideal)) (x1 x2 : (⟨S32768x512, .bf16⟩ : BufTy).Contents (Elt Ideal))
  (x3 : (⟨S1x1024x1024, .f32⟩ : BufTy).Contents (Elt Ideal)) (x4 : (⟨S1x1024, .f32⟩ : BufTy).Contents (Elt Ideal))
  (x5 : (⟨S1x1024x5632, .f32⟩ : BufTy).Contents (Elt Ideal)) (x6 : (⟨S1x3x5632, .f32⟩ : BufTy).Contents (Elt Ideal))
  (x7 : (⟨S1x5632, .f32⟩ : BufTy).Contents (Elt Ideal)) (x8 : (⟨S1x2816x1024, .f32⟩ : BufTy).Contents (Elt Ideal))
  (x9 : (⟨S1024, .f32⟩ : BufTy).Contents (Elt Ideal))

theorem v1_at (b : Fin 4) (s : Fin 8192) (k : Fin 512) : val_main_v1 (F := Ideal) x1 (ix3 b s k) = x1 (ix2 (flat b s) k) := by
  rw [val_main_v1_apply]
  refine congrArg x1 (funext fun a => Fin.ext ?_)
  match a with
  | ⟨0, _⟩ => show ((b.val * 8192 + s.val) * 512 + k.val) / 512 = b.val * 8192 + s.val; omega
  | ⟨1, _⟩ => show ((b.val * 8192 + s.val) * 512 + k.val) % 512 = k.val; omega

theorem v3_at (b : Fin 4) (s : Fin 8192) (k : Fin 512) : val_main_v3 (F := Ideal) x2 (ix3 b s k) = x2 (ix2 (flat b s) k) := v1_at x2 b s k

theorem off_axis {n : ℕ} (b : Fin 4) (s : Fin 8192) (k : Fin 512) (k' : Fin n) :
    ∀ a : Fin 3, a ≠ 2 → ((ix3 b s k : S4x8192x512.Idx) a).val = ((ix3 b s k' : (⟨3, ![4, 8192, n]⟩ : Shape).Idx) a).val := fun a ha => by
  match a, ha with
  | ⟨0, _⟩, _ => rfl
  | ⟨1, _⟩, _ => rfl
  | ⟨2, _⟩, ha => exact absurd rfl ha

theorem v4_lo (b : Fin 4) (s : Fin 8192) (k : Fin 512) : val_main_v4 (F := Ideal) x1 x2 (ix3 b s (lo k)) = x1 (ix2 (flat b s) k) := by
  unfold val_main_v4
  exact (concatenate_apply_piece (t := S4x8192x1024) 2 [⟨S4x8192x512, val_main_v1 (F := Ideal) x1⟩, ⟨S4x8192x512, val_main_v3 (F := Ideal) x2⟩] _ (ix3 b s (lo k)) 0 (show 0 < 2 by decide) S4x8192x512
    (val_main_v1 (F := Ideal) x1) rfl rfl 0 rfl (ix3 b s k) (off_axis b s k (lo k)) (Nat.zero_add _)).trans (v1_at x1 b s k)

theorem v4_hi (b : Fin 4) (s : Fin 8192) (k : Fin 512) : val_main_v4 (F := Ideal) x1 x2 (ix3 b s (hi k)) = x2 (ix2 (flat b s) k) := by
  unfold val_main_v4
  exact (concatenate_apply_piece (t := S4x8192x1024) 2 [⟨S4x8192x512, val_main_v1 (F := Ideal) x1⟩, ⟨S4x8192x512, val_main_v3 (F := Ideal) x2⟩] _ (ix3 b s (hi k)) 1 (show 1 < 2 by decide) S4x8192x512
    (val_main_v3 (F := Ideal) x2) rfl rfl 512 rfl (ix3 b s k) (off_axis b s k (hi k)) rfl).trans (v3_at x2 b s k)

theorem v5_at (a : Fin 1024) (d : Fin 1024) : val_main_v5 (F := Ideal) x3 (ix2 a d) = x3 (ix3 0 a d) := by
  rw [val_main_v5_apply]
  refine congrArg x3 (funext fun y => Fin.ext ?_)
  match y with
  | ⟨0, _⟩ => rfl
  | ⟨1, _⟩ => show (a.val * 1024 + d.val) / 1024 % 1024 = a.val; omega
  | ⟨2, _⟩ => show (a.val * 1024 + d.val) % 1024 = d.val; omega

theorem v22_at (a : Fin 1024) (d : Fin 5632) : val_main_v22 (F := Ideal) x5 (ix2 a d) = x5 (ix3 0 a d) := by
  rw [val_main_v22_apply]
  refine congrArg x5 (funext fun y => Fin.ext ?_)
  match y with
  | ⟨0, _⟩ => rfl
  | ⟨1, _⟩ => show (a.val * 5632 + d.val) / 5632 % 1024 = a.val; omega
  | ⟨2, _⟩ => show (a.val * 5632 + d.val) % 5632 = d.val; omega

theorem v26_at (a : Fin 3) (d : Fin 5632) : val_main_v26 (F := Ideal) x6 (ix2 a d) = x6 (ix3 0 a d) := by
  rw [val_main_v26_apply]
  refine congrArg x6 (funext fun y => Fin.ext ?_)
  match y with
  | ⟨0, _⟩ => rfl
  | ⟨1, _⟩ => show (a.val * 5632 + d.val) / 5632 % 3 = a.val; omega
  | ⟨2, _⟩ => show (a.val * 5632 + d.val) % 5632 = d.val; omega

theorem v55_at (a : Fin 2816) (d : Fin 1024) : val_main_v55 (F := Ideal) x8 (ix2 a d) = x8 (ix3 0 a d) := by
  rw [val_main_v55_apply]
  refine congrArg x8 (funext fun y => Fin.ext ?_)
  match y with
  | ⟨0, _⟩ => rfl
  | ⟨1, _⟩ => show (a.val * 1024 + d.val) / 1024 % 2816 = a.val; omega
  | ⟨2, _⟩ => show (a.val * 1024 + d.val) % 1024 = d.val; omega

/-- The residual stream after the mixers. -/
theorem v7_at (b : Fin 4) (s : Fin 8192) (j : Fin 1024) : val_main_v7 (F := Ideal) x0 x1 x2 x3 (ix3 b s j) = resid x0 x1 x2 x3 b s j := by
  rw [val_main_v7_apply, val_main_v6_apply]
  have el : ∀ k, lidx_main_v6 (ix3 b s j) k = ix3 b s k := fun k => by
    funext a; match a with | ⟨0, _⟩ => rfl | ⟨1, _⟩ => rfl | ⟨2, _⟩ => rfl
  have er : ∀ k, ridx_main_v6 (ix3 b s j) k = ix2 k j := fun k => by
    funext a; match a with | ⟨0, _⟩ => rfl | ⟨1, _⟩ => rfl
  simp only [el, er, v5_at]
  rw [sum_halves]
  simp only [v4_lo, v4_hi]
  rfl

/-- The norm the up-projection takes. -/
theorem v21_at (b : Fin 4) (s : Fin 8192) (j : Fin 1024) :
    val_main_v21 (F := Ideal) x0 x1 x2 x3 x4 (ix3 b s j) = rms (resid x0 x1 x2 x3 b s) (fun j => x4 (ix2 0 j)) j := by
  rw [val_main_v21_apply, val_main_v18_apply, val_main_v17_apply, val_main_v16_apply, val_main_v15_apply, val_main_v13_apply, val_main_v11_apply, val_main_v10_apply,
    val_main_v20_apply, val_main_v19_apply, val_main_v8_apply, v7_at]
  have e1 : ∀ k, val_main_v9 (F := Ideal) x0 x1 x2 x3 (idx_main_v10 (idx_main_v11 (idx_main_v17 (ix3 b s j))) k) = resid x0 x1 x2 x3 b s k * resid x0 x1 x2 x3 b s k := fun k => by
    have e : idx_main_v10 (idx_main_v11 (idx_main_v17 (ix3 b s j))) k = ix3 b s k := by
      funext a; match a with | ⟨0, _⟩ => rfl | ⟨1, _⟩ => rfl | ⟨2, _⟩ => rfl
    rw [e, val_main_v9_apply, v7_at]
    rfl
  have e2 : idx_main_v8 (idx_main_v19 (idx_main_v20 (ix3 b s j))) = ix2 0 j := by
    funext a
    apply Fin.ext
    match a with
    | ⟨0, _⟩ => rfl
    | ⟨1, _⟩ => first | rfl | (show j.val % 1024 = j.val; omega)
  simp only [e1]
  rw [e2]
  show resid x0 x1 x2 x3 b s j * Ideal.rsqrt (Ideal.div (Ideal.ofBits .f32 0x00000000#32 + _) dim + eps) * x4 (ix2 0 j) = _
  rw [Ideal.ofBits_zero_f32, zero_add]
  rfl

theorem v23_at (b : Fin 4) (s : Fin 8192) (d : Fin 5632) : val_main_v23 (F := Ideal) x0 x1 x2 x3 x4 x5 (ix3 b s d) = upped x0 x1 x2 x3 x4 x5 b s d := by
  rw [val_main_v23_apply]
  have el : ∀ k, lidx_main_v23 (ix3 b s d) k = ix3 b s k := fun k => by
    funext a; match a with | ⟨0, _⟩ => rfl | ⟨1, _⟩ => rfl | ⟨2, _⟩ => rfl
  have er : ∀ k, ridx_main_v23 (ix3 b s d) k = ix2 k d := fun k => by
    funext a; match a with | ⟨0, _⟩ => rfl | ⟨1, _⟩ => rfl
  simp only [el, er, v22_at, v21_at]
  rfl

/-- The buffer of two rows of zeros and the up-projected rows. -/
theorem v25_at (b : Fin 4) (n : Fin 8194) (d : Fin 5632) :
    val_main_v25 (F := Ideal) x0 x1 x2 x3 x4 x5 (ix3 b n d) = Cert.Ffn.pad (upped x0 x1 x2 x3 x4 x5 b) (n.val + 6) d := by
  unfold val_main_v25
  by_cases h : n.val < 2
  · refine (concatenate_apply_piece (t := S4x8194x5632) 1 [⟨S4x2x5632, val_main_v24 (F := Ideal)⟩, ⟨S4x8192x5632, val_main_v23 (F := Ideal) x0 x1 x2 x3 x4 x5⟩] _ (ix3 b n d) 0 (show 0 < 2 by decide) S4x2x5632
      (val_main_v24 (F := Ideal)) rfl rfl 0 rfl (ix3 b (⟨n.val, h⟩ : Fin 2) d) (fun a ha => by
        match a, ha with
        | ⟨0, _⟩, _ => rfl
        | ⟨1, _⟩, ha => exact absurd rfl ha
        | ⟨2, _⟩, _ => rfl) (Nat.zero_add _)).trans ?_
    rw [Cert.Ffn.pad_lt _ _ _ (by omega), val_main_v24_apply]
    exact Ideal.ofBits_zero_f32
  · refine (concatenate_apply_piece (t := S4x8194x5632) 1 [⟨S4x2x5632, val_main_v24 (F := Ideal)⟩, ⟨S4x8192x5632, val_main_v23 (F := Ideal) x0 x1 x2 x3 x4 x5⟩] _ (ix3 b n d) 1 (show 1 < 2 by decide) S4x8192x5632
      (val_main_v23 (F := Ideal) x0 x1 x2 x3 x4 x5) rfl rfl 2 rfl (ix3 b (⟨n.val - 2, by omega⟩ : Fin 8192) d) (fun a ha => by
        match a, ha with
        | ⟨0, _⟩, _ => rfl
        | ⟨1, _⟩, ha => exact absurd rfl ha
        | ⟨2, _⟩, _ => rfl) (by show 2 + (n.val - 2) = n.val; omega)).trans ?_
    rw [v23_at, Cert.Ffn.pad_add _ _ _ (⟨n.val - 2, by omega⟩ : Fin 8192) (by show n.val + 6 = n.val - 2 + 8; omega)]

theorem v32_at (b : Fin 4) (s : Fin 8192) (d : Fin 5632) : val_main_v32 (F := Ideal) x6 (ix3 b s d) = x6 (ix3 0 0 d) := by
  rw [val_main_v32_apply, val_main_v31_apply, val_main_v29_apply, val_main_v28_apply]
  have e : (idx_main_v28 (idx_main_v29 (idx_main_v31 (idx_main_v32 (ix3 b s d))))) = ix2 0 d := by
    funext a
    apply Fin.ext
    match a with
    | ⟨0, _⟩ => rfl
    | ⟨1, _⟩ => first | rfl | (show d.val % 5632 = d.val; omega)
  rw [e, v26_at]

theorem v41_at (b : Fin 4) (s : Fin 8192) (d : Fin 5632) : val_main_v41 (F := Ideal) x6 (ix3 b s d) = x6 (ix3 0 1 d) := by
  rw [val_main_v41_apply, val_main_v40_apply, val_main_v38_apply, val_main_v37_apply]
  have e : (idx_main_v37 (idx_main_v38 (idx_main_v40 (idx_main_v41 (ix3 b s d))))) = ix2 1 d := by
    funext a
    apply Fin.ext
    match a with
    | ⟨0, _⟩ => rfl
    | ⟨1, _⟩ => first | rfl | (show d.val % 5632 = d.val; omega)
  rw [e, v26_at]

theorem v48_at (b : Fin 4) (s : Fin 8192) (d : Fin 5632) : val_main_v48 (F := Ideal) x6 (ix3 b s d) = x6 (ix3 0 2 d) := by
  rw [val_main_v48_apply, val_main_v47_apply, val_main_v45_apply, val_main_v44_apply]
  have e : (idx_main_v44 (idx_main_v45 (idx_main_v47 (idx_main_v48 (ix3 b s d))))) = ix2 2 d := by
    funext a
    apply Fin.ext
    match a with
    | ⟨0, _⟩ => rfl
    | ⟨1, _⟩ => first | rfl | (show d.val % 5632 = d.val; omega)
  rw [e, v26_at]

theorem v35_at (b : Fin 4) (s : Fin 8192) (d : Fin 5632) : val_main_v35 (F := Ideal) x7 (ix3 b s d) = x7 (ix2 0 d) := by
  rw [val_main_v35_apply, val_main_v34_apply, val_main_v27_apply]
  refine congrArg x7 (funext fun a => Fin.ext ?_)
  match a with
  | ⟨0, _⟩ => rfl
  | ⟨1, _⟩ => first | rfl | (show d.val % 5632 = d.val; omega)

/-- The convolution's rows around a position. -/
abbrev around (b : Fin 4) (s : Fin 8192) : Fin 5632 → EReal :=
  conv (fun c => x7 (ix2 0 c)) (fun a c => x6 (ix3 0 a c)) (Cert.Ffn.pad (upped x0 x1 x2 x3 x4 x5 b) (s.val + 6)) (Cert.Ffn.pad (upped x0 x1 x2 x3 x4 x5 b) (s.val + 7))
    (Cert.Ffn.pad (upped x0 x1 x2 x3 x4 x5 b) (s.val + 8))

theorem v50_at (b : Fin 4) (s : Fin 8192) (d : Fin 5632) :
    val_main_v50 (F := Ideal) x0 x1 x2 x3 x4 x5 x6 x7 (ix3 b s d) = around x0 x1 x2 x3 x4 x5 x6 x7 b s d := by
  have e0 : idx_main_v30 (ix3 b s d) = ix3 b (⟨s.val, by omega⟩ : Fin 8194) d := by
    funext a; match a with | ⟨0, _⟩ => rfl | ⟨1, _⟩ => rfl | ⟨2, _⟩ => rfl
  have e1 : idx_main_v39 (ix3 b s d) = ix3 b (⟨1 + s.val, by omega⟩ : Fin 8194) d := by
    funext a; match a with | ⟨0, _⟩ => rfl | ⟨1, _⟩ => rfl | ⟨2, _⟩ => rfl
  have e2 : idx_main_v46 (ix3 b s d) = ix3 b (⟨2 + s.val, by omega⟩ : Fin 8194) d := by
    funext a; match a with | ⟨0, _⟩ => rfl | ⟨1, _⟩ => rfl | ⟨2, _⟩ => rfl
  rw [val_main_v50_apply, val_main_v43_apply, val_main_v36_apply, val_main_v33_apply, val_main_v42_apply, val_main_v49_apply, val_main_v30_apply, val_main_v39_apply, val_main_v46_apply,
    v32_at, v41_at, v48_at, v35_at, e0, e1, e2, v25_at, v25_at, v25_at]
  show x7 (ix2 0 d) + x6 (ix3 0 0 d) * Cert.Ffn.pad _ (s.val + 6) d + x6 (ix3 0 1 d) * Cert.Ffn.pad _ (1 + s.val + 6) d + x6 (ix3 0 2 d) * Cert.Ffn.pad _ (2 + s.val + 6) d = _
  rw [show 1 + s.val + 6 = s.val + 7 by omega, show 2 + s.val + 6 = s.val + 8 by omega]
  rfl

theorem v54_at (b : Fin 4) (s : Fin 8192) (k : Fin 2816) :
    val_main_v54 (F := Ideal) x0 x1 x2 x3 x4 x5 x6 x7 (ix3 b s k) = act (around x0 x1 x2 x3 x4 x5 x6 x7 b s) k := by
  have eg : idx_main_v51 (ix3 b s k) = ix3 b s (gate k) := by
    funext a; match a with | ⟨0, _⟩ => rfl | ⟨1, _⟩ => rfl | ⟨2, _⟩ => rfl
  have ev : idx_main_v52 (ix3 b s k) = ix3 b s (val k) := by
    funext a; match a with | ⟨0, _⟩ => rfl | ⟨1, _⟩ => rfl | ⟨2, _⟩ => rfl
  rw [val_main_v54_apply, val_main_v53_apply, val_main_v52_apply, val_main_call0_v5_apply, val_main_call0_v3_apply, val_main_call0_v1_apply, val_main_call0_v0_apply,
    val_main_v51_apply, eg, ev, v50_at, v50_at]
  rfl

theorem v57_at (b : Fin 4) (s : Fin 8192) (j : Fin 1024) :
    val_main_v57 (F := Ideal) x0 x1 x2 x3 x4 x5 x6 x7 x8 (ix3 b s j)
      = resid x0 x1 x2 x3 b s j + ∑ k : Fin 2816, act (around x0 x1 x2 x3 x4 x5 x6 x7 b s) k * x8 (ix3 0 k j) := by
  rw [val_main_v57_apply, val_main_v56_apply, v7_at]
  have el : ∀ k, lidx_main_v56 (ix3 b s j) k = ix3 b s k := fun k => by
    funext a; match a with | ⟨0, _⟩ => rfl | ⟨1, _⟩ => rfl | ⟨2, _⟩ => rfl
  have er : ∀ k, ridx_main_v56 (ix3 b s j) k = ix2 k j := fun k => by
    funext a; match a with | ⟨0, _⟩ => rfl | ⟨1, _⟩ => rfl
  simp only [el, er, v55_at, v54_at]
  rfl

theorem v70_at (b : Fin 4) (s : Fin 8192) (j : Fin 1024) :
    val_main_v70 (F := Ideal) x0 x1 x2 x3 x4 x5 x6 x7 x8 x9 (ix3 b s j) = final x0 x1 x2 x3 x4 x5 x6 x7 x8 x9 b s j := by
  rw [val_main_v70_apply, val_main_v67_apply, val_main_v66_apply, val_main_v65_apply, val_main_v64_apply, val_main_v62_apply, val_main_v60_apply, val_main_v59_apply,
    val_main_v69_apply, val_main_v68_apply, v57_at]
  have e1 : ∀ k, val_main_v58 (F := Ideal) x0 x1 x2 x3 x4 x5 x6 x7 x8 (idx_main_v59 (idx_main_v60 (idx_main_v66 (ix3 b s j))) k)
      = (resid x0 x1 x2 x3 b s k + ∑ q : Fin 2816, act (around x0 x1 x2 x3 x4 x5 x6 x7 b s) q * x8 (ix3 0 q k)) * (resid x0 x1 x2 x3 b s k + ∑ q : Fin 2816, act (around x0 x1 x2 x3 x4 x5 x6 x7 b s) q * x8 (ix3 0 q k)) := fun k => by
    have e : idx_main_v59 (idx_main_v60 (idx_main_v66 (ix3 b s j))) k = ix3 b s k := by
      funext a; match a with | ⟨0, _⟩ => rfl | ⟨1, _⟩ => rfl | ⟨2, _⟩ => rfl
    rw [e, val_main_v58_apply, v57_at]
    rfl
  have e2 : idx_main_v68 (idx_main_v69 (ix3 b s j)) = ix1 j := by
    funext a
    match a with
    | ⟨0, _⟩ => rfl
  simp only [e1]
  rw [e2]
  show (_ : EReal) * Ideal.rsqrt (Ideal.div (Ideal.ofBits .f32 0x00000000#32 + _) dim + eps) * x9 (ix1 j) = _
  rw [Ideal.ofBits_zero_f32, zero_add]
  rfl

/-- The reference's first result. -/
theorem v71_eq : val_main_v71 (F := Ideal) x0 x1 x2 x3 x4 x5 x6 x7 x8 x9 = resY x0 x1 x2 x3 x4 x5 x6 x7 x8 x9 := by
  refine funext fun (i : S32768x1024.Idx) => ?_
  obtain ⟨r, j, rfl⟩ : ∃ (r : Fin 32768) (j : Fin 1024), i = ix2 r j := ⟨i 0, i 1, eq_ix2 i⟩
  have e : idx_main_v71 (ix2 r j) = ix3 (bat r) (pos r) j := by
    funext a
    apply Fin.ext
    match a with
    | ⟨0, _⟩ => show (r.val * 1024 + j.val) / 8388608 = r.val / 8192; omega
    | ⟨1, _⟩ => show (r.val * 1024 + j.val) / 1024 % 8192 = r.val % 8192; omega
    | ⟨2, _⟩ => show (r.val * 1024 + j.val) % 1024 = j.val; omega
  rw [val_main_v71_apply, e, v70_at]
  rfl

/-- The reference's second result. -/
theorem v72_eq : val_main_v72 (F := Ideal) x0 x1 x2 x3 x4 x5 = resK x0 x1 x2 x3 x4 x5 := by
  refine funext fun (i : S4x8x5632.Idx) => ?_
  obtain ⟨b, r, d, rfl⟩ : ∃ (b : Fin 4) (r : Fin 8) (d : Fin 5632), i = ix3 b r d := ⟨i 0, i 1, i 2, eq_ix3 i⟩
  have e : idx_main_v72 (ix3 b r d) = ix3 b (⟨8186 + r.val, by omega⟩ : Fin 8194) d := by
    funext a; match a with | ⟨0, _⟩ => rfl | ⟨1, _⟩ => rfl | ⟨2, _⟩ => rfl
  rw [val_main_v72_apply, e, v25_at]
  show Cert.Ffn.pad _ (8186 + r.val + 6) d = Cert.Ffn.pad _ (8192 + r.val) d
  rw [show 8186 + r.val + 6 = 8192 + r.val by omega]

end Cert.Reference2Ideal.Ffn

end
-- ==== Proof.FfnClaims.lean ====
/-
  The claims about the output projection and the gated MLP: both kernels' frames, the reference's frame, and the equation of the
  kernel's two results with the reference's over the extended reals.
-/
module

public import proofs.«01_k».proof.Defs
public import proofs.«01_k».proof.Proof.Gen.Kernel2
public import proofs.«01_k».proof.Proof.FfnWhole
public import proofs.«01_k».proof.Proof.FfnRef
public import proofs.«01_k».proof.Proof.Gen.Reference2Ideal.Run

@[expose] public section

set_option maxRecDepth 16384

noncomputable section

namespace Cert.FfnClaims

open Idealize.ShloMosaic Idealize.ShloMosaic.TcCoe Idealize.SL.Sem
open Cert.Kernel2Ideal.Ffn (wholeY wholeK final_y final_k)

/-- The two kernels' bodies have one text. -/
theorem bodies_eq : Cert.Kernel2.defs₀ (F := Bits) = Cert.Kernel2Ideal.defs₀ (F := Bits) := by
  unfold Cert.Kernel2.defs₀ Cert.Kernel2Ideal.defs₀
  congr 1
  refine funext fun i => ?_
  match i with
  | ⟨0, _⟩ => rfl

theorem defs_eq : Cert.Kernel2.defs (F := Bits) = Cert.Kernel2Ideal.defs (F := Bits) :=
  congrArg (fun d => Pipeline.defs (Cert.Kernel2Ideal.pcfgs (F := Bits)) d) bodies_eq

theorem frame_kernel : Cert.quiescent_Kernel2 := fun m ρ _ => by
  rw [defs_eq]
  exact (θ_run Cert.Kernel2Ideal.defs _ _).mono (fun _ h => h) (Cert.Kernel2Ideal.Gen.frame (F := Bits) m ρ)

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem preserves : Cert.preserves_Kernel2_Kernel2Ideal := trivial

/-- The kernel's result arrays and the reference's are one function of the arguments each. -/
theorem algebraic : Cert.algebraic_Kernel2Ideal_Reference2Ideal := by
  intro m ρ m' ρ' _ hag
  refine ⟨fun c => wholeY m c, fun c => wholeK m c, ?_, ?_⟩
  · exact (θ_run Cert.Kernel2Ideal.defs _ _).mono
      (fun r h c => ⟨(h c).1.trans (final_y m c), (h c).2.1.trans (final_k m c), (h c).2.2⟩)
      (Cert.Kernel2Ideal.Value.run_blocks m ρ)
  · refine (θ_run Cert.Reference2Ideal.defs _ _).mono (fun r h c => ⟨(h c).1.trans ?_, (h c).2.1.trans ?_, (h c).2.2⟩) (Cert.Reference2Ideal.Value.run (F := Ideal) m' ρ')
    · obtain ⟨e0, e1, e2, e3, e4, e5, e6, e7, e8, e9⟩ := hag c
      rw [Cert.Reference2Ideal.Read.val_main_v71_eq]
      refine (Cert.Reference2Ideal.Ffn.v71_eq _ _ _ _ _ _ _ _ _ _).trans ?_
      rw [e0, e1, e2, e3, e4, e5, e6, e7, e8, e9]
    · obtain ⟨e0, e1, e2, e3, e4, e5, e6, e7, e8, e9⟩ := hag c
      refine (Cert.Reference2Ideal.Read.val_main_v72_eq _ _ _ _ _ _).trans ((Cert.Reference2Ideal.Ffn.v72_eq _ _ _ _ _ _).trans ?_)
      rw [e0, e1, e2, e3, e4, e5]

end Cert.FfnClaims

end
-- ==== Proof.InFrame.lean ====
/-
  The launch of the in-projection call over the prompt, at any values. Every tile of 512 tokens is normed and multiplied by the columns of
  the projection; `out0_k` is what the body leaves in window `k`'s staging buffer, as a function of the three input blocks. The keys
  and values are stored a head at a time, every fourth row of their block.
-/
module

public import proofs.«01_k».proof.Proof.Gen.Kernel3Ideal.Frame
public import proofs.«01_k».proof.Proof.Gen.Kernel3Ideal.Skeleton
public import Idealize.ShloMosaic.Lib.Claim

@[expose] public section

set_option maxRecDepth 16384

noncomputable section

namespace Cert.Kernel3Ideal.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

abbrev rX : Rect S512x1024 := Rect.unit (s := S512x1024) ![0, 0] S512x1024.size inb_S512x1024_S512x1024_0_0
abbrev rG : Rect S1x1024 := Rect.unit (s := S1x1024) ![0, 0] S1x1024.size inb_S1x1024_S1x1024_0_0
abbrev rO : Rect S512x512 := Rect.unit (s := S512x512) ![0, 0] S512x512.size inb_S512x512_S512x512_0_0
abbrev rD : Rect S512x128 := Rect.unit (s := S512x128) ![0, 0] S512x128.size inb_S512x128_S512x128_0_0

/-- The columns of the projection for the queries, keys, values, gates, the branch's inputs and its step sizes. -/
abbrev wq : Rect S1024x3200 := Rect.unit (s := S1024x3200) ![0, 0] S1024x512.size inb_S1024x3200_S1024x512_0_0
abbrev wk : Rect S1024x3200 := Rect.unit (s := S1024x3200) ![0, 512] S1024x512.size inb_S1024x3200_S1024x512_0_512
abbrev wv : Rect S1024x3200 := Rect.unit (s := S1024x3200) ![0, 1024] S1024x512.size inb_S1024x3200_S1024x512_0_1024
abbrev wz : Rect S1024x3200 := Rect.unit (s := S1024x3200) ![0, 1536] S1024x512.size inb_S1024x3200_S1024x512_0_1536
abbrev wb : Rect S1024x3200 := Rect.unit (s := S1024x3200) ![0, 2048] S1024x1024.size inb_S1024x3200_S1024x1024_0_2048
abbrev wt : Rect S1024x3200 := Rect.unit (s := S1024x3200) ![0, 3072] S1024x128.size inb_S1024x3200_S1024x128_0_3072

/-- The rows of head `h` of a block of keys or values: every fourth from `h`. -/
abbrev h0 : Rect S2048x128 := ⟨(⟨![0, 0], S512x128.size, ![4, 1], inb_S2048x128_S512x128_0_0_s_4_1⟩ : LoadRect S2048x128), spos_4_1⟩
abbrev h1 : Rect S2048x128 := ⟨(⟨![1, 0], S512x128.size, ![4, 1], inb_S2048x128_S512x128_1_0_s_4_1⟩ : LoadRect S2048x128), spos_4_1⟩
abbrev h2 : Rect S2048x128 := ⟨(⟨![2, 0], S512x128.size, ![4, 1], inb_S2048x128_S512x128_2_0_s_4_1⟩ : LoadRect S2048x128), spos_4_1⟩
abbrev h3 : Rect S2048x128 := ⟨(⟨![3, 0], S512x128.size, ![4, 1], inb_S2048x128_S512x128_3_0_s_4_1⟩ : LoadRect S2048x128), spos_4_1⟩

/-- The rows of head `h` of a block of transposed values. -/
abbrev t0 : Rect S512x512 := Rect.unit (s := S512x512) ![0, 0] S128x512.size inb_S512x512_S128x512_0_0
abbrev t1 : Rect S512x512 := Rect.unit (s := S512x512) ![128, 0] S128x512.size inb_S512x512_S128x512_128_0
abbrev t2 : Rect S512x512 := Rect.unit (s := S512x512) ![256, 0] S128x512.size inb_S512x512_S128x512_256_0
abbrev t3 : Rect S512x512 := Rect.unit (s := S512x512) ![384, 0] S128x512.size inb_S512x512_S128x512_384_0

/-- The normed rows, the keys and the values of a tile. -/
def hn (x0 : Vec F S512x1024 .f32) (x1 : Vec F S1x1024 .f32) : FVec F S512x1024 .bf16 := k0_pay4 (View.ld x0 rX) (View.ld x1 rG)
def kk (x0 : Vec F S512x1024 .f32) (x1 : Vec F S1x1024 .f32) (x2 : Vec F S1024x3200 .bf16) : FVec F S512x512 .f32 := k0_pay6 (View.ld x0 rX) (View.ld x1 rG) (View.ld x2 wk)
def vv (x0 : Vec F S512x1024 .f32) (x1 : Vec F S1x1024 .f32) (x2 : Vec F S1024x3200 .bf16) : FVec F S512x512 .f32 := k0_pay8 (View.ld x0 rX) (View.ld x1 rG) (View.ld x2 wv)

/-- The pieces the keys and the values are stored in, the last first. -/
def pk (p : FVec F S512x512 .f32) : List (View.Piece (Elt F) S2048x128 .f32) :=
  [⟨h3, k0_pay19 p⟩, ⟨h2, k0_pay17 p⟩, ⟨h1, k0_pay15 p⟩, ⟨h0, k0_pay13 p⟩]
def pv (p : FVec F S512x512 .f32) : List (View.Piece (Elt F) S2048x128 .f32) :=
  [⟨h3, k0_pay20 p⟩, ⟨h2, k0_pay18 p⟩, ⟨h1, k0_pay16 p⟩, ⟨h0, k0_pay14 p⟩]
def pt (x0 : Vec F S512x1024 .f32) (x1 : Vec F S1x1024 .f32) (x2 : Vec F S1024x3200 .bf16) : List (View.Piece (Elt F) S512x512 .bf16) :=
  [⟨t3, k0_pay12 (vv x0 x1 x2)⟩, ⟨t2, k0_pay11 (vv x0 x1 x2)⟩, ⟨t1, k0_pay10 (vv x0 x1 x2)⟩, ⟨t0, k0_pay9 (View.ld x0 rX) (View.ld x1 rG) (View.ld x2 wv)⟩]

/-- The staging buffers of the eight results after the body. -/
def out0_3 (x0 : Vec F S512x1024 .f32) (x1 : Vec F S1x1024 .f32) (x2 : Vec F S1024x3200 .bf16) : Vec F S512x512 .bf16 := View.canon [⟨rO, k0_pay5 (View.ld x0 rX) (View.ld x1 rG) (View.ld x2 wq)⟩]
def out0_4 (x0 : Vec F S512x1024 .f32) (x1 : Vec F S1x1024 .f32) (x2 : Vec F S1024x3200 .bf16) : Vec F S2048x128 .f32 := View.canon (pk (kk x0 x1 x2))
def out0_5 (x0 : Vec F S512x1024 .f32) (x1 : Vec F S1x1024 .f32) (x2 : Vec F S1024x3200 .bf16) : Vec F S2048x128 .f32 := View.canon (pv (vv x0 x1 x2))
def out0_6 (x0 : Vec F S512x1024 .f32) (x1 : Vec F S1x1024 .f32) (x2 : Vec F S1024x3200 .bf16) : Vec F S512x512 .bf16 := View.canon [⟨rO, k0_pay7 (View.ld x0 rX) (View.ld x1 rG) (View.ld x2 wk)⟩]
def out0_7 (x0 : Vec F S512x1024 .f32) (x1 : Vec F S1x1024 .f32) (x2 : Vec F S1024x3200 .bf16) : Vec F S512x512 .bf16 := View.canon (pt x0 x1 x2)
def out0_8 (x0 : Vec F S512x1024 .f32) (x1 : Vec F S1x1024 .f32) (x2 : Vec F S1024x3200 .bf16) : Vec F S512x512 .bf16 := View.canon [⟨rO, k0_pay1 (hn x0 x1) (View.ld x2 wz)⟩]
def out0_9 (x0 : Vec F S512x1024 .f32) (x1 : Vec F S1x1024 .f32) (x2 : Vec F S1024x3200 .bf16) : Vec F S512x1024 .f32 := View.canon [⟨rX, k0_pay2 (hn x0 x1) (View.ld x2 wb)⟩]
def out0_10 (x0 : Vec F S512x1024 .f32) (x1 : Vec F S1x1024 .f32) (x2 : Vec F S1024x3200 .bf16) : Vec F S512x128 .f32 := View.canon [⟨rD, k0_pay3 (hn x0 x1) (View.ld x2 wt)⟩]

theorem coverO (p0 : Vec F S512x512 .bf16) (y : S512x512.Idx) :
    ∃ pc ∈ ([⟨rO, p0⟩] : List (View.Piece (Elt F) S512x512 .bf16)), y ∈ pc.1.set :=
  View.cover_of_tiled [⟨rO, p0⟩] S512x512.size (by rfl) y
theorem coverX (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y
theorem coverD (p0 : Vec F S512x128 .f32) (y : S512x128.Idx) :
    ∃ pc ∈ ([⟨rD, p0⟩] : List (View.Piece (Elt F) S512x128 .f32)), y ∈ pc.1.set :=
  View.cover_of_tiled [⟨rD, p0⟩] S512x128.size (by rfl) y
theorem coverT (p3 p2 p1 p0 : Vec F S128x512 .bf16) (y : S512x512.Idx) :
    ∃ pc ∈ ([⟨t3, p3⟩, ⟨t2, p2⟩, ⟨t1, p1⟩, ⟨t0, p0⟩] : List (View.Piece (Elt F) S512x512 .bf16)), y ∈ pc.1.set :=
  View.cover_of_tiled [⟨t3, p3⟩, ⟨t2, p2⟩, ⟨t1, p1⟩, ⟨t0, p0⟩] S128x512.size (by rfl) y

/-- A row is head `h`'s where it is `h` modulo four. -/
theorem mem_head (l : LoadRect S2048x128) (hp : ∀ a, 0 < l.stride a) (h : ℕ) (e0 : l.off 0 = h) (e1 : l.off 1 = 0) (s0 : l.stride 0 = 4) (s1 : l.stride 1 = 1)
    (z0 : l.size 0 = 512) (z1 : l.size 1 = 128) (y : S2048x128.Idx) (hy : (y 0 : ℕ) % 4 = h) : y ∈ (⟨l, hp⟩ : Rect S2048x128).set := by
  have b0 : (y 0 : ℕ) < 2048 := (y 0).isLt
  have b1 : (y 1 : ℕ) < 128 := (y 1).isLt
  refine (LoadRect.mem_set _).mpr fun a => ?_
  match a with
  | ⟨0, _⟩ => exact ⟨(y 0 : ℕ) / 4, by show _ < l.size 0; omega, by show (y 0 : ℕ) = l.off 0 + l.stride 0 * _; rw [e0, s0]; omega⟩
  | ⟨1, _⟩ => exact ⟨(y 1 : ℕ), by show _ < l.size 1; omega, by show (y 1 : ℕ) = l.off 1 + l.stride 1 * _; rw [e1, s1]; omega⟩

theorem coverH (p3 p2 p1 p0 : Vec F S512x128 .f32) (y : S2048x128.Idx) :
    ∃ pc ∈ ([⟨h3, p3⟩, ⟨h2, p2⟩, ⟨h1, p1⟩, ⟨h0, p0⟩] : List (View.Piece (Elt F) S2048x128 .f32)), y ∈ pc.1.set := by
  have h : (y 0 : ℕ) % 4 = 0 ∨ (y 0 : ℕ) % 4 = 1 ∨ (y 0 : ℕ) % 4 = 2 ∨ (y 0 : ℕ) % 4 = 3 := by omega
  rcases h with h | h | h | h
  · exact ⟨⟨h0, p0⟩, by simp, mem_head _ _ 0 rfl rfl rfl rfl rfl rfl y h⟩
  · exact ⟨⟨h1, p1⟩, by simp, mem_head _ _ 1 rfl rfl rfl rfl rfl rfl y h⟩
  · exact ⟨⟨h2, p2⟩, by simp, mem_head _ _ 2 rfl rfl rfl rfl rfl rfl y h⟩
  · exact ⟨⟨h3, p3⟩, by simp, mem_head _ _ 3 rfl rfl rfl rfl rfl rfl y h⟩

/-! ## The body's triple -/

set_option maxHeartbeats 4000000 in
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S512x512 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .f32) (harg10 : arg10.IsWhole) (arg11 : Memref sig .tc .vmem S512x128 .f32) (harg11 : arg11.IsWhole)
    (x0 : Vec F S512x1024 .f32) (x1 : Vec F S1x1024 .f32) (x2 : Vec F S1024x3200 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2) ∗ owns (c : Thread nD τ) arg8 fullShare (out0_7 x0 x1 x2) ∗ owns (c : Thread nD τ) arg9 fullShare (out0_8 x0 x1 x2) ∗ owns (c : Thread nD τ) arg10 fullShare (out0_9 x0 x1 x2) ∗ owns (c : Thread nD τ) arg11 fullShare (out0_10 x0 x1 x2)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (coverO _)).trans ?_
    unfold out0_3
    rfl
  isplitl [H4]
  · iexists _; isplitr
    swap; · iexact H4
    ipureintro
    refine (View.read_writes_eq_canon _ _ _ (coverH _ _ _ _)).trans ?_
    unfold out0_4 pk kk
    rfl
  isplitl [H5]
  · iexists _; isplitr
    swap; · iexact H5
    ipureintro
    refine (View.read_writes_eq_canon _ _ _ (coverH _ _ _ _)).trans ?_
    unfold out0_5 pv vv
    rfl
  isplitl [H6]
  · iexists _; isplitr
    swap; · iexact H6
    ipureintro
    refine (View.read_writes_eq_canon _ _ _ (coverO _)).trans ?_
    unfold out0_6
    rfl
  isplitl [H7]
  · iexists _; isplitr
    swap; · iexact H7
    ipureintro
    refine (View.read_writes_eq_canon _ _ _ (coverT _ _ _ _)).trans ?_
    unfold out0_7 pt vv
    rfl
  isplitl [H8]
  · iexists _; isplitr
    swap; · iexact H8
    ipureintro
    refine (View.read_writes_eq_canon _ _ _ (coverO _)).trans ?_
    unfold out0_8 hn
    rfl
  isplitl [H9]
  · iexists _; isplitr
    swap; · iexact H9
    ipureintro
    refine (View.read_writes_eq_canon _ _ _ (coverX _)).trans ?_
    unfold out0_9 hn
    rfl
  iexists _; isplitr
  swap; · iexact H10
  ipureintro
  refine (View.read_writes_eq_canon _ _ _ (coverD _)).trans ?_
  unfold out0_10 hn
  rfl

/-! ## The pipeline's proof data, the body obligation, the launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
    | ⟨5, _⟩ => out0_5 (iblk m c 0 t) (iblk m c 1 t) (iblk m c 2 t)
    | ⟨6, _⟩ => out0_6 (iblk m c 0 t) (iblk m c 1 t) (iblk m c 2 t)
    | ⟨7, _⟩ => out0_7 (iblk m c 0 t) (iblk m c 1 t) (iblk m c 2 t)
    | ⟨8, _⟩ => out0_8 (iblk m c 0 t) (iblk m c 1 t) (iblk m c 2 t)
    | ⟨9, _⟩ => out0_9 (iblk m c 0 t) (iblk m c 1 t) (iblk m c 2 t)
    | ⟨10, _⟩ => out0_10 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 2 t) := by dsimp only [dats]
theorem after0_6 (c : Dev nD) (t : Fin cfg0.N) : (dats m 0 c).after 6 t = out0_6 (iblk m c 0 t) (iblk m c 1 t) (iblk m c 2 t) := by dsimp only [dats]
theorem after0_7 (c : Dev nD) (t : Fin cfg0.N) : (dats m 0 c).after 7 t = out0_7 (iblk m c 0 t) (iblk m c 1 t) (iblk m c 2 t) := by dsimp only [dats]
theorem after0_8 (c : Dev nD) (t : Fin cfg0.N) : (dats m 0 c).after 8 t = out0_8 (iblk m c 0 t) (iblk m c 1 t) (iblk m c 2 t) := by dsimp only [dats]
theorem after0_9 (c : Dev nD) (t : Fin cfg0.N) : (dats m 0 c).after 9 t = out0_9 (iblk m c 0 t) (iblk m c 1 t) (iblk m c 2 t) := by dsimp only [dats]
theorem after0_10 (c : Dev nD) (t : Fin cfg0.N) : (dats m 0 c).after 10 t = out0_10 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.In

end
-- ==== Proof.InMath.lean ====
/-
  The in-projection of the prompt: every token's normed row against the columns of one matrix, and the eight arrays the columns are
  laid out in, as functions of the stream, the gain and the matrix.
-/
module

public import proofs.«01_k».proof.Proof.FfnMath
public import Idealize.ShloMosaic.Lib.ValueIdx

@[expose] public section

noncomputable section

namespace Cert.In

open Idealize.ShloMosaic Idealize.ShloMosaic.ValueIdx

abbrev Stream : Shape := ⟨3, ![4, 8192, 1024]⟩
abbrev Gain : Shape := ⟨2, ![1, 1024]⟩
abbrev Mat : Shape := ⟨3, ![1, 1024, 3080]⟩

/-- The factor on the queries: an eighth of the logarithm of e to the base two. -/
def scale : EReal := Ideal.ofBits .f32 0x3E38AA3B#32

variable (x : FVec Ideal Stream .f32) (g : FVec Ideal Gain .f32) (w : FVec Ideal Mat .f32)

/-- Token `n`'s row, sequence by sequence. -/
def row (n : Fin 32768) (j : Fin 1024) : EReal := x (ix3 (⟨n.val / 8192, by omega⟩ : Fin 4) (⟨n.val % 8192, by omega⟩ : Fin 8192) j)

/-- Column `c` of the matrix, zero from the last one on. -/
def col (k : Fin 1024) (c : ℕ) : EReal := if h : c < 3080 then w (ix3 (0 : Fin 1) k (⟨c, h⟩ : Fin 3080)) else 0

/-- Token `n`'s normed row against column `c`. -/
def u (n : Fin 32768) (c : ℕ) : EReal := ∑ k, Cert.Ffn.rms (row x n) (fun j => g (ix2 0 j)) k * col w k c

theorem u_zero (n : Fin 32768) (c : ℕ) (h : 3080 ≤ c) : u x g w n c = 0 := by
  unfold u
  refine Finset.sum_eq_zero fun k _ => ?_
  unfold col
  rw [dif_neg (by omega), mul_zero]

abbrev Rows : Shape := ⟨2, ![32768, 512]⟩
abbrev Heads : Shape := ⟨2, ![131072, 128]⟩
abbrev Wide : Shape := ⟨2, ![32768, 1024]⟩
abbrev Steps : Shape := ⟨2, ![32768, 128]⟩

/-- The token a row of the keys' array is of, four rows a token. -/
def tok (i : Heads.Idx) : Fin 32768 := ⟨(i 0 : ℕ) / 4, by have : (i 0 : ℕ) < 131072 := (i 0).isLt; omega⟩
/-- The column of an element of the keys' array. -/
def hcol (i : Heads.Idx) : ℕ := 128 * ((i 0 : ℕ) % 4) + (i 1 : ℕ)
/-- The token an element of the transposed values is of. -/
def ttok (i : Rows.Idx) : Fin 32768 := ⟨(i 0 : ℕ) / 512 * 512 + (i 1 : ℕ), by
  have h0 : (i 0 : ℕ) < 32768 := (i 0).isLt
  have h1 : (i 1 : ℕ) < 512 := (i 1).isLt
  omega⟩

def queries : Rows.Idx → EReal := fun i => u x g w (i 0) (0 + (i 1 : ℕ)) * scale
def keys : Heads.Idx → EReal := fun i => u x g w (tok i) (512 + hcol i)
def values : Heads.Idx → EReal := fun i => u x g w (tok i) (1024 + hcol i)
def keyRows : Rows.Idx → EReal := fun i => u x g w (i 0) (512 + (i 1 : ℕ))
def valueCols : Rows.Idx → EReal := fun i => u x g w (ttok i) (1024 + (i 0 : ℕ) % 512)
def gates : Rows.Idx → EReal := fun i => u x g w (i 0) (1536 + (i 1 : ℕ))
def branch : Wide.Idx → EReal := fun i => u x g w (i 0) (2048 + (i 1 : ℕ))
def steps : Steps.Idx → EReal := fun i => u x g w (i 0) (3072 + (i 1 : ℕ))

end Cert.In
-- ==== Proof.InVal.lean ====
/-
  What the body leaves in each result's staging buffer, element by element over the extended reals.
-/
module

public import proofs.«01_k».proof.Proof.InFrame
public import proofs.«01_k».proof.Proof.InMath
public import proofs.«01_k».proof.Proof.FfnTile

@[expose] public section

set_option maxRecDepth 16384

noncomputable section

namespace Cert.Kernel3Ideal.In

open Cert.Kernel3Ideal Cert.Kernel3Ideal.Gen Cert.Ffn
open Idealize.ShloMosaic Idealize.ShloMosaic.TcCoe Idealize.ShloMosaic.ValueIdx

theorem zero2 : ∀ a : Fin 2, (![0, 0] : Fin 2 → ℕ) a = 0 := by decide
theorem zero2' : (![0, 0] : Fin 2 → ℕ) = fun _ => 0 := funext zero2

theorem pay4_at (x : Vec Ideal S512x1024 .f32) (g : Vec Ideal S1x1024 .f32) (r : Fin 512) (j : Fin 1024) :
    k0_pay4 x g (ix2 r j) = rms (fun j => x (ix2 r j)) (fun j => g (ix2 0 j)) j := by
  unfold k0_pay4
  simp only [shapeCast_self]
  rw [truncf_apply, mulf_apply, mulf_apply]
  exact congrArg₂ (fun a b : EReal => x (ix2 r j) * a * b) (Cert.Kernel2Ideal.Ffn.scale_at x r j) (Cert.Kernel2Ideal.Ffn.over_rows g r j)

variable (x : Vec Ideal S512x1024 .f32) (g : Vec Ideal S1x1024 .f32) (w : Vec Ideal S1024x3200 .bf16) (W : Fin 1024 → ℕ → EReal)
  (hW : ∀ (k : Fin 1024) (c : Fin 3200), w (ix2 k c) = W k c.val)

/-- A row of the block, normed, against column `n`. -/
def uu (x : Vec Ideal S512x1024 .f32) (g : Vec Ideal S1x1024 .f32) (W : Fin 1024 → ℕ → EReal) (r : Fin 512) (n : ℕ) : EReal :=
  ∑ k, rms (fun j => x (ix2 r j)) (fun j => g (ix2 0 j)) k * W k n

theorem loads : View.ld x rX = x := View.ld_unit_lit _ x zero2
theorem loadg : View.ld g rG = g := View.ld_unit_lit _ g zero2
theorem hn_at (r : Fin 512) (j : Fin 1024) : hn x g (ix2 r j) = rms (fun j => x (ix2 r j)) (fun j => g (ix2 0 j)) j := by
  unfold hn
  rw [loads, loadg, pay4_at]

theorem pay1_at (h : FVec Ideal S512x1024 .bf16) (w : Vec Ideal S1024x512 .bf16) (r c : Fin 512) :
    k0_pay1 h w (ix2 r c) = ∑ k : Fin 1024, (h (ix2 r k) : EReal) * w (ix2 k c) := by
  unfold k0_pay1
  rw [shapeCast_self]
  refine (Ideal.matmul_plain_apply (M := 512) (K := 1024) (N := 512) (φ₁ := .bf16) (φ₂ := .bf16) none h w _ r c).trans ?_
  rw [constant_apply, Ideal.ofBits_zero_f32, zero_add]

theorem pay2_at (h : FVec Ideal S512x1024 .bf16) (w : Vec Ideal S1024x1024 .bf16) (r : Fin 512) (c : Fin 1024) :
    k0_pay2 h w (ix2 r c) = ∑ k : Fin 1024, (h (ix2 r k) : EReal) * w (ix2 k c) := by
  unfold k0_pay2
  rw [shapeCast_self]
  refine (Ideal.matmul_plain_apply (M := 512) (K := 1024) (N := 1024) (φ₁ := .bf16) (φ₂ := .bf16) none h w _ r c).trans ?_
  rw [constant_apply, Ideal.ofBits_zero_f32, zero_add]

theorem pay3_at (h : FVec Ideal S512x1024 .bf16) (w : Vec Ideal S1024x128 .bf16) (r : Fin 512) (c : Fin 128) :
    k0_pay3 h w (ix2 r c) = ∑ k : Fin 1024, (h (ix2 r k) : EReal) * w (ix2 k c) := by
  unfold k0_pay3
  rw [shapeCast_self]
  refine (Ideal.matmul_plain_apply (M := 512) (K := 1024) (N := 128) (φ₁ := .bf16) (φ₂ := .bf16) none h w _ r c).trans ?_
  rw [constant_apply, Ideal.ofBits_zero_f32, zero_add]

theorem pay6_at (w : Vec Ideal S1024x512 .bf16) (r c : Fin 512) :
    k0_pay6 x g w (ix2 r c) = ∑ k : Fin 1024, (k0_pay4 x g (ix2 r k) : EReal) * w (ix2 k c) := pay1_at (k0_pay4 x g) w r c

theorem pay8_at (w : Vec Ideal S1024x512 .bf16) (r c : Fin 512) :
    k0_pay8 x g w (ix2 r c) = ∑ k : Fin 1024, (k0_pay4 x g (ix2 r k) : EReal) * w (ix2 k c) := pay1_at (k0_pay4 x g) w r c

theorem pay5_at (w : Vec Ideal S1024x512 .bf16) (r c : Fin 512) :
    k0_pay5 x g w (ix2 r c) = (∑ k : Fin 1024, (k0_pay4 x g (ix2 r k) : EReal) * w (ix2 k c)) * Cert.In.scale :=
  congrArg (fun z : EReal => z * Cert.In.scale) (pay6_at x g w r c)

include hW in
theorem wq_at (k : Fin 1024) (c : Fin 512) : (View.ld w wq) (ix2 k c) = W k (0 + c.val) :=
  (View.ld_unit_apply_of w ![0, 0] S1024x512.size _ (ix2 k c) (ix2 k (⟨0 + c.val, by omega⟩ : Fin 3200)) (fun a => by
    match a with
    | ⟨0, _⟩ => exact (Nat.zero_add _).symm
    | ⟨1, _⟩ => rfl)).trans (hW _ _)

include hW in
theorem wk_at (k : Fin 1024) (c : Fin 512) : (View.ld w wk) (ix2 k c) = W k (512 + c.val) :=
  (View.ld_unit_apply_of w ![0, 512] S1024x512.size _ (ix2 k c) (ix2 k (⟨512 + c.val, by omega⟩ : Fin 3200)) (fun a => by
    match a with
    | ⟨0, _⟩ => exact (Nat.zero_add _).symm
    | ⟨1, _⟩ => rfl)).trans (hW _ _)

include hW in
theorem wv_at (k : Fin 1024) (c : Fin 512) : (View.ld w wv) (ix2 k c) = W k (1024 + c.val) :=
  (View.ld_unit_apply_of w ![0, 1024] S1024x512.size _ (ix2 k c) (ix2 k (⟨1024 + c.val, by omega⟩ : Fin 3200)) (fun a => by
    match a with
    | ⟨0, _⟩ => exact (Nat.zero_add _).symm
    | ⟨1, _⟩ => rfl)).trans (hW _ _)

include hW in
theorem wz_at (k : Fin 1024) (c : Fin 512) : (View.ld w wz) (ix2 k c) = W k (1536 + c.val) :=
  (View.ld_unit_apply_of w ![0, 1536] S1024x512.size _ (ix2 k c) (ix2 k (⟨1536 + c.val, by omega⟩ : Fin 3200)) (fun a => by
    match a with
    | ⟨0, _⟩ => exact (Nat.zero_add _).symm
    | ⟨1, _⟩ => rfl)).trans (hW _ _)

include hW in
theorem wb_at (k : Fin 1024) (c : Fin 1024) : (View.ld w wb) (ix2 k c) = W k (2048 + c.val) :=
  (View.ld_unit_apply_of w ![0, 2048] S1024x1024.size _ (ix2 k c) (ix2 k (⟨2048 + c.val, by omega⟩ : Fin 3200)) (fun a => by
    match a with
    | ⟨0, _⟩ => exact (Nat.zero_add _).symm
    | ⟨1, _⟩ => rfl)).trans (hW _ _)

include hW in
theorem wt_at (k : Fin 1024) (c : Fin 128) : (View.ld w wt) (ix2 k c) = W k (3072 + c.val) :=
  (View.ld_unit_apply_of w ![0, 3072] S1024x128.size _ (ix2 k c) (ix2 k (⟨3072 + c.val, by omega⟩ : Fin 3200)) (fun a => by
    match a with
    | ⟨0, _⟩ => exact (Nat.zero_add _).symm
    | ⟨1, _⟩ => rfl)).trans (hW _ _)

include hW in
theorem kk_at (r c : Fin 512) : kk x g w (ix2 r c) = uu x g W r (512 + c.val) := by
  unfold kk uu
  rw [loads, loadg, pay6_at]
  simp only [wk_at w W hW, pay4_at]

include hW in
theorem vv_at (r c : Fin 512) : vv x g w (ix2 r c) = uu x g W r (1024 + c.val) := by
  unfold vv uu
  rw [loads, loadg, pay8_at]
  simp only [wv_at w W hW, pay4_at]

include hW in
theorem out3_at (r c : Fin 512) : out0_3 x g w (ix2 r c) = uu x g W r (0 + c.val) * Cert.In.scale := by
  unfold out0_3 uu
  rw [View.canon_unit_zero zero2', loads, loadg, pay5_at]
  simp only [wq_at w W hW, pay4_at]

include hW in
theorem out6_at (r c : Fin 512) : out0_6 x g w (ix2 r c) = uu x g W r (512 + c.val) := by
  unfold out0_6
  rw [View.canon_unit_zero zero2']
  exact kk_at x g w W hW r c

include hW in
theorem out8_at (r c : Fin 512) : out0_8 x g w (ix2 r c) = uu x g W r (1536 + c.val) := by
  unfold out0_8 uu
  rw [View.canon_unit_zero zero2', pay1_at]
  simp only [wz_at w W hW, hn_at]

include hW in
theorem out9_at (r : Fin 512) (c : Fin 1024) : out0_9 x g w (ix2 r c) = uu x g W r (2048 + c.val) := by
  unfold out0_9 uu
  rw [View.canon_unit_zero zero2', pay2_at]
  simp only [wb_at w W hW, hn_at]

include hW in
theorem out10_at (r : Fin 512) (c : Fin 128) : out0_10 x g w (ix2 r c) = uu x g W r (3072 + c.val) := by
  unfold out0_10 uu
  rw [View.canon_unit_zero zero2', pay3_at]
  simp only [wt_at w W hW, hn_at]

/-- A head's columns of a block. -/
theorem head_at (p : FVec Ideal S512x512 .f32) (o : ℕ) (hs : S512x512.Slices ![0, o] S512x128) (y : S512x128.Idx) (i : S512x512.Idx)
    (e0 : (i 0 : ℕ) = y 0) (e1 : (i 1 : ℕ) = o + y 1) : extractStridedSlice S512x128 ![0, o] p hs y = p i :=
  extractStridedSlice_apply ![0, o] p hs y i (fun a => by
    match a with
    | ⟨0, _⟩ => exact e0.trans (Nat.zero_add _).symm
    | ⟨1, _⟩ => exact e1)

/-- The element of a block that a row of the keys' or values' layout is. -/
def at4 (y : S2048x128.Idx) : S512x512.Idx :=
  ix2 (⟨(y 0 : ℕ) / 4, by have : (y 0 : ℕ) < 2048 := (y 0).isLt; omega⟩ : Fin 512)
    (⟨128 * ((y 0 : ℕ) % 4) + (y 1 : ℕ), by have : (y 1 : ℕ) < 128 := (y 1).isLt; omega⟩ : Fin 512)

theorem head_piece (p : FVec Ideal S512x512 .f32) (h : ℕ) (hh : h < 4) (l : LoadRect S2048x128) (hp : ∀ a, 0 < l.stride a) (z : l.size = S512x128.size)
    (o0 : l.off 0 = h) (o1 : l.off 1 = 0) (s0 : l.stride 0 = 4) (s1 : l.stride 1 = 1)
    (hs : S512x512.Slices ![0, 128 * h] S512x128) (y : S512x128.Idx) (y' : (⟨l, hp⟩ : Rect S2048x128).shape.Idx)
    (e0 : (y' 0 : ℕ) = y 0) (e1 : (y' 1 : ℕ) = y 1) :
    extractStridedSlice S512x128 ![0, 128 * h] p hs y = p (at4 ((⟨l, hp⟩ : Rect S2048x128).emb y')) := by
  have b0 : (y 0 : ℕ) < 512 := (y 0).isLt
  have b1 : (y 1 : ℕ) < 128 := (y 1).isLt
  have v0 : (((⟨l, hp⟩ : Rect S2048x128).emb y') 0 : ℕ) = h + 4 * (y 0 : ℕ) := by
    show l.off 0 + l.stride 0 * (y' 0 : ℕ) = _; rw [o0, s0, e0]
  have v1 : (((⟨l, hp⟩ : Rect S2048x128).emb y') 1 : ℕ) = (y 1 : ℕ) := by
    show l.off 1 + l.stride 1 * (y' 1 : ℕ) = _; rw [o1, s1, e1]; omega
  refine head_at p _ hs y _ ?_ ?_
  · show (((⟨l, hp⟩ : Rect S2048x128).emb y') 0 : ℕ) / 4 = _; rw [v0]; omega
  · show 128 * ((((⟨l, hp⟩ : Rect S2048x128).emb y') 0 : ℕ) % 4) + (((⟨l, hp⟩ : Rect S2048x128).emb y') 1 : ℕ) = _; rw [v0, v1]; omega

theorem keysTile (p : FVec Ideal S512x512 .f32) (y : S2048x128.Idx) : View.canon (pk p) y = p (at4 y) := by
  refine View.canon_apply_of_pieces (fun y => p (at4 y)) (pk p) ?_ y (coverH _ _ _ _ y)
  unfold pk
  intro q hq
  rcases List.mem_cons.mp hq with rfl | hq
  · exact fun z => head_piece p 3 (by omega) _ _ rfl rfl rfl rfl rfl slices_S512x512_o0_384_S512x128 z z rfl rfl
  rcases List.mem_cons.mp hq with rfl | hq
  · exact fun z => head_piece p 2 (by omega) _ _ rfl rfl rfl rfl rfl slices_S512x512_o0_256_S512x128 z z rfl rfl
  rcases List.mem_cons.mp hq with rfl | hq
  · exact fun z => head_piece p 1 (by omega) _ _ rfl rfl rfl rfl rfl slices_S512x512_o0_128_S512x128 z z rfl rfl
  obtain rfl := List.mem_singleton.mp hq
  exact fun z => head_piece p 0 (by omega) _ _ rfl rfl rfl rfl rfl slices_S512x512_o0_0_S512x128 z z rfl rfl

theorem valuesTile (p : FVec Ideal S512x512 .f32) (y : S2048x128.Idx) : View.canon (pv p) y = p (at4 y) := keysTile p y

/-- A head's columns of a block, transposed. -/
theorem turn_at (p : FVec Ideal S512x512 .f32) (o : ℕ) (hs : S512x512.Slices ![0, o] S512x128) (y : S128x512.Idx) (i : S512x512.Idx)
    (e0 : (i 0 : ℕ) = y 1) (e1 : (i 1 : ℕ) = o + y 0) :
    transpose S128x512 [1, 0] (extractStridedSlice S512x128 ![0, o] p hs) transposes_S512x128_p1_0_S128x512 y = p i := by
  refine (transpose_apply [1, 0] _ transposes_S512x128_p1_0_S128x512 y (ix2 (y 1) (y 0)) (fun b => ?_)).trans (head_at p o hs _ i e0 e1)
  match b with
  | ⟨0, _⟩ => rfl
  | ⟨1, _⟩ => rfl

theorem turn_piece (p : FVec Ideal S512x512 .f32) (o : ℕ) (hs : S512x512.Slices ![0, o] S512x128)
    (inb : ∀ a, (![o, 0] : Fin 2 → ℕ) a + S128x512.size a ≤ S512x512.size a) (y : S128x512.Idx) :
    transpose S128x512 [1, 0] (extractStridedSlice S512x128 ![0, o] p hs) transposes_S512x128_p1_0_S128x512 y
      = p (ix2 ((Rect.unit (s := S512x512) ![o, 0] S128x512.size inb).emb y 1) ((Rect.unit (s := S512x512) ![o, 0] S128x512.size inb).emb y 0)) := by
  refine turn_at p o hs y _ ?_ ?_
  · show 0 + 1 * (y 1 : ℕ) = _; omega
  · show o + 1 * (y 0 : ℕ) = _; omega

theorem turned (y : S512x512.Idx) : View.canon (pt x g w) y = vv x g w (ix2 (y 1) (y 0)) := by
  refine View.canon_apply_of_pieces (fun y => vv x g w (ix2 (y 1) (y 0))) (pt x g w) ?_ y (coverT _ _ _ _ y)
  unfold pt
  intro q hq
  rcases List.mem_cons.mp hq with rfl | hq
  · exact fun z => turn_piece (vv x g w) 384 slices_S512x512_o0_384_S512x128 inb_S512x512_S128x512_384_0 z
  rcases List.mem_cons.mp hq with rfl | hq
  · exact fun z => turn_piece (vv x g w) 256 slices_S512x512_o0_256_S512x128 inb_S512x512_S128x512_256_0 z
  rcases List.mem_cons.mp hq with rfl | hq
  · exact fun z => turn_piece (vv x g w) 128 slices_S512x512_o0_128_S512x128 inb_S512x512_S128x512_128_0 z
  obtain rfl := List.mem_singleton.mp hq
  exact fun z => turn_piece (k0_pay8 (View.ld x rX) (View.ld g rG) (View.ld w wv)) 0 slices_S512x512_o0_0_S512x128 inb_S512x512_S128x512_0_0 z

include hW in
theorem out4_at (r : Fin 2048) (c : Fin 128) :
    out0_4 x g w (ix2 r c) = uu x g W (⟨r.val / 4, by omega⟩ : Fin 512) (512 + (128 * (r.val % 4) + c.val)) := by
  unfold out0_4
  rw [keysTile]
  exact kk_at x g w W hW _ _

include hW in
theorem out5_at (r : Fin 2048) (c : Fin 128) :
    out0_5 x g w (ix2 r c) = uu x g W (⟨r.val / 4, by omega⟩ : Fin 512) (1024 + (128 * (r.val % 4) + c.val)) := by
  unfold out0_5
  rw [valuesTile]
  exact vv_at x g w W hW _ _

include hW in
theorem out7_at (r c : Fin 512) : out0_7 x g w (ix2 r c) = uu x g W c (1024 + r.val) := by
  unfold out0_7
  rw [turned]
  exact vv_at x g w W hW _ _

end Cert.Kernel3Ideal.In
-- ==== Proof.InWhole.lean ====
/-
  The in-projection's eight arrays after the run, as functions of the stream, the gain and the matrix.
-/
module

public import proofs.«01_k».proof.Proof.InVal
public import Idealize.ShloMosaic.Lib.KernelVsHost

@[expose] public section

set_option maxRecDepth 16384

noncomputable section

namespace Cert.Kernel3Ideal.In

open Cert.Kernel3Ideal Cert.Kernel3Ideal.Gen Cert.In
open Idealize.ShloMosaic Idealize.ShloMosaic.TcCoe Idealize.ShloMosaic.Tactic Idealize.ShloMosaic.ValueIdx

variable (m : (ℓ : Loc nD τ sig) → Buf (Elt Ideal) ℓ) (c : Dev nD)

/-! ## The blocks the body reads -/

theorem V3 : V m c main_v3 = shapeCast S32768x1024 (m ((c : Thread nD τ).loc main_arg0)) shapeCasts_S4x8192x1024_S32768x1024 := by
  unfold V
  simp only [hostOps0, hostOps0_1, hostOps0_2, List.flatten_cons, List.flatten_nil, List.append_nil, List.cons_append, List.nil_append]
  after_results
  rfl

theorem V2 : (V m c main_v2 : (⟨S1024x3200, .bf16⟩ : BufTy).Contents (Elt Ideal)) = truncf (F := Ideal) .bf16 (pad S1024x3200 ![0, 0] ![0, 120] ![0, 0] (shapeCast S1024x3080 (m ((c : Thread nD τ).loc main_arg2)) shapeCasts_S1x1024x3080_S1024x3080)
    (sitofp .f32 (constantI S_ 32 0#32)) pads_S1024x3080_S1024x3200_000_01200 h_S_) bitsLt_bf16_f32 := by
  unfold V
  simp only [hostOps0, hostOps0_1, hostOps0_2, List.flatten_cons, List.flatten_nil, List.append_nil, List.cons_append, List.nil_append]
  after_results
  rfl

/-- Row `a` of the tile at a point. -/
def tk (t : Fin cfg0.N) (a : Fin 512) : Fin 32768 := ⟨t.val * 512 + a.val, by have : t.val < 64 := t.isLt.trans_eq (by decide); omega⟩

theorem flat_at (x : (⟨S4x8192x1024, .f32⟩ : BufTy).Contents (Elt Ideal)) (n : Fin 32768) (j : Fin 1024) :
    shapeCast S32768x1024 x shapeCasts_S4x8192x1024_S32768x1024 (ix2 n j) = row x n j :=
  shapeCast_apply x _ _ _ (by
    rw [Shape.rowMajor_val_three, Shape.rowMajor_val_two]
    show (n.val / 8192 * 8192 + n.val % 8192) * 1024 + j.val = n.val * 1024 + j.val
    omega)

theorem mat_at (x : (⟨S1x1024x3080, .f32⟩ : BufTy).Contents (Elt Ideal)) (k : Fin 1024) (d : Fin 3080) :
    shapeCast S1024x3080 x shapeCasts_S1x1024x3080_S1024x3080 (ix2 k d) = x (ix3 0 k d) :=
  shapeCast_apply x _ _ _ (by
    rw [Shape.rowMajor_val_three, Shape.rowMajor_val_two]
    show (0 * 1024 + k.val) * 3080 + d.val = k.val * 3080 + d.val
    omega)

theorem padded_at (x : (⟨S1x1024x3080, .f32⟩ : BufTy).Contents (Elt Ideal)) (k : Fin 1024) (d : Fin 3200) :
    pad S1024x3200 ![0, 0] ![0, 120] ![0, 0] (shapeCast S1024x3080 x shapeCasts_S1x1024x3080_S1024x3080)
      (sitofp (F := Ideal) .f32 (constantI S_ 32 0#32)) pads_S1024x3080_S1024x3200_000_01200 h_S_ (ix2 k d) = col x k d.val := by
  unfold col
  by_cases h : d.val < 3080
  · rw [dif_pos h]
    refine (pad_apply_of_inside _ _ _ _ _ _ _ _ (ix2 k (⟨d.val, h⟩ : Fin 3080)) (fun a => ?_)).trans (mat_at x k _)
    match a with
    | ⟨0, _⟩ => show k.val = 0 + k.val * (0 + 1); omega
    | ⟨1, _⟩ => show d.val = 0 + d.val * (0 + 1); omega
  · rw [dif_neg h]
    refine (pad_apply_of_not_inside _ _ _ _ _ _ _ _ (1 : Fin 2) (fun hc => ?_)).trans ?_
    · have h2 : (d.val - 0) / (0 + 1) < 3080 := hc.2.2
      omega
    · exact sitofp_zero (φ := .f32)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel

theorem blk0 (t : Fin cfg0.N) (a : Fin 512) (d : Fin 1024) : (iblk m c 0 t : Vec Ideal S512x1024 .f32) (ix2 a d)
    = row (m ((c : Thread nD τ).loc main_arg0)) (tk t a) d := by
  show (V m c main_v3 : (⟨S32768x1024, .f32⟩ : BufTy).Contents (Elt Ideal)) ((win0_0.rect t).emb (ix2 a d)) = _
  have e : (win0_0.rect t).emb (ix2 a d) = ix2 (tk t a) d := by
    funext x
    apply Fin.ext
    refine (Pipeline.Window.rect_emb_val win0_0 t _ x).trans ?_
    match x with
    | ⟨0, _⟩ => show win0_0.index t 0 * 512 + a.val = t.val * 512 + a.val; rw [(idx0 t).1]
    | ⟨1, _⟩ => show win0_0.index t 1 * 1024 + d.val = d.val; rw [(idx0 t).2]; omega
  rw [e, V3]
  exact flat_at _ _ _

theorem blk1 (t : Fin cfg0.N) (a : Fin 1) (d : Fin 1024) : (iblk m c 1 t : Vec Ideal S1x1024 .f32) (ix2 a d)
    = (m ((c : Thread nD τ).loc main_arg1) : (⟨S1x1024, .f32⟩ : BufTy).Contents (Elt Ideal)) (ix2 a d) := by
  show (V m c main_arg1 : (⟨S1x1024, .f32⟩ : BufTy).Contents (Elt Ideal)) ((win0_1.rect t).emb (ix2 a d)) = _
  have e : (win0_1.rect t).emb (ix2 a d) = ix2 a d := by
    funext x
    apply Fin.ext
    refine (Pipeline.Window.rect_emb_val win0_1 t _ x).trans ?_
    match x with
    | ⟨0, _⟩ => show win0_1.index t 0 * 1 + a.val = a.val; rw [(idx1 t).1]; omega
    | ⟨1, _⟩ => show win0_1.index t 1 * 1024 + d.val = d.val; rw [(idx1 t).2]; omega
  rw [e, V_main_arg1]

theorem blk2 (t : Fin cfg0.N) (k : Fin 1024) (d : Fin 3200) : (iblk m c 2 t : Vec Ideal S1024x3200 .bf16) (ix2 k d)
    = col (m ((c : Thread nD τ).loc main_arg2)) k d.val := by
  show (V m c main_v2 : (⟨S1024x3200, .bf16⟩ : BufTy).Contents (Elt Ideal)) ((win0_2.rect t).emb (ix2 k d)) = _
  have e : (win0_2.rect t).emb (ix2 k d) = ix2 k d := by
    funext x
    apply Fin.ext
    refine (Pipeline.Window.rect_emb_val win0_2 t _ x).trans ?_
    match x with
    | ⟨0, _⟩ => show win0_2.index t 0 * 1024 + k.val = k.val; rw [(idx2 t).1]; omega
    | ⟨1, _⟩ => show win0_2.index t 1 * 3200 + d.val = d.val; rw [(idx2 t).2]; omega
  rw [e, V2, truncf_apply]
  exact padded_at _ k d

theorem uu_at (t : Fin cfg0.N) (r : Fin 512) (n : ℕ) :
    uu (iblk m c 0 t) (iblk m c 1 t) (col (m ((c : Thread nD τ).loc main_arg2))) r n = u (m ((c : Thread nD τ).loc main_arg0)) (m ((c : Thread nD τ).loc main_arg1)) (m ((c : Thread nD τ).loc main_arg2)) (tk t r) n := by
  unfold uu u
  simp only [blk0, blk1]

/-! ## The arrays -/

abbrev whole3 : (⟨S32768x512, .bf16⟩ : BufTy).Contents (Elt Ideal) := queries (m ((c : Thread nD τ).loc main_arg0)) (m ((c : Thread nD τ).loc main_arg1)) (m ((c : Thread nD τ).loc main_arg2))

theorem idx3 : ∀ t : Fin cfg0.N, win0_3.index t 0 = t.val ∧ win0_3.index t 1 = 0 := by decide +kernel
theorem xsz3 : ∀ t : Fin cfg0.N, win0_3.xsize (grid0.coords t) 0 = 512 ∧ win0_3.xsize (grid0.coords t) 1 = 512 := by decide +kernel

theorem emb3 (t : Fin cfg0.N) (a : Fin 512) (e : Fin 512) : (win0_3.rect t).emb (ix2 a e)
    = ix2 (⟨t.val * 512 + a.val, by have : t.val < 64 := t.isLt.trans_eq (by decide); omega⟩ : Fin 32768) e := by
  funext x
  apply Fin.ext
  refine (Pipeline.Window.rect_emb_val win0_3 t _ x).trans ?_
  match x with
  | ⟨0, _⟩ => show win0_3.index t 0 * 512 + a.val = t.val * 512 + a.val; rw [(idx3 t).1]
  | ⟨1, _⟩ => show win0_3.index t 1 * 512 + e.val = e.val; rw [(idx3 t).2]; omega

theorem flushed3 (t : Fin cfg0.N) : (dats m 0 c).flushed 3 t = (win0_3.blk t).view.read (Elt Ideal) (whole3 m c) := by
  show (cfg0.win 3).cut (grid0.coords t) ((dats m 0 c).after 3 t) = _
  rw [after0_3]
  refine funext fun (y : S512x512.Idx) => ?_
  show out0_3 (iblk m c 0 t) (iblk m c 1 t) (iblk m c 2 t) y = whole3 m c ((win0_3.rect t).emb y)
  obtain ⟨a, e, rfl⟩ : ∃ (a : Fin 512) (e : Fin 512), y = ix2 a e := ⟨y 0, y 1, eq_ix2 y⟩
  rw [emb3, out3_at _ _ _ (col (m ((c : Thread nD τ).loc main_arg2))) (blk2 m c t)]
  rw [uu_at]
  rfl

theorem mem3 (t : Fin cfg0.N) (i : S32768x512.Idx) (h : t.val * 512 ≤ (i 0 : Nat) ∧ (i 0 : Nat) < t.val * 512 + 512) :
    i ∈ ((cfg0.win 3).blk t).view.set := by
  show i ∈ ((View.whole main_v4_0).slice (win0_3.rect t)).set
  rw [View.set_slice_whole, Rect.mem_set_unit]
  have b0 : win0_3.index t 0 * win0_3.size 0 = t.val * 512 := by rw [(idx3 t).1]; rfl
  have b1 : win0_3.index t 1 * win0_3.size 1 = 0 := by rw [(idx3 t).2]; rfl
  have h1 : (i 1 : Nat) < 512 := (i 1).isLt
  intro a
  match a with
  | ⟨0, _⟩ => show win0_3.index t 0 * win0_3.size 0 ≤ (i 0 : Nat) ∧ (i 0 : Nat) < win0_3.index t 0 * win0_3.size 0 + win0_3.xsize (grid0.coords t) 0
              rw [b0, (xsz3 t).1]; exact h
  | ⟨1, _⟩ => show win0_3.index t 1 * win0_3.size 1 ≤ (i 1 : Nat) ∧ (i 1 : Nat) < win0_3.index t 1 * win0_3.size 1 + win0_3.xsize (grid0.coords t) 1
              rw [b1, (xsz3 t).2]; omega

theorem cover3 (i : S32768x512.Idx) : ∃ t : Fin cfg0.N, (cfg0.win 3).flush t = true ∧ i ∈ ((cfg0.win 3).blk t).view.set := by
  have h0 : (i 0 : Nat) < 32768 := (i 0).isLt
  have hN : cfg0.N = 64 := by decide
  have ht : (i 0 : Nat) / 512 < cfg0.N := by omega
  refine ⟨⟨_, ht⟩, flush0_3 _, mem3 _ i ?_⟩
  dsimp only
  omega

theorem final3 : (dats m 0 c).arrAt 3 cfg0.N = whole3 m c :=
  (dats m 0 c).arrAt_eq_of_cover 3 (whole3 m c) (fun t _ => flushed3 m c t) cover3

abbrev whole4 : (⟨S131072x128, .f32⟩ : BufTy).Contents (Elt Ideal) := keys (m ((c : Thread nD τ).loc main_arg0)) (m ((c : Thread nD τ).loc main_arg1)) (m ((c : Thread nD τ).loc main_arg2))

theorem idx4 : ∀ t : Fin cfg0.N, win0_4.index t 0 = t.val ∧ win0_4.index t 1 = 0 := by decide +kernel
theorem xsz4 : ∀ t : Fin cfg0.N, win0_4.xsize (grid0.coords t) 0 = 2048 ∧ win0_4.xsize (grid0.coords t) 1 = 128 := by decide +kernel

theorem emb4 (t : Fin cfg0.N) (a : Fin 2048) (e : Fin 128) : (win0_4.rect t).emb (ix2 a e)
    = ix2 (⟨t.val * 2048 + a.val, by have : t.val < 64 := t.isLt.trans_eq (by decide); omega⟩ : Fin 131072) e := by
  funext x
  apply Fin.ext
  refine (Pipeline.Window.rect_emb_val win0_4 t _ x).trans ?_
  match x with
  | ⟨0, _⟩ => show win0_4.index t 0 * 2048 + a.val = t.val * 2048 + a.val; rw [(idx4 t).1]
  | ⟨1, _⟩ => show win0_4.index t 1 * 128 + e.val = e.val; rw [(idx4 t).2]; omega

theorem flushed4 (t : Fin cfg0.N) : (dats m 0 c).flushed 4 t = (win0_4.blk t).view.read (Elt Ideal) (whole4 m c) := by
  show (cfg0.win 4).cut (grid0.coords t) ((dats m 0 c).after 4 t) = _
  rw [after0_4]
  refine funext fun (y : S2048x128.Idx) => ?_
  show out0_4 (iblk m c 0 t) (iblk m c 1 t) (iblk m c 2 t) y = whole4 m c ((win0_4.rect t).emb y)
  obtain ⟨a, e, rfl⟩ : ∃ (a : Fin 2048) (e : Fin 128), y = ix2 a e := ⟨y 0, y 1, eq_ix2 y⟩
  rw [emb4, out4_at _ _ _ (col (m ((c : Thread nD τ).loc main_arg2))) (blk2 m c t)]
  rw [uu_at]
  show u (m ((c : Thread nD τ).loc main_arg0)) (m ((c : Thread nD τ).loc main_arg1)) (m ((c : Thread nD τ).loc main_arg2)) _ _ = u (m ((c : Thread nD τ).loc main_arg0)) (m ((c : Thread nD τ).loc main_arg1)) (m ((c : Thread nD τ).loc main_arg2)) _ _
  refine congrArg₂ (u (m ((c : Thread nD τ).loc main_arg0)) (m ((c : Thread nD τ).loc main_arg1)) (m ((c : Thread nD τ).loc main_arg2))) (Fin.ext ?_) ?_
  · show t.val * 512 + a.val / 4 = (t.val * 2048 + a.val) / 4; omega
  · show 512 + (128 * (a.val % 4) + e.val) = 512 + (128 * ((t.val * 2048 + a.val) % 4) + e.val); omega

theorem mem4 (t : Fin cfg0.N) (i : S131072x128.Idx) (h : t.val * 2048 ≤ (i 0 : Nat) ∧ (i 0 : Nat) < t.val * 2048 + 2048) :
    i ∈ ((cfg0.win 4).blk t).view.set := by
  show i ∈ ((View.whole main_v4_1).slice (win0_4.rect t)).set
  rw [View.set_slice_whole, Rect.mem_set_unit]
  have b0 : win0_4.index t 0 * win0_4.size 0 = t.val * 2048 := by rw [(idx4 t).1]; rfl
  have b1 : win0_4.index t 1 * win0_4.size 1 = 0 := by rw [(idx4 t).2]; rfl
  have h1 : (i 1 : Nat) < 128 := (i 1).isLt
  intro a
  match a with
  | ⟨0, _⟩ => show win0_4.index t 0 * win0_4.size 0 ≤ (i 0 : Nat) ∧ (i 0 : Nat) < win0_4.index t 0 * win0_4.size 0 + win0_4.xsize (grid0.coords t) 0
              rw [b0, (xsz4 t).1]; exact h
  | ⟨1, _⟩ => show win0_4.index t 1 * win0_4.size 1 ≤ (i 1 : Nat) ∧ (i 1 : Nat) < win0_4.index t 1 * win0_4.size 1 + win0_4.xsize (grid0.coords t) 1
              rw [b1, (xsz4 t).2]; omega

theorem cover4 (i : S131072x128.Idx) : ∃ t : Fin cfg0.N, (cfg0.win 4).flush t = true ∧ i ∈ ((cfg0.win 4).blk t).view.set := by
  have h0 : (i 0 : Nat) < 131072 := (i 0).isLt
  have hN : cfg0.N = 64 := by decide
  have ht : (i 0 : Nat) / 2048 < cfg0.N := by omega
  refine ⟨⟨_, ht⟩, flush0_4 _, mem4 _ i ?_⟩
  dsimp only
  omega

theorem final4 : (dats m 0 c).arrAt 4 cfg0.N = whole4 m c :=
  (dats m 0 c).arrAt_eq_of_cover 4 (whole4 m c) (fun t _ => flushed4 m c t) cover4

abbrev whole5 : (⟨S131072x128, .f32⟩ : BufTy).Contents (Elt Ideal) := values (m ((c : Thread nD τ).loc main_arg0)) (m ((c : Thread nD τ).loc main_arg1)) (m ((c : Thread nD τ).loc main_arg2))

theorem idx5 : ∀ t : Fin cfg0.N, win0_5.index t 0 = t.val ∧ win0_5.index t 1 = 0 := by decide +kernel
theorem xsz5 : ∀ t : Fin cfg0.N, win0_5.xsize (grid0.coords t) 0 = 2048 ∧ win0_5.xsize (grid0.coords t) 1 = 128 := by decide +kernel

theorem emb5 (t : Fin cfg0.N) (a : Fin 2048) (e : Fin 128) : (win0_5.rect t).emb (ix2 a e)
    = ix2 (⟨t.val * 2048 + a.val, by have : t.val < 64 := t.isLt.trans_eq (by decide); omega⟩ : Fin 131072) e := by
  funext x
  apply Fin.ext
  refine (Pipeline.Window.rect_emb_val win0_5 t _ x).trans ?_
  match x with
  | ⟨0, _⟩ => show win0_5.index t 0 * 2048 + a.val = t.val * 2048 + a.val; rw [(idx5 t).1]
  | ⟨1, _⟩ => show win0_5.index t 1 * 128 + e.val = e.val; rw [(idx5 t).2]; omega

theorem flushed5 (t : Fin cfg0.N) : (dats m 0 c).flushed 5 t = (win0_5.blk t).view.read (Elt Ideal) (whole5 m c) := by
  show (cfg0.win 5).cut (grid0.coords t) ((dats m 0 c).after 5 t) = _
  rw [after0_5]
  refine funext fun (y : S2048x128.Idx) => ?_
  show out0_5 (iblk m c 0 t) (iblk m c 1 t) (iblk m c 2 t) y = whole5 m c ((win0_5.rect t).emb y)
  obtain ⟨a, e, rfl⟩ : ∃ (a : Fin 2048) (e : Fin 128), y = ix2 a e := ⟨y 0, y 1, eq_ix2 y⟩
  rw [emb5, out5_at _ _ _ (col (m ((c : Thread nD τ).loc main_arg2))) (blk2 m c t)]
  rw [uu_at]
  show u (m ((c : Thread nD τ).loc main_arg0)) (m ((c : Thread nD τ).loc main_arg1)) (m ((c : Thread nD τ).loc main_arg2)) _ _ = u (m ((c : Thread nD τ).loc main_arg0)) (m ((c : Thread nD τ).loc main_arg1)) (m ((c : Thread nD τ).loc main_arg2)) _ _
  refine congrArg₂ (u (m ((c : Thread nD τ).loc main_arg0)) (m ((c : Thread nD τ).loc main_arg1)) (m ((c : Thread nD τ).loc main_arg2))) (Fin.ext ?_) ?_
  · show t.val * 512 + a.val / 4 = (t.val * 2048 + a.val) / 4; omega
  · show 1024 + (128 * (a.val % 4) + e.val) = 1024 + (128 * ((t.val * 2048 + a.val) % 4) + e.val); omega

theorem mem5 (t : Fin cfg0.N) (i : S131072x128.Idx) (h : t.val * 2048 ≤ (i 0 : Nat) ∧ (i 0 : Nat) < t.val * 2048 + 2048) :
    i ∈ ((cfg0.win 5).blk t).view.set := by
  show i ∈ ((View.whole main_v4_2).slice (win0_5.rect t)).set
  rw [View.set_slice_whole, Rect.mem_set_unit]
  have b0 : win0_5.index t 0 * win0_5.size 0 = t.val * 2048 := by rw [(idx5 t).1]; rfl
  have b1 : win0_5.index t 1 * win0_5.size 1 = 0 := by rw [(idx5 t).2]; rfl
  have h1 : (i 1 : Nat) < 128 := (i 1).isLt
  intro a
  match a with
  | ⟨0, _⟩ => show win0_5.index t 0 * win0_5.size 0 ≤ (i 0 : Nat) ∧ (i 0 : Nat) < win0_5.index t 0 * win0_5.size 0 + win0_5.xsize (grid0.coords t) 0
              rw [b0, (xsz5 t).1]; exact h
  | ⟨1, _⟩ => show win0_5.index t 1 * win0_5.size 1 ≤ (i 1 : Nat) ∧ (i 1 : Nat) < win0_5.index t 1 * win0_5.size 1 + win0_5.xsize (grid0.coords t) 1
              rw [b1, (xsz5 t).2]; omega

theorem cover5 (i : S131072x128.Idx) : ∃ t : Fin cfg0.N, (cfg0.win 5).flush t = true ∧ i ∈ ((cfg0.win 5).blk t).view.set := by
  have h0 : (i 0 : Nat) < 131072 := (i 0).isLt
  have hN : cfg0.N = 64 := by decide
  have ht : (i 0 : Nat) / 2048 < cfg0.N := by omega
  refine ⟨⟨_, ht⟩, flush0_5 _, mem5 _ i ?_⟩
  dsimp only
  omega

theorem final5 : (dats m 0 c).arrAt 5 cfg0.N = whole5 m c :=
  (dats m 0 c).arrAt_eq_of_cover 5 (whole5 m c) (fun t _ => flushed5 m c t) cover5

abbrev whole6 : (⟨S32768x512, .bf16⟩ : BufTy).Contents (Elt Ideal) := keyRows (m ((c : Thread nD τ).loc main_arg0)) (m ((c : Thread nD τ).loc main_arg1)) (m ((c : Thread nD τ).loc main_arg2))

theorem idx6 : ∀ t : Fin cfg0.N, win0_6.index t 0 = t.val ∧ win0_6.index t 1 = 0 := by decide +kernel
theorem xsz6 : ∀ t : Fin cfg0.N, win0_6.xsize (grid0.coords t) 0 = 512 ∧ win0_6.xsize (grid0.coords t) 1 = 512 := by decide +kernel

theorem emb6 (t : Fin cfg0.N) (a : Fin 512) (e : Fin 512) : (win0_6.rect t).emb (ix2 a e)
    = ix2 (⟨t.val * 512 + a.val, by have : t.val < 64 := t.isLt.trans_eq (by decide); omega⟩ : Fin 32768) e := by
  funext x
  apply Fin.ext
  refine (Pipeline.Window.rect_emb_val win0_6 t _ x).trans ?_
  match x with
  | ⟨0, _⟩ => show win0_6.index t 0 * 512 + a.val = t.val * 512 + a.val; rw [(idx6 t).1]
  | ⟨1, _⟩ => show win0_6.index t 1 * 512 + e.val = e.val; rw [(idx6 t).2]; omega

theorem flushed6 (t : Fin cfg0.N) : (dats m 0 c).flushed 6 t = (win0_6.blk t).view.read (Elt Ideal) (whole6 m c) := by
  show (cfg0.win 6).cut (grid0.coords t) ((dats m 0 c).after 6 t) = _
  rw [after0_6]
  refine funext fun (y : S512x512.Idx) => ?_
  show out0_6 (iblk m c 0 t) (iblk m c 1 t) (iblk m c 2 t) y = whole6 m c ((win0_6.rect t).emb y)
  obtain ⟨a, e, rfl⟩ : ∃ (a : Fin 512) (e : Fin 512), y = ix2 a e := ⟨y 0, y 1, eq_ix2 y⟩
  rw [emb6, out6_at _ _ _ (col (m ((c : Thread nD τ).loc main_arg2))) (blk2 m c t)]
  rw [uu_at]
  rfl

theorem mem6 (t : Fin cfg0.N) (i : S32768x512.Idx) (h : t.val * 512 ≤ (i 0 : Nat) ∧ (i 0 : Nat) < t.val * 512 + 512) :
    i ∈ ((cfg0.win 6).blk t).view.set := by
  show i ∈ ((View.whole main_v4_3).slice (win0_6.rect t)).set
  rw [View.set_slice_whole, Rect.mem_set_unit]
  have b0 : win0_6.index t 0 * win0_6.size 0 = t.val * 512 := by rw [(idx6 t).1]; rfl
  have b1 : win0_6.index t 1 * win0_6.size 1 = 0 := by rw [(idx6 t).2]; rfl
  have h1 : (i 1 : Nat) < 512 := (i 1).isLt
  intro a
  match a with
  | ⟨0, _⟩ => show win0_6.index t 0 * win0_6.size 0 ≤ (i 0 : Nat) ∧ (i 0 : Nat) < win0_6.index t 0 * win0_6.size 0 + win0_6.xsize (grid0.coords t) 0
              rw [b0, (xsz6 t).1]; exact h
  | ⟨1, _⟩ => show win0_6.index t 1 * win0_6.size 1 ≤ (i 1 : Nat) ∧ (i 1 : Nat) < win0_6.index t 1 * win0_6.size 1 + win0_6.xsize (grid0.coords t) 1
              rw [b1, (xsz6 t).2]; omega

theorem cover6 (i : S32768x512.Idx) : ∃ t : Fin cfg0.N, (cfg0.win 6).flush t = true ∧ i ∈ ((cfg0.win 6).blk t).view.set := by
  have h0 : (i 0 : Nat) < 32768 := (i 0).isLt
  have hN : cfg0.N = 64 := by decide
  have ht : (i 0 : Nat) / 512 < cfg0.N := by omega
  refine ⟨⟨_, ht⟩, flush0_6 _, mem6 _ i ?_⟩
  dsimp only
  omega

theorem final6 : (dats m 0 c).arrAt 6 cfg0.N = whole6 m c :=
  (dats m 0 c).arrAt_eq_of_cover 6 (whole6 m c) (fun t _ => flushed6 m c t) cover6

abbrev whole7 : (⟨S32768x512, .bf16⟩ : BufTy).Contents (Elt Ideal) := valueCols (m ((c : Thread nD τ).loc main_arg0)) (m ((c : Thread nD τ).loc main_arg1)) (m ((c : Thread nD τ).loc main_arg2))

theorem idx7 : ∀ t : Fin cfg0.N, win0_7.index t 0 = t.val ∧ win0_7.index t 1 = 0 := by decide +kernel
theorem xsz7 : ∀ t : Fin cfg0.N, win0_7.xsize (grid0.coords t) 0 = 512 ∧ win0_7.xsize (grid0.coords t) 1 = 512 := by decide +kernel

theorem emb7 (t : Fin cfg0.N) (a : Fin 512) (e : Fin 512) : (win0_7.rect t).emb (ix2 a e)
    = ix2 (⟨t.val * 512 + a.val, by have : t.val < 64 := t.isLt.trans_eq (by decide); omega⟩ : Fin 32768) e := by
  funext x
  apply Fin.ext
  refine (Pipeline.Window.rect_emb_val win0_7 t _ x).trans ?_
  match x with
  | ⟨0, _⟩ => show win0_7.index t 0 * 512 + a.val = t.val * 512 + a.val; rw [(idx7 t).1]
  | ⟨1, _⟩ => show win0_7.index t 1 * 512 + e.val = e.val; rw [(idx7 t).2]; omega

theorem flushed7 (t : Fin cfg0.N) : (dats m 0 c).flushed 7 t = (win0_7.blk t).view.read (Elt Ideal) (whole7 m c) := by
  show (cfg0.win 7).cut (grid0.coords t) ((dats m 0 c).after 7 t) = _
  rw [after0_7]
  refine funext fun (y : S512x512.Idx) => ?_
  show out0_7 (iblk m c 0 t) (iblk m c 1 t) (iblk m c 2 t) y = whole7 m c ((win0_7.rect t).emb y)
  obtain ⟨a, e, rfl⟩ : ∃ (a : Fin 512) (e : Fin 512), y = ix2 a e := ⟨y 0, y 1, eq_ix2 y⟩
  rw [emb7, out7_at _ _ _ (col (m ((c : Thread nD τ).loc main_arg2))) (blk2 m c t)]
  rw [uu_at]
  show u (m ((c : Thread nD τ).loc main_arg0)) (m ((c : Thread nD τ).loc main_arg1)) (m ((c : Thread nD τ).loc main_arg2)) _ _ = u (m ((c : Thread nD τ).loc main_arg0)) (m ((c : Thread nD τ).loc main_arg1)) (m ((c : Thread nD τ).loc main_arg2)) _ _
  refine congrArg₂ (u (m ((c : Thread nD τ).loc main_arg0)) (m ((c : Thread nD τ).loc main_arg1)) (m ((c : Thread nD τ).loc main_arg2))) (Fin.ext ?_) ?_
  · show t.val * 512 + e.val = (t.val * 512 + a.val) / 512 * 512 + e.val; omega
  · show 1024 + a.val = 1024 + (t.val * 512 + a.val) % 512; omega

theorem mem7 (t : Fin cfg0.N) (i : S32768x512.Idx) (h : t.val * 512 ≤ (i 0 : Nat) ∧ (i 0 : Nat) < t.val * 512 + 512) :
    i ∈ ((cfg0.win 7).blk t).view.set := by
  show i ∈ ((View.whole main_v4_4).slice (win0_7.rect t)).set
  rw [View.set_slice_whole, Rect.mem_set_unit]
  have b0 : win0_7.index t 0 * win0_7.size 0 = t.val * 512 := by rw [(idx7 t).1]; rfl
  have b1 : win0_7.index t 1 * win0_7.size 1 = 0 := by rw [(idx7 t).2]; rfl
  have h1 : (i 1 : Nat) < 512 := (i 1).isLt
  intro a
  match a with
  | ⟨0, _⟩ => show win0_7.index t 0 * win0_7.size 0 ≤ (i 0 : Nat) ∧ (i 0 : Nat) < win0_7.index t 0 * win0_7.size 0 + win0_7.xsize (grid0.coords t) 0
              rw [b0, (xsz7 t).1]; exact h
  | ⟨1, _⟩ => show win0_7.index t 1 * win0_7.size 1 ≤ (i 1 : Nat) ∧ (i 1 : Nat) < win0_7.index t 1 * win0_7.size 1 + win0_7.xsize (grid0.coords t) 1
              rw [b1, (xsz7 t).2]; omega

theorem cover7 (i : S32768x512.Idx) : ∃ t : Fin cfg0.N, (cfg0.win 7).flush t = true ∧ i ∈ ((cfg0.win 7).blk t).view.set := by
  have h0 : (i 0 : Nat) < 32768 := (i 0).isLt
  have hN : cfg0.N = 64 := by decide
  have ht : (i 0 : Nat) / 512 < cfg0.N := by omega
  refine ⟨⟨_, ht⟩, flush0_7 _, mem7 _ i ?_⟩
  dsimp only
  omega

theorem final7 : (dats m 0 c).arrAt 7 cfg0.N = whole7 m c :=
  (dats m 0 c).arrAt_eq_of_cover 7 (whole7 m c) (fun t _ => flushed7 m c t) cover7

abbrev whole8 : (⟨S32768x512, .bf16⟩ : BufTy).Contents (Elt Ideal) := gates (m ((c : Thread nD τ).loc main_arg0)) (m ((c : Thread nD τ).loc main_arg1)) (m ((c : Thread nD τ).loc main_arg2))

theorem idx8 : ∀ t : Fin cfg0.N, win0_8.index t 0 = t.val ∧ win0_8.index t 1 = 0 := by decide +kernel
theorem xsz8 : ∀ t : Fin cfg0.N, win0_8.xsize (grid0.coords t) 0 = 512 ∧ win0_8.xsize (grid0.coords t) 1 = 512 := by decide +kernel

theorem emb8 (t : Fin cfg0.N) (a : Fin 512) (e : Fin 512) : (win0_8.rect t).emb (ix2 a e)
    = ix2 (⟨t.val * 512 + a.val, by have : t.val < 64 := t.isLt.trans_eq (by decide); omega⟩ : Fin 32768) e := by
  funext x
  apply Fin.ext
  refine (Pipeline.Window.rect_emb_val win0_8 t _ x).trans ?_
  match x with
  | ⟨0, _⟩ => show win0_8.index t 0 * 512 + a.val = t.val * 512 + a.val; rw [(idx8 t).1]
  | ⟨1, _⟩ => show win0_8.index t 1 * 512 + e.val = e.val; rw [(idx8 t).2]; omega

theorem flushed8 (t : Fin cfg0.N) : (dats m 0 c).flushed 8 t = (win0_8.blk t).view.read (Elt Ideal) (whole8 m c) := by
  show (cfg0.win 8).cut (grid0.coords t) ((dats m 0 c).after 8 t) = _
  rw [after0_8]
  refine funext fun (y : S512x512.Idx) => ?_
  show out0_8 (iblk m c 0 t) (iblk m c 1 t) (iblk m c 2 t) y = whole8 m c ((win0_8.rect t).emb y)
  obtain ⟨a, e, rfl⟩ : ∃ (a : Fin 512) (e : Fin 512), y = ix2 a e := ⟨y 0, y 1, eq_ix2 y⟩
  rw [emb8, out8_at _ _ _ (col (m ((c : Thread nD τ).loc main_arg2))) (blk2 m c t)]
  rw [uu_at]
  rfl

theorem mem8 (t : Fin cfg0.N) (i : S32768x512.Idx) (h : t.val * 512 ≤ (i 0 : Nat) ∧ (i 0 : Nat) < t.val * 512 + 512) :
    i ∈ ((cfg0.win 8).blk t).view.set := by
  show i ∈ ((View.whole main_v4_5).slice (win0_8.rect t)).set
  rw [View.set_slice_whole, Rect.mem_set_unit]
  have b0 : win0_8.index t 0 * win0_8.size 0 = t.val * 512 := by rw [(idx8 t).1]; rfl
  have b1 : win0_8.index t 1 * win0_8.size 1 = 0 := by rw [(idx8 t).2]; rfl
  have h1 : (i 1 : Nat) < 512 := (i 1).isLt
  intro a
  match a with
  | ⟨0, _⟩ => show win0_8.index t 0 * win0_8.size 0 ≤ (i 0 : Nat) ∧ (i 0 : Nat) < win0_8.index t 0 * win0_8.size 0 + win0_8.xsize (grid0.coords t) 0
              rw [b0, (xsz8 t).1]; exact h
  | ⟨1, _⟩ => show win0_8.index t 1 * win0_8.size 1 ≤ (i 1 : Nat) ∧ (i 1 : Nat) < win0_8.index t 1 * win0_8.size 1 + win0_8.xsize (grid0.coords t) 1
              rw [b1, (xsz8 t).2]; omega

theorem cover8 (i : S32768x512.Idx) : ∃ t : Fin cfg0.N, (cfg0.win 8).flush t = true ∧ i ∈ ((cfg0.win 8).blk t).view.set := by
  have h0 : (i 0 : Nat) < 32768 := (i 0).isLt
  have hN : cfg0.N = 64 := by decide
  have ht : (i 0 : Nat) / 512 < cfg0.N := by omega
  refine ⟨⟨_, ht⟩, flush0_8 _, mem8 _ i ?_⟩
  dsimp only
  omega

theorem final8 : (dats m 0 c).arrAt 8 cfg0.N = whole8 m c :=
  (dats m 0 c).arrAt_eq_of_cover 8 (whole8 m c) (fun t _ => flushed8 m c t) cover8

abbrev whole9 : (⟨S32768x1024, .f32⟩ : BufTy).Contents (Elt Ideal) := branch (m ((c : Thread nD τ).loc main_arg0)) (m ((c : Thread nD τ).loc main_arg1)) (m ((c : Thread nD τ).loc main_arg2))

theorem idx9 : ∀ t : Fin cfg0.N, win0_9.index t 0 = t.val ∧ win0_9.index t 1 = 0 := by decide +kernel
theorem xsz9 : ∀ t : Fin cfg0.N, win0_9.xsize (grid0.coords t) 0 = 512 ∧ win0_9.xsize (grid0.coords t) 1 = 1024 := by decide +kernel

theorem emb9 (t : Fin cfg0.N) (a : Fin 512) (e : Fin 1024) : (win0_9.rect t).emb (ix2 a e)
    = ix2 (⟨t.val * 512 + a.val, by have : t.val < 64 := t.isLt.trans_eq (by decide); omega⟩ : Fin 32768) e := by
  funext x
  apply Fin.ext
  refine (Pipeline.Window.rect_emb_val win0_9 t _ x).trans ?_
  match x with
  | ⟨0, _⟩ => show win0_9.index t 0 * 512 + a.val = t.val * 512 + a.val; rw [(idx9 t).1]
  | ⟨1, _⟩ => show win0_9.index t 1 * 1024 + e.val = e.val; rw [(idx9 t).2]; omega

theorem flushed9 (t : Fin cfg0.N) : (dats m 0 c).flushed 9 t = (win0_9.blk t).view.read (Elt Ideal) (whole9 m c) := by
  show (cfg0.win 9).cut (grid0.coords t) ((dats m 0 c).after 9 t) = _
  rw [after0_9]
  refine funext fun (y : S512x1024.Idx) => ?_
  show out0_9 (iblk m c 0 t) (iblk m c 1 t) (iblk m c 2 t) y = whole9 m c ((win0_9.rect t).emb y)
  obtain ⟨a, e, rfl⟩ : ∃ (a : Fin 512) (e : Fin 1024), y = ix2 a e := ⟨y 0, y 1, eq_ix2 y⟩
  rw [emb9, out9_at _ _ _ (col (m ((c : Thread nD τ).loc main_arg2))) (blk2 m c t)]
  rw [uu_at]
  rfl

theorem mem9 (t : Fin cfg0.N) (i : S32768x1024.Idx) (h : t.val * 512 ≤ (i 0 : Nat) ∧ (i 0 : Nat) < t.val * 512 + 512) :
    i ∈ ((cfg0.win 9).blk t).view.set := by
  show i ∈ ((View.whole main_v4_6).slice (win0_9.rect t)).set
  rw [View.set_slice_whole, Rect.mem_set_unit]
  have b0 : win0_9.index t 0 * win0_9.size 0 = t.val * 512 := by rw [(idx9 t).1]; rfl
  have b1 : win0_9.index t 1 * win0_9.size 1 = 0 := by rw [(idx9 t).2]; rfl
  have h1 : (i 1 : Nat) < 1024 := (i 1).isLt
  intro a
  match a with
  | ⟨0, _⟩ => show win0_9.index t 0 * win0_9.size 0 ≤ (i 0 : Nat) ∧ (i 0 : Nat) < win0_9.index t 0 * win0_9.size 0 + win0_9.xsize (grid0.coords t) 0
              rw [b0, (xsz9 t).1]; exact h
  | ⟨1, _⟩ => show win0_9.index t 1 * win0_9.size 1 ≤ (i 1 : Nat) ∧ (i 1 : Nat) < win0_9.index t 1 * win0_9.size 1 + win0_9.xsize (grid0.coords t) 1
              rw [b1, (xsz9 t).2]; omega

theorem cover9 (i : S32768x1024.Idx) : ∃ t : Fin cfg0.N, (cfg0.win 9).flush t = true ∧ i ∈ ((cfg0.win 9).blk t).view.set := by
  have h0 : (i 0 : Nat) < 32768 := (i 0).isLt
  have hN : cfg0.N = 64 := by decide
  have ht : (i 0 : Nat) / 512 < cfg0.N := by omega
  refine ⟨⟨_, ht⟩, flush0_9 _, mem9 _ i ?_⟩
  dsimp only
  omega

theorem final9 : (dats m 0 c).arrAt 9 cfg0.N = whole9 m c :=
  (dats m 0 c).arrAt_eq_of_cover 9 (whole9 m c) (fun t _ => flushed9 m c t) cover9

abbrev whole10 : (⟨S32768x128, .f32⟩ : BufTy).Contents (Elt Ideal) := steps (m ((c : Thread nD τ).loc main_arg0)) (m ((c : Thread nD τ).loc main_arg1)) (m ((c : Thread nD τ).loc main_arg2))

theorem idx10 : ∀ t : Fin cfg0.N, win0_10.index t 0 = t.val ∧ win0_10.index t 1 = 0 := by decide +kernel
theorem xsz10 : ∀ t : Fin cfg0.N, win0_10.xsize (grid0.coords t) 0 = 512 ∧ win0_10.xsize (grid0.coords t) 1 = 128 := by decide +kernel

theorem emb10 (t : Fin cfg0.N) (a : Fin 512) (e : Fin 128) : (win0_10.rect t).emb (ix2 a e)
    = ix2 (⟨t.val * 512 + a.val, by have : t.val < 64 := t.isLt.trans_eq (by decide); omega⟩ : Fin 32768) e := by
  funext x
  apply Fin.ext
  refine (Pipeline.Window.rect_emb_val win0_10 t _ x).trans ?_
  match x with
  | ⟨0, _⟩ => show win0_10.index t 0 * 512 + a.val = t.val * 512 + a.val; rw [(idx10 t).1]
  | ⟨1, _⟩ => show win0_10.index t 1 * 128 + e.val = e.val; rw [(idx10 t).2]; omega

theorem flushed10 (t : Fin cfg0.N) : (dats m 0 c).flushed 10 t = (win0_10.blk t).view.read (Elt Ideal) (whole10 m c) := by
  show (cfg0.win 10).cut (grid0.coords t) ((dats m 0 c).after 10 t) = _
  rw [after0_10]
  refine funext fun (y : S512x128.Idx) => ?_
  show out0_10 (iblk m c 0 t) (iblk m c 1 t) (iblk m c 2 t) y = whole10 m c ((win0_10.rect t).emb y)
  obtain ⟨a, e, rfl⟩ : ∃ (a : Fin 512) (e : Fin 128), y = ix2 a e := ⟨y 0, y 1, eq_ix2 y⟩
  rw [emb10, out10_at _ _ _ (col (m ((c : Thread nD τ).loc main_arg2))) (blk2 m c t)]
  rw [uu_at]
  rfl

theorem mem10 (t : Fin cfg0.N) (i : S32768x128.Idx) (h : t.val * 512 ≤ (i 0 : Nat) ∧ (i 0 : Nat) < t.val * 512 + 512) :
    i ∈ ((cfg0.win 10).blk t).view.set := by
  show i ∈ ((View.whole main_v4_7).slice (win0_10.rect t)).set
  rw [View.set_slice_whole, Rect.mem_set_unit]
  have b0 : win0_10.index t 0 * win0_10.size 0 = t.val * 512 := by rw [(idx10 t).1]; rfl
  have b1 : win0_10.index t 1 * win0_10.size 1 = 0 := by rw [(idx10 t).2]; rfl
  have h1 : (i 1 : Nat) < 128 := (i 1).isLt
  intro a
  match a with
  | ⟨0, _⟩ => show win0_10.index t 0 * win0_10.size 0 ≤ (i 0 : Nat) ∧ (i 0 : Nat) < win0_10.index t 0 * win0_10.size 0 + win0_10.xsize (grid0.coords t) 0
              rw [b0, (xsz10 t).1]; exact h
  | ⟨1, _⟩ => show win0_10.index t 1 * win0_10.size 1 ≤ (i 1 : Nat) ∧ (i 1 : Nat) < win0_10.index t 1 * win0_10.size 1 + win0_10.xsize (grid0.coords t) 1
              rw [b1, (xsz10 t).2]; omega

theorem cover10 (i : S32768x128.Idx) : ∃ t : Fin cfg0.N, (cfg0.win 10).flush t = true ∧ i ∈ ((cfg0.win 10).blk t).view.set := by
  have h0 : (i 0 : Nat) < 32768 := (i 0).isLt
  have hN : cfg0.N = 64 := by decide
  have ht : (i 0 : Nat) / 512 < cfg0.N := by omega
  refine ⟨⟨_, ht⟩, flush0_10 _, mem10 _ i ?_⟩
  dsimp only
  omega

theorem final10 : (dats m 0 c).arrAt 10 cfg0.N = whole10 m c :=
  (dats m 0 c).arrAt_eq_of_cover 10 (whole10 m c) (fun t _ => flushed10 m c t) cover10

end Cert.Kernel3Ideal.In

end
-- ==== Proof.InRef.lean ====
/-
  The reference's in-projection, element by element over the extended reals: each of its eight results is the array of the columns the
  kernel lays out.
-/
module

public import proofs.«01_k».proof.Proof.InMath
public import proofs.«01_k».proof.Proof.Gen.Reference3Ideal.Read
public import Idealize.ShloMosaic.Lib.ValueLayout
public import Idealize.ShloMosaic.Lib.IdealHost

@[expose] public section

set_option maxRecDepth 16384

noncomputable section

namespace Cert.Reference3Ideal.In

open Cert.Reference3Ideal Cert.Reference3Ideal.Gen Cert.Reference3Ideal.Read Cert.In Cert.Ffn
open Idealize.ShloMosaic Idealize.ShloMosaic.TcCoe Idealize.ShloMosaic.ValueIdx

variable (x0 : (⟨S4x8192x1024, .f32⟩ : BufTy).Contents (Elt Ideal)) (x1 : (⟨S1x1024, .f32⟩ : BufTy).Contents (Elt Ideal))
  (x2 : (⟨S1x1024x3080, .f32⟩ : BufTy).Contents (Elt Ideal))

theorem v14_at (a : Fin 1024) (d : Fin 3080) : val_main_v14 (F := Ideal) x2 (ix2 a d) = col x2 a d.val := by
  unfold col
  rw [dif_pos d.isLt, val_main_v14_apply]
  refine congrArg x2 (funext fun y => Fin.ext ?_)
  match y with
  | ⟨0, _⟩ => rfl
  | ⟨1, _⟩ => show (a.val * 3080 + d.val) / 3080 % 1024 = a.val; omega
  | ⟨2, _⟩ => show (a.val * 3080 + d.val) % 3080 = d.val; omega

/-- The normed rows. -/
theorem v13_at (b : Fin 4) (s : Fin 8192) (j : Fin 1024) :
    val_main_v13 (F := Ideal) x0 x1 (ix3 b s j) = rms (fun j => x0 (ix3 b s j)) (fun j => x1 (ix2 0 j)) j := by
  rw [val_main_v13_apply, val_main_v10_apply, val_main_v9_apply, val_main_v8_apply, val_main_v7_apply, val_main_v5_apply, val_main_v3_apply, val_main_v2_apply,
    val_main_v12_apply, val_main_v11_apply, val_main_v0_apply]
  have e1 : ∀ k, val_main_v1 (F := Ideal) x0 (idx_main_v2 (idx_main_v3 (idx_main_v9 (ix3 b s j))) k) = (x0 (ix3 b s k) : EReal) * x0 (ix3 b s k) := fun k => by
    have e : idx_main_v2 (idx_main_v3 (idx_main_v9 (ix3 b s j))) k = ix3 b s k := by
      funext a; match a with | ⟨0, _⟩ => rfl | ⟨1, _⟩ => rfl | ⟨2, _⟩ => rfl
    rw [e, val_main_v1_apply]
    rfl
  have e2 : idx_main_v0 (idx_main_v11 (idx_main_v12 (ix3 b s j))) = ix2 0 j := by
    funext a
    apply Fin.ext
    match a with
    | ⟨0, _⟩ => rfl
    | ⟨1, _⟩ => first | rfl | (show j.val % 1024 = j.val; omega)
  simp only [e1]
  rw [e2]
  show (x0 (ix3 b s j) : EReal) * Ideal.rsqrt (Ideal.div (Ideal.ofBits .f32 0x00000000#32 + _) dim + eps) * x1 (ix2 0 j) = _
  rw [Ideal.ofBits_zero_f32, zero_add]
  rfl

/-- A token's row against a column. -/
theorem v15_at (i : S4x8192x3080.Idx) (n : Fin 32768) (c : ℕ) (hn : (i 0 : ℕ) * 8192 + (i 1 : ℕ) = n.val) (hc : (i 2 : ℕ) = c) :
    val_main_v15 (F := Ideal) x0 x1 x2 i = u x0 x1 x2 n c := by
  subst hc
  have b1 : (i 1 : ℕ) < 8192 := (i 1).isLt
  rw [val_main_v15_apply]
  unfold u
  refine Finset.sum_congr rfl fun k _ => congrArg₂ (fun a b : EReal => a * b) ?_ ?_
  · have e : lidx_main_v15 i k = ix3 (⟨n.val / 8192, by omega⟩ : Fin 4) (⟨n.val % 8192, by omega⟩ : Fin 8192) k := by
      funext a
      apply Fin.ext
      match a with
      | ⟨0, _⟩ => show (i 0 : ℕ) = n.val / 8192; omega
      | ⟨1, _⟩ => show (i 1 : ℕ) = n.val % 8192; omega
      | ⟨2, _⟩ => rfl
    rw [e]
    exact v13_at x0 x1 _ _ k
  · have e : ridx_main_v15 i k = ix2 k (i 2) := by
      funext a; match a with | ⟨0, _⟩ => rfl | ⟨1, _⟩ => rfl
    rw [e]
    exact v14_at x2 k (i 2)

theorem v27_eq : val_main_v27 (F := Ideal) x0 x1 x2 = queries x0 x1 x2 := funext fun i => by
  have h0 : (i 0 : ℕ) < 32768 := (i 0).isLt
  have h1 : (i 1 : ℕ) < 512 := (i 1).isLt
  rw [val_main_v27_apply, val_main_v26_apply, val_main_v25_apply, val_main_v24_apply, val_main_cst_2_apply, val_main_v16_apply]
  refine congrArg (fun z : EReal => z * scale) (v15_at x0 x1 x2 _ (i 0) (0 + (i 1 : ℕ)) ?_ ?_)
  · show ((i 0 : ℕ) * 512 + (i 1 : ℕ)) / 4194304 * 8192 + ((i 0 : ℕ) * 512 + (i 1 : ℕ)) / 512 % 8192 = (i 0 : ℕ); omega
  · show ((i 0 : ℕ) * 512 + (i 1 : ℕ)) % 512 = 0 + (i 1 : ℕ); omega

theorem v28_eq : val_main_v28 (F := Ideal) x0 x1 x2 = keys x0 x1 x2 := funext fun i => by
  have h0 : (i 0 : ℕ) < 131072 := (i 0).isLt
  have h1 : (i 1 : ℕ) < 128 := (i 1).isLt
  rw [val_main_v28_apply, val_main_v17_apply]
  refine v15_at x0 x1 x2 _ (tok i) (512 + hcol i) ?_ ?_
  · show ((i 0 : ℕ) * 128 + (i 1 : ℕ)) / 4194304 * 8192 + ((i 0 : ℕ) * 128 + (i 1 : ℕ)) / 512 % 8192 = (i 0 : ℕ) / 4; omega
  · show 512 + ((i 0 : ℕ) * 128 + (i 1 : ℕ)) % 512 = 512 + (128 * ((i 0 : ℕ) % 4) + (i 1 : ℕ)); omega

theorem v29_eq : val_main_v29 (F := Ideal) x0 x1 x2 = values x0 x1 x2 := funext fun i => by
  have h0 : (i 0 : ℕ) < 131072 := (i 0).isLt
  have h1 : (i 1 : ℕ) < 128 := (i 1).isLt
  rw [val_main_v29_apply, val_main_v18_apply]
  refine v15_at x0 x1 x2 _ (tok i) (1024 + hcol i) ?_ ?_
  · show ((i 0 : ℕ) * 128 + (i 1 : ℕ)) / 4194304 * 8192 + ((i 0 : ℕ) * 128 + (i 1 : ℕ)) / 512 % 8192 = (i 0 : ℕ) / 4; omega
  · show 1024 + ((i 0 : ℕ) * 128 + (i 1 : ℕ)) % 512 = 1024 + (128 * ((i 0 : ℕ) % 4) + (i 1 : ℕ)); omega

theorem v31_eq : val_main_v31 (F := Ideal) x0 x1 x2 = keyRows x0 x1 x2 := funext fun i => by
  have h0 : (i 0 : ℕ) < 32768 := (i 0).isLt
  have h1 : (i 1 : ℕ) < 512 := (i 1).isLt
  rw [val_main_v31_apply, val_main_v30_apply, val_main_v17_apply]
  refine v15_at x0 x1 x2 _ (i 0) (512 + (i 1 : ℕ)) ?_ ?_
  · show ((i 0 : ℕ) * 512 + (i 1 : ℕ)) / 4194304 * 8192 + ((i 0 : ℕ) * 512 + (i 1 : ℕ)) / 512 % 8192 = (i 0 : ℕ); omega
  · show 512 + ((i 0 : ℕ) * 512 + (i 1 : ℕ)) % 512 = 512 + (i 1 : ℕ); omega

theorem v35_eq : val_main_v35 (F := Ideal) x0 x1 x2 = gates x0 x1 x2 := funext fun i => by
  have h0 : (i 0 : ℕ) < 32768 := (i 0).isLt
  have h1 : (i 1 : ℕ) < 512 := (i 1).isLt
  rw [val_main_v35_apply, val_main_v34_apply, val_main_v19_apply]
  refine v15_at x0 x1 x2 _ (i 0) (1536 + (i 1 : ℕ)) ?_ ?_
  · show ((i 0 : ℕ) * 512 + (i 1 : ℕ)) / 4194304 * 8192 + ((i 0 : ℕ) * 512 + (i 1 : ℕ)) / 512 % 8192 = (i 0 : ℕ); omega
  · show 1536 + ((i 0 : ℕ) * 512 + (i 1 : ℕ)) % 512 = 1536 + (i 1 : ℕ); omega

theorem v36_eq : val_main_v36 (F := Ideal) x0 x1 x2 = branch x0 x1 x2 := funext fun i => by
  have h0 : (i 0 : ℕ) < 32768 := (i 0).isLt
  have h1 : (i 1 : ℕ) < 1024 := (i 1).isLt
  rw [val_main_v36_apply, val_main_v20_apply]
  refine v15_at x0 x1 x2 _ (i 0) (2048 + (i 1 : ℕ)) ?_ ?_
  · show ((i 0 : ℕ) * 1024 + (i 1 : ℕ)) / 8388608 * 8192 + ((i 0 : ℕ) * 1024 + (i 1 : ℕ)) / 1024 % 8192 = (i 0 : ℕ); omega
  · show 2048 + ((i 0 : ℕ) * 1024 + (i 1 : ℕ)) % 1024 = 2048 + (i 1 : ℕ); omega

theorem v22_at (a : Fin 64) (b d : Fin 512) (n : Fin 32768) (h : n.val = a.val * 512 + b.val) :
    val_main_v22 (F := Ideal) x0 x1 x2 (ix3 a b d) = u x0 x1 x2 n (1024 + d.val) := by
  rw [val_main_v22_apply, val_main_v18_apply]
  refine v15_at x0 x1 x2 _ n (1024 + d.val) ?_ ?_
  · show ((a.val * 512 + b.val) * 512 + d.val) / 4194304 * 8192 + ((a.val * 512 + b.val) * 512 + d.val) / 512 % 8192 = n.val; omega
  · show 1024 + ((a.val * 512 + b.val) * 512 + d.val) % 512 = 1024 + d.val; omega

theorem v33_eq : val_main_v33 (F := Ideal) x0 x1 x2 = valueCols x0 x1 x2 := funext fun i => by
  have h0 : (i 0 : ℕ) < 32768 := (i 0).isLt
  have h1 : (i 1 : ℕ) < 512 := (i 1).isLt
  rw [val_main_v33_apply, val_main_v32_apply, val_main_v23_apply]
  have e : idx_main_v23 (idx_main_v33 i) = ix3 (⟨(i 0 : ℕ) / 512, by omega⟩ : Fin 64) (⟨(i 1 : ℕ), h1⟩ : Fin 512) (⟨(i 0 : ℕ) % 512, by omega⟩ : Fin 512) := by
    funext a
    apply Fin.ext
    match a with
    | ⟨0, _⟩ => show ((i 0 : ℕ) * 512 + (i 1 : ℕ)) / 262144 = (i 0 : ℕ) / 512; omega
    | ⟨1, _⟩ => show ((i 0 : ℕ) * 512 + (i 1 : ℕ)) % 512 = (i 1 : ℕ); omega
    | ⟨2, _⟩ => show ((i 0 : ℕ) * 512 + (i 1 : ℕ)) / 512 % 512 = (i 0 : ℕ) % 512; omega
  rw [e]
  exact v22_at x0 x1 x2 _ _ _ (ttok i) rfl

theorem off_axis {n : ℕ} (a : Fin 32768) (d : Fin n) (d' : Fin 128) :
    ∀ y : Fin 2, y ≠ 1 → ((ix2 a d : (⟨2, ![32768, n]⟩ : Shape).Idx) y).val = ((ix2 a d' : S32768x128.Idx) y).val := fun y hy => by
  match y, hy with
  | ⟨0, _⟩, _ => rfl
  | ⟨1, _⟩, hy => exact absurd rfl hy

theorem v37_at (a : Fin 32768) (d : Fin 8) : val_main_v37 (F := Ideal) x0 x1 x2 (ix2 a d) = u x0 x1 x2 a (3072 + d.val) := by
  rw [val_main_v37_apply, val_main_v21_apply]
  refine v15_at x0 x1 x2 _ a (3072 + d.val) ?_ ?_
  · show (a.val * 8 + d.val) / 65536 * 8192 + (a.val * 8 + d.val) / 8 % 8192 = a.val; omega
  · show 3072 + (a.val * 8 + d.val) % 8 = 3072 + d.val; omega

theorem v38_at (i : S32768x120.Idx) : val_main_v38 (F := Ideal) i = (0 : EReal) := by
  rw [val_main_v38_apply, val_main_cst_3_apply]
  exact Ideal.ofBits_zero_f32

theorem v39_eq : val_main_v39 (F := Ideal) x0 x1 x2 = steps x0 x1 x2 := funext fun i => by
  obtain ⟨a, d, rfl⟩ : ∃ (a : Fin 32768) (d : Fin 128), i = ix2 a d := ⟨i 0, i 1, eq_ix2 i⟩
  show _ = u x0 x1 x2 a (3072 + d.val)
  unfold val_main_v39
  by_cases h : d.val < 8
  · exact (concatenate_apply_piece (t := S32768x128) 1 [⟨S32768x8, val_main_v37 (F := Ideal) x0 x1 x2⟩, ⟨S32768x120, val_main_v38 (F := Ideal)⟩] _ (ix2 a d) 0 (show 0 < 2 by decide) S32768x8
      (val_main_v37 (F := Ideal) x0 x1 x2) rfl rfl 0 rfl (ix2 a (⟨d.val, h⟩ : Fin 8)) (off_axis a _ d) (Nat.zero_add _)).trans (v37_at x0 x1 x2 a _)
  · refine (concatenate_apply_piece (t := S32768x128) 1 [⟨S32768x8, val_main_v37 (F := Ideal) x0 x1 x2⟩, ⟨S32768x120, val_main_v38 (F := Ideal)⟩] _ (ix2 a d) 1 (show 1 < 2 by decide) S32768x120
      (val_main_v38 (F := Ideal)) rfl rfl 8 rfl (ix2 a (⟨d.val - 8, by omega⟩ : Fin 120)) (off_axis a _ d) ?_).trans ?_
    · show 8 + (d.val - 8) = d.val; omega
    · rw [v38_at, u_zero x0 x1 x2 a (3072 + d.val) (by omega)]

end Cert.Reference3Ideal.In

end
-- ==== Proof.InClaims.lean ====
/-
  The claims about the in-projection over the prompt: both kernels' frames, the reference's frame, and the equation of the kernel's
  eight results with the reference's over the extended reals.
-/
module

public import proofs.«01_k».proof.Defs
public import proofs.«01_k».proof.Proof.Gen.Kernel3
public import proofs.«01_k».proof.Proof.InWhole
public import proofs.«01_k».proof.Proof.InRef
public import proofs.«01_k».proof.Proof.Gen.Reference3Ideal.Run

@[expose] public section

set_option maxRecDepth 16384

noncomputable section

namespace Cert.InClaims

open Idealize.ShloMosaic Idealize.ShloMosaic.TcCoe Idealize.SL.Sem
open Cert.Kernel3Ideal.In Cert.Reference3Ideal.In

/-- The two kernels' bodies have one text. -/
theorem bodies_eq : Cert.Kernel3.defs₀ (F := Bits) = Cert.Kernel3Ideal.defs₀ (F := Bits) := by
  unfold Cert.Kernel3.defs₀ Cert.Kernel3Ideal.defs₀
  congr 1
  refine funext fun i => ?_
  match i with
  | ⟨0, _⟩ => rfl

theorem defs_eq : Cert.Kernel3.defs (F := Bits) = Cert.Kernel3Ideal.defs (F := Bits) :=
  congrArg (fun d => Pipeline.defs (Cert.Kernel3Ideal.pcfgs (F := Bits)) d) bodies_eq

theorem frame_kernel : Cert.quiescent_Kernel3 := fun m ρ _ => by
  rw [defs_eq]
  exact (θ_run Cert.Kernel3Ideal.defs _ _).mono (fun _ h => h) (frame (F := Bits) m ρ)

theorem frame_ideal : Cert.quiescent_Kernel3Ideal := fun m ρ _ => frame m ρ

theorem frame_reference : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

theorem preserves : Cert.preserves_Kernel3_Kernel3Ideal := trivial

/-- The kernel's result arrays and the reference's are one function of the arguments each. -/
theorem algebraic : Cert.algebraic_Kernel3Ideal_Reference3Ideal := by
  intro m ρ m' ρ' _ hag
  refine ⟨fun c => whole3 m c, fun c => whole4 m c, fun c => whole5 m c, fun c => whole6 m c, fun c => whole7 m c, fun c => whole8 m c, fun c => whole9 m c, fun c => whole10 m c, ?_, ?_⟩
  · exact (θ_run Cert.Kernel3Ideal.defs _ _).mono
      (fun r h c => ⟨((h.1 c).1 3).trans (final3 m c), ((h.1 c).1 4).trans (final4 m c), ((h.1 c).1 5).trans (final5 m c), ((h.1 c).1 6).trans (final6 m c), ((h.1 c).1 7).trans (final7 m c), ((h.1 c).1 8).trans (final8 m c), ((h.1 c).1 9).trans (final9 m c), ((h.1 c).1 10).trans (final10 m c), h.2.1 c⟩)
      (θ_run_and (run_main m ρ) (frame m ρ))
  · refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.Reference3Ideal.Value.run (F := Ideal) m' ρ')
    · obtain ⟨e0, e1, e2⟩ := hag c
      refine (Cert.Reference3Ideal.Read.val_main_v27_eq _ _ _).trans ((v27_eq _ _ _).trans ?_)
      rw [e0, e1, e2]
    · obtain ⟨e0, e1, e2⟩ := hag c
      refine (Cert.Reference3Ideal.Read.val_main_v28_eq _ _ _).trans ((v28_eq _ _ _).trans ?_)
      rw [e0, e1, e2]
    · obtain ⟨e0, e1, e2⟩ := hag c
      refine (Cert.Reference3Ideal.Read.val_main_v29_eq _ _ _).trans ((v29_eq _ _ _).trans ?_)
      rw [e0, e1, e2]
    · obtain ⟨e0, e1, e2⟩ := hag c
      refine (Cert.Reference3Ideal.Read.val_main_v31_eq _ _ _).trans ((v31_eq _ _ _).trans ?_)
      rw [e0, e1, e2]
    · obtain ⟨e0, e1, e2⟩ := hag c
      refine (Cert.Reference3Ideal.Read.val_main_v33_eq _ _ _).trans ((v33_eq _ _ _).trans ?_)
      rw [e0, e1, e2]
    · obtain ⟨e0, e1, e2⟩ := hag c
      refine (Cert.Reference3Ideal.Read.val_main_v35_eq _ _ _).trans ((v35_eq _ _ _).trans ?_)
      rw [e0, e1, e2]
    · obtain ⟨e0, e1, e2⟩ := hag c
      refine (Cert.Reference3Ideal.Read.val_main_v36_eq _ _ _).trans ((v36_eq _ _ _).trans ?_)
      rw [e0, e1, e2]
    · obtain ⟨e0, e1, e2⟩ := hag c
      refine (Cert.Reference3Ideal.Read.val_main_v39_eq _ _ _).trans ((v39_eq _ _ _).trans ?_)
      rw [e0, e1, e2]

end Cert.InClaims

end
-- ==== Proof.FfnSampleTile.lean ====
/-
  What the body of the sample batch's gated MLP leaves in its two output blocks, element by element over the extended reals.
-/
module

public import proofs.«01_k».proof.Proof.FfnMath
public import proofs.«01_k».proof.Proof.Gen.Kernel4Ideal.Skeleton
public import proofs.«01_k».proof.Proof.Gen.Kernel4Ideal.Frame
public import Idealize.ShloMosaic.Lib.MatmulPlain
public import Idealize.ShloMosaic.Lib.WritesUnit
public import Idealize.ShloMosaic.Lib.Pipeline.ValueKit.Tiles
public import Idealize.ShloMosaic.Lib.ValueIdx
public import Idealize.ShloMosaic.Lib.ValueLayout
public import Idealize.ShloMosaic.Lib.IdealHost

@[expose] public section

set_option maxRecDepth 16384

noncomputable section

namespace Cert.Kernel4Ideal.Ffn

open Cert.Kernel4Ideal Cert.Kernel4Ideal.Gen Cert.Ffn
open Idealize.ShloMosaic Idealize.ShloMosaic.TcCoe Idealize.ShloMosaic.ValueIdx

theorem lift_row (r : Fin 128) (k : Fin 1024) : reduces_S128x1024_S128.lift (ix1 r) k = ix2 r k := by
  funext a
  apply Fin.ext
  refine (Shape.Reduces.lift_val _ _ _ _).trans ?_
  match a with
  | ⟨0, _⟩ => rfl
  | ⟨1, _⟩ => rfl

theorem column (x : FVec Ideal S128 .f32) (r : Fin 128) (c : Fin 1) :
    shapeCast S128x1 x shapeCasts_S128_S128x1 (ix2 r c) = x (ix1 r) :=
  shapeCast_apply x _ _ _ (by
    rw [Shape.rowMajor_val_one, Shape.rowMajor_val_two]
    show r.val = r.val * 1 + c.val
    omega)

theorem over_columns (x : FVec Ideal S128x1 .f32) (r : Fin 128) (c : Fin 1024) :
    broadcastTo S128x1024 x broadcasts_S128x1_S128x1024 (ix2 r c) = x (ix2 r 0) :=
  broadcastTo_apply x _ _ _ (fun a => by match a with | ⟨0, _⟩ => rfl | ⟨1, _⟩ => rfl)

theorem over_rows (x : FVec Ideal S1x1024 .f32) (r : Fin 128) (c : Fin 1024) :
    broadcastTo S128x1024 x broadcasts_S1x1024_S128x1024 (ix2 r c) = x (ix2 0 c) :=
  broadcastTo_apply x _ _ _ (fun a => by match a with | ⟨0, _⟩ => rfl | ⟨1, _⟩ => rfl)

theorem over_rows' (x : FVec Ideal S1x2816 .f32) (r : Fin 128) (c : Fin 2816) :
    broadcastTo S128x2816 x broadcasts_S1x2816_S128x2816 (ix2 r c) = x (ix2 0 c) :=
  broadcastTo_apply x _ _ _ (fun a => by match a with | ⟨0, _⟩ => rfl | ⟨1, _⟩ => rfl)

/-- The mean square of a block's row, and the root over it. -/
theorem scale_at (x : FVec Ideal S128x1024 .f32) (r : Fin 128) (j : Fin 1024) :
    broadcastTo S128x1024 (rsqrt (addf (divf (shapeCast S128x1 (multiReduction .add [1] S128 (mulf x x) 0x00000000#32 reduces_S128x1024_S128 (.inl rfl) rfl)
        shapeCasts_S128_S128x1) (broadcast S128x1 (Scalar.ofBits (F := Ideal) .f32 0x44800000#32))) (broadcast S128x1 (Scalar.ofBits (F := Ideal) .f32 0x3727C5AC#32))))
        broadcasts_S128x1_S128x1024 (ix2 r j)
      = Ideal.rsqrt (Ideal.div (∑ k, (x (ix2 r k) : EReal) * x (ix2 r k)) dim + eps) := by
  rw [over_columns]
  show Ideal.rsqrt (Ideal.div (shapeCast S128x1 _ shapeCasts_S128_S128x1 (ix2 r 0)) dim + eps) = _
  rw [column]
  refine congrArg (fun z => Ideal.rsqrt (Ideal.div z dim + eps)) ((Ideal.multiReduction_add_single (mulf x x) _ reduces_S128x1024_S128 _ _ (ix1 r)).trans ?_)
  refine Finset.sum_congr rfl fun k _ => ?_
  exact congrArg (mulf x x) (lift_row r k)

/-- The residual stream after the mixers. -/
theorem pay2_at (x : Vec Ideal S128x1024 .f32) (oa os : Vec Ideal S128x512 .bf16) (wa ws : Vec Ideal S512x1024 .bf16)
    (wo : Fin 1024 → Fin 1024 → EReal) (ha : ∀ k j, wa (ix2 k j) = wo (lo k) j) (hs : ∀ k j, ws (ix2 k j) = wo (hi k) j)
    (r : Fin 128) (j : Fin 1024) :
    k0_pay2 x oa wa os ws (ix2 r j) = mix (fun j => x (ix2 r j)) (fun k => oa (ix2 r k)) (fun k => os (ix2 r k)) wo j := by
  unfold k0_pay2
  simp only [shapeCast_self]
  rw [addf_apply, addf_apply]
  have e1 := Ideal.matmul_plain_apply (M := 128) (K := 512) (N := 1024) (φ₁ := .bf16) (φ₂ := .bf16) none oa wa (constant S128x1024 .f32 0x00000000#32) r j
  have e2 := Ideal.matmul_plain_apply (M := 128) (K := 512) (N := 1024) (φ₁ := .bf16) (φ₂ := .bf16) none os ws (constant S128x1024 .f32 0x00000000#32) r j
  rw [constant_apply, Ideal.ofBits_zero_f32, zero_add] at e1 e2
  refine (congrArg₂ (fun a b : EReal => (x (ix2 r j) : EReal) + a + b) e1 e2).trans ?_
  unfold mix
  rw [add_assoc]
  simp only [ha, hs]

/-- The normed row that the up-projection takes. -/
theorem pay3_at (x : Vec Ideal S128x1024 .f32) (oa os : Vec Ideal S128x512 .bf16) (wa ws : Vec Ideal S512x1024 .bf16)
    (g : Vec Ideal S1x1024 .f32) (r : Fin 128) (j : Fin 1024) :
    k0_pay3 x oa wa os ws g (ix2 r j) = rms (fun j => k0_pay2 x oa wa os ws (ix2 r j)) (fun j => g (ix2 0 j)) j := by
  unfold k0_pay3
  dsimp only
  rw [truncf_apply, mulf_apply, mulf_apply, scale_at, over_rows]
  rfl

theorem pay7_at (h : FVec Ideal S128x1024 .bf16) (w : Vec Ideal S1024x2816 .bf16) (r : Fin 128) (c : Fin 2816) :
    k0_pay7 h w (ix2 r c) = ∑ k : Fin 1024, (h (ix2 r k) : EReal) * w (ix2 k c) := by
  unfold k0_pay7
  rw [shapeCast_self]
  refine (Ideal.matmul_plain_apply (M := 128) (K := 1024) (N := 2816) none h w _ r c).trans ?_
  rw [constant_apply, Ideal.ofBits_zero_f32, zero_add]

theorem pay4_eq (w : Vec Ideal S3x5632 .f32) : k0_pay4 w = w := shapeCast_self _ _

/-- A row of a packed table, columns from `o` on. -/
theorem piece_at (n : ℕ) (x : FVec Ideal (⟨2, ![n, 5632]⟩ : Shape) .f32) (i o : ℕ) (hs : (⟨2, ![n, 5632]⟩ : Shape).Slices ![i, o] S1x2816)
    (r : Fin n) (hr : r.val = i) (c : Fin 2816) (c' : Fin 5632) (hc : c'.val = o + c.val) :
    extractStridedSlice S1x2816 ![i, o] x hs (ix2 0 c) = x (ix2 r c') :=
  extractStridedSlice_apply ![i, o] x hs (ix2 0 c) (ix2 r c') (fun a => by
    match a with
    | ⟨0, _⟩ => show r.val = i + 0; omega
    | ⟨1, _⟩ => exact hc)

/-- The convolution, gate half. -/
theorem pay8_at (cw : FVec Ideal S3x5632 .f32) (cb : Vec Ideal S1x5632 .f32) (u0 : FVec Ideal S128x2816 .f32)
    (u1 u2 : Vec Ideal S128x2816 .f32) (r : Fin 128) (c : Fin 2816) :
    k0_pay8 cw cb u0 u1 u2 (ix2 r c) = (cb (ix2 0 (gate c)) : EReal) + cw (ix2 0 (gate c)) * u2 (ix2 r c) + cw (ix2 1 (gate c)) * u1 (ix2 r c)
      + cw (ix2 2 (gate c)) * u0 (ix2 r c) := by
  unfold k0_pay8
  simp only [shapeCast_self]
  rw [addf_apply, addf_apply, addf_apply, mulf_apply, mulf_apply, mulf_apply, over_rows', over_rows', over_rows', over_rows',
    piece_at 1 cb 0 0 _ 0 rfl c (gate c) (Nat.zero_add _).symm, piece_at 3 cw 0 0 _ 0 rfl c (gate c) (Nat.zero_add _).symm,
    piece_at 3 cw 1 0 _ 1 rfl c (gate c) (Nat.zero_add _).symm, piece_at 3 cw 2 0 _ 2 rfl c (gate c) (Nat.zero_add _).symm]

/-- The convolution, value half. -/
theorem pay9_at (h : FVec Ideal S128x1024 .bf16) (cw : FVec Ideal S3x5632 .f32) (cb : Vec Ideal S1x5632 .f32) (w : Vec Ideal S1024x2816 .bf16)
    (u1 u2 : Vec Ideal S128x2816 .f32) (r : Fin 128) (c : Fin 2816) :
    k0_pay9 h cw cb w u1 u2 (ix2 r c) = (cb (ix2 0 (val c)) : EReal) + cw (ix2 0 (val c)) * u2 (ix2 r c) + cw (ix2 1 (val c)) * u1 (ix2 r c)
      + cw (ix2 2 (val c)) * k0_pay7 h w (ix2 r c) := by
  unfold k0_pay9
  simp only [shapeCast_self]
  rw [addf_apply, addf_apply, addf_apply, mulf_apply, mulf_apply, mulf_apply, over_rows', over_rows', over_rows', over_rows',
    piece_at 1 cb 0 2816 _ 0 rfl c (val c) rfl, piece_at 3 cw 0 2816 _ 0 rfl c (val c) rfl,
    piece_at 3 cw 1 2816 _ 1 rfl c (val c) rfl, piece_at 3 cw 2 2816 _ 2 rfl c (val c) rfl]

theorem pay10_at (cw : FVec Ideal S3x5632 .f32) (cb : Vec Ideal S1x5632 .f32) (u0 : FVec Ideal S128x2816 .f32)
    (u1 u2 : Vec Ideal S128x2816 .f32) (i : S128x2816.Idx) :
    k0_pay10 cw cb u0 u1 u2 i = -(k0_pay8 cw cb u0 u1 u2 i : EReal) := by
  show Ideal.ofBits .f32 0x00000000#32 - (k0_pay8 cw cb u0 u1 u2 i : EReal) = _
  rw [Ideal.ofBits_zero_f32, zero_sub]

/-- The result's row, `g` the convolution's gate half, `n` its negative and `v` its value half. -/
theorem pay1_at (x : FVec Ideal S128x1024 .f32) (g v n : FVec Ideal S128x2816 .f32) (hn : ∀ i, n i = -(g i : EReal)) (wd : Vec Ideal S2816x1024 .bf16)
    (gf : Vec Ideal S1x1024 .f32) (r : Fin 128) (j : Fin 1024) :
    k0_pay1 x k0_pay5 g v n wd gf (ix2 r j)
      = rms (fun j => (x (ix2 r j) : EReal) + ∑ k : Fin 2816, ((g (ix2 r k) : EReal) * Ideal.div one (one + Ideal.exp (-(g (ix2 r k) : EReal))) * v (ix2 r k)) * wd (ix2 k j))
          (fun j => gf (ix2 0 j)) j := by
  have e : ∀ (a : FVec Ideal S128x2816 .bf16) j, addf x (addf k0_pay5 (matmul dot_S128x2816_S2816x1024_S128x1024_1_0_0_1_n_n none a wd (constant S128x1024 .f32 0x00000000#32))) (ix2 r j)
      = (x (ix2 r j) : EReal) + ∑ k : Fin 2816, (a (ix2 r k) : EReal) * wd (ix2 k j) := fun a j => by
    rw [addf_apply, addf_apply]
    have e1 := Ideal.matmul_plain_apply (M := 128) (K := 2816) (N := 1024) (φ₁ := .bf16) (φ₂ := .bf16) none a wd (constant S128x1024 .f32 0x00000000#32) r j
    rw [constant_apply, Ideal.ofBits_zero_f32, zero_add] at e1
    refine congrArg (fun z : EReal => (x (ix2 r j) : EReal) + z) ?_
    refine (congrArg (fun z : EReal => (k0_pay5 (F := Ideal) (ix2 r j) : EReal) + z) e1).trans ?_
    show Ideal.ofBits .f32 0x00000000#32 + _ = _
    rw [Ideal.ofBits_zero_f32, zero_add]
  unfold k0_pay1
  dsimp only
  simp only [shapeCast_self]
  rw [mulf_apply, mulf_apply, scale_at, over_rows]
  simp only [e]
  unfold rms
  have ea : ∀ k, truncf .bf16 (mulf (mulf g (divf (broadcast S128x2816 (Scalar.ofBits (F := Ideal) .f32 0x3F800000#32)) (addf (broadcast S128x2816 (Scalar.ofBits (F := Ideal) .f32 0x3F800000#32)) (exp n)))) v) bitsLt_bf16_f32 (ix2 r k)
      = (g (ix2 r k) : EReal) * Ideal.div one (one + Ideal.exp (-(g (ix2 r k) : EReal))) * v (ix2 r k) := fun k => by
    rw [← hn]
    rfl
  simp only [ea]

/-! ## The two blocks -/

section
variable (x0 : Vec Ideal S128x1024 .f32) (x1 : Vec Ideal S128x512 .bf16) (x2 : Vec Ideal S128x512 .bf16) (x3 : Vec Ideal S1024x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32) (x10 x11 : Vec Ideal S128x5632 .f32)

theorem zero2 : ∀ a : Fin 2, (![0, 0] : Fin 2 → ℕ) a = 0 := by decide

theorem ld0 : View.ld x0 r0_0 = x0 := View.ld_unit_lit _ x0 zero2
theorem ld1 : View.ld x1 r0_1 = x1 := View.ld_unit_lit _ x1 zero2
theorem ld4 : View.ld x4 r0_4 = x4 := View.ld_unit_lit _ x4 zero2
theorem ld6 : View.ld x6 r0_5 = x6 := View.ld_unit_lit _ x6 zero2
theorem ld7 : View.ld x7 r0_6 = x7 := View.ld_unit_lit _ x7 zero2
theorem ld8 : View.ld x8 r0_11 = x8 := View.ld_unit_lit _ x8 zero2

theorem lo_at (k : Fin 512) (j : Fin 1024) : View.ld x3 r0_2 (ix2 k j) = x3 (ix2 (lo k) j) :=
  View.ld_unit_apply_of x3 _ _ _ (ix2 k j) (ix2 (lo k) j) (fun a => by
    match a with
    | ⟨0, _⟩ => exact (Nat.zero_add _).symm
    | ⟨1, _⟩ => exact (Nat.zero_add _).symm)

theorem hi_at (k : Fin 512) (j : Fin 1024) : View.ld x3 r0_3 (ix2 k j) = x3 (ix2 (hi k) j) :=
  View.ld_unit_apply_of x3 _ _ _ (ix2 k j) (ix2 (hi k) j) (fun a => by
    match a with
    | ⟨0, _⟩ => exact rfl
    | ⟨1, _⟩ => exact (Nat.zero_add _).symm)

theorem wgate_at (k : Fin 1024) (c : Fin 2816) : View.ld x5 r0_7 (ix2 k c) = x5 (ix2 k (gate c)) :=
  View.ld_unit_apply_of x5 _ _ _ (ix2 k c) (ix2 k (gate c)) (fun a => by
    match a with
    | ⟨0, _⟩ => exact (Nat.zero_add _).symm
    | ⟨1, _⟩ => exact (Nat.zero_add _).symm)

theorem wval_at (k : Fin 1024) (c : Fin 2816) : View.ld x5 r0_8 (ix2 k c) = x5 (ix2 k (val c)) :=
  View.ld_unit_apply_of x5 _ _ _ (ix2 k c) (ix2 k (val c)) (fun a => by
    match a with
    | ⟨0, _⟩ => exact (Nat.zero_add _).symm
    | ⟨1, _⟩ => exact rfl)

theorem ugate_at (r : Fin 128) (c : Fin 2816) : View.ld x10 r0_9 (ix2 r c) = x10 (ix2 r (gate c)) :=
  View.ld_unit_apply_of x10 _ _ _ (ix2 r c) (ix2 r (gate c)) (fun a => by
    match a with
    | ⟨0, _⟩ => exact (Nat.zero_add _).symm
    | ⟨1, _⟩ => exact (Nat.zero_add _).symm)

theorem uval_at (r : Fin 128) (c : Fin 2816) : View.ld x10 r0_10 (ix2 r c) = x10 (ix2 r (val c)) :=
  View.ld_unit_apply_of x10 _ _ _ (ix2 r c) (ix2 r (val c)) (fun a => by
    match a with
    | ⟨0, _⟩ => exact (Nat.zero_add _).symm
    | ⟨1, _⟩ => exact rfl)

/-- The residual row and the up-projected row of a token. -/
abbrev rowR (r : Fin 128) : Fin 1024 → EReal := mix (fun j => x0 (ix2 r j)) (fun k => x1 (ix2 r k)) (fun k => x2 (ix2 r k)) (fun k j => x3 (ix2 k j))
abbrev rowU (r : Fin 128) : Fin 5632 → EReal := up (rms (rowR x0 x1 x2 x3 r) (fun j => x4 (ix2 0 j))) (fun k c => x5 (ix2 k c))

theorem resid_at (r : Fin 128) (j : Fin 1024) : k0_pay2 x0 x1 (View.ld x3 r0_2) x2 (View.ld x3 r0_3) (ix2 r j) = rowR x0 x1 x2 x3 r j :=
  pay2_at x0 x1 x2 _ _ (fun k j => x3 (ix2 k j)) (lo_at x3) (hi_at x3) r j

theorem ups_at (w : Vec Ideal S1024x2816 .bf16) (q : Fin 2816 → Fin 5632) (hw : ∀ k c, w (ix2 k c) = x5 (ix2 k (q c))) (r : Fin 128) (c : Fin 2816) :
    k0_pay7 (k0_pay3 x0 x1 (View.ld x3 r0_2) x2 (View.ld x3 r0_3) x4) w (ix2 r c) = rowU x0 x1 x2 x3 x4 x5 r (q c) := by
  rw [pay7_at]
  show _ = ∑ k : Fin 1024, _
  refine Finset.sum_congr rfl fun k _ => ?_
  rw [hw, pay3_at]
  simp only [resid_at]

/-- The second block's pieces: the value half of the columns, then the gate half. -/
theorem out13_at (r : Fin 128) (c : Fin 5632) :
    out0_13 x0 x1 x2 x3 x4 x5 x6 x7 x8 x9 x10 x11 (ix2 r c) = rowU x0 x1 x2 x3 x4 x5 r c := by
  unfold_out out0_13
  rw [ld0, ld1, ld1, ld4]
  refine View.canon_apply_of_pieces (Val := Elt Ideal) (fun y : S128x5632.Idx => rowU x0 x1 x2 x3 x4 x5 (y 0) (y 1)) _ ?_ (ix2 r c) (cover0_13 _ _ _)
  intro q hq
  rcases List.mem_cons.mp hq with rfl | hq
  · intro (z : S128x2816.Idx)
    obtain ⟨a, d, rfl⟩ : ∃ (a : Fin 128) (d : Fin 2816), z = ix2 a d := ⟨z 0, z 1, eq_ix2 z⟩
    refine (ups_at x0 x1 x2 x3 x4 x5 _ val (wval_at x5) a d).trans ?_
    refine congrArg₂ (fun a c => rowU x0 x1 x2 x3 x4 x5 a c) (Fin.ext ?_) (Fin.ext ?_)
    · exact ((Rect.idx_unit_val (s := S128x5632) ![0, 2816] S128x2816.size inb_S128x5632_S128x2816_0_2816 (ix2 a d) 0).trans (Nat.zero_add _)).symm
    · exact (Rect.idx_unit_val (s := S128x5632) ![0, 2816] S128x2816.size inb_S128x5632_S128x2816_0_2816 (ix2 a d) 1).symm
  obtain rfl := List.mem_singleton.mp hq
  intro (z : S128x2816.Idx)
  obtain ⟨a, d, rfl⟩ : ∃ (a : Fin 128) (d : Fin 2816), z = ix2 a d := ⟨z 0, z 1, eq_ix2 z⟩
  refine (ups_at x0 x1 x2 x3 x4 x5 _ gate (wgate_at x5) a d).trans ?_
  refine congrArg₂ (fun a c => rowU x0 x1 x2 x3 x4 x5 a c) (Fin.ext ?_) (Fin.ext ?_)
  · exact ((Rect.idx_unit_val (s := S128x5632) ![0, 0] S128x2816.size inb_S128x5632_S128x2816_0_0 (ix2 a d) 0).trans (Nat.zero_add _)).symm
  · exact ((Rect.idx_unit_val (s := S128x5632) ![0, 0] S128x2816.size inb_S128x5632_S128x2816_0_0 (ix2 a d) 1).trans (Nat.zero_add _)).symm

theorem out12_at (r : Fin 128) (j : Fin 1024) :
    out0_12 x0 x1 x2 x3 x4 x5 x6 x7 x8 x9 x10 x11 (ix2 r j)
      = out (rowR x0 x1 x2 x3 r) (conv (fun c => x7 (ix2 0 c)) (fun a c => x6 (ix2 a c)) (fun c => x10 (ix2 r c)) (fun c => x11 (ix2 r c)) (rowU x0 x1 x2 x3 x4 x5 r))
          (fun k j => x8 (ix2 k j)) (fun j => x9 (ix2 0 j)) j := by
  unfold_out out0_12
  rw [View.canon_unit_zero (funext zero2), ld0, ld1, ld1, ld4, ld4, ld6, ld7, ld8, pay4_eq]
  rw [pay1_at _ _ _ _ (pay10_at _ _ _ _ _)]
  unfold out
  simp only [resid_at]
  have eg : ∀ k, k0_pay8 x6 x7 (k0_pay6 x0 x1 (View.ld x3 r0_2) x2 (View.ld x3 r0_3) x4 (View.ld x5 r0_7)) (View.ld x11 r0_9) (View.ld x10 r0_9) (ix2 r k)
      = conv (fun c => x7 (ix2 0 c)) (fun a c => x6 (ix2 a c)) (fun c => x10 (ix2 r c)) (fun c => x11 (ix2 r c)) (rowU x0 x1 x2 x3 x4 x5 r) (gate k) := fun k => by
    rw [pay8_at, ugate_at, ugate_at]
    exact congrArg (fun z : EReal => _ + x6 (ix2 2 (gate k)) * z) (ups_at x0 x1 x2 x3 x4 x5 _ gate (wgate_at x5) r k)
  have ev : ∀ k, k0_pay9 (k0_pay3 x0 x1 (View.ld x3 r0_2) x2 (View.ld x3 r0_3) x4) x6 x7 (View.ld x5 r0_8) (View.ld x11 r0_10) (View.ld x10 r0_10) (ix2 r k)
      = conv (fun c => x7 (ix2 0 c)) (fun a c => x6 (ix2 a c)) (fun c => x10 (ix2 r c)) (fun c => x11 (ix2 r c)) (rowU x0 x1 x2 x3 x4 x5 r) (val k) := fun k => by
    rw [pay9_at, uval_at, uval_at, ups_at x0 x1 x2 x3 x4 x5 _ val (wval_at x5)]
    rfl
  simp only [eg, ev]
  rfl

end

end Cert.Kernel4Ideal.Ffn

end
-- ==== Proof.FfnSampleSpec.lean ====
/-
  The sample batch's output projection, gated MLP and last norm as functions of the arrays both programs are given.
-/
module

public import proofs.«01_k».proof.Proof.FfnMath
public import Idealize.ShloMosaic.Lib.ValueIdx

@[expose] public section

noncomputable section

namespace Cert.FfnSample

open Cert.Ffn
open Idealize.ShloMosaic Idealize.ShloMosaic.ValueIdx

variable (x0 : Vec Ideal (⟨3, ![128, 1, 1024]⟩ : Shape) .f32) (x1 x2 : Vec Ideal (⟨2, ![128, 512]⟩ : Shape) .bf16)
  (x3 : Vec Ideal (⟨4, ![1, 128, 2, 5632]⟩ : Shape) .f32)
  (x4 : Vec Ideal (⟨3, ![1, 1024, 1024]⟩ : Shape) .f32) (x5 : Vec Ideal (⟨2, ![1, 1024]⟩ : Shape) .f32)
  (x6 : Vec Ideal (⟨3, ![1, 1024, 5632]⟩ : Shape) .f32) (x7 : Vec Ideal (⟨3, ![1, 3, 5632]⟩ : Shape) .f32)
  (x8 : Vec Ideal (⟨2, ![1, 5632]⟩ : Shape) .f32) (x9 : Vec Ideal (⟨3, ![1, 2816, 1024]⟩ : Shape) .f32)
  (x10 : Vec Ideal (⟨1, ![1024]⟩ : Shape) .f32)

/-- The residual stream after the mixers. -/
def resid (b : Fin 128) : Fin 1024 → EReal :=
  mix (fun j => x0 (ix3 b 0 j)) (fun k => x1 (ix2 b k)) (fun k => x2 (ix2 b k)) (fun k j => x4 (ix3 0 k j))

/-- The up-projected row of a token. -/
def upped (b : Fin 128) : Fin 5632 → EReal := up (rms (resid x0 x1 x2 x4 b) (fun j => x5 (ix2 0 j))) (fun k c => x6 (ix3 0 k c))

/-- The two rows before it, from the state. -/
def before (b : Fin 128) (k : Fin 2) (c : Fin 5632) : EReal := x3 (ix4 0 b k c)

/-- The convolution's row. -/
def around (b : Fin 128) : Fin 5632 → EReal :=
  conv (fun c => x8 (ix2 0 c)) (fun a c => x7 (ix3 0 a c)) (before x3 b 0) (before x3 b 1) (upped x0 x1 x2 x4 x5 x6 b)

/-- The result's row. -/
def final (b : Fin 128) : Fin 1024 → EReal :=
  out (resid x0 x1 x2 x4 b) (around x0 x1 x2 x3 x4 x5 x6 x7 x8 b) (fun k j => x9 (ix3 0 k j)) (fun j => x10 (ix1 j))

/-- The first result array. -/
def resY : Vec Ideal (⟨2, ![128, 1024]⟩ : Shape) .f32 := fun i => final x0 x1 x2 x3 x4 x5 x6 x7 x8 x9 x10 (i 0) (i 1)

/-- The second: the up-projected rows. -/
def resK : Vec Ideal (⟨2, ![128, 5632]⟩ : Shape) .f32 := fun i => upped x0 x1 x2 x4 x5 x6 (i 0) (i 1)

end Cert.FfnSample

end
-- ==== Proof.FfnSampleWhole.lean ====
/-
  The sample batch's gated MLP call: what the host hands it read at an index, each window's block as elements of the arguments, and both
  result arrays after the run as functions of the arguments.
-/
module

public import proofs.«01_k».proof.Proof.FfnSampleTile
public import proofs.«01_k».proof.Proof.FfnSampleSpec
public import proofs.«01_k».proof.Proof.Gen.Kernel4Ideal.Value
public import Idealize.ShloMosaic.Lib.Pipeline.Value
public import Idealize.ShloMosaic.Lib.Quiescent

@[expose] public section

set_option maxRecDepth 16384

noncomputable section

namespace Cert.Kernel4Ideal.Ffn

open Cert.Kernel4Ideal Cert.Kernel4Ideal.Gen Cert.Ffn Cert.FfnSample
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## What the host hands the call -/

theorem V_v8 : V m c main_v8 = shapeCast S128x1024 (m ((c : Thread nD τ).loc main_arg0)) shapeCasts_S128x1x1024_S128x1024 := by
  show StableHlo.after hostOps0 _ _ = _
  after_results
  rfl

theorem V_v1 : V m c main_v1 = shapeCast S1024x1024 (m ((c : Thread nD τ).loc main_arg4)) shapeCasts_S1x1024x1024_S1024x1024 := by
  show StableHlo.after hostOps0 _ _ = _
  after_results
  rfl

theorem V_v3 : V m c main_v3 = shapeCast S1024x5632 (m ((c : Thread nD τ).loc main_arg6)) shapeCasts_S1x1024x5632_S1024x5632 := by
  show StableHlo.after hostOps0 _ _ = _
  after_results
  rfl

theorem V_v4 : V m c main_v4 = shapeCast S3x5632 (m ((c : Thread nD τ).loc main_arg7)) shapeCasts_S1x3x5632_S3x5632 := by
  show StableHlo.after hostOps0 _ _ = _
  after_results
  rfl

theorem V_v6 : V m c main_v6 = shapeCast S2816x1024 (m ((c : Thread nD τ).loc main_arg9)) shapeCasts_S1x2816x1024_S2816x1024 := by
  show StableHlo.after hostOps0 _ _ = _
  after_results
  rfl

theorem V_v7 : V m c main_v7 = shapeCast S1x1024 (m ((c : Thread nD τ).loc main_arg10)) shapeCasts_S1024_S1x1024 := by
  show StableHlo.after hostOps0 _ _ = _
  after_results
  rfl

theorem V_v10 : V m c main_v10 = shapeCast S128x5632 (extractStridedSlice S1x128x1x5632 ![0, 0, 0, 0] (m ((c : Thread nD τ).loc main_arg3)) slices_S1x128x2x5632_S1x128x1x5632_0_0_0_0)
    shapeCasts_S1x128x1x5632_S128x5632 := by
  show StableHlo.after hostOps0 _ _ = _
  after_results
  rfl

theorem V_v12 : V m c main_v12 = shapeCast S128x5632 (extractStridedSlice S1x128x1x5632 ![0, 0, 1, 0] (m ((c : Thread nD τ).loc main_arg3)) slices_S1x128x2x5632_S1x128x1x5632_0_0_1_0)
    shapeCasts_S1x128x1x5632_S128x5632 := by
  show StableHlo.after hostOps0 _ _ = _
  after_results
  rfl

theorem V_arg1 : V m c main_arg1 = m ((c : Thread nD τ).loc main_arg1) := by
  show StableHlo.after hostOps0 _ _ = _
  after_results

theorem V_arg2 : V m c main_arg2 = m ((c : Thread nD τ).loc main_arg2) := by
  show StableHlo.after hostOps0 _ _ = _
  after_results

theorem V_arg5 : V m c main_arg5 = m ((c : Thread nD τ).loc main_arg5) := by
  show StableHlo.after hostOps0 _ _ = _
  after_results

theorem V_arg8 : V m c main_arg8 = m ((c : Thread nD τ).loc main_arg8) := by
  show StableHlo.after hostOps0 _ _ = _
  after_results

theorem flat_at (x : (⟨S128x1x1024, .f32⟩ : BufTy).Contents (Elt Ideal)) (b : Fin 128) (j : Fin 1024) :
    shapeCast S128x1024 x shapeCasts_S128x1x1024_S128x1024 (ix2 b j) = x (ix3 b 0 j) :=
  shapeCast_apply x _ _ _ (by
    rw [Shape.rowMajor_val_two, Shape.rowMajor_val_three]
    show (b.val * 1 + 0) * 1024 + j.val = b.val * 1024 + j.val
    omega)

/-- A weight without its leading axis of size one. -/
theorem lead_at {n k : ℕ} (x : (⟨(⟨3, ![1, n, k]⟩ : Shape), .f32⟩ : BufTy).Contents (Elt Ideal)) (h : (⟨3, ![1, n, k]⟩ : Shape).ShapeCasts (⟨2, ![n, k]⟩ : Shape)) (a : Fin n) (d : Fin k) :
    shapeCast (⟨2, ![n, k]⟩ : Shape) x h (ix2 a d) = x (ix3 0 a d) :=
  shapeCast_apply x _ _ _ (by
    rw [Shape.rowMajor_val_two, Shape.rowMajor_val_three]
    show (0 * n + a.val) * k + d.val = a.val * k + d.val
    rw [Nat.zero_mul, Nat.zero_add])

theorem row_at (x : (⟨S1024, .f32⟩ : BufTy).Contents (Elt Ideal)) (d : Fin 1024) :
    shapeCast S1x1024 x shapeCasts_S1024_S1x1024 (ix2 0 d) = x (ix1 d) :=
  shapeCast_apply x _ _ _ (by
    rw [Shape.rowMajor_val_two, Shape.rowMajor_val_one]
    show d.val = 0 * 1024 + d.val
    omega)

/-- A row of the convolution's state, flattened. -/
theorem state_at (x : (⟨S1x128x2x5632, .f32⟩ : BufTy).Contents (Elt Ideal)) (k : ℕ) (q : Fin 2) (hq : q.val = k) (hs : S1x128x2x5632.Slices ![0, 0, k, 0] S1x128x1x5632)
    (b : Fin 128) (d : Fin 5632) :
    shapeCast S128x5632 (extractStridedSlice S1x128x1x5632 ![0, 0, k, 0] x hs) shapeCasts_S1x128x1x5632_S128x5632 (ix2 b d) = x (ix4 0 b q d) := by
  refine (shapeCast_apply _ _ _ (ix4 0 b 0 d : S1x128x1x5632.Idx) (by
    rw [Shape.rowMajor_val_two, Shape.rowMajor_val_four]
    show ((0 * 128 + b.val) * 1 + 0) * 5632 + d.val = b.val * 5632 + d.val
    omega)).trans ?_
  exact extractStridedSlice_apply _ x hs _ (ix4 0 b q d) (fun a => by
    match a with
    | ⟨0, _⟩ => rfl
    | ⟨1, _⟩ => exact (Nat.zero_add _).symm
    | ⟨2, _⟩ => exact hq
    | ⟨3, _⟩ => exact (Nat.zero_add _).symm)

/-! ## The one point's blocks are the whole arrays -/

theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel
theorem idx13 : ∀ t : Fin cfg0.N, win0_13.index t 0 = 0 ∧ win0_13.index t 1 = 0 := by decide +kernel
theorem xsz12 : ∀ t : Fin cfg0.N, win0_12.xsize (grid0.coords t) 0 = 128 ∧ win0_12.xsize (grid0.coords t) 1 = 1024 := by decide +kernel
theorem xsz13 : ∀ t : Fin cfg0.N, win0_13.xsize (grid0.coords t) 0 = 128 ∧ win0_13.xsize (grid0.coords t) 1 = 5632 := by decide +kernel

theorem emb0 (t : Fin cfg0.N) (a : Fin 128) (d : Fin 1024) : (win0_0.rect t).emb (ix2 a d) = ix2 a d := by
  funext x
  apply Fin.ext
  refine (Pipeline.Window.rect_emb_val win0_0 t _ x).trans ?_
  match x with
  | ⟨0, _⟩ => show win0_0.index t 0 * 128 + a.val = a.val; rw [(idx0 t).1]; omega
  | ⟨1, _⟩ => show win0_0.index t 1 * 1024 + d.val = d.val; rw [(idx0 t).2]; omega

theorem emb1 (t : Fin cfg0.N) (a : Fin 128) (d : Fin 512) : (win0_1.rect t).emb (ix2 a d) = ix2 a d := by
  funext x
  apply Fin.ext
  refine (Pipeline.Window.rect_emb_val win0_1 t _ x).trans ?_
  match x with
  | ⟨0, _⟩ => show win0_1.index t 0 * 128 + a.val = a.val; rw [(idx1 t).1]; omega
  | ⟨1, _⟩ => show win0_1.index t 1 * 512 + d.val = d.val; rw [(idx1 t).2]; omega

theorem emb2 (t : Fin cfg0.N) (a : Fin 128) (d : Fin 512) : (win0_2.rect t).emb (ix2 a d) = ix2 a d := by
  funext x
  apply Fin.ext
  refine (Pipeline.Window.rect_emb_val win0_2 t _ x).trans ?_
  match x with
  | ⟨0, _⟩ => show win0_2.index t 0 * 128 + a.val = a.val; rw [(idx2 t).1]; omega
  | ⟨1, _⟩ => show win0_2.index t 1 * 512 + d.val = d.val; rw [(idx2 t).2]; omega

theorem emb3 (t : Fin cfg0.N) (a : Fin 1024) (d : Fin 1024) : (win0_3.rect t).emb (ix2 a d) = ix2 a d := by
  funext x
  apply Fin.ext
  refine (Pipeline.Window.rect_emb_val win0_3 t _ x).trans ?_
  match x with
  | ⟨0, _⟩ => show win0_3.index t 0 * 1024 + a.val = a.val; rw [(idx3 t).1]; omega
  | ⟨1, _⟩ => show win0_3.index t 1 * 1024 + d.val = d.val; rw [(idx3 t).2]; omega

theorem emb4 (t : Fin cfg0.N) (a : Fin 1) (d : Fin 1024) : (win0_4.rect t).emb (ix2 a d) = ix2 a d := by
  funext x
  apply Fin.ext
  refine (Pipeline.Window.rect_emb_val win0_4 t _ x).trans ?_
  match x with
  | ⟨0, _⟩ => show win0_4.index t 0 * 1 + a.val = a.val; rw [(idx4 t).1]; omega
  | ⟨1, _⟩ => show win0_4.index t 1 * 1024 + d.val = d.val; rw [(idx4 t).2]; omega

theorem emb5 (t : Fin cfg0.N) (a : Fin 1024) (d : Fin 5632) : (win0_5.rect t).emb (ix2 a d) = ix2 a d := by
  funext x
  apply Fin.ext
  refine (Pipeline.Window.rect_emb_val win0_5 t _ x).trans ?_
  match x with
  | ⟨0, _⟩ => show win0_5.index t 0 * 1024 + a.val = a.val; rw [(idx5 t).1]; omega
  | ⟨1, _⟩ => show win0_5.index t 1 * 5632 + d.val = d.val; rw [(idx5 t).2]; omega

theorem emb6 (t : Fin cfg0.N) (a : Fin 3) (d : Fin 5632) : (win0_6.rect t).emb (ix2 a d) = ix2 a d := by
  funext x
  apply Fin.ext
  refine (Pipeline.Window.rect_emb_val win0_6 t _ x).trans ?_
  match x with
  | ⟨0, _⟩ => show win0_6.index t 0 * 3 + a.val = a.val; rw [(idx6 t).1]; omega
  | ⟨1, _⟩ => show win0_6.index t 1 * 5632 + d.val = d.val; rw [(idx6 t).2]; omega

theorem emb7 (t : Fin cfg0.N) (a : Fin 1) (d : Fin 5632) : (win0_7.rect t).emb (ix2 a d) = ix2 a d := by
  funext x
  apply Fin.ext
  refine (Pipeline.Window.rect_emb_val win0_7 t _ x).trans ?_
  match x with
  | ⟨0, _⟩ => show win0_7.index t 0 * 1 + a.val = a.val; rw [(idx7 t).1]; omega
  | ⟨1, _⟩ => show win0_7.index t 1 * 5632 + d.val = d.val; rw [(idx7 t).2]; omega

theorem emb8 (t : Fin cfg0.N) (a : Fin 2816) (d : Fin 1024) : (win0_8.rect t).emb (ix2 a d) = ix2 a d := by
  funext x
  apply Fin.ext
  refine (Pipeline.Window.rect_emb_val win0_8 t _ x).trans ?_
  match x with
  | ⟨0, _⟩ => show win0_8.index t 0 * 2816 + a.val = a.val; rw [(idx8 t).1]; omega
  | ⟨1, _⟩ => show win0_8.index t 1 * 1024 + d.val = d.val; rw [(idx8 t).2]; omega

theorem emb9 (t : Fin cfg0.N) (a : Fin 1) (d : Fin 1024) : (win0_9.rect t).emb (ix2 a d) = ix2 a d := by
  funext x
  apply Fin.ext
  refine (Pipeline.Window.rect_emb_val win0_9 t _ x).trans ?_
  match x with
  | ⟨0, _⟩ => show win0_9.index t 0 * 1 + a.val = a.val; rw [(idx9 t).1]; omega
  | ⟨1, _⟩ => show win0_9.index t 1 * 1024 + d.val = d.val; rw [(idx9 t).2]; omega

theorem emb10 (t : Fin cfg0.N) (a : Fin 128) (d : Fin 5632) : (win0_10.rect t).emb (ix2 a d) = ix2 a d := by
  funext x
  apply Fin.ext
  refine (Pipeline.Window.rect_emb_val win0_10 t _ x).trans ?_
  match x with
  | ⟨0, _⟩ => show win0_10.index t 0 * 128 + a.val = a.val; rw [(idx10 t).1]; omega
  | ⟨1, _⟩ => show win0_10.index t 1 * 5632 + d.val = d.val; rw [(idx10 t).2]; omega

theorem emb11 (t : Fin cfg0.N) (a : Fin 128) (d : Fin 5632) : (win0_11.rect t).emb (ix2 a d) = ix2 a d := by
  funext x
  apply Fin.ext
  refine (Pipeline.Window.rect_emb_val win0_11 t _ x).trans ?_
  match x with
  | ⟨0, _⟩ => show win0_11.index t 0 * 128 + a.val = a.val; rw [(idx11 t).1]; omega
  | ⟨1, _⟩ => show win0_11.index t 1 * 5632 + d.val = d.val; rw [(idx11 t).2]; omega

theorem emb12 (t : Fin cfg0.N) (a : Fin 128) (d : Fin 1024) : (win0_12.rect t).emb (ix2 a d) = ix2 a d := by
  funext x
  apply Fin.ext
  refine (Pipeline.Window.rect_emb_val win0_12 t _ x).trans ?_
  match x with
  | ⟨0, _⟩ => show win0_12.index t 0 * 128 + a.val = a.val; rw [(idx12 t).1]; omega
  | ⟨1, _⟩ => show win0_12.index t 1 * 1024 + d.val = d.val; rw [(idx12 t).2]; omega

theorem emb13 (t : Fin cfg0.N) (a : Fin 128) (d : Fin 5632) : (win0_13.rect t).emb (ix2 a d) = ix2 a d := by
  funext x
  apply Fin.ext
  refine (Pipeline.Window.rect_emb_val win0_13 t _ x).trans ?_
  match x with
  | ⟨0, _⟩ => show win0_13.index t 0 * 128 + a.val = a.val; rw [(idx13 t).1]; omega
  | ⟨1, _⟩ => show win0_13.index t 1 * 5632 + d.val = d.val; rw [(idx13 t).2]; omega

theorem blk0 (t : Fin cfg0.N) (a : Fin 128) (d : Fin 1024) : (iblk m c 0 t : Vec Ideal S128x1024 .f32) (ix2 a d)
    = (m ((c : Thread nD τ).loc main_arg0) : (⟨S128x1x1024, .f32⟩ : BufTy).Contents (Elt Ideal)) (ix3 a 0 d) := by
  show (V m c main_v8 : (⟨S128x1024, .f32⟩ : BufTy).Contents (Elt Ideal)) ((win0_0.rect t).emb (ix2 a d)) = _
  rw [emb0, V_v8]
  exact flat_at _ _ _

theorem blk1 (t : Fin cfg0.N) (a : Fin 128) (d : Fin 512) : (iblk m c 1 t : Vec Ideal S128x512 .bf16) (ix2 a d)
    = (m ((c : Thread nD τ).loc main_arg1) : (⟨S128x512, .bf16⟩ : BufTy).Contents (Elt Ideal)) (ix2 a d) := by
  show (V m c main_arg1 : (⟨S128x512, .bf16⟩ : BufTy).Contents (Elt Ideal)) ((win0_1.rect t).emb (ix2 a d)) = _
  rw [emb1]
  exact congrFun (V_arg1 m c) _

theorem blk2 (t : Fin cfg0.N) (a : Fin 128) (d : Fin 512) : (iblk m c 2 t : Vec Ideal S128x512 .bf16) (ix2 a d)
    = (m ((c : Thread nD τ).loc main_arg2) : (⟨S128x512, .bf16⟩ : BufTy).Contents (Elt Ideal)) (ix2 a d) := by
  show (V m c main_arg2 : (⟨S128x512, .bf16⟩ : BufTy).Contents (Elt Ideal)) ((win0_2.rect t).emb (ix2 a d)) = _
  rw [emb2]
  exact congrFun (V_arg2 m c) _

theorem blk3 (t : Fin cfg0.N) (a : Fin 1024) (d : Fin 1024) : (iblk m c 3 t : Vec Ideal S1024x1024 .bf16) (ix2 a d)
    = (m ((c : Thread nD τ).loc main_arg4) : (⟨S1x1024x1024, .f32⟩ : BufTy).Contents (Elt Ideal)) (ix3 0 a d) := by
  show (V m c main_v1 : (⟨S1024x1024, .bf16⟩ : BufTy).Contents (Elt Ideal)) ((win0_3.rect t).emb (ix2 a d)) = _
  rw [emb3, V_v1]
  exact lead_at _ _ _ _

theorem blk4 (t : Fin cfg0.N) (a : Fin 1) (d : Fin 1024) : (iblk m c 4 t : Vec Ideal S1x1024 .f32) (ix2 a d)
    = (m ((c : Thread nD τ).loc main_arg5) : (⟨S1x1024, .f32⟩ : BufTy).Contents (Elt Ideal)) (ix2 a d) := by
  show (V m c main_arg5 : (⟨S1x1024, .f32⟩ : BufTy).Contents (Elt Ideal)) ((win0_4.rect t).emb (ix2 a d)) = _
  rw [emb4]
  exact congrFun (V_arg5 m c) _

theorem blk5 (t : Fin cfg0.N) (a : Fin 1024) (d : Fin 5632) : (iblk m c 5 t : Vec Ideal S1024x5632 .bf16) (ix2 a d)
    = (m ((c : Thread nD τ).loc main_arg6) : (⟨S1x1024x5632, .f32⟩ : BufTy).Contents (Elt Ideal)) (ix3 0 a d) := by
  show (V m c main_v3 : (⟨S1024x5632, .bf16⟩ : BufTy).Contents (Elt Ideal)) ((win0_5.rect t).emb (ix2 a d)) = _
  rw [emb5, V_v3]
  exact lead_at _ _ _ _

theorem blk6 (t : Fin cfg0.N) (a : Fin 3) (d : Fin 5632) : (iblk m c 6 t : Vec Ideal S3x5632 .f32) (ix2 a d)
    = (m ((c : Thread nD τ).loc main_arg7) : (⟨S1x3x5632, .f32⟩ : BufTy).Contents (Elt Ideal)) (ix3 0 a d) := by
  show (V m c main_v4 : (⟨S3x5632, .f32⟩ : BufTy).Contents (Elt Ideal)) ((win0_6.rect t).emb (ix2 a d)) = _
  rw [emb6, V_v4]
  exact lead_at _ _ _ _

theorem blk7 (t : Fin cfg0.N) (a : Fin 1) (d : Fin 5632) : (iblk m c 7 t : Vec Ideal S1x5632 .f32) (ix2 a d)
    = (m ((c : Thread nD τ).loc main_arg8) : (⟨S1x5632, .f32⟩ : BufTy).Contents (Elt Ideal)) (ix2 a d) := by
  show (V m c main_arg8 : (⟨S1x5632, .f32⟩ : BufTy).Contents (Elt Ideal)) ((win0_7.rect t).emb (ix2 a d)) = _
  rw [emb7]
  exact congrFun (V_arg8 m c) _

theorem blk8 (t : Fin cfg0.N) (a : Fin 2816) (d : Fin 1024) : (iblk m c 8 t : Vec Ideal S2816x1024 .bf16) (ix2 a d)
    = (m ((c : Thread nD τ).loc main_arg9) : (⟨S1x2816x1024, .f32⟩ : BufTy).Contents (Elt Ideal)) (ix3 0 a d) := by
  show (V m c main_v6 : (⟨S2816x1024, .bf16⟩ : BufTy).Contents (Elt Ideal)) ((win0_8.rect t).emb (ix2 a d)) = _
  rw [emb8, V_v6]
  exact lead_at _ _ _ _

theorem blk9 (t : Fin cfg0.N) (d : Fin 1024) : (iblk m c 9 t : Vec Ideal S1x1024 .f32) (ix2 0 d)
    = (m ((c : Thread nD τ).loc main_arg10) : (⟨S1024, .f32⟩ : BufTy).Contents (Elt Ideal)) (ix1 d) := by
  show (V m c main_v7 : (⟨S1x1024, .f32⟩ : BufTy).Contents (Elt Ideal)) ((win0_9.rect t).emb (ix2 0 d)) = _
  rw [emb9, V_v7]
  exact row_at _ _

theorem blk10 (t : Fin cfg0.N) (a : Fin 128) (d : Fin 5632) : (iblk m c 10 t : Vec Ideal S128x5632 .f32) (ix2 a d)
    = (m ((c : Thread nD τ).loc main_arg3) : (⟨S1x128x2x5632, .f32⟩ : BufTy).Contents (Elt Ideal)) (ix4 0 a 0 d) := by
  show (V m c main_v10 : (⟨S128x5632, .f32⟩ : BufTy).Contents (Elt Ideal)) ((win0_10.rect t).emb (ix2 a d)) = _
  rw [emb10, V_v10]
  exact state_at _ 0 0 rfl _ _ _

theorem blk11 (t : Fin cfg0.N) (a : Fin 128) (d : Fin 5632) : (iblk m c 11 t : Vec Ideal S128x5632 .f32) (ix2 a d)
    = (m ((c : Thread nD τ).loc main_arg3) : (⟨S1x128x2x5632, .f32⟩ : BufTy).Contents (Elt Ideal)) (ix4 0 a 1 d) := by
  show (V m c main_v12 : (⟨S128x5632, .f32⟩ : BufTy).Contents (Elt Ideal)) ((win0_11.rect t).emb (ix2 a d)) = _
  rw [emb11, V_v12]
  exact state_at _ 1 1 rfl _ _ _

/-! ## The arrays after the run -/

abbrev wholeY : (⟨S128x1024, .f32⟩ : BufTy).Contents (Elt Ideal) := resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
abbrev wholeK : (⟨S128x5632, .f32⟩ : BufTy).Contents (Elt Ideal) := resK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))

theorem rowR_at (t : Fin cfg0.N) (r : Fin 128) : rowR (iblk m c 0 t) (iblk m c 1 t) (iblk m c 2 t) (iblk m c 3 t) r = resid (m ((c : Thread nD τ).loc main_arg0)) (m ((c : Thread nD τ).loc main_arg1)) (m ((c : Thread nD τ).loc main_arg2)) (m ((c : Thread nD τ).loc main_arg4)) r := by
  unfold rowR
  simp only [blk0, blk1, blk2, blk3]
  rfl

theorem rowU_at (t : Fin cfg0.N) (r : Fin 128) :
    rowU (iblk m c 0 t) (iblk m c 1 t) (iblk m c 2 t) (iblk m c 3 t) (iblk m c 4 t) (iblk m c 5 t) r = upped (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) r := by
  unfold rowU
  rw [rowR_at]
  simp only [blk4, blk5]
  rfl

theorem flushed_y (t : Fin cfg0.N) : (dats m 0 c).flushed 12 t = (win0_12.blk t).view.read (Elt Ideal) (wholeY m c) := by
  rw [Value.flushed12]
  refine funext fun (y : S128x1024.Idx) => ?_
  show out0_12 (F := Ideal) _ _ _ _ _ _ _ _ _ _ _ _ y = wholeY m c ((win0_12.rect t).emb y)
  obtain ⟨a, e, rfl⟩ : ∃ (a : Fin 128) (e : Fin 1024), y = ix2 a e := ⟨y 0, y 1, eq_ix2 y⟩
  rw [out12_at, emb12, rowR_at, rowU_at]
  simp only [blk6, blk7, blk8, blk9, blk10, blk11]
  rfl

theorem flushed_k (t : Fin cfg0.N) : (dats m 0 c).flushed 13 t = (win0_13.blk t).view.read (Elt Ideal) (wholeK m c) := by
  rw [Value.flushed13]
  refine funext fun (y : S128x5632.Idx) => ?_
  show out0_13 (F := Ideal) _ _ _ _ _ _ _ _ _ _ _ _ y = wholeK m c ((win0_13.rect t).emb y)
  obtain ⟨a, e, rfl⟩ : ∃ (a : Fin 128) (e : Fin 5632), y = ix2 a e := ⟨y 0, y 1, eq_ix2 y⟩
  rw [out13_at, emb13, rowU_at]
  rfl

/-- The one point's block is the array. -/
theorem cover_y (i : S128x1024.Idx) : ∃ t : Fin cfg0.N, (cfg0.win 12).flush t = true ∧ i ∈ ((cfg0.win 12).blk t).view.set := by
  have hN : 0 < cfg0.N := by decide
  refine ⟨⟨0, hN⟩, flush0_12 _, ?_⟩
  show i ∈ ((View.whole main_v13_0).slice (win0_12.rect ⟨0, hN⟩)).set
  rw [View.set_slice_whole, Rect.mem_set_unit]
  have b0 : win0_12.index ⟨0, hN⟩ 0 * win0_12.size 0 = 0 := by rw [(idx12 _).1]; rfl
  have b1 : win0_12.index ⟨0, hN⟩ 1 * win0_12.size 1 = 0 := by rw [(idx12 _).2]; rfl
  have h0 : (i 0 : Nat) < 128 := (i 0).isLt
  have h1 : (i 1 : Nat) < 1024 := (i 1).isLt
  intro a
  match a with
  | ⟨0, _⟩ => show win0_12.index ⟨0, hN⟩ 0 * win0_12.size 0 ≤ (i 0 : Nat) ∧ (i 0 : Nat) < win0_12.index ⟨0, hN⟩ 0 * win0_12.size 0 + win0_12.xsize (grid0.coords ⟨0, hN⟩) 0
              rw [b0, (xsz12 _).1]; omega
  | ⟨1, _⟩ => show win0_12.index ⟨0, hN⟩ 1 * win0_12.size 1 ≤ (i 1 : Nat) ∧ (i 1 : Nat) < win0_12.index ⟨0, hN⟩ 1 * win0_12.size 1 + win0_12.xsize (grid0.coords ⟨0, hN⟩) 1
              rw [b1, (xsz12 _).2]; omega

theorem final_y : (dats m 0 c).arrAt 12 cfg0.N = wholeY m c :=
  (dats m 0 c).arrAt_eq_of_cover 12 (wholeY m c) (fun t _ => flushed_y m c t) cover_y

/-- The one point's block is the array. -/
theorem cover_k (i : S128x5632.Idx) : ∃ t : Fin cfg0.N, (cfg0.win 13).flush t = true ∧ i ∈ ((cfg0.win 13).blk t).view.set := by
  have hN : 0 < cfg0.N := by decide
  refine ⟨⟨0, hN⟩, flush0_13 _, ?_⟩
  show i ∈ ((View.whole main_v13_1).slice (win0_13.rect ⟨0, hN⟩)).set
  rw [View.set_slice_whole, Rect.mem_set_unit]
  have b0 : win0_13.index ⟨0, hN⟩ 0 * win0_13.size 0 = 0 := by rw [(idx13 _).1]; rfl
  have b1 : win0_13.index ⟨0, hN⟩ 1 * win0_13.size 1 = 0 := by rw [(idx13 _).2]; rfl
  have h0 : (i 0 : Nat) < 128 := (i 0).isLt
  have h1 : (i 1 : Nat) < 5632 := (i 1).isLt
  intro a
  match a with
  | ⟨0, _⟩ => show win0_13.index ⟨0, hN⟩ 0 * win0_13.size 0 ≤ (i 0 : Nat) ∧ (i 0 : Nat) < win0_13.index ⟨0, hN⟩ 0 * win0_13.size 0 + win0_13.xsize (grid0.coords ⟨0, hN⟩) 0
              rw [b0, (xsz13 _).1]; omega
  | ⟨1, _⟩ => show win0_13.index ⟨0, hN⟩ 1 * win0_13.size 1 ≤ (i 1 : Nat) ∧ (i 1 : Nat) < win0_13.index ⟨0, hN⟩ 1 * win0_13.size 1 + win0_13.xsize (grid0.coords ⟨0, hN⟩) 1
              rw [b1, (xsz13 _).2]; omega

theorem final_k : (dats m 0 c).arrAt 13 cfg0.N = wholeK m c :=
  (dats m 0 c).arrAt_eq_of_cover 13 (wholeK m c) (fun t _ => flushed_k m c t) cover_k

end Cert.Kernel4Ideal.Ffn

end
-- ==== Proof.FfnSampleRef.lean ====
/-
  The reference's output projection, gated MLP and last norm of the sample batch, element by element over the extended reals.
-/
module

public import proofs.«01_k».proof.Proof.FfnSampleSpec
public import proofs.«01_k».proof.Proof.Gen.Reference4Ideal.Read
public import Idealize.ShloMosaic.Lib.ValueLayout
public import Idealize.ShloMosaic.Lib.IdealHost

@[expose] public section

set_option maxRecDepth 16384

noncomputable section

namespace Cert.Reference4Ideal.Ffn

open Cert.Reference4Ideal Cert.Reference4Ideal.Gen Cert.Reference4Ideal.Read Cert.Ffn Cert.FfnSample
open Idealize.ShloMosaic Idealize.ShloMosaic.TcCoe Idealize.ShloMosaic.ValueIdx

variable (x0 : (⟨S128x1x1024, .f32⟩ : BufTy).Contents (Elt Ideal)) (x1 x2 : (⟨S128x512, .bf16⟩ : BufTy).Contents (Elt Ideal))
  (x3 : (⟨S1x128x2x5632, .f32⟩ : BufTy).Contents (Elt Ideal))
  (x4 : (⟨S1x1024x1024, .f32⟩ : BufTy).Contents (Elt Ideal)) (x5 : (⟨S1x1024, .f32⟩ : BufTy).Contents (Elt Ideal))
  (x6 : (⟨S1x1024x5632, .f32⟩ : BufTy).Contents (Elt Ideal)) (x7 : (⟨S1x3x5632, .f32⟩ : BufTy).Contents (Elt Ideal))
  (x8 : (⟨S1x5632, .f32⟩ : BufTy).Contents (Elt Ideal)) (x9 : (⟨S1x2816x1024, .f32⟩ : BufTy).Contents (Elt Ideal))
  (x10 : (⟨S1024, .f32⟩ : BufTy).Contents (Elt Ideal))

theorem v1_at (b : Fin 128) (k : Fin 512) : val_main_v1 (F := Ideal) x1 (ix3 b 0 k) = x1 (ix2 b k) := by
  rw [val_main_v1_apply]
  refine congrArg x1 (funext fun a => Fin.ext ?_)
  match a with
  | ⟨0, _⟩ => show ((b.val * 1 + 0) * 512 + k.val) / 512 = b.val; omega
  | ⟨1, _⟩ => show ((b.val * 1 + 0) * 512 + k.val) % 512 = k.val; omega

theorem v3_at (b : Fin 128) (k : Fin 512) : val_main_v3 (F := Ideal) x2 (ix3 b 0 k) = x2 (ix2 b k) := v1_at x2 b k

theorem off_axis {n : ℕ} (b : Fin 128) (k : Fin 512) (k' : Fin n) :
    ∀ a : Fin 3, a ≠ 2 → ((ix3 b 0 k : S128x1x512.Idx) a).val = ((ix3 b 0 k' : (⟨3, ![128, 1, n]⟩ : Shape).Idx) a).val := fun a ha => by
  match a, ha with
  | ⟨0, _⟩, _ => rfl
  | ⟨1, _⟩, _ => rfl
  | ⟨2, _⟩, ha => exact absurd rfl ha

theorem v4_lo (b : Fin 128) (k : Fin 512) : val_main_v4 (F := Ideal) x1 x2 (ix3 b 0 (lo k)) = x1 (ix2 b k) := by
  unfold val_main_v4
  exact (concatenate_apply_piece (t := S128x1x1024) 2 [⟨S128x1x512, val_main_v1 (F := Ideal) x1⟩, ⟨S128x1x512, val_main_v3 (F := Ideal) x2⟩] _ (ix3 b 0 (lo k)) 0 (show 0 < 2 by decide) S128x1x512
    (val_main_v1 (F := Ideal) x1) rfl rfl 0 rfl (ix3 b 0 k) (off_axis b k (lo k)) (Nat.zero_add _)).trans (v1_at x1 b k)

theorem v4_hi (b : Fin 128) (k : Fin 512) : val_main_v4 (F := Ideal) x1 x2 (ix3 b 0 (hi k)) = x2 (ix2 b k) := by
  unfold val_main_v4
  exact (concatenate_apply_piece (t := S128x1x1024) 2 [⟨S128x1x512, val_main_v1 (F := Ideal) x1⟩, ⟨S128x1x512, val_main_v3 (F := Ideal) x2⟩] _ (ix3 b 0 (hi k)) 1 (show 1 < 2 by decide) S128x1x512
    (val_main_v3 (F := Ideal) x2) rfl rfl 512 rfl (ix3 b 0 k) (off_axis b k (hi k)) rfl).trans (v3_at x2 b k)

theorem v5_at (a : Fin 1024) (d : Fin 1024) : val_main_v5 (F := Ideal) x4 (ix2 a d) = x4 (ix3 0 a d) := by
  rw [val_main_v5_apply]
  refine congrArg x4 (funext fun y => Fin.ext ?_)
  match y with
  | ⟨0, _⟩ => rfl
  | ⟨1, _⟩ => show (a.val * 1024 + d.val) / 1024 % 1024 = a.val; omega
  | ⟨2, _⟩ => show (a.val * 1024 + d.val) % 1024 = d.val; omega

theorem v22_at (a : Fin 1024) (d : Fin 5632) : val_main_v22 (F := Ideal) x6 (ix2 a d) = x6 (ix3 0 a d) := by
  rw [val_main_v22_apply]
  refine congrArg x6 (funext fun y => Fin.ext ?_)
  match y with
  | ⟨0, _⟩ => rfl
  | ⟨1, _⟩ => show (a.val * 5632 + d.val) / 5632 % 1024 = a.val; omega
  | ⟨2, _⟩ => show (a.val * 5632 + d.val) % 5632 = d.val; omega

theorem v26_at (a : Fin 3) (d : Fin 5632) : val_main_v26 (F := Ideal) x7 (ix2 a d) = x7 (ix3 0 a d) := by
  rw [val_main_v26_apply]
  refine congrArg x7 (funext fun y => Fin.ext ?_)
  match y with
  | ⟨0, _⟩ => rfl
  | ⟨1, _⟩ => show (a.val * 5632 + d.val) / 5632 % 3 = a.val; omega
  | ⟨2, _⟩ => show (a.val * 5632 + d.val) % 5632 = d.val; omega

theorem v55_at (a : Fin 2816) (d : Fin 1024) : val_main_v55 (F := Ideal) x9 (ix2 a d) = x9 (ix3 0 a d) := by
  rw [val_main_v55_apply]
  refine congrArg x9 (funext fun y => Fin.ext ?_)
  match y with
  | ⟨0, _⟩ => rfl
  | ⟨1, _⟩ => show (a.val * 1024 + d.val) / 1024 % 2816 = a.val; omega
  | ⟨2, _⟩ => show (a.val * 1024 + d.val) % 1024 = d.val; omega

/-- The residual stream after the mixers. -/
theorem v7_at (b : Fin 128) (j : Fin 1024) : val_main_v7 (F := Ideal) x0 x1 x2 x4 (ix3 b 0 j) = resid x0 x1 x2 x4 b j := by
  rw [val_main_v7_apply, val_main_v6_apply]
  have el : ∀ k, lidx_main_v6 (ix3 b 0 j) k = ix3 b 0 k := fun k => by
    funext a; match a with | ⟨0, _⟩ => rfl | ⟨1, _⟩ => rfl | ⟨2, _⟩ => rfl
  have er : ∀ k, ridx_main_v6 (ix3 b 0 j) k = ix2 k j := fun k => by
    funext a; match a with | ⟨0, _⟩ => rfl | ⟨1, _⟩ => rfl
  simp only [el, er, v5_at]
  rw [sum_halves]
  simp only [v4_lo, v4_hi]
  rfl

/-- The norm the up-projection takes. -/
theorem v21_at (b : Fin 128) (j : Fin 1024) :
    val_main_v21 (F := Ideal) x0 x1 x2 x4 x5 (ix3 b 0 j) = rms (resid x0 x1 x2 x4 b) (fun j => x5 (ix2 0 j)) j := by
  rw [val_main_v21_apply, val_main_v18_apply, val_main_v17_apply, val_main_v16_apply, val_main_v15_apply, val_main_v13_apply, val_main_v11_apply, val_main_v10_apply,
    val_main_v20_apply, val_main_v19_apply, val_main_v8_apply, v7_at]
  have e1 : ∀ k, val_main_v9 (F := Ideal) x0 x1 x2 x4 (idx_main_v10 (idx_main_v11 (idx_main_v17 (ix3 b 0 j))) k) = resid x0 x1 x2 x4 b k * resid x0 x1 x2 x4 b k := fun k => by
    have e : idx_main_v10 (idx_main_v11 (idx_main_v17 (ix3 b 0 j))) k = ix3 b 0 k := by
      funext a; match a with | ⟨0, _⟩ => rfl | ⟨1, _⟩ => rfl | ⟨2, _⟩ => rfl
    rw [e, val_main_v9_apply, v7_at]
    rfl
  have e2 : idx_main_v8 (idx_main_v19 (idx_main_v20 (ix3 b 0 j))) = ix2 0 j := by
    funext a
    apply Fin.ext
    match a with
    | ⟨0, _⟩ => rfl
    | ⟨1, _⟩ => first | rfl | (show j.val % 1024 = j.val; omega)
  simp only [e1]
  rw [e2]
  show resid x0 x1 x2 x4 b j * Ideal.rsqrt (Ideal.div (Ideal.ofBits .f32 0x00000000#32 + _) dim + eps) * x5 (ix2 0 j) = _
  rw [Ideal.ofBits_zero_f32, zero_add]
  rfl

theorem v23_at (b : Fin 128) (d : Fin 5632) : val_main_v23 (F := Ideal) x0 x1 x2 x4 x5 x6 (ix3 b 0 d) = upped x0 x1 x2 x4 x5 x6 b d := by
  rw [val_main_v23_apply]
  have el : ∀ k, lidx_main_v23 (ix3 b 0 d) k = ix3 b 0 k := fun k => by
    funext a; match a with | ⟨0, _⟩ => rfl | ⟨1, _⟩ => rfl | ⟨2, _⟩ => rfl
  have er : ∀ k, ridx_main_v23 (ix3 b 0 d) k = ix2 k d := fun k => by
    funext a; match a with | ⟨0, _⟩ => rfl | ⟨1, _⟩ => rfl
  simp only [el, er, v22_at, v21_at]
  rfl

theorem v24_at (b : Fin 128) (k : Fin 2) (d : Fin 5632) : val_main_v24 (F := Ideal) x3 (ix3 b k d) = before x3 b k d := by
  rw [val_main_v24_apply]
  refine congrArg x3 (funext fun y => Fin.ext ?_)
  match y with
  | ⟨0, _⟩ => rfl
  | ⟨1, _⟩ => show ((b.val * 2 + k.val) * 5632 + d.val) / 11264 % 128 = b.val; omega
  | ⟨2, _⟩ => show ((b.val * 2 + k.val) * 5632 + d.val) / 5632 % 2 = k.val; omega
  | ⟨3, _⟩ => show ((b.val * 2 + k.val) * 5632 + d.val) % 5632 = d.val; omega

theorem off_mid {n : ℕ} (b : Fin 128) (k : Fin n) (k' : Fin 3) (d : Fin 5632) :
    ∀ a : Fin 3, a ≠ 1 → ((ix3 b k d : (⟨3, ![128, n, 5632]⟩ : Shape).Idx) a).val = ((ix3 b k' d : S128x3x5632.Idx) a).val := fun a ha => by
  match a, ha with
  | ⟨0, _⟩, _ => rfl
  | ⟨1, _⟩, ha => exact absurd rfl ha
  | ⟨2, _⟩, _ => rfl

/-- The buffer of the state's two rows and the up-projected row. -/
theorem v25_state (b : Fin 128) (k : Fin 2) (n : Fin 3) (hn : n.val = k.val) (d : Fin 5632) :
    val_main_v25 (F := Ideal) x0 x1 x2 x3 x4 x5 x6 (ix3 b n d) = before x3 b k d := by
  unfold val_main_v25
  exact (concatenate_apply_piece (t := S128x3x5632) 1 [⟨S128x2x5632, val_main_v24 (F := Ideal) x3⟩, ⟨S128x1x5632, val_main_v23 (F := Ideal) x0 x1 x2 x4 x5 x6⟩] _ (ix3 b n d) 0 (show 0 < 2 by decide) S128x2x5632
    (val_main_v24 (F := Ideal) x3) rfl rfl 0 rfl (ix3 b k d) (off_mid b k n d) ((Nat.zero_add _).trans hn.symm)).trans (v24_at x3 b k d)

theorem v25_new (b : Fin 128) (d : Fin 5632) :
    val_main_v25 (F := Ideal) x0 x1 x2 x3 x4 x5 x6 (ix3 b 2 d) = upped x0 x1 x2 x4 x5 x6 b d := by
  unfold val_main_v25
  exact (concatenate_apply_piece (t := S128x3x5632) 1 [⟨S128x2x5632, val_main_v24 (F := Ideal) x3⟩, ⟨S128x1x5632, val_main_v23 (F := Ideal) x0 x1 x2 x4 x5 x6⟩] _ (ix3 b 2 d) 1 (show 1 < 2 by decide) S128x1x5632
    (val_main_v23 (F := Ideal) x0 x1 x2 x4 x5 x6) rfl rfl 2 rfl (ix3 b 0 d) (off_mid b 0 2 d) rfl).trans (v23_at x0 x1 x2 x4 x5 x6 b d)

theorem v32_at (b : Fin 128) (d : Fin 5632) : val_main_v32 (F := Ideal) x7 (ix3 b 0 d) = x7 (ix3 0 0 d) := by
  rw [val_main_v32_apply, val_main_v31_apply, val_main_v29_apply, val_main_v28_apply]
  have e : (idx_main_v28 (idx_main_v29 (idx_main_v31 (idx_main_v32 (ix3 b 0 d))))) = ix2 0 d := by
    funext a
    apply Fin.ext
    match a with
    | ⟨0, _⟩ => rfl
    | ⟨1, _⟩ => first | rfl | (show d.val % 5632 = d.val; omega)
  rw [e, v26_at]

theorem v41_at (b : Fin 128) (d : Fin 5632) : val_main_v41 (F := Ideal) x7 (ix3 b 0 d) = x7 (ix3 0 1 d) := by
  rw [val_main_v41_apply, val_main_v40_apply, val_main_v38_apply, val_main_v37_apply]
  have e : (idx_main_v37 (idx_main_v38 (idx_main_v40 (idx_main_v41 (ix3 b 0 d))))) = ix2 1 d := by
    funext a
    apply Fin.ext
    match a with
    | ⟨0, _⟩ => rfl
    | ⟨1, _⟩ => first | rfl | (show d.val % 5632 = d.val; omega)
  rw [e, v26_at]

theorem v48_at (b : Fin 128) (d : Fin 5632) : val_main_v48 (F := Ideal) x7 (ix3 b 0 d) = x7 (ix3 0 2 d) := by
  rw [val_main_v48_apply, val_main_v47_apply, val_main_v45_apply, val_main_v44_apply]
  have e : (idx_main_v44 (idx_main_v45 (idx_main_v47 (idx_main_v48 (ix3 b 0 d))))) = ix2 2 d := by
    funext a
    apply Fin.ext
    match a with
    | ⟨0, _⟩ => rfl
    | ⟨1, _⟩ => first | rfl | (show d.val % 5632 = d.val; omega)
  rw [e, v26_at]

theorem v35_at (b : Fin 128) (d : Fin 5632) : val_main_v35 (F := Ideal) x8 (ix3 b 0 d) = x8 (ix2 0 d) := by
  rw [val_main_v35_apply, val_main_v34_apply, val_main_v27_apply]
  refine congrArg x8 (funext fun a => Fin.ext ?_)
  match a with
  | ⟨0, _⟩ => rfl
  | ⟨1, _⟩ => first | rfl | (show d.val % 5632 = d.val; omega)

theorem v50_at (b : Fin 128) (d : Fin 5632) :
    val_main_v50 (F := Ideal) x0 x1 x2 x3 x4 x5 x6 x7 x8 (ix3 b 0 d) = around x0 x1 x2 x3 x4 x5 x6 x7 x8 b d := by
  have e0 : idx_main_v30 (ix3 b 0 d) = ix3 b (0 : Fin 3) d := by
    funext a; match a with | ⟨0, _⟩ => rfl | ⟨1, _⟩ => rfl | ⟨2, _⟩ => rfl
  have e1 : idx_main_v39 (ix3 b 0 d) = ix3 b (1 : Fin 3) d := by
    funext a; match a with | ⟨0, _⟩ => rfl | ⟨1, _⟩ => rfl | ⟨2, _⟩ => rfl
  have e2 : idx_main_v46 (ix3 b 0 d) = ix3 b (2 : Fin 3) d := by
    funext a; match a with | ⟨0, _⟩ => rfl | ⟨1, _⟩ => rfl | ⟨2, _⟩ => rfl
  rw [val_main_v50_apply, val_main_v43_apply, val_main_v36_apply, val_main_v33_apply, val_main_v42_apply, val_main_v49_apply, val_main_v30_apply, val_main_v39_apply, val_main_v46_apply,
    v32_at, v41_at, v48_at, v35_at, e0, e1, e2, v25_state x0 x1 x2 x3 x4 x5 x6 b 0 0 rfl, v25_state x0 x1 x2 x3 x4 x5 x6 b 1 1 rfl, v25_new]
  rfl

theorem v54_at (b : Fin 128) (k : Fin 2816) :
    val_main_v54 (F := Ideal) x0 x1 x2 x3 x4 x5 x6 x7 x8 (ix3 b 0 k) = act (around x0 x1 x2 x3 x4 x5 x6 x7 x8 b) k := by
  have eg : idx_main_v51 (ix3 b 0 k) = ix3 b 0 (gate k) := by
    funext a; match a with | ⟨0, _⟩ => rfl | ⟨1, _⟩ => rfl | ⟨2, _⟩ => rfl
  have ev : idx_main_v52 (ix3 b 0 k) = ix3 b 0 (val k) := by
    funext a; match a with | ⟨0, _⟩ => rfl | ⟨1, _⟩ => rfl | ⟨2, _⟩ => rfl
  rw [val_main_v54_apply, val_main_v53_apply, val_main_v52_apply, val_main_call0_v5_apply, val_main_call0_v3_apply, val_main_call0_v1_apply, val_main_call0_v0_apply,
    val_main_v51_apply, eg, ev, v50_at, v50_at]
  rfl

theorem v57_at (b : Fin 128) (j : Fin 1024) :
    val_main_v57 (F := Ideal) x0 x1 x2 x3 x4 x5 x6 x7 x8 x9 (ix3 b 0 j)
      = resid x0 x1 x2 x4 b j + ∑ k : Fin 2816, act (around x0 x1 x2 x3 x4 x5 x6 x7 x8 b) k * x9 (ix3 0 k j) := by
  rw [val_main_v57_apply, val_main_v56_apply, v7_at]
  have el : ∀ k, lidx_main_v56 (ix3 b 0 j) k = ix3 b 0 k := fun k => by
    funext a; match a with | ⟨0, _⟩ => rfl | ⟨1, _⟩ => rfl | ⟨2, _⟩ => rfl
  have er : ∀ k, ridx_main_v56 (ix3 b 0 j) k = ix2 k j := fun k => by
    funext a; match a with | ⟨0, _⟩ => rfl | ⟨1, _⟩ => rfl
  simp only [el, er, v55_at, v54_at]
  rfl

theorem v70_at (b : Fin 128) (j : Fin 1024) :
    val_main_v70 (F := Ideal) x0 x1 x2 x3 x4 x5 x6 x7 x8 x9 x10 (ix3 b 0 j) = final x0 x1 x2 x3 x4 x5 x6 x7 x8 x9 x10 b j := by
  rw [val_main_v70_apply, val_main_v67_apply, val_main_v66_apply, val_main_v65_apply, val_main_v64_apply, val_main_v62_apply, val_main_v60_apply, val_main_v59_apply,
    val_main_v69_apply, val_main_v68_apply, v57_at]
  have e1 : ∀ k, val_main_v58 (F := Ideal) x0 x1 x2 x3 x4 x5 x6 x7 x8 x9 (idx_main_v59 (idx_main_v60 (idx_main_v66 (ix3 b 0 j))) k)
      = (resid x0 x1 x2 x4 b k + ∑ q : Fin 2816, act (around x0 x1 x2 x3 x4 x5 x6 x7 x8 b) q * x9 (ix3 0 q k)) * (resid x0 x1 x2 x4 b k + ∑ q : Fin 2816, act (around x0 x1 x2 x3 x4 x5 x6 x7 x8 b) q * x9 (ix3 0 q k)) := fun k => by
    have e : idx_main_v59 (idx_main_v60 (idx_main_v66 (ix3 b 0 j))) k = ix3 b 0 k := by
      funext a; match a with | ⟨0, _⟩ => rfl | ⟨1, _⟩ => rfl | ⟨2, _⟩ => rfl
    rw [e, val_main_v58_apply, v57_at]
    rfl
  have e2 : idx_main_v68 (idx_main_v69 (ix3 b 0 j)) = ix1 j := by
    funext a
    match a with
    | ⟨0, _⟩ => rfl
  simp only [e1]
  rw [e2]
  show (_ : EReal) * Ideal.rsqrt (Ideal.div (Ideal.ofBits .f32 0x00000000#32 + _) dim + eps) * x10 (ix1 j) = _
  rw [Ideal.ofBits_zero_f32, zero_add]
  rfl

/-- The reference's first result. -/
theorem v71_eq : val_main_v71 (F := Ideal) x0 x1 x2 x3 x4 x5 x6 x7 x8 x9 x10 = resY x0 x1 x2 x3 x4 x5 x6 x7 x8 x9 x10 := by
  refine funext fun (i : S128x1024.Idx) => ?_
  obtain ⟨b, j, rfl⟩ : ∃ (b : Fin 128) (j : Fin 1024), i = ix2 b j := ⟨i 0, i 1, eq_ix2 i⟩
  have e : idx_main_v71 (ix2 b j) = ix3 b 0 j := by
    funext a
    apply Fin.ext
    match a with
    | ⟨0, _⟩ => show (b.val * 1024 + j.val) / 1024 = b.val; omega
    | ⟨1, _⟩ => rfl
    | ⟨2, _⟩ => show (b.val * 1024 + j.val) % 1024 = j.val; omega
  rw [val_main_v71_apply, e, v70_at]
  rfl

/-- The reference's second result. -/
theorem v73_eq : val_main_v73 (F := Ideal) x0 x1 x2 x3 x4 x5 x6 = resK x0 x1 x2 x4 x5 x6 := by
  refine funext fun (i : S128x5632.Idx) => ?_
  obtain ⟨b, d, rfl⟩ : ∃ (b : Fin 128) (d : Fin 5632), i = ix2 b d := ⟨i 0, i 1, eq_ix2 i⟩
  have e : idx_main_v72 (idx_main_v73 (ix2 b d)) = ix3 b (2 : Fin 3) d := by
    funext a
    apply Fin.ext
    match a with
    | ⟨0, _⟩ => show (b.val * 5632 + d.val) / 5632 = b.val; omega
    | ⟨1, _⟩ => rfl
    | ⟨2, _⟩ => show (b.val * 5632 + d.val) % 5632 = d.val; omega
  rw [val_main_v73_apply, val_main_v72_apply, e, v25_new]
  rfl

end Cert.Reference4Ideal.Ffn

end
-- ==== Proof.FfnSampleClaims.lean ====
/-
  The claims about the sample batch's output projection and gated MLP: both kernels' frames, the reference's frame, and the equation of the
  kernel's two results with the reference's over the extended reals.
-/
module

public import proofs.«01_k».proof.Defs
public import proofs.«01_k».proof.Proof.Gen.Kernel4
public import proofs.«01_k».proof.Proof.FfnSampleWhole
public import proofs.«01_k».proof.Proof.FfnSampleRef
public import proofs.«01_k».proof.Proof.Gen.Reference4Ideal.Run

@[expose] public section

set_option maxRecDepth 16384

noncomputable section

namespace Cert.FfnSampleClaims

open Idealize.ShloMosaic Idealize.ShloMosaic.TcCoe Idealize.SL.Sem
open Cert.Kernel4Ideal.Ffn (wholeY wholeK final_y final_k)

/-- The two kernels' bodies have one text. -/
theorem bodies_eq : Cert.Kernel4.defs₀ (F := Bits) = Cert.Kernel4Ideal.defs₀ (F := Bits) := by
  unfold Cert.Kernel4.defs₀ Cert.Kernel4Ideal.defs₀
  congr 1
  refine funext fun i => ?_
  match i with
  | ⟨0, _⟩ => rfl

theorem defs_eq : Cert.Kernel4.defs (F := Bits) = Cert.Kernel4Ideal.defs (F := Bits) :=
  congrArg (fun d => Pipeline.defs (Cert.Kernel4Ideal.pcfgs (F := Bits)) d) bodies_eq

theorem frame_kernel : Cert.quiescent_Kernel4 := fun m ρ _ => by
  rw [defs_eq]
  exact (θ_run Cert.Kernel4Ideal.defs _ _).mono (fun _ h => h) (Cert.Kernel4Ideal.Gen.frame (F := Bits) m ρ)

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem preserves : Cert.preserves_Kernel4_Kernel4Ideal := trivial

/-- The kernel's result arrays and the reference's are one function of the arguments each. -/
theorem algebraic : Cert.algebraic_Kernel4Ideal_Reference4Ideal := by
  intro m ρ m' ρ' _ hag
  refine ⟨fun c => wholeY m c, fun c => wholeK m c, ?_, ?_⟩
  · exact (θ_run Cert.Kernel4Ideal.defs _ _).mono
      (fun r h c => ⟨(h c).1.trans (final_y m c), (h c).2.1.trans (final_k m c), (h c).2.2⟩)
      (Cert.Kernel4Ideal.Value.run_blocks m ρ)
  · refine (θ_run Cert.Reference4Ideal.defs _ _).mono (fun r h c => ⟨(h c).1.trans ?_, (h c).2.1.trans ?_, (h c).2.2⟩) (Cert.Reference4Ideal.Value.run (F := Ideal) m' ρ')
    · obtain ⟨e0, e1, e2, e3, e4, e5, e6, e7, e8, e9, e10⟩ := hag c
      rw [Cert.Reference4Ideal.Read.val_main_v71_eq]
      refine (Cert.Reference4Ideal.Ffn.v71_eq _ _ _ _ _ _ _ _ _ _ _).trans ?_
      rw [e0, e1, e2, e3, e4, e5, e6, e7, e8, e9, e10]
    · obtain ⟨e0, e1, e2, e3, e4, e5, e6, e7, e8, e9, e10⟩ := hag c
      refine (Cert.Reference4Ideal.Read.val_main_v73_eq _ _ _ _ _ _ _).trans ((Cert.Reference4Ideal.Ffn.v73_eq _ _ _ _ _ _ _).trans ?_)
      rw [e0, e1, e2, e4, e5, e6]

end Cert.FfnSampleClaims

end
-- ==== Proof.InSampleFrame.lean ====
/-
  The launch of the in-projection call over the sample batch, at any values. The 128 tokens are normed and multiplied by the columns of
  the projection; `out0_k` is what the body leaves in window `k`'s staging buffer, as a function of the three input blocks. The keys
  and values are stored a head at a time, every fourth row of their block.
-/
module

public import proofs.«01_k».proof.Proof.Gen.Kernel5Ideal.Frame
public import proofs.«01_k».proof.Proof.Gen.Kernel5Ideal.Skeleton
public import Idealize.ShloMosaic.Lib.Claim

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

abbrev rX : Rect S128x1024 := Rect.unit (s := S128x1024) ![0, 0] S128x1024.size inb_S128x1024_S128x1024_0_0
abbrev rG : Rect S1x1024 := Rect.unit (s := S1x1024) ![0, 0] S1x1024.size inb_S1x1024_S1x1024_0_0
abbrev rO : Rect S128x512 := Rect.unit (s := S128x512) ![0, 0] S128x512.size inb_S128x512_S128x512_0_0
abbrev rD : Rect S128x128 := Rect.unit (s := S128x128) ![0, 0] S128x128.size inb_S128x128_S128x128_0_0

/-- The columns of the projection for the queries, keys, values, gates, the branch's inputs and its step sizes. -/
abbrev wq : Rect S1024x3200 := Rect.unit (s := S1024x3200) ![0, 0] S1024x512.size inb_S1024x3200_S1024x512_0_0
abbrev wk : Rect S1024x3200 := Rect.unit (s := S1024x3200) ![0, 512] S1024x512.size inb_S1024x3200_S1024x512_0_512
abbrev wv : Rect S1024x3200 := Rect.unit (s := S1024x3200) ![0, 1024] S1024x512.size inb_S1024x3200_S1024x512_0_1024
abbrev wz : Rect S1024x3200 := Rect.unit (s := S1024x3200) ![0, 1536] S1024x512.size inb_S1024x3200_S1024x512_0_1536
abbrev wb : Rect S1024x3200 := Rect.unit (s := S1024x3200) ![0, 2048] S1024x1024.size inb_S1024x3200_S1024x1024_0_2048
abbrev wt : Rect S1024x3200 := Rect.unit (s := S1024x3200) ![0, 3072] S1024x128.size inb_S1024x3200_S1024x128_0_3072

/-- The rows of head `h` of a block of keys or values: every fourth from `h`. -/
abbrev h0 : Rect S512x128 := ⟨(⟨![0, 0], S128x128.size, ![4, 1], inb_S512x128_S128x128_0_0_s_4_1⟩ : LoadRect S512x128), spos_4_1⟩
abbrev h1 : Rect S512x128 := ⟨(⟨![1, 0], S128x128.size, ![4, 1], inb_S512x128_S128x128_1_0_s_4_1⟩ : LoadRect S512x128), spos_4_1⟩
abbrev h2 : Rect S512x128 := ⟨(⟨![2, 0], S128x128.size, ![4, 1], inb_S512x128_S128x128_2_0_s_4_1⟩ : LoadRect S512x128), spos_4_1⟩
abbrev h3 : Rect S512x128 := ⟨(⟨![3, 0], S128x128.size, ![4, 1], inb_S512x128_S128x128_3_0_s_4_1⟩ : LoadRect S512x128), spos_4_1⟩

/-- The rows of head `h` of a block of transposed values. -/
abbrev t0 : Rect S512x128 := Rect.unit (s := S512x128) ![0, 0] S128x128.size inb_S512x128_S128x128_0_0
abbrev t1 : Rect S512x128 := Rect.unit (s := S512x128) ![128, 0] S128x128.size inb_S512x128_S128x128_128_0
abbrev t2 : Rect S512x128 := Rect.unit (s := S512x128) ![256, 0] S128x128.size inb_S512x128_S128x128_256_0
abbrev t3 : Rect S512x128 := Rect.unit (s := S512x128) ![384, 0] S128x128.size inb_S512x128_S128x128_384_0

/-- The normed rows, the keys and the values of a tile. -/
def hn (x0 : Vec F S128x1024 .f32) (x1 : Vec F S1x1024 .f32) : FVec F S128x1024 .bf16 := k0_pay4 (View.ld x0 rX) (View.ld x1 rG)
def kk (x0 : Vec F S128x1024 .f32) (x1 : Vec F S1x1024 .f32) (x2 : Vec F S1024x3200 .bf16) : FVec F S128x512 .f32 := k0_pay6 (View.ld x0 rX) (View.ld x1 rG) (View.ld x2 wk)
def vv (x0 : Vec F S128x1024 .f32) (x1 : Vec F S1x1024 .f32) (x2 : Vec F S1024x3200 .bf16) : FVec F S128x512 .f32 := k0_pay8 (View.ld x0 rX) (View.ld x1 rG) (View.ld x2 wv)

/-- The pieces the keys and the values are stored in, the last first. -/
def pk (p : FVec F S128x512 .f32) : List (View.Piece (Elt F) S512x128 .f32) :=
  [⟨h3, k0_pay19 p⟩, ⟨h2, k0_pay17 p⟩, ⟨h1, k0_pay15 p⟩, ⟨h0, k0_pay13 p⟩]
def pv (p : FVec F S128x512 .f32) : List (View.Piece (Elt F) S512x128 .f32) :=
  [⟨h3, k0_pay20 p⟩, ⟨h2, k0_pay18 p⟩, ⟨h1, k0_pay16 p⟩, ⟨h0, k0_pay14 p⟩]
def pt (x0 : Vec F S128x1024 .f32) (x1 : Vec F S1x1024 .f32) (x2 : Vec F S1024x3200 .bf16) : List (View.Piece (Elt F) S512x128 .bf16) :=
  [⟨t3, k0_pay12 (vv x0 x1 x2)⟩, ⟨t2, k0_pay11 (vv x0 x1 x2)⟩, ⟨t1, k0_pay10 (vv x0 x1 x2)⟩, ⟨t0, k0_pay9 (View.ld x0 rX) (View.ld x1 rG) (View.ld x2 wv)⟩]

/-- The staging buffers of the eight results after the body. -/
def out0_3 (x0 : Vec F S128x1024 .f32) (x1 : Vec F S1x1024 .f32) (x2 : Vec F S1024x3200 .bf16) : Vec F S128x512 .bf16 := View.canon [⟨rO, k0_pay5 (View.ld x0 rX) (View.ld x1 rG) (View.ld x2 wq)⟩]
def out0_4 (x0 : Vec F S128x1024 .f32) (x1 : Vec F S1x1024 .f32) (x2 : Vec F S1024x3200 .bf16) : Vec F S512x128 .f32 := View.canon (pk (kk x0 x1 x2))
def out0_5 (x0 : Vec F S128x1024 .f32) (x1 : Vec F S1x1024 .f32) (x2 : Vec F S1024x3200 .bf16) : Vec F S512x128 .f32 := View.canon (pv (vv x0 x1 x2))
def out0_6 (x0 : Vec F S128x1024 .f32) (x1 : Vec F S1x1024 .f32) (x2 : Vec F S1024x3200 .bf16) : Vec F S128x512 .bf16 := View.canon [⟨rO, k0_pay7 (View.ld x0 rX) (View.ld x1 rG) (View.ld x2 wk)⟩]
def out0_7 (x0 : Vec F S128x1024 .f32) (x1 : Vec F S1x1024 .f32) (x2 : Vec F S1024x3200 .bf16) : Vec F S512x128 .bf16 := View.canon (pt x0 x1 x2)
def out0_8 (x0 : Vec F S128x1024 .f32) (x1 : Vec F S1x1024 .f32) (x2 : Vec F S1024x3200 .bf16) : Vec F S128x512 .bf16 := View.canon [⟨rO, k0_pay1 (hn x0 x1) (View.ld x2 wz)⟩]
def out0_9 (x0 : Vec F S128x1024 .f32) (x1 : Vec F S1x1024 .f32) (x2 : Vec F S1024x3200 .bf16) : Vec F S128x1024 .f32 := View.canon [⟨rX, k0_pay2 (hn x0 x1) (View.ld x2 wb)⟩]
def out0_10 (x0 : Vec F S128x1024 .f32) (x1 : Vec F S1x1024 .f32) (x2 : Vec F S1024x3200 .bf16) : Vec F S128x128 .f32 := View.canon [⟨rD, k0_pay3 (hn x0 x1) (View.ld x2 wt)⟩]

theorem coverO (p0 : Vec F S128x512 .bf16) (y : S128x512.Idx) :
    ∃ pc ∈ ([⟨rO, p0⟩] : List (View.Piece (Elt F) S128x512 .bf16)), y ∈ pc.1.set :=
  View.cover_of_tiled [⟨rO, p0⟩] S128x512.size (by rfl) y
theorem coverX (p0 : Vec F S128x1024 .f32) (y : S128x1024.Idx) :
    ∃ pc ∈ ([⟨rX, p0⟩] : List (View.Piece (Elt F) S128x1024 .f32)), y ∈ pc.1.set :=
  View.cover_of_tiled [⟨rX, p0⟩] S128x1024.size (by rfl) y
theorem coverD (p0 : Vec F S128x128 .f32) (y : S128x128.Idx) :
    ∃ pc ∈ ([⟨rD, p0⟩] : List (View.Piece (Elt F) S128x128 .f32)), y ∈ pc.1.set :=
  View.cover_of_tiled [⟨rD, p0⟩] S128x128.size (by rfl) y
theorem coverT (p3 p2 p1 p0 : Vec F S128x128 .bf16) (y : S512x128.Idx) :
    ∃ pc ∈ ([⟨t3, p3⟩, ⟨t2, p2⟩, ⟨t1, p1⟩, ⟨t0, p0⟩] : List (View.Piece (Elt F) S512x128 .bf16)), y ∈ pc.1.set :=
  View.cover_of_tiled [⟨t3, p3⟩, ⟨t2, p2⟩, ⟨t1, p1⟩, ⟨t0, p0⟩] S128x128.size (by rfl) y

/-- A row is head `h`'s where it is `h` modulo four. -/
theorem mem_head (l : LoadRect S512x128) (hp : ∀ a, 0 < l.stride a) (h : ℕ) (e0 : l.off 0 = h) (e1 : l.off 1 = 0) (s0 : l.stride 0 = 4) (s1 : l.stride 1 = 1)
    (z0 : l.size 0 = 128) (z1 : l.size 1 = 128) (y : S512x128.Idx) (hy : (y 0 : ℕ) % 4 = h) : y ∈ (⟨l, hp⟩ : Rect S512x128).set := by
  have b0 : (y 0 : ℕ) < 512 := (y 0).isLt
  have b1 : (y 1 : ℕ) < 128 := (y 1).isLt
  refine (LoadRect.mem_set _).mpr fun a => ?_
  match a with
  | ⟨0, _⟩ => exact ⟨(y 0 : ℕ) / 4, by show _ < l.size 0; omega, by show (y 0 : ℕ) = l.off 0 + l.stride 0 * _; rw [e0, s0]; omega⟩
  | ⟨1, _⟩ => exact ⟨(y 1 : ℕ), by show _ < l.size 1; omega, by show (y 1 : ℕ) = l.off 1 + l.stride 1 * _; rw [e1, s1]; omega⟩

theorem coverH (p3 p2 p1 p0 : Vec F S128x128 .f32) (y : S512x128.Idx) :
    ∃ pc ∈ ([⟨h3, p3⟩, ⟨h2, p2⟩, ⟨h1, p1⟩, ⟨h0, p0⟩] : List (View.Piece (Elt F) S512x128 .f32)), y ∈ pc.1.set := by
  have h : (y 0 : ℕ) % 4 = 0 ∨ (y 0 : ℕ) % 4 = 1 ∨ (y 0 : ℕ) % 4 = 2 ∨ (y 0 : ℕ) % 4 = 3 := by omega
  rcases h with h | h | h | h
  · exact ⟨⟨h0, p0⟩, by simp, mem_head _ _ 0 rfl rfl rfl rfl rfl rfl y h⟩
  · exact ⟨⟨h1, p1⟩, by simp, mem_head _ _ 1 rfl rfl rfl rfl rfl rfl y h⟩
  · exact ⟨⟨h2, p2⟩, by simp, mem_head _ _ 2 rfl rfl rfl rfl rfl rfl y h⟩
  · exact ⟨⟨h3, p3⟩, by simp, mem_head _ _ 3 rfl rfl rfl rfl rfl rfl y h⟩

/-! ## The body's triple -/

set_option maxHeartbeats 4000000 in
theorem sound_kernel (c : Dev nD) (E : Set ℕ) (i : grid0.Coords) (arg1 : Memref sig .tc .vmem S128x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S128x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S128x1024 .f32) (harg10 : arg10.IsWhole) (arg11 : Memref sig .tc .vmem S128x128 .f32) (harg11 : arg11.IsWhole)
    (x0 : Vec F S128x1024 .f32) (x1 : Vec F S1x1024 .f32) (x2 : Vec F S1024x3200 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2) ∗ owns (c : Thread nD τ) arg8 fullShare (out0_7 x0 x1 x2) ∗ owns (c : Thread nD τ) arg9 fullShare (out0_8 x0 x1 x2) ∗ owns (c : Thread nD τ) arg10 fullShare (out0_9 x0 x1 x2) ∗ owns (c : Thread nD τ) arg11 fullShare (out0_10 x0 x1 x2)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (coverO _)).trans ?_
    unfold out0_3
    rfl
  isplitl [H4]
  · iexists _; isplitr
    swap; · iexact H4
    ipureintro
    refine (View.read_writes_eq_canon _ _ _ (coverH _ _ _ _)).trans ?_
    unfold out0_4 pk kk
    rfl
  isplitl [H5]
  · iexists _; isplitr
    swap; · iexact H5
    ipureintro
    refine (View.read_writes_eq_canon _ _ _ (coverH _ _ _ _)).trans ?_
    unfold out0_5 pv vv
    rfl
  isplitl [H6]
  · iexists _; isplitr
    swap; · iexact H6
    ipureintro
    refine (View.read_writes_eq_canon _ _ _ (coverO _)).trans ?_
    unfold out0_6
    rfl
  isplitl [H7]
  · iexists _; isplitr
    swap; · iexact H7
    ipureintro
    refine (View.read_writes_eq_canon _ _ _ (coverT _ _ _ _)).trans ?_
    unfold out0_7 pt vv
    rfl
  isplitl [H8]
  · iexists _; isplitr
    swap; · iexact H8
    ipureintro
    refine (View.read_writes_eq_canon _ _ _ (coverO _)).trans ?_
    unfold out0_8 hn
    rfl
  isplitl [H9]
  · iexists _; isplitr
    swap; · iexact H9
    ipureintro
    refine (View.read_writes_eq_canon _ _ _ (coverX _)).trans ?_
    unfold out0_9 hn
    rfl
  iexists _; isplitr
  swap; · iexact H10
  ipureintro
  refine (View.read_writes_eq_canon _ _ _ (coverD _)).trans ?_
  unfold out0_10 hn
  rfl

/-! ## The pipeline's proof data, the body obligation, the launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
    | ⟨5, _⟩ => out0_5 (iblk m c 0 t) (iblk m c 1 t) (iblk m c 2 t)
    | ⟨6, _⟩ => out0_6 (iblk m c 0 t) (iblk m c 1 t) (iblk m c 2 t)
    | ⟨7, _⟩ => out0_7 (iblk m c 0 t) (iblk m c 1 t) (iblk m c 2 t)
    | ⟨8, _⟩ => out0_8 (iblk m c 0 t) (iblk m c 1 t) (iblk m c 2 t)
    | ⟨9, _⟩ => out0_9 (iblk m c 0 t) (iblk m c 1 t) (iblk m c 2 t)
    | ⟨10, _⟩ => out0_10 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 2 t) := by dsimp only [dats]
theorem after0_6 (c : Dev nD) (t : Fin cfg0.N) : (dats m 0 c).after 6 t = out0_6 (iblk m c 0 t) (iblk m c 1 t) (iblk m c 2 t) := by dsimp only [dats]
theorem after0_7 (c : Dev nD) (t : Fin cfg0.N) : (dats m 0 c).after 7 t = out0_7 (iblk m c 0 t) (iblk m c 1 t) (iblk m c 2 t) := by dsimp only [dats]
theorem after0_8 (c : Dev nD) (t : Fin cfg0.N) : (dats m 0 c).after 8 t = out0_8 (iblk m c 0 t) (iblk m c 1 t) (iblk m c 2 t) := by dsimp only [dats]
theorem after0_9 (c : Dev nD) (t : Fin cfg0.N) : (dats m 0 c).after 9 t = out0_9 (iblk m c 0 t) (iblk m c 1 t) (iblk m c 2 t) := by dsimp only [dats]
theorem after0_10 (c : Dev nD) (t : Fin cfg0.N) : (dats m 0 c).after 10 t = out0_10 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel5Ideal.In

end
-- ==== Proof.InSampleVal.lean ====
/-
  What the sample batch's in-projection leaves in each result's staging buffer, element by element over the extended reals.
-/
module

public import proofs.«01_k».proof.Proof.InSampleFrame
public import proofs.«01_k».proof.Proof.InMath
public import proofs.«01_k».proof.Proof.FfnSampleTile

@[expose] public section

set_option maxRecDepth 16384

noncomputable section

namespace Cert.Kernel5Ideal.In

open Cert.Kernel5Ideal Cert.Kernel5Ideal.Gen Cert.Ffn
open Idealize.ShloMosaic Idealize.ShloMosaic.TcCoe Idealize.ShloMosaic.ValueIdx

theorem zero2 : ∀ a : Fin 2, (![0, 0] : Fin 2 → ℕ) a = 0 := by decide
theorem zero2' : (![0, 0] : Fin 2 → ℕ) = fun _ => 0 := funext zero2

theorem pay4_at (x : Vec Ideal S128x1024 .f32) (g : Vec Ideal S1x1024 .f32) (r : Fin 128) (j : Fin 1024) :
    k0_pay4 x g (ix2 r j) = rms (fun j => x (ix2 r j)) (fun j => g (ix2 0 j)) j := by
  unfold k0_pay4
  simp only [shapeCast_self]
  rw [truncf_apply, mulf_apply, mulf_apply]
  exact congrArg₂ (fun a b : EReal => x (ix2 r j) * a * b) (Cert.Kernel4Ideal.Ffn.scale_at x r j) (Cert.Kernel4Ideal.Ffn.over_rows g r j)

variable (x : Vec Ideal S128x1024 .f32) (g : Vec Ideal S1x1024 .f32) (w : Vec Ideal S1024x3200 .bf16) (W : Fin 1024 → ℕ → EReal)
  (hW : ∀ (k : Fin 1024) (c : Fin 3200), w (ix2 k c) = W k c.val)

/-- A row of the block, normed, against column `n`. -/
def uu (x : Vec Ideal S128x1024 .f32) (g : Vec Ideal S1x1024 .f32) (W : Fin 1024 → ℕ → EReal) (r : Fin 128) (n : ℕ) : EReal :=
  ∑ k, rms (fun j => x (ix2 r j)) (fun j => g (ix2 0 j)) k * W k n

theorem loads : View.ld x rX = x := View.ld_unit_lit _ x zero2
theorem loadg : View.ld g rG = g := View.ld_unit_lit _ g zero2
theorem hn_at (r : Fin 128) (j : Fin 1024) : hn x g (ix2 r j) = rms (fun j => x (ix2 r j)) (fun j => g (ix2 0 j)) j := by
  unfold hn
  rw [loads, loadg, pay4_at]

theorem pay1_at (h : FVec Ideal S128x1024 .bf16) (w : Vec Ideal S1024x512 .bf16) (r : Fin 128) (c : Fin 512) :
    k0_pay1 h w (ix2 r c) = ∑ k : Fin 1024, (h (ix2 r k) : EReal) * w (ix2 k c) := by
  unfold k0_pay1
  rw [shapeCast_self]
  refine (Ideal.matmul_plain_apply (M := 128) (K := 1024) (N := 512) (φ₁ := .bf16) (φ₂ := .bf16) none h w _ r c).trans ?_
  rw [constant_apply, Ideal.ofBits_zero_f32, zero_add]

theorem pay2_at (h : FVec Ideal S128x1024 .bf16) (w : Vec Ideal S1024x1024 .bf16) (r : Fin 128) (c : Fin 1024) :
    k0_pay2 h w (ix2 r c) = ∑ k : Fin 1024, (h (ix2 r k) : EReal) * w (ix2 k c) := by
  unfold k0_pay2
  rw [shapeCast_self]
  refine (Ideal.matmul_plain_apply (M := 128) (K := 1024) (N := 1024) (φ₁ := .bf16) (φ₂ := .bf16) none h w _ r c).trans ?_
  rw [constant_apply, Ideal.ofBits_zero_f32, zero_add]

theorem pay3_at (h : FVec Ideal S128x1024 .bf16) (w : Vec Ideal S1024x128 .bf16) (r : Fin 128) (c : Fin 128) :
    k0_pay3 h w (ix2 r c) = ∑ k : Fin 1024, (h (ix2 r k) : EReal) * w (ix2 k c) := by
  unfold k0_pay3
  rw [shapeCast_self]
  refine (Ideal.matmul_plain_apply (M := 128) (K := 1024) (N := 128) (φ₁ := .bf16) (φ₂ := .bf16) none h w _ r c).trans ?_
  rw [constant_apply, Ideal.ofBits_zero_f32, zero_add]

theorem pay6_at (w : Vec Ideal S1024x512 .bf16) (r : Fin 128) (c : Fin 512) :
    k0_pay6 x g w (ix2 r c) = ∑ k : Fin 1024, (k0_pay4 x g (ix2 r k) : EReal) * w (ix2 k c) := pay1_at (k0_pay4 x g) w r c

theorem pay8_at (w : Vec Ideal S1024x512 .bf16) (r : Fin 128) (c : Fin 512) :
    k0_pay8 x g w (ix2 r c) = ∑ k : Fin 1024, (k0_pay4 x g (ix2 r k) : EReal) * w (ix2 k c) := pay1_at (k0_pay4 x g) w r c

theorem pay5_at (w : Vec Ideal S1024x512 .bf16) (r : Fin 128) (c : Fin 512) :
    k0_pay5 x g w (ix2 r c) = (∑ k : Fin 1024, (k0_pay4 x g (ix2 r k) : EReal) * w (ix2 k c)) * Cert.In.scale :=
  congrArg (fun z : EReal => z * Cert.In.scale) (pay6_at x g w r c)

include hW in
theorem wq_at (k : Fin 1024) (c : Fin 512) : (View.ld w wq) (ix2 k c) = W k (0 + c.val) :=
  (View.ld_unit_apply_of w ![0, 0] S1024x512.size _ (ix2 k c) (ix2 k (⟨0 + c.val, by omega⟩ : Fin 3200)) (fun a => by
    match a with
    | ⟨0, _⟩ => exact (Nat.zero_add _).symm
    | ⟨1, _⟩ => rfl)).trans (hW _ _)

include hW in
theorem wk_at (k : Fin 1024) (c : Fin 512) : (View.ld w wk) (ix2 k c) = W k (512 + c.val) :=
  (View.ld_unit_apply_of w ![0, 512] S1024x512.size _ (ix2 k c) (ix2 k (⟨512 + c.val, by omega⟩ : Fin 3200)) (fun a => by
    match a with
    | ⟨0, _⟩ => exact (Nat.zero_add _).symm
    | ⟨1, _⟩ => rfl)).trans (hW _ _)

include hW in
theorem wv_at (k : Fin 1024) (c : Fin 512) : (View.ld w wv) (ix2 k c) = W k (1024 + c.val) :=
  (View.ld_unit_apply_of w ![0, 1024] S1024x512.size _ (ix2 k c) (ix2 k (⟨1024 + c.val, by omega⟩ : Fin 3200)) (fun a => by
    match a with
    | ⟨0, _⟩ => exact (Nat.zero_add _).symm
    | ⟨1, _⟩ => rfl)).trans (hW _ _)

include hW in
theorem wz_at (k : Fin 1024) (c : Fin 512) : (View.ld w wz) (ix2 k c) = W k (1536 + c.val) :=
  (View.ld_unit_apply_of w ![0, 1536] S1024x512.size _ (ix2 k c) (ix2 k (⟨1536 + c.val, by omega⟩ : Fin 3200)) (fun a => by
    match a with
    | ⟨0, _⟩ => exact (Nat.zero_add _).symm
    | ⟨1, _⟩ => rfl)).trans (hW _ _)

include hW in
theorem wb_at (k : Fin 1024) (c : Fin 1024) : (View.ld w wb) (ix2 k c) = W k (2048 + c.val) :=
  (View.ld_unit_apply_of w ![0, 2048] S1024x1024.size _ (ix2 k c) (ix2 k (⟨2048 + c.val, by omega⟩ : Fin 3200)) (fun a => by
    match a with
    | ⟨0, _⟩ => exact (Nat.zero_add _).symm
    | ⟨1, _⟩ => rfl)).trans (hW _ _)

include hW in
theorem wt_at (k : Fin 1024) (c : Fin 128) : (View.ld w wt) (ix2 k c) = W k (3072 + c.val) :=
  (View.ld_unit_apply_of w ![0, 3072] S1024x128.size _ (ix2 k c) (ix2 k (⟨3072 + c.val, by omega⟩ : Fin 3200)) (fun a => by
    match a with
    | ⟨0, _⟩ => exact (Nat.zero_add _).symm
    | ⟨1, _⟩ => rfl)).trans (hW _ _)

include hW in
theorem kk_at (r : Fin 128) (c : Fin 512) : kk x g w (ix2 r c) = uu x g W r (512 + c.val) := by
  unfold kk uu
  rw [loads, loadg, pay6_at]
  simp only [wk_at w W hW, pay4_at]

include hW in
theorem vv_at (r : Fin 128) (c : Fin 512) : vv x g w (ix2 r c) = uu x g W r (1024 + c.val) := by
  unfold vv uu
  rw [loads, loadg, pay8_at]
  simp only [wv_at w W hW, pay4_at]

include hW in
theorem out3_at (r : Fin 128) (c : Fin 512) : out0_3 x g w (ix2 r c) = uu x g W r (0 + c.val) * Cert.In.scale := by
  unfold out0_3 uu
  rw [View.canon_unit_zero zero2', loads, loadg, pay5_at]
  simp only [wq_at w W hW, pay4_at]

include hW in
theorem out6_at (r : Fin 128) (c : Fin 512) : out0_6 x g w (ix2 r c) = uu x g W r (512 + c.val) := by
  unfold out0_6
  rw [View.canon_unit_zero zero2']
  exact kk_at x g w W hW r c

include hW in
theorem out8_at (r : Fin 128) (c : Fin 512) : out0_8 x g w (ix2 r c) = uu x g W r (1536 + c.val) := by
  unfold out0_8 uu
  rw [View.canon_unit_zero zero2', pay1_at]
  simp only [wz_at w W hW, hn_at]

include hW in
theorem out9_at (r : Fin 128) (c : Fin 1024) : out0_9 x g w (ix2 r c) = uu x g W r (2048 + c.val) := by
  unfold out0_9 uu
  rw [View.canon_unit_zero zero2', pay2_at]
  simp only [wb_at w W hW, hn_at]

include hW in
theorem out10_at (r : Fin 128) (c : Fin 128) : out0_10 x g w (ix2 r c) = uu x g W r (3072 + c.val) := by
  unfold out0_10 uu
  rw [View.canon_unit_zero zero2', pay3_at]
  simp only [wt_at w W hW, hn_at]

/-- A head's columns of a block. -/
theorem head_at (p : FVec Ideal S128x512 .f32) (o : ℕ) (hs : S128x512.Slices ![0, o] S128x128) (y : S128x128.Idx) (i : S128x512.Idx)
    (e0 : (i 0 : ℕ) = y 0) (e1 : (i 1 : ℕ) = o + y 1) : extractStridedSlice S128x128 ![0, o] p hs y = p i :=
  extractStridedSlice_apply ![0, o] p hs y i (fun a => by
    match a with
    | ⟨0, _⟩ => exact e0.trans (Nat.zero_add _).symm
    | ⟨1, _⟩ => exact e1)

/-- The element of a block that a row of the keys' or values' layout is. -/
def at4 (y : S512x128.Idx) : S128x512.Idx :=
  ix2 (⟨(y 0 : ℕ) / 4, by have : (y 0 : ℕ) < 512 := (y 0).isLt; omega⟩ : Fin 128)
    (⟨128 * ((y 0 : ℕ) % 4) + (y 1 : ℕ), by have : (y 1 : ℕ) < 128 := (y 1).isLt; omega⟩ : Fin 512)

theorem head_piece (p : FVec Ideal S128x512 .f32) (h : ℕ) (hh : h < 4) (l : LoadRect S512x128) (hp : ∀ a, 0 < l.stride a) (z : l.size = S128x128.size)
    (o0 : l.off 0 = h) (o1 : l.off 1 = 0) (s0 : l.stride 0 = 4) (s1 : l.stride 1 = 1)
    (hs : S128x512.Slices ![0, 128 * h] S128x128) (y : S128x128.Idx) (y' : (⟨l, hp⟩ : Rect S512x128).shape.Idx)
    (e0 : (y' 0 : ℕ) = y 0) (e1 : (y' 1 : ℕ) = y 1) :
    extractStridedSlice S128x128 ![0, 128 * h] p hs y = p (at4 ((⟨l, hp⟩ : Rect S512x128).emb y')) := by
  have b0 : (y 0 : ℕ) < 128 := (y 0).isLt
  have b1 : (y 1 : ℕ) < 128 := (y 1).isLt
  have v0 : (((⟨l, hp⟩ : Rect S512x128).emb y') 0 : ℕ) = h + 4 * (y 0 : ℕ) := by
    show l.off 0 + l.stride 0 * (y' 0 : ℕ) = _; rw [o0, s0, e0]
  have v1 : (((⟨l, hp⟩ : Rect S512x128).emb y') 1 : ℕ) = (y 1 : ℕ) := by
    show l.off 1 + l.stride 1 * (y' 1 : ℕ) = _; rw [o1, s1, e1]; omega
  refine head_at p _ hs y _ ?_ ?_
  · show (((⟨l, hp⟩ : Rect S512x128).emb y') 0 : ℕ) / 4 = _; rw [v0]; omega
  · show 128 * ((((⟨l, hp⟩ : Rect S512x128).emb y') 0 : ℕ) % 4) + (((⟨l, hp⟩ : Rect S512x128).emb y') 1 : ℕ) = _; rw [v0, v1]; omega

theorem keysTile (p : FVec Ideal S128x512 .f32) (y : S512x128.Idx) : View.canon (pk p) y = p (at4 y) := by
  refine View.canon_apply_of_pieces (fun y => p (at4 y)) (pk p) ?_ y (coverH _ _ _ _ y)
  unfold pk
  intro q hq
  rcases List.mem_cons.mp hq with rfl | hq
  · exact fun z => head_piece p 3 (by omega) _ _ rfl rfl rfl rfl rfl slices_S128x512_o0_384_S128x128 z z rfl rfl
  rcases List.mem_cons.mp hq with rfl | hq
  · exact fun z => head_piece p 2 (by omega) _ _ rfl rfl rfl rfl rfl slices_S128x512_o0_256_S128x128 z z rfl rfl
  rcases List.mem_cons.mp hq with rfl | hq
  · exact fun z => head_piece p 1 (by omega) _ _ rfl rfl rfl rfl rfl slices_S128x512_o0_128_S128x128 z z rfl rfl
  obtain rfl := List.mem_singleton.mp hq
  exact fun z => head_piece p 0 (by omega) _ _ rfl rfl rfl rfl rfl slices_S128x512_o0_0_S128x128 z z rfl rfl

theorem valuesTile (p : FVec Ideal S128x512 .f32) (y : S512x128.Idx) : View.canon (pv p) y = p (at4 y) := keysTile p y

/-- A head's columns of a block, transposed. -/
theorem turn_at (p : FVec Ideal S128x512 .f32) (o : ℕ) (hs : S128x512.Slices ![0, o] S128x128) (y : S128x128.Idx) (i : S128x512.Idx)
    (e0 : (i 0 : ℕ) = y 1) (e1 : (i 1 : ℕ) = o + y 0) :
    transpose S128x128 [1, 0] (extractStridedSlice S128x128 ![0, o] p hs) transposes_S128x128_p1_0_S128x128 y = p i := by
  refine (transpose_apply [1, 0] _ transposes_S128x128_p1_0_S128x128 y (ix2 (y 1) (y 0)) (fun b => ?_)).trans (head_at p o hs _ i e0 e1)
  match b with
  | ⟨0, _⟩ => rfl
  | ⟨1, _⟩ => rfl

theorem turn_piece (p : FVec Ideal S128x512 .f32) (o : ℕ) (hs : S128x512.Slices ![0, o] S128x128)
    (inb : ∀ a, (![o, 0] : Fin 2 → ℕ) a + S128x128.size a ≤ S512x128.size a) (y : S128x128.Idx) :
    transpose S128x128 [1, 0] (extractStridedSlice S128x128 ![0, o] p hs) transposes_S128x128_p1_0_S128x128 y
      = p (ix2 ((Rect.unit (s := S512x128) ![o, 0] S128x128.size inb).emb y 1) ((Rect.unit (s := S512x128) ![o, 0] S128x128.size inb).emb y 0)) := by
  refine turn_at p o hs y _ ?_ ?_
  · show 0 + 1 * (y 1 : ℕ) = _; omega
  · show o + 1 * (y 0 : ℕ) = _; omega

theorem turned (y : S512x128.Idx) : View.canon (pt x g w) y = vv x g w (ix2 (y 1) (y 0)) := by
  refine View.canon_apply_of_pieces (fun y => vv x g w (ix2 (y 1) (y 0))) (pt x g w) ?_ y (coverT _ _ _ _ y)
  unfold pt
  intro q hq
  rcases List.mem_cons.mp hq with rfl | hq
  · exact fun z => turn_piece (vv x g w) 384 slices_S128x512_o0_384_S128x128 inb_S512x128_S128x128_384_0 z
  rcases List.mem_cons.mp hq with rfl | hq
  · exact fun z => turn_piece (vv x g w) 256 slices_S128x512_o0_256_S128x128 inb_S512x128_S128x128_256_0 z
  rcases List.mem_cons.mp hq with rfl | hq
  · exact fun z => turn_piece (vv x g w) 128 slices_S128x512_o0_128_S128x128 inb_S512x128_S128x128_128_0 z
  obtain rfl := List.mem_singleton.mp hq
  exact fun z => turn_piece (k0_pay8 (View.ld x rX) (View.ld g rG) (View.ld w wv)) 0 slices_S128x512_o0_0_S128x128 inb_S512x128_S128x128_0_0 z

include hW in
theorem out4_at (r : Fin 512) (c : Fin 128) :
    out0_4 x g w (ix2 r c) = uu x g W (⟨r.val / 4, by omega⟩ : Fin 128) (512 + (128 * (r.val % 4) + c.val)) := by
  unfold out0_4
  rw [keysTile]
  exact kk_at x g w W hW _ _

include hW in
theorem out5_at (r : Fin 512) (c : Fin 128) :
    out0_5 x g w (ix2 r c) = uu x g W (⟨r.val / 4, by omega⟩ : Fin 128) (1024 + (128 * (r.val % 4) + c.val)) := by
  unfold out0_5
  rw [valuesTile]
  exact vv_at x g w W hW _ _

include hW in
theorem out7_at (r : Fin 512) (c : Fin 128) : out0_7 x g w (ix2 r c) = uu x g W c (1024 + r.val) := by
  unfold out0_7
  rw [turned]
  exact vv_at x g w W hW _ _

end Cert.Kernel5Ideal.In
-- ==== Proof.InSampleMath.lean ====
/-
  The in-projection of the sample batch: every token's normed row against the columns of one matrix, and the eight arrays the columns
  are laid out in, as functions of the stream, the gain and the matrix.
-/
module

public import proofs.«01_k».proof.Proof.InMath

@[expose] public section

noncomputable section

namespace Cert.InSample

open Cert.In (Gain Mat col scale)
open Idealize.ShloMosaic Idealize.ShloMosaic.ValueIdx

abbrev Stream : Shape := ⟨3, ![128, 1, 1024]⟩

variable (x : FVec Ideal Stream .f32) (g : FVec Ideal Gain .f32) (w : FVec Ideal Mat .f32)

/-- Token `n`'s row. -/
def row (n : Fin 128) (j : Fin 1024) : EReal := x (ix3 n 0 j)

/-- Token `n`'s normed row against column `c`. -/
def u (n : Fin 128) (c : ℕ) : EReal := ∑ k, Cert.Ffn.rms (row x n) (fun j => g (ix2 0 j)) k * col w k c

theorem u_zero (n : Fin 128) (c : ℕ) (h : 3080 ≤ c) : u x g w n c = 0 := by
  unfold u
  refine Finset.sum_eq_zero fun k _ => ?_
  unfold col
  rw [dif_neg (by omega), mul_zero]

abbrev Rows : Shape := ⟨2, ![128, 512]⟩
abbrev Heads : Shape := ⟨2, ![512, 128]⟩
abbrev Wide : Shape := ⟨2, ![128, 1024]⟩
abbrev Steps : Shape := ⟨2, ![128, 128]⟩

/-- The token a row of the keys' array is of, four rows a token. -/
def tok (i : Heads.Idx) : Fin 128 := ⟨(i 0 : ℕ) / 4, by have : (i 0 : ℕ) < 512 := (i 0).isLt; omega⟩
/-- The column of an element of the keys' array. -/
def hcol (i : Heads.Idx) : ℕ := 128 * ((i 0 : ℕ) % 4) + (i 1 : ℕ)

def queries : Rows.Idx → EReal := fun i => u x g w (i 0) (0 + (i 1 : ℕ)) * scale
def keys : Heads.Idx → EReal := fun i => u x g w (tok i) (512 + hcol i)
def values : Heads.Idx → EReal := fun i => u x g w (tok i) (1024 + hcol i)
def keyRows : Rows.Idx → EReal := fun i => u x g w (i 0) (512 + (i 1 : ℕ))
def valueCols : Heads.Idx → EReal := fun i => u x g w (i 1) (1024 + (i 0 : ℕ))
def gates : Rows.Idx → EReal := fun i => u x g w (i 0) (1536 + (i 1 : ℕ))
def branch : Wide.Idx → EReal := fun i => u x g w (i 0) (2048 + (i 1 : ℕ))
def steps : Steps.Idx → EReal := fun i => u x g w (i 0) (3072 + (i 1 : ℕ))

end Cert.InSample

end
-- ==== Proof.InSampleWhole.lean ====
/-
  The sample batch's in-projection: its eight arrays after the run, as functions of the stream, the gain and the matrix.
-/
module

public import proofs.«01_k».proof.Proof.InSampleVal
public import proofs.«01_k».proof.Proof.InSampleMath
public import Idealize.ShloMosaic.Lib.KernelVsHost

@[expose] public section

set_option maxRecDepth 16384

noncomputable section

namespace Cert.Kernel5Ideal.In

open Cert.Kernel5Ideal Cert.Kernel5Ideal.Gen Cert.InSample
open Cert.In (col)
open Idealize.ShloMosaic Idealize.ShloMosaic.TcCoe Idealize.ShloMosaic.Tactic Idealize.ShloMosaic.ValueIdx

variable (m : (ℓ : Loc nD τ sig) → Buf (Elt Ideal) ℓ) (c : Dev nD)

/-! ## The blocks the body reads -/

theorem V3 : V m c main_v3 = shapeCast S128x1024 (m ((c : Thread nD τ).loc main_arg0)) shapeCasts_S128x1x1024_S128x1024 := by
  unfold V
  simp only [hostOps0, hostOps0_1, hostOps0_2, List.flatten_cons, List.flatten_nil, List.append_nil, List.cons_append, List.nil_append]
  after_results
  rfl

theorem V2 : (V m c main_v2 : (⟨S1024x3200, .bf16⟩ : BufTy).Contents (Elt Ideal)) = truncf (F := Ideal) .bf16 (pad S1024x3200 ![0, 0] ![0, 120] ![0, 0] (shapeCast S1024x3080 (m ((c : Thread nD τ).loc main_arg2)) shapeCasts_S1x1024x3080_S1024x3080)
    (sitofp .f32 (constantI S_ 32 0#32)) pads_S1024x3080_S1024x3200_000_01200 h_S_) bitsLt_bf16_f32 := by
  unfold V
  simp only [hostOps0, hostOps0_1, hostOps0_2, List.flatten_cons, List.flatten_nil, List.append_nil, List.cons_append, List.nil_append]
  after_results
  rfl

theorem flat_at (x : (⟨S128x1x1024, .f32⟩ : BufTy).Contents (Elt Ideal)) (n : Fin 128) (j : Fin 1024) :
    shapeCast S128x1024 x shapeCasts_S128x1x1024_S128x1024 (ix2 n j) = row x n j :=
  shapeCast_apply x _ _ _ (by
    rw [Shape.rowMajor_val_three, Shape.rowMajor_val_two]
    show (n.val * 1 + 0) * 1024 + j.val = n.val * 1024 + j.val
    omega)

theorem mat_at (x : (⟨S1x1024x3080, .f32⟩ : BufTy).Contents (Elt Ideal)) (k : Fin 1024) (d : Fin 3080) :
    shapeCast S1024x3080 x shapeCasts_S1x1024x3080_S1024x3080 (ix2 k d) = x (ix3 0 k d) :=
  shapeCast_apply x _ _ _ (by
    rw [Shape.rowMajor_val_three, Shape.rowMajor_val_two]
    show (0 * 1024 + k.val) * 3080 + d.val = k.val * 3080 + d.val
    omega)

theorem padded_at (x : (⟨S1x1024x3080, .f32⟩ : BufTy).Contents (Elt Ideal)) (k : Fin 1024) (d : Fin 3200) :
    pad S1024x3200 ![0, 0] ![0, 120] ![0, 0] (shapeCast S1024x3080 x shapeCasts_S1x1024x3080_S1024x3080)
      (sitofp (F := Ideal) .f32 (constantI S_ 32 0#32)) pads_S1024x3080_S1024x3200_000_01200 h_S_ (ix2 k d) = col x k d.val := by
  unfold col
  by_cases h : d.val < 3080
  · rw [dif_pos h]
    refine (pad_apply_of_inside _ _ _ _ _ _ _ _ (ix2 k (⟨d.val, h⟩ : Fin 3080)) (fun a => ?_)).trans (mat_at x k _)
    match a with
    | ⟨0, _⟩ => show k.val = 0 + k.val * (0 + 1); omega
    | ⟨1, _⟩ => show d.val = 0 + d.val * (0 + 1); omega
  · rw [dif_neg h]
    refine (pad_apply_of_not_inside _ _ _ _ _ _ _ _ (1 : Fin 2) (fun hc => ?_)).trans ?_
    · have h2 : (d.val - 0) / (0 + 1) < 3080 := hc.2.2
      omega
    · exact sitofp_zero (φ := .f32)

theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel

theorem blk0 (t : Fin cfg0.N) (a : Fin 128) (d : Fin 1024) : (iblk m c 0 t : Vec Ideal S128x1024 .f32) (ix2 a d)
    = row (m ((c : Thread nD τ).loc main_arg0)) a d := by
  show (V m c main_v3 : (⟨S128x1024, .f32⟩ : BufTy).Contents (Elt Ideal)) ((win0_0.rect t).emb (ix2 a d)) = _
  have e : (win0_0.rect t).emb (ix2 a d) = ix2 a d := by
    funext x
    apply Fin.ext
    refine (Pipeline.Window.rect_emb_val win0_0 t _ x).trans ?_
    match x with
    | ⟨0, _⟩ => show win0_0.index t 0 * 128 + a.val = a.val; rw [(idx0 t).1]; omega
    | ⟨1, _⟩ => show win0_0.index t 1 * 1024 + d.val = d.val; rw [(idx0 t).2]; omega
  rw [e, V3]
  exact flat_at _ _ _

theorem blk1 (t : Fin cfg0.N) (a : Fin 1) (d : Fin 1024) : (iblk m c 1 t : Vec Ideal S1x1024 .f32) (ix2 a d)
    = (m ((c : Thread nD τ).loc main_arg1) : (⟨S1x1024, .f32⟩ : BufTy).Contents (Elt Ideal)) (ix2 a d) := by
  show (V m c main_arg1 : (⟨S1x1024, .f32⟩ : BufTy).Contents (Elt Ideal)) ((win0_1.rect t).emb (ix2 a d)) = _
  have e : (win0_1.rect t).emb (ix2 a d) = ix2 a d := by
    funext x
    apply Fin.ext
    refine (Pipeline.Window.rect_emb_val win0_1 t _ x).trans ?_
    match x with
    | ⟨0, _⟩ => show win0_1.index t 0 * 1 + a.val = a.val; rw [(idx1 t).1]; omega
    | ⟨1, _⟩ => show win0_1.index t 1 * 1024 + d.val = d.val; rw [(idx1 t).2]; omega
  rw [e, V_main_arg1]

theorem blk2 (t : Fin cfg0.N) (k : Fin 1024) (d : Fin 3200) : (iblk m c 2 t : Vec Ideal S1024x3200 .bf16) (ix2 k d)
    = col (m ((c : Thread nD τ).loc main_arg2)) k d.val := by
  show (V m c main_v2 : (⟨S1024x3200, .bf16⟩ : BufTy).Contents (Elt Ideal)) ((win0_2.rect t).emb (ix2 k d)) = _
  have e : (win0_2.rect t).emb (ix2 k d) = ix2 k d := by
    funext x
    apply Fin.ext
    refine (Pipeline.Window.rect_emb_val win0_2 t _ x).trans ?_
    match x with
    | ⟨0, _⟩ => show win0_2.index t 0 * 1024 + k.val = k.val; rw [(idx2 t).1]; omega
    | ⟨1, _⟩ => show win0_2.index t 1 * 3200 + d.val = d.val; rw [(idx2 t).2]; omega
  rw [e, V2, truncf_apply]
  exact padded_at _ k d

theorem uu_at (t : Fin cfg0.N) (r : Fin 128) (n : ℕ) :
    uu (iblk m c 0 t) (iblk m c 1 t) (col (m ((c : Thread nD τ).loc main_arg2))) r n = u (m ((c : Thread nD τ).loc main_arg0)) (m ((c : Thread nD τ).loc main_arg1)) (m ((c : Thread nD τ).loc main_arg2)) r n := by
  unfold uu u
  simp only [blk0, blk1]

/-! ## The arrays -/

abbrev whole3 : (⟨S128x512, .bf16⟩ : BufTy).Contents (Elt Ideal) := queries (m ((c : Thread nD τ).loc main_arg0)) (m ((c : Thread nD τ).loc main_arg1)) (m ((c : Thread nD τ).loc main_arg2))

theorem idx3 : ∀ t : Fin cfg0.N, win0_3.index t 0 = 0 ∧ win0_3.index t 1 = 0 := by decide +kernel
theorem xsz3 : ∀ t : Fin cfg0.N, win0_3.xsize (grid0.coords t) 0 = 128 ∧ win0_3.xsize (grid0.coords t) 1 = 512 := by decide +kernel

theorem emb3 (t : Fin cfg0.N) (a : Fin 128) (e : Fin 512) : (win0_3.rect t).emb (ix2 a e) = ix2 a e := by
  funext x
  apply Fin.ext
  refine (Pipeline.Window.rect_emb_val win0_3 t _ x).trans ?_
  match x with
  | ⟨0, _⟩ => show win0_3.index t 0 * 128 + a.val = a.val; rw [(idx3 t).1]; omega
  | ⟨1, _⟩ => show win0_3.index t 1 * 512 + e.val = e.val; rw [(idx3 t).2]; omega

theorem flushed3 (t : Fin cfg0.N) : (dats m 0 c).flushed 3 t = (win0_3.blk t).view.read (Elt Ideal) (whole3 m c) := by
  show (cfg0.win 3).cut (grid0.coords t) ((dats m 0 c).after 3 t) = _
  rw [after0_3]
  refine funext fun (y : S128x512.Idx) => ?_
  show out0_3 (iblk m c 0 t) (iblk m c 1 t) (iblk m c 2 t) y = whole3 m c ((win0_3.rect t).emb y)
  obtain ⟨a, e, rfl⟩ : ∃ (a : Fin 128) (e : Fin 512), y = ix2 a e := ⟨y 0, y 1, eq_ix2 y⟩
  rw [emb3, out3_at _ _ _ (col (m ((c : Thread nD τ).loc main_arg2))) (blk2 m c t)]
  rw [uu_at]
  rfl

theorem cover3 (i : S128x512.Idx) : ∃ t : Fin cfg0.N, (cfg0.win 3).flush t = true ∧ i ∈ ((cfg0.win 3).blk t).view.set := by
  have hN : 0 < cfg0.N := by decide
  refine ⟨⟨0, hN⟩, flush0_3 _, ?_⟩
  show i ∈ ((View.whole main_v4_0).slice (win0_3.rect ⟨0, hN⟩)).set
  rw [View.set_slice_whole, Rect.mem_set_unit]
  have b0 : win0_3.index ⟨0, hN⟩ 0 * win0_3.size 0 = 0 := by rw [(idx3 _).1]; rfl
  have b1 : win0_3.index ⟨0, hN⟩ 1 * win0_3.size 1 = 0 := by rw [(idx3 _).2]; rfl
  have h0 : (i 0 : Nat) < 128 := (i 0).isLt
  have h1 : (i 1 : Nat) < 512 := (i 1).isLt
  intro a
  match a with
  | ⟨0, _⟩ => show win0_3.index ⟨0, hN⟩ 0 * win0_3.size 0 ≤ (i 0 : Nat) ∧ (i 0 : Nat) < win0_3.index ⟨0, hN⟩ 0 * win0_3.size 0 + win0_3.xsize (grid0.coords ⟨0, hN⟩) 0
              rw [b0, (xsz3 _).1]; omega
  | ⟨1, _⟩ => show win0_3.index ⟨0, hN⟩ 1 * win0_3.size 1 ≤ (i 1 : Nat) ∧ (i 1 : Nat) < win0_3.index ⟨0, hN⟩ 1 * win0_3.size 1 + win0_3.xsize (grid0.coords ⟨0, hN⟩) 1
              rw [b1, (xsz3 _).2]; omega

theorem final3 : (dats m 0 c).arrAt 3 cfg0.N = whole3 m c :=
  (dats m 0 c).arrAt_eq_of_cover 3 (whole3 m c) (fun t _ => flushed3 m c t) cover3

abbrev whole4 : (⟨S512x128, .f32⟩ : BufTy).Contents (Elt Ideal) := keys (m ((c : Thread nD τ).loc main_arg0)) (m ((c : Thread nD τ).loc main_arg1)) (m ((c : Thread nD τ).loc main_arg2))

theorem idx4 : ∀ t : Fin cfg0.N, win0_4.index t 0 = 0 ∧ win0_4.index t 1 = 0 := by decide +kernel
theorem xsz4 : ∀ t : Fin cfg0.N, win0_4.xsize (grid0.coords t) 0 = 512 ∧ win0_4.xsize (grid0.coords t) 1 = 128 := by decide +kernel

theorem emb4 (t : Fin cfg0.N) (a : Fin 512) (e : Fin 128) : (win0_4.rect t).emb (ix2 a e) = ix2 a e := by
  funext x
  apply Fin.ext
  refine (Pipeline.Window.rect_emb_val win0_4 t _ x).trans ?_
  match x with
  | ⟨0, _⟩ => show win0_4.index t 0 * 512 + a.val = a.val; rw [(idx4 t).1]; omega
  | ⟨1, _⟩ => show win0_4.index t 1 * 128 + e.val = e.val; rw [(idx4 t).2]; omega

theorem flushed4 (t : Fin cfg0.N) : (dats m 0 c).flushed 4 t = (win0_4.blk t).view.read (Elt Ideal) (whole4 m c) := by
  show (cfg0.win 4).cut (grid0.coords t) ((dats m 0 c).after 4 t) = _
  rw [after0_4]
  refine funext fun (y : S512x128.Idx) => ?_
  show out0_4 (iblk m c 0 t) (iblk m c 1 t) (iblk m c 2 t) y = whole4 m c ((win0_4.rect t).emb y)
  obtain ⟨a, e, rfl⟩ : ∃ (a : Fin 512) (e : Fin 128), y = ix2 a e := ⟨y 0, y 1, eq_ix2 y⟩
  rw [emb4, out4_at _ _ _ (col (m ((c : Thread nD τ).loc main_arg2))) (blk2 m c t)]
  rw [uu_at]
  rfl

theorem cover4 (i : S512x128.Idx) : ∃ t : Fin cfg0.N, (cfg0.win 4).flush t = true ∧ i ∈ ((cfg0.win 4).blk t).view.set := by
  have hN : 0 < cfg0.N := by decide
  refine ⟨⟨0, hN⟩, flush0_4 _, ?_⟩
  show i ∈ ((View.whole main_v4_1).slice (win0_4.rect ⟨0, hN⟩)).set
  rw [View.set_slice_whole, Rect.mem_set_unit]
  have b0 : win0_4.index ⟨0, hN⟩ 0 * win0_4.size 0 = 0 := by rw [(idx4 _).1]; rfl
  have b1 : win0_4.index ⟨0, hN⟩ 1 * win0_4.size 1 = 0 := by rw [(idx4 _).2]; rfl
  have h0 : (i 0 : Nat) < 512 := (i 0).isLt
  have h1 : (i 1 : Nat) < 128 := (i 1).isLt
  intro a
  match a with
  | ⟨0, _⟩ => show win0_4.index ⟨0, hN⟩ 0 * win0_4.size 0 ≤ (i 0 : Nat) ∧ (i 0 : Nat) < win0_4.index ⟨0, hN⟩ 0 * win0_4.size 0 + win0_4.xsize (grid0.coords ⟨0, hN⟩) 0
              rw [b0, (xsz4 _).1]; omega
  | ⟨1, _⟩ => show win0_4.index ⟨0, hN⟩ 1 * win0_4.size 1 ≤ (i 1 : Nat) ∧ (i 1 : Nat) < win0_4.index ⟨0, hN⟩ 1 * win0_4.size 1 + win0_4.xsize (grid0.coords ⟨0, hN⟩) 1
              rw [b1, (xsz4 _).2]; omega

theorem final4 : (dats m 0 c).arrAt 4 cfg0.N = whole4 m c :=
  (dats m 0 c).arrAt_eq_of_cover 4 (whole4 m c) (fun t _ => flushed4 m c t) cover4

abbrev whole5 : (⟨S512x128, .f32⟩ : BufTy).Contents (Elt Ideal) := values (m ((c : Thread nD τ).loc main_arg0)) (m ((c : Thread nD τ).loc main_arg1)) (m ((c : Thread nD τ).loc main_arg2))

theorem idx5 : ∀ t : Fin cfg0.N, win0_5.index t 0 = 0 ∧ win0_5.index t 1 = 0 := by decide +kernel
theorem xsz5 : ∀ t : Fin cfg0.N, win0_5.xsize (grid0.coords t) 0 = 512 ∧ win0_5.xsize (grid0.coords t) 1 = 128 := by decide +kernel

theorem emb5 (t : Fin cfg0.N) (a : Fin 512) (e : Fin 128) : (win0_5.rect t).emb (ix2 a e) = ix2 a e := by
  funext x
  apply Fin.ext
  refine (Pipeline.Window.rect_emb_val win0_5 t _ x).trans ?_
  match x with
  | ⟨0, _⟩ => show win0_5.index t 0 * 512 + a.val = a.val; rw [(idx5 t).1]; omega
  | ⟨1, _⟩ => show win0_5.index t 1 * 128 + e.val = e.val; rw [(idx5 t).2]; omega

theorem flushed5 (t : Fin cfg0.N) : (dats m 0 c).flushed 5 t = (win0_5.blk t).view.read (Elt Ideal) (whole5 m c) := by
  show (cfg0.win 5).cut (grid0.coords t) ((dats m 0 c).after 5 t) = _
  rw [after0_5]
  refine funext fun (y : S512x128.Idx) => ?_
  show out0_5 (iblk m c 0 t) (iblk m c 1 t) (iblk m c 2 t) y = whole5 m c ((win0_5.rect t).emb y)
  obtain ⟨a, e, rfl⟩ : ∃ (a : Fin 512) (e : Fin 128), y = ix2 a e := ⟨y 0, y 1, eq_ix2 y⟩
  rw [emb5, out5_at _ _ _ (col (m ((c : Thread nD τ).loc main_arg2))) (blk2 m c t)]
  rw [uu_at]
  rfl

theorem cover5 (i : S512x128.Idx) : ∃ t : Fin cfg0.N, (cfg0.win 5).flush t = true ∧ i ∈ ((cfg0.win 5).blk t).view.set := by
  have hN : 0 < cfg0.N := by decide
  refine ⟨⟨0, hN⟩, flush0_5 _, ?_⟩
  show i ∈ ((View.whole main_v4_2).slice (win0_5.rect ⟨0, hN⟩)).set
  rw [View.set_slice_whole, Rect.mem_set_unit]
  have b0 : win0_5.index ⟨0, hN⟩ 0 * win0_5.size 0 = 0 := by rw [(idx5 _).1]; rfl
  have b1 : win0_5.index ⟨0, hN⟩ 1 * win0_5.size 1 = 0 := by rw [(idx5 _).2]; rfl
  have h0 : (i 0 : Nat) < 512 := (i 0).isLt
  have h1 : (i 1 : Nat) < 128 := (i 1).isLt
  intro a
  match a with
  | ⟨0, _⟩ => show win0_5.index ⟨0, hN⟩ 0 * win0_5.size 0 ≤ (i 0 : Nat) ∧ (i 0 : Nat) < win0_5.index ⟨0, hN⟩ 0 * win0_5.size 0 + win0_5.xsize (grid0.coords ⟨0, hN⟩) 0
              rw [b0, (xsz5 _).1]; omega
  | ⟨1, _⟩ => show win0_5.index ⟨0, hN⟩ 1 * win0_5.size 1 ≤ (i 1 : Nat) ∧ (i 1 : Nat) < win0_5.index ⟨0, hN⟩ 1 * win0_5.size 1 + win0_5.xsize (grid0.coords ⟨0, hN⟩) 1
              rw [b1, (xsz5 _).2]; omega

theorem final5 : (dats m 0 c).arrAt 5 cfg0.N = whole5 m c :=
  (dats m 0 c).arrAt_eq_of_cover 5 (whole5 m c) (fun t _ => flushed5 m c t) cover5

abbrev whole6 : (⟨S128x512, .bf16⟩ : BufTy).Contents (Elt Ideal) := keyRows (m ((c : Thread nD τ).loc main_arg0)) (m ((c : Thread nD τ).loc main_arg1)) (m ((c : Thread nD τ).loc main_arg2))

theorem idx6 : ∀ t : Fin cfg0.N, win0_6.index t 0 = 0 ∧ win0_6.index t 1 = 0 := by decide +kernel
theorem xsz6 : ∀ t : Fin cfg0.N, win0_6.xsize (grid0.coords t) 0 = 128 ∧ win0_6.xsize (grid0.coords t) 1 = 512 := by decide +kernel

theorem emb6 (t : Fin cfg0.N) (a : Fin 128) (e : Fin 512) : (win0_6.rect t).emb (ix2 a e) = ix2 a e := by
  funext x
  apply Fin.ext
  refine (Pipeline.Window.rect_emb_val win0_6 t _ x).trans ?_
  match x with
  | ⟨0, _⟩ => show win0_6.index t 0 * 128 + a.val = a.val; rw [(idx6 t).1]; omega
  | ⟨1, _⟩ => show win0_6.index t 1 * 512 + e.val = e.val; rw [(idx6 t).2]; omega

theorem flushed6 (t : Fin cfg0.N) : (dats m 0 c).flushed 6 t = (win0_6.blk t).view.read (Elt Ideal) (whole6 m c) := by
  show (cfg0.win 6).cut (grid0.coords t) ((dats m 0 c).after 6 t) = _
  rw [after0_6]
  refine funext fun (y : S128x512.Idx) => ?_
  show out0_6 (iblk m c 0 t) (iblk m c 1 t) (iblk m c 2 t) y = whole6 m c ((win0_6.rect t).emb y)
  obtain ⟨a, e, rfl⟩ : ∃ (a : Fin 128) (e : Fin 512), y = ix2 a e := ⟨y 0, y 1, eq_ix2 y⟩
  rw [emb6, out6_at _ _ _ (col (m ((c : Thread nD τ).loc main_arg2))) (blk2 m c t)]
  rw [uu_at]
  rfl

theorem cover6 (i : S128x512.Idx) : ∃ t : Fin cfg0.N, (cfg0.win 6).flush t = true ∧ i ∈ ((cfg0.win 6).blk t).view.set := by
  have hN : 0 < cfg0.N := by decide
  refine ⟨⟨0, hN⟩, flush0_6 _, ?_⟩
  show i ∈ ((View.whole main_v4_3).slice (win0_6.rect ⟨0, hN⟩)).set
  rw [View.set_slice_whole, Rect.mem_set_unit]
  have b0 : win0_6.index ⟨0, hN⟩ 0 * win0_6.size 0 = 0 := by rw [(idx6 _).1]; rfl
  have b1 : win0_6.index ⟨0, hN⟩ 1 * win0_6.size 1 = 0 := by rw [(idx6 _).2]; rfl
  have h0 : (i 0 : Nat) < 128 := (i 0).isLt
  have h1 : (i 1 : Nat) < 512 := (i 1).isLt
  intro a
  match a with
  | ⟨0, _⟩ => show win0_6.index ⟨0, hN⟩ 0 * win0_6.size 0 ≤ (i 0 : Nat) ∧ (i 0 : Nat) < win0_6.index ⟨0, hN⟩ 0 * win0_6.size 0 + win0_6.xsize (grid0.coords ⟨0, hN⟩) 0
              rw [b0, (xsz6 _).1]; omega
  | ⟨1, _⟩ => show win0_6.index ⟨0, hN⟩ 1 * win0_6.size 1 ≤ (i 1 : Nat) ∧ (i 1 : Nat) < win0_6.index ⟨0, hN⟩ 1 * win0_6.size 1 + win0_6.xsize (grid0.coords ⟨0, hN⟩) 1
              rw [b1, (xsz6 _).2]; omega

theorem final6 : (dats m 0 c).arrAt 6 cfg0.N = whole6 m c :=
  (dats m 0 c).arrAt_eq_of_cover 6 (whole6 m c) (fun t _ => flushed6 m c t) cover6

abbrev whole7 : (⟨S512x128, .bf16⟩ : BufTy).Contents (Elt Ideal) := valueCols (m ((c : Thread nD τ).loc main_arg0)) (m ((c : Thread nD τ).loc main_arg1)) (m ((c : Thread nD τ).loc main_arg2))

theorem idx7 : ∀ t : Fin cfg0.N, win0_7.index t 0 = 0 ∧ win0_7.index t 1 = 0 := by decide +kernel
theorem xsz7 : ∀ t : Fin cfg0.N, win0_7.xsize (grid0.coords t) 0 = 512 ∧ win0_7.xsize (grid0.coords t) 1 = 128 := by decide +kernel

theorem emb7 (t : Fin cfg0.N) (a : Fin 512) (e : Fin 128) : (win0_7.rect t).emb (ix2 a e) = ix2 a e := by
  funext x
  apply Fin.ext
  refine (Pipeline.Window.rect_emb_val win0_7 t _ x).trans ?_
  match x with
  | ⟨0, _⟩ => show win0_7.index t 0 * 512 + a.val = a.val; rw [(idx7 t).1]; omega
  | ⟨1, _⟩ => show win0_7.index t 1 * 128 + e.val = e.val; rw [(idx7 t).2]; omega

theorem flushed7 (t : Fin cfg0.N) : (dats m 0 c).flushed 7 t = (win0_7.blk t).view.read (Elt Ideal) (whole7 m c) := by
  show (cfg0.win 7).cut (grid0.coords t) ((dats m 0 c).after 7 t) = _
  rw [after0_7]
  refine funext fun (y : S512x128.Idx) => ?_
  show out0_7 (iblk m c 0 t) (iblk m c 1 t) (iblk m c 2 t) y = whole7 m c ((win0_7.rect t).emb y)
  obtain ⟨a, e, rfl⟩ : ∃ (a : Fin 512) (e : Fin 128), y = ix2 a e := ⟨y 0, y 1, eq_ix2 y⟩
  rw [emb7, out7_at _ _ _ (col (m ((c : Thread nD τ).loc main_arg2))) (blk2 m c t)]
  rw [uu_at]
  rfl

theorem cover7 (i : S512x128.Idx) : ∃ t : Fin cfg0.N, (cfg0.win 7).flush t = true ∧ i ∈ ((cfg0.win 7).blk t).view.set := by
  have hN : 0 < cfg0.N := by decide
  refine ⟨⟨0, hN⟩, flush0_7 _, ?_⟩
  show i ∈ ((View.whole main_v4_4).slice (win0_7.rect ⟨0, hN⟩)).set
  rw [View.set_slice_whole, Rect.mem_set_unit]
  have b0 : win0_7.index ⟨0, hN⟩ 0 * win0_7.size 0 = 0 := by rw [(idx7 _).1]; rfl
  have b1 : win0_7.index ⟨0, hN⟩ 1 * win0_7.size 1 = 0 := by rw [(idx7 _).2]; rfl
  have h0 : (i 0 : Nat) < 512 := (i 0).isLt
  have h1 : (i 1 : Nat) < 128 := (i 1).isLt
  intro a
  match a with
  | ⟨0, _⟩ => show win0_7.index ⟨0, hN⟩ 0 * win0_7.size 0 ≤ (i 0 : Nat) ∧ (i 0 : Nat) < win0_7.index ⟨0, hN⟩ 0 * win0_7.size 0 + win0_7.xsize (grid0.coords ⟨0, hN⟩) 0
              rw [b0, (xsz7 _).1]; omega
  | ⟨1, _⟩ => show win0_7.index ⟨0, hN⟩ 1 * win0_7.size 1 ≤ (i 1 : Nat) ∧ (i 1 : Nat) < win0_7.index ⟨0, hN⟩ 1 * win0_7.size 1 + win0_7.xsize (grid0.coords ⟨0, hN⟩) 1
              rw [b1, (xsz7 _).2]; omega

theorem final7 : (dats m 0 c).arrAt 7 cfg0.N = whole7 m c :=
  (dats m 0 c).arrAt_eq_of_cover 7 (whole7 m c) (fun t _ => flushed7 m c t) cover7

abbrev whole8 : (⟨S128x512, .bf16⟩ : BufTy).Contents (Elt Ideal) := gates (m ((c : Thread nD τ).loc main_arg0)) (m ((c : Thread nD τ).loc main_arg1)) (m ((c : Thread nD τ).loc main_arg2))

theorem idx8 : ∀ t : Fin cfg0.N, win0_8.index t 0 = 0 ∧ win0_8.index t 1 = 0 := by decide +kernel
theorem xsz8 : ∀ t : Fin cfg0.N, win0_8.xsize (grid0.coords t) 0 = 128 ∧ win0_8.xsize (grid0.coords t) 1 = 512 := by decide +kernel

theorem emb8 (t : Fin cfg0.N) (a : Fin 128) (e : Fin 512) : (win0_8.rect t).emb (ix2 a e) = ix2 a e := by
  funext x
  apply Fin.ext
  refine (Pipeline.Window.rect_emb_val win0_8 t _ x).trans ?_
  match x with
  | ⟨0, _⟩ => show win0_8.index t 0 * 128 + a.val = a.val; rw [(idx8 t).1]; omega
  | ⟨1, _⟩ => show win0_8.index t 1 * 512 + e.val = e.val; rw [(idx8 t).2]; omega

theorem flushed8 (t : Fin cfg0.N) : (dats m 0 c).flushed 8 t = (win0_8.blk t).view.read (Elt Ideal) (whole8 m c) := by
  show (cfg0.win 8).cut (grid0.coords t) ((dats m 0 c).after 8 t) = _
  rw [after0_8]
  refine funext fun (y : S128x512.Idx) => ?_
  show out0_8 (iblk m c 0 t) (iblk m c 1 t) (iblk m c 2 t) y = whole8 m c ((win0_8.rect t).emb y)
  obtain ⟨a, e, rfl⟩ : ∃ (a : Fin 128) (e : Fin 512), y = ix2 a e := ⟨y 0, y 1, eq_ix2 y⟩
  rw [emb8, out8_at _ _ _ (col (m ((c : Thread nD τ).loc main_arg2))) (blk2 m c t)]
  rw [uu_at]
  rfl

theorem cover8 (i : S128x512.Idx) : ∃ t : Fin cfg0.N, (cfg0.win 8).flush t = true ∧ i ∈ ((cfg0.win 8).blk t).view.set := by
  have hN : 0 < cfg0.N := by decide
  refine ⟨⟨0, hN⟩, flush0_8 _, ?_⟩
  show i ∈ ((View.whole main_v4_5).slice (win0_8.rect ⟨0, hN⟩)).set
  rw [View.set_slice_whole, Rect.mem_set_unit]
  have b0 : win0_8.index ⟨0, hN⟩ 0 * win0_8.size 0 = 0 := by rw [(idx8 _).1]; rfl
  have b1 : win0_8.index ⟨0, hN⟩ 1 * win0_8.size 1 = 0 := by rw [(idx8 _).2]; rfl
  have h0 : (i 0 : Nat) < 128 := (i 0).isLt
  have h1 : (i 1 : Nat) < 512 := (i 1).isLt
  intro a
  match a with
  | ⟨0, _⟩ => show win0_8.index ⟨0, hN⟩ 0 * win0_8.size 0 ≤ (i 0 : Nat) ∧ (i 0 : Nat) < win0_8.index ⟨0, hN⟩ 0 * win0_8.size 0 + win0_8.xsize (grid0.coords ⟨0, hN⟩) 0
              rw [b0, (xsz8 _).1]; omega
  | ⟨1, _⟩ => show win0_8.index ⟨0, hN⟩ 1 * win0_8.size 1 ≤ (i 1 : Nat) ∧ (i 1 : Nat) < win0_8.index ⟨0, hN⟩ 1 * win0_8.size 1 + win0_8.xsize (grid0.coords ⟨0, hN⟩) 1
              rw [b1, (xsz8 _).2]; omega

theorem final8 : (dats m 0 c).arrAt 8 cfg0.N = whole8 m c :=
  (dats m 0 c).arrAt_eq_of_cover 8 (whole8 m c) (fun t _ => flushed8 m c t) cover8

abbrev whole9 : (⟨S128x1024, .f32⟩ : BufTy).Contents (Elt Ideal) := branch (m ((c : Thread nD τ).loc main_arg0)) (m ((c : Thread nD τ).loc main_arg1)) (m ((c : Thread nD τ).loc main_arg2))

theorem idx9 : ∀ t : Fin cfg0.N, win0_9.index t 0 = 0 ∧ win0_9.index t 1 = 0 := by decide +kernel
theorem xsz9 : ∀ t : Fin cfg0.N, win0_9.xsize (grid0.coords t) 0 = 128 ∧ win0_9.xsize (grid0.coords t) 1 = 1024 := by decide +kernel

theorem emb9 (t : Fin cfg0.N) (a : Fin 128) (e : Fin 1024) : (win0_9.rect t).emb (ix2 a e) = ix2 a e := by
  funext x
  apply Fin.ext
  refine (Pipeline.Window.rect_emb_val win0_9 t _ x).trans ?_
  match x with
  | ⟨0, _⟩ => show win0_9.index t 0 * 128 + a.val = a.val; rw [(idx9 t).1]; omega
  | ⟨1, _⟩ => show win0_9.index t 1 * 1024 + e.val = e.val; rw [(idx9 t).2]; omega

theorem flushed9 (t : Fin cfg0.N) : (dats m 0 c).flushed 9 t = (win0_9.blk t).view.read (Elt Ideal) (whole9 m c) := by
  show (cfg0.win 9).cut (grid0.coords t) ((dats m 0 c).after 9 t) = _
  rw [after0_9]
  refine funext fun (y : S128x1024.Idx) => ?_
  show out0_9 (iblk m c 0 t) (iblk m c 1 t) (iblk m c 2 t) y = whole9 m c ((win0_9.rect t).emb y)
  obtain ⟨a, e, rfl⟩ : ∃ (a : Fin 128) (e : Fin 1024), y = ix2 a e := ⟨y 0, y 1, eq_ix2 y⟩
  rw [emb9, out9_at _ _ _ (col (m ((c : Thread nD τ).loc main_arg2))) (blk2 m c t)]
  rw [uu_at]
  rfl

theorem cover9 (i : S128x1024.Idx) : ∃ t : Fin cfg0.N, (cfg0.win 9).flush t = true ∧ i ∈ ((cfg0.win 9).blk t).view.set := by
  have hN : 0 < cfg0.N := by decide
  refine ⟨⟨0, hN⟩, flush0_9 _, ?_⟩
  show i ∈ ((View.whole main_v4_6).slice (win0_9.rect ⟨0, hN⟩)).set
  rw [View.set_slice_whole, Rect.mem_set_unit]
  have b0 : win0_9.index ⟨0, hN⟩ 0 * win0_9.size 0 = 0 := by rw [(idx9 _).1]; rfl
  have b1 : win0_9.index ⟨0, hN⟩ 1 * win0_9.size 1 = 0 := by rw [(idx9 _).2]; rfl
  have h0 : (i 0 : Nat) < 128 := (i 0).isLt
  have h1 : (i 1 : Nat) < 1024 := (i 1).isLt
  intro a
  match a with
  | ⟨0, _⟩ => show win0_9.index ⟨0, hN⟩ 0 * win0_9.size 0 ≤ (i 0 : Nat) ∧ (i 0 : Nat) < win0_9.index ⟨0, hN⟩ 0 * win0_9.size 0 + win0_9.xsize (grid0.coords ⟨0, hN⟩) 0
              rw [b0, (xsz9 _).1]; omega
  | ⟨1, _⟩ => show win0_9.index ⟨0, hN⟩ 1 * win0_9.size 1 ≤ (i 1 : Nat) ∧ (i 1 : Nat) < win0_9.index ⟨0, hN⟩ 1 * win0_9.size 1 + win0_9.xsize (grid0.coords ⟨0, hN⟩) 1
              rw [b1, (xsz9 _).2]; omega

theorem final9 : (dats m 0 c).arrAt 9 cfg0.N = whole9 m c :=
  (dats m 0 c).arrAt_eq_of_cover 9 (whole9 m c) (fun t _ => flushed9 m c t) cover9

abbrev whole10 : (⟨S128x128, .f32⟩ : BufTy).Contents (Elt Ideal) := steps (m ((c : Thread nD τ).loc main_arg0)) (m ((c : Thread nD τ).loc main_arg1)) (m ((c : Thread nD τ).loc main_arg2))

theorem idx10 : ∀ t : Fin cfg0.N, win0_10.index t 0 = 0 ∧ win0_10.index t 1 = 0 := by decide +kernel
theorem xsz10 : ∀ t : Fin cfg0.N, win0_10.xsize (grid0.coords t) 0 = 128 ∧ win0_10.xsize (grid0.coords t) 1 = 128 := by decide +kernel

theorem emb10 (t : Fin cfg0.N) (a : Fin 128) (e : Fin 128) : (win0_10.rect t).emb (ix2 a e) = ix2 a e := by
  funext x
  apply Fin.ext
  refine (Pipeline.Window.rect_emb_val win0_10 t _ x).trans ?_
  match x with
  | ⟨0, _⟩ => show win0_10.index t 0 * 128 + a.val = a.val; rw [(idx10 t).1]; omega
  | ⟨1, _⟩ => show win0_10.index t 1 * 128 + e.val = e.val; rw [(idx10 t).2]; omega

theorem flushed10 (t : Fin cfg0.N) : (dats m 0 c).flushed 10 t = (win0_10.blk t).view.read (Elt Ideal) (whole10 m c) := by
  show (cfg0.win 10).cut (grid0.coords t) ((dats m 0 c).after 10 t) = _
  rw [after0_10]
  refine funext fun (y : S128x128.Idx) => ?_
  show out0_10 (iblk m c 0 t) (iblk m c 1 t) (iblk m c 2 t) y = whole10 m c ((win0_10.rect t).emb y)
  obtain ⟨a, e, rfl⟩ : ∃ (a : Fin 128) (e : Fin 128), y = ix2 a e := ⟨y 0, y 1, eq_ix2 y⟩
  rw [emb10, out10_at _ _ _ (col (m ((c : Thread nD τ).loc main_arg2))) (blk2 m c t)]
  rw [uu_at]
  rfl

theorem cover10 (i : S128x128.Idx) : ∃ t : Fin cfg0.N, (cfg0.win 10).flush t = true ∧ i ∈ ((cfg0.win 10).blk t).view.set := by
  have hN : 0 < cfg0.N := by decide
  refine ⟨⟨0, hN⟩, flush0_10 _, ?_⟩
  show i ∈ ((View.whole main_v4_7).slice (win0_10.rect ⟨0, hN⟩)).set
  rw [View.set_slice_whole, Rect.mem_set_unit]
  have b0 : win0_10.index ⟨0, hN⟩ 0 * win0_10.size 0 = 0 := by rw [(idx10 _).1]; rfl
  have b1 : win0_10.index ⟨0, hN⟩ 1 * win0_10.size 1 = 0 := by rw [(idx10 _).2]; rfl
  have h0 : (i 0 : Nat) < 128 := (i 0).isLt
  have h1 : (i 1 : Nat) < 128 := (i 1).isLt
  intro a
  match a with
  | ⟨0, _⟩ => show win0_10.index ⟨0, hN⟩ 0 * win0_10.size 0 ≤ (i 0 : Nat) ∧ (i 0 : Nat) < win0_10.index ⟨0, hN⟩ 0 * win0_10.size 0 + win0_10.xsize (grid0.coords ⟨0, hN⟩) 0
              rw [b0, (xsz10 _).1]; omega
  | ⟨1, _⟩ => show win0_10.index ⟨0, hN⟩ 1 * win0_10.size 1 ≤ (i 1 : Nat) ∧ (i 1 : Nat) < win0_10.index ⟨0, hN⟩ 1 * win0_10.size 1 + win0_10.xsize (grid0.coords ⟨0, hN⟩) 1
              rw [b1, (xsz10 _).2]; omega

theorem final10 : (dats m 0 c).arrAt 10 cfg0.N = whole10 m c :=
  (dats m 0 c).arrAt_eq_of_cover 10 (whole10 m c) (fun t _ => flushed10 m c t) cover10

end Cert.Kernel5Ideal.In

end
-- ==== Proof.InSampleRef.lean ====
/-
  The reference's in-projection of the sample batch, element by element over the extended reals: each of its eight results is the array of the columns the
  kernel lays out.
-/
module

public import proofs.«01_k».proof.Proof.InSampleMath
public import proofs.«01_k».proof.Proof.Gen.Reference5Ideal.Read
public import Idealize.ShloMosaic.Lib.ValueLayout
public import Idealize.ShloMosaic.Lib.IdealHost

@[expose] public section

set_option maxRecDepth 16384

noncomputable section

namespace Cert.Reference5Ideal.In

open Cert.Reference5Ideal Cert.Reference5Ideal.Gen Cert.Reference5Ideal.Read Cert.InSample Cert.Ffn
open Cert.In (col scale)
open Idealize.ShloMosaic Idealize.ShloMosaic.TcCoe Idealize.ShloMosaic.ValueIdx

variable (x0 : (⟨S128x1x1024, .f32⟩ : BufTy).Contents (Elt Ideal)) (x1 : (⟨S1x1024, .f32⟩ : BufTy).Contents (Elt Ideal))
  (x2 : (⟨S1x1024x3080, .f32⟩ : BufTy).Contents (Elt Ideal))

theorem v14_at (a : Fin 1024) (d : Fin 3080) : val_main_v14 (F := Ideal) x2 (ix2 a d) = col x2 a d.val := by
  unfold col
  rw [dif_pos d.isLt, val_main_v14_apply]
  refine congrArg x2 (funext fun y => Fin.ext ?_)
  match y with
  | ⟨0, _⟩ => rfl
  | ⟨1, _⟩ => show (a.val * 3080 + d.val) / 3080 % 1024 = a.val; omega
  | ⟨2, _⟩ => show (a.val * 3080 + d.val) % 3080 = d.val; omega

/-- The normed rows. -/
theorem v13_at (b : Fin 128) (j : Fin 1024) :
    val_main_v13 (F := Ideal) x0 x1 (ix3 b 0 j) = rms (fun j => x0 (ix3 b 0 j)) (fun j => x1 (ix2 0 j)) j := by
  rw [val_main_v13_apply, val_main_v10_apply, val_main_v9_apply, val_main_v8_apply, val_main_v7_apply, val_main_v5_apply, val_main_v3_apply, val_main_v2_apply,
    val_main_v12_apply, val_main_v11_apply, val_main_v0_apply]
  have e1 : ∀ k, val_main_v1 (F := Ideal) x0 (idx_main_v2 (idx_main_v3 (idx_main_v9 (ix3 b 0 j))) k) = (x0 (ix3 b 0 k) : EReal) * x0 (ix3 b 0 k) := fun k => by
    have e : idx_main_v2 (idx_main_v3 (idx_main_v9 (ix3 b 0 j))) k = ix3 b 0 k := by
      funext a; match a with | ⟨0, _⟩ => rfl | ⟨1, _⟩ => rfl | ⟨2, _⟩ => rfl
    rw [e, val_main_v1_apply]
    rfl
  have e2 : idx_main_v0 (idx_main_v11 (idx_main_v12 (ix3 b 0 j))) = ix2 0 j := by
    funext a
    apply Fin.ext
    match a with
    | ⟨0, _⟩ => rfl
    | ⟨1, _⟩ => first | rfl | (show j.val % 1024 = j.val; omega)
  simp only [e1]
  rw [e2]
  show (x0 (ix3 b 0 j) : EReal) * Ideal.rsqrt (Ideal.div (Ideal.ofBits .f32 0x00000000#32 + _) dim + eps) * x1 (ix2 0 j) = _
  rw [Ideal.ofBits_zero_f32, zero_add]
  rfl

/-- A token's row against a column. -/
theorem v15_at (i : S128x1x3080.Idx) (n : Fin 128) (c : ℕ) (hn : (i 0 : ℕ) = n.val) (hc : (i 2 : ℕ) = c) :
    val_main_v15 (F := Ideal) x0 x1 x2 i = u x0 x1 x2 n c := by
  subst hc
  have b1 : (i 1 : ℕ) < 1 := (i 1).isLt
  rw [val_main_v15_apply]
  unfold u
  refine Finset.sum_congr rfl fun k _ => congrArg₂ (fun a b : EReal => a * b) ?_ ?_
  · have e : lidx_main_v15 i k = ix3 n 0 k := by
      funext a
      apply Fin.ext
      match a with
      | ⟨0, _⟩ => exact hn
      | ⟨1, _⟩ => show (i 1 : ℕ) = 0; omega
      | ⟨2, _⟩ => rfl
    rw [e]
    exact v13_at x0 x1 _ k
  · have e : ridx_main_v15 i k = ix2 k (i 2) := by
      funext a; match a with | ⟨0, _⟩ => rfl | ⟨1, _⟩ => rfl
    rw [e]
    exact v14_at x2 k (i 2)

theorem v27_eq : val_main_v27 (F := Ideal) x0 x1 x2 = queries x0 x1 x2 := funext fun i => by
  have h0 : (i 0 : ℕ) < 128 := (i 0).isLt
  have h1 : (i 1 : ℕ) < 512 := (i 1).isLt
  rw [val_main_v27_apply, val_main_v26_apply, val_main_v25_apply, val_main_v24_apply, val_main_cst_2_apply, val_main_v16_apply]
  refine congrArg (fun z : EReal => z * scale) (v15_at x0 x1 x2 _ (i 0) (0 + (i 1 : ℕ)) ?_ ?_)
  · show ((i 0 : ℕ) * 512 + (i 1 : ℕ)) / 512 = (i 0 : ℕ); omega
  · show ((i 0 : ℕ) * 512 + (i 1 : ℕ)) % 512 = 0 + (i 1 : ℕ); omega

theorem v28_eq : val_main_v28 (F := Ideal) x0 x1 x2 = keys x0 x1 x2 := funext fun i => by
  have h0 : (i 0 : ℕ) < 512 := (i 0).isLt
  have h1 : (i 1 : ℕ) < 128 := (i 1).isLt
  rw [val_main_v28_apply, val_main_v17_apply]
  refine v15_at x0 x1 x2 _ (tok i) (512 + hcol i) ?_ ?_
  · show ((i 0 : ℕ) * 128 + (i 1 : ℕ)) / 512 = (i 0 : ℕ) / 4; omega
  · show 512 + ((i 0 : ℕ) * 128 + (i 1 : ℕ)) % 512 = 512 + (128 * ((i 0 : ℕ) % 4) + (i 1 : ℕ)); omega

theorem v29_eq : val_main_v29 (F := Ideal) x0 x1 x2 = values x0 x1 x2 := funext fun i => by
  have h0 : (i 0 : ℕ) < 512 := (i 0).isLt
  have h1 : (i 1 : ℕ) < 128 := (i 1).isLt
  rw [val_main_v29_apply, val_main_v18_apply]
  refine v15_at x0 x1 x2 _ (tok i) (1024 + hcol i) ?_ ?_
  · show ((i 0 : ℕ) * 128 + (i 1 : ℕ)) / 512 = (i 0 : ℕ) / 4; omega
  · show 1024 + ((i 0 : ℕ) * 128 + (i 1 : ℕ)) % 512 = 1024 + (128 * ((i 0 : ℕ) % 4) + (i 1 : ℕ)); omega

theorem v31_eq : val_main_v31 (F := Ideal) x0 x1 x2 = keyRows x0 x1 x2 := funext fun i => by
  have h0 : (i 0 : ℕ) < 128 := (i 0).isLt
  have h1 : (i 1 : ℕ) < 512 := (i 1).isLt
  rw [val_main_v31_apply, val_main_v30_apply, val_main_v17_apply]
  refine v15_at x0 x1 x2 _ (i 0) (512 + (i 1 : ℕ)) ?_ ?_
  · show ((i 0 : ℕ) * 512 + (i 1 : ℕ)) / 512 = (i 0 : ℕ); omega
  · show 512 + ((i 0 : ℕ) * 512 + (i 1 : ℕ)) % 512 = 512 + (i 1 : ℕ); omega

theorem v34_eq : val_main_v34 (F := Ideal) x0 x1 x2 = gates x0 x1 x2 := funext fun i => by
  have h0 : (i 0 : ℕ) < 128 := (i 0).isLt
  have h1 : (i 1 : ℕ) < 512 := (i 1).isLt
  rw [val_main_v34_apply, val_main_v33_apply, val_main_v19_apply]
  refine v15_at x0 x1 x2 _ (i 0) (1536 + (i 1 : ℕ)) ?_ ?_
  · show ((i 0 : ℕ) * 512 + (i 1 : ℕ)) / 512 = (i 0 : ℕ); omega
  · show 1536 + ((i 0 : ℕ) * 512 + (i 1 : ℕ)) % 512 = 1536 + (i 1 : ℕ); omega

theorem v35_eq : val_main_v35 (F := Ideal) x0 x1 x2 = branch x0 x1 x2 := funext fun i => by
  have h0 : (i 0 : ℕ) < 128 := (i 0).isLt
  have h1 : (i 1 : ℕ) < 1024 := (i 1).isLt
  rw [val_main_v35_apply, val_main_v20_apply]
  refine v15_at x0 x1 x2 _ (i 0) (2048 + (i 1 : ℕ)) ?_ ?_
  · show ((i 0 : ℕ) * 1024 + (i 1 : ℕ)) / 1024 = (i 0 : ℕ); omega
  · show 2048 + ((i 0 : ℕ) * 1024 + (i 1 : ℕ)) % 1024 = 2048 + (i 1 : ℕ); omega

theorem v32_eq : val_main_v32 (F := Ideal) x0 x1 x2 = valueCols x0 x1 x2 := funext fun i => by
  have h0 : (i 0 : ℕ) < 512 := (i 0).isLt
  have h1 : (i 1 : ℕ) < 128 := (i 1).isLt
  rw [val_main_v32_apply, val_main_v23_apply, val_main_v22_apply, val_main_v18_apply]
  refine v15_at x0 x1 x2 _ (i 1) (1024 + (i 0 : ℕ)) ?_ ?_
  · show ((i 1 : ℕ) * 512 + (i 0 : ℕ)) / 512 = (i 1 : ℕ); omega
  · show 1024 + ((i 1 : ℕ) * 512 + (i 0 : ℕ)) % 512 = 1024 + (i 0 : ℕ); omega

theorem off_axis {n : ℕ} (a : Fin 128) (d : Fin n) (d' : Fin 128) :
    ∀ y : Fin 2, y ≠ 1 → ((ix2 a d : (⟨2, ![128, n]⟩ : Shape).Idx) y).val = ((ix2 a d' : S128x128.Idx) y).val := fun y hy => by
  match y, hy with
  | ⟨0, _⟩, _ => rfl
  | ⟨1, _⟩, hy => exact absurd rfl hy

theorem v36_at (a : Fin 128) (d : Fin 8) : val_main_v36 (F := Ideal) x0 x1 x2 (ix2 a d) = u x0 x1 x2 a (3072 + d.val) := by
  rw [val_main_v36_apply, val_main_v21_apply]
  refine v15_at x0 x1 x2 _ a (3072 + d.val) ?_ ?_
  · show (a.val * 8 + d.val) / 8 = a.val; omega
  · show 3072 + (a.val * 8 + d.val) % 8 = 3072 + d.val; omega

theorem v37_at (i : S128x120.Idx) : val_main_v37 (F := Ideal) i = (0 : EReal) := by
  rw [val_main_v37_apply, val_main_cst_3_apply]
  exact Ideal.ofBits_zero_f32

theorem v38_eq : val_main_v38 (F := Ideal) x0 x1 x2 = steps x0 x1 x2 := funext fun i => by
  obtain ⟨a, d, rfl⟩ : ∃ (a : Fin 128) (d : Fin 128), i = ix2 a d := ⟨i 0, i 1, eq_ix2 i⟩
  show _ = u x0 x1 x2 a (3072 + d.val)
  unfold val_main_v38
  by_cases h : d.val < 8
  · exact (concatenate_apply_piece (t := S128x128) 1 [⟨S128x8, val_main_v36 (F := Ideal) x0 x1 x2⟩, ⟨S128x120, val_main_v37 (F := Ideal)⟩] _ (ix2 a d) 0 (show 0 < 2 by decide) S128x8
      (val_main_v36 (F := Ideal) x0 x1 x2) rfl rfl 0 rfl (ix2 a (⟨d.val, h⟩ : Fin 8)) (off_axis a _ d) (Nat.zero_add _)).trans (v36_at x0 x1 x2 a _)
  · refine (concatenate_apply_piece (t := S128x128) 1 [⟨S128x8, val_main_v36 (F := Ideal) x0 x1 x2⟩, ⟨S128x120, val_main_v37 (F := Ideal)⟩] _ (ix2 a d) 1 (show 1 < 2 by decide) S128x120
      (val_main_v37 (F := Ideal)) rfl rfl 8 rfl (ix2 a (⟨d.val - 8, by omega⟩ : Fin 120)) (off_axis a _ d) ?_).trans ?_
    · show 8 + (d.val - 8) = d.val; omega
    · rw [v37_at, u_zero x0 x1 x2 a (3072 + d.val) (by omega)]

end Cert.Reference5Ideal.In

end
-- ==== Proof.InSampleClaims.lean ====
/-
  The claims about the in-projection over the sample batch: both kernels' frames, the reference's frame, and the equation of the kernel's
  eight results with the reference's over the extended reals.
-/
module

public import proofs.«01_k».proof.Defs
public import proofs.«01_k».proof.Proof.Gen.Kernel5
public import proofs.«01_k».proof.Proof.InSampleWhole
public import proofs.«01_k».proof.Proof.InSampleRef
public import proofs.«01_k».proof.Proof.Gen.Reference5Ideal.Run

@[expose] public section

set_option maxRecDepth 16384

noncomputable section

namespace Cert.InSampleClaims

open Idealize.ShloMosaic Idealize.ShloMosaic.TcCoe Idealize.SL.Sem
open Cert.Kernel5Ideal.In Cert.Reference5Ideal.In

/-- The two kernels' bodies have one text. -/
theorem bodies_eq : Cert.Kernel5.defs₀ (F := Bits) = Cert.Kernel5Ideal.defs₀ (F := Bits) := by
  unfold Cert.Kernel5.defs₀ Cert.Kernel5Ideal.defs₀
  congr 1
  refine funext fun i => ?_
  match i with
  | ⟨0, _⟩ => rfl

theorem defs_eq : Cert.Kernel5.defs (F := Bits) = Cert.Kernel5Ideal.defs (F := Bits) :=
  congrArg (fun d => Pipeline.defs (Cert.Kernel5Ideal.pcfgs (F := Bits)) d) bodies_eq

theorem frame_kernel : Cert.quiescent_Kernel5 := fun m ρ _ => by
  rw [defs_eq]
  exact (θ_run Cert.Kernel5Ideal.defs _ _).mono (fun _ h => h) (frame (F := Bits) m ρ)

theorem frame_ideal : Cert.quiescent_Kernel5Ideal := fun m ρ _ => frame m ρ

theorem frame_reference : Cert.quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

theorem preserves : Cert.preserves_Kernel5_Kernel5Ideal := trivial

/-- The kernel's result arrays and the reference's are one function of the arguments each. -/
theorem algebraic : Cert.algebraic_Kernel5Ideal_Reference5Ideal := by
  intro m ρ m' ρ' _ hag
  refine ⟨fun c => whole3 m c, fun c => whole4 m c, fun c => whole5 m c, fun c => whole6 m c, fun c => whole7 m c, fun c => whole8 m c, fun c => whole9 m c, fun c => whole10 m c, ?_, ?_⟩
  · exact (θ_run Cert.Kernel5Ideal.defs _ _).mono
      (fun r h c => ⟨((h.1 c).1 3).trans (final3 m c), ((h.1 c).1 4).trans (final4 m c), ((h.1 c).1 5).trans (final5 m c), ((h.1 c).1 6).trans (final6 m c), ((h.1 c).1 7).trans (final7 m c), ((h.1 c).1 8).trans (final8 m c), ((h.1 c).1 9).trans (final9 m c), ((h.1 c).1 10).trans (final10 m c), h.2.1 c⟩)
      (θ_run_and (run_main m ρ) (frame m ρ))
  · refine (θ_run Cert.Reference5Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.Reference5Ideal.Value.run (F := Ideal) m' ρ')
    · obtain ⟨e0, e1, e2⟩ := hag c
      refine (Cert.Reference5Ideal.Read.val_main_v27_eq _ _ _).trans ((v27_eq _ _ _).trans ?_)
      rw [e0, e1, e2]
    · obtain ⟨e0, e1, e2⟩ := hag c
      refine (Cert.Reference5Ideal.Read.val_main_v28_eq _ _ _).trans ((v28_eq _ _ _).trans ?_)
      rw [e0, e1, e2]
    · obtain ⟨e0, e1, e2⟩ := hag c
      refine (Cert.Reference5Ideal.Read.val_main_v29_eq _ _ _).trans ((v29_eq _ _ _).trans ?_)
      rw [e0, e1, e2]
    · obtain ⟨e0, e1, e2⟩ := hag c
      refine (Cert.Reference5Ideal.Read.val_main_v31_eq _ _ _).trans ((v31_eq _ _ _).trans ?_)
      rw [e0, e1, e2]
    · obtain ⟨e0, e1, e2⟩ := hag c
      refine (Cert.Reference5Ideal.Read.val_main_v32_eq _ _ _).trans ((v32_eq _ _ _).trans ?_)
      rw [e0, e1, e2]
    · obtain ⟨e0, e1, e2⟩ := hag c
      refine (Cert.Reference5Ideal.Read.val_main_v34_eq _ _ _).trans ((v34_eq _ _ _).trans ?_)
      rw [e0, e1, e2]
    · obtain ⟨e0, e1, e2⟩ := hag c
      refine (Cert.Reference5Ideal.Read.val_main_v35_eq _ _ _).trans ((v35_eq _ _ _).trans ?_)
      rw [e0, e1, e2]
    · obtain ⟨e0, e1, e2⟩ := hag c
      refine (Cert.Reference5Ideal.Read.val_main_v38_eq _ _ _).trans ((v38_eq _ _ _).trans ?_)
      rw [e0, e1, e2]

end Cert.InSampleClaims

end
-- ==== Proof.SsdMath.lean ====
/-
  One step of the state-space mixer for one token, over the extended reals: the convolution, the decay and the step size of each
  head, the next state, its read-out, the skip, the gate and the norm over a group.
-/
module

public import proofs.«01_k».proof.Proof.FfnMath

@[expose] public section

noncomputable section

namespace Cert.Ssd

open Cert.Ffn (one eps)
open Idealize.ShloMosaic

def width : EReal := Ideal.ofBits .f32 0x43800000#32

def silu (a : EReal) : EReal := a * Ideal.div one (one + Ideal.exp (-a))
def soft (a : EReal) : EReal := max a 0 + Ideal.log1p (Ideal.exp (-(max a (-a))))

/-- The convolution over the token and the three before it, then the activation. -/
def conv (w : Fin 4 → Fin 1024 → EReal) (b x : Fin 1024 → EReal) (old : Fin 3 → Fin 1024 → EReal) (c : Fin 1024) : EReal :=
  silu (b c + w 3 c * x c + w 0 c * old 0 c + w 1 c * old 1 c + w 2 c * old 2 c)

/-- The head of a row of the state, its channel, and the columns its group reads the input and the output maps from. -/
def head (r : Fin 512) : Fin 8 := ⟨r.val / 64, by omega⟩
def chan (r : Fin 512) : Fin 1024 := ⟨r.val, by omega⟩
def inCol (r : Fin 512) (n : Fin 128) : Fin 1024 := ⟨512 + 128 * (r.val / 256) + n.val, by omega⟩
def outCol (r : Fin 512) (n : Fin 128) : Fin 1024 := ⟨768 + 128 * (r.val / 256) + n.val, by omega⟩
def mate (r : Fin 512) (k : Fin 256) : Fin 512 := ⟨256 * (r.val / 256) + k.val, by omega⟩

/-- The next state. -/
def next (u : Fin 1024 → EReal) (dt da : Fin 8 → EReal) (old : Fin 512 → Fin 128 → EReal) (r : Fin 512) (n : Fin 128) : EReal :=
  da (head r) * old r n + dt (head r) * u (chan r) * u (inCol r n)

/-- The state read out. -/
def readout (u : Fin 1024 → EReal) (s : Fin 512 → Fin 128 → EReal) (r : Fin 512) : EReal := ∑ n, u (outCol r n) * s r n

/-- The read-out with the skip, gated. -/
def gated (u : Fin 1024 → EReal) (y z d : Fin 512 → EReal) (r : Fin 512) : EReal := (y r + d r * u (chan r)) * silu (z r)

/-- A row over the root of its mean square over a group, times the gain. -/
def norm (v g : Fin 512 → EReal) (r : Fin 512) : EReal :=
  v r * Ideal.rsqrt (Ideal.div (∑ k, v (mate r k) * v (mate r k)) width + eps) * g r

end Cert.Ssd

end
-- ==== Proof.SsdParts.lean ====
/-
  What the body of the mixer's step leaves in its blocks, element by element over the extended reals: eight tokens a block, the
  next state stored head by head, the read-out kept row by row and gated at the end.
-/
module

public import proofs.«01_k».proof.Proof.SsdMath
public import proofs.«01_k».proof.Proof.Gen.Kernel6Ideal.Value
public import Idealize.ShloMosaic.Lib.MatmulPlain
public import Idealize.ShloMosaic.Lib.WritesUnit
public import Idealize.ShloMosaic.Lib.WholeRead
public import Idealize.ShloMosaic.Lib.Pipeline.ValueKit.Tiles
public import Idealize.ShloMosaic.Lib.ValueIdx
public import Idealize.ShloMosaic.Lib.ValueLayout
public import Idealize.ShloMosaic.Lib.IdealHost

@[expose] public section

set_option maxRecDepth 16384

noncomputable section

namespace Cert.Kernel6Ideal.Ssd

open Cert.Kernel6Ideal Cert.Kernel6Ideal.Gen Cert.Ssd
open Cert.Ffn (one eps)
open Idealize.ShloMosaic Idealize.ShloMosaic.TcCoe Idealize.ShloMosaic.ValueIdx

/-! ## Layout -/

theorem slice_at {M N m n : ℕ} (x : FVec Ideal (⟨2, ![M, N]⟩ : Shape) .f32) (i o : ℕ) (hs : (⟨2, ![M, N]⟩ : Shape).Slices ![i, o] (⟨2, ![m, n]⟩ : Shape))
    (r : Fin m) (c : Fin n) (r' : Fin M) (c' : Fin N) (hr : r'.val = i + r.val) (hc : c'.val = o + c.val) :
    extractStridedSlice (⟨2, ![m, n]⟩ : Shape) ![i, o] x hs (ix2 r c) = x (ix2 r' c') :=
  extractStridedSlice_apply ![i, o] x hs (ix2 r c) (ix2 r' c') (fun a => by
    match a with
    | ⟨0, _⟩ => exact hr
    | ⟨1, _⟩ => exact hc)

theorem row_over {M N : ℕ} (x : FVec Ideal (⟨2, ![1, N]⟩ : Shape) .f32) (hb : (⟨2, ![1, N]⟩ : Shape).Broadcasts (⟨2, ![M, N]⟩ : Shape)) (hN : N ≠ 1)
    (r : Fin M) (c : Fin N) : broadcastTo (⟨2, ![M, N]⟩ : Shape) x hb (ix2 r c) = x (ix2 0 c) :=
  broadcastTo_apply x _ _ _ (fun a => by
    match a with
    | ⟨0, _⟩ => rfl
    | ⟨1, _⟩ => exact (if_neg hN).symm)

theorem col_over {M N : ℕ} (x : FVec Ideal (⟨2, ![M, 1]⟩ : Shape) .f32) (hb : (⟨2, ![M, 1]⟩ : Shape).Broadcasts (⟨2, ![M, N]⟩ : Shape)) (hM : M ≠ 1)
    (r : Fin M) (c : Fin N) : broadcastTo (⟨2, ![M, N]⟩ : Shape) x hb (ix2 r c) = x (ix2 r 0) :=
  broadcastTo_apply x _ _ _ (fun a => by
    match a with
    | ⟨0, _⟩ => exact (if_neg hM).symm
    | ⟨1, _⟩ => rfl)

theorem one_over {M N : ℕ} (x : FVec Ideal (⟨2, ![1, 1]⟩ : Shape) .f32) (hb : (⟨2, ![1, 1]⟩ : Shape).Broadcasts (⟨2, ![M, N]⟩ : Shape))
    (r : Fin M) (c : Fin N) : broadcastTo (⟨2, ![M, N]⟩ : Shape) x hb (ix2 r c) = x (ix2 0 0) :=
  broadcastTo_apply x _ _ _ (fun a => by
    match a with
    | ⟨0, _⟩ => rfl
    | ⟨1, _⟩ => rfl)

/-- A head's slab read flat. -/
theorem flat_at (x : Vec Ideal S1x64x128 .f32) (p : Fin 64) (n : Fin 128) :
    shapeCast S64x128 x shapeCasts_S1x64x128_S64x128 (ix2 p n) = x (ix3 0 p n) :=
  shapeCast_apply x _ _ _ (by
    rw [Shape.rowMajor_val_three, Shape.rowMajor_val_two]
    show (0 * 64 + p.val) * 128 + n.val = p.val * 128 + n.val
    omega)

theorem slab_at (x : FVec Ideal S64x128 .f32) (a : Fin 1) (p : Fin 64) (n : Fin 128) :
    shapeCast S1x64x128 x shapeCasts_S64x128_S1x64x128 (ix3 a p n) = x (ix2 p n) :=
  shapeCast_apply x _ _ _ (by
    rw [Shape.rowMajor_val_three, Shape.rowMajor_val_two]
    show p.val * 128 + n.val = (a.val * 64 + p.val) * 128 + n.val
    omega)

theorem flat8_at (x : Vec Ideal S1x8x1024 .f32) (p : Fin 8) (n : Fin 1024) :
    shapeCast S8x1024 x shapeCasts_S1x8x1024_S8x1024 (ix2 p n) = x (ix3 0 p n) :=
  shapeCast_apply x _ _ _ (by
    rw [Shape.rowMajor_val_three, Shape.rowMajor_val_two]
    show (0 * 8 + p.val) * 1024 + n.val = p.val * 1024 + n.val
    omega)

/-! ## The convolution, the step sizes and the decays -/

theorem pay2_at (w : Vec Ideal S4x1024 .f32) (b : Vec Ideal S1x1024 .f32) (x : Vec Ideal S8x1024 .f32) (a0 a1 a2 : Vec Ideal S1x8x1024 .f32)
    (r : Fin 8) (c : Fin 1024) :
    k0_pay2 w b x a0 a1 a2 (ix2 r c)
      = silu ((b (ix2 0 c) : EReal) + w (ix2 3 c) * x (ix2 r c) + w (ix2 0 c) * a0 (ix3 0 r c) + w (ix2 1 c) * a1 (ix3 0 r c) + w (ix2 2 c) * a2 (ix3 0 r c)) := by
  have e : ∀ (v : FVec Ideal S8x1024 .f32) (i : S8x1024.Idx), mulf v (divf (broadcast S8x1024 (Scalar.ofBits (F := Ideal) .f32 0x3F800000#32))
      (addf (broadcast S8x1024 (Scalar.ofBits (F := Ideal) .f32 0x3F800000#32)) (exp (subf (broadcast S8x1024 (Scalar.ofBits (F := Ideal) .f32 0x00000000#32)) v)))) i = silu (v i) := fun v i => by
    show (v i : EReal) * Ideal.div one (one + Ideal.exp (Ideal.ofBits .f32 0x00000000#32 - v i)) = _
    rw [Ideal.ofBits_zero_f32, zero_sub]
    rfl
  unfold k0_pay2
  simp only [shapeCast_self]
  rw [e]
  refine congrArg silu ?_
  rw [addf_apply, addf_apply, addf_apply, addf_apply, mulf_apply, mulf_apply, mulf_apply, mulf_apply,
    row_over _ _ (by decide), row_over _ _ (by decide), row_over _ _ (by decide), row_over _ _ (by decide), row_over _ _ (by decide),
    flat8_at, flat8_at, flat8_at,
    slice_at w 3 0 _ 0 c 3 c rfl (Nat.zero_add _).symm, slice_at w 0 0 _ 0 c 0 c rfl (Nat.zero_add _).symm,
    slice_at w 1 0 _ 0 c 1 c rfl (Nat.zero_add _).symm, slice_at w 2 0 _ 0 c 2 c rfl (Nat.zero_add _).symm]

theorem pay4_at (x : Vec Ideal S8x128 .f32) (b : Vec Ideal S1x128 .f32) (r : Fin 8) (c : Fin 128) :
    k0_pay4 x b (ix2 r c) = soft ((x (ix2 r c) : EReal) + b (ix2 0 c)) := by
  have e : ∀ (v : FVec Ideal S8x128 .f32) (i : S8x128.Idx), addf (maximumf v (broadcast S8x128 (Scalar.ofBits (F := Ideal) .f32 0x00000000#32)))
      (log1p (exp (subf (broadcast S8x128 (Scalar.ofBits (F := Ideal) .f32 0x00000000#32)) (absf v)))) i = soft (v i) := fun v i => by
    show max (v i : EReal) (Ideal.ofBits .f32 0x00000000#32) + Ideal.log1p (Ideal.exp (Ideal.ofBits .f32 0x00000000#32 - max (v i) (-(v i)))) = _
    rw [Ideal.ofBits_zero_f32, zero_sub]
    rfl
  unfold k0_pay4
  simp only [shapeCast_self]
  rw [e, addf_apply, row_over _ _ (by decide)]

theorem pay5_at (x : Vec Ideal S8x128 .f32) (b a : Vec Ideal S1x128 .f32) (r : Fin 8) (c : Fin 128) :
    k0_pay5 x b a (ix2 r c) = Ideal.exp ((k0_pay4 x b (ix2 r c) : EReal) * -(Ideal.exp (a (ix2 0 c)))) := by
  have e : ∀ (i : S1x128.Idx), subf (broadcast S1x128 (Scalar.ofBits (F := Ideal) .f32 0x00000000#32)) (exp a) i = -(Ideal.exp (a i)) := fun i => by
    show Ideal.ofBits .f32 0x00000000#32 - Ideal.exp (a i) = _
    rw [Ideal.ofBits_zero_f32, zero_sub]
  unfold k0_pay5
  simp only [shapeCast_self]
  show Ideal.exp ((k0_pay4 x b (ix2 r c) : EReal) * broadcastTo S8x128 _ broadcasts_S1x128_S8x128 (ix2 r c)) = _
  rw [row_over _ _ (by decide), e]

/-- The channels of a block, turned: a channel a row, a token a column. -/
theorem turned (x : FVec Ideal S8x512 .f32) (o : ℕ) (hs : S8x512.Slices ![0, o] S8x128) (i : Fin 128) (b : Fin 8) (c : Fin 512) (hc : c.val = o + i.val) (b' : Fin 128) (hb : b'.val = b.val) :
    transpose S128x128 [1, 0] (concatenate S128x128 0 [⟨S8x128, extractStridedSlice S8x128 ![0, o] x hs⟩, ⟨S120x128, k0_pay6 (F := Ideal)⟩] concatenates_S8x128_S120x128_S128x128_d0)
      transposes_S128x128_p1_0_S128x128 (ix2 i b') = x (ix2 b c) := by
  refine (transpose_apply (t := S128x128) [1, 0] _ transposes_S128x128_p1_0_S128x128 (ix2 i b') (ix2 b' i) (fun a => by
    match a with
    | ⟨0, _⟩ => rfl
    | ⟨1, _⟩ => rfl)).trans ?_
  refine (concatenate_apply_piece (t := S128x128) 0 [⟨S8x128, extractStridedSlice S8x128 ![0, o] x hs⟩, ⟨S120x128, k0_pay6 (F := Ideal)⟩] _ (ix2 b' i) 0 (show 0 < 2 by decide) S8x128
    (extractStridedSlice S8x128 ![0, o] x hs) rfl rfl 0 rfl (ix2 b i) (fun a ha => by
      match a, ha with
      | ⟨0, _⟩, ha => exact absurd rfl ha
      | ⟨1, _⟩, _ => rfl) ((Nat.zero_add _).trans hb.symm)).trans ?_
  exact slice_at x 0 o hs b i b c (Nat.zero_add _).symm hc

/-! ## A head's next state -/

/-- The next state of a token's head as the body writes it, from the turned channels `T`. -/
abbrev newE (b h o q : ℕ) (X : FVec Ideal S8x1024 .f32) (dt da : FVec Ideal S8x128 .f32) (T : FVec Ideal S128x128 .f32) (old : Vec Ideal S1x64x128 .f32)
    (s1 : S128x128.Slices ![q, b] S64x1) (s2 : S8x1024.Slices ![b, o] S1x128) (s3 : S8x128.Slices ![b, h] S1x1) : FVec Ideal S64x128 .f32 :=
  addf (mulf (broadcastTo S64x128 (extractStridedSlice S1x1 ![b, h] da s3) broadcasts_S1x1_S64x128) (shapeCast S64x128 old shapeCasts_S1x64x128_S64x128))
    (mulf (broadcastTo S64x128 (mulf (broadcastTo S64x1 (extractStridedSlice S1x1 ![b, h] dt s3) broadcasts_S1x1_S64x1) (extractStridedSlice S64x1 ![q, b] T s1))
      broadcasts_S64x1_S64x128) (broadcastTo S64x128 (extractStridedSlice S1x128 ![b, o] X s2) broadcasts_S1x128_S64x128))

/-- Row `64 * h + p` of the state. -/
def at64 (h : Fin 8) (p : Fin 64) : Fin 512 := ⟨64 * h.val + p.val, by omega⟩
def lane (h : Fin 8) : Fin 128 := ⟨h.val, by omega⟩

theorem newE_at (b h o q : ℕ) (X : FVec Ideal S8x1024 .f32) (dt da : FVec Ideal S8x128 .f32) (T : FVec Ideal S128x128 .f32) (old : Vec Ideal S1x64x128 .f32)
    (s1 : S128x128.Slices ![q, b] S64x1) (s2 : S8x1024.Slices ![b, o] S1x128) (s3 : S8x128.Slices ![b, h] S1x1) (B H : Fin 8) (hB : B.val = b) (hH : H.val = h)
    (ho : o = 512 + 128 * (h / 4)) (hq : q = 64 * (h % 2)) (hT : ∀ (i : Fin 128) (b' : Fin 128) (c : Fin 1024), b'.val = b → c.val = 128 * (h / 2) + i.val → T (ix2 i b') = X (ix2 B c))
    (old' : Fin 512 → Fin 128 → EReal) (hold : ∀ p n, old (ix3 0 p n) = old' (at64 H p) n) (p : Fin 64) (n : Fin 128) :
    newE b h o q X dt da T old s1 s2 s3 (ix2 p n)
      = next (fun c => X (ix2 B c)) (fun k => dt (ix2 B (lane k))) (fun k => da (ix2 B (lane k))) old' (at64 H p) n := by
  have hh : h < 8 := by omega
  have hb : b < 8 := by omega
  unfold newE
  rw [addf_apply, mulf_apply, mulf_apply, one_over, col_over _ _ (by decide), row_over _ _ (by decide), mulf_apply, one_over, flat_at, hold,
    slice_at da b h s3 0 0 B (lane H) (by show B.val = b + 0; omega) (by show H.val = h + 0; omega),
    slice_at dt b h s3 0 0 B (lane H) (by show B.val = b + 0; omega) (by show H.val = h + 0; omega),
    slice_at T q b s1 p 0 ⟨q + p.val, by omega⟩ ⟨b, by omega⟩ rfl rfl,
    slice_at X b o s2 0 n B (inCol (at64 H p) n) (by show B.val = b + 0; omega) (by show 512 + 128 * ((64 * H.val + p.val) / 256) + n.val = o + n.val; omega),
    hT ⟨q + p.val, by omega⟩ ⟨b, by omega⟩ (chan (at64 H p)) rfl (by show 64 * H.val + p.val = 128 * (h / 2) + (q + p.val); omega)]
  unfold next
  have eh : head (at64 H p) = H := Fin.ext (by show (64 * H.val + p.val) / 64 = H.val; omega)
  rw [eh]

/-! ## A token's read-out -/

theorem toInt_small (n : ℕ) (h : n < 1024) : (BitVec.ofNat 32 n).toInt = n := by
  rw [BitVec.toInt_eq_toNat_of_lt (by rw [BitVec.toNat_ofNat]; omega), BitVec.toNat_ofNat, Nat.mod_eq_of_lt (by omega)]

abbrev heads (N0 N1 N2 N3 N4 N5 N6 N7 : FVec Ideal S64x128 .bf16) : FVec Ideal S512x128 .bf16 :=
  concatenate S512x128 0 [⟨S64x128, N0⟩, ⟨S64x128, N1⟩, ⟨S64x128, N2⟩, ⟨S64x128, N3⟩, ⟨S64x128, N4⟩, ⟨S64x128, N5⟩, ⟨S64x128, N6⟩, ⟨S64x128, N7⟩]
    concatenates_S64x128_S64x128_S64x128_S64x128_S64x128_S64x128_S64x128_S64x128_S512x128_d0

theorem heads_at (N0 N1 N2 N3 N4 N5 N6 N7 : FVec Ideal S64x128 .bf16) (s : Fin 512 → Fin 128 → EReal)
    (h0 : ∀ p n, N0 (ix2 p n) = s (at64 0 p) n) (h1 : ∀ p n, N1 (ix2 p n) = s (at64 1 p) n) (h2 : ∀ p n, N2 (ix2 p n) = s (at64 2 p) n) (h3 : ∀ p n, N3 (ix2 p n) = s (at64 3 p) n)
    (h4 : ∀ p n, N4 (ix2 p n) = s (at64 4 p) n) (h5 : ∀ p n, N5 (ix2 p n) = s (at64 5 p) n) (h6 : ∀ p n, N6 (ix2 p n) = s (at64 6 p) n) (h7 : ∀ p n, N7 (ix2 p n) = s (at64 7 p) n)
    (r : Fin 512) (n : Fin 128) : heads N0 N1 N2 N3 N4 N5 N6 N7 (ix2 r n) = s r n := by
  have hr := r.isLt
  have off : ∀ (p : Fin 64) (a : Fin 2), a ≠ 0 → ((ix2 p n : S64x128.Idx) a).val = ((ix2 r n : S512x128.Idx) a).val := fun p a ha => by
    match a, ha with
    | ⟨0, _⟩, ha => exact absurd rfl ha
    | ⟨1, _⟩, _ => rfl
  obtain ⟨k, p, e⟩ : ∃ (k : Fin 8) (p : Fin 64), r = at64 k p := ⟨⟨r.val / 64, by omega⟩, ⟨r.val % 64, by omega⟩, Fin.ext (by show r.val = 64 * (r.val / 64) + r.val % 64; omega)⟩
  subst e
  match k with
  | ⟨0, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 0 p) n) 0 (show 0 < 8 by decide) S64x128 N0 rfl rfl 0 rfl (ix2 p n) (off p) rfl).trans (h0 p n)
  | ⟨1, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 1 p) n) 1 (show 1 < 8 by decide) S64x128 N1 rfl rfl 64 rfl (ix2 p n) (off p) rfl).trans (h1 p n)
  | ⟨2, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 2 p) n) 2 (show 2 < 8 by decide) S64x128 N2 rfl rfl 128 rfl (ix2 p n) (off p) rfl).trans (h2 p n)
  | ⟨3, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 3 p) n) 3 (show 3 < 8 by decide) S64x128 N3 rfl rfl 192 rfl (ix2 p n) (off p) rfl).trans (h3 p n)
  | ⟨4, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 4 p) n) 4 (show 4 < 8 by decide) S64x128 N4 rfl rfl 256 rfl (ix2 p n) (off p) rfl).trans (h4 p n)
  | ⟨5, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 5 p) n) 5 (show 5 < 8 by decide) S64x128 N5 rfl rfl 320 rfl (ix2 p n) (off p) rfl).trans (h5 p n)
  | ⟨6, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 6 p) n) 6 (show 6 < 8 by decide) S64x128 N6 rfl rfl 384 rfl (ix2 p n) (off p) rfl).trans (h6 p n)
  | ⟨7, _⟩ =>
    exact (concatenate_apply_piece (t := S512x128) 0 [⟨S64x128, N0⟩, ⟨S64x128, N1⟩, ⟨S64x128, N2⟩, ⟨S64x128, N3⟩, ⟨S64x128, N4⟩, ⟨S64x128, N5⟩, ⟨S64x128, N6⟩, ⟨S64x128, N7⟩] _ (ix2 (at64 7 p) n) 7 (show 7 < 8 by decide) S64x128 N7 rfl rfl 448 rfl (ix2 p n) (off p) rfl).trans (h7 p n)

/-- A token's row as the body writes it, from the stacked states `W`. -/
abbrev rowE (b : ℕ) (X : FVec Ideal S8x1024 .f32) (W : FVec Ideal S512x128 .bf16) (s1 : S8x1024.Slices ![b, 768] S1x128) (s2 : S8x1024.Slices ![b, 896] S1x128) : FVec Ideal S1x512 .f32 :=
  shapeCast S1x512 (select (cmpi .slt (extractStridedSlice S1x512 ![0, 0] (iota .tc S8x512 32 [1] iota_S8x512_d1_w32) slices_S8x512_o0_0_S1x512) (broadcast S1x512 256#32))
        (extractStridedSlice S1x512 ![0, 0] (matmul dot_S8x128_S512x128_S8x512_1_1_0_0_n_n none (truncf .bf16 (select (cmpi .eq (iota .tc S8x128 32 [0] iota_S8x128_d0_w32) (broadcast S8x128 0#32))
            (broadcastTo S8x128 (shapeCast S1x128 (extractStridedSlice S1x128 ![b, 768] X s1) shapeCasts_S1x128_S1x128) broadcasts_S1x128_S8x128)
            (select (cmpi .eq (iota .tc S8x128 32 [0] iota_S8x128_d0_w32) (broadcast S8x128 1#32))
              (broadcastTo S8x128 (shapeCast S1x128 (extractStridedSlice S1x128 ![b, 896] X s2) shapeCasts_S1x128_S1x128) broadcasts_S1x128_S8x128)
              (broadcast S8x128 (Scalar.ofBits (F := Ideal) .f32 0x00000000#32)))) bitsLt_bf16_f32) W (constant S8x512 .f32 0x00000000#32)) slices_S8x512_o0_0_S1x512)
        (extractStridedSlice S1x512 ![1, 0] (matmul dot_S8x128_S512x128_S8x512_1_1_0_0_n_n none (truncf .bf16 (select (cmpi .eq (iota .tc S8x128 32 [0] iota_S8x128_d0_w32) (broadcast S8x128 0#32))
            (broadcastTo S8x128 (shapeCast S1x128 (extractStridedSlice S1x128 ![b, 768] X s1) shapeCasts_S1x128_S1x128) broadcasts_S1x128_S8x128)
            (select (cmpi .eq (iota .tc S8x128 32 [0] iota_S8x128_d0_w32) (broadcast S8x128 1#32))
              (broadcastTo S8x128 (shapeCast S1x128 (extractStridedSlice S1x128 ![b, 896] X s2) shapeCasts_S1x128_S1x128) broadcasts_S1x128_S8x128)
              (broadcast S8x128 (Scalar.ofBits (F := Ideal) .f32 0x00000000#32)))) bitsLt_bf16_f32) W (constant S8x512 .f32 0x00000000#32)) slices_S8x512_o1_0_S1x512))
      shapeCasts_S1x512_S1x512

theorem yrow_at (b : ℕ) (X : FVec Ideal S8x1024 .f32) (W : FVec Ideal S512x128 .bf16) (s1 : S8x1024.Slices ![b, 768] S1x128) (s2 : S8x1024.Slices ![b, 896] S1x128)
    (B : Fin 8) (hB : B.val = b) (r : Fin 512) :
    rowE b X W s1 s2 (ix2 0 r) = readout (fun c => X (ix2 B c)) (fun r n => W (ix2 r n)) r := by
  unfold rowE
  simp only [shapeCast_self]
  have e0 : ∀ (M : FVec Ideal S8x512 .f32), extractStridedSlice S1x512 ![0, 0] M slices_S8x512_o0_0_S1x512 (ix2 0 r) = M (ix2 0 r) := fun M =>
    slice_at M 0 0 _ 0 r 0 r rfl (Nat.zero_add _).symm
  have e1 : ∀ (M : FVec Ideal S8x512 .f32), extractStridedSlice S1x512 ![1, 0] M slices_S8x512_o1_0_S1x512 (ix2 0 r) = M (ix2 1 r) := fun M =>
    slice_at M 1 0 _ 0 r 1 r rfl (Nat.zero_add _).symm
  have ec : ∀ (y z : FVec Ideal S1x512 .f32), select (cmpi .slt (extractStridedSlice S1x512 ![0, 0] (iota .tc S8x512 32 [1] iota_S8x512_d1_w32) slices_S8x512_o0_0_S1x512) (broadcast S1x512 256#32)) y z (ix2 0 r)
      = if r.val < 256 then y (ix2 0 r) else z (ix2 0 r) := fun y z => by
    have hi : extractStridedSlice S1x512 ![0, 0] (iota .tc S8x512 32 [1] iota_S8x512_d1_w32) slices_S8x512_o0_0_S1x512 (ix2 0 r) = BitVec.ofNat 32 (0 * 512 + r.val) :=
      (extractStridedSlice_apply ![0, 0] _ slices_S8x512_o0_0_S1x512 (ix2 0 r) (ix2 (0 : Fin 8) r) (fun a => by
        match a with
        | ⟨0, _⟩ => rfl
        | ⟨1, _⟩ => exact (Nat.zero_add _).symm)).trans rfl
    have e : select (cmpi .slt (extractStridedSlice S1x512 ![0, 0] (iota .tc S8x512 32 [1] iota_S8x512_d1_w32) slices_S8x512_o0_0_S1x512) (broadcast S1x512 256#32)) y z (ix2 0 r)
        = if IntOp.cmpi .slt (extractStridedSlice S1x512 ![0, 0] (iota .tc S8x512 32 [1] iota_S8x512_d1_w32) slices_S8x512_o0_0_S1x512 (ix2 0 r)) 256#32 = 1#1 then y (ix2 0 r) else z (ix2 0 r) := rfl
    have h256 : (256#32 : BitVec 32).toInt = 256 := by decide
    rw [e, hi, zero_mul, zero_add]
    simp only [IntOp.cmpi, BitVec.slt, toInt_small r.val (by omega), h256]
    by_cases h : r.val < 256
    · rw [if_pos h, if_pos (by rw [decide_eq_true (by exact_mod_cast h)]; rfl)]
    · rw [if_neg h, if_neg (by rw [decide_eq_false (by exact_mod_cast h)]; decide)]
  have em : ∀ (A : FVec Ideal S8x128 .bf16) (i : Fin 8), matmul dot_S8x128_S512x128_S8x512_1_1_0_0_n_n none A W (constant S8x512 .f32 0x00000000#32) (ix2 i r)
      = ∑ n : Fin 128, (A (ix2 i n) : EReal) * W (ix2 r n) := fun A i => by
    refine (Ideal.matmul_transposedRhs_apply (M := 8) (K := 128) (N := 512) none A W _ i r).trans ?_
    rw [constant_apply, Ideal.ofBits_zero_f32, zero_add]
  have f0 : ∀ (n' : Fin 128) (y z : FVec Ideal S8x128 .f32), truncf .bf16 (select (cmpi .eq (iota .tc S8x128 32 [0] iota_S8x128_d0_w32) (broadcast S8x128 0#32)) y z) bitsLt_bf16_f32 (ix2 0 n')
      = y (ix2 0 n') := fun n' y z => by
    show (if IntOp.cmpi .eq (BitVec.ofNat 32 (0 * 8 + 0)) 0#32 = 1#1 then y (ix2 0 n') else z (ix2 0 n')) = _
    rw [if_pos (by decide)]
  have f1 : ∀ (n' : Fin 128) (w y z : FVec Ideal S8x128 .f32), truncf .bf16 (select (cmpi .eq (iota .tc S8x128 32 [0] iota_S8x128_d0_w32) (broadcast S8x128 0#32)) w
      (select (cmpi .eq (iota .tc S8x128 32 [0] iota_S8x128_d0_w32) (broadcast S8x128 1#32)) y z)) bitsLt_bf16_f32 (ix2 1 n') = y (ix2 1 n') := fun n' w y z => by
    show (if IntOp.cmpi .eq (BitVec.ofNat 32 (0 * 8 + 1)) 0#32 = 1#1 then w (ix2 1 n') else if IntOp.cmpi .eq (BitVec.ofNat 32 (0 * 8 + 1)) 1#32 = 1#1 then y (ix2 1 n') else z (ix2 1 n')) = _
    rw [if_neg (by decide), if_pos (by decide)]
  rw [ec, e0, e1, em, em]
  unfold readout
  by_cases h : r.val < 256
  · rw [if_pos h]
    refine Finset.sum_congr rfl fun n _ => congrArg (fun z : EReal => z * W (ix2 r n)) ?_
    rw [f0, row_over _ _ (by decide)]
    exact slice_at X b 768 s1 0 n B (outCol r n) (by show B.val = b + 0; omega) (by show 768 + 128 * (r.val / 256) + n.val = 768 + n.val; omega)
  · rw [if_neg h]
    refine Finset.sum_congr rfl fun n _ => congrArg (fun z : EReal => z * W (ix2 r n)) ?_
    rw [f1, row_over _ _ (by decide)]
    exact slice_at X b 896 s2 0 n B (outCol r n) (by show B.val = b + 0; omega) (by show 768 + 128 * (r.val / 256) + n.val = 896 + n.val; omega)

/-! ## The gate and the norm -/

theorem lift_row (r : Fin 8) (k : Fin 256) : reduces_S8x256_S8.lift (ix1 r) k = ix2 r k := by
  funext a
  apply Fin.ext
  refine (Shape.Reduces.lift_val _ _ _ _).trans ?_
  match a with
  | ⟨0, _⟩ => rfl
  | ⟨1, _⟩ => rfl

theorem column (x : FVec Ideal S8 .f32) (r : Fin 8) (c : Fin 1) : shapeCast S8x1 x shapeCasts_S8_S8x1 (ix2 r c) = x (ix1 r) :=
  shapeCast_apply x _ _ _ (by
    rw [Shape.rowMajor_val_one, Shape.rowMajor_val_two]
    show r.val = r.val * 1 + c.val
    omega)

theorem scale_at (x : FVec Ideal S8x256 .f32) (r : Fin 8) (j : Fin 256) :
    broadcastTo S8x256 (rsqrt (addf (divf (shapeCast S8x1 (multiReduction .add [1] S8 (mulf x x) 0x00000000#32 reduces_S8x256_S8 (.inl rfl) rfl)
        shapeCasts_S8_S8x1) (broadcast S8x1 (Scalar.ofBits (F := Ideal) .f32 0x43800000#32))) (broadcast S8x1 (Scalar.ofBits (F := Ideal) .f32 0x3727C5AC#32))))
        broadcasts_S8x1_S8x256 (ix2 r j)
      = Ideal.rsqrt (Ideal.div (∑ k, (x (ix2 r k) : EReal) * x (ix2 r k)) width + eps) := by
  rw [col_over _ _ (by decide)]
  show Ideal.rsqrt (Ideal.div (shapeCast S8x1 _ shapeCasts_S8_S8x1 (ix2 r 0)) width + eps) = _
  rw [column]
  refine congrArg (fun z => Ideal.rsqrt (Ideal.div z width + eps)) ((Ideal.multiReduction_add_single (mulf x x) _ reduces_S8x256_S8 _ _ (ix1 r)).trans ?_)
  refine Finset.sum_congr rfl fun k _ => ?_
  exact congrArg (mulf x x) (lift_row r k)

theorem pay255_at (y : Vec Ideal S8x512 .f32) (z : Vec Ideal S8x512 .bf16) (x : FVec Ideal S8x512 .f32) (d : Vec Ideal S1x512 .f32) (u : Fin 1024 → EReal) (b : Fin 8)
    (hu : ∀ r, x (ix2 b r) = u (chan r)) (r : Fin 512) :
    k0_pay255 y z (k0_pay254 x d) (ix2 b r) = gated u (fun r => y (ix2 b r)) (fun r => z (ix2 b r)) (fun r => d (ix2 0 r)) r := by
  have e : k0_pay254 x d (ix2 b r) = d (ix2 0 r) * u (chan r) := by
    unfold k0_pay254
    rw [shapeCast_self]
    show broadcastTo S8x512 _ broadcasts_S1x512_S8x512 (ix2 b r) * x (ix2 b r) = _
    rw [row_over _ _ (by decide), hu]
  show ((y (ix2 b r) : EReal) + k0_pay254 x d (ix2 b r)) * ((z (ix2 b r) : EReal) * Ideal.div one (one + Ideal.exp (Ideal.ofBits .f32 0x00000000#32 - (z (ix2 b r) : EReal)))) = _
  rw [e, Ideal.ofBits_zero_f32, zero_sub]
  rfl

theorem pay1_at (g : Vec Ideal S1x512 .f32) (v : FVec Ideal S8x512 .f32) (p q : FVec Ideal S8x256 .f32)
    (hp : p = extractStridedSlice S8x256 ![0, 0] v slices_S8x512_o0_0_S8x256)
    (hq : q = broadcastTo S8x256 (rsqrt (addf (divf (shapeCast S8x1 (multiReduction .add [1] S8 (mulf p p) 0x00000000#32 reduces_S8x256_S8 (.inl rfl) rfl)
        shapeCasts_S8_S8x1) (broadcast S8x1 (Scalar.ofBits (F := Ideal) .f32 0x43800000#32))) (broadcast S8x1 (Scalar.ofBits (F := Ideal) .f32 0x3727C5AC#32))))
        broadcasts_S8x1_S8x256) (b : Fin 8) (r : Fin 512) :
    k0_pay1 g v p q (ix2 b r) = norm (fun r => v (ix2 b r)) (fun r => g (ix2 0 r)) r := by
  subst hq
  unfold k0_pay1
  dsimp only
  rw [truncf_apply]
  have off : ∀ (k : Fin 256) (a : Fin 2), a ≠ 1 → ((ix2 b k : S8x256.Idx) a).val = ((ix2 b r : S8x512.Idx) a).val := fun k a ha => by
    match a, ha with
    | ⟨0, _⟩, _ => rfl
    | ⟨1, _⟩, ha => exact absurd rfl ha
  by_cases h : r.val < 256
  · refine (concatenate_apply_piece (t := S8x512) 1 [⟨S8x256, _⟩, ⟨S8x256, _⟩] _ (ix2 b r) 0 (show 0 < 2 by decide) S8x256 _ rfl rfl 0 rfl (ix2 b (⟨r.val, h⟩ : Fin 256)) (off _) (Nat.zero_add _)).trans ?_
    have ep : ∀ k, p (ix2 b k) = v (ix2 b (mate r k)) := fun k => by
      rw [hp]; exact slice_at v 0 0 _ b k b (mate r k) (Nat.zero_add _).symm (by show 256 * (r.val / 256) + k.val = 0 + k.val; omega)
    have em : mate r ⟨r.val, h⟩ = r := Fin.ext (by show 256 * (r.val / 256) + r.val = r.val; omega)
    rw [mulf_apply, mulf_apply, scale_at, row_over _ _ (by decide), slice_at g 0 0 _ 0 (⟨r.val, h⟩ : Fin 256) 0 r rfl (Nat.zero_add _).symm]
    simp only [ep, em]
    rfl
  · have h2 : r.val - 256 < 256 := by omega
    refine (concatenate_apply_piece (t := S8x512) 1 [⟨S8x256, _⟩, ⟨S8x256, _⟩] _ (ix2 b r) 1 (show 1 < 2 by decide) S8x256 _ rfl rfl 256 rfl (ix2 b (⟨r.val - 256, h2⟩ : Fin 256)) (off _)
      (by show 256 + (r.val - 256) = r.val; omega)).trans ?_
    have ep : ∀ k, extractStridedSlice S8x256 ![0, 256] v slices_S8x512_o0_256_S8x256 (ix2 b k) = v (ix2 b (mate r k)) := fun k =>
      slice_at v 0 256 _ b k b (mate r k) (Nat.zero_add _).symm (by show 256 * (r.val / 256) + k.val = 256 + k.val; omega)
    have em : mate r ⟨r.val - 256, h2⟩ = r := Fin.ext (by show 256 * (r.val / 256) + (r.val - 256) = r.val; omega)
    rw [mulf_apply, mulf_apply, scale_at, row_over _ _ (by decide),
      slice_at g 0 256 _ 0 (⟨r.val - 256, h2⟩ : Fin 256) 0 r rfl (by show r.val = 256 + (r.val - 256); omega)]
    simp only [ep, em]
    rfl

end Cert.Kernel6Ideal.Ssd

end
-- ==== Proof.SsdStore.lean ====
/-
  What a run of the mixer's step stores: eight tokens, the next state head by head, and in the scratch the read-out row by row.
-/
module

public import proofs.«01_k».proof.Proof.SsdParts

@[expose] public section

set_option maxRecDepth 65536
set_option maxHeartbeats 4000000

noncomputable section

namespace Cert.Kernel6Ideal.Ssd

open Cert.Kernel6Ideal Cert.Kernel6Ideal.Gen Cert.Ssd
open Cert.Ffn (one eps)
open Idealize.ShloMosaic Idealize.ShloMosaic.TcCoe Idealize.ShloMosaic.ValueIdx

theorem zero2 : (![0, 0] : Fin 2 → ℕ) = fun _ => 0 := funext fun a => by
  match a with
  | ⟨0, _⟩ => rfl
  | ⟨1, _⟩ => rfl

theorem load_whole {S : Shape} {e : EltTy} (M : Memref sig .tc .vmem S e) (hM : M.IsWhole) (x : Vec Ideal S e) (off : Fin S.rank → ℕ)
    (inb : ∀ a, off a + S.size a ≤ S.size a) (h : ∀ a, off a = 0) :
    View.readAt (Elt Ideal) M.view (Rect.unit off S.size inb).toLoadRect (hM.unread x) = x := by
  rw [View.readAt_eq_ld, hM.read_unread]
  exact View.ld_unit_lit inb x h

theorem load_slab {A M N : ℕ} (m : Memref sig .tc .vmem (⟨3, ![A, M, N]⟩ : Shape) .f32) (hm : m.IsWhole) (x : Vec Ideal (⟨3, ![A, M, N]⟩ : Shape) .f32) {M' : ℕ} (a e : ℕ)
    (inb : ∀ d, (![a, e, 0] : Fin 3 → ℕ) d + (⟨3, ![1, M', N]⟩ : Shape).size d ≤ (⟨3, ![A, M, N]⟩ : Shape).size d) (p : Fin M') (n : Fin N) (a' : Fin A) (p' : Fin M)
    (ha : a'.val = a) (hp : p'.val = e + p.val) :
    View.readAt (Elt Ideal) m.view (Rect.unit (s := (⟨3, ![A, M, N]⟩ : Shape)) ![a, e, 0] (⟨3, ![1, M', N]⟩ : Shape).size inb).toLoadRect (hm.unread x) (ix3 0 p n) = x (ix3 a' p' n) := by
  rw [View.readAt_eq_ld, hm.read_unread]
  exact View.ld_unit_apply_of x _ _ inb (ix3 0 p n) (ix3 a' p' n) (fun d => by
    match d with
    | ⟨0, _⟩ => exact ha
    | ⟨1, _⟩ => exact hp
    | ⟨2, _⟩ => exact (Nat.zero_add _).symm)

theorem all2 : ∀ a, (![0, 0] : Fin 2 → ℕ) a = 0 := fun a => congrFun zero2 a

/-! ## A token's rows -/

abbrev rowX (x0 : Vec Ideal S8x1024 .f32) (x1 : Vec Ideal S3x8x1024 .f32) (x5 : Vec Ideal S4x1024 .f32) (x6 : Vec Ideal S1x1024 .f32) (b : Fin 8) : Fin 1024 → EReal :=
  conv (fun a c => x5 (ix2 a c)) (fun c => x6 (ix2 0 c)) (fun c => x0 (ix2 b c)) (fun a c => x1 (ix3 a b c))

abbrev rowDt (x3 : Vec Ideal S8x128 .f32) (x7 : Vec Ideal S1x128 .f32) (b : Fin 8) (h : Fin 8) : EReal :=
  soft ((x3 (ix2 b (lane h)) : EReal) + x7 (ix2 0 (lane h)))

abbrev rowDa (x3 : Vec Ideal S8x128 .f32) (x7 x8 : Vec Ideal S1x128 .f32) (b : Fin 8) (h : Fin 8) : EReal :=
  Ideal.exp (rowDt x3 x7 b h * -(Ideal.exp (x8 (ix2 0 (lane h)))))

theorem conv_at (c : Dev nD) (arg1 : Memref sig .tc .vmem S8x1024 .f32) (harg1 : arg1.IsWhole) (arg2 : Memref sig .tc .vmem S3x8x1024 .f32) (harg2 : arg2.IsWhole) (arg6 : Memref sig .tc .vmem S4x1024 .f32) (harg6 : arg6.IsWhole) (arg7 : Memref sig .tc .vmem S1x1024 .f32) (harg7 : arg7.IsWhole) (x0 : Vec Ideal S8x1024 .f32) (x1 : Vec Ideal S3x8x1024 .f32) (x5 : Vec Ideal S4x1024 .f32) (x6 : Vec Ideal S1x1024 .f32) (b : Fin 8) (k : Fin 1024) :
    kernelRun0_A.sl.r c arg1 harg1 arg2 harg2 arg6 harg6 arg7 harg7 x0 x1 x5 x6 (ix2 b k) = rowX x0 x1 x5 x6 b k := by
  unfold kernelRun0_A.sl.r
  rw [load_whole _ _ _ _ _ all2, load_whole _ _ _ _ _ all2, load_whole _ _ _ _ _ all2]
  refine (pay2_at _ _ _ _ _ _ b k).trans ?_
  rw [load_slab arg2 harg2 x1 (M' := 8) 0 0 _ b k 0 b rfl (Nat.zero_add _).symm, load_slab arg2 harg2 x1 (M' := 8) 1 0 _ b k 1 b rfl (Nat.zero_add _).symm,
    load_slab arg2 harg2 x1 (M' := 8) 2 0 _ b k 2 b rfl (Nat.zero_add _).symm]
  rfl

theorem dt_at (c : Dev nD) (arg4 : Memref sig .tc .vmem S8x128 .f32) (harg4 : arg4.IsWhole) (arg8 : Memref sig .tc .vmem S1x128 .f32) (harg8 : arg8.IsWhole) (x3 : Vec Ideal S8x128 .f32) (x7 : Vec Ideal S1x128 .f32) (b : Fin 8) (h : Fin 8) :
    kernelRun0_A.sl.r_3 c arg4 harg4 arg8 harg8 x3 x7 (ix2 b (lane h)) = rowDt x3 x7 b h := by
  unfold kernelRun0_A.sl.r_3 kernelRun0_A.sl.r_2
  rw [load_whole _ _ _ _ _ all2, load_whole _ _ _ _ _ all2]
  exact pay4_at _ _ b (lane h)

theorem da_at (c : Dev nD) (arg4 : Memref sig .tc .vmem S8x128 .f32) (harg4 : arg4.IsWhole) (arg8 : Memref sig .tc .vmem S1x128 .f32) (harg8 : arg8.IsWhole) (arg9 : Memref sig .tc .vmem S1x128 .f32) (harg9 : arg9.IsWhole) (x3 : Vec Ideal S8x128 .f32) (x7 : Vec Ideal S1x128 .f32) (x8 : Vec Ideal S1x128 .f32) (b : Fin 8) (h : Fin 8) :
    kernelRun0_A.sl.r_4 c arg4 harg4 arg8 harg8 arg9 harg9 x3 x7 x8 (ix2 b (lane h)) = rowDa x3 x7 x8 b h := by
  unfold kernelRun0_A.sl.r_4 kernelRun0_A.sl.r_2
  rw [load_whole _ _ _ _ _ all2, load_whole _ _ _ _ _ all2, load_whole _ _ _ _ _ all2]
  refine (pay5_at _ _ _ b (lane h)).trans ?_
  rw [pay4_at]

theorem chans_at (c : Dev nD) (arg1 : Memref sig .tc .vmem S8x1024 .f32) (harg1 : arg1.IsWhole) (arg2 : Memref sig .tc .vmem S3x8x1024 .f32) (harg2 : arg2.IsWhole) (arg6 : Memref sig .tc .vmem S4x1024 .f32) (harg6 : arg6.IsWhole) (arg7 : Memref sig .tc .vmem S1x1024 .f32) (harg7 : arg7.IsWhole) (x0 : Vec Ideal S8x1024 .f32) (x1 : Vec Ideal S3x8x1024 .f32) (x5 : Vec Ideal S4x1024 .f32) (x6 : Vec Ideal S1x1024 .f32) (b : Fin 8) (r : Fin 512) :
    kernelRun0_A.sl.r_1 c arg1 harg1 arg2 harg2 arg6 harg6 arg7 harg7 x0 x1 x5 x6 (ix2 b r) = kernelRun0_A.sl.r c arg1 harg1 arg2 harg2 arg6 harg6 arg7 harg7 x0 x1 x5 x6 (ix2 b (chan r)) :=
  slice_at (kernelRun0_A.sl.r c arg1 harg1 arg2 harg2 arg6 harg6 arg7 harg7 x0 x1 x5 x6) 0 0 slices_S8x1024_o0_0_S8x512 b r b (chan r) (Nat.zero_add _).symm (Nat.zero_add _).symm

/-! ## The channels, turned a quarter at a time -/

abbrev quarters (T0 T1 T2 T3 : FVec Ideal S128x128 .f32) (k : ℕ) : FVec Ideal S128x128 .f32 := match k with
  | 0 => T0
  | 1 => T1
  | 2 => T2
  | _ => T3

/-- The quarters hold the channels of the block, turned. -/
def IsTurned (X : FVec Ideal S8x1024 .f32) (T : ℕ → FVec Ideal S128x128 .f32) : Prop :=
  ∀ (k : ℕ) (b : Fin 8) (i b' : Fin 128) (j : Fin 1024), k < 4 → b'.val = b.val → j.val = 128 * k + i.val → T k (ix2 i b') = X (ix2 b j)

theorem isTurned (c : Dev nD) (arg1 : Memref sig .tc .vmem S8x1024 .f32) (harg1 : arg1.IsWhole) (arg2 : Memref sig .tc .vmem S3x8x1024 .f32) (harg2 : arg2.IsWhole) (arg6 : Memref sig .tc .vmem S4x1024 .f32) (harg6 : arg6.IsWhole) (arg7 : Memref sig .tc .vmem S1x1024 .f32) (harg7 : arg7.IsWhole) (x0 : Vec Ideal S8x1024 .f32) (x1 : Vec Ideal S3x8x1024 .f32) (x5 : Vec Ideal S4x1024 .f32) (x6 : Vec Ideal S1x1024 .f32) :
    IsTurned (kernelRun0_A.sl.r c arg1 harg1 arg2 harg2 arg6 harg6 arg7 harg7 x0 x1 x5 x6)
      (quarters (kernelRun0_A.sl.r_5 c arg1 harg1 arg2 harg2 arg6 harg6 arg7 harg7 x0 x1 x5 x6) (kernelRun0_A.sl.r_6 c arg1 harg1 arg2 harg2 arg6 harg6 arg7 harg7 x0 x1 x5 x6) (kernelRun0_A.sl.r_7 c arg1 harg1 arg2 harg2 arg6 harg6 arg7 harg7 x0 x1 x5 x6) (kernelRun0_A.sl.r_8 c arg1 harg1 arg2 harg2 arg6 harg6 arg7 harg7 x0 x1 x5 x6)) := by
  intro k b i b' j hk hb hj
  have hi := i.isLt
  have key : ∀ (o : ℕ) (hs : S8x512.Slices ![0, o] S8x128) (_ : o = 128 * k), transpose S128x128 [1, 0] (concatenate S128x128 0 [⟨S8x128, extractStridedSlice S8x128 ![0, o] (kernelRun0_A.sl.r_1 c arg1 harg1 arg2 harg2 arg6 harg6 arg7 harg7 x0 x1 x5 x6) hs⟩,
      ⟨S120x128, k0_pay6 (F := Ideal)⟩] concatenates_S8x128_S120x128_S128x128_d0) transposes_S128x128_p1_0_S128x128 (ix2 i b') = (kernelRun0_A.sl.r c arg1 harg1 arg2 harg2 arg6 harg6 arg7 harg7 x0 x1 x5 x6) (ix2 b j) := fun o hs ho => by
    refine (turned (kernelRun0_A.sl.r_1 c arg1 harg1 arg2 harg2 arg6 harg6 arg7 harg7 x0 x1 x5 x6) o hs i b ⟨o + i.val, by omega⟩ rfl b' hb).trans ?_
    rw [chans_at]
    exact congrArg (fun j => (kernelRun0_A.sl.r c arg1 harg1 arg2 harg2 arg6 harg6 arg7 harg7 x0 x1 x5 x6) (ix2 b j)) (Fin.ext (by show o + i.val = j.val; omega))
  match k, hk with
  | 0, _ => exact key 0 slices_S8x512_o0_0_S8x128 rfl
  | 1, _ => exact key 128 slices_S8x512_o0_128_S8x128 rfl
  | 2, _ => exact key 256 slices_S8x512_o0_256_S8x128 rfl
  | 3, _ => exact key 384 slices_S8x512_o0_384_S8x128 rfl

/-! ## The stored states -/

theorem slices2 {M N m n : ℕ} (i j : ℕ) (hi : i + m ≤ M) (hj : j + n ≤ N) : (⟨2, ![M, N]⟩ : Shape).Slices ![i, j] (⟨2, ![m, n]⟩ : Shape) :=
  ⟨rfl, fun a => by
    match a with
    | ⟨0, _⟩ => exact hi
    | ⟨1, _⟩ => exact hj⟩

theorem slab_inb (b h : ℕ) (hb : b < 8) (hh : h < 8) : ∀ d, (![b, 64 * h, 0] : Fin 3 → ℕ) d + S1x64x128.size d ≤ S8x512x128.size d := fun d => by
  match d with
  | ⟨0, _⟩ => show b + 1 ≤ 8; omega
  | ⟨1, _⟩ => show 64 * h + 64 ≤ 512; omega
  | ⟨2, _⟩ => show 0 + 128 ≤ 128; omega

theorem row_inb (b : ℕ) (hb : b < 8) : ∀ d, (![b, 0] : Fin 2 → ℕ) d + S1x512.size d ≤ S8x512.size d := fun d => by
  match d with
  | ⟨0, _⟩ => show b + 1 ≤ 8; omega
  | ⟨1, _⟩ => show 0 + 512 ≤ 512; omega

def stateOf (X : FVec Ideal S8x1024 .f32) (dt da : FVec Ideal S8x128 .f32) (x4 : Vec Ideal S8x512x128 .f32) (b : Fin 8) : Fin 512 → Fin 128 → EReal :=
  next (fun c => X (ix2 b c)) (fun k => dt (ix2 b (lane k))) (fun k => da (ix2 b (lane k))) (fun r n => x4 (ix3 b r n))

section

variable (X : FVec Ideal S8x1024 .f32) (dt da : FVec Ideal S8x128 .f32) (T : ℕ → FVec Ideal S128x128 .f32) (hT : IsTurned X T) (arg5 : Memref sig .tc .vmem S8x512x128 .f32)
  (harg5 : arg5.IsWhole) (x4 : Vec Ideal S8x512x128 .f32)

/-- The next state of head `h` of token `b` as the body writes it. -/
abbrev nextE (b h : ℕ) (hb : b < 8) (hh : h < 8) : FVec Ideal S64x128 .f32 :=
  newE b h (512 + 128 * (h / 4)) (64 * (h % 2)) X dt da (T (h / 2))
    (View.readAt (Elt Ideal) arg5.view (Rect.unit (s := S8x512x128) ![b, 64 * h, 0] S1x64x128.size (slab_inb b h hb hh)).toLoadRect (harg5.unread x4))
    (slices2 (64 * (h % 2)) b (by omega) (by omega)) (slices2 b (512 + 128 * (h / 4)) (by omega) (by omega)) (slices2 b h (by omega) (by omega))

include hT

theorem next_at (b h : ℕ) (hb : b < 8) (hh : h < 8) (p : Fin 64) (n : Fin 128) :
    nextE X dt da T arg5 harg5 x4 b h hb hh (ix2 p n) = stateOf X dt da x4 ⟨b, hb⟩ (at64 ⟨h, hh⟩ p) n :=
  newE_at b h _ _ X dt da _ _ _ _ _ ⟨b, hb⟩ ⟨h, hh⟩ rfl rfl rfl rfl (fun i b' k hb' hk => hT (h / 2) ⟨b, hb⟩ i b' k (by omega) hb' hk) (fun r n => x4 (ix3 ⟨b, hb⟩ r n))
    (fun p n => load_slab arg5 harg5 x4 b (64 * h) _ p n ⟨b, hb⟩ (at64 ⟨h, hh⟩ p) rfl rfl) p n

theorem store_at (b h : ℕ) (hb : b < 8) (hh : h < 8) (z : S1x64x128.Idx) :
    shapeCast S1x64x128 (nextE X dt da T arg5 harg5 x4 b h hb hh) shapeCasts_S64x128_S1x64x128 z
      = (fun y : S8x512x128.Idx => stateOf X dt da x4 (y 0) (y 1) (y 2)) ((Rect.unit (s := S8x512x128) ![b, 64 * h, 0] S1x64x128.size (slab_inb b h hb hh)).emb z) := by
  obtain ⟨a, p, n, rfl⟩ : ∃ (a : Fin 1) (p : Fin 64) (n : Fin 128), z = ix3 a p n := ⟨z 0, z 1, z 2, eq_ix3 z⟩
  rw [slab_at, next_at X dt da T hT]
  have h0 := Rect.idx_unit_val (s := S8x512x128) ![b, 64 * h, 0] S1x64x128.size (slab_inb b h hb hh) (ix3 a p n) 0
  have h1 := Rect.idx_unit_val (s := S8x512x128) ![b, 64 * h, 0] S1x64x128.size (slab_inb b h hb hh) (ix3 a p n) 1
  have h2 := Rect.idx_unit_val (s := S8x512x128) ![b, 64 * h, 0] S1x64x128.size (slab_inb b h hb hh) (ix3 a p n) 2
  have e0 : (⟨b, hb⟩ : Fin 8) = ((Rect.unit (s := S8x512x128) ![b, 64 * h, 0] S1x64x128.size (slab_inb b h hb hh)).emb (ix3 a p n)) 0 := Fin.ext (by
    refine Eq.trans ?_ h0.symm
    show b = b + a.val
    omega)
  have e1 : at64 ⟨h, hh⟩ p = ((Rect.unit (s := S8x512x128) ![b, 64 * h, 0] S1x64x128.size (slab_inb b h hb hh)).emb (ix3 a p n)) 1 := Fin.ext (h1.symm.trans rfl)
  have e2 : n = ((Rect.unit (s := S8x512x128) ![b, 64 * h, 0] S1x64x128.size (slab_inb b h hb hh)).emb (ix3 a p n)) 2 := Fin.ext ((h2.trans (Nat.zero_add _)).symm)
  exact congr (congr (congrArg (stateOf X dt da x4) e0) e1) e2

omit hT

/-! ## The read-out kept in the scratch -/

def readOf (b : Fin 8) : Fin 512 → EReal := readout (fun c => X (ix2 b c)) (stateOf X dt da x4 b)

/-- The states of a token as the body stacks them. -/
abbrev stackE (b : ℕ) (hb : b < 8) : FVec Ideal S512x128 .bf16 :=
  heads (truncf .bf16 (nextE X dt da T arg5 harg5 x4 b 0 hb (by decide)) bitsLt_bf16_f32) (truncf .bf16 (nextE X dt da T arg5 harg5 x4 b 1 hb (by decide)) bitsLt_bf16_f32) (truncf .bf16 (nextE X dt da T arg5 harg5 x4 b 2 hb (by decide)) bitsLt_bf16_f32) (truncf .bf16 (nextE X dt da T arg5 harg5 x4 b 3 hb (by decide)) bitsLt_bf16_f32) (truncf .bf16 (nextE X dt da T arg5 harg5 x4 b 4 hb (by decide)) bitsLt_bf16_f32) (truncf .bf16 (nextE X dt da T arg5 harg5 x4 b 5 hb (by decide)) bitsLt_bf16_f32) (truncf .bf16 (nextE X dt da T arg5 harg5 x4 b 6 hb (by decide)) bitsLt_bf16_f32) (truncf .bf16 (nextE X dt da T arg5 harg5 x4 b 7 hb (by decide)) bitsLt_bf16_f32)

include hT

theorem stack_at (b : ℕ) (hb : b < 8) (r : Fin 512) (n : Fin 128) : stackE X dt da T arg5 harg5 x4 b hb (ix2 r n) = stateOf X dt da x4 ⟨b, hb⟩ r n :=
  heads_at _ _ _ _ _ _ _ _ _ (next_at X dt da T hT arg5 harg5 x4 b 0 hb (by decide)) (next_at X dt da T hT arg5 harg5 x4 b 1 hb (by decide)) (next_at X dt da T hT arg5 harg5 x4 b 2 hb (by decide)) (next_at X dt da T hT arg5 harg5 x4 b 3 hb (by decide)) (next_at X dt da T hT arg5 harg5 x4 b 4 hb (by decide)) (next_at X dt da T hT arg5 harg5 x4 b 5 hb (by decide)) (next_at X dt da T hT arg5 harg5 x4 b 6 hb (by decide)) (next_at X dt da T hT arg5 harg5 x4 b 7 hb (by decide)) r n

theorem keep_at (b : ℕ) (hb : b < 8) (z : S1x512.Idx) :
    rowE b X (stackE X dt da T arg5 harg5 x4 b hb) (slices2 b 768 (by omega) (by omega)) (slices2 b 896 (by omega) (by omega)) z
      = (fun y : S8x512.Idx => readOf X dt da x4 (y 0) (y 1)) ((Rect.unit (s := S8x512) ![b, 0] S1x512.size (row_inb b hb)).emb z) := by
  obtain ⟨a, r, rfl⟩ : ∃ (a : Fin 1) (r : Fin 512), z = ix2 a r := ⟨z 0, z 1, eq_ix2 z⟩
  obtain rfl : a = 0 := Subsingleton.elim _ _
  rw [yrow_at b X _ _ _ ⟨b, hb⟩ rfl r]
  have h0 := Rect.idx_unit_val (s := S8x512) ![b, 0] S1x512.size (row_inb b hb) (ix2 0 r) 0
  have h1 := Rect.idx_unit_val (s := S8x512) ![b, 0] S1x512.size (row_inb b hb) (ix2 0 r) 1
  have e0 : (⟨b, hb⟩ : Fin 8) = ((Rect.unit (s := S8x512) ![b, 0] S1x512.size (row_inb b hb)).emb (ix2 0 r)) 0 := Fin.ext (h0.symm.trans rfl)
  have e1 : r = ((Rect.unit (s := S8x512) ![b, 0] S1x512.size (row_inb b hb)).emb (ix2 0 r)) 1 := Fin.ext ((h1.trans (Nat.zero_add _)).symm)
  have eW : (fun r n => (stackE X dt da T arg5 harg5 x4 b hb (ix2 r n) : EReal)) = stateOf X dt da x4 ⟨b, hb⟩ := funext fun r => funext fun n => stack_at X dt da T hT arg5 harg5 x4 b hb r n
  refine Eq.trans ?_ (congr (congrArg (readOf X dt da x4) e0) e1)
  exact congrArg (fun W => readout (fun c => X (ix2 ⟨b, hb⟩ c)) W r) eW

end

theorem state_run (c : Dev nD) (i : grid0.Coords) (arg1 : Memref sig .tc .vmem S8x1024 .f32) (harg1 : arg1.IsWhole) (arg2 : Memref sig .tc .vmem S3x8x1024 .f32) (harg2 : arg2.IsWhole) (arg3 : Memref sig .tc .vmem S8x512 .bf16) (harg3 : arg3.IsWhole) (arg4 : Memref sig .tc .vmem S8x128 .f32) (harg4 : arg4.IsWhole) (arg5 : Memref sig .tc .vmem S8x512x128 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S8x512 .bf16) (harg12 : arg12.IsWhole) (arg13 : Memref sig .tc .vmem S8x512x128 .f32) (harg13 : arg13.IsWhole) (arg14 : Memref sig .tc .vmem S8x512 .f32) (harg14 : arg14.IsWhole)     (x0 : Vec Ideal S8x1024 .f32) (x1 : Vec Ideal S3x8x1024 .f32) (x2 : Vec Ideal S8x512 .bf16) (x3 : Vec Ideal S8x128 .f32) (x4 : Vec Ideal S8x512x128 .f32) (x5 : Vec Ideal S4x1024 .f32) (x6 : Vec Ideal S1x1024 .f32) (x7 : Vec Ideal S1x128 .f32) (x8 : Vec Ideal S1x128 .f32) (x9 : Vec Ideal S1x512 .f32) (x10 : Vec Ideal S1x512 .f32) :
    ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.1, ∀ z, p.2 z = (fun y : S8x512x128.Idx => stateOf (kernelRun0_A.sl.r c arg1 harg1 arg2 harg2 arg6 harg6 arg7 harg7 x0 x1 x5 x6) (kernelRun0_A.sl.r_3 c arg4 harg4 arg8 harg8 x3 x7) (kernelRun0_A.sl.r_4 c arg4 harg4 arg8 harg8 arg9 harg9 x3 x7 x8) x4 (y 0) (y 1) (y 2)) (p.1.emb z) := by
  unfold kernelRun0_A
  dsimp only
  simp only [List.forall_mem_cons]
  have go := store_at (kernelRun0_A.sl.r c arg1 harg1 arg2 harg2 arg6 harg6 arg7 harg7 x0 x1 x5 x6) (kernelRun0_A.sl.r_3 c arg4 harg4 arg8 harg8 x3 x7) (kernelRun0_A.sl.r_4 c arg4 harg4 arg8 harg8 arg9 harg9 x3 x7 x8)
    (quarters (kernelRun0_A.sl.r_5 c arg1 harg1 arg2 harg2 arg6 harg6 arg7 harg7 x0 x1 x5 x6) (kernelRun0_A.sl.r_6 c arg1 harg1 arg2 harg2 arg6 harg6 arg7 harg7 x0 x1 x5 x6) (kernelRun0_A.sl.r_7 c arg1 harg1 arg2 harg2 arg6 harg6 arg7 harg7 x0 x1 x5 x6) (kernelRun0_A.sl.r_8 c arg1 harg1 arg2 harg2 arg6 harg6 arg7 harg7 x0 x1 x5 x6)) (isTurned c arg1 harg1 arg2 harg2 arg6 harg6 arg7 harg7 x0 x1 x5 x6) arg5 harg5 x4
  exact ⟨go 7 7 (by decide) (by decide), go 7 6 (by decide) (by decide), go 7 5 (by decide) (by decide), go 7 4 (by decide) (by decide), go 7 3 (by decide) (by decide), go 7 2 (by decide) (by decide), go 7 1 (by decide) (by decide), go 7 0 (by decide) (by decide)
    , go 6 7 (by decide) (by decide), go 6 6 (by decide) (by decide), go 6 5 (by decide) (by decide), go 6 4 (by decide) (by decide), go 6 3 (by decide) (by decide), go 6 2 (by decide) (by decide), go 6 1 (by decide) (by decide), go 6 0 (by decide) (by decide)
    , go 5 7 (by decide) (by decide), go 5 6 (by decide) (by decide), go 5 5 (by decide) (by decide), go 5 4 (by decide) (by decide), go 5 3 (by decide) (by decide), go 5 2 (by decide) (by decide), go 5 1 (by decide) (by decide), go 5 0 (by decide) (by decide)
    , go 4 7 (by decide) (by decide), go 4 6 (by decide) (by decide), go 4 5 (by decide) (by decide), go 4 4 (by decide) (by decide), go 4 3 (by decide) (by decide), go 4 2 (by decide) (by decide), go 4 1 (by decide) (by decide), go 4 0 (by decide) (by decide)
    , go 3 7 (by decide) (by decide), go 3 6 (by decide) (by decide), go 3 5 (by decide) (by decide), go 3 4 (by decide) (by decide), go 3 3 (by decide) (by decide), go 3 2 (by decide) (by decide), go 3 1 (by decide) (by decide), go 3 0 (by decide) (by decide)
    , go 2 7 (by decide) (by decide), go 2 6 (by decide) (by decide), go 2 5 (by decide) (by decide), go 2 4 (by decide) (by decide), go 2 3 (by decide) (by decide), go 2 2 (by decide) (by decide), go 2 1 (by decide) (by decide), go 2 0 (by decide) (by decide)
    , go 1 7 (by decide) (by decide), go 1 6 (by decide) (by decide), go 1 5 (by decide) (by decide), go 1 4 (by decide) (by decide), go 1 3 (by decide) (by decide), go 1 2 (by decide) (by decide), go 1 1 (by decide) (by decide), go 1 0 (by decide) (by decide)
    , go 0 7 (by decide) (by decide), go 0 6 (by decide) (by decide), go 0 5 (by decide) (by decide), go 0 4 (by decide) (by decide), go 0 3 (by decide) (by decide), go 0 2 (by decide) (by decide), go 0 1 (by decide) (by decide), go 0 0 (by decide) (by decide)
    , fun _ h => absurd h List.not_mem_nil⟩

theorem read_run (c : Dev nD) (arg1 : Memref sig .tc .vmem S8x1024 .f32) (harg1 : arg1.IsWhole) (arg2 : Memref sig .tc .vmem S3x8x1024 .f32) (harg2 : arg2.IsWhole) (arg4 : Memref sig .tc .vmem S8x128 .f32) (harg4 : arg4.IsWhole) (arg5 : Memref sig .tc .vmem S8x512x128 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (x0 : Vec Ideal S8x1024 .f32) (x1 : Vec Ideal S3x8x1024 .f32) (x3 : Vec Ideal S8x128 .f32) (x4 : Vec Ideal S8x512x128 .f32) (x5 : Vec Ideal S4x1024 .f32) (x6 : Vec Ideal S1x1024 .f32) (x7 : Vec Ideal S1x128 .f32) (x8 : Vec Ideal S1x128 .f32) :
    ∀ p ∈ kernelRun0_A.sl.HS0_8 c arg1 harg1 arg2 harg2 arg4 harg4 arg5 harg5 arg6 harg6 arg7 harg7 arg8 harg8 arg9 harg9 x0 x1 x3 x4 x5 x6 x7 x8, ∀ z, p.2 z = (fun y : S8x512.Idx => readOf (kernelRun0_A.sl.r c arg1 harg1 arg2 harg2 arg6 harg6 arg7 harg7 x0 x1 x5 x6) (kernelRun0_A.sl.r_3 c arg4 harg4 arg8 harg8 x3 x7) (kernelRun0_A.sl.r_4 c arg4 harg4 arg8 harg8 arg9 harg9 x3 x7 x8) x4 (y 0) (y 1)) (p.1.emb z) := by
  unfold kernelRun0_A.sl.HS0_8
  simp only [List.forall_mem_cons]
  have go := keep_at (kernelRun0_A.sl.r c arg1 harg1 arg2 harg2 arg6 harg6 arg7 harg7 x0 x1 x5 x6) (kernelRun0_A.sl.r_3 c arg4 harg4 arg8 harg8 x3 x7) (kernelRun0_A.sl.r_4 c arg4 harg4 arg8 harg8 arg9 harg9 x3 x7 x8)
    (quarters (kernelRun0_A.sl.r_5 c arg1 harg1 arg2 harg2 arg6 harg6 arg7 harg7 x0 x1 x5 x6) (kernelRun0_A.sl.r_6 c arg1 harg1 arg2 harg2 arg6 harg6 arg7 harg7 x0 x1 x5 x6) (kernelRun0_A.sl.r_7 c arg1 harg1 arg2 harg2 arg6 harg6 arg7 harg7 x0 x1 x5 x6) (kernelRun0_A.sl.r_8 c arg1 harg1 arg2 harg2 arg6 harg6 arg7 harg7 x0 x1 x5 x6)) (isTurned c arg1 harg1 arg2 harg2 arg6 harg6 arg7 harg7 x0 x1 x5 x6) arg5 harg5 x4
  exact ⟨go 7 (by decide), go 6 (by decide), go 5 (by decide), go 4 (by decide), go 3 (by decide), go 2 (by decide), go 1 (by decide), go 0 (by decide), fun _ h => absurd h List.not_mem_nil⟩

end Cert.Kernel6Ideal.Ssd

end
-- ==== Proof.SsdTile.lean ====
/-
  What a run of the mixer's step leaves in its two blocks of outputs: the stored states, and the gated read-out of the scratch.
-/
module

public import proofs.«01_k».proof.Proof.SsdStore

@[expose] public section

set_option maxRecDepth 65536
set_option maxHeartbeats 4000000

noncomputable section

namespace Cert.Kernel6Ideal.Ssd

open Cert.Kernel6Ideal Cert.Kernel6Ideal.Gen Cert.Ssd
open Cert.Ffn (one eps)
open Idealize.ShloMosaic Idealize.ShloMosaic.TcCoe Idealize.ShloMosaic.ValueIdx

theorem scratch_at (c : Dev nD) (arg1 : Memref sig .tc .vmem S8x1024 .f32) (harg1 : arg1.IsWhole) (arg2 : Memref sig .tc .vmem S3x8x1024 .f32) (harg2 : arg2.IsWhole) (arg4 : Memref sig .tc .vmem S8x128 .f32) (harg4 : arg4.IsWhole) (arg5 : Memref sig .tc .vmem S8x512x128 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (x0 : Vec Ideal S8x1024 .f32) (x1 : Vec Ideal S3x8x1024 .f32) (x3 : Vec Ideal S8x128 .f32) (x4 : Vec Ideal S8x512x128 .f32) (x5 : Vec Ideal S4x1024 .f32) (x6 : Vec Ideal S1x1024 .f32) (x7 : Vec Ideal S1x128 .f32) (x8 : Vec Ideal S1x128 .f32) (arg14 : Memref sig .tc .vmem S8x512 .f32) (b : Fin 8) (r : Fin 512) :
    kernelRun0_A.sl.v1424 c arg1 harg1 arg2 harg2 arg4 harg4 arg5 harg5 arg6 harg6 arg7 harg7 arg8 harg8 arg9 harg9 arg14 x0 x1 x3 x4 x5 x6 x7 x8 (ix2 b r) = readOf (kernelRun0_A.sl.r c arg1 harg1 arg2 harg2 arg6 harg6 arg7 harg7 x0 x1 x5 x6) (kernelRun0_A.sl.r_3 c arg4 harg4 arg8 harg8 x3 x7) (kernelRun0_A.sl.r_4 c arg4 harg4 arg8 harg8 arg9 harg9 x3 x7 x8) x4 b r := by
  unfold kernelRun0_A.sl.v1424
  rw [View.readCov_eq_canon']
  have hy : (Rect.unit (s := S8x512) ![0, 0] S8x512.size inb_S8x512_S8x512_0_0).toLoadRect.idx (ix2 b r) = (ix2 b r : S8x512.Idx) := by
    funext a
    apply Fin.ext
    refine (Rect.idx_unit_val (s := S8x512) ![0, 0] S8x512.size inb_S8x512_S8x512_0_0 (ix2 b r) a).trans ?_
    match a with
    | ⟨0, _⟩ => exact Nat.zero_add _
    | ⟨1, _⟩ => exact Nat.zero_add _
  refine (congrArg (View.canon _) hy).trans ?_
  refine View.canon_apply_of_pieces (S := S8x512) (Val := Elt Ideal) (fun y : S8x512.Idx => readOf (kernelRun0_A.sl.r c arg1 harg1 arg2 harg2 arg6 harg6 arg7 harg7 x0 x1 x5 x6) (kernelRun0_A.sl.r_3 c arg4 harg4 arg8 harg8 x3 x7) (kernelRun0_A.sl.r_4 c arg4 harg4 arg8 harg8 arg9 harg9 x3 x7 x8) x4 (y 0) (y 1)) (kernelRun0_A.sl.HS0_8 c arg1 harg1 arg2 harg2 arg4 harg4 arg5 harg5 arg6 harg6 arg7 harg7 arg8 harg8 arg9 harg9 x0 x1 x3 x4 x5 x6 x7 x8) (read_run c arg1 harg1 arg2 harg2 arg4 harg4 arg5 harg5 arg6 harg6 arg7 harg7 arg8 harg8 arg9 harg9 x0 x1 x3 x4 x5 x6 x7 x8) (ix2 b r) ?_
  exact View.cover_of_tiledL (kernelRun0_A.sl.HS0_8 c arg1 harg1 arg2 harg2 arg4 harg4 arg5 harg5 arg6 harg6 arg7 harg7 arg8 harg8 arg9 harg9 x0 x1 x3 x4 x5 x6 x7 x8) S1x512.size (by sl_kernel_rfl) (ix2 b r)

/-! ## The two blocks of outputs -/

theorem out12_at (c : Dev nD) (i : grid0.Coords) (arg1 : Memref sig .tc .vmem S8x1024 .f32) (harg1 : arg1.IsWhole) (arg2 : Memref sig .tc .vmem S3x8x1024 .f32) (harg2 : arg2.IsWhole) (arg3 : Memref sig .tc .vmem S8x512 .bf16) (harg3 : arg3.IsWhole) (arg4 : Memref sig .tc .vmem S8x128 .f32) (harg4 : arg4.IsWhole) (arg5 : Memref sig .tc .vmem S8x512x128 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S8x512 .bf16) (harg12 : arg12.IsWhole) (arg13 : Memref sig .tc .vmem S8x512x128 .f32) (harg13 : arg13.IsWhole) (arg14 : Memref sig .tc .vmem S8x512 .f32) (harg14 : arg14.IsWhole)     (x0 : Vec Ideal S8x1024 .f32) (x1 : Vec Ideal S3x8x1024 .f32) (x2 : Vec Ideal S8x512 .bf16) (x3 : Vec Ideal S8x128 .f32) (x4 : Vec Ideal S8x512x128 .f32) (x5 : Vec Ideal S4x1024 .f32) (x6 : Vec Ideal S1x1024 .f32) (x7 : Vec Ideal S1x128 .f32) (x8 : Vec Ideal S1x128 .f32) (x9 : Vec Ideal S1x512 .f32) (x10 : Vec Ideal S1x512 .f32) (b : Fin 8) (r : Fin 512) (n : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 b r n) = next (rowX x0 x1 x5 x6 b) (rowDt x3 x7 b) (rowDa x3 x7 x8 b) (fun r n => x4 (ix3 b r n)) r n := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  refine (View.canon_apply_of_pieces (Val := Elt Ideal) (fun y : S8x512x128.Idx => stateOf (kernelRun0_A.sl.r c arg1 harg1 arg2 harg2 arg6 harg6 arg7 harg7 x0 x1 x5 x6) (kernelRun0_A.sl.r_3 c arg4 harg4 arg8 harg8 x3 x7) (kernelRun0_A.sl.r_4 c arg4 harg4 arg8 harg8 arg9 harg9 x3 x7 x8) x4 (y 0) (y 1) (y 2)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.1 (state_run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10) (ix3 b r n) (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 b r n))).trans ?_
  show stateOf _ _ _ x4 b r n = _
  unfold stateOf
  simp only [conv_at, dt_at, da_at]

theorem out11_at (c : Dev nD) (i : grid0.Coords) (arg1 : Memref sig .tc .vmem S8x1024 .f32) (harg1 : arg1.IsWhole) (arg2 : Memref sig .tc .vmem S3x8x1024 .f32) (harg2 : arg2.IsWhole) (arg3 : Memref sig .tc .vmem S8x512 .bf16) (harg3 : arg3.IsWhole) (arg4 : Memref sig .tc .vmem S8x128 .f32) (harg4 : arg4.IsWhole) (arg5 : Memref sig .tc .vmem S8x512x128 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S8x512 .bf16) (harg12 : arg12.IsWhole) (arg13 : Memref sig .tc .vmem S8x512x128 .f32) (harg13 : arg13.IsWhole) (arg14 : Memref sig .tc .vmem S8x512 .f32) (harg14 : arg14.IsWhole)     (x0 : Vec Ideal S8x1024 .f32) (x1 : Vec Ideal S3x8x1024 .f32) (x2 : Vec Ideal S8x512 .bf16) (x3 : Vec Ideal S8x128 .f32) (x4 : Vec Ideal S8x512x128 .f32) (x5 : Vec Ideal S4x1024 .f32) (x6 : Vec Ideal S1x1024 .f32) (x7 : Vec Ideal S1x128 .f32) (x8 : Vec Ideal S1x128 .f32) (x9 : Vec Ideal S1x512 .f32) (x10 : Vec Ideal S1x512 .f32) (b : Fin 8) (r : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix2 b r)
      = norm (gated (rowX x0 x1 x5 x6 b) (readout (rowX x0 x1 x5 x6 b) (next (rowX x0 x1 x5 x6 b) (rowDt x3 x7 b) (rowDa x3 x7 x8 b) (fun r n => x4 (ix3 b r n))))
          (fun r => x2 (ix2 b r)) (fun r => x9 (ix2 0 r))) (fun r => x10 (ix2 0 r)) r := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  rw [View.canon_unit_zero zero2]
  unfold kernelRun0_A.sl.r_123
  rw [load_whole _ _ _ _ _ all2]
  refine (pay1_at _ _ _ _ rfl rfl b r).trans ?_
  refine congrArg (fun f => norm f (fun r => x10 (ix2 0 r)) r) (funext fun r => ?_)
  unfold kernelRun0_A.sl.r_125 kernelRun0_A.sl.r_122 kernelRun0_A.sl.r_124
  rw [load_whole _ _ _ _ _ all2, load_whole _ _ _ _ _ all2]
  refine (pay255_at _ _ _ _ (rowX x0 x1 x5 x6 b) b (fun r => (chans_at c arg1 harg1 arg2 harg2 arg6 harg6 arg7 harg7 x0 x1 x5 x6 b r).trans (conv_at c arg1 harg1 arg2 harg2 arg6 harg6 arg7 harg7 x0 x1 x5 x6 b (chan r))) r).trans ?_
  refine congrArg (fun y => gated (rowX x0 x1 x5 x6 b) y (fun r => x2 (ix2 b r)) (fun r => x9 (ix2 0 r)) r) (funext fun r => ?_)
  rw [scratch_at]
  unfold readOf stateOf
  simp only [conv_at, dt_at, da_at]

end Cert.Kernel6Ideal.Ssd

end
-- ==== Proof.SsdSpec.lean ====
/-
  The sample batch's step of the state-space mixer as functions of the arrays both programs are given.
-/
module

public import proofs.«01_k».proof.Proof.SsdMath
public import Idealize.ShloMosaic.Lib.ValueIdx

@[expose] public section

noncomputable section

namespace Cert.Ssd

open Cert.Ffn
open Idealize.ShloMosaic Idealize.ShloMosaic.ValueIdx

variable (x0 : Vec Ideal (⟨2, ![128, 1024]⟩ : Shape) .f32) (x1 : Vec Ideal (⟨2, ![128, 512]⟩ : Shape) .bf16)
  (x2 : Vec Ideal (⟨2, ![128, 128]⟩ : Shape) .f32) (x3 : Vec Ideal (⟨5, ![1, 128, 8, 64, 128]⟩ : Shape) .f32)
  (x4 : Vec Ideal (⟨4, ![1, 128, 3, 1024]⟩ : Shape) .f32) (x5 : Vec Ideal (⟨3, ![1, 4, 1024]⟩ : Shape) .f32)
  (x6 : Vec Ideal (⟨2, ![1, 1024]⟩ : Shape) .f32) (x7 x8 x9 : Vec Ideal (⟨2, ![1, 8]⟩ : Shape) .f32)
  (x10 : Vec Ideal (⟨2, ![1, 512]⟩ : Shape) .f32)

/-- The lane a head's step size lies in, and a row's place in its head. -/
def at8 (h : Fin 8) : Fin 128 := ⟨h.val, by omega⟩
def part (r : Fin 512) : Fin 64 := ⟨r.val % 64, by omega⟩

/-- A token's convolved columns, its heads' step sizes and decays, and its state. -/
def tokU (b : Fin 128) : Fin 1024 → EReal :=
  conv (fun a c => x5 (ix3 0 a c)) (fun c => x6 (ix2 0 c)) (fun c => x0 (ix2 b c)) (fun a c => x4 (ix4 0 b a c))
def tokDt (b : Fin 128) (h : Fin 8) : EReal := soft ((x2 (ix2 b (at8 h)) : EReal) + x7 (ix2 0 h))
def tokA (h : Fin 8) : EReal := -(Ideal.exp (x8 (ix2 0 h)))
def tokDa (b : Fin 128) (h : Fin 8) : EReal := Ideal.exp (tokDt x2 x7 b h * tokA x8 h)
def tokS (b : Fin 128) (r : Fin 512) (n : Fin 128) : EReal := x3 (ix5 0 b (head r) (part r) n)

/-- The token's next state, and its row of the result. -/
def tokNext (b : Fin 128) : Fin 512 → Fin 128 → EReal :=
  next (tokU x0 x4 x5 x6 b) (tokDt x2 x7 b) (tokDa x2 x7 x8 b) (tokS x3 b)
def tokGated (b : Fin 128) : Fin 512 → EReal :=
  gated (tokU x0 x4 x5 x6 b) (readout (tokU x0 x4 x5 x6 b) (tokNext x0 x2 x3 x4 x5 x6 x7 x8 b)) (fun r => x1 (ix2 b r)) (fun r => x9 (ix2 0 (head r)))

/-- The result arrays: the gated rows, and the next states. -/
def resO : Vec Ideal (⟨2, ![128, 512]⟩ : Shape) .bf16 := fun i =>
  norm (tokGated x0 x1 x2 x3 x4 x5 x6 x7 x8 x9 (i 0)) (fun r => x10 (ix2 0 r)) (i 1)
def resS : Vec Ideal (⟨3, ![128, 512, 128]⟩ : Shape) .f32 := fun i => tokNext x0 x2 x3 x4 x5 x6 x7 x8 (i 0) (i 1) (i 2)

end Cert.Ssd

end
-- ==== Proof.SsdWhole.lean ====
/-
  The sample batch's mixer step: its two arrays after the run, as functions of the arguments.
-/
module

public import proofs.«01_k».proof.Proof.SsdTile
public import proofs.«01_k».proof.Proof.SsdSpec
public import proofs.«01_k».proof.Proof.Gen.Kernel6Ideal.Value
public import Idealize.ShloMosaic.Lib.KernelVsHost
public import Idealize.ShloMosaic.Lib.ValueLayout

@[expose] public section

set_option maxRecDepth 16384

noncomputable section

namespace Cert.Kernel6Ideal.Ssd

open Cert.Kernel6Ideal Cert.Kernel6Ideal.Gen Cert.Ssd
open Idealize.ShloMosaic Idealize.ShloMosaic.TcCoe Idealize.ShloMosaic.Tactic Idealize.ShloMosaic.ValueIdx

variable (m : (ℓ : Loc nD τ sig) → Buf (Elt Ideal) ℓ) (c : Dev nD)

/-! ## The host's layout of the arguments -/

theorem V_v0 : (V m c main_v0 : (⟨S4x1024, .f32⟩ : BufTy).Contents (Elt Ideal)) = shapeCast S4x1024 (m ((c : Thread nD τ).loc main_arg5)) shapeCasts_S1x4x1024_S4x1024 := by
  unfold V
  simp only [hostOps0, hostOps0_1, hostOps0_2, hostOps0_3, hostOps0_4, List.flatten_cons, List.flatten_nil, List.append_nil, List.cons_append, List.nil_append]
  after_results
  rfl

theorem V_v1 : (V m c main_v1 : (⟨S1x128, .f32⟩ : BufTy).Contents (Elt Ideal)) = pad S1x128 ![0, 0] ![0, 120] ![0, 0] (m ((c : Thread nD τ).loc main_arg7)) (sitofp (F := Ideal) .f32 (constantI S_ 32 0#32)) pads_S1x8_S1x128_000_01200 h_S_ := by
  unfold V
  simp only [hostOps0, hostOps0_1, hostOps0_2, hostOps0_3, hostOps0_4, List.flatten_cons, List.flatten_nil, List.append_nil, List.cons_append, List.nil_append]
  after_results
  rfl

theorem V_v2 : (V m c main_v2 : (⟨S1x128, .f32⟩ : BufTy).Contents (Elt Ideal)) = pad S1x128 ![0, 0] ![0, 120] ![0, 0] (m ((c : Thread nD τ).loc main_arg8)) (sitofp (F := Ideal) .f32 (constantI S_ 32 0#32)) pads_S1x8_S1x128_000_01200 h_S_ := by
  unfold V
  simp only [hostOps0, hostOps0_1, hostOps0_2, hostOps0_3, hostOps0_4, List.flatten_cons, List.flatten_nil, List.append_nil, List.cons_append, List.nil_append]
  after_results
  rfl

theorem V_v4 : (V m c main_v4 : (⟨S1x512, .f32⟩ : BufTy).Contents (Elt Ideal)) = shapeCast S1x512 (broadcastInDim S1x8x64 ![0, 1] bcast_S1x8_S1x8x64_0_1 (m ((c : Thread nD τ).loc main_arg9))) shapeCasts_S1x8x64_S1x512 := by
  unfold V
  simp only [hostOps0, hostOps0_1, hostOps0_2, hostOps0_3, hostOps0_4, List.flatten_cons, List.flatten_nil, List.append_nil, List.cons_append, List.nil_append]
  after_results
  rfl

theorem V_v6 : (V m c main_v6 : (⟨S3x128x1024, .f32⟩ : BufTy).Contents (Elt Ideal)) = transpose S3x128x1024 [1, 0, 2] (shapeCast S128x3x1024 (m ((c : Thread nD τ).loc main_arg4)) shapeCasts_S1x128x3x1024_S128x3x1024) transposes_S128x3x1024_S3x128x1024_1_0_2 := by
  unfold V
  simp only [hostOps0, hostOps0_1, hostOps0_2, hostOps0_3, hostOps0_4, List.flatten_cons, List.flatten_nil, List.append_nil, List.cons_append, List.nil_append]
  after_results
  rfl

theorem V_v8 : (V m c main_v8 : (⟨S128x512x128, .f32⟩ : BufTy).Contents (Elt Ideal)) = shapeCast S128x512x128 (shapeCast S128x8x64x128 (m ((c : Thread nD τ).loc main_arg3)) shapeCasts_S1x128x8x64x128_S128x8x64x128) shapeCasts_S128x8x64x128_S128x512x128 := by
  unfold V
  simp only [hostOps0, hostOps0_1, hostOps0_2, hostOps0_3, hostOps0_4, List.flatten_cons, List.flatten_nil, List.append_nil, List.cons_append, List.nil_append]
  after_results
  rfl

theorem w_at (x : (⟨S1x4x1024, .f32⟩ : BufTy).Contents (Elt Ideal)) (a : Fin 4) (d : Fin 1024) :
    shapeCast S4x1024 x shapeCasts_S1x4x1024_S4x1024 (ix2 a d) = x (ix3 0 a d) :=
  shapeCast_apply x _ _ _ (by
    rw [Shape.rowMajor_val_three, Shape.rowMajor_val_two]
    show (0 * 4 + a.val) * 1024 + d.val = a.val * 1024 + d.val
    omega)

theorem pad_at (x : (⟨S1x8, .f32⟩ : BufTy).Contents (Elt Ideal)) (h : Fin 8) :
    pad S1x128 ![0, 0] ![0, 120] ![0, 0] x (sitofp (F := Ideal) .f32 (constantI S_ 32 0#32)) pads_S1x8_S1x128_000_01200 h_S_ (ix2 0 (lane h)) = x (ix2 0 h) :=
  pad_apply_of_inside _ _ _ _ _ _ _ _ (ix2 0 h) (fun a => by
    match a with
    | ⟨0, _⟩ => rfl
    | ⟨1, _⟩ => show (lane h).val = 0 + h.val * (0 + 1); unfold lane; dsimp only; omega)

theorem skip_at (x : (⟨S1x8, .f32⟩ : BufTy).Contents (Elt Ideal)) (r : Fin 512) :
    shapeCast S1x512 (broadcastInDim S1x8x64 ![0, 1] bcast_S1x8_S1x8x64_0_1 x) shapeCasts_S1x8x64_S1x512 (ix2 0 r) = x (ix2 0 (head r)) := by
  refine (shapeCast_apply _ _ _ (ix3 0 (head r) (part r)) (by
    rw [Shape.rowMajor_val_three, Shape.rowMajor_val_two]
    show (0 * 8 + r.val / 64) * 64 + r.val % 64 = 0 * 512 + r.val
    omega)).trans ?_
  refine congrArg x (funext fun a => ?_)
  match a with
  | ⟨0, _⟩ => rfl
  | ⟨1, _⟩ => rfl

theorem old_at (x : (⟨S1x128x3x1024, .f32⟩ : BufTy).Contents (Elt Ideal)) (a : Fin 3) (b : Fin 128) (d : Fin 1024) :
    transpose S3x128x1024 [1, 0, 2] (shapeCast S128x3x1024 x shapeCasts_S1x128x3x1024_S128x3x1024) transposes_S128x3x1024_S3x128x1024_1_0_2 (ix3 a b d) = x (ix4 0 b a d) := by
  refine Eq.trans (transpose_apply [1, 0, 2] _ _ (ix3 a b d) (ix3 b a d) (fun y => ?_)) ?_
  · match y with
    | ⟨0, _⟩ => rfl
    | ⟨1, _⟩ => rfl
    | ⟨2, _⟩ => rfl
  · exact shapeCast_apply x _ _ _ (by
      rw [Shape.rowMajor_val_three, Shape.rowMajor_val_four]
      show ((0 * 128 + b.val) * 3 + a.val) * 1024 + d.val = (b.val * 3 + a.val) * 1024 + d.val
      omega)

theorem state_at (x : (⟨S1x128x8x64x128, .f32⟩ : BufTy).Contents (Elt Ideal)) (b : Fin 128) (r : Fin 512) (n : Fin 128) :
    shapeCast S128x512x128 (shapeCast S128x8x64x128 x shapeCasts_S1x128x8x64x128_S128x8x64x128) shapeCasts_S128x8x64x128_S128x512x128 (ix3 b r n) = tokS x b r n := by
  refine (shapeCast_apply _ _ _ (ix4 b (head r) (part r) n) (by
    rw [Shape.rowMajor_val_three, Shape.rowMajor_val_four]
    show ((b.val * 8 + r.val / 64) * 64 + r.val % 64) * 128 + n.val = (b.val * 512 + r.val) * 128 + n.val
    omega)).trans ?_
  exact shapeCast_apply x _ _ _ (by
    rw [Shape.rowMajor_val_five, Shape.rowMajor_val_four]
    show (((0 * 128 + b.val) * 8 + r.val / 64) * 64 + r.val % 64) * 128 + n.val = ((b.val * 8 + r.val / 64) * 64 + r.val % 64) * 128 + n.val
    omega)

/-! ## Where the blocks lie -/

theorem tlt (t : Fin cfg0.N) : t.val < 16 := t.isLt.trans_eq (by decide)

/-- The token of a point's row. -/
def tok (t : Fin cfg0.N) (b : Fin 8) : Fin 128 := ⟨8 * t.val + b.val, by have := tlt t; omega⟩

theorem idx0 : ∀ t : Fin cfg0.N, win0_0.index t 0 = t.val ∧ win0_0.index t 1 = 0 := by decide +kernel
theorem idx1 : ∀ t : Fin cfg0.N, win0_1.index t 0 = 0 ∧ win0_1.index t 1 = t.val ∧ win0_1.index t 2 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 ∧ win0_4.index t 2 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = t.val ∧ win0_11.index t 1 = 0 := by decide +kernel
theorem idx12 : ∀ t : Fin cfg0.N, win0_12.index t 0 = t.val ∧ win0_12.index t 1 = 0 ∧ win0_12.index t 2 = 0 := by decide +kernel
theorem xsz11 : ∀ t : Fin cfg0.N, win0_11.xsize (grid0.coords t) 0 = 8 ∧ win0_11.xsize (grid0.coords t) 1 = 512 := by decide +kernel
theorem xsz12 : ∀ t : Fin cfg0.N, win0_12.xsize (grid0.coords t) 0 = 8 ∧ win0_12.xsize (grid0.coords t) 1 = 512 ∧ win0_12.xsize (grid0.coords t) 2 = 128 := by decide +kernel

theorem emb0 (t : Fin cfg0.N) (a : Fin 8) (d : Fin 1024) : (win0_0.rect t).emb (ix2 a d) = ix2 (tok t a) d := by
  funext x
  apply Fin.ext
  refine (Pipeline.Window.rect_emb_val win0_0 t _ x).trans ?_
  match x with
  | ⟨0, _⟩ => show win0_0.index t 0 * 8 + a.val = 8 * t.val + a.val; rw [(idx0 t).1]; omega
  | ⟨1, _⟩ => show win0_0.index t 1 * 1024 + d.val = d.val; rw [(idx0 t).2]; omega

theorem emb1 (t : Fin cfg0.N) (a : Fin 3) (d : Fin 8) (e : Fin 1024) : (win0_1.rect t).emb (ix3 a d e) = ix3 a (tok t d) e := by
  funext x
  apply Fin.ext
  refine (Pipeline.Window.rect_emb_val win0_1 t _ x).trans ?_
  match x with
  | ⟨0, _⟩ => show win0_1.index t 0 * 3 + a.val = a.val; rw [(idx1 t).1]; omega
  | ⟨1, _⟩ => show win0_1.index t 1 * 8 + d.val = 8 * t.val + d.val; rw [(idx1 t).2.1]; omega
  | ⟨2, _⟩ => show win0_1.index t 2 * 1024 + e.val = e.val; rw [(idx1 t).2.2]; omega

theorem emb2 (t : Fin cfg0.N) (a : Fin 8) (d : Fin 512) : (win0_2.rect t).emb (ix2 a d) = ix2 (tok t a) d := by
  funext x
  apply Fin.ext
  refine (Pipeline.Window.rect_emb_val win0_2 t _ x).trans ?_
  match x with
  | ⟨0, _⟩ => show win0_2.index t 0 * 8 + a.val = 8 * t.val + a.val; rw [(idx2 t).1]; omega
  | ⟨1, _⟩ => show win0_2.index t 1 * 512 + d.val = d.val; rw [(idx2 t).2]; omega

theorem emb3 (t : Fin cfg0.N) (a : Fin 8) (d : Fin 128) : (win0_3.rect t).emb (ix2 a d) = ix2 (tok t a) d := by
  funext x
  apply Fin.ext
  refine (Pipeline.Window.rect_emb_val win0_3 t _ x).trans ?_
  match x with
  | ⟨0, _⟩ => show win0_3.index t 0 * 8 + a.val = 8 * t.val + a.val; rw [(idx3 t).1]; omega
  | ⟨1, _⟩ => show win0_3.index t 1 * 128 + d.val = d.val; rw [(idx3 t).2]; omega

theorem emb4 (t : Fin cfg0.N) (a : Fin 8) (d : Fin 512) (e : Fin 128) : (win0_4.rect t).emb (ix3 a d e) = ix3 (tok t a) d e := by
  funext x
  apply Fin.ext
  refine (Pipeline.Window.rect_emb_val win0_4 t _ x).trans ?_
  match x with
  | ⟨0, _⟩ => show win0_4.index t 0 * 8 + a.val = 8 * t.val + a.val; rw [(idx4 t).1]; omega
  | ⟨1, _⟩ => show win0_4.index t 1 * 512 + d.val = d.val; rw [(idx4 t).2.1]; omega
  | ⟨2, _⟩ => show win0_4.index t 2 * 128 + e.val = e.val; rw [(idx4 t).2.2]; omega

theorem emb5 (t : Fin cfg0.N) (a : Fin 4) (d : Fin 1024) : (win0_5.rect t).emb (ix2 a d) = ix2 a d := by
  funext x
  apply Fin.ext
  refine (Pipeline.Window.rect_emb_val win0_5 t _ x).trans ?_
  match x with
  | ⟨0, _⟩ => show win0_5.index t 0 * 4 + a.val = a.val; rw [(idx5 t).1]; omega
  | ⟨1, _⟩ => show win0_5.index t 1 * 1024 + d.val = d.val; rw [(idx5 t).2]; omega

theorem emb6 (t : Fin cfg0.N) (a : Fin 1) (d : Fin 1024) : (win0_6.rect t).emb (ix2 a d) = ix2 a d := by
  funext x
  apply Fin.ext
  refine (Pipeline.Window.rect_emb_val win0_6 t _ x).trans ?_
  match x with
  | ⟨0, _⟩ => show win0_6.index t 0 * 1 + a.val = a.val; rw [(idx6 t).1]; omega
  | ⟨1, _⟩ => show win0_6.index t 1 * 1024 + d.val = d.val; rw [(idx6 t).2]; omega

theorem emb7 (t : Fin cfg0.N) (a : Fin 1) (d : Fin 128) : (win0_7.rect t).emb (ix2 a d) = ix2 a d := by
  funext x
  apply Fin.ext
  refine (Pipeline.Window.rect_emb_val win0_7 t _ x).trans ?_
  match x with
  | ⟨0, _⟩ => show win0_7.index t 0 * 1 + a.val = a.val; rw [(idx7 t).1]; omega
  | ⟨1, _⟩ => show win0_7.index t 1 * 128 + d.val = d.val; rw [(idx7 t).2]; omega

theorem emb8 (t : Fin cfg0.N) (a : Fin 1) (d : Fin 128) : (win0_8.rect t).emb (ix2 a d) = ix2 a d := by
  funext x
  apply Fin.ext
  refine (Pipeline.Window.rect_emb_val win0_8 t _ x).trans ?_
  match x with
  | ⟨0, _⟩ => show win0_8.index t 0 * 1 + a.val = a.val; rw [(idx8 t).1]; omega
  | ⟨1, _⟩ => show win0_8.index t 1 * 128 + d.val = d.val; rw [(idx8 t).2]; omega

theorem emb9 (t : Fin cfg0.N) (a : Fin 1) (d : Fin 512) : (win0_9.rect t).emb (ix2 a d) = ix2 a d := by
  funext x
  apply Fin.ext
  refine (Pipeline.Window.rect_emb_val win0_9 t _ x).trans ?_
  match x with
  | ⟨0, _⟩ => show win0_9.index t 0 * 1 + a.val = a.val; rw [(idx9 t).1]; omega
  | ⟨1, _⟩ => show win0_9.index t 1 * 512 + d.val = d.val; rw [(idx9 t).2]; omega

theorem emb10 (t : Fin cfg0.N) (a : Fin 1) (d : Fin 512) : (win0_10.rect t).emb (ix2 a d) = ix2 a d := by
  funext x
  apply Fin.ext
  refine (Pipeline.Window.rect_emb_val win0_10 t _ x).trans ?_
  match x with
  | ⟨0, _⟩ => show win0_10.index t 0 * 1 + a.val = a.val; rw [(idx10 t).1]; omega
  | ⟨1, _⟩ => show win0_10.index t 1 * 512 + d.val = d.val; rw [(idx10 t).2]; omega

theorem emb11 (t : Fin cfg0.N) (a : Fin 8) (d : Fin 512) : (win0_11.rect t).emb (ix2 a d) = ix2 (tok t a) d := by
  funext x
  apply Fin.ext
  refine (Pipeline.Window.rect_emb_val win0_11 t _ x).trans ?_
  match x with
  | ⟨0, _⟩ => show win0_11.index t 0 * 8 + a.val = 8 * t.val + a.val; rw [(idx11 t).1]; omega
  | ⟨1, _⟩ => show win0_11.index t 1 * 512 + d.val = d.val; rw [(idx11 t).2]; omega

theorem emb12 (t : Fin cfg0.N) (a : Fin 8) (d : Fin 512) (e : Fin 128) : (win0_12.rect t).emb (ix3 a d e) = ix3 (tok t a) d e := by
  funext x
  apply Fin.ext
  refine (Pipeline.Window.rect_emb_val win0_12 t _ x).trans ?_
  match x with
  | ⟨0, _⟩ => show win0_12.index t 0 * 8 + a.val = 8 * t.val + a.val; rw [(idx12 t).1]; omega
  | ⟨1, _⟩ => show win0_12.index t 1 * 512 + d.val = d.val; rw [(idx12 t).2.1]; omega
  | ⟨2, _⟩ => show win0_12.index t 2 * 128 + e.val = e.val; rw [(idx12 t).2.2]; omega

theorem blk0 (t : Fin cfg0.N) (a : Fin 8) (d : Fin 1024) : (iblk m c 0 t : Vec Ideal S8x1024 .f32) (ix2 a d) = (m ((c : Thread nD τ).loc main_arg0) : (⟨S128x1024, .f32⟩ : BufTy).Contents (Elt Ideal)) (ix2 (tok t a) d) := by
  show (V m c main_arg0 : (⟨S128x1024, .f32⟩ : BufTy).Contents (Elt Ideal)) ((win0_0.rect t).emb (ix2 a d)) = _
  rw [emb0, V_main_arg0]

theorem blk1 (t : Fin cfg0.N) (a : Fin 3) (d : Fin 8) (e : Fin 1024) : (iblk m c 1 t : Vec Ideal S3x8x1024 .f32) (ix3 a d e) = (m ((c : Thread nD τ).loc main_arg4) : (⟨S1x128x3x1024, .f32⟩ : BufTy).Contents (Elt Ideal)) (ix4 0 (tok t d) a e) := by
  show (V m c main_v6 : (⟨S3x128x1024, .f32⟩ : BufTy).Contents (Elt Ideal)) ((win0_1.rect t).emb (ix3 a d e)) = _
  rw [emb1, V_v6]
  exact old_at _ _ _ _

theorem blk2 (t : Fin cfg0.N) (a : Fin 8) (d : Fin 512) : (iblk m c 2 t : Vec Ideal S8x512 .bf16) (ix2 a d) = (m ((c : Thread nD τ).loc main_arg1) : (⟨S128x512, .bf16⟩ : BufTy).Contents (Elt Ideal)) (ix2 (tok t a) d) := by
  show (V m c main_arg1 : (⟨S128x512, .bf16⟩ : BufTy).Contents (Elt Ideal)) ((win0_2.rect t).emb (ix2 a d)) = _
  rw [emb2, V_main_arg1]

theorem blk3 (t : Fin cfg0.N) (a : Fin 8) (d : Fin 128) : (iblk m c 3 t : Vec Ideal S8x128 .f32) (ix2 a d) = (m ((c : Thread nD τ).loc main_arg2) : (⟨S128x128, .f32⟩ : BufTy).Contents (Elt Ideal)) (ix2 (tok t a) d) := by
  show (V m c main_arg2 : (⟨S128x128, .f32⟩ : BufTy).Contents (Elt Ideal)) ((win0_3.rect t).emb (ix2 a d)) = _
  rw [emb3, V_main_arg2]

theorem blk4 (t : Fin cfg0.N) (a : Fin 8) (d : Fin 512) (e : Fin 128) : (iblk m c 4 t : Vec Ideal S8x512x128 .f32) (ix3 a d e) = tokS (m ((c : Thread nD τ).loc main_arg3)) (tok t a) d e := by
  show (V m c main_v8 : (⟨S128x512x128, .f32⟩ : BufTy).Contents (Elt Ideal)) ((win0_4.rect t).emb (ix3 a d e)) = _
  rw [emb4, V_v8]
  exact state_at _ _ _ _

theorem blk5 (t : Fin cfg0.N) (a : Fin 4) (d : Fin 1024) : (iblk m c 5 t : Vec Ideal S4x1024 .f32) (ix2 a d) = (m ((c : Thread nD τ).loc main_arg5) : (⟨S1x4x1024, .f32⟩ : BufTy).Contents (Elt Ideal)) (ix3 0 a d) := by
  show (V m c main_v0 : (⟨S4x1024, .f32⟩ : BufTy).Contents (Elt Ideal)) ((win0_5.rect t).emb (ix2 a d)) = _
  rw [emb5, V_v0]
  exact w_at _ _ _

theorem blk6 (t : Fin cfg0.N) (a : Fin 1) (d : Fin 1024) : (iblk m c 6 t : Vec Ideal S1x1024 .f32) (ix2 a d) = (m ((c : Thread nD τ).loc main_arg6) : (⟨S1x1024, .f32⟩ : BufTy).Contents (Elt Ideal)) (ix2 a d) := by
  show (V m c main_arg6 : (⟨S1x1024, .f32⟩ : BufTy).Contents (Elt Ideal)) ((win0_6.rect t).emb (ix2 a d)) = _
  rw [emb6, V_main_arg6]

theorem blk7 (t : Fin cfg0.N) (h : Fin 8) : (iblk m c 7 t : Vec Ideal S1x128 .f32) (ix2 0 (lane h)) = (m ((c : Thread nD τ).loc main_arg7) : (⟨S1x8, .f32⟩ : BufTy).Contents (Elt Ideal)) (ix2 0 h) := by
  show (V m c main_v1 : (⟨S1x128, .f32⟩ : BufTy).Contents (Elt Ideal)) ((win0_7.rect t).emb (ix2 0 (lane h))) = _
  rw [emb7, V_v1]
  exact pad_at _ _

theorem blk8 (t : Fin cfg0.N) (h : Fin 8) : (iblk m c 8 t : Vec Ideal S1x128 .f32) (ix2 0 (lane h)) = (m ((c : Thread nD τ).loc main_arg8) : (⟨S1x8, .f32⟩ : BufTy).Contents (Elt Ideal)) (ix2 0 h) := by
  show (V m c main_v2 : (⟨S1x128, .f32⟩ : BufTy).Contents (Elt Ideal)) ((win0_8.rect t).emb (ix2 0 (lane h))) = _
  rw [emb8, V_v2]
  exact pad_at _ _

theorem blk9 (t : Fin cfg0.N) (d : Fin 512) : (iblk m c 9 t : Vec Ideal S1x512 .f32) (ix2 0 d) = (m ((c : Thread nD τ).loc main_arg9) : (⟨S1x8, .f32⟩ : BufTy).Contents (Elt Ideal)) (ix2 0 (head d)) := by
  show (V m c main_v4 : (⟨S1x512, .f32⟩ : BufTy).Contents (Elt Ideal)) ((win0_9.rect t).emb (ix2 0 d)) = _
  rw [emb9, V_v4]
  exact skip_at _ _

theorem blk10 (t : Fin cfg0.N) (a : Fin 1) (d : Fin 512) : (iblk m c 10 t : Vec Ideal S1x512 .f32) (ix2 a d) = (m ((c : Thread nD τ).loc main_arg10) : (⟨S1x512, .f32⟩ : BufTy).Contents (Elt Ideal)) (ix2 a d) := by
  show (V m c main_arg10 : (⟨S1x512, .f32⟩ : BufTy).Contents (Elt Ideal)) ((win0_10.rect t).emb (ix2 a d)) = _
  rw [emb10, V_main_arg10]

/-! ## The arrays -/

theorem rowX_eq (t : Fin cfg0.N) (b : Fin 8) : rowX (iblk m c 0 t) (iblk m c 1 t) (iblk m c 5 t) (iblk m c 6 t) b = tokU (m ((c : Thread nD τ).loc main_arg0)) (m ((c : Thread nD τ).loc main_arg4)) (m ((c : Thread nD τ).loc main_arg5)) (m ((c : Thread nD τ).loc main_arg6)) (tok t b) := by
  unfold rowX tokU
  simp only [blk0, blk1, blk5, blk6]

theorem rowDt_eq (t : Fin cfg0.N) (b : Fin 8) : rowDt (iblk m c 3 t) (iblk m c 7 t) b = tokDt (m ((c : Thread nD τ).loc main_arg2)) (m ((c : Thread nD τ).loc main_arg7)) (tok t b) := funext fun h => by
  unfold rowDt tokDt
  rw [blk3, blk7]
  rfl

theorem rowDa_eq (t : Fin cfg0.N) (b : Fin 8) : rowDa (iblk m c 3 t) (iblk m c 7 t) (iblk m c 8 t) b = tokDa (m ((c : Thread nD τ).loc main_arg2)) (m ((c : Thread nD τ).loc main_arg7)) (m ((c : Thread nD τ).loc main_arg8)) (tok t b) := funext fun h => by
  show Ideal.exp (rowDt (iblk m c 3 t) (iblk m c 7 t) b h * -(Ideal.exp ((iblk m c 8 t : Vec Ideal S1x128 .f32) (ix2 0 (lane h))))) = _
  rw [rowDt_eq, blk8]
  rfl

theorem rowS_eq (t : Fin cfg0.N) (b : Fin 8) : (fun r n => (iblk m c 4 t : Vec Ideal S8x512x128 .f32) (ix3 b r n)) = tokS (m ((c : Thread nD τ).loc main_arg3)) (tok t b) :=
  funext fun r => funext fun n => blk4 m c t b r n

abbrev wholeO : (⟨S128x512, .bf16⟩ : BufTy).Contents (Elt Ideal) := resO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
abbrev wholeS : (⟨S128x512x128, .f32⟩ : BufTy).Contents (Elt Ideal) := resS (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem flushedS (t : Fin cfg0.N) : (dats m 0 c).flushed 12 t = (win0_12.blk t).view.read (Elt Ideal) (wholeS m c) := by
  rw [Cert.Kernel6Ideal.Value.flushed12_A]
  refine funext fun (y : S8x512x128.Idx) => ?_
  obtain ⟨a, d, e, rfl⟩ : ∃ (a : Fin 8) (d : Fin 512) (e : Fin 128), y = ix3 a d e := ⟨y 0, y 1, y 2, eq_ix3 y⟩
  refine (out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) a d e).trans ?_
  show _ = wholeS m c ((win0_12.rect t).emb (ix3 a d e))
  rw [emb12, rowX_eq, rowDt_eq, rowDa_eq, rowS_eq]
  rfl

theorem flushedO (t : Fin cfg0.N) : (dats m 0 c).flushed 11 t = (win0_11.blk t).view.read (Elt Ideal) (wholeO m c) := by
  rw [Cert.Kernel6Ideal.Value.flushed11_A]
  refine funext fun (y : S8x512.Idx) => ?_
  obtain ⟨a, d, rfl⟩ : ∃ (a : Fin 8) (d : Fin 512), y = ix2 a d := ⟨y 0, y 1, eq_ix2 y⟩
  refine (out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) a d).trans ?_
  show _ = wholeO m c ((win0_11.rect t).emb (ix2 a d))
  rw [emb11, rowX_eq, rowDt_eq, rowDa_eq, rowS_eq]
  simp only [blk2, blk9, blk10]
  rfl

theorem coverO (i : S128x512.Idx) : ∃ t : Fin cfg0.N, (cfg0.win 11).flush t = true ∧ i ∈ ((cfg0.win 11).blk t).view.set := by
  have h0 : (i 0 : Nat) < 128 := (i 0).isLt
  have hN : cfg0.N = 16 := by decide
  have ht : (i 0 : Nat) / 8 < cfg0.N := by omega
  refine ⟨⟨_, ht⟩, flush0_11 _, ?_⟩
  show i ∈ ((View.whole main_v9_0).slice (win0_11.rect ⟨_, ht⟩)).set
  rw [View.set_slice_whole, Rect.mem_set_unit]
  intro a
  match a with
  | ⟨0, _⟩ =>
    have h : (i 0 : Nat) < 128 := (i 0).isLt
    show win0_11.index ⟨_, ht⟩ 0 * 8 ≤ (i 0 : Nat) ∧ (i 0 : Nat) < win0_11.index ⟨_, ht⟩ 0 * 8 + win0_11.xsize (grid0.coords ⟨_, ht⟩) 0
    rw [(idx11 _).1, (xsz11 _).1]
    dsimp only; omega
  | ⟨1, _⟩ =>
    have h : (i 1 : Nat) < 512 := (i 1).isLt
    show win0_11.index ⟨_, ht⟩ 1 * 512 ≤ (i 1 : Nat) ∧ (i 1 : Nat) < win0_11.index ⟨_, ht⟩ 1 * 512 + win0_11.xsize (grid0.coords ⟨_, ht⟩) 1
    rw [(idx11 _).2, (xsz11 _).2]
    omega

theorem finalO : (dats m 0 c).arrAt 11 cfg0.N = wholeO m c :=
  (dats m 0 c).arrAt_eq_of_cover 11 (wholeO m c) (fun t _ => flushedO m c t) coverO

theorem coverS (i : S128x512x128.Idx) : ∃ t : Fin cfg0.N, (cfg0.win 12).flush t = true ∧ i ∈ ((cfg0.win 12).blk t).view.set := by
  have h0 : (i 0 : Nat) < 128 := (i 0).isLt
  have hN : cfg0.N = 16 := by decide
  have ht : (i 0 : Nat) / 8 < cfg0.N := by omega
  refine ⟨⟨_, ht⟩, flush0_12 _, ?_⟩
  show i ∈ ((View.whole main_v9_1).slice (win0_12.rect ⟨_, ht⟩)).set
  rw [View.set_slice_whole, Rect.mem_set_unit]
  intro a
  match a with
  | ⟨0, _⟩ =>
    have h : (i 0 : Nat) < 128 := (i 0).isLt
    show win0_12.index ⟨_, ht⟩ 0 * 8 ≤ (i 0 : Nat) ∧ (i 0 : Nat) < win0_12.index ⟨_, ht⟩ 0 * 8 + win0_12.xsize (grid0.coords ⟨_, ht⟩) 0
    rw [(idx12 _).1, (xsz12 _).1]
    dsimp only; omega
  | ⟨1, _⟩ =>
    have h : (i 1 : Nat) < 512 := (i 1).isLt
    show win0_12.index ⟨_, ht⟩ 1 * 512 ≤ (i 1 : Nat) ∧ (i 1 : Nat) < win0_12.index ⟨_, ht⟩ 1 * 512 + win0_12.xsize (grid0.coords ⟨_, ht⟩) 1
    rw [(idx12 _).2.1, (xsz12 _).2.1]
    omega
  | ⟨2, _⟩ =>
    have h : (i 2 : Nat) < 128 := (i 2).isLt
    show win0_12.index ⟨_, ht⟩ 2 * 128 ≤ (i 2 : Nat) ∧ (i 2 : Nat) < win0_12.index ⟨_, ht⟩ 2 * 128 + win0_12.xsize (grid0.coords ⟨_, ht⟩) 2
    rw [(idx12 _).2.2, (xsz12 _).2.2]
    omega

theorem finalS : (dats m 0 c).arrAt 12 cfg0.N = wholeS m c :=
  (dats m 0 c).arrAt_eq_of_cover 12 (wholeS m c) (fun t _ => flushedS m c t) coverS

end Cert.Kernel6Ideal.Ssd

end
-- ==== Proof.SsdReal.lean ====
/-
  Where the mixer's step stays among the real numbers, and the two identities its two forms differ by.
-/
module

public import proofs.«01_k».proof.Proof.SsdSpec
public import proofs.«01_k».proof.Proof.Softmax
public import Idealize.ShloMosaic.Lib.IdealHost

@[expose] public section

noncomputable section

namespace Cert.Ssd

open Cert.Ffn
open Idealize.ShloMosaic Idealize.ShloMosaic.ValueIdx

/-- A real number among the extended reals. -/
def Re (x : EReal) : Prop := ∃ r : ℝ, x = (r : EReal)

theorem Re.add {x y : EReal} : Re x → Re y → Re (x + y) := fun ⟨a, ha⟩ ⟨b, hb⟩ => ⟨a + b, by rw [ha, hb, EReal.coe_add]⟩
theorem Re.mul {x y : EReal} : Re x → Re y → Re (x * y) := fun ⟨a, ha⟩ ⟨b, hb⟩ => ⟨a * b, by rw [ha, hb, EReal.coe_mul]⟩
theorem Re.neg {x : EReal} : Re x → Re (-x) := fun ⟨a, ha⟩ => ⟨-a, by rw [ha, EReal.coe_neg]⟩
theorem Re.exp {x : EReal} : Re x → Re (Ideal.exp x) := fun ⟨a, ha⟩ => ⟨Real.exp a, by rw [ha, Ideal.exp_coe]⟩

theorem one_val : one = 1 := Ideal.ofBits_one_f32

theorem Re.max {x y : EReal} (hx : Re x) (hy : Re y) : Re (max x y) := by
  rcases max_choice x y with h | h
  · rw [h]; exact hx
  · rw [h]; exact hy

theorem re_zero : Re 0 := ⟨0, EReal.coe_zero.symm⟩

theorem Re.silu {x : EReal} : Re x → Re (silu x) := fun ⟨a, ha⟩ => by
  have e : one + Ideal.exp (-x) = ((1 + Real.exp (-a) : ℝ) : EReal) := by
    rw [ha, one_val, ← EReal.coe_neg, Ideal.exp_coe, EReal.coe_add, EReal.coe_one]
  have hp : (1 + Real.exp (-a) : ℝ) ≠ 0 := by positivity
  unfold Cert.Ssd.silu
  rw [e, Ideal.div_coe hp, one_val, one_mul, ha]
  exact ⟨_, (EReal.coe_mul _ _).symm⟩

theorem Re.soft {x : EReal} (hx : Re x) : Re (soft x) := by
  refine (hx.max re_zero).add ?_
  obtain ⟨a, ha⟩ := (hx.max hx.neg).neg
  have e : (1 : EReal) + Ideal.exp (-(Max.max x (-x))) = ((1 + Real.exp a : ℝ) : EReal) := by
    rw [ha, Ideal.exp_coe, EReal.coe_add, EReal.coe_one]
  have hp : ¬ (1 + Real.exp a : ℝ) ≤ 0 := not_le.mpr (by positivity)
  refine ⟨Real.log (1 + Real.exp a), ?_⟩
  unfold Ideal.log1p
  rw [e]
  exact if_neg hp

theorem re_conv (w : Fin 4 → Fin 1024 → EReal) (b x : Fin 1024 → EReal) (old : Fin 3 → Fin 1024 → EReal) (hw : ∀ a c, Re (w a c)) (hb : ∀ c, Re (b c))
    (hx : ∀ c, Re (x c)) (ho : ∀ a c, Re (old a c)) (c : Fin 1024) : Re (conv w b x old c) :=
  Re.silu (((((hb c).add ((hw 3 c).mul (hx c))).add ((hw 0 c).mul (ho 0 c))).add ((hw 1 c).mul (ho 1 c))).add ((hw 2 c).mul (ho 2 c)))

/-- A decay over no time is one. -/
theorem exp_sub_self {x : EReal} : Re x → Ideal.exp (x - x) = 1 := fun ⟨a, ha⟩ => by
  rw [ha, ← EReal.coe_sub, sub_self, Ideal.exp_coe, Real.exp_zero, EReal.coe_one]

/-- A real factor goes into a sum of which one part is real. -/
theorem mul_add_re {c r : EReal} (a : EReal) : Re c → Re r → c * (a + r) = c * a + c * r := fun ⟨c', hc⟩ ⟨r', hr⟩ => by
  subst hc hr
  rcases lt_trichotomy c' 0 with h | h | h
  · induction a with
    | bot => rw [EReal.bot_add, EReal.coe_mul_bot_of_neg h, ← EReal.coe_mul, EReal.top_add_coe]
    | top => rw [EReal.top_add_coe, EReal.coe_mul_top_of_neg h, EReal.bot_add]
    | coe a => rw [← EReal.coe_add, ← EReal.coe_mul, ← EReal.coe_mul, ← EReal.coe_mul, ← EReal.coe_add, mul_add]
  · subst h
    rw [EReal.coe_zero, zero_mul, zero_mul, zero_mul, zero_add]
  · exact EReal.left_distrib_of_nonneg_of_ne_top (EReal.coe_nonneg.mpr h.le) (EReal.coe_ne_top _) _ _

/-- A decay goes into a sum. -/
theorem mul_sum_nonneg {c : EReal} (h0 : 0 ≤ c) (ht : c ≠ ⊤) (f : Fin 128 → EReal) : c * ∑ n, f n = ∑ n, c * f n :=
  map_sum (⟨⟨fun a => c * a, mul_zero c⟩, EReal.left_distrib_of_nonneg_of_ne_top h0 ht⟩ : EReal →+ EReal) f Finset.univ

/-- The next state read out is the token's own part and the old state's, whatever the old state holds. -/
theorem read_split (B C S : Fin 128 → EReal) (l dt x : EReal) (hB : ∀ n, Re (B n)) (hC : ∀ n, Re (C n)) (hl : Re l) (ht : Re dt) (hx : Re x) :
    x * ((∑ n, B n * C n) * 1 * dt) + Ideal.exp l * ∑ n, S n * C n = ∑ n, C n * (Ideal.exp l * S n + dt * x * B n) := by
  have hd : x * ((∑ n, B n * C n) * 1 * dt) = ∑ n, C n * (dt * x * B n) := by
    choose B' hB using hB
    choose C' hC using hC
    obtain ⟨t, rfl⟩ := ht
    obtain ⟨y, rfl⟩ := hx
    rw [mul_one]
    simp only [hB, hC, ← EReal.coe_mul, Cert.Softmax.coe_sum]
    refine congrArg (fun r : ℝ => (r : EReal)) ?_
    rw [Finset.sum_mul, Finset.mul_sum]
    exact Finset.sum_congr rfl fun n _ => by ring
  obtain ⟨a, rfl⟩ := hl
  rw [hd, Ideal.exp_coe, mul_sum_nonneg (EReal.coe_nonneg.mpr (Real.exp_pos a).le) (EReal.coe_ne_top _), add_comm, ← Finset.sum_add_distrib]
  refine Finset.sum_congr rfl fun n _ => ?_
  rw [mul_add_re _ (hC n) ((ht.mul hx).mul (hB n)), mul_left_comm (C n) _ (S n), mul_comm (S n)]

variable (x0 : Vec Ideal (⟨2, ![128, 1024]⟩ : Shape) .f32)
  (x2 : Vec Ideal (⟨2, ![128, 128]⟩ : Shape) .f32)
  (x4 : Vec Ideal (⟨4, ![1, 128, 3, 1024]⟩ : Shape) .f32) (x5 : Vec Ideal (⟨3, ![1, 4, 1024]⟩ : Shape) .f32)
  (x6 : Vec Ideal (⟨2, ![1, 1024]⟩ : Shape) .f32) (x7 x8 : Vec Ideal (⟨2, ![1, 8]⟩ : Shape) .f32)

/-- The arguments the two forms need real. -/
structure Fin7 : Prop where
  h0 : ∀ i, Re (x0 i)
  h2 : ∀ i, Re (x2 i)
  h4 : ∀ i, Re (x4 i)
  h5 : ∀ i, Re (x5 i)
  h6 : ∀ i, Re (x6 i)
  h7 : ∀ i, Re (x7 i)
  h8 : ∀ i, Re (x8 i)

variable {x0 x2 x4 x5 x6 x7 x8} (h : Fin7 x0 x2 x4 x5 x6 x7 x8)
include h

theorem Fin7.u (b : Fin 128) (c : Fin 1024) : Re (tokU x0 x4 x5 x6 b c) :=
  re_conv _ _ _ _ (fun _ _ => h.h5 _) (fun _ => h.h6 _) (fun _ => h.h0 _) (fun _ _ => h.h4 _) c
theorem Fin7.dt (b : Fin 128) (k : Fin 8) : Re (tokDt x2 x7 b k) := ((h.h2 _).add (h.h7 _)).soft
theorem Fin7.cs (b : Fin 128) (k : Fin 8) : Re (tokDt x2 x7 b k * tokA x8 k) := (h.dt b k).mul (h.h8 _).exp.neg

end Cert.Ssd

end
-- ==== Proof.SsdRef.lean ====
/-
  The reference's mixer step of the sample batch, element by element over the extended reals.
-/
module

public import proofs.«01_k».proof.Proof.SsdReal
public import proofs.«01_k».proof.Proof.Gen.Reference6Ideal.Read
public import Idealize.ShloMosaic.Lib.ValueLayout
public import Idealize.ShloMosaic.Lib.IdealHost

@[expose] public section

set_option maxRecDepth 16384

noncomputable section

namespace Cert.Reference6Ideal.Ssd

open Cert.Reference6Ideal Cert.Reference6Ideal.Gen Cert.Reference6Ideal.Read Cert.Ssd
open Cert.Ffn (one eps)
open Idealize.ShloMosaic Idealize.ShloMosaic.TcCoe Idealize.ShloMosaic.ValueIdx

variable (x0 : (⟨S128x1024, .f32⟩ : BufTy).Contents (Elt Ideal)) (x1 : (⟨S128x512, .bf16⟩ : BufTy).Contents (Elt Ideal))
  (x2 : (⟨S128x128, .f32⟩ : BufTy).Contents (Elt Ideal)) (x3 : (⟨S1x128x8x64x128, .f32⟩ : BufTy).Contents (Elt Ideal))
  (x4 : (⟨S1x128x3x1024, .f32⟩ : BufTy).Contents (Elt Ideal)) (x5 : (⟨S1x4x1024, .f32⟩ : BufTy).Contents (Elt Ideal))
  (x6 : (⟨S1x1024, .f32⟩ : BufTy).Contents (Elt Ideal)) (x7 x8 x9 : (⟨S1x8, .f32⟩ : BufTy).Contents (Elt Ideal))
  (x10 : (⟨S1x512, .f32⟩ : BufTy).Contents (Elt Ideal))

/-! ## The convolution -/

theorem v0_at (b : Fin 128) (c : Fin 1024) : val_main_v0 (F := Ideal) x0 (ix3 b 0 c) = x0 (ix2 b c) := by
  rw [val_main_v0_apply]
  refine congrArg x0 (funext fun a => Fin.ext ?_)
  match a with
  | ⟨0, _⟩ => show ((b.val * 1 + 0) * 1024 + c.val) / 1024 = b.val; omega
  | ⟨1, _⟩ => show ((b.val * 1 + 0) * 1024 + c.val) % 1024 = c.val; omega

theorem v1_at (b : Fin 128) (k : Fin 3) (c : Fin 1024) : val_main_v1 (F := Ideal) x4 (ix3 b k c) = x4 (ix4 0 b k c) := by
  rw [val_main_v1_apply]
  refine congrArg x4 (funext fun y => Fin.ext ?_)
  match y with
  | ⟨0, _⟩ => rfl
  | ⟨1, _⟩ => show ((b.val * 3 + k.val) * 1024 + c.val) / 3072 % 128 = b.val; omega
  | ⟨2, _⟩ => show ((b.val * 3 + k.val) * 1024 + c.val) / 1024 % 3 = k.val; omega
  | ⟨3, _⟩ => show ((b.val * 3 + k.val) * 1024 + c.val) % 1024 = c.val; omega

theorem off_mid {n : ℕ} (b : Fin 128) (k : Fin n) (k' : Fin 4) (d : Fin 1024) :
    ∀ a : Fin 3, a ≠ 1 → ((ix3 b k d : (⟨3, ![128, n, 1024]⟩ : Shape).Idx) a).val = ((ix3 b k' d : S128x4x1024.Idx) a).val := fun a ha => by
  match a, ha with
  | ⟨0, _⟩, _ => rfl
  | ⟨1, _⟩, ha => exact absurd rfl ha
  | ⟨2, _⟩, _ => rfl

theorem v2_old (b : Fin 128) (k : Fin 3) (n : Fin 4) (hn : n.val = k.val) (c : Fin 1024) :
    val_main_v2 (F := Ideal) x0 x4 (ix3 b n c) = x4 (ix4 0 b k c) := by
  unfold val_main_v2
  exact (concatenate_apply_piece (t := S128x4x1024) 1 [⟨S128x3x1024, val_main_v1 (F := Ideal) x4⟩, ⟨S128x1x1024, val_main_v0 (F := Ideal) x0⟩] _ (ix3 b n c) 0 (show 0 < 2 by decide) S128x3x1024
    (val_main_v1 (F := Ideal) x4) rfl rfl 0 rfl (ix3 b k c) (off_mid b k n c) ((Nat.zero_add _).trans hn.symm)).trans (v1_at x4 b k c)

theorem v2_new (b : Fin 128) (c : Fin 1024) : val_main_v2 (F := Ideal) x0 x4 (ix3 b 3 c) = x0 (ix2 b c) := by
  unfold val_main_v2
  exact (concatenate_apply_piece (t := S128x4x1024) 1 [⟨S128x3x1024, val_main_v1 (F := Ideal) x4⟩, ⟨S128x1x1024, val_main_v0 (F := Ideal) x0⟩] _ (ix3 b 3 c) 1 (show 1 < 2 by decide) S128x1x1024
    (val_main_v0 (F := Ideal) x0) rfl rfl 3 rfl (ix3 b 0 c) (off_mid b 0 3 c) rfl).trans (v0_at x0 b c)

theorem v3_at (a : Fin 4) (d : Fin 1024) : val_main_v3 (F := Ideal) x5 (ix2 a d) = x5 (ix3 0 a d) := by
  rw [val_main_v3_apply]
  refine congrArg x5 (funext fun y => Fin.ext ?_)
  match y with
  | ⟨0, _⟩ => rfl
  | ⟨1, _⟩ => show (a.val * 1024 + d.val) / 1024 % 4 = a.val; omega
  | ⟨2, _⟩ => show (a.val * 1024 + d.val) % 1024 = d.val; omega

theorem v9_at (b : Fin 128) (d : Fin 1024) : val_main_v9 (F := Ideal) x5 (ix3 b 0 d) = x5 (ix3 0 0 d) := by
  rw [val_main_v9_apply, val_main_v8_apply, val_main_v6_apply, val_main_v5_apply]
  have e : idx_main_v5 (idx_main_v6 (idx_main_v8 (idx_main_v9 (ix3 b 0 d)))) = ix2 0 d := by
    funext a
    apply Fin.ext
    match a with
    | ⟨0, _⟩ => rfl
    | ⟨1, _⟩ => first | rfl | (show d.val % 1024 = d.val; omega)
  rw [e, v3_at]

theorem v18_at (b : Fin 128) (d : Fin 1024) : val_main_v18 (F := Ideal) x5 (ix3 b 0 d) = x5 (ix3 0 1 d) := by
  rw [val_main_v18_apply, val_main_v17_apply, val_main_v15_apply, val_main_v14_apply]
  have e : idx_main_v14 (idx_main_v15 (idx_main_v17 (idx_main_v18 (ix3 b 0 d)))) = ix2 1 d := by
    funext a
    apply Fin.ext
    match a with
    | ⟨0, _⟩ => rfl
    | ⟨1, _⟩ => first | rfl | (show d.val % 1024 = d.val; omega)
  rw [e, v3_at]

theorem v25_at (b : Fin 128) (d : Fin 1024) : val_main_v25 (F := Ideal) x5 (ix3 b 0 d) = x5 (ix3 0 2 d) := by
  rw [val_main_v25_apply, val_main_v24_apply, val_main_v22_apply, val_main_v21_apply]
  have e : idx_main_v21 (idx_main_v22 (idx_main_v24 (idx_main_v25 (ix3 b 0 d)))) = ix2 2 d := by
    funext a
    apply Fin.ext
    match a with
    | ⟨0, _⟩ => rfl
    | ⟨1, _⟩ => first | rfl | (show d.val % 1024 = d.val; omega)
  rw [e, v3_at]

theorem v32_at (b : Fin 128) (d : Fin 1024) : val_main_v32 (F := Ideal) x5 (ix3 b 0 d) = x5 (ix3 0 3 d) := by
  rw [val_main_v32_apply, val_main_v31_apply, val_main_v29_apply, val_main_v28_apply]
  have e : idx_main_v28 (idx_main_v29 (idx_main_v31 (idx_main_v32 (ix3 b 0 d)))) = ix2 3 d := by
    funext a
    apply Fin.ext
    match a with
    | ⟨0, _⟩ => rfl
    | ⟨1, _⟩ => first | rfl | (show d.val % 1024 = d.val; omega)
  rw [e, v3_at]

theorem v12_at (b : Fin 128) (d : Fin 1024) : val_main_v12 (F := Ideal) x6 (ix3 b 0 d) = x6 (ix2 0 d) := by
  rw [val_main_v12_apply, val_main_v11_apply, val_main_v4_apply]
  refine congrArg x6 (funext fun a => Fin.ext ?_)
  match a with
  | ⟨0, _⟩ => rfl
  | ⟨1, _⟩ => first | rfl | (show d.val % 1024 = d.val; omega)

theorem v35_at (b : Fin 128) (c : Fin 1024) : val_main_v35 (F := Ideal) x0 x4 x5 x6 (ix3 b 0 c) = tokU x0 x4 x5 x6 b c := by
  have e0 : idx_main_v7 (ix3 b 0 c) = ix3 b (0 : Fin 4) c := by
    funext a; match a with | ⟨0, _⟩ => rfl | ⟨1, _⟩ => rfl | ⟨2, _⟩ => rfl
  have e1 : idx_main_v16 (ix3 b 0 c) = ix3 b (1 : Fin 4) c := by
    funext a; match a with | ⟨0, _⟩ => rfl | ⟨1, _⟩ => rfl | ⟨2, _⟩ => rfl
  have e2 : idx_main_v23 (ix3 b 0 c) = ix3 b (2 : Fin 4) c := by
    funext a; match a with | ⟨0, _⟩ => rfl | ⟨1, _⟩ => rfl | ⟨2, _⟩ => rfl
  have e3 : idx_main_v30 (ix3 b 0 c) = ix3 b (3 : Fin 4) c := by
    funext a; match a with | ⟨0, _⟩ => rfl | ⟨1, _⟩ => rfl | ⟨2, _⟩ => rfl
  have hs : val_main_v34 (F := Ideal) x0 x4 x5 x6 (ix3 b 0 c)
      = (x6 (ix2 0 c) : EReal) + x5 (ix3 0 3 c) * x0 (ix2 b c) + x5 (ix3 0 0 c) * x4 (ix4 0 b 0 c) + x5 (ix3 0 1 c) * x4 (ix4 0 b 1 c) + x5 (ix3 0 2 c) * x4 (ix4 0 b 2 c) := by
    rw [val_main_v34_apply, val_main_v27_apply, val_main_v20_apply, val_main_v13_apply, val_main_v10_apply, val_main_v19_apply, val_main_v26_apply, val_main_v33_apply,
      val_main_v7_apply, val_main_v16_apply, val_main_v23_apply, val_main_v30_apply, v9_at, v18_at, v25_at, v32_at, v12_at, e0, e1, e2, e3,
      v2_old x0 x4 b 0 0 rfl, v2_old x0 x4 b 1 1 rfl, v2_old x0 x4 b 2 2 rfl, v2_new]
    show (x6 (ix2 0 c) : EReal) + x5 (ix3 0 0 c) * x4 (ix4 0 b 0 c) + x5 (ix3 0 1 c) * x4 (ix4 0 b 1 c) + x5 (ix3 0 2 c) * x4 (ix4 0 b 2 c) + x5 (ix3 0 3 c) * x0 (ix2 b c) = _
    ac_rfl
  rw [val_main_v35_apply, val_main_call0_v5_apply, val_main_call0_v4_apply, val_main_call0_v3_apply, val_main_call0_v2_apply, val_main_call0_v1_apply, val_main_call0_v0_apply, hs]
  rfl

theorem v35_of (i : S128x1x1024.Idx) (b : Fin 128) (c : Fin 1024) (hb : (i 0).val = b.val) (hc : (i 2).val = c.val) :
    val_main_v35 (F := Ideal) x0 x4 x5 x6 i = tokU x0 x4 x5 x6 b c := by
  have e : i = ix3 b 0 c := by
    funext a
    apply Fin.ext
    match a with
    | ⟨0, _⟩ => exact hb
    | ⟨1, _⟩ => have h : (i 1).val < 1 := (i 1).isLt; show (i 1).val = 0; omega
    | ⟨2, _⟩ => exact hc
  rw [e]
  exact v35_at x0 x4 x5 x6 b c

/-! ## Its columns by head, channel and group -/

theorem v39_of (i : S128x1x2x4x64.Idx) (b : Fin 128) (c : Fin 1024) (hb : (i 0).val = b.val) (hc : ((i 2).val * 4 + (i 3).val) * 64 + (i 4).val = c.val) :
    val_main_v39 (F := Ideal) x0 x4 x5 x6 i = tokU x0 x4 x5 x6 b c := by
  have h0 : (i 0).val < 128 := (i 0).isLt
  have h1 : (i 1).val < 1 := (i 1).isLt
  have h2 : (i 2).val < 2 := (i 2).isLt
  have h3 : (i 3).val < 4 := (i 3).isLt
  have h4 : (i 4).val < 64 := (i 4).isLt
  rw [val_main_v39_apply, val_main_v36_apply]
  refine v35_of x0 x4 x5 x6 _ b c ?_ ?_
  · show (((((i 0).val * 1 + (i 1).val) * 2 + (i 2).val) * 4 + (i 3).val) * 64 + (i 4).val) / 512 = b.val; omega
  · show (((((i 0).val * 1 + (i 1).val) * 2 + (i 2).val) * 4 + (i 3).val) * 64 + (i 4).val) % 512 = c.val; omega

theorem v40_of (i : S128x1x2x128.Idx) (b : Fin 128) (c : Fin 1024) (hb : (i 0).val = b.val) (hc : 512 + 128 * (i 2).val + (i 3).val = c.val) :
    val_main_v40 (F := Ideal) x0 x4 x5 x6 i = tokU x0 x4 x5 x6 b c := by
  have h0 : (i 0).val < 128 := (i 0).isLt
  have h1 : (i 1).val < 1 := (i 1).isLt
  have h2 : (i 2).val < 2 := (i 2).isLt
  have h3 : (i 3).val < 128 := (i 3).isLt
  rw [val_main_v40_apply, val_main_v37_apply]
  refine v35_of x0 x4 x5 x6 _ b c ?_ ?_
  · show ((((i 0).val * 1 + (i 1).val) * 2 + (i 2).val) * 128 + (i 3).val) / 256 = b.val; omega
  · show 512 + ((((i 0).val * 1 + (i 1).val) * 2 + (i 2).val) * 128 + (i 3).val) % 256 = c.val; omega

theorem v41_of (i : S128x1x2x128.Idx) (b : Fin 128) (c : Fin 1024) (hb : (i 0).val = b.val) (hc : 768 + 128 * (i 2).val + (i 3).val = c.val) :
    val_main_v41 (F := Ideal) x0 x4 x5 x6 i = tokU x0 x4 x5 x6 b c := by
  have h0 : (i 0).val < 128 := (i 0).isLt
  have h1 : (i 1).val < 1 := (i 1).isLt
  have h2 : (i 2).val < 2 := (i 2).isLt
  have h3 : (i 3).val < 128 := (i 3).isLt
  rw [val_main_v41_apply, val_main_v38_apply]
  refine v35_of x0 x4 x5 x6 _ b c ?_ ?_
  · show ((((i 0).val * 1 + (i 1).val) * 2 + (i 2).val) * 128 + (i 3).val) / 256 = b.val; omega
  · show 768 + ((((i 0).val * 1 + (i 1).val) * 2 + (i 2).val) * 128 + (i 3).val) % 256 = c.val; omega

/-! ## Step sizes and decays -/

theorem v47_at (b : Fin 128) (h : Fin 8) : val_main_v47 (F := Ideal) x2 x7 (ix3 b 0 h) = (x2 (ix2 b (at8 h)) : EReal) + x7 (ix2 0 h) := by
  rw [val_main_v47_apply, val_main_v43_apply, val_main_v42_apply, val_main_v46_apply, val_main_v45_apply, val_main_v44_apply]
  refine congrArg₂ (fun a b : EReal => a + b) (congrArg x2 (funext fun a => Fin.ext ?_)) (congrArg x7 (funext fun a => Fin.ext ?_))
  · match a with
    | ⟨0, _⟩ => show ((b.val * 1 + 0) * 8 + h.val) / 8 = b.val; omega
    | ⟨1, _⟩ => show ((b.val * 1 + 0) * 8 + h.val) % 8 = h.val; omega
  · match a with
    | ⟨0, _⟩ => rfl
    | ⟨1, _⟩ => show h.val % 8 = h.val; omega

theorem select_une (x a b : EReal) : Scalar.select (Ideal.cmp .une x x) a b = b := by simp [Scalar.select, Ideal.cmp]

theorem v48_at (b : Fin 128) (h : Fin 8) : val_main_v48 (F := Ideal) x2 x7 (ix3 b 0 h) = tokDt x2 x7 b h := by
  rw [val_main_v48_apply, val_main_call1_v4_apply]
  refine (select_une _ _ _).trans ?_
  rw [val_main_call1_v11_apply, val_main_call1_v10_apply, val_main_call1_v9_apply, val_main_call1_v8_apply, val_main_call1_v7_apply, val_main_call1_v3_apply, val_main_call1_v2_apply,
    val_main_call1_v1_apply, val_main_call1_v0_apply, val_main_call1_cst_apply, v47_at]
  show max ((x2 (ix2 b (at8 h)) : EReal) + x7 (ix2 0 h)) (Ideal.ofBits .f32 0x00000000#32)
    + Ideal.log1p (Ideal.exp (-(max (((x2 (ix2 b (at8 h)) : EReal) + x7 (ix2 0 h)) - Ideal.ofBits .f32 0x00000000#32) (-(((x2 (ix2 b (at8 h)) : EReal) + x7 (ix2 0 h)) - Ideal.ofBits .f32 0x00000000#32))))) = _
  rw [Ideal.ofBits_zero_f32, sub_zero]
  rfl

theorem v49_of (i : S128x1x2x4.Idx) (b : Fin 128) (h : Fin 8) (hb : (i 0).val = b.val) (hh : (i 2).val * 4 + (i 3).val = h.val) :
    val_main_v49 (F := Ideal) x2 x7 i = tokDt x2 x7 b h := by
  have h0 : (i 0).val < 128 := (i 0).isLt
  have h1 : (i 1).val < 1 := (i 1).isLt
  have h2 : (i 2).val < 2 := (i 2).isLt
  have h3 : (i 3).val < 4 := (i 3).isLt
  rw [val_main_v49_apply]
  have e : idx_main_v49 i = ix3 b 0 h := by
    funext a
    apply Fin.ext
    match a with
    | ⟨0, _⟩ => show ((((i 0).val * 1 + (i 1).val) * 2 + (i 2).val) * 4 + (i 3).val) / 8 = b.val; omega
    | ⟨1, _⟩ => rfl
    | ⟨2, _⟩ => show ((((i 0).val * 1 + (i 1).val) * 2 + (i 2).val) * 4 + (i 3).val) % 8 = h.val; omega
  rw [e]
  exact v48_at x2 x7 b h

theorem v53_of (i : S2x4.Idx) (h : Fin 8) (hh : (i 0).val * 4 + (i 1).val = h.val) : val_main_v53 (F := Ideal) x8 i = tokA x8 h := by
  rw [val_main_v53_apply, val_main_v52_apply, val_main_v51_apply, val_main_v50_apply]
  have e : idx_main_v50 (idx_main_v52 i) = ix2 0 h := by
    funext a
    apply Fin.ext
    match a with
    | ⟨0, _⟩ => rfl
    | ⟨1, _⟩ => show ((i 0).val * 4 + (i 1).val) % 8 = h.val; omega
  rw [e]
  rfl

theorem v58_of (i : S128x1x2x4.Idx) (b : Fin 128) (h : Fin 8) (hb : (i 0).val = b.val) (hh : (i 2).val * 4 + (i 3).val = h.val) :
    val_main_v58 (F := Ideal) x2 x7 x8 i = tokDt x2 x7 b h * tokA x8 h := by
  rw [val_main_v58_apply, val_main_v57_apply, val_main_v56_apply, v49_of x2 x7 i b h hb hh, v53_of x8 _ h hh]
  rfl

theorem fold_one (n : ℕ) (hn : n = 1) (f : EReal → Fin n → EReal) (v : EReal) : (List.finRange n).foldl f v = f v ⟨0, by omega⟩ := by
  subst hn
  rfl

/-- A running sum over one position is the element there. -/
theorem v59_eq : val_main_v59 (F := Ideal) x2 x7 x8 = val_main_v58 (F := Ideal) x2 x7 x8 := funext fun i => by
  unfold val_main_v59
  generalize val_main_v58 (F := Ideal) x2 x7 x8 = y
  have hz : val_main_call2_call0_v0 (F := Ideal) (Shape.Idx.first h_S_) = (0 : EReal) := by
    rw [val_main_call2_call0_v0_apply, val_main_call2_call0_cst_apply]
    exact Ideal.ofBits_zero_f32
  unfold Host.reduceWindowAdd
  rw [hz, Ideal.hostReduceWindowAdd_def]
  unfold Ideal.hostReduceWindowAdd Host.reduceWindow
  refine (fold_one _ (by decide) _ _).trans ?_
  have hp : ∀ a : Fin 4, (((⟨4, ![1, 1, 1, 1]⟩ : Shape).rowMajor.symm ⟨0, by decide⟩) a).val = 0 := by decide
  have hq : ∀ a : Fin 4, (i a).val * (![1, 1, 1, 1] : Fin 4 → ℕ) a + (((⟨4, ![1, 1, 1, 1]⟩ : Shape).rowMajor.symm ⟨0, by decide⟩) a).val - (![0, 0, 0, 0] : Fin 4 → ℕ) a = (i a).val := fun a => by
    rw [hp a]
    match a with
    | ⟨0, _⟩ => exact Nat.mul_one _
    | ⟨1, _⟩ => exact Nat.mul_one _
    | ⟨2, _⟩ => exact Nat.mul_one _
    | ⟨3, _⟩ => exact Nat.mul_one _
  have hlo : ∀ a : Fin 4, (![0, 0, 0, 0] : Fin 4 → ℕ) a = 0 := by decide
  refine (congrArg (fun r : EReal => 0 + r) (dif_pos (fun a => ⟨by rw [hlo a]; exact Nat.zero_le _, (hq a).trans_lt (i a).isLt⟩))).trans ?_
  refine (zero_add _).trans (congrArg y (funext fun a => Fin.ext (hq a)))

variable {x0 x2 x3 x4 x5 x6 x7 x8} (hf : Fin7 x0 x2 x4 x5 x6 x7 x8)

theorem mask_at (i : S128x1x1x2x4.Idx) : val_main_call4_v1 (F := Ideal) i = 1#1 := by
  rw [val_main_call4_v1_apply, val_main_v65_apply, val_main_v64_apply, val_main_call3_v4_apply, val_main_call3_v2_apply, val_main_call3_v0_apply, val_main_call3_v1_apply,
    val_main_call3_c_apply, val_main_call3_v3_apply, val_main_v63_apply, val_main_c_apply]
  rfl

include hf

theorem v67_at (i : S128x1x1x2x4.Idx) : val_main_v67 (F := Ideal) x2 x7 x8 i = (1 : EReal) := by
  have h0 : (i 0).val < 128 := (i 0).isLt
  have h1 : (i 1).val < 1 := (i 1).isLt
  have h2 : (i 2).val < 1 := (i 2).isLt
  have h3 : (i 3).val < 2 := (i 3).isLt
  have h4 : (i 4).val < 4 := (i 4).isLt
  rw [val_main_v67_apply, val_main_v66_apply, mask_at, val_main_v62_apply, val_main_v60_apply, val_main_v61_apply, v59_eq,
    v58_of x2 x7 x8 _ ⟨(i 0).val, h0⟩ ⟨(i 3).val * 4 + (i 4).val, by omega⟩ rfl rfl]
  exact exp_sub_self (hf.cs _ _)

theorem v87_at (i : S128x1x2x4.Idx) : val_main_v87 (F := Ideal) x2 x7 x8 i = (1 : EReal) := by
  have h0 : (i 0).val < 128 := (i 0).isLt
  have h1 : (i 1).val < 1 := (i 1).isLt
  have h2 : (i 2).val < 2 := (i 2).isLt
  have h3 : (i 3).val < 4 := (i 3).isLt
  rw [val_main_v87_apply, val_main_v86_apply, val_main_v85_apply, val_main_v84_apply, v59_eq,
    v58_of x2 x7 x8 i ⟨(i 0).val, h0⟩ ⟨(i 2).val * 4 + (i 3).val, by omega⟩ rfl rfl,
    v58_of x2 x7 x8 _ ⟨(i 0).val, h0⟩ ⟨(i 2).val * 4 + (i 3).val, by omega⟩ (by show (((i 0).val * 2 + (i 2).val) * 4 + (i 3).val) / 8 = (i 0).val; omega)
      (by show (((i 0).val * 2 + (i 2).val) * 4 + (i 3).val) / 4 % 2 * 4 + (((i 0).val * 2 + (i 2).val) * 4 + (i 3).val) % 4 = (i 2).val * 4 + (i 3).val; omega)]
  exact exp_sub_self (hf.cs _ _)

omit hf

/-! ## The read-out -/

theorem v71_of (i : S128x1x1x2x4.Idx) (b : Fin 128) (r : Fin 512) (hb : (i 0).val = b.val) (hg : (i 3).val = r.val / 256) :
    val_main_v71 (F := Ideal) x0 x4 x5 x6 i = ∑ n, tokU x0 x4 x5 x6 b (inCol r n) * tokU x0 x4 x5 x6 b (outCol r n) := by
  rw [val_main_v71_apply, val_main_v70_apply, val_main_v69_apply, val_main_v68_apply]
  refine Finset.sum_congr rfl fun n _ => congrArg₂ (fun a b : EReal => a * b) ?_ ?_
  · refine v40_of x0 x4 x5 x6 _ b (inCol r n) hb ?_
    show 512 + 128 * (i 3).val + n.val = 512 + 128 * (r.val / 256) + n.val
    rw [hg]
  · refine v41_of x0 x4 x5 x6 _ b (outCol r n) hb ?_
    show 768 + 128 * (i 3).val + n.val = 768 + 128 * (r.val / 256) + n.val
    rw [hg]

theorem v55_of (i : S128x2x4x64x128.Idx) (b : Fin 128) (r : Fin 512) (n : Fin 128) (hb : (i 0).val = b.val) (hr : ((i 1).val * 4 + (i 2).val) * 64 + (i 3).val = r.val)
    (hn : (i 4).val = n.val) : val_main_v55 (F := Ideal) x3 i = tokS x3 b r n := by
  have h0 : (i 0).val < 128 := (i 0).isLt
  have h1 : (i 1).val < 2 := (i 1).isLt
  have h2 : (i 2).val < 4 := (i 2).isLt
  have h3 : (i 3).val < 64 := (i 3).isLt
  have h4 : (i 4).val < 128 := (i 4).isLt
  rw [val_main_v55_apply, val_main_v54_apply]
  have e : idx_main_v55 i = ix4 b (head r) (part r) n := by
    funext a
    apply Fin.ext
    match a with
    | ⟨0, _⟩ => show (((((i 0).val * 2 + (i 1).val) * 4 + (i 2).val) * 64 + (i 3).val) * 128 + (i 4).val) / 65536 = b.val; omega
    | ⟨1, _⟩ => show (((((i 0).val * 2 + (i 1).val) * 4 + (i 2).val) * 64 + (i 3).val) * 128 + (i 4).val) / 8192 % 8 = r.val / 64; omega
    | ⟨2, _⟩ => show (((((i 0).val * 2 + (i 1).val) * 4 + (i 2).val) * 64 + (i 3).val) * 128 + (i 4).val) / 128 % 64 = r.val % 64; omega
    | ⟨3, _⟩ => show (((((i 0).val * 2 + (i 1).val) * 4 + (i 2).val) * 64 + (i 3).val) * 128 + (i 4).val) % 128 = n.val; omega
  rw [e]
  refine congrArg x3 (funext fun a => Fin.ext ?_)
  match a with
  | ⟨0, _⟩ => rfl
  | ⟨1, _⟩ => show (((b.val * 8 + r.val / 64) * 64 + r.val % 64) * 128 + n.val) / 65536 % 128 = b.val; omega
  | ⟨2, _⟩ => show (((b.val * 8 + r.val / 64) * 64 + r.val % 64) * 128 + n.val) / 8192 % 8 = r.val / 64; omega
  | ⟨3, _⟩ => show (((b.val * 8 + r.val / 64) * 64 + r.val % 64) * 128 + n.val) / 128 % 64 = r.val % 64; omega
  | ⟨4, _⟩ => show (((b.val * 8 + r.val / 64) * 64 + r.val % 64) * 128 + n.val) % 128 = n.val; omega

theorem v79_of (i : S128x2x4x64x1.Idx) (b : Fin 128) (r : Fin 512) (hb : (i 0).val = b.val) (hr : ((i 1).val * 4 + (i 2).val) * 64 + (i 3).val = r.val) :
    val_main_v79 (F := Ideal) x0 x3 x4 x5 x6 i = ∑ n, tokS x3 b r n * tokU x0 x4 x5 x6 b (outCol r n) := by
  have h0 : (i 0).val < 128 := (i 0).isLt
  have h1 : (i 1).val < 2 := (i 1).isLt
  have h2 : (i 2).val < 4 := (i 2).isLt
  have h3 : (i 3).val < 64 := (i 3).isLt
  have h4 : (i 4).val < 1 := (i 4).isLt
  rw [val_main_v79_apply]
  refine Finset.sum_congr rfl fun n _ => congrArg₂ (fun a b : EReal => a * b) ?_ ?_
  · exact v55_of _ b r n hb hr rfl
  · refine v41_of x0 x4 x5 x6 _ b (outCol r n) hb ?_
    show 768 + 128 * (i 1).val + n.val = 768 + 128 * (r.val / 256) + n.val
    omega

theorem v82_of (i : S128x1x2x4x64.Idx) (b : Fin 128) (r : Fin 512) (hb : (i 0).val = b.val) (hr : ((i 2).val * 4 + (i 3).val) * 64 + (i 4).val = r.val) :
    val_main_v82 (F := Ideal) x0 x2 x3 x4 x5 x6 x7 x8 i = tokDa x2 x7 x8 b (head r) * ∑ n, tokS x3 b r n * tokU x0 x4 x5 x6 b (outCol r n) := by
  have h0 : (i 0).val < 128 := (i 0).isLt
  have h1 : (i 1).val < 1 := (i 1).isLt
  have h2 : (i 2).val < 2 := (i 2).isLt
  have h3 : (i 3).val < 4 := (i 3).isLt
  have h4 : (i 4).val < 64 := (i 4).isLt
  rw [val_main_v82_apply, val_main_v81_apply, val_main_v78_apply, val_main_v77_apply, v59_eq, val_main_v80_apply]
  refine congrArg₂ (fun a b : EReal => a * b) ?_ (v79_of _ b r hb hr)
  rw [v58_of x2 x7 x8 _ b (head r) hb (by show (i 2).val * 4 + (i 3).val = r.val / 64; omega)]
  rfl

include hf

theorem v75_of (i : S128x2x4x64x1.Idx) (b : Fin 128) (r : Fin 512) (hb : (i 0).val = b.val) (hr : ((i 1).val * 4 + (i 2).val) * 64 + (i 3).val = r.val) :
    val_main_v75 (F := Ideal) x0 x2 x4 x5 x6 x7 x8 i
      = tokU x0 x4 x5 x6 b (chan r) * ((∑ n, tokU x0 x4 x5 x6 b (inCol r n) * tokU x0 x4 x5 x6 b (outCol r n)) * 1 * tokDt x2 x7 b (head r)) := by
  have h0 : (i 0).val < 128 := (i 0).isLt
  have h1 : (i 1).val < 2 := (i 1).isLt
  have h2 : (i 2).val < 4 := (i 2).isLt
  have h3 : (i 3).val < 64 := (i 3).isLt
  have h4 : (i 4).val < 1 := (i 4).isLt
  rw [val_main_v75_apply, Fin.sum_univ_one, v39_of x0 x4 x5 x6 (lidx_main_v75 i 0) b (chan r) hb hr, val_main_v74_apply, val_main_v72_apply, val_main_v73_apply, v67_at hf]
  rw [v71_of (ridx_main_v75 i 0) b r hb (by show (i 1).val = r.val / 256; omega), v49_of x2 x7 (idx_main_v73 (ridx_main_v75 i 0)) b (head r) hb (by show (i 1).val * 4 + (i 2).val = r.val / 64; omega)]
  rfl

theorem v83_of (i : S128x1x2x4x64.Idx) (b : Fin 128) (r : Fin 512) (hb : (i 0).val = b.val) (hr : ((i 2).val * 4 + (i 3).val) * 64 + (i 4).val = r.val) :
    val_main_v83 (F := Ideal) x0 x2 x3 x4 x5 x6 x7 x8 i = readout (tokU x0 x4 x5 x6 b) (tokNext x0 x2 x3 x4 x5 x6 x7 x8 b) r := by
  rw [val_main_v83_apply, val_main_v76_apply, v75_of hf (idx_main_v76 i) b r hb hr, v82_of i b r hb hr]
  exact read_split (fun n => tokU x0 x4 x5 x6 b (inCol r n)) (fun n => tokU x0 x4 x5 x6 b (outCol r n)) (fun n => tokS x3 b r n) _ _ _ (fun n => hf.u b _) (fun n => hf.u b _)
    (hf.cs b _) (hf.dt b _) (hf.u b _)

/-! ## The next state -/

theorem v97_of (i : S128x2x4x64x128.Idx) (b : Fin 128) (r : Fin 512) (n : Fin 128) (hb : (i 0).val = b.val) (hr : ((i 1).val * 4 + (i 2).val) * 64 + (i 3).val = r.val)
    (hn : (i 4).val = n.val) : val_main_v97 (F := Ideal) x0 x2 x3 x4 x5 x6 x7 x8 i = tokNext x0 x2 x3 x4 x5 x6 x7 x8 b r n := by
  have h0 : (i 0).val < 128 := (i 0).isLt
  have h1 : (i 1).val < 2 := (i 1).isLt
  have h2 : (i 2).val < 4 := (i 2).isLt
  have h3 : (i 3).val < 64 := (i 3).isLt
  have h4 : (i 4).val < 128 := (i 4).isLt
  rw [val_main_v97_apply, val_main_v92_apply, val_main_v91_apply, val_main_v90_apply, val_main_v89_apply, val_main_v84_apply, v59_eq, v55_of i b r n hb hr hn,
    v58_of x2 x7 x8 (idx_main_v84 (idx_main_v90 (idx_main_v91 i))) b (head r) (by show (((i 0).val * 2 + (i 1).val) * 4 + (i 2).val) / 8 = b.val; omega)
      (by show (((i 0).val * 2 + (i 1).val) * 4 + (i 2).val) / 4 % 2 * 4 + (((i 0).val * 2 + (i 1).val) * 4 + (i 2).val) % 4 = r.val / 64; omega)]
  rw [val_main_v96_apply, Fin.sum_univ_one, val_main_v95_apply, val_main_v94_apply, val_main_v93_apply, val_main_v88_apply, v87_at hf, v39_of x0 x4 x5 x6 (lidx_main_v96 i 0) b (chan r) hb hr,
    v49_of x2 x7 (idx_main_v93 (idx_main_v94 (lidx_main_v96 i 0))) b (head r) hb (by show (i 1).val * 4 + (i 2).val = r.val / 64; omega),
    v40_of x0 x4 x5 x6 (ridx_main_v96 i 0) b (inCol r n) hb (by show 512 + 128 * (i 1).val + (i 4).val = 512 + 128 * (r.val / 256) + n.val; omega)]
  show Ideal.exp (tokDt x2 x7 b (head r) * tokA x8 (head r)) * tokS x3 b r n + 1 * tokDt x2 x7 b (head r) * tokU x0 x4 x5 x6 b (chan r) * tokU x0 x4 x5 x6 b (inCol r n) = _
  rw [one_mul]
  rfl

theorem v129_eq : val_main_v129 (F := Ideal) x0 x2 x3 x4 x5 x6 x7 x8 = resS x0 x2 x3 x4 x5 x6 x7 x8 := funext fun i => by
  have h0 : (i 0).val < 128 := (i 0).isLt
  have h1 : (i 1).val < 512 := (i 1).isLt
  have h2 : (i 2).val < 128 := (i 2).isLt
  rw [val_main_v129_apply]
  refine v97_of hf _ (i 0) (i 1) (i 2) ?_ ?_ ?_
  · show (((i 0).val * 512 + (i 1).val) * 128 + (i 2).val) / 65536 = (i 0).val; omega
  · show ((((i 0).val * 512 + (i 1).val) * 128 + (i 2).val) / 32768 % 2 * 4 + (((i 0).val * 512 + (i 1).val) * 128 + (i 2).val) / 8192 % 4) * 64 + (((i 0).val * 512 + (i 1).val) * 128 + (i 2).val) / 128 % 64 = (i 1).val; omega
  · show (((i 0).val * 512 + (i 1).val) * 128 + (i 2).val) % 128 = (i 2).val; omega

/-! ## The skip, the gate and the norm -/

theorem v110_at (b : Fin 128) (r : Fin 512) : val_main_v110 (F := Ideal) x0 x1 x2 x3 x4 x5 x6 x7 x8 x9 (ix3 b 0 r) = tokGated x0 x1 x2 x3 x4 x5 x6 x7 x8 x9 b r := by
  have hz : val_main_v108 (F := Ideal) x1 (ix3 b 0 r) = (x1 (ix2 b r) : EReal) := by
    rw [val_main_v108_apply, val_main_v107_apply]
    refine congrArg (fun j => (x1 j : EReal)) (funext fun a => Fin.ext ?_)
    match a with
    | ⟨0, _⟩ => show ((b.val * 1 + 0) * 512 + r.val) / 512 = b.val; omega
    | ⟨1, _⟩ => show ((b.val * 1 + 0) * 512 + r.val) % 512 = r.val; omega
  have hd : val_main_v103 (F := Ideal) x9 (idx_main_v105 (ix3 b 0 r)) = x9 (ix2 0 (head r)) := by
    rw [val_main_v103_apply, val_main_v102_apply, val_main_v100_apply, val_main_v99_apply]
    refine congrArg x9 (funext fun a => Fin.ext ?_)
    match a with
    | ⟨0, _⟩ => rfl
    | ⟨1, _⟩ => show ((b.val * 1 + 0) * 512 + r.val) / 64 % 8 % 8 = r.val / 64; omega
  have hx : val_main_v101 (F := Ideal) x0 x4 x5 x6 (idx_main_v105 (ix3 b 0 r)) = tokU x0 x4 x5 x6 b (chan r) := by
    rw [val_main_v101_apply]
    refine v39_of x0 x4 x5 x6 _ b (chan r) ?_ ?_
    · show ((((((b.val * 1 + 0) * 512 + r.val) / 512) * 1 + 0) * 8 + ((b.val * 1 + 0) * 512 + r.val) / 64 % 8) * 64 + ((b.val * 1 + 0) * 512 + r.val) % 64) / 512 = b.val; omega
    · show (((((((b.val * 1 + 0) * 512 + r.val) / 512) * 1 + 0) * 8 + ((b.val * 1 + 0) * 512 + r.val) / 64 % 8) * 64 + ((b.val * 1 + 0) * 512 + r.val) % 64) / 256 % 2 * 4
        + ((((((b.val * 1 + 0) * 512 + r.val) / 512) * 1 + 0) * 8 + ((b.val * 1 + 0) * 512 + r.val) / 64 % 8) * 64 + ((b.val * 1 + 0) * 512 + r.val) % 64) / 64 % 4) * 64
        + ((((((b.val * 1 + 0) * 512 + r.val) / 512) * 1 + 0) * 8 + ((b.val * 1 + 0) * 512 + r.val) / 64 % 8) * 64 + ((b.val * 1 + 0) * 512 + r.val) % 64) % 64 = r.val
      omega
  have hy : val_main_v98 (F := Ideal) x0 x2 x3 x4 x5 x6 x7 x8 (ix3 b 0 r) = readout (tokU x0 x4 x5 x6 b) (tokNext x0 x2 x3 x4 x5 x6 x7 x8 b) r := by
    rw [val_main_v98_apply]
    refine v83_of hf _ b r ?_ ?_
    · show ((b.val * 1 + 0) * 512 + r.val) / 512 = b.val; omega
    · show (((b.val * 1 + 0) * 512 + r.val) / 256 % 2 * 4 + ((b.val * 1 + 0) * 512 + r.val) / 64 % 4) * 64 + ((b.val * 1 + 0) * 512 + r.val) % 64 = r.val; omega
  rw [val_main_v110_apply, val_main_v106_apply, val_main_v105_apply, val_main_v104_apply, hd, hx, hy, val_main_v109_apply, val_main_call5_v5_apply, val_main_call5_v4_apply,
    val_main_call5_v3_apply, val_main_call5_v2_apply, val_main_call5_v1_apply, val_main_call5_v0_apply, hz]
  rfl

theorem v111_of (i : S128x1x2x256.Idx) (b : Fin 128) (r : Fin 512) (hb : (i 0).val = b.val) (hr : (i 2).val * 256 + (i 3).val = r.val) :
    val_main_v111 (F := Ideal) x0 x1 x2 x3 x4 x5 x6 x7 x8 x9 i = tokGated x0 x1 x2 x3 x4 x5 x6 x7 x8 x9 b r := by
  have h0 : (i 0).val < 128 := (i 0).isLt
  have h1 : (i 1).val < 1 := (i 1).isLt
  have h2 : (i 2).val < 2 := (i 2).isLt
  have h3 : (i 3).val < 256 := (i 3).isLt
  rw [val_main_v111_apply]
  have e : idx_main_v111 i = ix3 b 0 r := by
    funext a
    apply Fin.ext
    match a with
    | ⟨0, _⟩ => show ((((i 0).val * 1 + (i 1).val) * 2 + (i 2).val) * 256 + (i 3).val) / 512 = b.val; omega
    | ⟨1, _⟩ => rfl
    | ⟨2, _⟩ => show ((((i 0).val * 1 + (i 1).val) * 2 + (i 2).val) * 256 + (i 3).val) % 512 = r.val; omega
  rw [e]
  exact v110_at x1 x9 hf b r

theorem v126_of (i : S128x1x2x256.Idx) (b : Fin 128) (r : Fin 512) (hb : (i 0).val = b.val) (hr : (i 2).val * 256 + (i 3).val = r.val) :
    val_main_v126 (F := Ideal) x0 x1 x2 x3 x4 x5 x6 x7 x8 x9 x10 i = norm (tokGated x0 x1 x2 x3 x4 x5 x6 x7 x8 x9 b) (fun r => x10 (ix2 0 r)) r := by
  have h0 : (i 0).val < 128 := (i 0).isLt
  have h1 : (i 1).val < 1 := (i 1).isLt
  have h2 : (i 2).val < 2 := (i 2).isLt
  have h3 : (i 3).val < 256 := (i 3).isLt
  have hq : val_main_v115 (F := Ideal) x0 x1 x2 x3 x4 x5 x6 x7 x8 x9 (idx_main_v116 (idx_main_v122 i))
      = ∑ k, tokGated x0 x1 x2 x3 x4 x5 x6 x7 x8 x9 b (mate r k) * tokGated x0 x1 x2 x3 x4 x5 x6 x7 x8 x9 b (mate r k) := by
    rw [val_main_v115_apply, val_main_cst_0_apply]
    refine (congrArg (fun a : EReal => a + _) Ideal.ofBits_zero_f32).trans ((zero_add _).trans (Finset.sum_congr rfl fun k _ => ?_))
    rw [val_main_v114_apply, v111_of x1 x9 hf (idx_main_v115 (idx_main_v116 (idx_main_v122 i)) k) b (mate r k) hb (by show (i 2).val * 256 + k.val = 256 * (r.val / 256) + k.val; omega)]
    rfl
  have hg : val_main_v125 (F := Ideal) x10 i = x10 (ix2 0 r) := by
    rw [val_main_v125_apply, val_main_v124_apply, val_main_v113_apply, val_main_v112_apply]
    refine congrArg x10 (funext fun a => Fin.ext ?_)
    match a with
    | ⟨0, _⟩ => rfl
    | ⟨1, _⟩ => show ((i 2).val * 256 + (i 3).val) % 512 = r.val; omega
  rw [val_main_v126_apply, val_main_v123_apply, val_main_v122_apply, val_main_v121_apply, val_main_v120_apply, val_main_v118_apply, val_main_v116_apply, val_main_v117_apply, val_main_v119_apply,
    hq, hg, v111_of x1 x9 hf i b r hb hr]
  rfl

theorem v128_eq : val_main_v128 (F := Ideal) x0 x1 x2 x3 x4 x5 x6 x7 x8 x9 x10 = resO x0 x1 x2 x3 x4 x5 x6 x7 x8 x9 x10 := funext fun i => by
  have h0 : (i 0).val < 128 := (i 0).isLt
  have h1 : (i 1).val < 512 := (i 1).isLt
  rw [val_main_v128_apply, val_main_v127_apply]
  refine v126_of x1 x9 x10 hf _ (i 0) (i 1) ?_ ?_
  · show ((i 0).val * 512 + (i 1).val) / 512 = (i 0).val; omega
  · show ((i 0).val * 512 + (i 1).val) / 256 % 2 * 256 + ((i 0).val * 512 + (i 1).val) % 256 = (i 1).val; omega

end Cert.Reference6Ideal.Ssd

end
-- ==== Proof.SsdClaims.lean ====
/-
  The claims about the sample batch's SSD mixer step: both kernels' frames, the reference's frame, and the equation of the kernel's
  two results with the reference's over the extended reals where the step's arguments are finite.
-/
module

public import proofs.«01_k».proof.Defs
public import proofs.«01_k».proof.Proof.Gen.Kernel6
public import proofs.«01_k».proof.Proof.SsdWhole
public import proofs.«01_k».proof.Proof.SsdRef
public import proofs.«01_k».proof.Proof.AttnClaims
public import proofs.«01_k».proof.Proof.Gen.Reference6Ideal.Run
public import proofs.«01_k».proof.Proof.Gen.Pre_finite6

@[expose] public section

set_option maxRecDepth 16384

noncomputable section

namespace Cert.SsdClaims

open Idealize.ShloMosaic Idealize.ShloMosaic.TcCoe Idealize.SL.Sem
open Cert.Kernel6Ideal.Ssd (wholeO wholeS finalO finalS)
open Cert.AttnClaims (real_of_lt)

/-- The two kernels' bodies have one text. -/
theorem bodies_eq : Cert.Kernel6.defs₀ (F := Bits) = Cert.Kernel6Ideal.defs₀ (F := Bits) := by
  unfold Cert.Kernel6.defs₀ Cert.Kernel6Ideal.defs₀
  congr 1
  refine funext fun i => ?_
  match i with
  | ⟨0, _⟩ => rfl

theorem defs_eq : Cert.Kernel6.defs (F := Bits) = Cert.Kernel6Ideal.defs (F := Bits) :=
  congrArg (fun d => Pipeline.defs (Cert.Kernel6Ideal.pcfgs (F := Bits)) d) bodies_eq

theorem frame_kernel : Cert.quiescent_Kernel6 := fun m ρ _ => by
  rw [defs_eq]
  exact (θ_run Cert.Kernel6Ideal.defs _ _).mono (fun _ h => h) (Cert.Kernel6Ideal.Gen.frame (F := Bits) m ρ)

theorem frame_ideal : Cert.quiescent_Kernel6Ideal := fun m ρ _ => Cert.Kernel6Ideal.Gen.frame m ρ
theorem frame_ideal_pre : Cert.quiescent_Kernel6Ideal_pre_finite6 := fun m ρ _ => Cert.Kernel6Ideal.Gen.frame m ρ

theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)
theorem frame_reference_pre : Cert.quiescent_Reference6Ideal_pre_finite6 := fun m ρ _ => frame_reference m ρ trivial

theorem preserves : Cert.preserves_Kernel6_Kernel6Ideal := trivial

/-- The precondition read: the seven arrays it names hold real numbers. -/
theorem fin7 (m : (ℓ : Loc Cert.Kernel6Ideal.nD Cert.Kernel6Ideal.τ Cert.Kernel6Ideal.sig) → Buf (Elt Ideal) ℓ) (h : Cert.Pre_Kernel6Ideal_finite6 m) (c : Dev Cert.Kernel6Ideal.nD) :
    Cert.Ssd.Fin7 (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg2))
      (m ((c : Thread Cert.Kernel6Ideal.nD Cert.Kernel6Ideal.τ).loc Cert.Kernel6Ideal.main_arg4))
      (m ((c : Thread Cert.Kernel6Ideal.nD Cert.Kernel6Ideal.τ).loc Cert.Kernel6Ideal.main_arg5)) (m ((c : Thread Cert.Kernel6Ideal.nD Cert.Kernel6Ideal.τ).loc Cert.Kernel6Ideal.main_arg6))
      (m ((c : Thread Cert.Kernel6Ideal.nD Cert.Kernel6Ideal.τ).loc Cert.Kernel6Ideal.main_arg7)) (m ((c : Thread Cert.Kernel6Ideal.nD Cert.Kernel6Ideal.τ).loc Cert.Kernel6Ideal.main_arg8)) := by
  obtain ⟨h0, h2, h4, h5, h6, h7, h8⟩ := h c
  exact ⟨fun i => real_of_lt _ (congrFun h0 i), fun i => real_of_lt _ (congrFun h2 i), fun i => real_of_lt _ (congrFun h4 i),
    fun i => real_of_lt _ (congrFun h5 i), fun i => real_of_lt _ (congrFun h6 i), fun i => real_of_lt _ (congrFun h7 i), fun i => real_of_lt _ (congrFun h8 i)⟩

/-- The kernel's result arrays and the reference's are one function of the arguments each. -/
theorem algebraic : Cert.algebraic_Kernel6Ideal_Reference6Ideal_pre_finite6 := by
  intro m ρ m' ρ' hpre hag
  refine ⟨fun c => wholeO m c, fun c => wholeS m c, ?_, ?_⟩
  · exact (θ_run Cert.Kernel6Ideal.defs _ _).mono
      (fun r h c => ⟨(h c).1.trans (finalO m c), (h c).2.1.trans (finalS m c), (h c).2.2⟩)
      (Cert.Kernel6Ideal.Value.run_blocks m ρ)
  · refine (θ_run Cert.Reference6Ideal.defs _ _).mono (fun r h c => ⟨(h c).1.trans ?_, (h c).2.1.trans ?_, (h c).2.2⟩) (Cert.Reference6Ideal.Value.run (F := Ideal) m' ρ')
    · obtain ⟨e0, e1, e2, e3, e4, e5, e6, e7, e8, e9, e10⟩ := hag c
      refine (Cert.Reference6Ideal.Read.val_main_v128_eq _).trans ?_
      show Cert.Reference6Ideal.Read.val_main_v128 (F := Ideal)
        (m' ((c : Thread Cert.Reference6Ideal.nD Cert.Reference6Ideal.τ).loc Cert.Reference6Ideal.main_arg0))
        (m' ((c : Thread Cert.Reference6Ideal.nD Cert.Reference6Ideal.τ).loc Cert.Reference6Ideal.main_arg1))
        (m' ((c : Thread Cert.Reference6Ideal.nD Cert.Reference6Ideal.τ).loc Cert.Reference6Ideal.main_arg2))
        (m' ((c : Thread Cert.Reference6Ideal.nD Cert.Reference6Ideal.τ).loc Cert.Reference6Ideal.main_arg3))
        (m' ((c : Thread Cert.Reference6Ideal.nD Cert.Reference6Ideal.τ).loc Cert.Reference6Ideal.main_arg4))
        (m' ((c : Thread Cert.Reference6Ideal.nD Cert.Reference6Ideal.τ).loc Cert.Reference6Ideal.main_arg5))
        (m' ((c : Thread Cert.Reference6Ideal.nD Cert.Reference6Ideal.τ).loc Cert.Reference6Ideal.main_arg6))
        (m' ((c : Thread Cert.Reference6Ideal.nD Cert.Reference6Ideal.τ).loc Cert.Reference6Ideal.main_arg7))
        (m' ((c : Thread Cert.Reference6Ideal.nD Cert.Reference6Ideal.τ).loc Cert.Reference6Ideal.main_arg8))
        (m' ((c : Thread Cert.Reference6Ideal.nD Cert.Reference6Ideal.τ).loc Cert.Reference6Ideal.main_arg9))
        (m' ((c : Thread Cert.Reference6Ideal.nD Cert.Reference6Ideal.τ).loc Cert.Reference6Ideal.main_arg10)) = _
      rw [e0, e1, e2, e3, e4, e5, e6, e7, e8, e9, e10]
      exact Cert.Reference6Ideal.Ssd.v128_eq _ _ _ (fin7 m hpre c)
    · obtain ⟨e0, e1, e2, e3, e4, e5, e6, e7, e8, e9, e10⟩ := hag c
      refine (Cert.Reference6Ideal.Read.val_main_v129_eq _).trans ?_
      show Cert.Reference6Ideal.Read.val_main_v129 (F := Ideal)
        (m' ((c : Thread Cert.Reference6Ideal.nD Cert.Reference6Ideal.τ).loc Cert.Reference6Ideal.main_arg0))
        (m' ((c : Thread Cert.Reference6Ideal.nD Cert.Reference6Ideal.τ).loc Cert.Reference6Ideal.main_arg2))
        (m' ((c : Thread Cert.Reference6Ideal.nD Cert.Reference6Ideal.τ).loc Cert.Reference6Ideal.main_arg3))
        (m' ((c : Thread Cert.Reference6Ideal.nD Cert.Reference6Ideal.τ).loc Cert.Reference6Ideal.main_arg4))
        (m' ((c : Thread Cert.Reference6Ideal.nD Cert.Reference6Ideal.τ).loc Cert.Reference6Ideal.main_arg5))
        (m' ((c : Thread Cert.Reference6Ideal.nD Cert.Reference6Ideal.τ).loc Cert.Reference6Ideal.main_arg6))
        (m' ((c : Thread Cert.Reference6Ideal.nD Cert.Reference6Ideal.τ).loc Cert.Reference6Ideal.main_arg7))
        (m' ((c : Thread Cert.Reference6Ideal.nD Cert.Reference6Ideal.τ).loc Cert.Reference6Ideal.main_arg8)) = _
      rw [e0, e2, e3, e4, e5, e6, e7, e8]
      exact Cert.Reference6Ideal.Ssd.v129_eq (fin7 m hpre c)

end Cert.SsdClaims

end
-- ==== Proof.PromptMath.lean ====
/-
  The prompt's state-space mixer up to its final state, over the extended reals: the convolution over a token and the three before
  it, the step sizes, and the state carried over chunks of 128 tokens.
-/
module

public import proofs.«01_k».proof.Proof.SsdMath
public import Idealize.ShloMosaic.Lib.ValueIdx

@[expose] public section

noncomputable section

namespace Cert.Prompt

open Cert.Ssd
open Idealize.ShloMosaic Idealize.ShloMosaic.ValueIdx

/-- The row of token `t` of sequence `b`. -/
def row (b t : ℕ) : Fin 32768 := ⟨(8192 * b + t) % 32768, Nat.mod_lt _ (by decide)⟩

section
variable (X : Fin 32768 → Fin 1024 → EReal) (D : Fin 32768 → Fin 8 → EReal) (w : Fin 4 → Fin 1024 → EReal) (β : Fin 1024 → EReal)
  (δ a : Fin 8 → EReal)

/-- A sequence's inputs after three rows of zeros. -/
def xat (b n : ℕ) (c : Fin 1024) : EReal := if n < 3 then 0 else X (row b (n - 3)) c

def u (b t : ℕ) (c : Fin 1024) : EReal :=
  silu (β c + w 3 c * xat X b (t + 3) c + w 2 c * xat X b (t + 2) c + w 1 c * xat X b (t + 1) c + w 0 c * xat X b t c)

def dt (b t : ℕ) (h : Fin 8) : EReal := soft (D (row b t) h + δ h)

/-- The logarithm of the decay over a chunk's first tokens, up to `s`. -/
def cs (b q : ℕ) (s : Fin 128) (h : Fin 8) : EReal := ∑ k : Fin 128, if k.val ≤ s.val then dt D δ b (128 * q + k.val) h * -(Ideal.exp (a h)) else 0

def wt (b q : ℕ) (s : Fin 128) (h : Fin 8) : EReal := Ideal.exp (cs D δ a b q 127 h - cs D δ a b q s h) * dt D δ b (128 * q + s.val) h

/-- The state before chunk `q`. -/
def st (b : ℕ) : ℕ → Fin 512 → Fin 128 → EReal
  | 0, _, _ => 0
  | q + 1, r, n => Ideal.exp (cs D δ a b q 127 (head r)) * st b q r n
      + ∑ s : Fin 128, u X w β b (128 * q + s.val) (chan r) * wt D δ a b q s (head r) * u X w β b (128 * q + s.val) (inCol r n)

end

end Cert.Prompt

end
-- ==== Proof.PromptTile.lean ====
/-
  A chunk of the prompt's mixer: the convolution, the step sizes, the decays and the update of four heads' state, element by element
  over the extended reals.
-/
module

public import proofs.«01_k».proof.Proof.PromptMath
public import proofs.«01_k».proof.Proof.SsdParts
public import proofs.«01_k».proof.Proof.Gen.Kernel7Ideal.Frame

@[expose] public section

set_option maxRecDepth 16384

noncomputable section

namespace Cert.Kernel7Ideal.Prompt

open Cert.Kernel7Ideal Cert.Kernel7Ideal.Gen Cert.Ssd
open Cert.Kernel6Ideal.Ssd (slice_at row_over col_over one_over toInt_small lane)
open Cert.Ffn (one)
open Idealize.ShloMosaic Idealize.ShloMosaic.TcCoe Idealize.ShloMosaic.ValueIdx

/-! ## The update -/

/-- The head, of a group of four, that a column belongs to. -/
abbrev heads : IVec S128x256 32 := k0_pay15 (iota .tc S128x256 32 [1] iota_S128x256_d1_w32) 64#32 k0_pay12 k0_pay13 k0_pay14

abbrev col (W : FVec Ideal S128x128 .f32) (o : ℕ) (h : S128x128.Slices ![0, o] S128x1) : FVec Ideal S128x256 .f32 :=
  broadcastTo S128x256 (shapeCast S128x1 (extractStridedSlice S128x1 ![0, o] W h) shapeCasts_S128x1_S128x1) broadcasts_S128x1_S128x256

abbrev dec (E : FVec Ideal S128x1 .f32) (o : ℕ) (h : S128x1.Slices ![o, 0] S1x1) : FVec Ideal S64x128 .f32 :=
  broadcastTo S64x128 (shapeCast S1x1 (extractStridedSlice S1x1 ![o, 0] E h) shapeCasts_S1x1_S1x1) broadcasts_S1x1_S64x128

abbrev pick (k : BitVec 32) (a b : FVec Ideal S128x256 .f32) : FVec Ideal S128x256 .f32 := select (cmpi .eq heads (broadcast S128x256 k)) a b

/-- The state of a group after a chunk, from its state before. -/
def upd (x : FVec Ideal S128x256 .f32) (B : FVec Ideal S128x128 .f32) (w : Fin 4 → FVec Ideal S128x256 .f32) (e : Fin 4 → FVec Ideal S64x128 .f32)
    (S : Vec Ideal S1x256x128 .f32) : FVec Ideal S1x256x128 .f32 :=
  shapeCast S1x256x128 (addf (mulf (concatenate S256x128 0 [⟨S64x128, e 0⟩, ⟨S64x128, e 1⟩, ⟨S64x128, e 2⟩, ⟨S64x128, e 3⟩] concatenates_S64x128_S64x128_S64x128_S64x128_S256x128_d0)
      (shapeCast S256x128 S shapeCasts_S1x256x128_S256x128))
    (matmul (φ₁ := .bf16) (φ₂ := .bf16) dot_S128x256_S128x128_S256x128_0_0_1_1_n_n none (truncf .bf16 (mulf x (pick 3#32 (w 3) (pick 2#32 (w 2) (pick 1#32 (w 1) (pick 0#32 (w 0)
      (broadcast S128x256 (Scalar.ofBits (F := Ideal) .f32 0x00000000#32))))))) bitsLt_bf16_f32) (truncf .bf16 B bitsLt_bf16_f32) (constant S256x128 .f32 0x00000000#32)))
    shapeCasts_S256x128_S1x256x128

theorem heads_at (s : Fin 128) (p : Fin 256) : heads (ix2 s p) = BitVec.ofNat 32 (p.val / 64) := by
  have h : ∀ p : Fin 256, heads (ix2 0 p) = BitVec.ofNat 32 (p.val / 64) := by decide +kernel
  exact h p

theorem pick_at (k j : Fin 4) (a b : FVec Ideal S128x256 .f32) (s : Fin 128) (p : Fin 256) (hp : p.val / 64 = k.val) :
    pick (BitVec.ofNat 32 j.val) a b (ix2 s p) = if k = j then a (ix2 s p) else b (ix2 s p) := by
  show (if IntOp.cmpi .eq (heads (ix2 s p)) (BitVec.ofNat 32 j.val) = 1#1 then a (ix2 s p) else b (ix2 s p)) = _
  rw [heads_at, hp]
  have h : ∀ k j : Fin 4, IntOp.cmpi .eq (BitVec.ofNat 32 k.val) (BitVec.ofNat 32 j.val) = 1#1 ↔ k = j := by decide
  simp only [h k j]

theorem upd_at (x : FVec Ideal S128x256 .f32) (B : FVec Ideal S128x128 .f32) (w : Fin 4 → FVec Ideal S128x256 .f32) (e : Fin 4 → FVec Ideal S64x128 .f32)
    (S : Vec Ideal S1x256x128 .f32) (k : Fin 4) (q : Fin 64) (p : Fin 256) (hp : p.val = 64 * k.val + q.val) (n : Fin 128) :
    upd x B w e S (ix3 0 p n) = (e k (ix2 q n) : EReal) * S (ix3 0 p n) + ∑ s : Fin 128, (x (ix2 s p) : EReal) * w k (ix2 s p) * B (ix2 s n) := by
  unfold upd
  rw [shapeCast_apply _ shapeCasts_S256x128_S1x256x128 (ix3 0 p n) (ix2 p n) (by
    rw [Shape.rowMajor_val_two, Shape.rowMajor_val_three]
    show p.val * 128 + n.val = (0 * 256 + p.val) * 128 + n.val
    omega), addf_apply, mulf_apply]
  rw [shapeCast_apply S shapeCasts_S1x256x128_S256x128 (ix2 p n) (ix3 0 p n) (by
    rw [Shape.rowMajor_val_two, Shape.rowMajor_val_three]
    show (0 * 256 + p.val) * 128 + n.val = p.val * 128 + n.val
    omega)]
  have hc : concatenate S256x128 0 [⟨S64x128, e 0⟩, ⟨S64x128, e 1⟩, ⟨S64x128, e 2⟩, ⟨S64x128, e 3⟩] concatenates_S64x128_S64x128_S64x128_S64x128_S256x128_d0 (ix2 p n)
      = e k (ix2 q n) := by
    have off : ∀ (a : Fin 2), a ≠ 0 → ((ix2 q n : S64x128.Idx) a).val = ((ix2 p n : S256x128.Idx) a).val := fun a ha => by
      match a, ha with
      | ⟨0, _⟩, ha => exact absurd rfl ha
      | ⟨1, _⟩, _ => rfl
    have pc := fun (k : ℕ) (hk : k < 4) => concatenate_apply_piece (t := S256x128) 0 [⟨S64x128, e 0⟩, ⟨S64x128, e 1⟩, ⟨S64x128, e 2⟩, ⟨S64x128, e 3⟩]
      concatenates_S64x128_S64x128_S64x128_S64x128_S256x128_d0 (ix2 p n) k hk S64x128
    match k, hp with
    | ⟨0, _⟩, hp => exact pc 0 (by decide) (e 0) rfl rfl 0 rfl (ix2 q n) off hp.symm
    | ⟨1, _⟩, hp => exact pc 1 (by decide) (e 1) rfl rfl 64 rfl (ix2 q n) off hp.symm
    | ⟨2, _⟩, hp => exact pc 2 (by decide) (e 2) rfl rfl 128 rfl (ix2 q n) off hp.symm
    | ⟨3, _⟩, hp => exact pc 3 (by decide) (e 3) rfl rfl 192 rfl (ix2 q n) off hp.symm
  rw [hc]
  refine congrArg ((e k (ix2 q n) : EReal) * S (ix3 0 p n) + ·) ?_
  refine (Ideal.matmul_constant_zero_apply dot_S128x256_S128x128_S256x128_0_0_1_1_n_n none _ _ _).trans ?_
  rw [← Equiv.sum_comp (contrEquiv1 dot_S128x256_S128x128_S256x128_0_0_1_1_n_n 128 rfl rfl).symm]
  refine Finset.sum_congr rfl fun s _ => ?_
  have hs := contrEquiv1_symm_val dot_S128x256_S128x128_S256x128_0_0_1_1_n_n 128 rfl rfl s
  have el : dot_S128x256_S128x128_S256x128_0_0_1_1_n_n.lhsIdx (ix2 p n) ((contrEquiv1 dot_S128x256_S128x128_S256x128_0_0_1_1_n_n 128 rfl rfl).symm s) = ix2 s p := by
    funext a; apply Fin.ext
    match a with
    | ⟨0, _⟩ => exact hs
    | ⟨1, _⟩ => rfl
  have er : dot_S128x256_S128x128_S256x128_0_0_1_1_n_n.rhsIdx (ix2 p n) ((contrEquiv1 dot_S128x256_S128x128_S256x128_0_0_1_1_n_n 128 rfl rfl).symm s) = ix2 s n := by
    funext a; apply Fin.ext
    match a with
    | ⟨0, _⟩ => exact hs
    | ⟨1, _⟩ => rfl
  rw [el, er]
  refine congrArg (fun v : EReal => (x (ix2 s p) : EReal) * v * B (ix2 s n)) ?_
  have hk : p.val / 64 = k.val := by omega
  refine (pick_at k 3 _ _ s p hk).trans ?_
  split
  · rename_i h; rw [h]
  refine (pick_at k 2 _ _ s p hk).trans ?_
  split
  · rename_i h; rw [h]
  refine (pick_at k 1 _ _ s p hk).trans ?_
  split
  · rename_i h; rw [h]
  refine (pick_at k 0 _ _ s p hk).trans ?_
  rw [if_pos (by omega)]
  exact congrArg (fun j => w j (ix2 s p)) (by omega)

/-- The update of group `g` from the convolved rows, the weights and the decays of all heads. -/
def step (g : ℕ) (hx : S128x512.Slices ![0, 256 * g] S128x256) (hB : S128x1024.Slices ![0, 512 + 128 * g] S128x128)
    (hw : ∀ k : Fin 4, S128x128.Slices ![0, 4 * g + k.val] S128x1) (he : ∀ k : Fin 4, S128x1.Slices ![4 * g + k.val, 0] S1x1)
    (X : FVec Ideal S128x1024 .f32) (W : FVec Ideal S128x128 .f32) (E : FVec Ideal S128x1 .f32) (S : Vec Ideal S1x256x128 .f32) : FVec Ideal S1x256x128 .f32 :=
  upd (extractStridedSlice S128x256 ![0, 256 * g] (extractStridedSlice S128x512 ![0, 0] X slices_S128x1024_o0_0_S128x512) hx)
    (extractStridedSlice S128x128 ![0, 512 + 128 * g] X hB) (fun k => col W (4 * g + k.val) (hw k)) (fun k => dec E (4 * g + k.val) (he k)) S

abbrev at512 (g : ℕ) (hg : g < 2) (p : Fin 256) : Fin 512 := ⟨256 * g + p.val, by omega⟩

theorem step_at (g : ℕ) (hg : g < 2) (hx : S128x512.Slices ![0, 256 * g] S128x256) (hB : S128x1024.Slices ![0, 512 + 128 * g] S128x128)
    (hw : ∀ k : Fin 4, S128x128.Slices ![0, 4 * g + k.val] S128x1) (he : ∀ k : Fin 4, S128x1.Slices ![4 * g + k.val, 0] S1x1)
    (X : FVec Ideal S128x1024 .f32) (W : FVec Ideal S128x128 .f32) (E : FVec Ideal S128x1 .f32) (S : Vec Ideal S1x256x128 .f32) (p : Fin 256) (n : Fin 128) :
    step g hx hB hw he X W E S (ix3 0 p n) = (E (ix2 (lane (head (at512 g hg p))) 0) : EReal) * S (ix3 0 p n)
      + ∑ s : Fin 128, (X (ix2 s (chan (at512 g hg p))) : EReal) * W (ix2 s (lane (head (at512 g hg p)))) * X (ix2 s (inCol (at512 g hg p) n)) := by
  unfold step
  rw [upd_at _ _ _ _ _ ⟨p.val / 64, by omega⟩ ⟨p.val % 64, by omega⟩ p (by show p.val = 64 * (p.val / 64) + p.val % 64; omega) n]
  have hl : (lane (head (at512 g hg p))).val = 4 * g + p.val / 64 := by show (256 * g + p.val) / 64 = _; omega
  refine congrArg₂ (· + ·) (congrArg (fun v : EReal => v * S (ix3 0 p n)) ?_) (Finset.sum_congr rfl fun s _ => ?_)
  · refine (one_over _ broadcasts_S1x1_S64x128 _ _).trans ?_
    rw [shapeCast_self]
    exact slice_at E _ 0 _ 0 0 (lane (head (at512 g hg p))) 0 hl rfl
  · rw [slice_at _ 0 (256 * g) hx s p s (at512 g hg p) (Nat.zero_add _).symm rfl,
      slice_at X 0 0 slices_S128x1024_o0_0_S128x512 s (at512 g hg p) s (chan (at512 g hg p)) (Nat.zero_add _).symm (Nat.zero_add _).symm,
      slice_at X 0 (512 + 128 * g) hB s n s (inCol (at512 g hg p) n) (Nat.zero_add _).symm (by show 512 + 128 * ((256 * g + p.val) / 256) + n.val = 512 + 128 * g + n.val; omega)]
    refine congrArg (fun v : EReal => (X (ix2 s (chan (at512 g hg p))) : EReal) * v * X (ix2 s (inCol (at512 g hg p) n))) ?_
    refine (col_over _ broadcasts_S128x1_S128x256 (by decide) s p).trans ?_
    rw [shapeCast_self]
    exact slice_at W 0 _ _ s 0 s (lane (head (at512 g hg p))) (Nat.zero_add _).symm hl

end Cert.Kernel7Ideal.Prompt

end
-- ==== Proof.PromptRows.lean ====
/-
  The rows of a chunk of the prompt's mixer as the body computes them: the convolution, the step sizes, the decays' running sums, the
  weights and the decay over the chunk.
-/
module

public import proofs.«01_k».proof.Proof.PromptTile

@[expose] public section

set_option maxRecDepth 16384

noncomputable section

namespace Cert.Kernel7Ideal.Prompt

open Cert.Kernel7Ideal Cert.Kernel7Ideal.Gen Cert.Ssd
open Cert.Kernel6Ideal.Ssd (slice_at row_over col_over one_over toInt_small lane)
open Cert.Ffn (one)
open Idealize.ShloMosaic Idealize.ShloMosaic.TcCoe Idealize.ShloMosaic.ValueIdx

theorem conv_at (w : Vec Ideal S4x1024 .f32) (b : Vec Ideal S1x1024 .f32) (t3 t2 t1 t0 : Vec Ideal S128x1024 .f32) (r : Fin 128) (c : Fin 1024) :
    k0_pay16 (k0_pay6 w) b t3 t2 t1 t0 (ix2 r c)
      = silu ((b (ix2 0 c) : EReal) + w (ix2 3 c) * t3 (ix2 r c) + w (ix2 2 c) * t2 (ix2 r c) + w (ix2 1 c) * t1 (ix2 r c) + w (ix2 0 c) * t0 (ix2 r c)) := by
  have e : ∀ (v : FVec Ideal S128x1024 .f32) (i : S128x1024.Idx), mulf v (divf (broadcast S128x1024 (Scalar.ofBits (F := Ideal) .f32 0x3F800000#32))
      (addf (broadcast S128x1024 (Scalar.ofBits (F := Ideal) .f32 0x3F800000#32)) (exp (subf (broadcast S128x1024 (Scalar.ofBits (F := Ideal) .f32 0x00000000#32)) v)))) i = silu (v i) := fun v i => by
    show (v i : EReal) * Ideal.div one (one + Ideal.exp (Ideal.ofBits .f32 0x00000000#32 - v i)) = _
    rw [Ideal.ofBits_zero_f32, zero_sub]
    rfl
  unfold k0_pay16 k0_pay6
  simp only [shapeCast_self]
  rw [e]
  refine congrArg silu ?_
  rw [addf_apply, addf_apply, addf_apply, addf_apply, mulf_apply, mulf_apply, mulf_apply, mulf_apply,
    row_over _ _ (by decide), row_over _ _ (by decide), row_over _ _ (by decide), row_over _ _ (by decide), row_over _ _ (by decide),
    slice_at w 3 0 _ 0 c 3 c rfl (Nat.zero_add _).symm, slice_at w 0 0 _ 0 c 0 c rfl (Nat.zero_add _).symm,
    slice_at w 1 0 _ 0 c 1 c rfl (Nat.zero_add _).symm, slice_at w 2 0 _ 0 c 2 c rfl (Nat.zero_add _).symm]

variable (x : Vec Ideal S128x128 .f32) (b a : Vec Ideal S1x128 .f32)

theorem dt_at (r h : Fin 128) : k0_pay18 (k0_pay8 b) x (ix2 r h) = soft ((x (ix2 r h) : EReal) + b (ix2 0 h)) := by
  have e : ∀ (v : FVec Ideal S128x128 .f32) (i : S128x128.Idx), addf (maximumf v (broadcast S128x128 (Scalar.ofBits (F := Ideal) .f32 0x00000000#32)))
      (log1p (exp (subf (broadcast S128x128 (Scalar.ofBits (F := Ideal) .f32 0x00000000#32)) (absf v)))) i = soft (v i) := fun v i => by
    show max (v i : EReal) (Ideal.ofBits .f32 0x00000000#32) + Ideal.log1p (Ideal.exp (Ideal.ofBits .f32 0x00000000#32 - max (v i) (-(v i)))) = _
    rw [Ideal.ofBits_zero_f32, zero_sub]
    rfl
  unfold k0_pay18 k0_pay8
  simp only [shapeCast_self]
  rw [e, addf_apply, row_over _ _ (by decide)]

theorem tri_at (s k : Fin 128) : (k0_pay11 (F := Ideal) (ix2 s k) : EReal) = if k.val ≤ s.val then 1 else 0 := by
  show (((((IntOp.cmpi .sle (BitVec.ofNat 32 (0 * 128 + k.val)) (BitVec.ofNat 32 (0 * 128 + s.val))).zeroExtend 32).toInt : ℤ) : ℝ) : EReal) = _
  rw [zero_mul, zero_add, zero_add]
  simp only [IntOp.cmpi, BitVec.sle, toInt_small k.val (by omega), toInt_small s.val (by omega)]
  by_cases h : k.val ≤ s.val
  · rw [if_pos h, decide_eq_true (by exact_mod_cast h)]
    simp
  · rw [if_neg h, decide_eq_false (by exact_mod_cast h)]
    simp

theorem cs_at (s h : Fin 128) : k0_pay19 (k0_pay7 a) (k0_pay8 b) k0_pay11 x (ix2 s h)
    = ∑ k : Fin 128, if k.val ≤ s.val then soft ((x (ix2 k h) : EReal) + b (ix2 0 h)) * -(Ideal.exp (a (ix2 0 h))) else 0 := by
  have e : ∀ (i : S1x128.Idx), k0_pay7 a i = -(Ideal.exp (a i)) := fun i => by
    unfold k0_pay7
    simp only [shapeCast_self]
    show Ideal.ofBits .f32 0x00000000#32 - Ideal.exp (a i) = _
    rw [Ideal.ofBits_zero_f32, zero_sub]
  unfold k0_pay19
  refine (Ideal.matmul_plain_apply (M := 128) (K := 128) (N := 128) (some .fp32) _ _ _ s h).trans ?_
  rw [constant_apply, Ideal.ofBits_zero_f32, zero_add]
  refine Finset.sum_congr rfl fun k _ => ?_
  rw [tri_at, mulf_apply, dt_at, row_over _ _ (by decide), e]
  split
  · exact one_mul _
  · exact zero_mul _

theorem wt_at (s h : Fin 128) : k0_pay23 (k0_pay7 a) (k0_pay8 b) k0_pay11 x (ix2 s h)
    = Ideal.exp (k0_pay19 (k0_pay7 a) (k0_pay8 b) k0_pay11 x (ix2 127 h) - k0_pay19 (k0_pay7 a) (k0_pay8 b) k0_pay11 x (ix2 s h) : EReal)
      * soft ((x (ix2 s h) : EReal) + b (ix2 0 h)) := by
  unfold k0_pay23
  show Ideal.exp ((broadcastTo S128x128 _ broadcasts_S1x128_S128x128 (ix2 s h) : EReal) - _) * k0_pay18 (k0_pay8 b) x (ix2 s h) = _
  rw [dt_at, row_over _ _ (by decide), slice_at (k0_pay19 (k0_pay7 a) (k0_pay8 b) k0_pay11 x) 127 0 _ 0 h 127 h rfl (Nat.zero_add _).symm]

theorem dec_at (h : Fin 128) : k0_pay24 (k0_pay7 a) (k0_pay8 b) k0_pay11 x (ix2 h 0)
    = Ideal.exp (k0_pay19 (k0_pay7 a) (k0_pay8 b) k0_pay11 x (ix2 127 h) : EReal) := by
  unfold k0_pay24
  show Ideal.exp ((extractStridedSlice S128x1 ![0, 127] (k0_pay20 (k0_pay7 a) (k0_pay8 b) k0_pay11 x) slices_S128x128_o0_127_S128x1 (ix2 h 0) : EReal)) = _
  rw [slice_at _ 0 127 _ h 0 h 127 (Nat.zero_add _).symm rfl]
  unfold k0_pay20
  exact congrArg Ideal.exp (transpose_apply [1, 0] _ transposes_S128x128_p1_0_S128x128 (ix2 h 127) (ix2 127 h) (fun a => by
    match a with
    | ⟨0, _⟩ => rfl
    | ⟨1, _⟩ => rfl))

end Cert.Kernel7Ideal.Prompt

end
-- ==== Proof.PromptBlock.lean ====
/-
  What the prompt's mixer leaves in its state's block and in its scratch rows, from the blocks it is given and what it carries.
-/
module

public import proofs.«01_k».proof.Proof.PromptRows
public import proofs.«01_k».proof.Proof.SsdStore

@[expose] public section

set_option maxRecDepth 65536

noncomputable section

namespace Cert.Kernel7Ideal.Prompt

open Cert.Kernel7Ideal Cert.Kernel7Ideal.Gen Cert.Ssd Cert.Prompt
open Cert.Kernel6Ideal.Ssd (lane zero2)
open Idealize.ShloMosaic Idealize.ShloMosaic.TcCoe Idealize.ShloMosaic.ValueIdx

/-! ## The stores of the state -/

abbrev R0 := Rect.unit (s := S1x512x128) ![0, 0, 0] S1x256x128.size inb_S1x512x128_S1x256x128_0_0_0
abbrev R1 := Rect.unit (s := S1x512x128) ![0, 256, 0] S1x256x128.size inb_S1x512x128_S1x256x128_0_256_0

abbrev step0 (X : FVec Ideal S128x1024 .f32) (W : FVec Ideal S128x128 .f32) (E : FVec Ideal S128x1 .f32) (S : Vec Ideal S1x256x128 .f32) :=
  step 0 (by decide) (by decide) (by decide) (by decide) X W E S
abbrev step1 (X : FVec Ideal S128x1024 .f32) (W : FVec Ideal S128x128 .f32) (E : FVec Ideal S128x1 .f32) (S : Vec Ideal S1x256x128 .f32) :=
  step 1 (by decide) (by decide) (by decide) (by decide) X W E S

/-- A chunk's two stores after the stores `L`, from the states `v0` and `v1` loaded before. -/
abbrev both (X : FVec Ideal S128x1024 .f32) (W : FVec Ideal S128x128 .f32) (E : FVec Ideal S128x1 .f32) (v0 v1 : Vec Ideal S1x256x128 .f32)
    (L : List (View.Piece (Elt Ideal) S1x512x128 .f32)) : List (View.Piece (Elt Ideal) S1x512x128 .f32) :=
  ⟨R1, step1 X W E v1⟩ :: ⟨R0, step0 X W E v0⟩ :: L

/-- The same where both are read back from the stores before. -/
abbrev more (M : Memref sig .tc .vmem S1x512x128 .f32) (X : FVec Ideal S128x1024 .f32) (W : FVec Ideal S128x128 .f32) (E : FVec Ideal S128x1 .f32)
    (L : List (View.Piece (Elt Ideal) S1x512x128 .f32)) : List (View.Piece (Elt Ideal) S1x512x128 .f32) :=
  both X W E (M.view.readCov L R0.toLoadRect) (M.view.readCov (⟨R0, step0 X W E (M.view.readCov L R0.toLoadRect)⟩ :: L) R1.toLoadRect) L

/-- A chunk's rows of the scratch, read back from its stores. -/
abbrev rows (M : Memref sig .tc .vmem S520x1024 .f32) (L : List (View.Piece (Elt Ideal) S520x1024 .f32)) (o : ℕ) (h : ∀ a, (![o, 0] : Fin 2 → ℕ) a + S128x1024.size a ≤ S520x1024.size a) :
    Vec Ideal S128x1024 .f32 := M.view.readCov L (Rect.unit (s := S520x1024) ![o, 0] S128x1024.size h).toLoadRect
abbrev rowsOn (M : Memref sig .tc .vmem S520x1024 .f32) (hM : M.IsWhole) (x : Vec Ideal S520x1024 .f32) (L : List (View.Piece (Elt Ideal) S520x1024 .f32)) (o : ℕ)
    (h : ∀ a, (![o, 0] : Fin 2 → ℕ) a + S128x1024.size a ≤ S520x1024.size a) : Vec Ideal S128x1024 .f32 :=
  View.readAt (Elt Ideal) M.view (Rect.unit (s := S520x1024) ![o, 0] S128x1024.size h).toLoadRect (M.view.writes (Elt Ideal) (hM.unread x) L)

section
variable (c : Dev nD) (arg2 : Memref sig .tc .vmem S512x1024 .f32) (harg2 : arg2.IsWhole) (arg4 : Memref sig .tc .vmem S512x128 .f32) (harg4 : arg4.IsWhole) (arg5 : Memref sig .tc .vmem S4x1024 .f32) (harg5 : arg5.IsWhole) (arg6 : Memref sig .tc .vmem S1x1024 .f32) (harg6 : arg6.IsWhole)
  (arg7 : Memref sig .tc .vmem S1x128 .f32) (harg7 : arg7.IsWhole) (arg8 : Memref sig .tc .vmem S1x128 .f32) (harg8 : arg8.IsWhole)
  (x2 : Vec Ideal S512x128 .f32) (x3 : Vec Ideal S4x1024 .f32) (x4 : Vec Ideal S1x1024 .f32) (x5 : Vec Ideal S1x128 .f32) (x6 : Vec Ideal S1x128 .f32)

abbrev cv (t3 t2 t1 t0 : Vec Ideal S128x1024 .f32) : FVec Ideal S128x1024 .f32 :=
  k0_pay16 (k0_pay6 (View.readAt (Elt Ideal) arg5.view (Rect.unit ![0, 0] S4x1024.size inb_S4x1024_S4x1024_0_0).toLoadRect (harg5.unread x3)))
    (View.readAt (Elt Ideal) arg6.view (Rect.unit ![0, 0] S1x1024.size inb_S1x1024_S1x1024_0_0).toLoadRect (harg6.unread x4)) t3 t2 t1 t0

abbrev dl (o : ℕ) (h : ∀ a, (![o, 0] : Fin 2 → ℕ) a + S128x128.size a ≤ S512x128.size a) : Vec Ideal S128x128 .f32 :=
  View.readAt (Elt Ideal) arg4.view (Rect.unit (s := S512x128) ![o, 0] S128x128.size h).toLoadRect (harg4.unread x2)

abbrev wv (o : ℕ) (h : ∀ a, (![o, 0] : Fin 2 → ℕ) a + S128x128.size a ≤ S512x128.size a) : FVec Ideal S128x128 .f32 :=
  k0_pay23 (k0_pay7 (View.readAt (Elt Ideal) arg8.view (Rect.unit ![0, 0] S1x128.size inb_S1x128_S1x128_0_0).toLoadRect (harg8.unread x6)))
    (k0_pay8 (View.readAt (Elt Ideal) arg7.view (Rect.unit ![0, 0] S1x128.size inb_S1x128_S1x128_0_0).toLoadRect (harg7.unread x5))) k0_pay11 (dl arg4 harg4 x2 o h)

abbrev ev (o : ℕ) (h : ∀ a, (![o, 0] : Fin 2 → ℕ) a + S128x128.size a ≤ S512x128.size a) : FVec Ideal S128x1 .f32 :=
  k0_pay24 (k0_pay7 (View.readAt (Elt Ideal) arg8.view (Rect.unit ![0, 0] S1x128.size inb_S1x128_S1x128_0_0).toLoadRect (harg8.unread x6)))
    (k0_pay8 (View.readAt (Elt Ideal) arg7.view (Rect.unit ![0, 0] S1x128.size inb_S1x128_S1x128_0_0).toLoadRect (harg7.unread x5))) k0_pay11 (dl arg4 harg4 x2 o h)

end

/-! ## Reading the state -/

theorem load_at {S : Shape} {e : EltTy} (M : Memref sig .tc .vmem S e) (hM : M.IsWhole) (x : Vec Ideal S e) (off size : Fin S.rank → ℕ)
    (inb : ∀ a, off a + size a ≤ S.size a) (k : (Rect.unit off size inb).shape.Idx) (i : S.Idx) (hi : ∀ a, (i a : ℕ) = off a + k a) :
    View.readAt (Elt Ideal) M.view (Rect.unit off size inb).toLoadRect (hM.unread x) k = x i :=
  (congrFun (View.readAt_eq_ld M.view _ _) k).trans ((View.ld_unit_apply_of _ off size inb k i hi).trans (congrFun (hM.read_unread x) i))

theorem load_whole {S : Shape} {e : EltTy} (M : Memref sig .tc .vmem S e) (hM : M.IsWhole) (x : Vec Ideal S e) (off : Fin S.rank → ℕ)
    (inb : ∀ a, off a + S.size a ≤ S.size a) (h : ∀ a, off a = 0) : View.readAt (Elt Ideal) M.view (Rect.unit off S.size inb).toLoadRect (hM.unread x) = x :=
  funext fun k => load_at M hM x off S.size inb k k (fun a => by rw [h a, Nat.zero_add])

/-- The list of stores, over `d`, leaves the state `S`. -/
abbrev Holds {κ : _} {sp : _} (V : View sig κ sp S1x512x128 .f32) (d : V.ty.Contents (Elt Ideal)) (L : List (View.Piece (Elt Ideal) S1x512x128 .f32)) (S : Fin 512 → Fin 128 → EReal) : Prop :=
  ∀ r n, V.read (Elt Ideal) (V.writes (Elt Ideal) d L) (ix3 0 r n) = S r n

theorem idx0 (p : Fin 256) (n : Fin 128) : R0.toLoadRect.idx (ix3 0 p n) = (ix3 0 (at512 0 (by decide) p) n : S1x512x128.Idx) := by
  funext a
  apply Fin.ext
  refine (Rect.idx_unit_val (s := S1x512x128) ![0, 0, 0] S1x256x128.size _ (ix3 0 p n) a).trans ?_
  match a with
  | ⟨0, _⟩ => rfl
  | ⟨1, _⟩ => rfl
  | ⟨2, _⟩ => exact Nat.zero_add _

theorem idx1 (p : Fin 256) (n : Fin 128) : R1.toLoadRect.idx (ix3 0 p n) = (ix3 0 (at512 1 (by decide) p) n : S1x512x128.Idx) := by
  funext a
  apply Fin.ext
  refine (Rect.idx_unit_val (s := S1x512x128) ![0, 256, 0] S1x256x128.size _ (ix3 0 p n) a).trans ?_
  match a with
  | ⟨0, _⟩ => rfl
  | ⟨1, _⟩ => rfl
  | ⟨2, _⟩ => exact Nat.zero_add _

/-- The state after a chunk from its convolved rows, weights and decays. -/
def nxt (X : FVec Ideal S128x1024 .f32) (W : FVec Ideal S128x128 .f32) (E : FVec Ideal S128x1 .f32) (S : Fin 512 → Fin 128 → EReal) (r : Fin 512) (n : Fin 128) : EReal :=
  (E (ix2 (lane (head r)) 0) : EReal) * S r n + ∑ s : Fin 128, (X (ix2 s (chan r)) : EReal) * W (ix2 s (lane (head r))) * X (ix2 s (inCol r n))

theorem both_at {κ : _} {sp : _} (V : View sig κ sp S1x512x128 .f32) (d : V.ty.Contents (Elt Ideal)) (X : FVec Ideal S128x1024 .f32) (W : FVec Ideal S128x128 .f32) (E : FVec Ideal S128x1 .f32)
    (v0 v1 : Vec Ideal S1x256x128 .f32) (L : List (View.Piece (Elt Ideal) S1x512x128 .f32)) (S T : Fin 512 → Fin 128 → EReal) (hT : nxt X W E S = T)
    (h0 : ∀ p n, v0 (ix3 0 p n) = S (at512 0 (by decide) p) n) (h1 : ∀ p n, v1 (ix3 0 p n) = S (at512 1 (by decide) p) n) :
    Holds V d (both X W E v0 v1 L) T := by
  subst hT
  intro r n
  by_cases h : r.val < 256
  · obtain ⟨p, rfl⟩ : ∃ p : Fin 256, r = at512 0 (by decide) p := ⟨⟨r.val, h⟩, Fin.ext (by show r.val = 256 * 0 + r.val; omega)⟩
    refine (View.read_writes_cons_unit_of_not_mem V _ inb_S1x512x128_S1x256x128_0_256_0 _ _ _ rfl 1 (.inl h)).trans ?_
    refine (View.read_writes_cons_unit_of_mem V _ inb_S1x512x128_S1x256x128_0_0_0 _ _ _ (ix3 0 p n) rfl (fun a => by
      match a with
      | ⟨0, _⟩ => rfl
      | ⟨1, _⟩ => rfl
      | ⟨2, _⟩ => exact (Nat.zero_add _).symm)).trans ?_
    unfold step0
    rw [step_at, h0]
    rfl
  · obtain ⟨p, rfl⟩ : ∃ p : Fin 256, r = at512 1 (by decide) p := ⟨⟨r.val - 256, by omega⟩, Fin.ext (by show r.val = 256 * 1 + (r.val - 256); omega)⟩
    refine (View.read_writes_cons_unit_of_mem V _ inb_S1x512x128_S1x256x128_0_256_0 _ _ _ (ix3 0 p n) rfl (fun a => by
      match a with
      | ⟨0, _⟩ => rfl
      | ⟨1, _⟩ => rfl
      | ⟨2, _⟩ => exact (Nat.zero_add _).symm)).trans ?_
    unfold step1
    rw [step_at, h1]
    rfl

theorem more_at {κ : _} {sp : _} (V : View sig κ sp S1x512x128 .f32) (d : V.ty.Contents (Elt Ideal)) (M : Memref sig .tc .vmem S1x512x128 .f32)
    (X : FVec Ideal S128x1024 .f32) (W : FVec Ideal S128x128 .f32) (E : FVec Ideal S128x1 .f32) (L : List (View.Piece (Elt Ideal) S1x512x128 .f32))
    (S T : Fin 512 → Fin 128 → EReal) (hT : nxt X W E S = T) (h : Holds M.view M.view.junk L S) : Holds V d (more M X W E L) T := by
  refine both_at V d X W E _ _ L S T hT (fun p n => ?_) (fun p n => ?_)
  · show M.view.read (Elt Ideal) (M.view.writes (Elt Ideal) M.view.junk L) (R0.toLoadRect.idx (ix3 0 p n)) = _
    rw [idx0]
    exact h _ _
  · show M.view.read (Elt Ideal) (M.view.writes (Elt Ideal) M.view.junk _) (R1.toLoadRect.idx (ix3 0 p n)) = _
    rw [idx1]
    refine (View.read_writes_cons_unit_of_not_mem M.view _ inb_S1x512x128_S1x256x128_0_0_0 _ L _ rfl 1 (.inr ?_)).trans (h _ _)
    show 0 + 256 ≤ 256 * 1 + p.val
    omega

/-! ## Reading the scratch -/

/-- The stores `L` over `d` leave the rows `P`, from row `lo` on. -/
abbrev Ext {κ : _} {sp : _} (V : View sig κ sp S520x1024 .f32) (d : V.ty.Contents (Elt Ideal)) (L : List (View.Piece (Elt Ideal) S520x1024 .f32)) (lo : ℕ) (P : ℕ → Fin 1024 → EReal) : Prop :=
  ∀ (e : Fin 520) c, lo ≤ e.val → V.read (Elt Ideal) (V.writes (Elt Ideal) d L) (ix2 e c) = P e.val c

theorem idx_rows {n : ℕ} (o : ℕ) (h : ∀ a, (![o, 0] : Fin 2 → ℕ) a + (⟨2, ![n, 1024]⟩ : Shape).size a ≤ S520x1024.size a) (r : Fin n) (c : Fin 1024) (ho : o + r.val < 520) :
    (Rect.unit (s := S520x1024) ![o, 0] (⟨2, ![n, 1024]⟩ : Shape).size h).toLoadRect.idx (ix2 r c) = (ix2 (⟨o + r.val, ho⟩ : Fin 520) c : S520x1024.Idx) := by
  funext a
  apply Fin.ext
  refine (Rect.idx_unit_val (s := S520x1024) ![o, 0] (⟨2, ![n, 1024]⟩ : Shape).size h (ix2 r c) a).trans ?_
  match a with
  | ⟨0, _⟩ => rfl
  | ⟨1, _⟩ => exact Nat.zero_add _

theorem rows_at (M : Memref sig .tc .vmem S520x1024 .f32) (L : List (View.Piece (Elt Ideal) S520x1024 .f32)) (lo : ℕ) (P : ℕ → Fin 1024 → EReal) (hL : Ext M.view M.view.junk L lo P)
    (o : ℕ) (h : ∀ a, (![o, 0] : Fin 2 → ℕ) a + S128x1024.size a ≤ S520x1024.size a) (hl : lo ≤ o) (r : Fin 128) (c : Fin 1024) : rows M L o h (ix2 r c) = P (o + r.val) c := by
  have hb : o + 128 ≤ 520 := h 0
  show M.view.read (Elt Ideal) (M.view.writes (Elt Ideal) M.view.junk L) ((Rect.unit (s := S520x1024) ![o, 0] S128x1024.size h).toLoadRect.idx (ix2 r c)) = _
  rw [idx_rows o h r c (by omega)]
  exact hL _ _ (by show lo ≤ o + r.val; omega)

theorem rowsOn_at (M : Memref sig .tc .vmem S520x1024 .f32) (hM : M.IsWhole) (x : Vec Ideal S520x1024 .f32) (L : List (View.Piece (Elt Ideal) S520x1024 .f32)) (P : ℕ → Fin 1024 → EReal)
    (hL : Ext M.view (hM.unread x) L 0 P) (o : ℕ) (h : ∀ a, (![o, 0] : Fin 2 → ℕ) a + S128x1024.size a ≤ S520x1024.size a) (r : Fin 128) (c : Fin 1024) :
    rowsOn M hM x L o h (ix2 r c) = P (o + r.val) c := by
  have hb : o + 128 ≤ 520 := h 0
  show M.view.read (Elt Ideal) (M.view.writes (Elt Ideal) (hM.unread x) L) ((Rect.unit (s := S520x1024) ![o, 0] S128x1024.size h).toLoadRect.idx (ix2 r c)) = _
  rw [idx_rows o h r c (by omega)]
  exact hL _ _ (Nat.zero_le _)

theorem ext_cons {κ : _} {sp : _} (V : View sig κ sp S520x1024 .f32) (d : V.ty.Contents (Elt Ideal)) (U : Vec Ideal S512x1024 .f32) (inb : ∀ a, (![8, 0] : Fin 2 → ℕ) a + S512x1024.size a ≤ S520x1024.size a)
    (L : List (View.Piece (Elt Ideal) S520x1024 .f32)) (lo : ℕ) (P : ℕ → Fin 1024 → EReal) (hU : ∀ (r : Fin 512) c, U (ix2 r c) = P (8 + r.val) c)
    (hL : ∀ (e : Fin 520) c, lo ≤ e.val → e.val < 8 → V.read (Elt Ideal) (V.writes (Elt Ideal) d L) (ix2 e c) = P e.val c) :
    Ext V d (⟨Rect.unit ![8, 0] S512x1024.size inb, U⟩ :: L) lo P := by
  intro e c hl
  by_cases h : e.val < 8
  · exact (View.read_writes_cons_unit_of_not_mem V _ inb U _ _ rfl 0 (.inl h)).trans (hL e c hl h)
  · refine (View.read_writes_cons_unit_of_mem V _ inb U _ _ (ix2 (⟨e.val - 8, by omega⟩ : Fin 512) c) rfl (fun a => ?_)).trans ?_
    · match a with
      | ⟨0, _⟩ => show e.val = 8 + (e.val - 8); omega
      | ⟨1, _⟩ => exact (Nat.zero_add _).symm
    · rw [hU]
      show P (8 + (e.val - 8)) c = _
      rw [show 8 + (e.val - 8) = e.val by omega]

theorem tail_cons {κ : _} {sp : _} (V : View sig κ sp S520x1024 .f32) (d : V.ty.Contents (Elt Ideal)) (U : Vec Ideal S8x1024 .f32) (inb : ∀ a, (![0, 0] : Fin 2 → ℕ) a + S8x1024.size a ≤ S520x1024.size a)
    (L : List (View.Piece (Elt Ideal) S520x1024 .f32)) (e : Fin 8) (c : Fin 1024) :
    V.read (Elt Ideal) (V.writes (Elt Ideal) d (⟨Rect.unit ![0, 0] S8x1024.size inb, U⟩ :: L)) (ix2 (⟨e.val, by omega⟩ : Fin 520) c) = U (ix2 e c) :=
  View.read_writes_cons_unit_of_mem V _ inb U _ _ (ix2 e c) rfl (fun a => by
    match a with
    | ⟨0, _⟩ => exact (Nat.zero_add _).symm
    | ⟨1, _⟩ => exact (Nat.zero_add _).symm)

section
variable (c : Dev nD) (arg2 : Memref sig .tc .vmem S512x1024 .f32) (harg2 : arg2.IsWhole) (arg4 : Memref sig .tc .vmem S512x128 .f32) (harg4 : arg4.IsWhole) (arg5 : Memref sig .tc .vmem S4x1024 .f32) (harg5 : arg5.IsWhole) (arg6 : Memref sig .tc .vmem S1x1024 .f32) (harg6 : arg6.IsWhole)
  (arg7 : Memref sig .tc .vmem S1x128 .f32) (harg7 : arg7.IsWhole) (arg8 : Memref sig .tc .vmem S1x128 .f32) (harg8 : arg8.IsWhole)
  (x2 : Vec Ideal S512x128 .f32) (x3 : Vec Ideal S4x1024 .f32) (x4 : Vec Ideal S1x1024 .f32) (x5 : Vec Ideal S1x128 .f32) (x6 : Vec Ideal S1x128 .f32)
  (X : Fin 32768 → Fin 1024 → EReal) (D : Fin 32768 → Fin 8 → EReal) (w : Fin 4 → Fin 1024 → EReal) (β : Fin 1024 → EReal) (δ a : Fin 8 → EReal) (b j : ℕ)
  (h2 : ∀ (r : Fin 512) h, x2 (ix2 r (lane h)) = D (row b (512 * j + r.val)) h)
  (h3 : ∀ k d, x3 (ix2 k d) = w k d) (h4 : ∀ d, x4 (ix2 0 d) = β d) (h5 : ∀ h, x5 (ix2 0 (lane h)) = δ h) (h6 : ∀ h, x6 (ix2 0 (lane h)) = a h)
include h2 h3 h4 h5 h6

/-- A chunk takes the state before it to the state after it. -/
theorem chunk (q o : ℕ) (hq : q < 4) (ho : o = 128 * q) (inb : ∀ a, (![o, 0] : Fin 2 → ℕ) a + S128x128.size a ≤ S512x128.size a) (t3 t2 t1 t0 : Vec Ideal S128x1024 .f32)
    (P : ℕ → Fin 1024 → EReal) (hP : ∀ e d, P e d = xat X b (512 * j + e - 5) d)
    (e3 : ∀ r d, t3 (ix2 r d) = P (o + 8 + r.val) d) (e2 : ∀ r d, t2 (ix2 r d) = P (o + 7 + r.val) d)
    (e1 : ∀ r d, t1 (ix2 r d) = P (o + 6 + r.val) d) (e0 : ∀ r d, t0 (ix2 r d) = P (o + 5 + r.val) d) :
    nxt (cv arg5 harg5 arg6 harg6 x3 x4 t3 t2 t1 t0) (wv arg4 harg4 arg7 harg7 arg8 harg8 x2 x5 x6 o inb) (ev arg4 harg4 arg7 harg7 arg8 harg8 x2 x5 x6 o inb)
      (st X D w β δ a b (4 * j + q)) = st X D w β δ a b (4 * j + q + 1) := by
  subst ho
  have hX : ∀ (r : Fin 128) d, (cv arg5 harg5 arg6 harg6 x3 x4 t3 t2 t1 t0 (ix2 r d) : EReal) = u X w β b (128 * (4 * j + q) + r.val) d := fun r d => by
    unfold cv
    rw [conv_at, load_whole arg5 harg5 x3 ![0, 0] _ (congrFun zero2), load_whole arg6 harg6 x4 ![0, 0] _ (congrFun zero2), e3, e2, e1, e0, h4, h3, h3, h3, h3, hP, hP, hP, hP]
    unfold u
    rw [show 512 * j + (128 * q + 8 + r.val) - 5 = 128 * (4 * j + q) + r.val + 3 by omega, show 512 * j + (128 * q + 7 + r.val) - 5 = 128 * (4 * j + q) + r.val + 2 by omega,
      show 512 * j + (128 * q + 6 + r.val) - 5 = 128 * (4 * j + q) + r.val + 1 by omega, show 512 * j + (128 * q + 5 + r.val) - 5 = 128 * (4 * j + q) + r.val by omega]
  have hD : ∀ (r : Fin 128) h, (dl arg4 harg4 x2 (128 * q) inb (ix2 r (lane h)) : EReal) = D (row b (128 * (4 * j + q) + r.val)) h := fun r h => by
    refine (load_at arg4 harg4 x2 _ _ inb (ix2 r (lane h)) (ix2 (⟨128 * q + r.val, by omega⟩ : Fin 512) (lane h)) (fun a => by
      match a with
      | ⟨0, _⟩ => rfl
      | ⟨1, _⟩ => exact (Nat.zero_add _).symm)).trans ?_
    rw [h2]
    show D (row b (512 * j + (128 * q + r.val))) h = _
    rw [show 512 * j + (128 * q + r.val) = 128 * (4 * j + q) + r.val by omega]
  have hc : ∀ (s : Fin 128) h, (k0_pay19 (k0_pay7 x6) (k0_pay8 x5) k0_pay11 (dl arg4 harg4 x2 (128 * q) inb) (ix2 s (lane h)) : EReal) = cs D δ a b (4 * j + q) s h := fun s h => by
    rw [cs_at]
    unfold cs dt
    refine Finset.sum_congr rfl fun k _ => ?_
    rw [hD, h5, h6]
  have hE : ∀ h, (ev arg4 harg4 arg7 harg7 arg8 harg8 x2 x5 x6 (128 * q) inb (ix2 (lane h) 0) : EReal) = Ideal.exp (cs D δ a b (4 * j + q) 127 h) := fun h => by
    unfold ev
    rw [load_whole arg7 harg7 x5 ![0, 0] _ (congrFun zero2), load_whole arg8 harg8 x6 ![0, 0] _ (congrFun zero2), dec_at, hc]
  have hW : ∀ (s : Fin 128) h, (wv arg4 harg4 arg7 harg7 arg8 harg8 x2 x5 x6 (128 * q) inb (ix2 s (lane h)) : EReal) = wt D δ a b (4 * j + q) s h := fun s h => by
    unfold wv
    rw [load_whole arg7 harg7 x5 ![0, 0] _ (congrFun zero2), load_whole arg8 harg8 x6 ![0, 0] _ (congrFun zero2), wt_at, hc, hc, hD, h5]
    rfl
  funext r n
  show (_ : EReal) * _ + _ = Ideal.exp _ * _ + _
  rw [hE]
  simp only [hX, hW]

end

section
variable (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512x128 .f32) (harg12 : arg12.IsWhole) (arg13 : Memref sig .tc .vmem S520x1024 .f32) (harg13 : arg13.IsWhole)
  (x0 : Vec Ideal S512x1024 .f32) (x1 : Vec Ideal S512x512 .bf16) (x2 : Vec Ideal S512x128 .f32) (x3 : Vec Ideal S4x1024 .f32) (x4 : Vec Ideal S1x1024 .f32) (x5 x6 : Vec Ideal S1x128 .f32) (x7 x8 : Vec Ideal S1x512 .f32)

theorem storesA (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 = (more arg12 (cv arg5 harg5 arg6 harg6 x3 x4 (rows arg13 (kernelRun0_A.sl.HS0_2 c arg2 harg2 x0) 392 inb_S520x1024_S128x1024_392_0) (rows arg13 (kernelRun0_A.sl.HS0_2 c arg2 harg2 x0) 391 inb_S520x1024_S128x1024_391_0) (rows arg13 (kernelRun0_A.sl.HS0_2 c arg2 harg2 x0) 390 inb_S520x1024_S128x1024_390_0) (rows arg13 (kernelRun0_A.sl.HS0_2 c arg2 harg2 x0) 389 inb_S520x1024_S128x1024_389_0)) (wv arg4 harg4 arg7 harg7 arg8 harg8 x2 x5 x6 384 inb_S512x128_S128x128_384_0) (ev arg4 harg4 arg7 harg7 arg8 harg8 x2 x5 x6 384 inb_S512x128_S128x128_384_0)
      (more arg12 (cv arg5 harg5 arg6 harg6 x3 x4 (rows arg13 (kernelRun0_A.sl.HS0_2 c arg2 harg2 x0) 264 inb_S520x1024_S128x1024_264_0) (rows arg13 (kernelRun0_A.sl.HS0_2 c arg2 harg2 x0) 263 inb_S520x1024_S128x1024_263_0) (rows arg13 (kernelRun0_A.sl.HS0_2 c arg2 harg2 x0) 262 inb_S520x1024_S128x1024_262_0) (rows arg13 (kernelRun0_A.sl.HS0_2 c arg2 harg2 x0) 261 inb_S520x1024_S128x1024_261_0)) (wv arg4 harg4 arg7 harg7 arg8 harg8 x2 x5 x6 256 inb_S512x128_S128x128_256_0) (ev arg4 harg4 arg7 harg7 arg8 harg8 x2 x5 x6 256 inb_S512x128_S128x128_256_0)
      (more arg12 (cv arg5 harg5 arg6 harg6 x3 x4 (rows arg13 (kernelRun0_A.sl.HS0_2 c arg2 harg2 x0) 136 inb_S520x1024_S128x1024_136_0) (rows arg13 (kernelRun0_A.sl.HS0_2 c arg2 harg2 x0) 135 inb_S520x1024_S128x1024_135_0) (rows arg13 (kernelRun0_A.sl.HS0_2 c arg2 harg2 x0) 134 inb_S520x1024_S128x1024_134_0) (rows arg13 (kernelRun0_A.sl.HS0_2 c arg2 harg2 x0) 133 inb_S520x1024_S128x1024_133_0)) (wv arg4 harg4 arg7 harg7 arg8 harg8 x2 x5 x6 128 inb_S512x128_S128x128_128_0) (ev arg4 harg4 arg7 harg7 arg8 harg8 x2 x5 x6 128 inb_S512x128_S128x128_128_0)
      (more arg12 (cv arg5 harg5 arg6 harg6 x3 x4 (rows arg13 (kernelRun0_A.sl.HS0_2 c arg2 harg2 x0) 8 inb_S520x1024_S128x1024_8_0) (rows arg13 (kernelRun0_A.sl.HS0_2 c arg2 harg2 x0) 7 inb_S520x1024_S128x1024_7_0) (rows arg13 (kernelRun0_A.sl.HS0_2 c arg2 harg2 x0) 6 inb_S520x1024_S128x1024_6_0) (rows arg13 (kernelRun0_A.sl.HS0_2 c arg2 harg2 x0) 5 inb_S520x1024_S128x1024_5_0)) (wv arg4 harg4 arg7 harg7 arg8 harg8 x2 x5 x6 0 inb_S512x128_S128x128_0_0) (ev arg4 harg4 arg7 harg7 arg8 harg8 x2 x5 x6 0 inb_S512x128_S128x128_0_0)
      [⟨Rect.unit ![0, 0, 0] S1x512x128.size inb_S1x512x128_S1x512x128_0_0_0, (k0_pay4 (F := Ideal))⟩])))) := rfl

theorem storesB (hc0 : ¬cond0_0 i) (xo10 : Vec Ideal S1x512x128 .f32) (xs0 : Vec Ideal S520x1024 .f32) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xs0).2.1 = (more arg12 (cv arg5 harg5 arg6 harg6 x3 x4 (rows arg13 (kernelRun0_B.sl.HS0_1 c arg2 harg2 x0) 392 inb_S520x1024_S128x1024_392_0) (rows arg13 (kernelRun0_B.sl.HS0_1 c arg2 harg2 x0) 391 inb_S520x1024_S128x1024_391_0) (rows arg13 (kernelRun0_B.sl.HS0_1 c arg2 harg2 x0) 390 inb_S520x1024_S128x1024_390_0) (rows arg13 (kernelRun0_B.sl.HS0_1 c arg2 harg2 x0) 389 inb_S520x1024_S128x1024_389_0)) (wv arg4 harg4 arg7 harg7 arg8 harg8 x2 x5 x6 384 inb_S512x128_S128x128_384_0) (ev arg4 harg4 arg7 harg7 arg8 harg8 x2 x5 x6 384 inb_S512x128_S128x128_384_0)
      (more arg12 (cv arg5 harg5 arg6 harg6 x3 x4 (rows arg13 (kernelRun0_B.sl.HS0_1 c arg2 harg2 x0) 264 inb_S520x1024_S128x1024_264_0) (rows arg13 (kernelRun0_B.sl.HS0_1 c arg2 harg2 x0) 263 inb_S520x1024_S128x1024_263_0) (rows arg13 (kernelRun0_B.sl.HS0_1 c arg2 harg2 x0) 262 inb_S520x1024_S128x1024_262_0) (rows arg13 (kernelRun0_B.sl.HS0_1 c arg2 harg2 x0) 261 inb_S520x1024_S128x1024_261_0)) (wv arg4 harg4 arg7 harg7 arg8 harg8 x2 x5 x6 256 inb_S512x128_S128x128_256_0) (ev arg4 harg4 arg7 harg7 arg8 harg8 x2 x5 x6 256 inb_S512x128_S128x128_256_0)
      (more arg12 (cv arg5 harg5 arg6 harg6 x3 x4 (rows arg13 (kernelRun0_B.sl.HS0_1 c arg2 harg2 x0) 136 inb_S520x1024_S128x1024_136_0) (rows arg13 (kernelRun0_B.sl.HS0_1 c arg2 harg2 x0) 135 inb_S520x1024_S128x1024_135_0) (rows arg13 (kernelRun0_B.sl.HS0_1 c arg2 harg2 x0) 134 inb_S520x1024_S128x1024_134_0) (rows arg13 (kernelRun0_B.sl.HS0_1 c arg2 harg2 x0) 133 inb_S520x1024_S128x1024_133_0)) (wv arg4 harg4 arg7 harg7 arg8 harg8 x2 x5 x6 128 inb_S512x128_S128x128_128_0) (ev arg4 harg4 arg7 harg7 arg8 harg8 x2 x5 x6 128 inb_S512x128_S128x128_128_0)
      (both (cv arg5 harg5 arg6 harg6 x3 x4 (rows arg13 (kernelRun0_B.sl.HS0_1 c arg2 harg2 x0) 8 inb_S520x1024_S128x1024_8_0) (rowsOn arg13 harg13 xs0 (kernelRun0_B.sl.HS0_1 c arg2 harg2 x0) 7 inb_S520x1024_S128x1024_7_0) (rowsOn arg13 harg13 xs0 (kernelRun0_B.sl.HS0_1 c arg2 harg2 x0) 6 inb_S520x1024_S128x1024_6_0) (rowsOn arg13 harg13 xs0 (kernelRun0_B.sl.HS0_1 c arg2 harg2 x0) 5 inb_S520x1024_S128x1024_5_0)) (wv arg4 harg4 arg7 harg7 arg8 harg8 x2 x5 x6 0 inb_S512x128_S128x128_0_0) (ev arg4 harg4 arg7 harg7 arg8 harg8 x2 x5 x6 0 inb_S512x128_S128x128_0_0) (View.readAt (Elt Ideal) arg12.view R0.toLoadRect (harg12.unread xo10)) (View.readAt (Elt Ideal) arg12.view R1.toLoadRect (harg12.unread xo10)) [])))) := rfl

theorem tailA (hc0 : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1
    = ⟨Rect.unit ![0, 0] S8x1024.size inb_S520x1024_S8x1024_0_0, k0_pay2 (arg13.view.readCov (kernelRun0_A.sl.HS0_2 c arg2 harg2 x0) (Rect.unit (s := S520x1024) ![512, 0] S8x1024.size inb_S520x1024_S8x1024_512_0).toLoadRect)⟩
      :: kernelRun0_A.sl.HS0_2 c arg2 harg2 x0 := rfl

theorem tailB (hc0 : ¬cond0_0 i) (xo10 : Vec Ideal S1x512x128 .f32) (xs0 : Vec Ideal S520x1024 .f32) : (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xs0).2.2.1
    = ⟨Rect.unit ![0, 0] S8x1024.size inb_S520x1024_S8x1024_0_0, k0_pay2 (arg13.view.readCov (kernelRun0_B.sl.HS0_1 c arg2 harg2 x0) (Rect.unit (s := S520x1024) ![512, 0] S8x1024.size inb_S520x1024_S8x1024_512_0).toLoadRect)⟩
      :: kernelRun0_B.sl.HS0_1 c arg2 harg2 x0 := rfl

/-- The scratch row `e` at a block: the inputs from eight rows before it. -/
abbrev tap (X : Fin 32768 → Fin 1024 → EReal) (b j e : ℕ) (d : Fin 1024) : EReal := xat X b (512 * j + e - 5) d

theorem pay2_eq (v : Vec Ideal S8x1024 .f32) : k0_pay2 v = v := by
  unfold k0_pay2
  exact shapeCast_self _ _

variable
  (X : Fin 32768 → Fin 1024 → EReal) (D : Fin 32768 → Fin 8 → EReal) (w : Fin 4 → Fin 1024 → EReal) (β : Fin 1024 → EReal) (δ a : Fin 8 → EReal) (b j : ℕ)
  (h0 : ∀ (r : Fin 512) d, x0 (ix2 r d) = X (row b (512 * j + r.val)) d)
  (h2 : ∀ (r : Fin 512) h, x2 (ix2 r (lane h)) = D (row b (512 * j + r.val)) h)
  (h3 : ∀ k d, x3 (ix2 k d) = w k d) (h4 : ∀ d, x4 (ix2 0 d) = β d) (h5 : ∀ h, x5 (ix2 0 (lane h)) = δ h) (h6 : ∀ h, x6 (ix2 0 (lane h)) = a h)

include h0

theorem put_at (r : Fin 512) (d : Fin 1024) :
    k0_pay5 (View.readAt (Elt Ideal) arg2.view (Rect.unit ![0, 0] S512x1024.size inb_S512x1024_S512x1024_0_0).toLoadRect (harg2.unread x0)) (ix2 r d) = tap X b j (8 + r.val) d := by
  unfold k0_pay5
  rw [shapeCast_self, load_whole arg2 harg2 x0 ![0, 0] _ (congrFun zero2), h0]
  unfold tap xat
  rw [if_neg (by omega), show 512 * j + (8 + r.val) - 5 - 3 = 512 * j + r.val by omega]

theorem extB {κ : _} {sp : _} (V : View sig κ sp S520x1024 .f32) (d : V.ty.Contents (Elt Ideal)) : Ext V d (kernelRun0_B.sl.HS0_1 c arg2 harg2 x0) 8 (tap X b j) :=
  ext_cons V d _ inb_S520x1024_S512x1024_8_0 [] 8 _ (put_at arg2 harg2 x0 X b j h0) (fun e _ h h' => absurd h' (by omega))

theorem extA {κ : _} {sp : _} (V : View sig κ sp S520x1024 .f32) (d : V.ty.Contents (Elt Ideal)) (hj : j = 0) : Ext V d (kernelRun0_A.sl.HS0_2 c arg2 harg2 x0) 0 (tap X b j) :=
  ext_cons V d _ inb_S520x1024_S512x1024_8_0 _ 0 _ (put_at arg2 harg2 x0 X b j h0) (fun e k _ h' => by
    refine (tail_cons V d (k0_pay3 (F := Ideal)) inb_S520x1024_S8x1024_0_0 [] ⟨e.val, h'⟩ k).trans ?_
    unfold k0_pay3 tap xat
    rw [shapeCast_self, if_pos (by omega)]
    exact Ideal.ofBits_zero_f32)

theorem last_at (L : List (View.Piece (Elt Ideal) S520x1024 .f32)) (lo : ℕ) (hl : lo ≤ 8) (hL : Ext arg13.view arg13.view.junk L lo (tap X b j)) {κ : _} {sp : _} (V : View sig κ sp S520x1024 .f32) (d : V.ty.Contents (Elt Ideal)) (e : Fin 520) (he : e.val < 8) (k : Fin 1024) :
    V.read (Elt Ideal) (V.writes (Elt Ideal) d (⟨Rect.unit ![0, 0] S8x1024.size inb_S520x1024_S8x1024_0_0, k0_pay2 (arg13.view.readCov L (Rect.unit (s := S520x1024) ![512, 0] S8x1024.size inb_S520x1024_S8x1024_512_0).toLoadRect)⟩ :: L)) (ix2 e k)
      = tap X b (j + 1) e.val k := by
  refine (tail_cons V d _ inb_S520x1024_S8x1024_0_0 L ⟨e.val, he⟩ k).trans ?_
  rw [pay2_eq]
  show arg13.view.read (Elt Ideal) (arg13.view.writes (Elt Ideal) arg13.view.junk L) ((Rect.unit (s := S520x1024) ![512, 0] S8x1024.size inb_S520x1024_S8x1024_512_0).toLoadRect.idx (ix2 (⟨e.val, he⟩ : Fin 8) k)) = _
  rw [idx_rows 512 _ _ _ (by show 512 + e.val < 520; omega), hL _ _ (by show lo ≤ 512 + e.val; omega)]
  show xat X b (512 * j + (512 + e.val) - 5) k = xat X b (512 * (j + 1) + e.val - 5) k
  rw [show 512 * j + (512 + e.val) - 5 = 512 * (j + 1) + e.val - 5 by omega]

/-- What the body leaves in the scratch's first rows. -/
theorem leftA (hc0 : cond0_0 i) (hj : j = 0) (e : Fin 520) (he : e.val < 8) (k : Fin 1024) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 e k) = tap X b (j + 1) e.val k := by
  unfold sout0_A_0
  rw [tailA]
  exact last_at arg13 x0 X b j h0 _ 0 (by decide) (extA c arg2 harg2 x0 X b j h0 _ _ hj) VS0_0 _ e he k

theorem leftB (hc0 : ¬cond0_0 i) (xo10 : Vec Ideal S1x512x128 .f32) (xs0 : Vec Ideal S520x1024 .f32) (e : Fin 520) (he : e.val < 8) (k : Fin 1024) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xs0 (ix2 e k) = tap X b (j + 1) e.val k := by
  unfold sout0_B_0
  rw [tailB]
  exact last_at arg13 x0 X b j h0 _ 8 (by decide) (extB c arg2 harg2 x0 X b j h0 _ _) VS0_0 _ e he k

include h2 h3 h4 h5 h6

/-- What the body leaves in the state's block. -/
theorem stateA (hc0 : cond0_0 i) (hj : j = 0) (r : Fin 512) (n : Fin 128) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 r n) = st X D w β δ a b (4 * (j + 1)) r n := by
  have hs : Ext arg13.view arg13.view.junk _ 0 (tap X b j) := extA c arg2 harg2 x0 X b j h0 arg13.view arg13.view.junk hj
  unfold out0_A_10
  rw [storesA]
  refine more_at VO0_10 _ arg12 _ _ _ _ _ _ (chunk arg4 harg4 arg5 harg5 arg6 harg6 arg7 harg7 arg8 harg8 x2 x3 x4 x5 x6 X D w β δ a b j h2 h3 h4 h5 h6 3 384 (by decide) rfl _ _ _ _ _ (tap X b j) (fun _ _ => rfl) (rows_at arg13 _ 0 (tap X b j) hs 392 inb_S520x1024_S128x1024_392_0 (by decide)) (rows_at arg13 _ 0 (tap X b j) hs 391 inb_S520x1024_S128x1024_391_0 (by decide)) (rows_at arg13 _ 0 (tap X b j) hs 390 inb_S520x1024_S128x1024_390_0 (by decide)) (rows_at arg13 _ 0 (tap X b j) hs 389 inb_S520x1024_S128x1024_389_0 (by decide))) (more_at _ _ arg12 _ _ _ _ _ _ (chunk arg4 harg4 arg5 harg5 arg6 harg6 arg7 harg7 arg8 harg8 x2 x3 x4 x5 x6 X D w β δ a b j h2 h3 h4 h5 h6 2 256 (by decide) rfl _ _ _ _ _ (tap X b j) (fun _ _ => rfl) (rows_at arg13 _ 0 (tap X b j) hs 264 inb_S520x1024_S128x1024_264_0 (by decide)) (rows_at arg13 _ 0 (tap X b j) hs 263 inb_S520x1024_S128x1024_263_0 (by decide)) (rows_at arg13 _ 0 (tap X b j) hs 262 inb_S520x1024_S128x1024_262_0 (by decide)) (rows_at arg13 _ 0 (tap X b j) hs 261 inb_S520x1024_S128x1024_261_0 (by decide))) (more_at _ _ arg12 _ _ _ _ _ _ (chunk arg4 harg4 arg5 harg5 arg6 harg6 arg7 harg7 arg8 harg8 x2 x3 x4 x5 x6 X D w β δ a b j h2 h3 h4 h5 h6 1 128 (by decide) rfl _ _ _ _ _ (tap X b j) (fun _ _ => rfl) (rows_at arg13 _ 0 (tap X b j) hs 136 inb_S520x1024_S128x1024_136_0 (by decide)) (rows_at arg13 _ 0 (tap X b j) hs 135 inb_S520x1024_S128x1024_135_0 (by decide)) (rows_at arg13 _ 0 (tap X b j) hs 134 inb_S520x1024_S128x1024_134_0 (by decide)) (rows_at arg13 _ 0 (tap X b j) hs 133 inb_S520x1024_S128x1024_133_0 (by decide))) (more_at _ _ arg12 _ _ _ _ _ _ (chunk arg4 harg4 arg5 harg5 arg6 harg6 arg7 harg7 arg8 harg8 x2 x3 x4 x5 x6 X D w β δ a b j h2 h3 h4 h5 h6 0 0 (by decide) rfl _ _ _ _ _ (tap X b j) (fun _ _ => rfl) (rows_at arg13 _ 0 (tap X b j) hs 8 inb_S520x1024_S128x1024_8_0 (by decide)) (rows_at arg13 _ 0 (tap X b j) hs 7 inb_S520x1024_S128x1024_7_0 (by decide)) (rows_at arg13 _ 0 (tap X b j) hs 6 inb_S520x1024_S128x1024_6_0 (by decide)) (rows_at arg13 _ 0 (tap X b j) hs 5 inb_S520x1024_S128x1024_5_0 (by decide))) (fun r n => ?_)))) r n
  refine (View.read_writes_cons_unit_of_mem arg12.view _ inb_S1x512x128_S1x512x128_0_0_0 _ [] _ (ix3 0 r n) rfl (fun a => by
      match a with
      | ⟨0, _⟩ => rfl
      | ⟨1, _⟩ => exact (Nat.zero_add _).symm
      | ⟨2, _⟩ => exact (Nat.zero_add _).symm)).trans ?_
  subst hj
  exact Ideal.ofBits_zero_f32

theorem stateB (hc0 : ¬cond0_0 i) (xo10 : Vec Ideal S1x512x128 .f32) (xs0 : Vec Ideal S520x1024 .f32) (hS : ∀ r n, xo10 (ix3 0 r n) = st X D w β δ a b (4 * j) r n)
    (hx : ∀ (e : Fin 520) k, e.val < 8 → xs0 (ix2 e k) = tap X b j e.val k) (r : Fin 512) (n : Fin 128) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xs0 (ix3 0 r n) = st X D w β δ a b (4 * (j + 1)) r n := by
  have hs8 : Ext arg13.view arg13.view.junk _ 8 (tap X b j) := extB c arg2 harg2 x0 X b j h0 arg13.view arg13.view.junk
  have hs0 : Ext arg13.view (harg13.unread xs0) (kernelRun0_B.sl.HS0_1 c arg2 harg2 x0) 0 (tap X b j) :=
    ext_cons _ _ _ inb_S520x1024_S512x1024_8_0 [] 0 _ (put_at arg2 harg2 x0 X b j h0) (fun e k _ h => (congrFun (harg13.read_unread xs0) (ix2 e k)).trans (hx e k h))
  unfold out0_B_10
  rw [storesB]
  refine more_at VO0_10 _ arg12 _ _ _ _ _ _ (chunk arg4 harg4 arg5 harg5 arg6 harg6 arg7 harg7 arg8 harg8 x2 x3 x4 x5 x6 X D w β δ a b j h2 h3 h4 h5 h6 3 384 (by decide) rfl _ _ _ _ _ (tap X b j) (fun _ _ => rfl) (rows_at arg13 _ 8 (tap X b j) hs8 392 inb_S520x1024_S128x1024_392_0 (by decide)) (rows_at arg13 _ 8 (tap X b j) hs8 391 inb_S520x1024_S128x1024_391_0 (by decide)) (rows_at arg13 _ 8 (tap X b j) hs8 390 inb_S520x1024_S128x1024_390_0 (by decide)) (rows_at arg13 _ 8 (tap X b j) hs8 389 inb_S520x1024_S128x1024_389_0 (by decide))) (more_at _ _ arg12 _ _ _ _ _ _ (chunk arg4 harg4 arg5 harg5 arg6 harg6 arg7 harg7 arg8 harg8 x2 x3 x4 x5 x6 X D w β δ a b j h2 h3 h4 h5 h6 2 256 (by decide) rfl _ _ _ _ _ (tap X b j) (fun _ _ => rfl) (rows_at arg13 _ 8 (tap X b j) hs8 264 inb_S520x1024_S128x1024_264_0 (by decide)) (rows_at arg13 _ 8 (tap X b j) hs8 263 inb_S520x1024_S128x1024_263_0 (by decide)) (rows_at arg13 _ 8 (tap X b j) hs8 262 inb_S520x1024_S128x1024_262_0 (by decide)) (rows_at arg13 _ 8 (tap X b j) hs8 261 inb_S520x1024_S128x1024_261_0 (by decide))) (more_at _ _ arg12 _ _ _ _ _ _ (chunk arg4 harg4 arg5 harg5 arg6 harg6 arg7 harg7 arg8 harg8 x2 x3 x4 x5 x6 X D w β δ a b j h2 h3 h4 h5 h6 1 128 (by decide) rfl _ _ _ _ _ (tap X b j) (fun _ _ => rfl) (rows_at arg13 _ 8 (tap X b j) hs8 136 inb_S520x1024_S128x1024_136_0 (by decide)) (rows_at arg13 _ 8 (tap X b j) hs8 135 inb_S520x1024_S128x1024_135_0 (by decide)) (rows_at arg13 _ 8 (tap X b j) hs8 134 inb_S520x1024_S128x1024_134_0 (by decide)) (rows_at arg13 _ 8 (tap X b j) hs8 133 inb_S520x1024_S128x1024_133_0 (by decide))) (both_at arg12.view _ _ _ _ _ _ [] _ _ (chunk arg4 harg4 arg5 harg5 arg6 harg6 arg7 harg7 arg8 harg8 x2 x3 x4 x5 x6 X D w β δ a b j h2 h3 h4 h5 h6 0 0 (by decide) rfl _ _ _ _ _ (tap X b j) (fun _ _ => rfl) (rows_at arg13 _ 8 (tap X b j) hs8 8 inb_S520x1024_S128x1024_8_0 (by decide)) (rowsOn_at arg13 harg13 xs0 _ (tap X b j) hs0 7 inb_S520x1024_S128x1024_7_0) (rowsOn_at arg13 harg13 xs0 _ (tap X b j) hs0 6 inb_S520x1024_S128x1024_6_0) (rowsOn_at arg13 harg13 xs0 _ (tap X b j) hs0 5 inb_S520x1024_S128x1024_5_0)) (fun p n => ?_) (fun p n => ?_)))) r n
  · exact (load_at arg12 harg12 xo10 _ _ _ (ix3 0 p n) (ix3 0 (at512 0 (by decide) p) n) (fun a => by
      match a with
      | ⟨0, _⟩ => rfl
      | ⟨1, _⟩ => rfl
      | ⟨2, _⟩ => exact (Nat.zero_add _).symm)).trans (hS _ _)
  · exact (load_at arg12 harg12 xo10 _ _ _ (ix3 0 p n) (ix3 0 (at512 1 (by decide) p) n) (fun a => by
      match a with
      | ⟨0, _⟩ => rfl
      | ⟨1, _⟩ => rfl
      | ⟨2, _⟩ => exact (Nat.zero_add _).symm)).trans (hS _ _)

end

end Cert.Kernel7Ideal.Prompt

end
-- ==== Proof.PromptWhole.lean ====
/-
  The state after the prompt: each window's block at a grid point as elements of the arguments, the state and the last rows carried
  from tile to tile, and the state's array after the run as a function of the arguments.
-/
module

public import proofs.«01_k».proof.Proof.PromptBlock
public import proofs.«01_k».proof.Proof.Gen.Kernel7Ideal.Value
public import Idealize.ShloMosaic.Lib.Pipeline.Value
public import Idealize.ShloMosaic.Lib.KernelVsHost
public import Idealize.ShloMosaic.Lib.Quiescent

@[expose] public section

set_option maxRecDepth 16384

noncomputable section

namespace Cert.Kernel7Ideal.Prompt

open Cert.Kernel7Ideal Cert.Kernel7Ideal.Gen Cert.Prompt
open Cert.Kernel6Ideal.Ssd (lane)
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## What the host hands the call -/

theorem V_v0 : (V m c main_v0 : (⟨S4x1024, .f32⟩ : BufTy).Contents (Elt Ideal)) = shapeCast S4x1024 (m ((c : Thread nD τ).loc main_arg3)) shapeCasts_S1x4x1024_S4x1024 := by
  unfold V
  simp only [hostOps0, hostOps0_1, hostOps0_2, hostOps0_3, hostOps0_4, List.flatten_cons, List.flatten_nil, List.append_nil, List.cons_append, List.nil_append]
  after_results
  rfl

theorem V_v1 : (V m c main_v1 : (⟨S1x128, .f32⟩ : BufTy).Contents (Elt Ideal)) = pad S1x128 ![0, 0] ![0, 120] ![0, 0] (m ((c : Thread nD τ).loc main_arg5)) (sitofp (F := Ideal) .f32 (constantI S_ 32 0#32)) pads_S1x8_S1x128_000_01200 h_S_ := by
  unfold V
  simp only [hostOps0, hostOps0_1, hostOps0_2, hostOps0_3, hostOps0_4, List.flatten_cons, List.flatten_nil, List.append_nil, List.cons_append, List.nil_append]
  after_results
  rfl

theorem V_v2 : (V m c main_v2 : (⟨S1x128, .f32⟩ : BufTy).Contents (Elt Ideal)) = pad S1x128 ![0, 0] ![0, 120] ![0, 0] (m ((c : Thread nD τ).loc main_arg6)) (sitofp (F := Ideal) .f32 (constantI S_ 32 0#32)) pads_S1x8_S1x128_000_01200 h_S_ := by
  unfold V
  simp only [hostOps0, hostOps0_1, hostOps0_2, hostOps0_3, hostOps0_4, List.flatten_cons, List.flatten_nil, List.append_nil, List.cons_append, List.nil_append]
  after_results
  rfl

theorem w_at (x : (⟨S1x4x1024, .f32⟩ : BufTy).Contents (Elt Ideal)) (a : Fin 4) (d : Fin 1024) :
    shapeCast S4x1024 x shapeCasts_S1x4x1024_S4x1024 (ix2 a d) = x (ix3 0 a d) :=
  shapeCast_apply x _ _ _ (by
    rw [Shape.rowMajor_val_three, Shape.rowMajor_val_two]
    show (0 * 4 + a.val) * 1024 + d.val = a.val * 1024 + d.val
    omega)

theorem pad_at (x : (⟨S1x8, .f32⟩ : BufTy).Contents (Elt Ideal)) (h : Fin 8) :
    pad S1x128 ![0, 0] ![0, 120] ![0, 0] x (sitofp (F := Ideal) .f32 (constantI S_ 32 0#32)) pads_S1x8_S1x128_000_01200 h_S_ (ix2 0 (lane h)) = x (ix2 0 h) :=
  pad_apply_of_inside _ _ _ _ _ _ _ _ (ix2 0 h) (fun a => by
    match a with
    | ⟨0, _⟩ => rfl
    | ⟨1, _⟩ => show (lane h).val = 0 + h.val * (0 + 1); unfold lane; dsimp only; omega)

/-! ## Where the blocks lie -/

theorem tlt (t : Fin cfg0.N) : t.val < 64 := t.isLt.trans_eq (by decide)

theorem widx0 : ∀ t : Fin cfg0.N, win0_0.index t 0 = t.val ∧ win0_0.index t 1 = 0 := by decide +kernel
theorem widx2 : ∀ t : Fin cfg0.N, win0_2.index t 0 = t.val ∧ win0_2.index t 1 = 0 := by decide +kernel
theorem widx3 : ∀ t : Fin cfg0.N, win0_3.index t 0 = 0 ∧ win0_3.index t 1 = 0 := by decide +kernel
theorem widx4 : ∀ t : Fin cfg0.N, win0_4.index t 0 = 0 ∧ win0_4.index t 1 = 0 := by decide +kernel
theorem widx5 : ∀ t : Fin cfg0.N, win0_5.index t 0 = 0 ∧ win0_5.index t 1 = 0 := by decide +kernel
theorem widx6 : ∀ t : Fin cfg0.N, win0_6.index t 0 = 0 ∧ win0_6.index t 1 = 0 := by decide +kernel
theorem widx10 : ∀ t : Fin cfg0.N, win0_10.index t 0 = t.val / 16 ∧ win0_10.index t 1 = 0 ∧ win0_10.index t 2 = 0 := by decide +kernel
theorem xsz10 : ∀ t : Fin cfg0.N, win0_10.xsize (grid0.coords t) 0 = 1 ∧ win0_10.xsize (grid0.coords t) 1 = 512 ∧ win0_10.xsize (grid0.coords t) 2 = 128 := by decide +kernel

theorem row_val (t : Fin cfg0.N) (r : Fin 512) : (row (t.val / 16) (512 * (t.val % 16) + r.val)).val = t.val * 512 + r.val := by
  have := tlt t
  show (8192 * (t.val / 16) + (512 * (t.val % 16) + r.val)) % 32768 = t.val * 512 + r.val
  omega

theorem emb0 (t : Fin cfg0.N) (r : Fin 512) (d : Fin 1024) : (win0_0.rect t).emb (ix2 r d) = ix2 (row (t.val / 16) (512 * (t.val % 16) + r.val)) d := by
  funext x
  apply Fin.ext
  refine (Pipeline.Window.rect_emb_val win0_0 t _ x).trans ?_
  match x with
  | ⟨0, _⟩ => show win0_0.index t 0 * 512 + r.val = (row _ _).val; rw [(widx0 t).1, row_val]
  | ⟨1, _⟩ => show win0_0.index t 1 * 1024 + d.val = d.val; rw [(widx0 t).2]; omega

theorem emb2 (t : Fin cfg0.N) (r : Fin 512) (d : Fin 128) : (win0_2.rect t).emb (ix2 r d) = ix2 (row (t.val / 16) (512 * (t.val % 16) + r.val)) d := by
  funext x
  apply Fin.ext
  refine (Pipeline.Window.rect_emb_val win0_2 t _ x).trans ?_
  match x with
  | ⟨0, _⟩ => show win0_2.index t 0 * 512 + r.val = (row _ _).val; rw [(widx2 t).1, row_val]
  | ⟨1, _⟩ => show win0_2.index t 1 * 128 + d.val = d.val; rw [(widx2 t).2]; omega

theorem emb3 (t : Fin cfg0.N) (a : Fin 4) (d : Fin 1024) : (win0_3.rect t).emb (ix2 a d) = ix2 a d := by
  funext x
  apply Fin.ext
  refine (Pipeline.Window.rect_emb_val win0_3 t _ x).trans ?_
  match x with
  | ⟨0, _⟩ => show win0_3.index t 0 * 4 + a.val = a.val; rw [(widx3 t).1]; omega
  | ⟨1, _⟩ => show win0_3.index t 1 * 1024 + d.val = d.val; rw [(widx3 t).2]; omega

theorem emb4 (t : Fin cfg0.N) (a : Fin 1) (d : Fin 1024) : (win0_4.rect t).emb (ix2 a d) = ix2 a d := by
  funext x
  apply Fin.ext
  refine (Pipeline.Window.rect_emb_val win0_4 t _ x).trans ?_
  match x with
  | ⟨0, _⟩ => show win0_4.index t 0 * 1 + a.val = a.val; rw [(widx4 t).1]; omega
  | ⟨1, _⟩ => show win0_4.index t 1 * 1024 + d.val = d.val; rw [(widx4 t).2]; omega

theorem emb5 (t : Fin cfg0.N) (a : Fin 1) (d : Fin 128) : (win0_5.rect t).emb (ix2 a d) = ix2 a d := by
  funext x
  apply Fin.ext
  refine (Pipeline.Window.rect_emb_val win0_5 t _ x).trans ?_
  match x with
  | ⟨0, _⟩ => show win0_5.index t 0 * 1 + a.val = a.val; rw [(widx5 t).1]; omega
  | ⟨1, _⟩ => show win0_5.index t 1 * 128 + d.val = d.val; rw [(widx5 t).2]; omega

theorem emb6 (t : Fin cfg0.N) (a : Fin 1) (d : Fin 128) : (win0_6.rect t).emb (ix2 a d) = ix2 a d := by
  funext x
  apply Fin.ext
  refine (Pipeline.Window.rect_emb_val win0_6 t _ x).trans ?_
  match x with
  | ⟨0, _⟩ => show win0_6.index t 0 * 1 + a.val = a.val; rw [(widx6 t).1]; omega
  | ⟨1, _⟩ => show win0_6.index t 1 * 128 + d.val = d.val; rw [(widx6 t).2]; omega

theorem emb10 (t : Fin cfg0.N) (r : Fin 512) (n : Fin 128) : (win0_10.rect t).emb (ix3 0 r n) = ix3 (⟨t.val / 16, by have := tlt t; omega⟩ : Fin 4) r n := by
  obtain ⟨e0, e1, e2⟩ := widx10 t
  funext x
  apply Fin.ext
  refine (Pipeline.Window.rect_emb_val win0_10 t _ x).trans ?_
  match x with
  | ⟨0, _⟩ => show win0_10.index t 0 * 1 + 0 = t.val / 16; rw [e0]; omega
  | ⟨1, _⟩ => show win0_10.index t 1 * 512 + r.val = r.val; rw [e1]; omega
  | ⟨2, _⟩ => show win0_10.index t 2 * 128 + n.val = n.val; rw [e2]; omega

/-! ## The blocks -/

abbrev fX (i : Fin 32768) (d : Fin 1024) : EReal := (m ((c : Thread nD τ).loc main_arg0) : (⟨S32768x1024, .f32⟩ : BufTy).Contents (Elt Ideal)) (ix2 i d)
abbrev fD (i : Fin 32768) (h : Fin 8) : EReal := (m ((c : Thread nD τ).loc main_arg2) : (⟨S32768x128, .f32⟩ : BufTy).Contents (Elt Ideal)) (ix2 i (lane h))
abbrev fw (k : Fin 4) (d : Fin 1024) : EReal := (m ((c : Thread nD τ).loc main_arg3) : (⟨S1x4x1024, .f32⟩ : BufTy).Contents (Elt Ideal)) (ix3 0 k d)
abbrev fβ (d : Fin 1024) : EReal := (m ((c : Thread nD τ).loc main_arg4) : (⟨S1x1024, .f32⟩ : BufTy).Contents (Elt Ideal)) (ix2 0 d)
abbrev fδ (h : Fin 8) : EReal := (m ((c : Thread nD τ).loc main_arg5) : (⟨S1x8, .f32⟩ : BufTy).Contents (Elt Ideal)) (ix2 0 h)
abbrev fa (h : Fin 8) : EReal := (m ((c : Thread nD τ).loc main_arg6) : (⟨S1x8, .f32⟩ : BufTy).Contents (Elt Ideal)) (ix2 0 h)

theorem blk0 (t : Fin cfg0.N) (r : Fin 512) (d : Fin 1024) : (iblk m c 0 t : Vec Ideal S512x1024 .f32) (ix2 r d) = fX m c (row (t.val / 16) (512 * (t.val % 16) + r.val)) d := by
  show (V m c main_arg0 : (⟨S32768x1024, .f32⟩ : BufTy).Contents (Elt Ideal)) ((win0_0.rect t).emb (ix2 r d)) = _
  rw [emb0, V_main_arg0]

theorem blk2 (t : Fin cfg0.N) (r : Fin 512) (h : Fin 8) : (iblk m c 2 t : Vec Ideal S512x128 .f32) (ix2 r (lane h)) = fD m c (row (t.val / 16) (512 * (t.val % 16) + r.val)) h := by
  show (V m c main_arg2 : (⟨S32768x128, .f32⟩ : BufTy).Contents (Elt Ideal)) ((win0_2.rect t).emb (ix2 r (lane h))) = _
  rw [emb2, V_main_arg2]

theorem blk3 (t : Fin cfg0.N) (a : Fin 4) (d : Fin 1024) : (iblk m c 3 t : Vec Ideal S4x1024 .f32) (ix2 a d) = fw m c a d := by
  show (V m c main_v0 : (⟨S4x1024, .f32⟩ : BufTy).Contents (Elt Ideal)) ((win0_3.rect t).emb (ix2 a d)) = _
  rw [emb3, V_v0]
  exact w_at _ _ _

theorem blk4 (t : Fin cfg0.N) (d : Fin 1024) : (iblk m c 4 t : Vec Ideal S1x1024 .f32) (ix2 0 d) = fβ m c d := by
  show (V m c main_arg4 : (⟨S1x1024, .f32⟩ : BufTy).Contents (Elt Ideal)) ((win0_4.rect t).emb (ix2 0 d)) = _
  rw [emb4, V_main_arg4]

theorem blk5 (t : Fin cfg0.N) (h : Fin 8) : (iblk m c 5 t : Vec Ideal S1x128 .f32) (ix2 0 (lane h)) = fδ m c h := by
  show (V m c main_v1 : (⟨S1x128, .f32⟩ : BufTy).Contents (Elt Ideal)) ((win0_5.rect t).emb (ix2 0 (lane h))) = _
  rw [emb5, V_v1]
  exact pad_at _ _

theorem blk6 (t : Fin cfg0.N) (h : Fin 8) : (iblk m c 6 t : Vec Ideal S1x128 .f32) (ix2 0 (lane h)) = fa m c h := by
  show (V m c main_v2 : (⟨S1x128, .f32⟩ : BufTy).Contents (Elt Ideal)) ((win0_6.rect t).emb (ix2 0 (lane h))) = _
  rw [emb6, V_v2]
  exact pad_at _ _

/-! ## From tile to tile -/

/-- The state of sequence `b` after `n` chunks, from the call's arguments. -/
abbrev stOf (b n : ℕ) (r : Fin 512) (k : Fin 128) : EReal := st (fX m c) (fD m c) (fw m c) (fβ m c) (fδ m c) (fa m c) b n r k

/-- What a grid point leaves: the state after its tile, and its last rows. -/
abbrev Left (t : Fin cfg0.N) : Prop :=
  (∀ (r : Fin 512) (n : Fin 128), ((outsAt0 m c t.val t.isLt).2.1 (ix3 0 r n) : EReal) = stOf m c (t.val / 16) (4 * (t.val % 16 + 1)) r n)
  ∧ ∀ (e : Fin 520) (k : Fin 1024), e.val < 8 → ((outsAt0 m c t.val t.isLt).2.2 (ix2 e k) : EReal) = tap (fX m c) (t.val / 16) (t.val % 16 + 1) e.val k

theorem left_first (t : Fin cfg0.N) (h0 : t.val % 16 = 0) : Left m c t := by
  constructor
  · intro r n
    rw [outsAt0_A m c t h0]
    dsimp only
    refine stateA (h0 := ?_) (h2 := ?_) (h3 := ?_) (h4 := ?_) (h5 := ?_) (h6 := ?_) (hj := h0) ..
    · exact blk0 m c t
    · exact blk2 m c t
    · exact blk3 m c t
    · exact blk4 m c t
    · exact blk5 m c t
    · exact blk6 m c t
  · intro e k he
    rw [outsAt0_A m c t h0]
    dsimp only
    refine leftA (h0 := ?_) (hj := h0) (he := he) ..
    · exact blk0 m c t

theorem left_next (t : Fin cfg0.N) (h0 : ¬t.val % 16 = 0)
    (hS : ∀ (r : Fin 512) (n : Fin 128), ((outsAt0 m c (t.val - 1) (Nat.lt_of_le_of_lt (Nat.sub_le _ _) t.isLt)).2.1 (ix3 0 r n) : EReal) = stOf m c (t.val / 16) (4 * (t.val % 16)) r n)
    (hx : ∀ (e : Fin 520) (k : Fin 1024), e.val < 8 → ((outsAt0 m c (t.val - 1) (Nat.lt_of_le_of_lt (Nat.sub_le _ _) t.isLt)).2.2 (ix2 e k) : EReal) = tap (fX m c) (t.val / 16) (t.val % 16) e.val k) :
    Left m c t := by
  constructor
  · intro r n
    rw [outsAt0_B m c t h0]
    dsimp only
    refine stateB (h0 := ?_) (h2 := ?_) (h3 := ?_) (h4 := ?_) (h5 := ?_) (h6 := ?_) (hS := hS) (hx := hx) ..
    · exact blk0 m c t
    · exact blk2 m c t
    · exact blk3 m c t
    · exact blk4 m c t
    · exact blk5 m c t
    · exact blk6 m c t
  · intro e k he
    rw [outsAt0_B m c t h0]
    dsimp only
    refine leftB (h0 := ?_) (he := he) ..
    · exact blk0 m c t

theorem left (n : ℕ) : ∀ (t : Fin cfg0.N), t.val = n → Left m c t := by
  induction n with
  | zero => exact fun t ht => left_first m c t (by omega)
  | succ n ih =>
    intro t ht
    by_cases h0 : t.val % 16 = 0
    · exact left_first m c t h0
    · obtain ⟨hS, hx⟩ := ih ⟨t.val - 1, Nat.lt_of_le_of_lt (Nat.sub_le _ _) t.isLt⟩ (by show t.val - 1 = n; omega)
      have e1 : (t.val - 1) / 16 = t.val / 16 := by omega
      have e2 : (t.val - 1) % 16 + 1 = t.val % 16 := by omega
      dsimp only at hS hx
      rw [e1, e2] at hS
      rw [e1, e2] at hx
      exact left_next m c t h0 hS hx

/-! ## The array after the run -/

/-- The state after the whole prompt, of every sequence. -/
abbrev wholeS : (⟨S4x512x128, .f32⟩ : BufTy).Contents (Elt Ideal) := fun i => stOf m c (i 0).val 64 (i 1) (i 2)

theorem flushed_s (t : Fin cfg0.N) (ht : t.val % 16 = 15) : (dats m 0 c).flushed 10 t = (win0_10.blk t).view.read (Elt Ideal) (wholeS m c) := by
  rw [Value.flushed10]
  refine funext fun (y : S1x512x128.Idx) => ?_
  show (outsAt0 m c t.val t.isLt).2.1 y = wholeS m c ((win0_10.rect t).emb y)
  obtain ⟨a, r, e, rfl⟩ : ∃ (a : Fin 1) (r : Fin 512) (e : Fin 128), y = ix3 a r e := ⟨y 0, y 1, y 2, eq_ix3 y⟩
  obtain rfl : a = 0 := Subsingleton.elim _ _
  rw [emb10]
  refine ((left m c _ t rfl).1 r e).trans ?_
  rw [ht]

theorem mem_s (t : Fin cfg0.N) (i : S4x512x128.Idx) (h : (i 0 : Nat) = t.val / 16) : i ∈ ((cfg0.win 10).blk t).view.set := by
  show i ∈ ((View.whole main_v5_1).slice (win0_10.rect t)).set
  rw [View.set_slice_whole, Rect.mem_set_unit]
  obtain ⟨e0, e1, e2⟩ := widx10 t
  obtain ⟨s0, s1, s2⟩ := xsz10 t
  have b0 : win0_10.index t 0 * win0_10.size 0 = t.val / 16 := by rw [e0]; exact Nat.mul_one _
  have b1 : win0_10.index t 1 * win0_10.size 1 = 0 := by rw [e1]; rfl
  have b2 : win0_10.index t 2 * win0_10.size 2 = 0 := by rw [e2]; rfl
  have h1 : (i 1 : Nat) < 512 := (i 1).isLt
  have h2 : (i 2 : Nat) < 128 := (i 2).isLt
  intro a
  match a with
  | ⟨0, _⟩ => show win0_10.index t 0 * win0_10.size 0 ≤ (i 0 : Nat) ∧ (i 0 : Nat) < win0_10.index t 0 * win0_10.size 0 + win0_10.xsize (grid0.coords t) 0
              rw [b0, s0]; omega
  | ⟨1, _⟩ => show win0_10.index t 1 * win0_10.size 1 ≤ (i 1 : Nat) ∧ (i 1 : Nat) < win0_10.index t 1 * win0_10.size 1 + win0_10.xsize (grid0.coords t) 1
              rw [b1, s1]; omega
  | ⟨2, _⟩ => show win0_10.index t 2 * win0_10.size 2 ≤ (i 2 : Nat) ∧ (i 2 : Nat) < win0_10.index t 2 * win0_10.size 2 + win0_10.xsize (grid0.coords t) 2
              rw [b2, s2]; omega

theorem cover_s (i : S4x512x128.Idx) : ∃ t : Fin cfg0.N, (cfg0.win 10).flush t = true ∧ i ∈ ((cfg0.win 10).blk t).view.set := by
  have h0 : (i 0 : Nat) < 4 := (i 0).isLt
  have hN : cfg0.N = 64 := by decide
  have ht : (i 0 : Nat) * 16 + 15 < cfg0.N := by omega
  refine ⟨⟨_, ht⟩, (flush0_10 _).mpr ?_, mem_s _ i ?_⟩
  · dsimp only
    omega
  · dsimp only
    omega

theorem final_s : (dats m 0 c).arrAt 10 cfg0.N = wholeS m c :=
  (dats m 0 c).arrAt_eq_of_cover 10 (wholeS m c) (fun t h => flushed_s m c t ((flush0_10 t).mp h)) cover_s

end Cert.Kernel7Ideal.Prompt

end
-- ==== Proof.PromptIn.lean ====
/-
  What the reference's scan over the prompt is given, element by element: the convolved inputs, the step sizes and the decay rates.
-/
module

public import proofs.«01_k».proof.Proof.PromptMath
public import proofs.«01_k».proof.Proof.Gen.Reference7Ideal.Step
public import Idealize.ShloMosaic.Lib.ValueIdxRank6
public import Idealize.ShloMosaic.Lib.Pipeline.Value
public import Idealize.ShloMosaic.Lib.IdealHost

@[expose] public section

set_option maxRecDepth 16384

noncomputable section

namespace Cert.Reference7Ideal.Prompt

open Cert.Reference7Ideal Cert.Reference7Ideal.Gen Cert.Reference7Ideal.Step Cert.Ssd Cert.Prompt
open Cert.Ffn (one)
open Idealize.ShloMosaic Idealize.ShloMosaic.TcCoe Idealize.ShloMosaic.ValueIdx

variable (x0 : (⟨S32768x1024, .f32⟩ : BufTy).Contents (Elt Ideal)) (x2 : (⟨S32768x128, .f32⟩ : BufTy).Contents (Elt Ideal))
  (x3 : (⟨S1x4x1024, .f32⟩ : BufTy).Contents (Elt Ideal)) (x4 : (⟨S1x1024, .f32⟩ : BufTy).Contents (Elt Ideal))
  (x5 x6 : (⟨S1x8, .f32⟩ : BufTy).Contents (Elt Ideal))

abbrev aX (i : Fin 32768) (d : Fin 1024) : EReal := x0 (ix2 i d)
abbrev aD (i : Fin 32768) (h : Fin 8) : EReal := x2 (ix2 i (⟨h.val, by omega⟩ : Fin 128))
abbrev aw (k : Fin 4) (d : Fin 1024) : EReal := x3 (ix3 0 k d)
abbrev aβ (d : Fin 1024) : EReal := x4 (ix2 0 d)
abbrev aδ (h : Fin 8) : EReal := x5 (ix2 0 h)

/-- The head of a group, and a head's row of the state. -/
def hd (g : Fin 2) (h : Fin 4) : Fin 8 := ⟨4 * g.val + h.val, by omega⟩
def rowOf (g : Fin 2) (h : Fin 4) (p : Fin 64) : Fin 512 := ⟨(4 * g.val + h.val) * 64 + p.val, by omega⟩
/-- A token of a chunk. -/
def tok (q : Fin 64) (s : Fin 128) : Fin 8192 := ⟨128 * q.val + s.val, by omega⟩

/-! ## The convolution -/

theorem v0_at (b : Fin 4) (t : Fin 8192) (d : Fin 1024) : (A_main_v0 (F := Ideal) x0 x2 x3 x4 x5 x6 (ix3 b t d) : EReal) = aX x0 (row b.val t.val) d := by
  unfold A_main_v0
  refine shapeCast_apply x0 _ _ (ix2 (row b.val t.val) d) ?_
  rw [Shape.rowMajor_val_two, Shape.rowMajor_val_three]
  show (8192 * b.val + t.val) % 32768 * 1024 + d.val = (b.val * 8192 + t.val) * 1024 + d.val
  omega

theorem off_mid {n : ℕ} (b : Fin 4) (k : Fin n) (k' : Fin 8195) (d : Fin 1024) :
    ∀ a : Fin 3, a ≠ 1 → ((ix3 b k d : (⟨3, ![4, n, 1024]⟩ : Shape).Idx) a).val = ((ix3 b k' d : S4x8195x1024.Idx) a).val := fun a ha => by
  match a, ha with
  | ⟨0, _⟩, _ => rfl
  | ⟨1, _⟩, ha => exact absurd rfl ha
  | ⟨2, _⟩, _ => rfl

theorem v2_at (b : Fin 4) (n : Fin 8195) (d : Fin 1024) : (A_main_v2 (F := Ideal) x0 x2 x3 x4 x5 x6 (ix3 b n d) : EReal) = xat (aX x0) b.val n.val d := by
  unfold A_main_v2 xat
  by_cases h : n.val < 3
  · rw [if_pos h]
    refine (concatenate_apply_piece (t := S4x8195x1024) 1 [⟨S4x3x1024, K_main_v1 (F := Ideal)⟩, ⟨S4x8192x1024, A_main_v0 (F := Ideal) x0 x2 x3 x4 x5 x6⟩] _ (ix3 b n d) 0 (show 0 < 2 by decide) S4x3x1024
      (K_main_v1 (F := Ideal)) rfl rfl 0 rfl (ix3 b (⟨n.val, h⟩ : Fin 3) d) (off_mid b _ n d) (Nat.zero_add _)).trans ?_
    exact Ideal.ofBits_zero_f32
  · rw [if_neg h]
    exact (concatenate_apply_piece (t := S4x8195x1024) 1 [⟨S4x3x1024, K_main_v1 (F := Ideal)⟩, ⟨S4x8192x1024, A_main_v0 (F := Ideal) x0 x2 x3 x4 x5 x6⟩] _ (ix3 b n d) 1 (show 1 < 2 by decide) S4x8192x1024
      (A_main_v0 (F := Ideal) x0 x2 x3 x4 x5 x6) rfl rfl 3 rfl (ix3 b (⟨n.val - 3, by omega⟩ : Fin 8192) d) (off_mid b _ n d) (by show 3 + (n.val - 3) = n.val; omega)).trans (v0_at _ _ _ _ _ _ b _ d)

theorem shift_at (k : ℕ) (hk : k < 4) (hs : S4x8195x1024.Slices ![0, k, 0] S4x8192x1024) (b : Fin 4) (t : Fin 8192) (d : Fin 1024) :
    (extractStridedSlice S4x8192x1024 ![0, k, 0] (A_main_v2 (F := Ideal) x0 x2 x3 x4 x5 x6) hs (ix3 b t d) : EReal) = xat (aX x0) b.val (t.val + k) d :=
  (extractStridedSlice_apply _ _ hs (ix3 b t d) (ix3 b (⟨t.val + k, by omega⟩ : Fin 8195) d) (fun a => match a with
    | ⟨0, _⟩ => (Nat.zero_add _).symm
    | ⟨1, _⟩ => Nat.add_comm _ _
    | ⟨2, _⟩ => (Nat.zero_add _).symm)).trans (v2_at _ _ _ _ _ _ b _ d)

/-- A row of channels, the same at every token. -/
theorem chan_at (y : (⟨S1024, .f32⟩ : BufTy).Contents (Elt Ideal)) (b : Fin 4) (t : Fin 8192) (d : Fin 1024) :
    (broadcastInDim S4x8192x1024 ![0, 1, 2] bcast_S1x1x1024_S4x8192x1024_0_1_2 (broadcastInDim S1x1x1024 ![2] bcast_S1024_S1x1x1024_2 y) (ix3 b t d) : EReal) = y (ix1 d) := by
  refine (broadcastInDim_apply _ _ _ (ix3 b t d) (ix3 0 0 d) (fun a => match a with
    | ⟨0, _⟩ => by show 0 = if (1 : ℕ) = 1 then 0 else b.val; rw [if_pos rfl]
    | ⟨1, _⟩ => by show 0 = if (1 : ℕ) = 1 then 0 else t.val; rw [if_pos rfl]
    | ⟨2, _⟩ => by show d.val = if (1024 : ℕ) = 1 then 0 else d.val; rw [if_neg (by decide)])).trans ?_
  exact broadcastInDim_apply _ _ y (ix3 0 0 d) (ix1 d) (fun a => match a with
    | ⟨0, _⟩ => by show d.val = if (1024 : ℕ) = 1 then 0 else d.val; rw [if_neg (by decide)])

theorem flat_at (y : (⟨S1x1024, .f32⟩ : BufTy).Contents (Elt Ideal)) (d : Fin 1024) : (shapeCast S1024 y shapeCasts_S1x1024_S1024 (ix1 d) : EReal) = y (ix2 0 d) :=
  shapeCast_apply y _ _ _ (by
    rw [Shape.rowMajor_val_two, Shape.rowMajor_val_one]
    show 0 * 1024 + d.val = d.val
    omega)

theorem wgt_at (k : ℕ) (hk : k < 4) (hs : S4x1024.Slices ![k, 0] S1x1024) (d : Fin 1024) :
    (shapeCast S1024 (extractStridedSlice S1x1024 ![k, 0] (A_main_v3 (F := Ideal) x0 x2 x3 x4 x5 x6) hs) shapeCasts_S1x1024_S1024 (ix1 d) : EReal) = aw x3 ⟨k, hk⟩ d := by
  rw [flat_at]
  refine (extractStridedSlice_apply _ _ hs (ix2 0 d) (ix2 (⟨k, hk⟩ : Fin 4) d) (fun a => match a with
    | ⟨0, _⟩ => rfl
    | ⟨1, _⟩ => (Nat.zero_add _).symm)).trans ?_
  unfold A_main_v3
  refine shapeCast_apply x3 _ _ (ix3 0 (⟨k, hk⟩ : Fin 4) d) ?_
  rw [Shape.rowMajor_val_three, Shape.rowMajor_val_two]
  show (0 * 4 + k) * 1024 + d.val = k * 1024 + d.val
  omega

theorem v34_at (b : Fin 4) (t : Fin 8192) (d : Fin 1024) : (A_main_v34 (F := Ideal) x0 x2 x3 x4 x5 x6 (ix3 b t d) : EReal)
    = aβ x4 d + aw x3 0 d * xat (aX x0) b.val (t.val + 0) d + aw x3 1 d * xat (aX x0) b.val (t.val + 1) d + aw x3 2 d * xat (aX x0) b.val (t.val + 2) d
      + aw x3 3 d * xat (aX x0) b.val (t.val + 3) d := by
  have e0 : (A_main_v10 (F := Ideal) x0 x2 x3 x4 x5 x6 (ix3 b t d) : EReal) = aw x3 0 d * xat (aX x0) b.val (t.val + 0) d :=
    congrArg₂ (fun p q : EReal => p * q) ((chan_at _ b t d).trans (wgt_at x0 x2 x3 x4 x5 x6 0 (by decide) _ d)) (shift_at x0 x2 x3 x4 x5 x6 0 (by decide) _ b t d)
  have e1 : (A_main_v19 (F := Ideal) x0 x2 x3 x4 x5 x6 (ix3 b t d) : EReal) = aw x3 1 d * xat (aX x0) b.val (t.val + 1) d :=
    congrArg₂ (fun p q : EReal => p * q) ((chan_at _ b t d).trans (wgt_at x0 x2 x3 x4 x5 x6 1 (by decide) _ d)) (shift_at x0 x2 x3 x4 x5 x6 1 (by decide) _ b t d)
  have e2 : (A_main_v26 (F := Ideal) x0 x2 x3 x4 x5 x6 (ix3 b t d) : EReal) = aw x3 2 d * xat (aX x0) b.val (t.val + 2) d :=
    congrArg₂ (fun p q : EReal => p * q) ((chan_at _ b t d).trans (wgt_at x0 x2 x3 x4 x5 x6 2 (by decide) _ d)) (shift_at x0 x2 x3 x4 x5 x6 2 (by decide) _ b t d)
  have e3 : (A_main_v33 (F := Ideal) x0 x2 x3 x4 x5 x6 (ix3 b t d) : EReal) = aw x3 3 d * xat (aX x0) b.val (t.val + 3) d :=
    congrArg₂ (fun p q : EReal => p * q) ((chan_at _ b t d).trans (wgt_at x0 x2 x3 x4 x5 x6 3 (by decide) _ d)) (shift_at x0 x2 x3 x4 x5 x6 3 (by decide) _ b t d)
  have eb : (A_main_v12 (F := Ideal) x0 x2 x3 x4 x5 x6 (ix3 b t d) : EReal) = aβ x4 d := (chan_at _ b t d).trans (flat_at x4 d)
  show ((((A_main_v12 (F := Ideal) x0 x2 x3 x4 x5 x6 (ix3 b t d) : EReal) + A_main_v10 (F := Ideal) x0 x2 x3 x4 x5 x6 (ix3 b t d)) + A_main_v19 (F := Ideal) x0 x2 x3 x4 x5 x6 (ix3 b t d)) + A_main_v26 (F := Ideal) x0 x2 x3 x4 x5 x6 (ix3 b t d))
    + A_main_v33 (F := Ideal) x0 x2 x3 x4 x5 x6 (ix3 b t d) = _
  rw [e0, e1, e2, e3, eb]

theorem v35_at (b : Fin 4) (t : Fin 8192) (d : Fin 1024) : (A_main_v35 (F := Ideal) x0 x2 x3 x4 x5 x6 (ix3 b t d) : EReal) = u (aX x0) (aw x3) (aβ x4) b.val t.val d := by
  show silu (A_main_v34 (F := Ideal) x0 x2 x3 x4 x5 x6 (ix3 b t d)) = _
  rw [v34_at]
  unfold u
  refine congrArg silu ?_
  rw [Nat.add_zero]
  abel

/-! ## The step sizes and the decay rates -/

theorem select_une (x a b : EReal) : Scalar.select (Ideal.cmp .une x x) a b = b := by simp [Scalar.select, Ideal.cmp]

theorem v46_at (b : Fin 4) (t : Fin 8192) (h : Fin 8) : (A_main_v46 (F := Ideal) x0 x2 x3 x4 x5 x6 (ix3 b t h) : EReal) = aD x2 (row b.val t.val) h + aδ x5 h := by
  refine congrArg₂ (fun p q : EReal => p + q) ?_ ?_
  · unfold A_main_v42 A_main_v41
    refine (shapeCast_apply _ _ _ (ix2 (row b.val t.val) h) (by
      rw [Shape.rowMajor_val_two, Shape.rowMajor_val_three]
      show (8192 * b.val + t.val) % 32768 * 8 + h.val = (b.val * 8192 + t.val) * 8 + h.val
      omega)).trans ?_
    exact extractStridedSlice_apply _ x2 _ _ (ix2 (row b.val t.val) (⟨h.val, by omega⟩ : Fin 128)) (fun a => match a with
      | ⟨0, _⟩ => (Nat.zero_add _).symm
      | ⟨1, _⟩ => (Nat.zero_add _).symm)
  · unfold A_main_v45 A_main_v44 A_main_v43
    refine (broadcastInDim_apply _ _ _ (ix3 b t h) (ix3 0 0 h) (fun a => match a with
      | ⟨0, _⟩ => by show 0 = if (1 : ℕ) = 1 then 0 else b.val; rw [if_pos rfl]
      | ⟨1, _⟩ => by show 0 = if (1 : ℕ) = 1 then 0 else t.val; rw [if_pos rfl]
      | ⟨2, _⟩ => by show h.val = if (8 : ℕ) = 1 then 0 else h.val; rw [if_neg (by decide)])).trans ?_
    refine (broadcastInDim_apply _ _ _ (ix3 0 0 h) (ix1 h) (fun a => match a with
      | ⟨0, _⟩ => by show h.val = if (8 : ℕ) = 1 then 0 else h.val; rw [if_neg (by decide)])).trans ?_
    exact shapeCast_apply x5 _ _ (ix2 0 h) (by
      rw [Shape.rowMajor_val_two, Shape.rowMajor_val_one]
      show 0 * 8 + h.val = h.val
      omega)

theorem v47_at (b : Fin 4) (t : Fin 8192) (h : Fin 8) : (A_main_v47 (F := Ideal) x0 x2 x3 x4 x5 x6 (ix3 b t h) : EReal) = dt (aD x2) (aδ x5) b.val t.val h := by
  unfold dt
  rw [← v46_at x0 x2 x3 x4 x5 x6]
  refine (select_une ((A_main_v46 (F := Ideal) x0 x2 x3 x4 x5 x6 (ix3 b t h) : EReal) - Ideal.ofBits .f32 0x00000000#32) _ _).trans ?_
  have e : ∀ y : EReal, max y (Ideal.ofBits .f32 0x00000000#32)
      + Ideal.log1p (Ideal.exp (-(max (y - Ideal.ofBits .f32 0x00000000#32) (-(y - Ideal.ofBits .f32 0x00000000#32))))) = soft y := fun y => by
    rw [Ideal.ofBits_zero_f32, sub_zero]
    rfl
  exact e (A_main_v46 (F := Ideal) x0 x2 x3 x4 x5 x6 (ix3 b t h))

theorem v52_at (g : Fin 2) (h : Fin 4) : (A_main_v52 (F := Ideal) x0 x2 x3 x4 x5 x6 (ix2 g h) : EReal) = -(Ideal.exp (x6 (ix2 0 (hd g h)))) := by
  have e : (A_main_v51 (F := Ideal) x0 x2 x3 x4 x5 x6 (ix2 g h) : EReal) = Ideal.exp (x6 (ix2 0 (hd g h))) := by
    unfold A_main_v51
    refine (shapeCast_apply _ _ _ (ix1 (hd g h)) (by
      rw [Shape.rowMajor_val_two, Shape.rowMajor_val_one]
      show 4 * g.val + h.val = g.val * 4 + h.val
      omega)).trans ?_
    refine congrArg Ideal.exp ?_
    unfold A_main_v49
    exact shapeCast_apply x6 _ _ (ix2 0 (hd g h)) (by
      rw [Shape.rowMajor_val_two, Shape.rowMajor_val_one]
      show 0 * 8 + (hd g h).val = (hd g h).val
      omega)
  exact congrArg (fun z : EReal => -z) e

/-! ## Chunk by chunk -/

theorem v55_at (q : Fin 64) (b : Fin 4) (s : Fin 128) (g : Fin 2) (h : Fin 4) (p : Fin 64) :
    (A_main_v55 (F := Ideal) x0 x2 x3 x4 x5 x6 (ix6 q b s g h p) : EReal) = u (aX x0) (aw x3) (aβ x4) b.val (128 * q.val + s.val) (chan (rowOf g h p)) := by
  unfold A_main_v55 A_main_v54 A_main_v39 A_main_v36
  refine (transpose_apply _ _ _ (ix6 q b s g h p) (ix6 b q s g h p) (fun a => match a with
    | ⟨0, _⟩ => rfl | ⟨1, _⟩ => rfl | ⟨2, _⟩ => rfl | ⟨3, _⟩ => rfl | ⟨4, _⟩ => rfl | ⟨5, _⟩ => rfl)).trans ?_
  refine (shapeCast_apply _ _ _ (ix5 b (tok q s) g h p) (by
    rw [Shape.rowMajor_val_five, Shape.rowMajor_val_six]
    show (((b.val * 8192 + (128 * q.val + s.val)) * 2 + g.val) * 4 + h.val) * 64 + p.val = ((((b.val * 64 + q.val) * 128 + s.val) * 2 + g.val) * 4 + h.val) * 64 + p.val
    omega)).trans ?_
  refine (shapeCast_apply _ _ _ (ix3 b (tok q s) (rowOf g h p)) (by
    rw [Shape.rowMajor_val_five, Shape.rowMajor_val_three]
    show (b.val * 8192 + (128 * q.val + s.val)) * 512 + ((4 * g.val + h.val) * 64 + p.val) = (((b.val * 8192 + (128 * q.val + s.val)) * 2 + g.val) * 4 + h.val) * 64 + p.val
    omega)).trans ?_
  exact (extractStridedSlice_apply _ _ _ _ (ix3 b (tok q s) (chan (rowOf g h p))) (fun a => match a with
    | ⟨0, _⟩ => (Nat.zero_add _).symm
    | ⟨1, _⟩ => (Nat.zero_add _).symm
    | ⟨2, _⟩ => (Nat.zero_add _).symm)).trans (v35_at x0 x2 x3 x4 x5 x6 b (tok q s) _)

theorem v57_at (q : Fin 64) (b : Fin 4) (s : Fin 128) (g : Fin 2) (h : Fin 4) :
    (A_main_v57 (F := Ideal) x0 x2 x3 x4 x5 x6 (ix5 q b s g h) : EReal) = dt (aD x2) (aδ x5) b.val (128 * q.val + s.val) (hd g h) := by
  unfold A_main_v57 A_main_v56 A_main_v48
  refine (transpose_apply _ _ _ (ix5 q b s g h) (ix5 b q s g h) (fun a => match a with
    | ⟨0, _⟩ => rfl | ⟨1, _⟩ => rfl | ⟨2, _⟩ => rfl | ⟨3, _⟩ => rfl | ⟨4, _⟩ => rfl)).trans ?_
  refine (shapeCast_apply _ _ _ (ix4 b (tok q s) g h) (by
    rw [Shape.rowMajor_val_four, Shape.rowMajor_val_five]
    show ((b.val * 8192 + (128 * q.val + s.val)) * 2 + g.val) * 4 + h.val = (((b.val * 64 + q.val) * 128 + s.val) * 2 + g.val) * 4 + h.val
    omega)).trans ?_
  exact (shapeCast_apply _ _ _ (ix3 b (tok q s) (hd g h)) (by
    rw [Shape.rowMajor_val_four, Shape.rowMajor_val_three]
    show (b.val * 8192 + (128 * q.val + s.val)) * 8 + (4 * g.val + h.val) = ((b.val * 8192 + (128 * q.val + s.val)) * 2 + g.val) * 4 + h.val
    omega)).trans (v47_at x0 x2 x3 x4 x5 x6 b (tok q s) _)

theorem v59_at (q : Fin 64) (b : Fin 4) (s : Fin 128) (g : Fin 2) (n : Fin 128) :
    (A_main_v59 (F := Ideal) x0 x2 x3 x4 x5 x6 (ix5 q b s g n) : EReal) = u (aX x0) (aw x3) (aβ x4) b.val (128 * q.val + s.val) ⟨512 + 128 * g.val + n.val, by omega⟩ := by
  unfold A_main_v59 A_main_v58 A_main_v40 A_main_v37
  refine (transpose_apply _ _ _ (ix5 q b s g n) (ix5 b q s g n) (fun a => match a with
    | ⟨0, _⟩ => rfl | ⟨1, _⟩ => rfl | ⟨2, _⟩ => rfl | ⟨3, _⟩ => rfl | ⟨4, _⟩ => rfl)).trans ?_
  refine (shapeCast_apply _ _ _ (ix4 b (tok q s) g n) (by
    rw [Shape.rowMajor_val_four, Shape.rowMajor_val_five]
    show ((b.val * 8192 + (128 * q.val + s.val)) * 2 + g.val) * 128 + n.val = (((b.val * 64 + q.val) * 128 + s.val) * 2 + g.val) * 128 + n.val
    omega)).trans ?_
  refine (shapeCast_apply _ _ _ (ix3 b (tok q s) (⟨128 * g.val + n.val, by omega⟩ : Fin 256)) (by
    rw [Shape.rowMajor_val_four, Shape.rowMajor_val_three]
    show (b.val * 8192 + (128 * q.val + s.val)) * 256 + (128 * g.val + n.val) = ((b.val * 8192 + (128 * q.val + s.val)) * 2 + g.val) * 128 + n.val
    omega)).trans ?_
  exact (extractStridedSlice_apply _ _ _ _ (ix3 b (tok q s) (⟨512 + 128 * g.val + n.val, by omega⟩ : Fin 1024)) (fun a => match a with
    | ⟨0, _⟩ => (Nat.zero_add _).symm
    | ⟨1, _⟩ => (Nat.zero_add _).symm
    | ⟨2, _⟩ => Nat.add_assoc _ _ _)).trans (v35_at x0 x2 x3 x4 x5 x6 b (tok q s) _)

end Cert.Reference7Ideal.Prompt

end
-- ==== Proof.PromptScan.lean ====
/-
  One trip of the reference's scan over the prompt, element by element, and the state after the scan.
-/
module

public import proofs.«01_k».proof.Proof.PromptIn
public import Idealize.ShloMosaic.Lib.WordCmp

@[expose] public section

set_option maxRecDepth 16384

noncomputable section

namespace Cert.Reference7Ideal.Prompt

open Cert.Reference7Ideal Cert.Reference7Ideal.Gen Cert.Reference7Ideal.Step Cert.Ssd Cert.Prompt
open Idealize.ShloMosaic Idealize.ShloMosaic.TcCoe Idealize.ShloMosaic.ValueIdx Idealize.ShloMosaic.WordCmp

/-! ## A running sum -/

theorem foldl_add {α : Type} (f : α → EReal) : ∀ (l : List α) (v : EReal), l.foldl (fun r k => r + f k) v = v + (l.map f).sum
  | [], v => by simp
  | k :: l, v => by rw [List.foldl_cons, foldl_add f l, List.map_cons, List.sum_cons, add_assoc]

theorem foldl_sum {n : ℕ} (f : Fin n → EReal) (v : EReal) : (List.finRange n).foldl (fun r k => r + f k) v = v + ∑ k, f k := by
  rw [foldl_add, Fin.sum_univ_def]

/-- The window's positions: only its second axis has more than one. -/
def along : (⟨4, ![1, 128, 1, 1]⟩ : Shape).Idx ≃ Fin 128 where
  toFun p := p 1
  invFun k := ix4 0 k 0 0
  left_inv p := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv _ := rfl

/-- The element a window that ends at `s` has at its position `k`. -/
def back (s k : Fin 128) : Fin 128 := ⟨s.val + k.val - 127, by omega⟩

theorem sum_back (f : Fin 128 → EReal) (s : Fin 128) : (∑ k : Fin 128, if 127 ≤ s.val + k.val then f (back s k) else 0) = ∑ k : Fin 128, if k.val ≤ s.val then f k else 0 := by
  rw [← Finset.sum_filter, ← Finset.sum_filter]
  refine Finset.sum_nbij' (fun k => back s k) (fun k => ⟨(k.val + 127 - s.val) % 128, Nat.mod_lt _ (by decide)⟩) ?_ ?_ ?_ ?_ (fun _ _ => rfl)
  · intro k hk
    rw [Finset.mem_filter] at hk ⊢
    exact ⟨Finset.mem_univ _, by show s.val + k.val - 127 ≤ s.val; omega⟩
  · intro k hk
    rw [Finset.mem_filter] at hk ⊢
    exact ⟨Finset.mem_univ _, by have := hk.2; show 127 ≤ s.val + (k.val + 127 - s.val) % 128; omega⟩
  · intro k hk
    rw [Finset.mem_filter] at hk
    exact Fin.ext (by have := hk.2; show (s.val + k.val - 127 + 127 - s.val) % 128 = k.val; omega)
  · intro k hk
    rw [Finset.mem_filter] at hk
    exact Fin.ext (by have := hk.2; show s.val + (k.val + 127 - s.val) % 128 - 127 = k.val; omega)

theorem run_at (y : FVec Ideal S4x128x2x4 .f32) (z : FVec Ideal S_ .f32) (hz : z (Shape.Idx.first h_S_) = (0 : EReal)) (b : Fin 4) (s : Fin 128) (g : Fin 2) (h : Fin 4) :
    (Host.reduceWindowAdd ![1, 128, 1, 1] ![1, 1, 1, 1] ![0, 127, 0, 0] ![0, 0, 0, 0] y z reduceWindows_S4x128x2x4_S4x128x2x4_w1s1p0_0_w128s1p127_0_w1s1p0_0_w1s1p0_0 h_S_ (ix4 b s g h) : EReal)
      = ∑ k : Fin 128, if k.val ≤ s.val then y (ix4 b k g h) else 0 := by
  unfold Host.reduceWindowAdd
  rw [hz, Ideal.hostReduceWindowAdd_def]
  unfold Ideal.hostReduceWindowAdd Host.reduceWindow
  refine (foldl_sum _ _).trans ((zero_add _).trans ?_)
  rw [← sum_back (fun k => y (ix4 b k g h)) s, ← Equiv.sum_comp along, ← Equiv.sum_comp ((⟨4, ![1, 128, 1, 1]⟩ : Shape).rowMajor.symm)]
  refine Finset.sum_congr rfl fun n _ => ?_
  dsimp only
  have p0 : (((⟨4, ![1, 128, 1, 1]⟩ : Shape).rowMajor.symm n) 0).val < 1 := (((⟨4, ![1, 128, 1, 1]⟩ : Shape).rowMajor.symm n) 0).isLt
  have p1 : (((⟨4, ![1, 128, 1, 1]⟩ : Shape).rowMajor.symm n) 1).val < 128 := (((⟨4, ![1, 128, 1, 1]⟩ : Shape).rowMajor.symm n) 1).isLt
  have p2 : (((⟨4, ![1, 128, 1, 1]⟩ : Shape).rowMajor.symm n) 2).val < 1 := (((⟨4, ![1, 128, 1, 1]⟩ : Shape).rowMajor.symm n) 2).isLt
  have p3 : (((⟨4, ![1, 128, 1, 1]⟩ : Shape).rowMajor.symm n) 3).val < 1 := (((⟨4, ![1, 128, 1, 1]⟩ : Shape).rowMajor.symm n) 3).isLt
  by_cases hp : 127 ≤ s.val + (((⟨4, ![1, 128, 1, 1]⟩ : Shape).rowMajor.symm n) 1).val
  · refine (dif_pos (fun a => ?_)).trans ((congrArg y (funext fun a => Fin.ext ?_)).trans (if_pos hp).symm)
    · match a with
      | ⟨0, _⟩ => show 0 ≤ b.val * 1 + (((⟨4, ![1, 128, 1, 1]⟩ : Shape).rowMajor.symm n) 0).val ∧ b.val * 1 + (((⟨4, ![1, 128, 1, 1]⟩ : Shape).rowMajor.symm n) 0).val - 0 < 4; omega
      | ⟨1, _⟩ => show 127 ≤ s.val * 1 + (((⟨4, ![1, 128, 1, 1]⟩ : Shape).rowMajor.symm n) 1).val ∧ s.val * 1 + (((⟨4, ![1, 128, 1, 1]⟩ : Shape).rowMajor.symm n) 1).val - 127 < 128; omega
      | ⟨2, _⟩ => show 0 ≤ g.val * 1 + (((⟨4, ![1, 128, 1, 1]⟩ : Shape).rowMajor.symm n) 2).val ∧ g.val * 1 + (((⟨4, ![1, 128, 1, 1]⟩ : Shape).rowMajor.symm n) 2).val - 0 < 2; omega
      | ⟨3, _⟩ => show 0 ≤ h.val * 1 + (((⟨4, ![1, 128, 1, 1]⟩ : Shape).rowMajor.symm n) 3).val ∧ h.val * 1 + (((⟨4, ![1, 128, 1, 1]⟩ : Shape).rowMajor.symm n) 3).val - 0 < 4; omega
    · match a with
      | ⟨0, _⟩ => show b.val * 1 + (((⟨4, ![1, 128, 1, 1]⟩ : Shape).rowMajor.symm n) 0).val - 0 = b.val; omega
      | ⟨1, _⟩ => show s.val * 1 + (((⟨4, ![1, 128, 1, 1]⟩ : Shape).rowMajor.symm n) 1).val - 127 = s.val + (((⟨4, ![1, 128, 1, 1]⟩ : Shape).rowMajor.symm n) 1).val - 127; omega
      | ⟨2, _⟩ => show g.val * 1 + (((⟨4, ![1, 128, 1, 1]⟩ : Shape).rowMajor.symm n) 2).val - 0 = g.val; omega
      | ⟨3, _⟩ => show h.val * 1 + (((⟨4, ![1, 128, 1, 1]⟩ : Shape).rowMajor.symm n) 3).val - 0 = h.val; omega
  · refine (dif_neg (fun hin => hp ?_)).trans (if_neg hp).symm
    have h1 : 127 ≤ s.val * 1 + (((⟨4, ![1, 128, 1, 1]⟩ : Shape).rowMajor.symm n) 1).val := (hin 1).1
    omega

/-! ## One trip -/

theorem toInt_small (n : ℕ) (h : n < 64) : (BitVec.ofNat 32 n).toInt = n := by
  rw [BitVec.toInt_eq_toNat_of_lt (by rw [BitVec.toNat_ofNat]; omega), BitVec.toNat_ofNat, Nat.mod_eq_of_lt (by omega)]

section
variable (σ : State Ideal) (q : Fin 64)

theorem b6_at (b : Fin 4) (s : Fin 128) (g : Fin 2) (h : Fin 4) (p : Fin 64) : (b6 q.val σ (ix5 b s g h p) : EReal) = σ.main_v60_0 (ix6 q b s g h p) := by
  unfold b6 b5
  rw [dynamicSlice_eq_extract S1x4x128x2x4x64 σ.main_v60_0 _ _ (![q.val, 0, 0, 0, 0, 0] : Fin 6 → ℕ) ⟨rfl, fun a => by
    match a with
    | ⟨0, _⟩ => show q.val + 1 ≤ 64; omega
    | ⟨1, _⟩ => exact Nat.le_refl _
    | ⟨2, _⟩ => exact Nat.le_refl _
    | ⟨3, _⟩ => exact Nat.le_refl _
    | ⟨4, _⟩ => exact Nat.le_refl _
    | ⟨5, _⟩ => exact Nat.le_refl _⟩ (fun a => by
    match a with
    | ⟨0, _⟩ => exact toInt_small q.val q.isLt
    | ⟨1, _⟩ => rfl
    | ⟨2, _⟩ => rfl
    | ⟨3, _⟩ => rfl
    | ⟨4, _⟩ => rfl
    | ⟨5, _⟩ => rfl)]
  refine (shapeCast_apply _ _ _ (ix6 0 b s g h p) (by
    rw [Shape.rowMajor_val_five, Shape.rowMajor_val_six]
    show ((((0 * 4 + b.val) * 128 + s.val) * 2 + g.val) * 4 + h.val) * 64 + p.val = (((b.val * 128 + s.val) * 2 + g.val) * 4 + h.val) * 64 + p.val
    omega)).trans ?_
  exact extractStridedSlice_apply _ _ _ _ (ix6 q b s g h p) (fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm
    | ⟨5, _⟩ => (Nat.zero_add _).symm)

theorem b12_at (b : Fin 4) (s : Fin 128) (g : Fin 2) (h : Fin 4) : (b12 q.val σ (ix4 b s g h) : EReal) = σ.main_v60_1 (ix5 q b s g h) := by
  unfold b12 b11
  rw [dynamicSlice_eq_extract S1x4x128x2x4 σ.main_v60_1 _ _ (![q.val, 0, 0, 0, 0] : Fin 5 → ℕ) ⟨rfl, fun a => by
    match a with
    | ⟨0, _⟩ => show q.val + 1 ≤ 64; omega
    | ⟨1, _⟩ => exact Nat.le_refl _
    | ⟨2, _⟩ => exact Nat.le_refl _
    | ⟨3, _⟩ => exact Nat.le_refl _
    | ⟨4, _⟩ => exact Nat.le_refl _⟩ (fun a => by
    match a with
    | ⟨0, _⟩ => exact toInt_small q.val q.isLt
    | ⟨1, _⟩ => rfl
    | ⟨2, _⟩ => rfl
    | ⟨3, _⟩ => rfl
    | ⟨4, _⟩ => rfl)]
  refine (shapeCast_apply _ _ _ (ix5 0 b s g h) (by
    rw [Shape.rowMajor_val_five, Shape.rowMajor_val_four]
    show (((0 * 4 + b.val) * 128 + s.val) * 2 + g.val) * 4 + h.val = ((b.val * 128 + s.val) * 2 + g.val) * 4 + h.val
    omega)).trans ?_
  exact extractStridedSlice_apply _ _ _ _ (ix5 q b s g h) (fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm)

theorem b18_at (b : Fin 4) (s : Fin 128) (g : Fin 2) (h : Fin 128) : (b18 q.val σ (ix4 b s g h) : EReal) = σ.main_v60_2 (ix5 q b s g h) := by
  unfold b18 b17
  rw [dynamicSlice_eq_extract S1x4x128x2x128 σ.main_v60_2 _ _ (![q.val, 0, 0, 0, 0] : Fin 5 → ℕ) ⟨rfl, fun a => by
    match a with
    | ⟨0, _⟩ => show q.val + 1 ≤ 64; omega
    | ⟨1, _⟩ => exact Nat.le_refl _
    | ⟨2, _⟩ => exact Nat.le_refl _
    | ⟨3, _⟩ => exact Nat.le_refl _
    | ⟨4, _⟩ => exact Nat.le_refl _⟩ (fun a => by
    match a with
    | ⟨0, _⟩ => exact toInt_small q.val q.isLt
    | ⟨1, _⟩ => rfl
    | ⟨2, _⟩ => rfl
    | ⟨3, _⟩ => rfl
    | ⟨4, _⟩ => rfl)]
  refine (shapeCast_apply _ _ _ (ix5 0 b s g h) (by
    rw [Shape.rowMajor_val_five, Shape.rowMajor_val_four]
    show (((0 * 4 + b.val) * 128 + s.val) * 2 + g.val) * 128 + h.val = ((b.val * 128 + s.val) * 2 + g.val) * 128 + h.val
    omega)).trans ?_
  exact extractStridedSlice_apply _ _ _ _ (ix5 q b s g h) (fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm)

theorem b20_at (b : Fin 4) (s : Fin 128) (g : Fin 2) (h : Fin 4) : (b20 q.val σ (ix4 b s g h) : EReal) = σ.main_v60_3 (ix2 g h) := by
  unfold b20 b19
  refine (broadcastInDim_apply _ _ _ (ix4 b s g h) (ix4 0 0 g h) (fun a => match a with
    | ⟨0, _⟩ => by show 0 = if (1 : ℕ) = 1 then 0 else b.val; rw [if_pos rfl]
    | ⟨1, _⟩ => by show 0 = if (1 : ℕ) = 1 then 0 else s.val; rw [if_pos rfl]
    | ⟨2, _⟩ => by show g.val = if (2 : ℕ) = 1 then 0 else g.val; rw [if_neg (by decide)]
    | ⟨3, _⟩ => by show h.val = if (4 : ℕ) = 1 then 0 else h.val; rw [if_neg (by decide)])).trans ?_
  exact broadcastInDim_apply _ _ _ (ix4 0 0 g h) (ix2 g h) (fun a => match a with
    | ⟨0, _⟩ => by show g.val = if (2 : ℕ) = 1 then 0 else g.val; rw [if_neg (by decide)]
    | ⟨1, _⟩ => by show h.val = if (4 : ℕ) = 1 then 0 else h.val; rw [if_neg (by decide)])

theorem b24_at (b : Fin 4) (s : Fin 128) (g : Fin 2) (h : Fin 4) :
    (b24 q.val σ (ix4 b s g h) : EReal) = ∑ k : Fin 128, if k.val ≤ s.val then (σ.main_v60_1 (ix5 q b k g h) : EReal) * σ.main_v60_3 (ix2 g h) else 0 := by
  unfold b24
  refine (run_at _ _ Ideal.ofBits_zero_f32 b s g h).trans (Finset.sum_congr rfl fun k _ => ?_)
  refine congrArg (fun z : EReal => if k.val ≤ s.val then z else 0) ?_
  exact congrArg₂ (fun p r : EReal => p * r) (b12_at σ q b k g h) (b20_at σ q b k g h)

theorem b26_at (b : Fin 4) (g : Fin 2) (h : Fin 4) : (b26 q.val σ (ix3 b g h) : EReal) = b24 q.val σ (ix4 b 127 g h) := by
  unfold b26 b25
  refine (shapeCast_apply _ _ _ (ix4 b 0 g h) (by
    rw [Shape.rowMajor_val_four, Shape.rowMajor_val_three]
    show ((b.val * 1 + 0) * 2 + g.val) * 4 + h.val = (b.val * 2 + g.val) * 4 + h.val
    omega)).trans ?_
  exact extractStridedSlice_apply _ _ _ _ (ix4 b 127 g h) (fun a => match a with
    | ⟨0, _⟩ => (Nat.zero_add _).symm
    | ⟨1, _⟩ => rfl
    | ⟨2, _⟩ => (Nat.zero_add _).symm
    | ⟨3, _⟩ => (Nat.zero_add _).symm)

theorem b28_at (b : Fin 4) (s : Fin 128) (g : Fin 2) (h : Fin 4) : (b28 q.val σ (ix4 b s g h) : EReal) = b24 q.val σ (ix4 b 127 g h) := by
  unfold b28 b27
  refine (broadcastInDim_apply _ _ _ (ix4 b s g h) (ix4 b 0 g h) (fun a => match a with
    | ⟨0, _⟩ => by show b.val = if (4 : ℕ) = 1 then 0 else b.val; rw [if_neg (by decide)]
    | ⟨1, _⟩ => by show 0 = if (1 : ℕ) = 1 then 0 else s.val; rw [if_pos rfl]
    | ⟨2, _⟩ => by show g.val = if (2 : ℕ) = 1 then 0 else g.val; rw [if_neg (by decide)]
    | ⟨3, _⟩ => by show h.val = if (4 : ℕ) = 1 then 0 else h.val; rw [if_neg (by decide)])).trans ?_
  exact (broadcastInDim_apply _ _ _ (ix4 b 0 g h) (ix3 b g h) (fun a => match a with
    | ⟨0, _⟩ => by show b.val = if (4 : ℕ) = 1 then 0 else b.val; rw [if_neg (by decide)]
    | ⟨1, _⟩ => by show g.val = if (2 : ℕ) = 1 then 0 else g.val; rw [if_neg (by decide)]
    | ⟨2, _⟩ => by show h.val = if (4 : ℕ) = 1 then 0 else h.val; rw [if_neg (by decide)])).trans (b26_at σ q b g h)

theorem b34_at (b : Fin 4) (g : Fin 2) (h : Fin 4) (p : Fin 64) (n : Fin 128) : (b34 q.val σ (ix5 b g h p n) : EReal) = Ideal.exp (b24 q.val σ (ix4 b 127 g h)) := by
  unfold b34 b33
  refine (broadcastInDim_apply _ _ _ (ix5 b g h p n) (ix5 b g h 0 0) (fun a => match a with
    | ⟨0, _⟩ => by show b.val = if (4 : ℕ) = 1 then 0 else b.val; rw [if_neg (by decide)]
    | ⟨1, _⟩ => by show g.val = if (2 : ℕ) = 1 then 0 else g.val; rw [if_neg (by decide)]
    | ⟨2, _⟩ => by show h.val = if (4 : ℕ) = 1 then 0 else h.val; rw [if_neg (by decide)]
    | ⟨3, _⟩ => by show 0 = if (1 : ℕ) = 1 then 0 else p.val; rw [if_pos rfl]
    | ⟨4, _⟩ => by show 0 = if (1 : ℕ) = 1 then 0 else n.val; rw [if_pos rfl])).trans ?_
  refine (broadcastInDim_apply _ _ _ (ix5 b g h 0 0) (ix3 b g h) (fun a => match a with
    | ⟨0, _⟩ => by show b.val = if (4 : ℕ) = 1 then 0 else b.val; rw [if_neg (by decide)]
    | ⟨1, _⟩ => by show g.val = if (2 : ℕ) = 1 then 0 else g.val; rw [if_neg (by decide)]
    | ⟨2, _⟩ => by show h.val = if (4 : ℕ) = 1 then 0 else h.val; rw [if_neg (by decide)])).trans ?_
  exact congrArg Ideal.exp (b26_at σ q b g h)

theorem b31_at (b : Fin 4) (s : Fin 128) (g : Fin 2) (h : Fin 4) :
    (b31 q.val σ (ix4 b s g h) : EReal) = Ideal.exp ((b24 q.val σ (ix4 b 127 g h) : EReal) - b24 q.val σ (ix4 b s g h)) * σ.main_v60_1 (ix5 q b s g h) :=
  congrArg₂ (fun p r : EReal => Ideal.exp (p - b24 q.val σ (ix4 b s g h)) * r) (b28_at σ q b s g h) (b12_at σ q b s g h)

theorem b38_at (b : Fin 4) (s : Fin 128) (g : Fin 2) (h : Fin 4) (p : Fin 64) :
    (b38 q.val σ (ix5 b s g h p) : EReal) = b31 q.val σ (ix4 b s g h) * σ.main_v60_0 (ix6 q b s g h p) := by
  refine congrArg₂ (fun p r : EReal => p * r) ?_ (b6_at σ q b s g h p)
  unfold b37 b36
  refine (broadcastInDim_apply _ _ _ (ix5 b s g h p) (ix5 b s g h 0) (fun a => match a with
    | ⟨0, _⟩ => by show b.val = if (4 : ℕ) = 1 then 0 else b.val; rw [if_neg (by decide)]
    | ⟨1, _⟩ => by show s.val = if (128 : ℕ) = 1 then 0 else s.val; rw [if_neg (by decide)]
    | ⟨2, _⟩ => by show g.val = if (2 : ℕ) = 1 then 0 else g.val; rw [if_neg (by decide)]
    | ⟨3, _⟩ => by show h.val = if (4 : ℕ) = 1 then 0 else h.val; rw [if_neg (by decide)]
    | ⟨4, _⟩ => by show 0 = if (1 : ℕ) = 1 then 0 else p.val; rw [if_pos rfl])).trans ?_
  exact broadcastInDim_apply _ _ _ (ix5 b s g h 0) (ix4 b s g h) (fun a => match a with
    | ⟨0, _⟩ => by show b.val = if (4 : ℕ) = 1 then 0 else b.val; rw [if_neg (by decide)]
    | ⟨1, _⟩ => by show s.val = if (128 : ℕ) = 1 then 0 else s.val; rw [if_neg (by decide)]
    | ⟨2, _⟩ => by show g.val = if (2 : ℕ) = 1 then 0 else g.val; rw [if_neg (by decide)]
    | ⟨3, _⟩ => by show h.val = if (4 : ℕ) = 1 then 0 else h.val; rw [if_neg (by decide)])

theorem dot_at (y : FVec Ideal S4x128x2x4x64 .f32) (z : FVec Ideal S4x128x2x128 .f32) (b : Fin 4) (g : Fin 2) (h : Fin 4) (p : Fin 64) (n : Fin 128) :
    (Host.dotGeneral dot_S4x128x2x4x64_S4x128x2x128_S4x2x4x64x128_1_1_34_3_02_02 none y z (ix5 b g h p n) : EReal) = ∑ k : Fin 128, (y (ix5 b k g h p) : EReal) * z (ix4 b k g n) := by
  simp only [Host.dotGeneral]
  rw [Ideal.dotGeneral_apply, ← Equiv.sum_comp (contrEquiv1 dot_S4x128x2x4x64_S4x128x2x128_S4x2x4x64x128_1_1_34_3_02_02 128 rfl rfl).symm]
  refine Finset.sum_congr rfl fun k _ => ?_
  have hk := contrEquiv1_symm_val dot_S4x128x2x4x64_S4x128x2x128_S4x2x4x64x128_1_1_34_3_02_02 128 rfl rfl k
  refine congrArg₂ (fun p r : EReal => p * r) (congrArg y (funext fun a => Fin.ext ?_)) (congrArg z (funext fun a => Fin.ext ?_))
  · match a with
    | ⟨0, _⟩ => rfl
    | ⟨1, _⟩ => exact (dot_S4x128x2x4x64_S4x128x2x128_S4x2x4x64x128_1_1_34_3_02_02.lhsIdx_val_of_single rfl _ _).trans hk
    | ⟨2, _⟩ => rfl
    | ⟨3, _⟩ => rfl
    | ⟨4, _⟩ => rfl
  · match a with
    | ⟨0, _⟩ => rfl
    | ⟨1, _⟩ => exact (dot_S4x128x2x4x64_S4x128x2x128_S4x2x4x64x128_1_1_34_3_02_02.rhsIdx_val_of_single rfl _ _).trans hk
    | ⟨2, _⟩ => rfl
    | ⟨3, _⟩ => rfl

theorem b40_at (b : Fin 4) (g : Fin 2) (h : Fin 4) (p : Fin 64) (n : Fin 128) : (b40 q.val σ (ix5 b g h p n) : EReal)
    = Ideal.exp (b24 q.val σ (ix4 b 127 g h)) * σ.main_v60_5 (ix5 b g h p n)
      + ∑ k : Fin 128, ((b31 q.val σ (ix4 b k g h) : EReal) * σ.main_v60_0 (ix6 q b k g h p)) * σ.main_v60_2 (ix5 q b k g n) := by
  refine congrArg₂ (fun p r : EReal => p + r) (congrArg (fun z : EReal => z * σ.main_v60_5 (ix5 b g h p n)) (b34_at σ q b g h p n)) ?_
  unfold b39
  rw [dot_at]
  exact Finset.sum_congr rfl fun k _ => congrArg₂ (fun p r : EReal => p * r) (b38_at σ q b k g h p) (b18_at σ q b k g n)

end

/-! ## The scan -/

variable (x0 : (⟨S32768x1024, .f32⟩ : BufTy).Contents (Elt Ideal)) (x2 : (⟨S32768x128, .f32⟩ : BufTy).Contents (Elt Ideal))
  (x3 : (⟨S1x4x1024, .f32⟩ : BufTy).Contents (Elt Ideal)) (x4 : (⟨S1x1024, .f32⟩ : BufTy).Contents (Elt Ideal))
  (x5 x6 : (⟨S1x8, .f32⟩ : BufTy).Contents (Elt Ideal))

/-- The scan's state after `n` trips. -/
def it : ℕ → State Ideal
  | 0 => init x0 x2 x3 x4 x5 x6
  | n + 1 => step n (it n)

/-- The state of the mixer, from the reference's arguments. -/
abbrev aS (b n : ℕ) (r : Fin 512) (k : Fin 128) : EReal := st (aX x0) (aD x2) (aw x3) (aβ x4) (aδ x5) (fun h => x6 (ix2 0 h)) b n r k

theorem kept (n : ℕ) : (it x0 x2 x3 x4 x5 x6 n).main_v60_0 = A_main_v55 (F := Ideal) x0 x2 x3 x4 x5 x6 ∧ (it x0 x2 x3 x4 x5 x6 n).main_v60_1 = A_main_v57 (F := Ideal) x0 x2 x3 x4 x5 x6
    ∧ (it x0 x2 x3 x4 x5 x6 n).main_v60_2 = A_main_v59 (F := Ideal) x0 x2 x3 x4 x5 x6 ∧ (it x0 x2 x3 x4 x5 x6 n).main_v60_3 = A_main_v52 (F := Ideal) x0 x2 x3 x4 x5 x6 := by
  induction n with
  | zero => exact ⟨rfl, rfl, rfl, rfl⟩
  | succ n ih => exact ih

theorem head_row (g : Fin 2) (h : Fin 4) (p : Fin 64) : head (rowOf g h p) = hd g h :=
  Fin.ext (by show ((4 * g.val + h.val) * 64 + p.val) / 64 = 4 * g.val + h.val; omega)

theorem in_row (g : Fin 2) (h : Fin 4) (p : Fin 64) (n : Fin 128) : inCol (rowOf g h p) n = ⟨512 + 128 * g.val + n.val, by omega⟩ :=
  Fin.ext (by show 512 + 128 * (((4 * g.val + h.val) * 64 + p.val) / 256) + n.val = 512 + 128 * g.val + n.val; omega)

theorem it_at (n : ℕ) (hn : n ≤ 64) (b : Fin 4) (g : Fin 2) (h : Fin 4) (p : Fin 64) (k : Fin 128) :
    ((it x0 x2 x3 x4 x5 x6 n).main_v60_5 (ix5 b g h p k) : EReal) = aS x0 x2 x3 x4 x5 x6 b.val n (rowOf g h p) k := by
  induction n with
  | zero => exact Ideal.ofBits_zero_f32
  | succ n ih =>
    obtain ⟨f0, f1, f2, f3⟩ := kept x0 x2 x3 x4 x5 x6 n
    have hc : ∀ s : Fin 128, (b24 n (it x0 x2 x3 x4 x5 x6 n) (ix4 b s g h) : EReal) = cs (aD x2) (aδ x5) (fun h => x6 (ix2 0 h)) b.val n s (hd g h) := fun s => by
      refine (b24_at (it x0 x2 x3 x4 x5 x6 n) (⟨n, by omega⟩ : Fin 64) b s g h).trans ?_
      rw [f1, f3, v52_at]
      unfold cs
      refine Finset.sum_congr rfl fun k _ => ?_
      rw [v57_at]
    have hw : ∀ s : Fin 128, (b31 n (it x0 x2 x3 x4 x5 x6 n) (ix4 b s g h) : EReal) = wt (aD x2) (aδ x5) (fun h => x6 (ix2 0 h)) b.val n s (hd g h) := fun s => by
      refine (b31_at (it x0 x2 x3 x4 x5 x6 n) (⟨n, by omega⟩ : Fin 64) b s g h).trans ?_
      dsimp only
      rw [f1, hc, hc, v57_at]
      rfl
    refine (b40_at (it x0 x2 x3 x4 x5 x6 n) (⟨n, by omega⟩ : Fin 64) b g h p k).trans ?_
    dsimp only
    rw [f0, f2, hc, ih (by omega)]
    show _ = Ideal.exp (cs (aD x2) (aδ x5) (fun h => x6 (ix2 0 h)) b.val n 127 (head (rowOf g h p))) * aS x0 x2 x3 x4 x5 x6 b.val n (rowOf g h p) k
      + ∑ s : Fin 128, u (aX x0) (aw x3) (aβ x4) b.val (128 * n + s.val) (chan (rowOf g h p)) * wt (aD x2) (aδ x5) (fun h => x6 (ix2 0 h)) b.val n s (head (rowOf g h p))
        * u (aX x0) (aw x3) (aβ x4) b.val (128 * n + s.val) (inCol (rowOf g h p) k)
    rw [head_row, in_row]
    refine congrArg (fun z : EReal => _ + z) (Finset.sum_congr rfl fun s _ => ?_)
    rw [hw, v55_at, v59_at, mul_comm (wt _ _ _ _ _ _ _)]

/-- The state the reference returns. -/
theorem v61_eq : R_main_v61 (it x0 x2 x3 x4 x5 x6 64) = fun i : S4x512x128.Idx => aS x0 x2 x3 x4 x5 x6 (i 0).val 64 (i 1) (i 2) := by
  funext i
  obtain ⟨b, r, k, rfl⟩ : ∃ (b : Fin 4) (r : Fin 512) (k : Fin 128), i = ix3 b r k := ⟨i 0, i 1, i 2, eq_ix3 i⟩
  unfold R_main_v61
  have er : rowOf ⟨r.val / 256, by omega⟩ ⟨r.val / 64 % 4, by omega⟩ ⟨r.val % 64, by omega⟩ = r :=
    Fin.ext (by show (4 * (r.val / 256) + r.val / 64 % 4) * 64 + r.val % 64 = r.val; omega)
  refine (shapeCast_apply _ _ _ (ix5 b (⟨r.val / 256, by omega⟩ : Fin 2) (⟨r.val / 64 % 4, by omega⟩ : Fin 4) (⟨r.val % 64, by omega⟩ : Fin 64) k) (by
    rw [Shape.rowMajor_val_five, Shape.rowMajor_val_three]
    show (((b.val * 2 + r.val / 256) * 4 + r.val / 64 % 4) * 64 + r.val % 64) * 128 + k.val = (b.val * 512 + r.val) * 128 + k.val
    omega)).trans ?_
  refine (it_at x0 x2 x3 x4 x5 x6 64 (le_refl _) b _ _ _ k).trans ?_
  rw [er]

end Cert.Reference7Ideal.Prompt

end
-- ==== Proof.SsdPromptClaims.lean ====
/-
  The claims about the prompt's SSD mixer: both kernels' frames, the reference's frame, and that the kernel's state is the reference's.
-/
module

public import proofs.«01_k».proof.Defs
public import proofs.«01_k».proof.Proof.Gen.Kernel7
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.StepRun
public import proofs.«01_k».proof.Proof.PromptWhole
public import proofs.«01_k».proof.Proof.PromptScan

@[expose] public section

set_option maxRecDepth 16384

noncomputable section

namespace Cert.SsdPromptClaims

open Idealize.ShloMosaic Idealize.ShloMosaic.TcCoe Idealize.SL.Sem

/-- The two kernels' bodies have one text. -/
theorem bodies_eq : Cert.Kernel7.defs₀ (F := Bits) = Cert.Kernel7Ideal.defs₀ (F := Bits) := by
  unfold Cert.Kernel7.defs₀ Cert.Kernel7Ideal.defs₀
  congr 1
  refine funext fun i => ?_
  match i with
  | ⟨0, _⟩ => rfl

theorem defs_eq : Cert.Kernel7.defs (F := Bits) = Cert.Kernel7Ideal.defs (F := Bits) :=
  congrArg (fun d => Pipeline.defs (Cert.Kernel7Ideal.pcfgs (F := Bits)) d) bodies_eq

theorem frame_kernel : Cert.quiescent_Kernel7 := fun m ρ _ => by
  rw [defs_eq]
  exact (θ_run Cert.Kernel7Ideal.defs _ _).mono (fun _ h => h) (Cert.Kernel7Ideal.Gen.frame (F := Bits) m ρ)

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal := by
  intro m ρ m' ρ' _ hag
  refine ⟨fun c => Cert.Kernel7Ideal.Prompt.wholeS m c, ?_, ?_⟩
  · exact (θ_run Cert.Kernel7Ideal.defs _ _).mono (fun r h c => ⟨(h c).2.1.trans (Cert.Kernel7Ideal.Prompt.final_s m c), (h c).2.2⟩)
      (Cert.Kernel7Ideal.Value.run_blocks m ρ)
  · refine (θ_run Cert.Reference7Ideal.defs _ _).mono (fun r h c => ⟨(h c).1.trans ?_, (h c).2⟩)
      (Cert.Reference7Ideal.StepRun.run_iter (F := Ideal) m' ρ' (fun c => Cert.Reference7Ideal.Prompt.it
      (m' ((c : Thread Cert.Reference7Ideal.nD Cert.Reference7Ideal.τ).loc Cert.Reference7Ideal.main_arg0))
      (m' ((c : Thread Cert.Reference7Ideal.nD Cert.Reference7Ideal.τ).loc Cert.Reference7Ideal.main_arg2))
      (m' ((c : Thread Cert.Reference7Ideal.nD Cert.Reference7Ideal.τ).loc Cert.Reference7Ideal.main_arg3))
      (m' ((c : Thread Cert.Reference7Ideal.nD Cert.Reference7Ideal.τ).loc Cert.Reference7Ideal.main_arg4))
      (m' ((c : Thread Cert.Reference7Ideal.nD Cert.Reference7Ideal.τ).loc Cert.Reference7Ideal.main_arg5))
      (m' ((c : Thread Cert.Reference7Ideal.nD Cert.Reference7Ideal.τ).loc Cert.Reference7Ideal.main_arg6))) (fun _ => rfl) (fun _ _ => rfl))
    obtain ⟨e0, e1, e2, e3, e4, e5, e6, e7, e8⟩ := hag c
    show Cert.Reference7Ideal.Step.R_main_v61 (Cert.Reference7Ideal.Prompt.it
      (m' ((c : Thread Cert.Reference7Ideal.nD Cert.Reference7Ideal.τ).loc Cert.Reference7Ideal.main_arg0))
      (m' ((c : Thread Cert.Reference7Ideal.nD Cert.Reference7Ideal.τ).loc Cert.Reference7Ideal.main_arg2))
      (m' ((c : Thread Cert.Reference7Ideal.nD Cert.Reference7Ideal.τ).loc Cert.Reference7Ideal.main_arg3))
      (m' ((c : Thread Cert.Reference7Ideal.nD Cert.Reference7Ideal.τ).loc Cert.Reference7Ideal.main_arg4))
      (m' ((c : Thread Cert.Reference7Ideal.nD Cert.Reference7Ideal.τ).loc Cert.Reference7Ideal.main_arg5))
      (m' ((c : Thread Cert.Reference7Ideal.nD Cert.Reference7Ideal.τ).loc Cert.Reference7Ideal.main_arg6)) 64) = _
    rw [e0, e2, e3, e4, e5, e6]
    exact Cert.Reference7Ideal.Prompt.v61_eq _ _ _ _ _ _

end Cert.SsdPromptClaims

end
-- ==== Proof.lean ====
/-
  The certificate: one call of the layer after the other, each with its frames and its value against the plain reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Pre_finite6
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Step
public import proofs.«01_k».proof.Proof.Gen.Reference7Ideal.StepRun
public import proofs.«01_k».proof.Proof.AttnClaims
public import proofs.«01_k».proof.Proof.FfnClaims
public import proofs.«01_k».proof.Proof.InClaims
public import proofs.«01_k».proof.Proof.FfnSampleClaims
public import proofs.«01_k».proof.Proof.InSampleClaims
public import proofs.«01_k».proof.Proof.SsdClaims
public import proofs.«01_k».proof.Proof.SsdPromptClaims
public import Idealize.ShloMosaic.Adequacy
public import Idealize.ShloMosaic.Init

@[expose] public section

noncomputable section

namespace Cert.Proof

open Cert

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite6.Gen.facts,
  AttnClaims.frame_kernel, AttnClaims.frame_ideal, AttnClaims.frame_ideal_pre, AttnClaims.frame_reference, AttnClaims.frame_reference_pre,
  FfnClaims.frame_kernel, FfnClaims.frame_ideal, FfnClaims.frame_reference,
  InClaims.frame_kernel, InClaims.frame_ideal, InClaims.frame_reference,
  FfnSampleClaims.frame_kernel, FfnSampleClaims.frame_ideal, FfnSampleClaims.frame_reference,
  InSampleClaims.frame_kernel, InSampleClaims.frame_ideal, InSampleClaims.frame_reference,
  SsdClaims.frame_kernel, SsdClaims.frame_ideal, SsdClaims.frame_ideal_pre, SsdClaims.frame_reference, SsdClaims.frame_reference_pre,
  SsdPromptClaims.frame_kernel, SsdPromptClaims.frame_ideal, SsdPromptClaims.frame_reference,
  AttnClaims.preserves, AttnClaims.algebraic, FfnClaims.preserves, FfnClaims.algebraic,
  InClaims.preserves, InClaims.algebraic,
  FfnSampleClaims.preserves, FfnSampleClaims.algebraic,
  InSampleClaims.preserves, InSampleClaims.algebraic,
  SsdClaims.preserves, SsdClaims.algebraic,
  SsdPromptClaims.preserves, SsdPromptClaims.algebraic⟩

end Cert.Proof

end
